-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutProjS (m : (ℓ : Loc Cert.OutProjS.nD Cert.OutProjS.τ Cert.OutProjS.sig) → Buf (Elt Bits) ℓ) : Prop :=
  True

def Pre_OutProjSIdeal (m : (ℓ : Loc Cert.OutProjSIdeal.nD Cert.OutProjSIdeal.τ Cert.OutProjSIdeal.sig) → Buf (Elt Ideal) ℓ) : Prop :=
  True

def Pre_OutProjSRefIdeal (m : (ℓ : Loc Cert.OutProjSRefIdeal.nD Cert.OutProjSRefIdeal.τ Cert.OutProjSRefIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanIdeal_finite_scan [hPre_finite_scan : Cert.Pre_finite_scan.Facts] (m : (ℓ : Loc Cert.ScanIdeal.nD Cert.ScanIdeal.τ Cert.ScanIdeal.sig) → Buf (Elt Ideal) ℓ) : Prop :=
  ∀ c : Dev Cert.ScanIdeal.nD,
    (Cert.Pre_finite_scan.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1)) (m ((c.tc : Thread Cert.ScanIdeal.nD Cert.ScanIdeal.τ).loc Cert.ScanIdeal.main_arg2)) (m ((c.tc : Thread Cert.ScanIdeal.nD Cert.ScanIdeal.τ).loc Cert.ScanIdeal.main_arg3)) (m ((c.tc : Thread Cert.ScanIdeal.nD Cert.ScanIdeal.τ).loc Cert.ScanIdeal.main_arg4)) (m ((c.tc : Thread Cert.ScanIdeal.nD Cert.ScanIdeal.τ).loc Cert.ScanIdeal.main_arg5)) (m ((c.tc : Thread Cert.ScanIdeal.nD Cert.ScanIdeal.τ).loc Cert.ScanIdeal.main_arg6)) (m ((c.tc : Thread Cert.ScanIdeal.nD Cert.ScanIdeal.τ).loc Cert.ScanIdeal.main_arg7)) (m ((c.tc : Thread Cert.ScanIdeal.nD Cert.ScanIdeal.τ).loc Cert.ScanIdeal.main_arg8)) (m ((c.tc : Thread Cert.ScanIdeal.nD Cert.ScanIdeal.τ).loc Cert.ScanIdeal.main_arg9)) (m ((c.tc : Thread Cert.ScanIdeal.nD Cert.ScanIdeal.τ).loc Cert.ScanIdeal.main_arg10)) (m ((c.tc : Thread Cert.ScanIdeal.nD Cert.ScanIdeal.τ).loc Cert.ScanIdeal.main_arg11))) = (fun _ => 1#1)

def Pre_ScanRefIdeal (m : (ℓ : Loc Cert.ScanRefIdeal.nD Cert.ScanRefIdeal.τ Cert.ScanRefIdeal.sig) → Buf (Elt Ideal) ℓ) : Prop :=
  True

def Pre_ScanRefIdeal_finite_scan [hPre_finite_scan : Cert.Pre_finite_scan.Facts] (m : (ℓ : Loc Cert.ScanRefIdeal.nD Cert.ScanRefIdeal.τ Cert.ScanRefIdeal.sig) → Buf (Elt Ideal) ℓ) : Prop :=
  ∀ c : Dev Cert.ScanRefIdeal.nD,
    (Cert.Pre_finite_scan.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1)) (m ((c.tc : Thread Cert.ScanRefIdeal.nD Cert.ScanRefIdeal.τ).loc Cert.ScanRefIdeal.main_arg2)) (m ((c.tc : Thread Cert.ScanRefIdeal.nD Cert.ScanRefIdeal.τ).loc Cert.ScanRefIdeal.main_arg3)) (m ((c.tc : Thread Cert.ScanRefIdeal.nD Cert.ScanRefIdeal.τ).loc Cert.ScanRefIdeal.main_arg4)) (m ((c.tc : Thread Cert.ScanRefIdeal.nD Cert.ScanRefIdeal.τ).loc Cert.ScanRefIdeal.main_arg5)) (m ((c.tc : Thread Cert.ScanRefIdeal.nD Cert.ScanRefIdeal.τ).loc Cert.ScanRefIdeal.main_arg6)) (m ((c.tc : Thread Cert.ScanRefIdeal.nD Cert.ScanRefIdeal.τ).loc Cert.ScanRefIdeal.main_arg7)) (m ((c.tc : Thread Cert.ScanRefIdeal.nD Cert.ScanRefIdeal.τ).loc Cert.ScanRefIdeal.main_arg8)) (m ((c.tc : Thread Cert.ScanRefIdeal.nD Cert.ScanRefIdeal.τ).loc Cert.ScanRefIdeal.main_arg9)) (m ((c.tc : Thread Cert.ScanRefIdeal.nD Cert.ScanRefIdeal.τ).loc Cert.ScanRefIdeal.main_arg10)) (m ((c.tc : Thread Cert.ScanRefIdeal.nD Cert.ScanRefIdeal.τ).loc Cert.ScanRefIdeal.main_arg11))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_OutProjS [hOutProjS : Cert.OutProjS.Facts] : Prop :=
  ∀ (m : (ℓ : Loc Cert.OutProjS.nD Cert.OutProjS.τ Cert.OutProjS.sig) → Buf (Elt Bits) ℓ) (g : Dev Cert.OutProjS.nD → PrngReg), Pre_OutProjS m →
    θ_run (Cert.OutProjS.defs (F := Bits)) (onTc (τ := Cert.OutProjS.τ) (Cert.OutProjS.main (F := Bits))) ⟨m, fun _ => 0, g⟩ (fun r => (∀ c : Dev Cert.OutProjS.nD,
      r.2.mem ((c.tc : Thread Cert.OutProjS.nD Cert.OutProjS.τ).loc Cert.OutProjS.main_arg0) = m ((c.tc : Thread Cert.OutProjS.nD Cert.OutProjS.τ).loc Cert.OutProjS.main_arg0)
      ∧ r.2.mem ((c.tc : Thread Cert.OutProjS.nD Cert.OutProjS.τ).loc Cert.OutProjS.main_arg1) = m ((c.tc : Thread Cert.OutProjS.nD Cert.OutProjS.τ).loc Cert.OutProjS.main_arg1)
      ∧ r.2.mem ((c.tc : Thread Cert.OutProjS.nD Cert.OutProjS.τ).loc Cert.OutProjS.main_arg2) = m ((c.tc : Thread Cert.OutProjS.nD Cert.OutProjS.τ).loc Cert.OutProjS.main_arg2)
      ∧ r.2.mem ((c.tc : Thread Cert.OutProjS.nD Cert.OutProjS.τ).loc Cert.OutProjS.main_arg3) = m ((c.tc : Thread Cert.OutProjS.nD Cert.OutProjS.τ).loc Cert.OutProjS.main_arg3)
      ∧ r.2.mem ((c.tc : Thread Cert.OutProjS.nD Cert.OutProjS.τ).loc Cert.OutProjS.main_arg4) = m ((c.tc : Thread Cert.OutProjS.nD Cert.OutProjS.τ).loc Cert.OutProjS.main_arg4)
      ∧ r.2.mem ((c.tc : Thread Cert.OutProjS.nD Cert.OutProjS.τ).loc Cert.OutProjS.main_arg5) = m ((c.tc : Thread Cert.OutProjS.nD Cert.OutProjS.τ).loc Cert.OutProjS.main_arg5))
      ∧ r.2.sem = fun _ => 0)

def quiescent_OutProjSIdeal [hOutProjSIdeal : Cert.OutProjSIdeal.Facts] : Prop :=
  ∀ (m : (ℓ : Loc Cert.OutProjSIdeal.nD Cert.OutProjSIdeal.τ Cert.OutProjSIdeal.sig) → Buf (Elt Ideal) ℓ) (g : Dev Cert.OutProjSIdeal.nD → PrngReg), Pre_OutProjSIdeal m →
    θ_run (Cert.OutProjSIdeal.defs (F := Ideal)) (onTc (τ := Cert.OutProjSIdeal.τ) (Cert.OutProjSIdeal.main (F := Ideal))) ⟨m, fun _ => 0, g⟩ (fun r => (∀ c : Dev Cert.OutProjSIdeal.nD,
      r.2.mem ((c.tc : Thread Cert.OutProjSIdeal.nD Cert.OutProjSIdeal.τ).loc Cert.OutProjSIdeal.main_arg0) = m ((c.tc : Thread Cert.OutProjSIdeal.nD Cert.OutProjSIdeal.τ).loc Cert.OutProjSIdeal.main_arg0)
      ∧ r.2.mem ((c.tc : Thread Cert.OutProjSIdeal.nD Cert.OutProjSIdeal.τ).loc Cert.OutProjSIdeal.main_arg1) = m ((c.tc : Thread Cert.OutProjSIdeal.nD Cert.OutProjSIdeal.τ).loc Cert.OutProjSIdeal.main_arg1)
      ∧ r.2.mem ((c.tc : Thread Cert.OutProjSIdeal.nD Cert.OutProjSIdeal.τ).loc Cert.OutProjSIdeal.main_arg2) = m ((c.tc : Thread Cert.OutProjSIdeal.nD Cert.OutProjSIdeal.τ).loc Cert.OutProjSIdeal.main_arg2)
      ∧ r.2.mem ((c.tc : Thread Cert.OutProjSIdeal.nD Cert.OutProjSIdeal.τ).loc Cert.OutProjSIdeal.main_arg3) = m ((c.tc : Thread Cert.OutProjSIdeal.nD Cert.OutProjSIdeal.τ).loc Cert.OutProjSIdeal.main_arg3)
      ∧ r.2.mem ((c.tc : Thread Cert.OutProjSIdeal.nD Cert.OutProjSIdeal.τ).loc Cert.OutProjSIdeal.main_arg4) = m ((c.tc : Thread Cert.OutProjSIdeal.nD Cert.OutProjSIdeal.τ).loc Cert.OutProjSIdeal.main_arg4)
      ∧ r.2.mem ((c.tc : Thread Cert.OutProjSIdeal.nD Cert.OutProjSIdeal.τ).loc Cert.OutProjSIdeal.main_arg5) = m ((c.tc : Thread Cert.OutProjSIdeal.nD Cert.OutProjSIdeal.τ).loc Cert.OutProjSIdeal.main_arg5))
      ∧ r.2.sem = fun _ => 0)

def quiescent_OutProjSRefIdeal [hOutProjSRefIdeal : Cert.OutProjSRefIdeal.Facts] : Prop :=
  ∀ (m : (ℓ : Loc Cert.OutProjSRefIdeal.nD Cert.OutProjSRefIdeal.τ Cert.OutProjSRefIdeal.sig) → Buf (Elt Ideal) ℓ) (g : Dev Cert.OutProjSRefIdeal.nD → PrngReg), Pre_OutProjSRefIdeal m →
    θ_run (Cert.OutProjSRefIdeal.defs (F := Ideal)) (onTc (τ := Cert.OutProjSRefIdeal.τ) (Cert.OutProjSRefIdeal.main (F := Ideal))) ⟨m, fun _ => 0, g⟩ (fun r => (∀ c : Dev Cert.OutProjSRefIdeal.nD,
      r.2.mem ((c.tc : Thread Cert.OutProjSRefIdeal.nD Cert.OutProjSRefIdeal.τ).loc Cert.OutProjSRefIdeal.main_arg0) = m ((c.tc : Thread Cert.OutProjSRefIdeal.nD Cert.OutProjSRefIdeal.τ).loc Cert.OutProjSRefIdeal.main_arg0)
      ∧ r.2.mem ((c.tc : Thread Cert.OutProjSRefIdeal.nD Cert.OutProjSRefIdeal.τ).loc Cert.OutProjSRefIdeal.main_arg1) = m ((c.tc : Thread Cert.OutProjSRefIdeal.nD Cert.OutProjSRefIdeal.τ).loc Cert.OutProjSRefIdeal.main_arg1)
      ∧ r.2.mem ((c.tc : Thread Cert.OutProjSRefIdeal.nD Cert.OutProjSRefIdeal.τ).loc Cert.OutProjSRefIdeal.main_arg2) = m ((c.tc : Thread Cert.OutProjSRefIdeal.nD Cert.OutProjSRefIdeal.τ).loc Cert.OutProjSRefIdeal.main_arg2)
      ∧ r.2.mem ((c.tc : Thread Cert.OutProjSRefIdeal.nD Cert.OutProjSRefIdeal.τ).loc Cert.OutProjSRefIdeal.main_arg3) = m ((c.tc : Thread Cert.OutProjSRefIdeal.nD Cert.OutProjSRefIdeal.τ).loc Cert.OutProjSRefIdeal.main_arg3)
      ∧ r.2.mem ((c.tc : Thread Cert.OutProjSRefIdeal.nD Cert.OutProjSRefIdeal.τ).loc Cert.OutProjSRefIdeal.main_arg4) = m ((c.tc : Thread Cert.OutProjSRefIdeal.nD Cert.OutProjSRefIdeal.τ).loc Cert.OutProjSRefIdeal.main_arg4)
      ∧ r.2.mem ((c.tc : Thread Cert.OutProjSRefIdeal.nD Cert.OutProjSRefIdeal.τ).loc Cert.OutProjSRefIdeal.main_arg5) = m ((c.tc : Thread Cert.OutProjSRefIdeal.nD Cert.OutProjSRefIdeal.τ).loc Cert.OutProjSRefIdeal.main_arg5))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6)
      ∧ r.2.mem ((c.tc : Thread Cert.Scan.nD Cert.Scan.τ).loc Cert.Scan.main_arg7) = m ((c.tc : Thread Cert.Scan.nD Cert.Scan.τ).loc Cert.Scan.main_arg7)
      ∧ r.2.mem ((c.tc : Thread Cert.Scan.nD Cert.Scan.τ).loc Cert.Scan.main_arg8) = m ((c.tc : Thread Cert.Scan.nD Cert.Scan.τ).loc Cert.Scan.main_arg8)
      ∧ r.2.mem ((c.tc : Thread Cert.Scan.nD Cert.Scan.τ).loc Cert.Scan.main_arg9) = m ((c.tc : Thread Cert.Scan.nD Cert.Scan.τ).loc Cert.Scan.main_arg9)
      ∧ r.2.mem ((c.tc : Thread Cert.Scan.nD Cert.Scan.τ).loc Cert.Scan.main_arg10) = m ((c.tc : Thread Cert.Scan.nD Cert.Scan.τ).loc Cert.Scan.main_arg10)
      ∧ r.2.mem ((c.tc : Thread Cert.Scan.nD Cert.Scan.τ).loc Cert.Scan.main_arg11) = m ((c.tc : Thread Cert.Scan.nD Cert.Scan.τ).loc Cert.Scan.main_arg11))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
      ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8)
      ∧ r.2.mem ((c.tc : Thread Cert.ScanIdeal.nD Cert.ScanIdeal.τ).loc Cert.ScanIdeal.main_arg9) = m ((c.tc : Thread Cert.ScanIdeal.nD Cert.ScanIdeal.τ).loc Cert.ScanIdeal.main_arg9)
      ∧ r.2.mem ((c.tc : Thread Cert.ScanIdeal.nD Cert.ScanIdeal.τ).loc Cert.ScanIdeal.main_arg10) = m ((c.tc : Thread Cert.ScanIdeal.nD Cert.ScanIdeal.τ).loc Cert.ScanIdeal.main_arg10)
      ∧ r.2.mem ((c.tc : Thread Cert.ScanIdeal.nD Cert.ScanIdeal.τ).loc Cert.ScanIdeal.main_arg11) = m ((c.tc : Thread Cert.ScanIdeal.nD Cert.ScanIdeal.τ).loc Cert.ScanIdeal.main_arg11))
      ∧ r.2.sem = fun _ => 0)

def quiescent_ScanIdeal_pre_finite_scan [hScanIdeal : Cert.ScanIdeal.Facts] [hPre_finite_scan : Cert.Pre_finite_scan.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal_finite_scan m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
      ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8)
      ∧ r.2.mem ((c.tc : Thread Cert.ScanIdeal.nD Cert.ScanIdeal.τ).loc Cert.ScanIdeal.main_arg9) = m ((c.tc : Thread Cert.ScanIdeal.nD Cert.ScanIdeal.τ).loc Cert.ScanIdeal.main_arg9)
      ∧ r.2.mem ((c.tc : Thread Cert.ScanIdeal.nD Cert.ScanIdeal.τ).loc Cert.ScanIdeal.main_arg10) = m ((c.tc : Thread Cert.ScanIdeal.nD Cert.ScanIdeal.τ).loc Cert.ScanIdeal.main_arg10)
      ∧ r.2.mem ((c.tc : Thread Cert.ScanIdeal.nD Cert.ScanIdeal.τ).loc Cert.ScanIdeal.main_arg11) = m ((c.tc : Thread Cert.ScanIdeal.nD Cert.ScanIdeal.τ).loc Cert.ScanIdeal.main_arg11))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6)
      ∧ r.2.mem ((c.tc : Thread Cert.ScanRefIdeal.nD Cert.ScanRefIdeal.τ).loc Cert.ScanRefIdeal.main_arg7) = m ((c.tc : Thread Cert.ScanRefIdeal.nD Cert.ScanRefIdeal.τ).loc Cert.ScanRefIdeal.main_arg7)
      ∧ r.2.mem ((c.tc : Thread Cert.ScanRefIdeal.nD Cert.ScanRefIdeal.τ).loc Cert.ScanRefIdeal.main_arg8) = m ((c.tc : Thread Cert.ScanRefIdeal.nD Cert.ScanRefIdeal.τ).loc Cert.ScanRefIdeal.main_arg8)
      ∧ r.2.mem ((c.tc : Thread Cert.ScanRefIdeal.nD Cert.ScanRefIdeal.τ).loc Cert.ScanRefIdeal.main_arg9) = m ((c.tc : Thread Cert.ScanRefIdeal.nD Cert.ScanRefIdeal.τ).loc Cert.ScanRefIdeal.main_arg9)
      ∧ r.2.mem ((c.tc : Thread Cert.ScanRefIdeal.nD Cert.ScanRefIdeal.τ).loc Cert.ScanRefIdeal.main_arg10) = m ((c.tc : Thread Cert.ScanRefIdeal.nD Cert.ScanRefIdeal.τ).loc Cert.ScanRefIdeal.main_arg10)
      ∧ r.2.mem ((c.tc : Thread Cert.ScanRefIdeal.nD Cert.ScanRefIdeal.τ).loc Cert.ScanRefIdeal.main_arg11) = m ((c.tc : Thread Cert.ScanRefIdeal.nD Cert.ScanRefIdeal.τ).loc Cert.ScanRefIdeal.main_arg11))
      ∧ r.2.sem = fun _ => 0)

def quiescent_ScanRefIdeal_pre_finite_scan [hScanRefIdeal : Cert.ScanRefIdeal.Facts] [hPre_finite_scan : Cert.Pre_finite_scan.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal_finite_scan m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5)
      ∧ r.2.mem ((c.tc : Thread Cert.ScanRefIdeal.nD Cert.ScanRefIdeal.τ).loc Cert.ScanRefIdeal.main_arg6) = m ((c.tc : Thread Cert.ScanRefIdeal.nD Cert.ScanRefIdeal.τ).loc Cert.ScanRefIdeal.main_arg6)
      ∧ r.2.mem ((c.tc : Thread Cert.ScanRefIdeal.nD Cert.ScanRefIdeal.τ).loc Cert.ScanRefIdeal.main_arg7) = m ((c.tc : Thread Cert.ScanRefIdeal.nD Cert.ScanRefIdeal.τ).loc Cert.ScanRefIdeal.main_arg7)
      ∧ r.2.mem ((c.tc : Thread Cert.ScanRefIdeal.nD Cert.ScanRefIdeal.τ).loc Cert.ScanRefIdeal.main_arg8) = m ((c.tc : Thread Cert.ScanRefIdeal.nD Cert.ScanRefIdeal.τ).loc Cert.ScanRefIdeal.main_arg8)
      ∧ r.2.mem ((c.tc : Thread Cert.ScanRefIdeal.nD Cert.ScanRefIdeal.τ).loc Cert.ScanRefIdeal.main_arg9) = m ((c.tc : Thread Cert.ScanRefIdeal.nD Cert.ScanRefIdeal.τ).loc Cert.ScanRefIdeal.main_arg9)
      ∧ r.2.mem ((c.tc : Thread Cert.ScanRefIdeal.nD Cert.ScanRefIdeal.τ).loc Cert.ScanRefIdeal.main_arg10) = m ((c.tc : Thread Cert.ScanRefIdeal.nD Cert.ScanRefIdeal.τ).loc Cert.ScanRefIdeal.main_arg10)
      ∧ r.2.mem ((c.tc : Thread Cert.ScanRefIdeal.nD Cert.ScanRefIdeal.τ).loc Cert.ScanRefIdeal.main_arg11) = m ((c.tc : Thread Cert.ScanRefIdeal.nD Cert.ScanRefIdeal.τ).loc Cert.ScanRefIdeal.main_arg11))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v35) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)) →
    ∃ (v0 : (c : Dev Cert.FfnSIdeal.nD) → Buf (Elt Ideal) ((c.tc : Thread Cert.FfnSIdeal.nD Cert.FfnSIdeal.τ).loc Cert.FfnSIdeal.main_v10)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v10) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v35) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v11_0)) (v1 : (c : Dev Cert.OutProjIdeal.nD) → Buf (Elt Ideal) ((c.tc : Thread Cert.OutProjIdeal.nD Cert.OutProjIdeal.τ).loc Cert.OutProjIdeal.main_v11_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v11_0) = v0 c
          ∧ r.2.mem ((c.tc : Thread Cert.OutProjIdeal.nD Cert.OutProjIdeal.τ).loc Cert.OutProjIdeal.main_v11_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v33) = v0 c
          ∧ r.2.mem ((c.tc : Thread Cert.OutProjRefIdeal.nD Cert.OutProjRefIdeal.τ).loc Cert.OutProjRefIdeal.main_v34) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_OutProjS_OutProjSIdeal : Prop :=
  True

def algebraic_OutProjSIdeal_OutProjSRefIdeal [hOutProjSIdeal : Cert.OutProjSIdeal.Facts] [hOutProjSRefIdeal : Cert.OutProjSRefIdeal.Facts] : Prop :=
  ∀ (m : (ℓ : Loc Cert.OutProjSIdeal.nD Cert.OutProjSIdeal.τ Cert.OutProjSIdeal.sig) → Buf (Elt Ideal) ℓ) (g : Dev Cert.OutProjSIdeal.nD → PrngReg)
    (m' : (ℓ : Loc Cert.OutProjSRefIdeal.nD Cert.OutProjSRefIdeal.τ Cert.OutProjSRefIdeal.sig) → Buf (Elt Ideal) ℓ) (g' : Dev Cert.OutProjSRefIdeal.nD → PrngReg), Pre_OutProjSIdeal m →
    (∀ c : Dev Cert.OutProjSIdeal.nD,
      m' ((c.tc : Thread Cert.OutProjSRefIdeal.nD Cert.OutProjSRefIdeal.τ).loc Cert.OutProjSRefIdeal.main_arg0) = m ((c.tc : Thread Cert.OutProjSIdeal.nD Cert.OutProjSIdeal.τ).loc Cert.OutProjSIdeal.main_arg0)
      ∧ m' ((c.tc : Thread Cert.OutProjSRefIdeal.nD Cert.OutProjSRefIdeal.τ).loc Cert.OutProjSRefIdeal.main_arg1) = m ((c.tc : Thread Cert.OutProjSIdeal.nD Cert.OutProjSIdeal.τ).loc Cert.OutProjSIdeal.main_arg1)
      ∧ m' ((c.tc : Thread Cert.OutProjSRefIdeal.nD Cert.OutProjSRefIdeal.τ).loc Cert.OutProjSRefIdeal.main_arg2) = m ((c.tc : Thread Cert.OutProjSIdeal.nD Cert.OutProjSIdeal.τ).loc Cert.OutProjSIdeal.main_arg2)
      ∧ m' ((c.tc : Thread Cert.OutProjSRefIdeal.nD Cert.OutProjSRefIdeal.τ).loc Cert.OutProjSRefIdeal.main_arg3) = m ((c.tc : Thread Cert.OutProjSIdeal.nD Cert.OutProjSIdeal.τ).loc Cert.OutProjSIdeal.main_arg3)
      ∧ m' ((c.tc : Thread Cert.OutProjSRefIdeal.nD Cert.OutProjSRefIdeal.τ).loc Cert.OutProjSRefIdeal.main_arg4) = m ((c.tc : Thread Cert.OutProjSIdeal.nD Cert.OutProjSIdeal.τ).loc Cert.OutProjSIdeal.main_arg4)
      ∧ m' ((c.tc : Thread Cert.OutProjSRefIdeal.nD Cert.OutProjSRefIdeal.τ).loc Cert.OutProjSRefIdeal.main_arg5) = m ((c.tc : Thread Cert.OutProjSIdeal.nD Cert.OutProjSIdeal.τ).loc Cert.OutProjSIdeal.main_arg5)) →
    ∃ (v0 : (c : Dev Cert.OutProjSIdeal.nD) → Buf (Elt Ideal) ((c.tc : Thread Cert.OutProjSIdeal.nD Cert.OutProjSIdeal.τ).loc Cert.OutProjSIdeal.main_v11_0)) (v1 : (c : Dev Cert.OutProjSIdeal.nD) → Buf (Elt Ideal) ((c.tc : Thread Cert.OutProjSIdeal.nD Cert.OutProjSIdeal.τ).loc Cert.OutProjSIdeal.main_v11_1)),
      θ_run (Cert.OutProjSIdeal.defs (F := Ideal)) (onTc (τ := Cert.OutProjSIdeal.τ) (Cert.OutProjSIdeal.main (F := Ideal))) ⟨m, fun _ => 0, g⟩ (fun r => ∀ c : Dev Cert.OutProjSIdeal.nD,
          r.2.mem ((c.tc : Thread Cert.OutProjSIdeal.nD Cert.OutProjSIdeal.τ).loc Cert.OutProjSIdeal.main_v11_0) = v0 c
          ∧ r.2.mem ((c.tc : Thread Cert.OutProjSIdeal.nD Cert.OutProjSIdeal.τ).loc Cert.OutProjSIdeal.main_v11_1) = v1 c
          ∧ r.2.mem ((c.tc : Thread Cert.OutProjSIdeal.nD Cert.OutProjSIdeal.τ).loc Cert.OutProjSIdeal.main_arg0) = m ((c.tc : Thread Cert.OutProjSIdeal.nD Cert.OutProjSIdeal.τ).loc Cert.OutProjSIdeal.main_arg0)
          ∧ r.2.mem ((c.tc : Thread Cert.OutProjSIdeal.nD Cert.OutProjSIdeal.τ).loc Cert.OutProjSIdeal.main_arg1) = m ((c.tc : Thread Cert.OutProjSIdeal.nD Cert.OutProjSIdeal.τ).loc Cert.OutProjSIdeal.main_arg1)
          ∧ r.2.mem ((c.tc : Thread Cert.OutProjSIdeal.nD Cert.OutProjSIdeal.τ).loc Cert.OutProjSIdeal.main_arg2) = m ((c.tc : Thread Cert.OutProjSIdeal.nD Cert.OutProjSIdeal.τ).loc Cert.OutProjSIdeal.main_arg2)
          ∧ r.2.mem ((c.tc : Thread Cert.OutProjSIdeal.nD Cert.OutProjSIdeal.τ).loc Cert.OutProjSIdeal.main_arg3) = m ((c.tc : Thread Cert.OutProjSIdeal.nD Cert.OutProjSIdeal.τ).loc Cert.OutProjSIdeal.main_arg3)
          ∧ r.2.mem ((c.tc : Thread Cert.OutProjSIdeal.nD Cert.OutProjSIdeal.τ).loc Cert.OutProjSIdeal.main_arg4) = m ((c.tc : Thread Cert.OutProjSIdeal.nD Cert.OutProjSIdeal.τ).loc Cert.OutProjSIdeal.main_arg4)
          ∧ r.2.mem ((c.tc : Thread Cert.OutProjSIdeal.nD Cert.OutProjSIdeal.τ).loc Cert.OutProjSIdeal.main_arg5) = m ((c.tc : Thread Cert.OutProjSIdeal.nD Cert.OutProjSIdeal.τ).loc Cert.OutProjSIdeal.main_arg5))
      ∧ θ_run (Cert.OutProjSRefIdeal.defs (F := Ideal)) (onTc (τ := Cert.OutProjSRefIdeal.τ) (Cert.OutProjSRefIdeal.main (F := Ideal))) ⟨m', fun _ => 0, g'⟩ (fun r => ∀ c : Dev Cert.OutProjSRefIdeal.nD,
          r.2.mem ((c.tc : Thread Cert.OutProjSRefIdeal.nD Cert.OutProjSRefIdeal.τ).loc Cert.OutProjSRefIdeal.main_v33) = v0 c
          ∧ r.2.mem ((c.tc : Thread Cert.OutProjSRefIdeal.nD Cert.OutProjSRefIdeal.τ).loc Cert.OutProjSRefIdeal.main_v34) = v1 c
          ∧ r.2.mem ((c.tc : Thread Cert.OutProjSRefIdeal.nD Cert.OutProjSRefIdeal.τ).loc Cert.OutProjSRefIdeal.main_arg0) = m' ((c.tc : Thread Cert.OutProjSRefIdeal.nD Cert.OutProjSRefIdeal.τ).loc Cert.OutProjSRefIdeal.main_arg0)
          ∧ r.2.mem ((c.tc : Thread Cert.OutProjSRefIdeal.nD Cert.OutProjSRefIdeal.τ).loc Cert.OutProjSRefIdeal.main_arg1) = m' ((c.tc : Thread Cert.OutProjSRefIdeal.nD Cert.OutProjSRefIdeal.τ).loc Cert.OutProjSRefIdeal.main_arg1)
          ∧ r.2.mem ((c.tc : Thread Cert.OutProjSRefIdeal.nD Cert.OutProjSRefIdeal.τ).loc Cert.OutProjSRefIdeal.main_arg2) = m' ((c.tc : Thread Cert.OutProjSRefIdeal.nD Cert.OutProjSRefIdeal.τ).loc Cert.OutProjSRefIdeal.main_arg2)
          ∧ r.2.mem ((c.tc : Thread Cert.OutProjSRefIdeal.nD Cert.OutProjSRefIdeal.τ).loc Cert.OutProjSRefIdeal.main_arg3) = m' ((c.tc : Thread Cert.OutProjSRefIdeal.nD Cert.OutProjSRefIdeal.τ).loc Cert.OutProjSRefIdeal.main_arg3)
          ∧ r.2.mem ((c.tc : Thread Cert.OutProjSRefIdeal.nD Cert.OutProjSRefIdeal.τ).loc Cert.OutProjSRefIdeal.main_arg4) = m' ((c.tc : Thread Cert.OutProjSRefIdeal.nD Cert.OutProjSRefIdeal.τ).loc Cert.OutProjSRefIdeal.main_arg4)
          ∧ r.2.mem ((c.tc : Thread Cert.OutProjSRefIdeal.nD Cert.OutProjSRefIdeal.τ).loc Cert.OutProjSRefIdeal.main_arg5) = m' ((c.tc : Thread Cert.OutProjSRefIdeal.nD Cert.OutProjSRefIdeal.τ).loc Cert.OutProjSRefIdeal.main_arg5))

def preserves_Scan_ScanIdeal : Prop :=
  True

def algebraic_ScanIdeal_ScanRefIdeal_pre_finite_scan [hScanIdeal : Cert.ScanIdeal.Facts] [hScanRefIdeal : Cert.ScanRefIdeal.Facts] [hPre_finite_scan : Cert.Pre_finite_scan.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal_finite_scan m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)
      ∧ m' ((c.tc : Thread Cert.ScanRefIdeal.nD Cert.ScanRefIdeal.τ).loc Cert.ScanRefIdeal.main_arg6) = m ((c.tc : Thread Cert.ScanIdeal.nD Cert.ScanIdeal.τ).loc Cert.ScanIdeal.main_arg6)
      ∧ m' ((c.tc : Thread Cert.ScanRefIdeal.nD Cert.ScanRefIdeal.τ).loc Cert.ScanRefIdeal.main_arg7) = m ((c.tc : Thread Cert.ScanIdeal.nD Cert.ScanIdeal.τ).loc Cert.ScanIdeal.main_arg7)
      ∧ m' ((c.tc : Thread Cert.ScanRefIdeal.nD Cert.ScanRefIdeal.τ).loc Cert.ScanRefIdeal.main_arg8) = m ((c.tc : Thread Cert.ScanIdeal.nD Cert.ScanIdeal.τ).loc Cert.ScanIdeal.main_arg8)
      ∧ m' ((c.tc : Thread Cert.ScanRefIdeal.nD Cert.ScanRefIdeal.τ).loc Cert.ScanRefIdeal.main_arg9) = m ((c.tc : Thread Cert.ScanIdeal.nD Cert.ScanIdeal.τ).loc Cert.ScanIdeal.main_arg9)
      ∧ m' ((c.tc : Thread Cert.ScanRefIdeal.nD Cert.ScanRefIdeal.τ).loc Cert.ScanRefIdeal.main_arg10) = m ((c.tc : Thread Cert.ScanIdeal.nD Cert.ScanIdeal.τ).loc Cert.ScanIdeal.main_arg10)
      ∧ m' ((c.tc : Thread Cert.ScanRefIdeal.nD Cert.ScanRefIdeal.τ).loc Cert.ScanRefIdeal.main_arg11) = m ((c.tc : Thread Cert.ScanIdeal.nD Cert.ScanIdeal.τ).loc Cert.ScanIdeal.main_arg11)) →
    ∃ (v0 : (c : Dev Cert.ScanIdeal.nD) → Buf (Elt Ideal) ((c.tc : Thread Cert.ScanIdeal.nD Cert.ScanIdeal.τ).loc Cert.ScanIdeal.main_v70_0)) (v1 : (c : Dev Cert.ScanIdeal.nD) → Buf (Elt Ideal) ((c.tc : Thread Cert.ScanIdeal.nD Cert.ScanIdeal.τ).loc Cert.ScanIdeal.main_v70_1)) (v2 : (c : Dev Cert.ScanIdeal.nD) → Buf (Elt Ideal) ((c.tc : Thread Cert.ScanIdeal.nD Cert.ScanIdeal.τ).loc Cert.ScanIdeal.main_v70_2)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v70_0) = v0 c
          ∧ r.2.mem ((c.tc : Thread Cert.ScanIdeal.nD Cert.ScanIdeal.τ).loc Cert.ScanIdeal.main_v70_1) = v1 c
          ∧ r.2.mem ((c.tc : Thread Cert.ScanIdeal.nD Cert.ScanIdeal.τ).loc Cert.ScanIdeal.main_v70_2) = v2 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
          ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
          ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
          ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8)
          ∧ r.2.mem ((c.tc : Thread Cert.ScanIdeal.nD Cert.ScanIdeal.τ).loc Cert.ScanIdeal.main_arg9) = m ((c.tc : Thread Cert.ScanIdeal.nD Cert.ScanIdeal.τ).loc Cert.ScanIdeal.main_arg9)
          ∧ r.2.mem ((c.tc : Thread Cert.ScanIdeal.nD Cert.ScanIdeal.τ).loc Cert.ScanIdeal.main_arg10) = m ((c.tc : Thread Cert.ScanIdeal.nD Cert.ScanIdeal.τ).loc Cert.ScanIdeal.main_arg10)
          ∧ r.2.mem ((c.tc : Thread Cert.ScanIdeal.nD Cert.ScanIdeal.τ).loc Cert.ScanIdeal.main_arg11) = m ((c.tc : Thread Cert.ScanIdeal.nD Cert.ScanIdeal.τ).loc Cert.ScanIdeal.main_arg11))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v235) = v0 c
          ∧ r.2.mem ((c.tc : Thread Cert.ScanRefIdeal.nD Cert.ScanRefIdeal.τ).loc Cert.ScanRefIdeal.main_v238) = v1 c
          ∧ r.2.mem ((c.tc : Thread Cert.ScanRefIdeal.nD Cert.ScanRefIdeal.τ).loc Cert.ScanRefIdeal.main_v241) = v2 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4)
          ∧ r.2.mem ((c.tc : Thread Cert.ScanRefIdeal.nD Cert.ScanRefIdeal.τ).loc Cert.ScanRefIdeal.main_arg5) = m' ((c.tc : Thread Cert.ScanRefIdeal.nD Cert.ScanRefIdeal.τ).loc Cert.ScanRefIdeal.main_arg5)
          ∧ r.2.mem ((c.tc : Thread Cert.ScanRefIdeal.nD Cert.ScanRefIdeal.τ).loc Cert.ScanRefIdeal.main_arg6) = m' ((c.tc : Thread Cert.ScanRefIdeal.nD Cert.ScanRefIdeal.τ).loc Cert.ScanRefIdeal.main_arg6)
          ∧ r.2.mem ((c.tc : Thread Cert.ScanRefIdeal.nD Cert.ScanRefIdeal.τ).loc Cert.ScanRefIdeal.main_arg7) = m' ((c.tc : Thread Cert.ScanRefIdeal.nD Cert.ScanRefIdeal.τ).loc Cert.ScanRefIdeal.main_arg7)
          ∧ r.2.mem ((c.tc : Thread Cert.ScanRefIdeal.nD Cert.ScanRefIdeal.τ).loc Cert.ScanRefIdeal.main_arg8) = m' ((c.tc : Thread Cert.ScanRefIdeal.nD Cert.ScanRefIdeal.τ).loc Cert.ScanRefIdeal.main_arg8)
          ∧ r.2.mem ((c.tc : Thread Cert.ScanRefIdeal.nD Cert.ScanRefIdeal.τ).loc Cert.ScanRefIdeal.main_arg9) = m' ((c.tc : Thread Cert.ScanRefIdeal.nD Cert.ScanRefIdeal.τ).loc Cert.ScanRefIdeal.main_arg9)
          ∧ r.2.mem ((c.tc : Thread Cert.ScanRefIdeal.nD Cert.ScanRefIdeal.τ).loc Cert.ScanRefIdeal.main_arg10) = m' ((c.tc : Thread Cert.ScanRefIdeal.nD Cert.ScanRefIdeal.τ).loc Cert.ScanRefIdeal.main_arg10)
          ∧ r.2.mem ((c.tc : Thread Cert.ScanRefIdeal.nD Cert.ScanRefIdeal.τ).loc Cert.ScanRefIdeal.main_arg11) = m' ((c.tc : Thread Cert.ScanRefIdeal.nD Cert.ScanRefIdeal.τ).loc Cert.ScanRefIdeal.main_arg11))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v3_0)) (v1 : (c : Dev Cert.ProjIdeal.nD) → Buf (Elt Ideal) ((c.tc : Thread Cert.ProjIdeal.nD Cert.ProjIdeal.τ).loc Cert.ProjIdeal.main_v3_1)) (v2 : (c : Dev Cert.ProjIdeal.nD) → Buf (Elt Ideal) ((c.tc : Thread Cert.ProjIdeal.nD Cert.ProjIdeal.τ).loc Cert.ProjIdeal.main_v3_2)) (v3 : (c : Dev Cert.ProjIdeal.nD) → Buf (Elt Ideal) ((c.tc : Thread Cert.ProjIdeal.nD Cert.ProjIdeal.τ).loc Cert.ProjIdeal.main_v3_3)) (v4 : (c : Dev Cert.ProjIdeal.nD) → Buf (Elt Ideal) ((c.tc : Thread Cert.ProjIdeal.nD Cert.ProjIdeal.τ).loc Cert.ProjIdeal.main_v3_4)) (v5 : (c : Dev Cert.ProjIdeal.nD) → Buf (Elt Ideal) ((c.tc : Thread Cert.ProjIdeal.nD Cert.ProjIdeal.τ).loc Cert.ProjIdeal.main_v3_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3_0) = v0 c
          ∧ r.2.mem ((c.tc : Thread Cert.ProjIdeal.nD Cert.ProjIdeal.τ).loc Cert.ProjIdeal.main_v3_1) = v1 c
          ∧ r.2.mem ((c.tc : Thread Cert.ProjIdeal.nD Cert.ProjIdeal.τ).loc Cert.ProjIdeal.main_v3_2) = v2 c
          ∧ r.2.mem ((c.tc : Thread Cert.ProjIdeal.nD Cert.ProjIdeal.τ).loc Cert.ProjIdeal.main_v3_3) = v3 c
          ∧ r.2.mem ((c.tc : Thread Cert.ProjIdeal.nD Cert.ProjIdeal.τ).loc Cert.ProjIdeal.main_v3_4) = v4 c
          ∧ r.2.mem ((c.tc : Thread Cert.ProjIdeal.nD Cert.ProjIdeal.τ).loc Cert.ProjIdeal.main_v3_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v27) = v0 c
          ∧ r.2.mem ((c.tc : Thread Cert.ProjRefIdeal.nD Cert.ProjRefIdeal.τ).loc Cert.ProjRefIdeal.main_v28) = v1 c
          ∧ r.2.mem ((c.tc : Thread Cert.ProjRefIdeal.nD Cert.ProjRefIdeal.τ).loc Cert.ProjRefIdeal.main_v29) = v2 c
          ∧ r.2.mem ((c.tc : Thread Cert.ProjRefIdeal.nD Cert.ProjRefIdeal.τ).loc Cert.ProjRefIdeal.main_v31) = v3 c
          ∧ r.2.mem ((c.tc : Thread Cert.ProjRefIdeal.nD Cert.ProjRefIdeal.τ).loc Cert.ProjRefIdeal.main_v34) = v4 c
          ∧ r.2.mem ((c.tc : Thread Cert.ProjRefIdeal.nD Cert.ProjRefIdeal.τ).loc Cert.ProjRefIdeal.main_v35) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)) →
    ∃ (v0 : (c : Dev Cert.ProjSIdeal.nD) → Buf (Elt Ideal) ((c.tc : Thread Cert.ProjSIdeal.nD Cert.ProjSIdeal.τ).loc Cert.ProjSIdeal.main_v3_0)) (v1 : (c : Dev Cert.ProjSIdeal.nD) → Buf (Elt Ideal) ((c.tc : Thread Cert.ProjSIdeal.nD Cert.ProjSIdeal.τ).loc Cert.ProjSIdeal.main_v3_1)) (v2 : (c : Dev Cert.ProjSIdeal.nD) → Buf (Elt Ideal) ((c.tc : Thread Cert.ProjSIdeal.nD Cert.ProjSIdeal.τ).loc Cert.ProjSIdeal.main_v3_2)) (v3 : (c : Dev Cert.ProjSIdeal.nD) → Buf (Elt Ideal) ((c.tc : Thread Cert.ProjSIdeal.nD Cert.ProjSIdeal.τ).loc Cert.ProjSIdeal.main_v3_3)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v3_0) = v0 c
          ∧ r.2.mem ((c.tc : Thread Cert.ProjSIdeal.nD Cert.ProjSIdeal.τ).loc Cert.ProjSIdeal.main_v3_1) = v1 c
          ∧ r.2.mem ((c.tc : Thread Cert.ProjSIdeal.nD Cert.ProjSIdeal.τ).loc Cert.ProjSIdeal.main_v3_2) = v2 c
          ∧ r.2.mem ((c.tc : Thread Cert.ProjSIdeal.nD Cert.ProjSIdeal.τ).loc Cert.ProjSIdeal.main_v3_3) = v3 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v8) = v0 c
          ∧ r.2.mem ((c.tc : Thread Cert.ProjSRefIdeal.nD Cert.ProjSRefIdeal.τ).loc Cert.ProjSRefIdeal.main_v9) = v1 c
          ∧ r.2.mem ((c.tc : Thread Cert.ProjSRefIdeal.nD Cert.ProjSRefIdeal.τ).loc Cert.ProjSRefIdeal.main_v10) = v2 c
          ∧ r.2.mem ((c.tc : Thread Cert.ProjSRefIdeal.nD Cert.ProjSRefIdeal.τ).loc Cert.ProjSRefIdeal.main_v11) = v3 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)) →
    ∃ (v0 : (c : Dev Cert.PrepIdeal.nD) → Buf (Elt Ideal) ((c.tc : Thread Cert.PrepIdeal.nD Cert.PrepIdeal.τ).loc Cert.PrepIdeal.main_v36_0)) (v1 : (c : Dev Cert.PrepIdeal.nD) → Buf (Elt Ideal) ((c.tc : Thread Cert.PrepIdeal.nD Cert.PrepIdeal.τ).loc Cert.PrepIdeal.main_v36_1)) (v2 : (c : Dev Cert.PrepIdeal.nD) → Buf (Elt Ideal) ((c.tc : Thread Cert.PrepIdeal.nD Cert.PrepIdeal.τ).loc Cert.PrepIdeal.main_v36_2)) (v3 : (c : Dev Cert.PrepIdeal.nD) → Buf (Elt Ideal) ((c.tc : Thread Cert.PrepIdeal.nD Cert.PrepIdeal.τ).loc Cert.PrepIdeal.main_v36_3)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v36_0) = v0 c
          ∧ r.2.mem ((c.tc : Thread Cert.PrepIdeal.nD Cert.PrepIdeal.τ).loc Cert.PrepIdeal.main_v36_1) = v1 c
          ∧ r.2.mem ((c.tc : Thread Cert.PrepIdeal.nD Cert.PrepIdeal.τ).loc Cert.PrepIdeal.main_v36_2) = v2 c
          ∧ r.2.mem ((c.tc : Thread Cert.PrepIdeal.nD Cert.PrepIdeal.τ).loc Cert.PrepIdeal.main_v36_3) = v3 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v71) = v0 c
          ∧ r.2.mem ((c.tc : Thread Cert.PrepRefIdeal.nD Cert.PrepRefIdeal.τ).loc Cert.PrepRefIdeal.main_v72) = v1 c
          ∧ r.2.mem ((c.tc : Thread Cert.PrepRefIdeal.nD Cert.PrepRefIdeal.τ).loc Cert.PrepRefIdeal.main_v77) = v2 c
          ∧ r.2.mem ((c.tc : Thread Cert.PrepRefIdeal.nD Cert.PrepRefIdeal.τ).loc Cert.PrepRefIdeal.main_v82) = v3 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4))

def Claim : Prop :=
  ∃ (hFfn : Cert.Ffn.Facts) (hFfnIdeal : Cert.FfnIdeal.Facts) (hFfnRefIdeal : Cert.FfnRefIdeal.Facts) (hFfnS : Cert.FfnS.Facts) (hFfnSIdeal : Cert.FfnSIdeal.Facts) (hFfnSRefIdeal : Cert.FfnSRefIdeal.Facts) (hOutProj : Cert.OutProj.Facts) (hOutProjIdeal : Cert.OutProjIdeal.Facts) (hOutProjRefIdeal : Cert.OutProjRefIdeal.Facts) (hOutProjS : Cert.OutProjS.Facts) (hOutProjSIdeal : Cert.OutProjSIdeal.Facts) (hOutProjSRefIdeal : Cert.OutProjSRefIdeal.Facts) (hScan : Cert.Scan.Facts) (hScanIdeal : Cert.ScanIdeal.Facts) (hScanRefIdeal : Cert.ScanRefIdeal.Facts) (hProj : Cert.Proj.Facts) (hProjIdeal : Cert.ProjIdeal.Facts) (hProjRefIdeal : Cert.ProjRefIdeal.Facts) (hProjS : Cert.ProjS.Facts) (hProjSIdeal : Cert.ProjSIdeal.Facts) (hProjSRefIdeal : Cert.ProjSRefIdeal.Facts) (hPrep : Cert.Prep.Facts) (hPrepIdeal : Cert.PrepIdeal.Facts) (hPrepRefIdeal : Cert.PrepRefIdeal.Facts) (hPre_finite_scan : Cert.Pre_finite_scan.Facts),
    quiescent_Ffn (hFfn := hFfn)
    ∧ quiescent_FfnIdeal (hFfnIdeal := hFfnIdeal)
    ∧ quiescent_FfnRefIdeal (hFfnRefIdeal := hFfnRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutProjS (hOutProjS := hOutProjS)
    ∧ quiescent_OutProjSIdeal (hOutProjSIdeal := hOutProjSIdeal)
    ∧ quiescent_OutProjSRefIdeal (hOutProjSRefIdeal := hOutProjSRefIdeal)
    ∧ quiescent_Scan (hScan := hScan)
    ∧ quiescent_ScanIdeal (hScanIdeal := hScanIdeal)
    ∧ quiescent_ScanIdeal_pre_finite_scan (hScanIdeal := hScanIdeal) (hPre_finite_scan := hPre_finite_scan)
    ∧ quiescent_ScanRefIdeal (hScanRefIdeal := hScanRefIdeal)
    ∧ quiescent_ScanRefIdeal_pre_finite_scan (hScanRefIdeal := hScanRefIdeal) (hPre_finite_scan := hPre_finite_scan)
    ∧ quiescent_Proj (hProj := hProj)
    ∧ quiescent_ProjIdeal (hProjIdeal := hProjIdeal)
    ∧ quiescent_ProjRefIdeal (hProjRefIdeal := hProjRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_Prep (hPrep := hPrep)
    ∧ quiescent_PrepIdeal (hPrepIdeal := hPrepIdeal)
    ∧ quiescent_PrepRefIdeal (hPrepRefIdeal := hPrepRefIdeal)
    ∧ preserves_Ffn_FfnIdeal
    ∧ algebraic_FfnIdeal_FfnRefIdeal (hFfnIdeal := hFfnIdeal) (hFfnRefIdeal := hFfnRefIdeal)
    ∧ preserves_FfnS_FfnSIdeal
    ∧ algebraic_FfnSIdeal_FfnSRefIdeal (hFfnSIdeal := hFfnSIdeal) (hFfnSRefIdeal := hFfnSRefIdeal)
    ∧ preserves_OutProj_OutProjIdeal
    ∧ algebraic_OutProjIdeal_OutProjRefIdeal (hOutProjIdeal := hOutProjIdeal) (hOutProjRefIdeal := hOutProjRefIdeal)
    ∧ preserves_OutProjS_OutProjSIdeal
    ∧ algebraic_OutProjSIdeal_OutProjSRefIdeal (hOutProjSIdeal := hOutProjSIdeal) (hOutProjSRefIdeal := hOutProjSRefIdeal)
    ∧ preserves_Scan_ScanIdeal
    ∧ algebraic_ScanIdeal_ScanRefIdeal_pre_finite_scan (hScanIdeal := hScanIdeal) (hScanRefIdeal := hScanRefIdeal) (hPre_finite_scan := hPre_finite_scan)
    ∧ preserves_Proj_ProjIdeal
    ∧ algebraic_ProjIdeal_ProjRefIdeal (hProjIdeal := hProjIdeal) (hProjRefIdeal := hProjRefIdeal)
    ∧ preserves_ProjS_ProjSIdeal
    ∧ algebraic_ProjSIdeal_ProjSRefIdeal (hProjSIdeal := hProjSIdeal) (hProjSRefIdeal := hProjSRefIdeal)
    ∧ preserves_Prep_PrepIdeal
    ∧ algebraic_PrepIdeal_PrepRefIdeal (hPrepIdeal := hPrepIdeal) (hPrepRefIdeal := hPrepRefIdeal)
-- ==== Pre_finite_scan.lean ====
abbrev S256x1024 : Shape := ⟨2, ![256, 1024]⟩
abbrev S1x32x64x64 : Shape := ⟨4, ![1, 32, 64, 64]⟩
abbrev S8x64x64 : Shape := ⟨3, ![8, 64, 64]⟩
abbrev S64x64x16 : Shape := ⟨3, ![64, 64, 16]⟩
abbrev S1x64x16x64 : Shape := ⟨4, ![1, 64, 16, 64]⟩
abbrev S1x1024 : Shape := ⟨2, ![1, 1024]⟩
abbrev S1x1024x1024 : Shape := ⟨3, ![1, 1024, 1024]⟩
abbrev S_ : Shape := ⟨0, ![]⟩

class Facts : Prop where
  bcast_S_S256x1024 : S_.BroadcastsInDim S256x1024 (![] : Fin 0 → Fin S256x1024.rank)

variable [Facts]

def fn {F : FTy → Type} [FloatOps F] (main_arg0 : FVec F S256x1024 .f32) (main_arg1 : FVec F S1x32x64x64 .f32) (main_arg2 : FVec F S1x32x64x64 .f32) (main_arg3 : FVec F S8x64x64 .f32) (main_arg4 : FVec F S8x64x64 .f32) (main_arg5 : FVec F S64x64x16 .f32) (main_arg6 : FVec F S64x64x16 .f32) (main_arg7 : FVec F S1x64x16x64 .f32) (main_arg8 : FVec F S1x64x16x64 .f32) (main_arg9 : FVec F S1x1024 .f32) (main_arg10 : FVec F S1x1024x1024 .f32) (main_arg11 : FVec F S1x1024 .f32) : IVec S256x1024 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  main_v2
-- ==== Ffn.lean ====
abbrev S2x8192x2048 : Shape := ⟨3, ![2, 8192, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S16384x2048 : Shape := ⟨2, ![16384, 2048]⟩
abbrev S2048x8192 : Shape := ⟨2, ![2048, 8192]⟩
abbrev S8192x2048 : Shape := ⟨2, ![8192, 2048]⟩
abbrev S2048 : Shape := ⟨1, ![2048]⟩
abbrev S512x2048 : Shape := ⟨2, ![512, 2048]⟩
abbrev S2048x1024 : Shape := ⟨2, ![2048, 1024]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 13
  | .smem => 0
  | _ => 0

abbrev bufTy : (tb : Table) → Fin (tcTables nBuf tb) → BufTy
  | .hbm, ⟨0, _⟩ => ⟨S2x8192x2048, .f32⟩
  | .hbm, ⟨1, _⟩ => ⟨S1x2048x8192, .f32⟩
  | .hbm, ⟨2, _⟩ => ⟨S1x8192x2048, .f32⟩
  | .hbm, ⟨3, _⟩ => ⟨S1x2048, .f32⟩
  | .hbm, ⟨4, _⟩ => ⟨S1x2048, .f32⟩
  | .hbm, ⟨5, _⟩ => ⟨S16384x2048, .f32⟩
  | .hbm, ⟨6, _⟩ => ⟨S16384x2048, .bf16⟩
  | .hbm, ⟨7, _⟩ => ⟨S2048x8192, .f32⟩
  | .hbm, ⟨8, _⟩ => ⟨S2048x8192, .bf16⟩
  | .hbm, ⟨9, _⟩ => ⟨S8192x2048, .f32⟩
  | .hbm, ⟨10, _⟩ => ⟨S8192x2048, .bf16⟩
  | .hbm, ⟨11, _⟩ => ⟨S2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_12 : BitVec 32 := 0#32
  let v22 : BitVec 1 := Scalar.cmpi .ne v21 c0_i32_12
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S2x8192x2048 : Shape := ⟨3, ![2, 8192, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S2048x8192 : Shape := ⟨2, ![2048, 8192]⟩
abbrev S2x8192x8192 : Shape := ⟨3, ![2, 8192, 8192]⟩
abbrev S_ : Shape := ⟨0, ![]⟩
abbrev S8192x2048 : Shape := ⟨2, ![8192, 2048]⟩
abbrev S2x8192 : Shape := ⟨2, ![2, 8192]⟩
abbrev S2x8192x1 : Shape := ⟨3, ![2, 8192, 1]⟩
abbrev S2048 : Shape := ⟨1, ![2048]⟩
abbrev S1x1x2048 : Shape := ⟨3, ![1, 1, 2048]⟩
abbrev S16384x2048 : Shape := ⟨2, ![16384, 2048]⟩

abbrev nBuf : Space → Nat
  | .hbm => 49
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048x8192, .f32⟩
  | .hbm, ⟨2, _⟩ => ⟨S1x8192x2048, .f32⟩
  | .hbm, ⟨3, _⟩ => ⟨S1x2048, .f32⟩
  | .hbm, ⟨4, _⟩ => ⟨S1x2048, .f32⟩
  | .hbm, ⟨5, _⟩ => ⟨S2048x8192, .f32⟩
  | .hbm, ⟨6, _⟩ => ⟨S2x8192x8192, .f32⟩
  | .hbm, ⟨7, _⟩ => ⟨S_, .f32⟩
  | .hbm, ⟨8, _⟩ => ⟨S2x8192x8192, .f32⟩
  | .hbm, ⟨9, _⟩ => ⟨S2x8192x8192, .f32⟩
  | .hbm, ⟨10, _⟩ => ⟨S2x8192x8192, .f32⟩
  | .hbm, ⟨11, _⟩ => ⟨S8192x2048, .f32⟩
  | .hbm, ⟨12, _⟩ => ⟨S2x8192x2048, .f32⟩
  | .hbm, ⟨13, _⟩ => ⟨S_, .f32⟩
  | .hbm, ⟨14, _⟩ => ⟨S2x8192x2048, .f32⟩
  | .hbm, ⟨15, _⟩ => ⟨S2x8192x2048, .f32⟩
  | .hbm, ⟨16, _⟩ => ⟨S2x8192x2048, .f32⟩
  | .hbm, ⟨17, _⟩ => ⟨S_, .f32⟩
  | .hbm, ⟨18, _⟩ => ⟨S2x8192, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x2048, .f32⟩
  | .hbm, ⟨24, _⟩ => ⟨S2x8192x2048, .f32⟩
  | .hbm, ⟨25, _⟩ => ⟨S2x8192x2048, .f32⟩
  | .hbm, ⟨26, _⟩ => ⟨S_, .f32⟩
  | .hbm, ⟨27, _⟩ => ⟨S2x8192, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S2x8192x2048, .f32⟩
  | .hbm, ⟨33, _⟩ => ⟨S2x8192x2048, .f32⟩
  | .hbm, ⟨34, _⟩ => ⟨S_, .f32⟩
  | .hbm, ⟨35, _⟩ => ⟨S2x8192x1, .f32⟩
  | .hbm, ⟨36, _⟩ => ⟨S2x8192x1, .f32⟩
  | .hbm, ⟨37, _⟩ => ⟨S2x8192x1, .f32⟩
  | .hbm, ⟨38, _⟩ => ⟨S2x8192x2048, .f32⟩
  | .hbm, ⟨39, _⟩ => ⟨S2x8192x2048, .f32⟩
  | .hbm, ⟨40, _⟩ => ⟨S2048, .f32⟩
  | .hbm, ⟨41, _⟩ => ⟨S1x1x2048, .f32⟩
  | .hbm, ⟨42, _⟩ => ⟨S2x8192x2048, .f32⟩
  | .hbm, ⟨43, _⟩ => ⟨S2x8192x2048, .f32⟩
  | .hbm, ⟨44, _⟩ => ⟨S2048, .f32⟩
  | .hbm, ⟨45, _⟩ => ⟨S1x1x2048, .f32⟩
  | .hbm, ⟨46, _⟩ => ⟨S2x8192x2048, .f32⟩
  | .hbm, ⟨47, _⟩ => ⟨S2x8192x2048, .f32⟩
  | .hbm, ⟨48, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== FfnS.lean ====
abbrev S32x8x2048 : Shape := ⟨3, ![32, 8, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S256x2048 : Shape := ⟨2, ![256, 2048]⟩
abbrev S2048x8192 : Shape := ⟨2, ![2048, 8192]⟩
abbrev S8192x2048 : Shape := ⟨2, ![8192, 2048]⟩
abbrev S2048 : Shape := ⟨1, ![2048]⟩
abbrev S2048x1024 : Shape := ⟨2, ![2048, 1024]⟩
abbrev S1024x2048 : Shape := ⟨2, ![1024, 2048]⟩
abbrev S256x1024 : Shape := ⟨2, ![256, 1024]⟩
abbrev S256 : Shape := ⟨1, ![256]⟩
abbrev S256x1 : Shape := ⟨2, ![256, 1]⟩

abbrev nBuf : Space → Nat
  | .hbm => 16
  | .vmem => 10
  | .smem => 0
  | _ => 0

abbrev bufTy : (tb : Table) → Fin (tcTables nBuf tb) → BufTy
  | .hbm, ⟨0, _⟩ => ⟨S32x8x2048, .f32⟩
  | .hbm, ⟨1, _⟩ => ⟨S1x2048x8192, .f32⟩
  | .hbm, ⟨2, _⟩ => ⟨S1x8192x2048, .f32⟩
  | .hbm, ⟨3, _⟩ => ⟨S1x2048, .f32⟩
  | .hbm, ⟨4, _⟩ => ⟨S1x2048, .f32⟩
  | .hbm, ⟨5, _⟩ => ⟨S256x2048, .f32⟩
  | .hbm, ⟨6, _⟩ => ⟨S256x2048, .bf16⟩
  | .hbm, ⟨7, _⟩ => ⟨S2048x8192, .f32⟩
  | .hbm, ⟨8, _⟩ => ⟨S2048x8192, .bf16⟩
  | .hbm, ⟨9, _⟩ => ⟨S8192x2048, .f32⟩
  | .hbm, ⟨10, _⟩ => ⟨S8192x2048, .bf16⟩
  | .hbm, ⟨11, _⟩ => ⟨S2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S256x2048, .f32⟩
  | .local _ .vmem, ⟨0, _⟩ => ⟨S256x2048, .f32⟩
  | .local _ .vmem, ⟨1, _⟩ => ⟨S256x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_12 : BitVec 32 := 0#32
  let v22 : BitVec 1 := Scalar.cmpi .ne v21 c0_i32_12
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== FfnSRefIdeal.lean ====
abbrev S32x8x2048 : Shape := ⟨3, ![32, 8, 2048]⟩
abbrev S1x2048x8192 : Shape := ⟨3, ![1, 2048, 8192]⟩
abbrev S1x8192x2048 : Shape := ⟨3, ![1, 8192, 2048]⟩
abbrev S1x2048 : Shape := ⟨2, ![1, 2048]⟩
abbrev S2048x8192 : Shape := ⟨2, ![2048, 8192]⟩
abbrev S32x8x8192 : Shape := ⟨3, ![32, 8, 8192]⟩
abbrev S_ : Shape := ⟨0, ![]⟩
abbrev S8192x2048 : Shape := ⟨2, ![8192, 2048]⟩
abbrev S32x8 : Shape := ⟨2, ![32, 8]⟩
abbrev S32x8x1 : Shape := ⟨3, ![32, 8, 1]⟩
abbrev S2048 : Shape := ⟨1, ![2048]⟩
abbrev S1x1x2048 : Shape := ⟨3, ![1, 1, 2048]⟩
abbrev S256x2048 : Shape := ⟨2, ![256, 2048]⟩

abbrev nBuf : Space → Nat
  | .hbm => 49
  | .vmem => 0
  | .smem => 0
  | _ => 0

abbrev bufTy : (tb : Table) → Fin (tcTables nBuf tb) → BufTy
  | .hbm, ⟨0, _⟩ => ⟨S32x8x2048, .f32⟩
  | .hbm, ⟨1, _⟩ => ⟨S1x2048x8192, .f32⟩
  | .hbm, ⟨2, _⟩ => ⟨S1x8192x2048, .f32⟩
  | .hbm, ⟨3, _⟩ => ⟨S1x2048, .f32⟩
  | .hbm, ⟨4, _⟩ => ⟨S1x2048, .f32⟩
  | .hbm, ⟨5, _⟩ => ⟨S2048x8192, .f32⟩
  | .hbm, ⟨6, _⟩ => ⟨S32x8x8192, .f32⟩
  | .hbm, ⟨7, _⟩ => ⟨S_, .f32⟩
  | .hbm, ⟨8, _⟩ => ⟨S32x8x8192, .f32⟩
  | .hbm, ⟨9, _⟩ => ⟨S32x8x8192, .f32⟩
  | .hbm, ⟨10, _⟩ => ⟨S32x8x8192, .f32⟩
  | .hbm, ⟨11, _⟩ => ⟨S8192x2048, .f32⟩
  | .hbm, ⟨12, _⟩ => ⟨S32x8x2048, .f32⟩
  | .hbm, ⟨13, _⟩ => ⟨S_, .f32⟩
  | .hbm, ⟨14, _⟩ => ⟨S32x8x2048, .f32⟩
  | .hbm, ⟨15, _⟩ => ⟨S32x8x2048, .f32⟩
  | .hbm, ⟨16, _⟩ => ⟨S32x8x2048, .f32⟩
  | .hbm, ⟨17, _⟩ => ⟨S_, .f32⟩
  | .hbm, ⟨18, _⟩ => ⟨S32x8, .f32⟩
  | .hbm, ⟨19, _⟩ => ⟨S32x8x1, .f32⟩
  | .hbm, ⟨20, _⟩ => ⟨S_, .f32⟩
  | .hbm, ⟨21, _⟩ => ⟨S32x8x1, .f32⟩
  | .hbm, ⟨22, _⟩ => ⟨S32x8x1, .f32⟩
  | .hbm, ⟨23, _⟩ => ⟨S32x8x2048, .f32⟩
  | .hbm, ⟨24, _⟩ => ⟨S32x8x2048, .f32⟩
  | .hbm, ⟨25, _⟩ => ⟨S32x8x2048, .f32⟩
  | .hbm, ⟨26, _⟩ => ⟨S_, .f32⟩
  | .hbm, ⟨27, _⟩ => ⟨S32x8, .f32⟩
  | .hbm, ⟨28, _⟩ => ⟨S32x8x1, .f32⟩
  | .hbm, ⟨29, _⟩ => ⟨S_, .f32⟩
  | .hbm, ⟨30, _⟩ => ⟨S32x8x1, .f32⟩
  | .hbm, ⟨31, _⟩ => ⟨S32x8x1, .f32⟩
  | .hbm, ⟨32, _⟩ => ⟨S32x8x2048, .f32⟩
  | .hbm, ⟨33, _⟩ => ⟨S32x8x2048, .f32⟩
  | .hbm, ⟨34, _⟩ => ⟨S_, .f32⟩
  | .hbm, ⟨35, _⟩ => ⟨S32x8x1, .f32⟩
  | .hbm, ⟨36, _⟩ => ⟨S32x8x1, .f32⟩
  | .hbm, ⟨37, _⟩ => ⟨S32x8x1, .f32⟩
  | .hbm, ⟨38, _⟩ => ⟨S32x8x2048, .f32⟩
  | .hbm, ⟨39, _⟩ => ⟨S32x8x2048, .f32⟩
  | .hbm, ⟨40, _⟩ => ⟨S2048, .f32⟩
  | .hbm, ⟨41, _⟩ => ⟨S1x1x2048, .f32⟩
  | .hbm, ⟨42, _⟩ => ⟨S32x8x2048, .f32⟩
  | .hbm, ⟨43, _⟩ => ⟨S32x8x2048, .f32⟩
  | .hbm, ⟨44, _⟩ => ⟨S2048, .f32⟩
  | .hbm, ⟨45, _⟩ => ⟨S1x1x2048, .f32⟩
  | .hbm, ⟨46, _⟩ => ⟨S32x8x2048, .f32⟩
  | .hbm, ⟨47, _⟩ => ⟨S32x8x2048, .f32⟩
  | .hbm, ⟨48, _⟩ => ⟨S256x2048, .f32⟩
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== OutProj.lean ====
abbrev S2x8192x2048 : Shape := ⟨3, ![2, 8192, 2048]⟩
abbrev S16384x1024 : Shape := ⟨2, ![16384, 1024]⟩
abbrev S1x2048x2048 : Shape := ⟨3, ![1, 2048, 2048]⟩
abbrev S1x2048 : Shape := ⟨2, ![1, 2048]⟩
abbrev S16384x2048 : Shape := ⟨2, ![16384, 2048]⟩
abbrev S1x1024x2048 : Shape := ⟨3, ![1, 1024, 2048]⟩
abbrev S1024x2048 : Shape := ⟨2, ![1024, 2048]⟩
abbrev S2048 : Shape := ⟨1, ![2048]⟩
abbrev S512x2048 : Shape := ⟨2, ![512, 2048]⟩
abbrev S512x1024 : Shape := ⟨2, ![512, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 19
  | .vmem => 14
  | .smem => 0
  | _ => 0

abbrev bufTy : (tb : Table) → Fin (tcTables nBuf tb) → BufTy
  | .hbm, ⟨0, _⟩ => ⟨S2x8192x2048, .f32⟩
  | .hbm, ⟨1, _⟩ => ⟨S16384x1024, .bf16⟩
  | .hbm, ⟨2, _⟩ => ⟨S16384x1024, .bf16⟩
  | .hbm, ⟨3, _⟩ => ⟨S1x2048x2048, .f32⟩
  | .hbm, ⟨4, _⟩ => ⟨S1x2048, .f32⟩
  | .hbm, ⟨5, _⟩ => ⟨S1x2048, .f32⟩
  | .hbm, ⟨6, _⟩ => ⟨S16384x2048, .f32⟩
  | .hbm, ⟨7, _⟩ => ⟨S1x1024x2048, .f32⟩
  | .hbm, ⟨8, _⟩ => ⟨S1024x2048, .f32⟩
  | .hbm, ⟨9, _⟩ => ⟨S1024x2048, .bf16⟩
  | .hbm, ⟨10, _⟩ => ⟨S1x1024x2048, .f32⟩
  | .hbm, ⟨11, _⟩ => ⟨S1024x2048, .f32⟩
  | .hbm, ⟨12, _⟩ => ⟨S1024x2048, .bf16⟩
  | .hbm, ⟨13, _⟩ => ⟨S2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S16384x2048, .f32⟩
  | .hbm, ⟨18, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutProjRefIdeal.lean ====
abbrev S2x8192x2048 : Shape := ⟨3, ![2, 8192, 2048]⟩
abbrev S16384x1024 : Shape := ⟨2, ![16384, 1024]⟩
abbrev S1x2048x2048 : Shape := ⟨3, ![1, 2048, 2048]⟩
abbrev S1x2048 : Shape := ⟨2, ![1, 2048]⟩
abbrev S16384x2048 : Shape := ⟨2, ![16384, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S16384x1024, .bf16⟩
  | .hbm, ⟨2, _⟩ => ⟨S16384x1024, .bf16⟩
  | .hbm, ⟨3, _⟩ => ⟨S1x2048x2048, .f32⟩
  | .hbm, ⟨4, _⟩ => ⟨S1x2048, .f32⟩
  | .hbm, ⟨5, _⟩ => ⟨S1x2048, .f32⟩
  | .hbm, ⟨6, _⟩ => ⟨S16384x2048, .bf16⟩
  | .hbm, ⟨7, _⟩ => ⟨S16384x2048, .f32⟩
  | .hbm, ⟨8, _⟩ => ⟨S2048x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x2048, .f32⟩
  | .hbm, ⟨37, _⟩ => ⟨S16384x2048, .f32⟩
  | .hbm, ⟨38, _⟩ => ⟨S2048, .f32⟩
  | .hbm, ⟨39, _⟩ => ⟨S1x2048, .f32⟩
  | .hbm, ⟨40, _⟩ => ⟨S16384x2048, .f32⟩
  | .hbm, ⟨41, _⟩ => ⟨S16384x2048, .f32⟩
  | .hbm, ⟨42, _⟩ => ⟨S2048, .f32⟩
  | .hbm, ⟨43, _⟩ => ⟨S1x2048, .f32⟩
  | .hbm, ⟨44, _⟩ => ⟨S16384x2048, .f32⟩
  | .hbm, ⟨45, _⟩ => ⟨S16384x2048, .f32⟩
  | .hbm, ⟨46, _⟩ => ⟨S16384x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== OutProjS.lean ====
abbrev S32x8x2048 : Shape := ⟨3, ![32, 8, 2048]⟩
abbrev S256x1024 : Shape := ⟨2, ![256, 1024]⟩
abbrev S1x2048x2048 : Shape := ⟨3, ![1, 2048, 2048]⟩
abbrev S1x2048 : Shape := ⟨2, ![1, 2048]⟩
abbrev S256x2048 : Shape := ⟨2, ![256, 2048]⟩
abbrev S1x1024x2048 : Shape := ⟨3, ![1, 1024, 2048]⟩
abbrev S1024x2048 : Shape := ⟨2, ![1024, 2048]⟩
abbrev S2048 : Shape := ⟨1, ![2048]⟩
abbrev S128x1024 : Shape := ⟨2, ![128, 1024]⟩
abbrev S128x2048 : Shape := ⟨2, ![128, 2048]⟩
abbrev S128 : Shape := ⟨1, ![128]⟩
abbrev S128x1 : Shape := ⟨2, ![128, 1]⟩

abbrev nBuf : Space → Nat
  | .hbm => 19
  | .vmem => 9
  | .smem => 0
  | _ => 0

abbrev bufTy : (tb : Table) → Fin (tcTables nBuf tb) → BufTy
  | .hbm, ⟨0, _⟩ => ⟨S32x8x2048, .f32⟩
  | .hbm, ⟨1, _⟩ => ⟨S256x1024, .f32⟩
  | .hbm, ⟨2, _⟩ => ⟨S256x1024, .bf16⟩
  | .hbm, ⟨3, _⟩ => ⟨S1x2048x2048, .f32⟩
  | .hbm, ⟨4, _⟩ => ⟨S1x2048, .f32⟩
  | .hbm, ⟨5, _⟩ => ⟨S1x2048, .f32⟩
  | .hbm, ⟨6, _⟩ => ⟨S256x2048, .f32⟩
  | .hbm, ⟨7, _⟩ => ⟨S1x1024x2048, .f32⟩
  | .hbm, ⟨8, _⟩ => ⟨S1024x2048, .f32⟩
  | .hbm, ⟨9, _⟩ => ⟨S1024x2048, .bf16⟩
  | .hbm, ⟨10, _⟩ => ⟨S1x1024x2048, .f32⟩
  | .hbm, ⟨11, _⟩ => ⟨S1024x2048, .f32⟩
  | .hbm, ⟨12, _⟩ => ⟨S1024x2048, .bf16⟩
  | .hbm, ⟨13, _⟩ => ⟨S2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S256x2048, .f32⟩
  | .hbm, ⟨18, _⟩ => ⟨S256x2048, .bf16⟩
  | .local _ .vmem, ⟨0, _⟩ => ⟨S256x2048, .f32⟩
  | .local _ .vmem, ⟨1, _⟩ => ⟨S256x1024, .f32⟩
  | .local _ .vmem, ⟨2, _⟩ => ⟨S256x1024, .bf16⟩
  | .local _ .vmem, ⟨3, _⟩ => ⟨S1024x2048, .bf16⟩
  | .local _ .vmem, ⟨4, _⟩ => ⟨S1024x2048, .bf16⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .bf16⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== OutProjSRefIdeal.lean ====
abbrev S32x8x2048 : Shape := ⟨3, ![32, 8, 2048]⟩
abbrev S256x1024 : Shape := ⟨2, ![256, 1024]⟩
abbrev S1x2048x2048 : Shape := ⟨3, ![1, 2048, 2048]⟩
abbrev S1x2048 : Shape := ⟨2, ![1, 2048]⟩
abbrev S256x2048 : Shape := ⟨2, ![256, 2048]⟩
abbrev S2048x2048 : Shape := ⟨2, ![2048, 2048]⟩
abbrev S_ : Shape := ⟨0, ![]⟩
abbrev S256 : Shape := ⟨1, ![256]⟩
abbrev S256x1 : Shape := ⟨2, ![256, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S32x8x2048, .f32⟩
  | .hbm, ⟨1, _⟩ => ⟨S256x1024, .f32⟩
  | .hbm, ⟨2, _⟩ => ⟨S256x1024, .bf16⟩
  | .hbm, ⟨3, _⟩ => ⟨S1x2048x2048, .f32⟩
  | .hbm, ⟨4, _⟩ => ⟨S1x2048, .f32⟩
  | .hbm, ⟨5, _⟩ => ⟨S1x2048, .f32⟩
  | .hbm, ⟨6, _⟩ => ⟨S256x1024, .f32⟩
  | .hbm, ⟨7, _⟩ => ⟨S256x2048, .f32⟩
  | .hbm, ⟨8, _⟩ => ⟨S2048x2048, .f32⟩
  | .hbm, ⟨9, _⟩ => ⟨S256x2048, .f32⟩
  | .hbm, ⟨10, _⟩ => ⟨S256x2048, .f32⟩
  | .hbm, ⟨11, _⟩ => ⟨S_, .f32⟩
  | .hbm, ⟨12, _⟩ => ⟨S256x2048, .f32⟩
  | .hbm, ⟨13, _⟩ => ⟨S256x2048, .f32⟩
  | .hbm, ⟨14, _⟩ => ⟨S256x2048, .f32⟩
  | .hbm, ⟨15, _⟩ => ⟨S_, .f32⟩
  | .hbm, ⟨16, _⟩ => ⟨S256, .f32⟩
  | .hbm, ⟨17, _⟩ => ⟨S256x1, .f32⟩
  | .hbm, ⟨18, _⟩ => ⟨S_, .f32⟩
  | .hbm, ⟨19, _⟩ => ⟨S256x1, .f32⟩
  | .hbm, ⟨20, _⟩ => ⟨S256x1, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S256, .f32⟩
  | .hbm, ⟨26, _⟩ => ⟨S256x1, .f32⟩
  | .hbm, ⟨27, _⟩ => ⟨S_, .f32⟩
  | .hbm, ⟨28, _⟩ => ⟨S256x1, .f32⟩
  | .hbm, ⟨29, _⟩ => ⟨S256x1, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x1, .f32⟩
  | .hbm, ⟨34, _⟩ => ⟨S256x1, .f32⟩
  | .hbm, ⟨35, _⟩ => ⟨S256x1, .f32⟩
  | .hbm, ⟨36, _⟩ => ⟨S256x2048, .f32⟩
  | .hbm, ⟨37, _⟩ => ⟨S256x2048, .f32⟩
  | .hbm, ⟨38, _⟩ => ⟨S2048, .f32⟩
  | .hbm, ⟨39, _⟩ => ⟨S1x2048, .f32⟩
  | .hbm, ⟨40, _⟩ => ⟨S256x2048, .f32⟩
  | .hbm, ⟨41, _⟩ => ⟨S256x2048, .f32⟩
  | .hbm, ⟨42, _⟩ => ⟨S2048, .f32⟩
  | .hbm, ⟨43, _⟩ => ⟨S1x2048, .f32⟩
  | .hbm, ⟨44, _⟩ => ⟨S256x2048, .f32⟩
  | .hbm, ⟨45, _⟩ => ⟨S256x2048, .f32⟩
  | .hbm, ⟨46, _⟩ => ⟨S256x2048, .bf16⟩
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Scan.lean ====
abbrev S256x1024 : Shape := ⟨2, ![256, 1024]⟩
abbrev S1x32x64x64 : Shape := ⟨4, ![1, 32, 64, 64]⟩
abbrev S8x64x64 : Shape := ⟨3, ![8, 64, 64]⟩
abbrev S64x64x16 : Shape := ⟨3, ![64, 64, 16]⟩
abbrev S1x64x16x64 : Shape := ⟨4, ![1, 64, 16, 64]⟩
abbrev S1x1024 : Shape := ⟨2, ![1, 1024]⟩
abbrev S1x1024x1024 : Shape := ⟨3, ![1, 1024, 1024]⟩
abbrev S32x64x64 : Shape := ⟨3, ![32, 64, 64]⟩
abbrev S32x4096 : Shape := ⟨2, ![32, 4096]⟩
abbrev S8x4096 : Shape := ⟨2, ![8, 4096]⟩
abbrev S64x16x64 : Shape := ⟨3, ![64, 16, 64]⟩
abbrev S4x16x16x1x64 : Shape := ⟨5, ![4, 16, 16, 1, 64]⟩
abbrev S16x16 : Shape := ⟨2, ![16, 16]⟩
abbrev S_ : Shape := ⟨0, ![]⟩
abbrev S1x16x1x16x1 : Shape := ⟨5, ![1, 16, 1, 16, 1]⟩
abbrev S4x16x16x16x64 : Shape := ⟨5, ![4, 16, 16, 16, 64]⟩
abbrev S4x256x1024 : Shape := ⟨3, ![4, 256, 1024]⟩
abbrev S4x16x64x1x16 : Shape := ⟨5, ![4, 16, 64, 1, 16]⟩
abbrev S4x16x64x16x16 : Shape := ⟨5, ![4, 16, 64, 16, 16]⟩
abbrev S4x1024x256 : Shape := ⟨3, ![4, 1024, 256]⟩
abbrev S1024 : Shape := ⟨1, ![1024]⟩
abbrev S1024x1024 : Shape := ⟨2, ![1024, 1024]⟩
abbrev S64x1024 : Shape := ⟨2, ![64, 1024]⟩
abbrev S8x8x1024 : Shape := ⟨3, ![8, 8, 1024]⟩
abbrev S1x4096 : Shape := ⟨2, ![1, 4096]⟩
abbrev S64x64 : Shape := ⟨2, ![64, 64]⟩
abbrev S64x256 : Shape := ⟨2, ![64, 256]⟩
abbrev S1x256x1024 : Shape := ⟨3, ![1, 256, 1024]⟩
abbrev S8x1024 : Shape := ⟨2, ![8, 1024]⟩
abbrev S1x8x1024 : Shape := ⟨3, ![1, 8, 1024]⟩
abbrev S1x1024x256 : Shape := ⟨3, ![1, 1024, 256]⟩
abbrev S1024x256 : Shape := ⟨2, ![1024, 256]⟩

abbrev nBuf : Space → Nat
  | .hbm => 89
  | .vmem => 26
  | .smem => 0
  | _ => 0

abbrev bufTy : (tb : Table) → Fin (tcTables nBuf tb) → BufTy
  | .hbm, ⟨0, _⟩ => ⟨S256x1024, .f32⟩
  | .hbm, ⟨1, _⟩ => ⟨S1x32x64x64, .f32⟩
  | .hbm, ⟨2, _⟩ => ⟨S1x32x64x64, .f32⟩
  | .hbm, ⟨3, _⟩ => ⟨S8x64x64, .f32⟩
  | .hbm, ⟨4, _⟩ => ⟨S8x64x64, .f32⟩
  | .hbm, ⟨5, _⟩ => ⟨S64x64x16, .f32⟩
  | .hbm, ⟨6, _⟩ => ⟨S64x64x16, .f32⟩
  | .hbm, ⟨7, _⟩ => ⟨S1x64x16x64, .f32⟩
  | .hbm, ⟨8, _⟩ => ⟨S1x64x16x64, .f32⟩
  | .hbm, ⟨9, _⟩ => ⟨S1x1024, .f32⟩
  | .hbm, ⟨10, _⟩ => ⟨S1x1024x1024, .f32⟩
  | .hbm, ⟨11, _⟩ => ⟨S1x1024, .f32⟩
  | .hbm, ⟨12, _⟩ => ⟨S32x64x64, .f32⟩
  | .hbm, ⟨13, _⟩ => ⟨S32x4096, .f32⟩
  | .hbm, ⟨14, _⟩ => ⟨S32x64x64, .f32⟩
  | .hbm, ⟨15, _⟩ => ⟨S32x4096, .f32⟩
  | .hbm, ⟨16, _⟩ => ⟨S8x4096, .f32⟩
  | .hbm, ⟨17, _⟩ => ⟨S8x4096, .f32⟩
  | .hbm, ⟨18, _⟩ => ⟨S64x16x64, .f32⟩
  | .hbm, ⟨19, _⟩ => ⟨S4x16x16x1x64, .f32⟩
  | .hbm, ⟨20, _⟩ => ⟨S16x16, .i32⟩
  | .hbm, ⟨21, _⟩ => ⟨S16x16, .i32⟩
  | .hbm, ⟨22, _⟩ => ⟨S_, .i32⟩
  | .hbm, ⟨23, _⟩ => ⟨S16x16, .i32⟩
  | .hbm, ⟨24, _⟩ => ⟨S16x16, .i32⟩
  | .hbm, ⟨25, _⟩ => ⟨S16x16, .i1⟩
  | .hbm, ⟨26, _⟩ => ⟨S16x16, .f32⟩
  | .hbm, ⟨27, _⟩ => ⟨S1x16x1x16x1, .f32⟩
  | .hbm, ⟨28, _⟩ => ⟨S4x16x16x16x64, .f32⟩
  | .hbm, ⟨29, _⟩ => ⟨S4x16x16x16x64, .f32⟩
  | .hbm, ⟨30, _⟩ => ⟨S4x16x16x16x64, .f32⟩
  | .hbm, ⟨31, _⟩ => ⟨S4x256x1024, .f32⟩
  | .hbm, ⟨32, _⟩ => ⟨S4x256x1024, .bf16⟩
  | .hbm, ⟨33, _⟩ => ⟨S64x16x64, .f32⟩
  | .hbm, ⟨34, _⟩ => ⟨S4x16x16x1x64, .f32⟩
  | .hbm, ⟨35, _⟩ => ⟨S16x16, .i32⟩
  | .hbm, ⟨36, _⟩ => ⟨S16x16, .i32⟩
  | .hbm, ⟨37, _⟩ => ⟨S_, .i32⟩
  | .hbm, ⟨38, _⟩ => ⟨S16x16, .i32⟩
  | .hbm, ⟨39, _⟩ => ⟨S16x16, .i32⟩
  | .hbm, ⟨40, _⟩ => ⟨S16x16, .i1⟩
  | .hbm, ⟨41, _⟩ => ⟨S16x16, .f32⟩
  | .hbm, ⟨42, _⟩ => ⟨S1x16x1x16x1, .f32⟩
  | .hbm, ⟨43, _⟩ => ⟨S4x16x16x16x64, .f32⟩
  | .hbm, ⟨44, _⟩ => ⟨S4x16x16x16x64, .f32⟩
  | .hbm, ⟨45, _⟩ => ⟨S4x16x16x16x64, .f32⟩
  | .hbm, ⟨46, _⟩ => ⟨S4x256x1024, .f32⟩
  | .hbm, ⟨47, _⟩ => ⟨S4x256x1024, .bf16⟩
  | .hbm, ⟨48, _⟩ => ⟨S64x16x64, .f32⟩
  | .hbm, ⟨49, _⟩ => ⟨S64x64x16, .f32⟩
  | .hbm, ⟨50, _⟩ => ⟨S4x16x64x1x16, .f32⟩
  | .hbm, ⟨51, _⟩ => ⟨S16x16, .i32⟩
  | .hbm, ⟨52, _⟩ => ⟨S16x16, .i32⟩
  | .hbm, ⟨53, _⟩ => ⟨S_, .i32⟩
  | .hbm, ⟨54, _⟩ => ⟨S16x16, .i32⟩
  | .hbm, ⟨55, _⟩ => ⟨S16x16, .i32⟩
  | .hbm, ⟨56, _⟩ => ⟨S16x16, .i1⟩
  | .hbm, ⟨57, _⟩ => ⟨S16x16, .f32⟩
  | .hbm, ⟨58, _⟩ => ⟨S1x16x1x16x1, .f32⟩
  | .hbm, ⟨59, _⟩ => ⟨S4x16x64x16x16, .f32⟩
  | .hbm, ⟨60, _⟩ => ⟨S4x16x64x16x16, .f32⟩
  | .hbm, ⟨61, _⟩ => ⟨S4x16x64x16x16, .f32⟩
  | .hbm, ⟨62, _⟩ => ⟨S4x1024x256, .f32⟩
  | .hbm, ⟨63, _⟩ => ⟨S4x1024x256, .bf16⟩
  | .hbm, ⟨64, _⟩ => ⟨S64x16x64, .f32⟩
  | .hbm, ⟨65, _⟩ => ⟨S64x64x16, .f32⟩
  | .hbm, ⟨66, _⟩ => ⟨S4x16x64x1x16, .f32⟩
  | .hbm, ⟨67, _⟩ => ⟨S16x16, .i32⟩
  | .hbm, ⟨68, _⟩ => ⟨S16x16, .i32⟩
  | .hbm, ⟨69, _⟩ => ⟨S_, .i32⟩
  | .hbm, ⟨70, _⟩ => ⟨S16x16, .i32⟩
  | .hbm, ⟨71, _⟩ => ⟨S16x16, .i32⟩
  | .hbm, ⟨72, _⟩ => ⟨S16x16, .i1⟩
  | .hbm, ⟨73, _⟩ => ⟨S16x16, .f32⟩
  | .hbm, ⟨74, _⟩ => ⟨S1x16x1x16x1, .f32⟩
  | .hbm, ⟨75, _⟩ => ⟨S4x16x64x16x16, .f32⟩
  | .hbm, ⟨76, _⟩ => ⟨S4x16x64x16x16, .f32⟩
  | .hbm, ⟨77, _⟩ => ⟨S4x16x64x16x16, .f32⟩
  | .hbm, ⟨78, _⟩ => ⟨S4x1024x256, .f32⟩
  | .hbm, ⟨79, _⟩ => ⟨S4x1024x256, .bf16⟩
  | .hbm, ⟨80, _⟩ => ⟨S1024, .f32⟩
  | .hbm, ⟨81, _⟩ => ⟨S1x1024, .f32⟩
  | .hbm, ⟨82, _⟩ => ⟨S1024x1024, .f32⟩
  | .hbm, ⟨83, _⟩ => ⟨S1024x1024, .bf16⟩
  | .hbm, ⟨84, _⟩ => ⟨S1024, .f32⟩
  | .hbm, ⟨85, _⟩ => ⟨S1x1024, .f32⟩
  | .hbm, ⟨86, _⟩ => ⟨S256x1024, .bf16⟩
  | .hbm, ⟨87, _⟩ => ⟨S32x4096, .f32⟩
  | .hbm, ⟨88, _⟩ => ⟨S32x4096, .f32⟩
  | .local _ .vmem, ⟨0, _⟩ => ⟨S64x1024, .f32⟩
  | .local _ .vmem, ⟨1, _⟩ => ⟨S64x1024, .f32⟩
  | .local _ .vmem, ⟨2, _⟩ => ⟨S8x4096, .f32⟩
  | .local _ .vmem, ⟨3, _⟩ => ⟨S8x4096, .f32⟩
  | .local _ .vmem, ⟨4, _⟩ => ⟨S8x4096, .f32⟩
  | .local _ .vmem, ⟨5, _⟩ => ⟨S8x4096, .f32⟩
  | .local _ .vmem, ⟨6, _⟩ => ⟨S8x4096, .f32⟩
  | .local _ .vmem, ⟨7, _⟩ => ⟨S8x4096, .f32⟩
  | .local _ .vmem, ⟨8, _⟩ => ⟨S4x256x1024, .bf16⟩
  | .local _ .vmem, ⟨9, _⟩ => ⟨S4x256x1024, .bf16⟩
  | .local _ .vmem, ⟨10, _⟩ => ⟨S4x1024x256, .bf16⟩
  | .local _ .vmem, ⟨11, _⟩ => ⟨S4x1024x256, .bf16⟩
  | .local _ .vmem, ⟨12, _⟩ => ⟨S1x1024, .f32⟩
  | .local _ .vmem, ⟨13, _⟩ => ⟨S1024x1024, .bf16⟩
  | .local _ .vmem, ⟨14, _⟩ => ⟨S1x1024, .f32⟩
  | .local _ .vmem, ⟨15, _⟩ => ⟨S64x1024, .bf16⟩
  | .local _ .vmem, ⟨16, _⟩ => ⟨S64x1024, .bf16⟩
  | .local _ .vmem, ⟨17, _⟩ => ⟨S8x4096, .f32⟩
  | .local _ .vmem, ⟨18, _⟩ => ⟨S8x4096, .f32⟩
  | .local _ .vmem, ⟨19, _⟩ => ⟨S8x4096, .f32⟩
  | .local _ .vmem, ⟨20, _⟩ => ⟨S8x4096, .f32⟩
  | .local _ .vmem, ⟨21, _⟩ => ⟨S8x8x1024, .f32⟩
  | .local _ .vmem, ⟨22, _⟩ => ⟨S8x8x1024, .f32⟩
  | .local _ .vmem, ⟨23, _⟩ => ⟨S64x1024, .f32⟩
  | .local _ .vmem, ⟨24, _⟩ => ⟨S1x4096, .f32⟩
  | .local _ .vmem, ⟨25, _⟩ => ⟨S1x4096, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_1 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c_2 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70_0 : Ref sig .tc := ⟨.hbm, 86, rfl⟩
abbrev main_v70_1 : Ref sig .tc := ⟨.hbm, 87, rfl⟩
abbrev main_v70_2 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S64x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x4096 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ScanRefIdeal.lean ====
abbrev S256x1024 : Shape := ⟨2, ![256, 1024]⟩
abbrev S1x32x64x64 : Shape := ⟨4, ![1, 32, 64, 64]⟩
abbrev S8x64x64 : Shape := ⟨3, ![8, 64, 64]⟩
abbrev S64x64x16 : Shape := ⟨3, ![64, 64, 16]⟩
abbrev S1x64x16x64 : Shape := ⟨4, ![1, 64, 16, 64]⟩
abbrev S1x1024 : Shape := ⟨2, ![1, 1024]⟩
abbrev S1x1024x1024 : Shape := ⟨3, ![1, 1024, 1024]⟩
abbrev S32x8x64x16 : Shape := ⟨4, ![32, 8, 64, 16]⟩
abbrev S64x64x32x8 : Shape := ⟨4, ![64, 64, 32, 8]⟩
abbrev S32x8x64x64 : Shape := ⟨4, ![32, 8, 64, 64]⟩
abbrev S1x64x64 : Shape := ⟨3, ![1, 64, 64]⟩
abbrev S64x64 : Shape := ⟨2, ![64, 64]⟩
abbrev S32x1x64x64 : Shape := ⟨4, ![32, 1, 64, 64]⟩
abbrev S32x64x64 : Shape := ⟨3, ![32, 64, 64]⟩
abbrev S1x8x64x64 : Shape := ⟨4, ![1, 8, 64, 64]⟩
abbrev S64x16x64 : Shape := ⟨3, ![64, 16, 64]⟩
abbrev S64x32x8x16 : Shape := ⟨4, ![64, 32, 8, 16]⟩
abbrev S1024 : Shape := ⟨1, ![1024]⟩
abbrev S64x16 : Shape := ⟨2, ![64, 16]⟩
abbrev S1x1x64x16 : Shape := ⟨4, ![1, 1, 64, 16]⟩
abbrev S_ : Shape := ⟨0, ![]⟩
abbrev S1024x1024 : Shape := ⟨2, ![1024, 1024]⟩
abbrev S32x4096 : Shape := ⟨2, ![32, 4096]⟩

abbrev nBuf : Space → Nat
  | .hbm => 260
  | .vmem => 0
  | .smem => 0
  | _ => 0

abbrev hbmTy0_0 (i : Nat) : BufTy := match i % 128 with
  | 0 => ⟨S256x1024, .f32⟩
  | 1 => ⟨S1x32x64x64, .f32⟩
  | 2 => ⟨S1x32x64x64, .f32⟩
  | 3 => ⟨S8x64x64, .f32⟩
  | 4 => ⟨S8x64x64, .f32⟩
  | 5 => ⟨S64x64x16, .f32⟩
  | 6 => ⟨S64x64x16, .f32⟩
  | 7 => ⟨S1x64x16x64, .f32⟩
  | 8 => ⟨S1x64x16x64, .f32⟩
  | 9 => ⟨S1x1024, .f32⟩
  | 10 => ⟨S1x1024x1024, .f32⟩
  | 11 => ⟨S1x1024, .f32⟩
  | 12 => ⟨S32x8x64x16, .f32⟩
  | 13 => ⟨S64x64x32x8, .f32⟩
  | 14 => ⟨S32x8x64x64, .f32⟩
  | 15 => ⟨S64x64x32x8, .f32⟩
  | 16 => ⟨S32x8x64x64, .f32⟩
  | 17 => ⟨S1x64x64, .f32⟩
  | 18 => ⟨S64x64, .f32⟩
  | 19 => ⟨S1x64x64, .f32⟩
  | 20 => ⟨S64x64, .f32⟩
  | 21 => ⟨S32x1x64x64, .f32⟩
  | 22 => ⟨S32x64x64, .f32⟩
  | 23 => ⟨S32x1x64x64, .f32⟩
  | 24 => ⟨S32x64x64, .f32⟩
  | 25 => ⟨S1x64x64, .f32⟩
  | 26 => ⟨S32x64x64, .f32⟩
  | 27 => ⟨S32x64x64, .f32⟩
  | 28 => ⟨S1x64x64, .f32⟩
  | 29 => ⟨S32x64x64, .f32⟩
  | 30 => ⟨S32x64x64, .f32⟩
  | 31 => ⟨S32x64x64, .f32⟩
  | 32 => ⟨S32x1x64x64, .f32⟩
  | 33 => ⟨S32x64x64, .f32⟩
  | 34 => ⟨S32x64x64, .f32⟩
  | 35 => ⟨S1x64x64, .f32⟩
  | 36 => ⟨S32x64x64, .f32⟩
  | 37 => ⟨S32x64x64, .f32⟩
  | 38 => ⟨S1x64x64, .f32⟩
  | 39 => ⟨S32x64x64, .f32⟩
  | 40 => ⟨S32x64x64, .f32⟩
  | 41 => ⟨S32x64x64, .f32⟩
  | 42 => ⟨S32x1x64x64, .f32⟩
  | 43 => ⟨S32x64x64, .f32⟩
  | 44 => ⟨S32x64x64, .f32⟩
  | 45 => ⟨S1x64x64, .f32⟩
  | 46 => ⟨S32x64x64, .f32⟩
  | 47 => ⟨S32x64x64, .f32⟩
  | 48 => ⟨S1x64x64, .f32⟩
  | 49 => ⟨S32x64x64, .f32⟩
  | 50 => ⟨S32x64x64, .f32⟩
  | 51 => ⟨S32x64x64, .f32⟩
  | 52 => ⟨S32x1x64x64, .f32⟩
  | 53 => ⟨S32x64x64, .f32⟩
  | 54 => ⟨S32x64x64, .f32⟩
  | 55 => ⟨S1x64x64, .f32⟩
  | 56 => ⟨S32x64x64, .f32⟩
  | 57 => ⟨S32x64x64, .f32⟩
  | 58 => ⟨S1x64x64, .f32⟩
  | 59 => ⟨S32x64x64, .f32⟩
  | 60 => ⟨S32x64x64, .f32⟩
  | 61 => ⟨S32x64x64, .f32⟩
  | 62 => ⟨S32x1x64x64, .f32⟩
  | 63 => ⟨S32x64x64, .f32⟩
  | 64 => ⟨S32x64x64, .f32⟩
  | 65 => ⟨S1x64x64, .f32⟩
  | 66 => ⟨S32x64x64, .f32⟩
  | 67 => ⟨S32x64x64, .f32⟩
  | 68 => ⟨S1x64x64, .f32⟩
  | 69 => ⟨S32x64x64, .f32⟩
  | 70 => ⟨S32x64x64, .f32⟩
  | 71 => ⟨S32x64x64, .f32⟩
  | 72 => ⟨S32x1x64x64, .f32⟩
  | 73 => ⟨S32x64x64, .f32⟩
  | 74 => ⟨S32x64x64, .f32⟩
  | 75 => ⟨S1x64x64, .f32⟩
  | 76 => ⟨S32x64x64, .f32⟩
  | 77 => ⟨S32x64x64, .f32⟩
  | 78 => ⟨S1x64x64, .f32⟩
  | 79 => ⟨S32x64x64, .f32⟩
  | 80 => ⟨S32x64x64, .f32⟩
  | 81 => ⟨S32x64x64, .f32⟩
  | 82 => ⟨S32x1x64x64, .f32⟩
  | 83 => ⟨S32x64x64, .f32⟩
  | 84 => ⟨S32x64x64, .f32⟩
  | 85 => ⟨S1x64x64, .f32⟩
  | 86 => ⟨S32x64x64, .f32⟩
  | 87 => ⟨S32x64x64, .f32⟩
  | 88 => ⟨S1x64x64, .f32⟩
  | 89 => ⟨S32x64x64, .f32⟩
  | 90 => ⟨S32x64x64, .f32⟩
  | 91 => ⟨S32x64x64, .f32⟩
  | 92 => ⟨S32x1x64x64, .f32⟩
  | 93 => ⟨S32x64x64, .f32⟩
  | 94 => ⟨S32x64x64, .f32⟩
  | 95 => ⟨S1x64x64, .f32⟩
  | 96 => ⟨S32x64x64, .f32⟩
  | 97 => ⟨S32x64x64, .f32⟩
  | 98 => ⟨S1x64x64, .f32⟩
  | 99 => ⟨S32x64x64, .f32⟩
  | 100 => ⟨S32x64x64, .f32⟩
  | 101 => ⟨S32x64x64, .f32⟩
  | 102 => ⟨S32x1x64x64, .f32⟩
  | 103 => ⟨S32x64x64, .f32⟩
  | 104 => ⟨S32x64x64, .f32⟩
  | 105 => ⟨S1x64x64, .f32⟩
  | 106 => ⟨S32x64x64, .f32⟩
  | 107 => ⟨S32x64x64, .f32⟩
  | 108 => ⟨S1x64x64, .f32⟩
  | 109 => ⟨S32x64x64, .f32⟩
  | 110 => ⟨S32x64x64, .f32⟩
  | 111 => ⟨S32x64x64, .f32⟩
  | 112 => ⟨S32x1x64x64, .f32⟩
  | 113 => ⟨S32x64x64, .f32⟩
  | 114 => ⟨S32x64x64, .f32⟩
  | 115 => ⟨S1x64x64, .f32⟩
  | 116 => ⟨S32x64x64, .f32⟩
  | 117 => ⟨S32x64x64, .f32⟩
  | 118 => ⟨S1x64x64, .f32⟩
  | 119 => ⟨S32x64x64, .f32⟩
  | 120 => ⟨S32x64x64, .f32⟩
  | 121 => ⟨S32x64x64, .f32⟩
  | 122 => ⟨S32x1x64x64, .f32⟩
  | 123 => ⟨S32x64x64, .f32⟩
  | 124 => ⟨S32x64x64, .f32⟩
  | 125 => ⟨S1x64x64, .f32⟩
  | 126 => ⟨S32x64x64, .f32⟩
  | 127 => ⟨S32x64x64, .f32⟩
  | _ => ⟨S256x1024, .f32⟩

abbrev hbmTy0_1 (i : Nat) : BufTy := match i % 128 with
  | 0 => ⟨S1x64x64, .f32⟩
  | 1 => ⟨S32x64x64, .f32⟩
  | 2 => ⟨S32x64x64, .f32⟩
  | 3 => ⟨S32x64x64, .f32⟩
  | 4 => ⟨S32x1x64x64, .f32⟩
  | 5 => ⟨S32x64x64, .f32⟩
  | 6 => ⟨S32x64x64, .f32⟩
  | 7 => ⟨S1x64x64, .f32⟩
  | 8 => ⟨S32x64x64, .f32⟩
  | 9 => ⟨S32x64x64, .f32⟩
  | 10 => ⟨S1x64x64, .f32⟩
  | 11 => ⟨S32x64x64, .f32⟩
  | 12 => ⟨S32x64x64, .f32⟩
  | 13 => ⟨S32x64x64, .f32⟩
  | 14 => ⟨S32x1x64x64, .f32⟩
  | 15 => ⟨S32x64x64, .f32⟩
  | 16 => ⟨S32x64x64, .f32⟩
  | 17 => ⟨S1x64x64, .f32⟩
  | 18 => ⟨S32x64x64, .f32⟩
  | 19 => ⟨S32x64x64, .f32⟩
  | 20 => ⟨S1x64x64, .f32⟩
  | 21 => ⟨S32x64x64, .f32⟩
  | 22 => ⟨S32x64x64, .f32⟩
  | 23 => ⟨S32x64x64, .f32⟩
  | 24 => ⟨S32x1x64x64, .f32⟩
  | 25 => ⟨S32x64x64, .f32⟩
  | 26 => ⟨S32x64x64, .f32⟩
  | 27 => ⟨S1x64x64, .f32⟩
  | 28 => ⟨S32x64x64, .f32⟩
  | 29 => ⟨S32x64x64, .f32⟩
  | 30 => ⟨S1x64x64, .f32⟩
  | 31 => ⟨S32x64x64, .f32⟩
  | 32 => ⟨S32x64x64, .f32⟩
  | 33 => ⟨S32x64x64, .f32⟩
  | 34 => ⟨S32x1x64x64, .f32⟩
  | 35 => ⟨S32x64x64, .f32⟩
  | 36 => ⟨S32x64x64, .f32⟩
  | 37 => ⟨S32x64x64, .f32⟩
  | 38 => ⟨S32x1x64x64, .f32⟩
  | 39 => ⟨S32x64x64, .f32⟩
  | 40 => ⟨S32x1x64x64, .f32⟩
  | 41 => ⟨S32x1x64x64, .f32⟩
  | 42 => ⟨S32x1x64x64, .f32⟩
  | 43 => ⟨S32x1x64x64, .f32⟩
  | 44 => ⟨S32x1x64x64, .f32⟩
  | 45 => ⟨S32x1x64x64, .f32⟩
  | 46 => ⟨S32x1x64x64, .f32⟩
  | 47 => ⟨S32x1x64x64, .f32⟩
  | 48 => ⟨S32x1x64x64, .f32⟩
  | 49 => ⟨S32x8x64x64, .f32⟩
  | 50 => ⟨S1x8x64x64, .f32⟩
  | 51 => ⟨S32x8x64x64, .f32⟩
  | 52 => ⟨S32x8x64x64, .f32⟩
  | 53 => ⟨S32x8x64x64, .f32⟩
  | 54 => ⟨S32x8x64x64, .f32⟩
  | 55 => ⟨S1x8x64x64, .f32⟩
  | 56 => ⟨S32x8x64x64, .f32⟩
  | 57 => ⟨S32x8x64x64, .f32⟩
  | 58 => ⟨S32x8x64x64, .f32⟩
  | 59 => ⟨S32x8x64x64, .f32⟩
  | 60 => ⟨S32x1x64x64, .f32⟩
  | 61 => ⟨S32x1x64x64, .f32⟩
  | 62 => ⟨S32x1x64x64, .f32⟩
  | 63 => ⟨S32x1x64x64, .f32⟩
  | 64 => ⟨S32x1x64x64, .f32⟩
  | 65 => ⟨S32x1x64x64, .f32⟩
  | 66 => ⟨S32x1x64x64, .f32⟩
  | 67 => ⟨S32x1x64x64, .f32⟩
  | 68 => ⟨S32x8x64x64, .f32⟩
  | 69 => ⟨S1x8x64x64, .f32⟩
  | 70 => ⟨S32x8x64x64, .f32⟩
  | 71 => ⟨S32x8x64x64, .f32⟩
  | 72 => ⟨S32x8x64x64, .f32⟩
  | 73 => ⟨S32x8x64x64, .f32⟩
  | 74 => ⟨S1x8x64x64, .f32⟩
  | 75 => ⟨S32x8x64x64, .f32⟩
  | 76 => ⟨S32x8x64x64, .f32⟩
  | 77 => ⟨S32x8x64x64, .f32⟩
  | 78 => ⟨S32x8x64x64, .f32⟩
  | 79 => ⟨S64x16x64, .f32⟩
  | 80 => ⟨S64x32x8x16, .f32⟩
  | 81 => ⟨S32x8x64x16, .f32⟩
  | 82 => ⟨S64x16x64, .f32⟩
  | 83 => ⟨S64x32x8x16, .f32⟩
  | 84 => ⟨S32x8x64x16, .f32⟩
  | 85 => ⟨S32x8x64x16, .f32⟩
  | 86 => ⟨S1024, .f32⟩
  | 87 => ⟨S64x16, .f32⟩
  | 88 => ⟨S1x1x64x16, .f32⟩
  | 89 => ⟨S32x8x64x16, .f32⟩
  | 90 => ⟨S32x8x64x16, .f32⟩
  | 91 => ⟨S32x8x64x16, .f32⟩
  | 92 => ⟨S256x1024, .f32⟩
  | 93 => ⟨S256x1024, .f32⟩
  | 94 => ⟨S256x1024, .f32⟩
  | 95 => ⟨S_, .f32⟩
  | 96 => ⟨S256x1024, .f32⟩
  | 97 => ⟨S256x1024, .f32⟩
  | 98 => ⟨S256x1024, .f32⟩
  | 99 => ⟨S_, .f32⟩
  | 100 => ⟨S256x1024, .f32⟩
  | 101 => ⟨S256x1024, .f32⟩
  | 102 => ⟨S256x1024, .f32⟩
  | 103 => ⟨S_, .f32⟩
  | 104 => ⟨S256x1024, .f32⟩
  | 105 => ⟨S256x1024, .f32⟩
  | 106 => ⟨S_, .f32⟩
  | 107 => ⟨S256x1024, .f32⟩
  | 108 => ⟨S256x1024, .f32⟩
  | 109 => ⟨S256x1024, .f32⟩
  | 110 => ⟨S1024x1024, .f32⟩
  | 111 => ⟨S256x1024, .f32⟩
  | 112 => ⟨S1024, .f32⟩
  | 113 => ⟨S1x1024, .f32⟩
  | 114 => ⟨S256x1024, .f32⟩
  | 115 => ⟨S256x1024, .f32⟩
  | 116 => ⟨S256x1024, .f32⟩
  | 117 => ⟨S256x1024, .f32⟩
  | 118 => ⟨S_, .f32⟩
  | 119 => ⟨S256x1024, .f32⟩
  | 120 => ⟨S256x1024, .f32⟩
  | 121 => ⟨S_, .f32⟩
  | 122 => ⟨S256x1024, .f32⟩
  | 123 => ⟨S256x1024, .f32⟩
  | 124 => ⟨S256x1024, .f32⟩
  | 125 => ⟨S256x1024, .bf16⟩
  | 126 => ⟨S32x1x64x64, .f32⟩
  | 127 => ⟨S32x64x64, .f32⟩
  | _ => ⟨S256x1024, .f32⟩

abbrev hbmTy0_2 (i : Nat) : BufTy := match i % 128 with
  | 0 => ⟨S32x4096, .f32⟩
  | 1 => ⟨S32x1x64x64, .f32⟩
  | 2 => ⟨S32x64x64, .f32⟩
  | 3 => ⟨S32x4096, .f32⟩
  | _ => ⟨S256x1024, .f32⟩

abbrev hbmTy (i : Nat) : BufTy := match i / 128 with
  | 0 => hbmTy0_0 i
  | 1 => hbmTy0_1 i
  | 2 => hbmTy0_2 i
  | _ => ⟨S256x1024, .f32⟩

abbrev bufTy : (tb : Table) → Fin (tcTables nBuf tb) → BufTy
  | .hbm, ⟨i, _⟩ => hbmTy i
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_cst : Ref sig .tc := ⟨.hbm, 223, rfl⟩
abbrev main_v211 : Ref sig .tc := ⟨.hbm, 224, rfl⟩
abbrev main_v212 : Ref sig .tc := ⟨.hbm, 225, rfl⟩
abbrev main_v213 : Ref sig .tc := ⟨.hbm, 226, rfl⟩
abbrev main_cst_0 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_cst_1 : Ref sig .tc := ⟨.hbm, 231, rfl⟩
abbrev main_v217 : Ref sig .tc := ⟨.hbm, 232, rfl⟩
abbrev main_v218 : Ref sig .tc := ⟨.hbm, 233, rfl⟩
abbrev main_cst_2 : Ref sig .tc := ⟨.hbm, 234, rfl⟩
abbrev main_v219 : Ref sig .tc := ⟨.hbm, 235, rfl⟩
abbrev main_v220 : Ref sig .tc := ⟨.hbm, 236, rfl⟩
abbrev main_v221 : Ref sig .tc := ⟨.hbm, 237, rfl⟩
abbrev main_v222 : Ref sig .tc := ⟨.hbm, 238, rfl⟩
abbrev main_v223 : Ref sig .tc := ⟨.hbm, 239, rfl⟩
abbrev main_v224 : Ref sig .tc := ⟨.hbm, 240, rfl⟩
abbrev main_v225 : Ref sig .tc := ⟨.hbm, 241, rfl⟩
abbrev main_v226 : Ref sig .tc := ⟨.hbm, 242, rfl⟩
abbrev main_v227 : Ref sig .tc := ⟨.hbm, 243, rfl⟩
abbrev main_v228 : Ref sig .tc := ⟨.hbm, 244, rfl⟩
abbrev main_v229 : Ref sig .tc := ⟨.hbm, 245, rfl⟩
abbrev main_cst_3 : Ref sig .tc := ⟨.hbm, 246, rfl⟩
abbrev main_v230 : Ref sig .tc := ⟨.hbm, 247, rfl⟩
abbrev main_v231 : Ref sig .tc := ⟨.hbm, 248, rfl⟩
abbrev main_cst_4 : Ref sig .tc := ⟨.hbm, 249, rfl⟩
abbrev main_v232 : Ref sig .tc := ⟨.hbm, 250, rfl⟩
abbrev main_v233 : Ref sig .tc := ⟨.hbm, 251, rfl⟩
abbrev main_v234 : Ref sig .tc := ⟨.hbm, 252, rfl⟩
abbrev main_v235 : Ref sig .tc := ⟨.hbm, 253, rfl⟩
abbrev main_v236 : Ref sig .tc := ⟨.hbm, 254, rfl⟩
abbrev main_v237 : Ref sig .tc := ⟨.hbm, 255, rfl⟩
abbrev main_v238 : Ref sig .tc := ⟨.hbm, 256, rfl⟩
abbrev main_v239 : Ref sig .tc := ⟨.hbm, 257, rfl⟩
abbrev main_v240 : Ref sig .tc := ⟨.hbm, 258, rfl⟩
abbrev main_v241 : Ref sig .tc := ⟨.hbm, 259, rfl⟩

abbrev nD : Nat := 1
abbrev τ : Topo := Topo.v7x

variable {F : FTy → Type} [FloatOps F]
-- ==== Proj.lean ====
abbrev S2x8192x2048 : Shape := ⟨3, ![2, 8192, 2048]⟩
abbrev S1x2048x4096 : Shape := ⟨3, ![1, 2048, 4096]⟩
abbrev S16384x2048 : Shape := ⟨2, ![16384, 2048]⟩
abbrev S2048x4096 : Shape := ⟨2, ![2048, 4096]⟩
abbrev S32x1024x512 : Shape := ⟨3, ![32, 1024, 512]⟩
abbrev S131072x128 : Shape := ⟨2, ![131072, 128]⟩
abbrev S16384x1024 : Shape := ⟨2, ![16384, 1024]⟩
abbrev S512x2048 : Shape := ⟨2, ![512, 2048]⟩
abbrev S1x1024x512 : Shape := ⟨3, ![1, 1024, 512]⟩
abbrev S4096x128 : Shape := ⟨2, ![4096, 128]⟩
abbrev S512x1024 : Shape := ⟨2, ![512, 1024]⟩
abbrev S2048x1024 : Shape := ⟨2, ![2048, 1024]⟩
abbrev S1024x512 : Shape := ⟨2, ![1024, 512]⟩
abbrev S512x128 : Shape := ⟨2, ![512, 128]⟩

abbrev nBuf : Space → Nat
  | .hbm => 11
  | .vmem => 15
  | .smem => 0
  | _ => 0

abbrev bufTy : (tb : Table) → Fin (tcTables nBuf tb) → BufTy
  | .hbm, ⟨0, _⟩ => ⟨S2x8192x2048, .f32⟩
  | .hbm, ⟨1, _⟩ => ⟨S1x2048x4096, .f32⟩
  | .hbm, ⟨2, _⟩ => ⟨S16384x2048, .f32⟩
  | .hbm, ⟨3, _⟩ => ⟨S2048x4096, .f32⟩
  | .hbm, ⟨4, _⟩ => ⟨S2048x4096, .bf16⟩
  | .hbm, ⟨5, _⟩ => ⟨S32x1024x512, .bf16⟩
  | .hbm, ⟨6, _⟩ => ⟨S131072x128, .f32⟩
  | .hbm, ⟨7, _⟩ => ⟨S131072x128, .f32⟩
  | .hbm, ⟨8, _⟩ => ⟨S16384x2048, .bf16⟩
  | .hbm, ⟨9, _⟩ => ⟨S32x1024x512, .bf16⟩
  | .hbm, ⟨10, _⟩ => ⟨S16384x1024, .f32⟩
  | .local _ .vmem, ⟨0, _⟩ => ⟨S512x2048, .f32⟩
  | .local _ .vmem, ⟨1, _⟩ => ⟨S512x2048, .f32⟩
  | .local _ .vmem, ⟨2, _⟩ => ⟨S2048x4096, .bf16⟩
  | .local _ .vmem, ⟨3, _⟩ => ⟨S1x1024x512, .bf16⟩
  | .local _ .vmem, ⟨4, _⟩ => ⟨S1x1024x512, .bf16⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S512x2048, .bf16⟩
  | .local _ .vmem, ⟨10, _⟩ => ⟨S512x2048, .bf16⟩
  | .local _ .vmem, ⟨11, _⟩ => ⟨S1x1024x512, .bf16⟩
  | .local _ .vmem, ⟨12, _⟩ => ⟨S1x1024x512, .bf16⟩
  | .local _ .vmem, ⟨13, _⟩ => ⟨S512x1024, .f32⟩
  | .local _ .vmem, ⟨14, _⟩ => ⟨S512x1024, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev main_v3_4 : Ref sig .tc := ⟨.hbm, 9, rfl⟩
abbrev main_v3_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjRefIdeal.lean ====
abbrev S2x8192x2048 : Shape := ⟨3, ![2, 8192, 2048]⟩
abbrev S1x2048x4096 : Shape := ⟨3, ![1, 2048, 4096]⟩
abbrev S2048x4096 : Shape := ⟨2, ![2048, 4096]⟩
abbrev S2x8192x4096 : Shape := ⟨3, ![2, 8192, 4096]⟩
abbrev S2x8192x1024 : Shape := ⟨3, ![2, 8192, 1024]⟩
abbrev S_ : Shape := ⟨0, ![]⟩
abbrev S8192x128 : Shape := ⟨2, ![8192, 128]⟩
abbrev S2x8192x8x128 : Shape := ⟨4, ![2, 8192, 8, 128]⟩
abbrev S1x8192x1x128 : Shape := ⟨4, ![1, 8192, 1, 128]⟩
abbrev S2x8192x8x256 : Shape := ⟨4, ![2, 8192, 8, 256]⟩
abbrev S32x512x1024 : Shape := ⟨3, ![32, 512, 1024]⟩
abbrev S32x1024x512 : Shape := ⟨3, ![32, 1024, 512]⟩
abbrev S131072x128 : Shape := ⟨2, ![131072, 128]⟩
abbrev S16384x2048 : Shape := ⟨2, ![16384, 2048]⟩
abbrev S16384x1024 : Shape := ⟨2, ![16384, 1024]⟩

abbrev nBuf : Space → Nat
  | .hbm => 46
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S1x2048x4096, .f32⟩
  | .hbm, ⟨2, _⟩ => ⟨S2048x4096, .f32⟩
  | .hbm, ⟨3, _⟩ => ⟨S2x8192x4096, .f32⟩
  | .hbm, ⟨4, _⟩ => ⟨S2x8192x1024, .f32⟩
  | .hbm, ⟨5, _⟩ => ⟨S_, .f32⟩
  | .hbm, ⟨6, _⟩ => ⟨S2x8192x1024, .f32⟩
  | .hbm, ⟨7, _⟩ => ⟨S2x8192x1024, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S8192x128, .i32⟩
  | .hbm, ⟨12, _⟩ => ⟨S8192x128, .i32⟩
  | .hbm, ⟨13, _⟩ => ⟨S_, .i32⟩
  | .hbm, ⟨14, _⟩ => ⟨S8192x128, .i32⟩
  | .hbm, ⟨15, _⟩ => ⟨S8192x128, .i1⟩
  | .hbm, ⟨16, _⟩ => ⟨S_, .i32⟩
  | .hbm, ⟨17, _⟩ => ⟨S8192x128, .i32⟩
  | .hbm, ⟨18, _⟩ => ⟨S8192x128, .i32⟩
  | .hbm, ⟨19, _⟩ => ⟨S_, .i32⟩
  | .hbm, ⟨20, _⟩ => ⟨S8192x128, .i32⟩
  | .hbm, ⟨21, _⟩ => ⟨S8192x128, .i1⟩
  | .hbm, ⟨22, _⟩ => ⟨S_, .i32⟩
  | .hbm, ⟨23, _⟩ => ⟨S8192x128, .i32⟩
  | .hbm, ⟨24, _⟩ => ⟨S8192x128, .i32⟩
  | .hbm, ⟨25, _⟩ => ⟨S_, .i32⟩
  | .hbm, ⟨26, _⟩ => ⟨S_, .i32⟩
  | .hbm, ⟨27, _⟩ => ⟨S8192x128, .i32⟩
  | .hbm, ⟨28, _⟩ => ⟨S8192x128, .i32⟩
  | .hbm, ⟨29, _⟩ => ⟨S8192x128, .i32⟩
  | .hbm, ⟨30, _⟩ => ⟨S8192x128, .f32⟩
  | .hbm, ⟨31, _⟩ => ⟨S2x8192x8x128, .f32⟩
  | .hbm, ⟨32, _⟩ => ⟨S1x8192x1x128, .f32⟩
  | .hbm, ⟨33, _⟩ => ⟨S2x8192x8x128, .f32⟩
  | .hbm, ⟨34, _⟩ => ⟨S2x8192x8x256, .f32⟩
  | .hbm, ⟨35, _⟩ => ⟨S32x512x1024, .f32⟩
  | .hbm, ⟨36, _⟩ => ⟨S32x1024x512, .f32⟩
  | .hbm, ⟨37, _⟩ => ⟨S32x1024x512, .bf16⟩
  | .hbm, ⟨38, _⟩ => ⟨S131072x128, .f32⟩
  | .hbm, ⟨39, _⟩ => ⟨S131072x128, .f32⟩
  | .hbm, ⟨40, _⟩ => ⟨S16384x2048, .f32⟩
  | .hbm, ⟨41, _⟩ => ⟨S16384x2048, .bf16⟩
  | .hbm, ⟨42, _⟩ => ⟨S32x512x1024, .f32⟩
  | .hbm, ⟨43, _⟩ => ⟨S32x1024x512, .f32⟩
  | .hbm, ⟨44, _⟩ => ⟨S32x1024x512, .bf16⟩
  | .hbm, ⟨45, _⟩ => ⟨S16384x1024, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_c_1 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== ProjS.lean ====
abbrev S32x8x2048 : Shape := ⟨3, ![32, 8, 2048]⟩
abbrev S1x2048x4096 : Shape := ⟨3, ![1, 2048, 4096]⟩
abbrev S256x2048 : Shape := ⟨2, ![256, 2048]⟩
abbrev S2048x4096 : Shape := ⟨2, ![2048, 4096]⟩
abbrev S256x1024 : Shape := ⟨2, ![256, 1024]⟩
abbrev S2048x128 : Shape := ⟨2, ![2048, 128]⟩
abbrev S2048x1024 : Shape := ⟨2, ![2048, 1024]⟩
abbrev S256x128 : Shape := ⟨2, ![256, 128]⟩

abbrev nBuf : Space → Nat
  | .hbm => 9
  | .vmem => 6
  | .smem => 0
  | _ => 0

abbrev bufTy : (tb : Table) → Fin (tcTables nBuf tb) → BufTy
  | .hbm, ⟨0, _⟩ => ⟨S32x8x2048, .f32⟩
  | .hbm, ⟨1, _⟩ => ⟨S1x2048x4096, .f32⟩
  | .hbm, ⟨2, _⟩ => ⟨S256x2048, .f32⟩
  | .hbm, ⟨3, _⟩ => ⟨S2048x4096, .f32⟩
  | .hbm, ⟨4, _⟩ => ⟨S2048x4096, .bf16⟩
  | .hbm, ⟨5, _⟩ => ⟨S256x1024, .f32⟩
  | .hbm, ⟨6, _⟩ => ⟨S2048x128, .f32⟩
  | .hbm, ⟨7, _⟩ => ⟨S2048x128, .f32⟩
  | .hbm, ⟨8, _⟩ => ⟨S256x1024, .f32⟩
  | .local _ .vmem, ⟨0, _⟩ => ⟨S256x2048, .f32⟩
  | .local _ .vmem, ⟨1, _⟩ => ⟨S2048x4096, .bf16⟩
  | .local _ .vmem, ⟨2, _⟩ => ⟨S256x1024, .f32⟩
  | .local _ .vmem, ⟨3, _⟩ => ⟨S2048x128, .f32⟩
  | .local _ .vmem, ⟨4, _⟩ => ⟨S2048x128, .f32⟩
  | .local _ .vmem, ⟨5, _⟩ => ⟨S256x1024, .f32⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== ProjSRefIdeal.lean ====
abbrev S32x8x2048 : Shape := ⟨3, ![32, 8, 2048]⟩
abbrev S1x2048x4096 : Shape := ⟨3, ![1, 2048, 4096]⟩
abbrev S2048x4096 : Shape := ⟨2, ![2048, 4096]⟩
abbrev S32x8x4096 : Shape := ⟨3, ![32, 8, 4096]⟩
abbrev S32x8x1024 : Shape := ⟨3, ![32, 8, 1024]⟩
abbrev S_ : Shape := ⟨0, ![]⟩
abbrev S256x1024 : Shape := ⟨2, ![256, 1024]⟩
abbrev S2048x128 : Shape := ⟨2, ![2048, 128]⟩

abbrev nBuf : Space → Nat
  | .hbm => 15
  | .vmem => 0
  | .smem => 0
  | _ => 0

abbrev bufTy : (tb : Table) → Fin (tcTables nBuf tb) → BufTy
  | .hbm, ⟨0, _⟩ => ⟨S32x8x2048, .f32⟩
  | .hbm, ⟨1, _⟩ => ⟨S1x2048x4096, .f32⟩
  | .hbm, ⟨2, _⟩ => ⟨S2048x4096, .f32⟩
  | .hbm, ⟨3, _⟩ => ⟨S32x8x4096, .f32⟩
  | .hbm, ⟨4, _⟩ => ⟨S32x8x1024, .f32⟩
  | .hbm, ⟨5, _⟩ => ⟨S_, .f32⟩
  | .hbm, ⟨6, _⟩ => ⟨S32x8x1024, .f32⟩
  | .hbm, ⟨7, _⟩ => ⟨S32x8x1024, .f32⟩
  | .hbm, ⟨8, _⟩ => ⟨S32x8x1024, .f32⟩
  | .hbm, ⟨9, _⟩ => ⟨S32x8x1024, .f32⟩
  | .hbm, ⟨10, _⟩ => ⟨S32x8x1024, .f32⟩
  | .hbm, ⟨11, _⟩ => ⟨S256x1024, .f32⟩
  | .hbm, ⟨12, _⟩ => ⟨S2048x128, .f32⟩
  | .hbm, ⟨13, _⟩ => ⟨S2048x128, .f32⟩
  | .hbm, ⟨14, _⟩ => ⟨S256x1024, .f32⟩
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Prep.lean ====
abbrev S1x64x64 : Shape := ⟨3, ![1, 64, 64]⟩
abbrev S1x64 : Shape := ⟨2, ![1, 64]⟩
abbrev S1x64x64x16 : Shape := ⟨4, ![1, 64, 64, 16]⟩
abbrev S64x64 : Shape := ⟨2, ![64, 64]⟩
abbrev S1x4096 : Shape := ⟨2, ![1, 4096]⟩
abbrev S64 : Shape := ⟨1, ![64]⟩
abbrev S4096 : Shape := ⟨1, ![4096]⟩
abbrev S64x64x16 : Shape := ⟨3, ![64, 64, 16]⟩
abbrev S64x16x64 : Shape := ⟨3, ![64, 16, 64]⟩
abbrev S4x16x16x1x64 : Shape := ⟨5, ![4, 16, 16, 1, 64]⟩
abbrev S16x16 : Shape := ⟨2, ![16, 16]⟩
abbrev S_ : Shape := ⟨0, ![]⟩
abbrev S1x16x1x16x1 : Shape := ⟨5, ![1, 16, 1, 16, 1]⟩
abbrev S4x16x16x16x64 : Shape := ⟨5, ![4, 16, 16, 16, 64]⟩
abbrev S4x256x1024 : Shape := ⟨3, ![4, 256, 1024]⟩
abbrev S32x4096 : Shape := ⟨2, ![32, 4096]⟩
abbrev S32x1 : Shape := ⟨2, ![32, 1]⟩
abbrev S1x1024 : Shape := ⟨2, ![1, 1024]⟩
abbrev S1x256x1024 : Shape := ⟨3, ![1, 256, 1024]⟩
abbrev S256x1024 : Shape := ⟨2, ![256, 1024]⟩

abbrev nBuf : Space → Nat
  | .hbm => 47
  | .vmem => 9
  | .smem => 0
  | _ => 0

abbrev bufTy : (tb : Table) → Fin (tcTables nBuf tb) → BufTy
  | .hbm, ⟨0, _⟩ => ⟨S1x64x64, .f32⟩
  | .hbm, ⟨1, _⟩ => ⟨S1x64x64, .f32⟩
  | .hbm, ⟨2, _⟩ => ⟨S1x64, .f32⟩
  | .hbm, ⟨3, _⟩ => ⟨S1x64x64x16, .f32⟩
  | .hbm, ⟨4, _⟩ => ⟨S1x64x64x16, .f32⟩
  | .hbm, ⟨5, _⟩ => ⟨S64x64, .f32⟩
  | .hbm, ⟨6, _⟩ => ⟨S1x4096, .f32⟩
  | .hbm, ⟨7, _⟩ => ⟨S64x64, .f32⟩
  | .hbm, ⟨8, _⟩ => ⟨S1x4096, .f32⟩
  | .hbm, ⟨9, _⟩ => ⟨S64, .f32⟩
  | .hbm, ⟨10, _⟩ => ⟨S64x64, .f32⟩
  | .hbm, ⟨11, _⟩ => ⟨S4096, .f32⟩
  | .hbm, ⟨12, _⟩ => ⟨S1x4096, .f32⟩
  | .hbm, ⟨13, _⟩ => ⟨S64x64x16, .f32⟩
  | .hbm, ⟨14, _⟩ => ⟨S64x16x64, .f32⟩
  | .hbm, ⟨15, _⟩ => ⟨S4x16x16x1x64, .f32⟩
  | .hbm, ⟨16, _⟩ => ⟨S16x16, .i32⟩
  | .hbm, ⟨17, _⟩ => ⟨S16x16, .i32⟩
  | .hbm, ⟨18, _⟩ => ⟨S_, .i32⟩
  | .hbm, ⟨19, _⟩ => ⟨S16x16, .i32⟩
  | .hbm, ⟨20, _⟩ => ⟨S16x16, .i32⟩
  | .hbm, ⟨21, _⟩ => ⟨S16x16, .i1⟩
  | .hbm, ⟨22, _⟩ => ⟨S16x16, .f32⟩
  | .hbm, ⟨23, _⟩ => ⟨S1x16x1x16x1, .f32⟩
  | .hbm, ⟨24, _⟩ => ⟨S4x16x16x16x64, .f32⟩
  | .hbm, ⟨25, _⟩ => ⟨S4x16x16x16x64, .f32⟩
  | .hbm, ⟨26, _⟩ => ⟨S4x16x16x16x64, .f32⟩
  | .hbm, ⟨27, _⟩ => ⟨S4x256x1024, .f32⟩
  | .hbm, ⟨28, _⟩ => ⟨S64x64x16, .f32⟩
  | .hbm, ⟨29, _⟩ => ⟨S64x16x64, .f32⟩
  | .hbm, ⟨30, _⟩ => ⟨S4x16x16x1x64, .f32⟩
  | .hbm, ⟨31, _⟩ => ⟨S16x16, .i32⟩
  | .hbm, ⟨32, _⟩ => ⟨S16x16, .i32⟩
  | .hbm, ⟨33, _⟩ => ⟨S_, .i32⟩
  | .hbm, ⟨34, _⟩ => ⟨S16x16, .i32⟩
  | .hbm, ⟨35, _⟩ => ⟨S16x16, .i32⟩
  | .hbm, ⟨36, _⟩ => ⟨S16x16, .i1⟩
  | .hbm, ⟨37, _⟩ => ⟨S16x16, .f32⟩
  | .hbm, ⟨38, _⟩ => ⟨S1x16x1x16x1, .f32⟩
  | .hbm, ⟨39, _⟩ => ⟨S4x16x16x16x64, .f32⟩
  | .hbm, ⟨40, _⟩ => ⟨S4x16x16x16x64, .f32⟩
  | .hbm, ⟨41, _⟩ => ⟨S4x16x16x16x64, .f32⟩
  | .hbm, ⟨42, _⟩ => ⟨S4x256x1024, .f32⟩
  | .hbm, ⟨43, _⟩ => ⟨S32x4096, .f32⟩
  | .hbm, ⟨44, _⟩ => ⟨S32x4096, .f32⟩
  | .hbm, ⟨45, _⟩ => ⟨S4x256x1024, .bf16⟩
  | .hbm, ⟨46, _⟩ => ⟨S4x256x1024, .bf16⟩
  | .local _ .vmem, ⟨0, _⟩ => ⟨S1x4096, .f32⟩
  | .local _ .vmem, ⟨1, _⟩ => ⟨S1x4096, .f32⟩
  | .local _ .vmem, ⟨2, _⟩ => ⟨S1x4096, .f32⟩
  | .local _ .vmem, ⟨3, _⟩ => ⟨S4x256x1024, .f32⟩
  | .local _ .vmem, ⟨4, _⟩ => ⟨S4x256x1024, .f32⟩
  | .local _ .vmem, ⟨5, _⟩ => ⟨S32x4096, .f32⟩
  | .local _ .vmem, ⟨6, _⟩ => ⟨S32x4096, .f32⟩
  | .local _ .vmem, ⟨7, _⟩ => ⟨S4x256x1024, .bf16⟩
  | .local _ .vmem, ⟨8, _⟩ => ⟨S4x256x1024, .bf16⟩
  | _, _ => ⟨S1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_0 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36_0 : Ref sig .tc := ⟨.hbm, 43, rfl⟩
abbrev main_v36_1 : Ref sig .tc := ⟨.hbm, 44, rfl⟩
abbrev main_v36_2 : Ref sig .tc := ⟨.hbm, 45, rfl⟩
abbrev main_v36_3 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== PrepRefIdeal.lean ====
abbrev S1x64x64 : Shape := ⟨3, ![1, 64, 64]⟩
abbrev S1x64 : Shape := ⟨2, ![1, 64]⟩
abbrev S1x64x64x16 : Shape := ⟨4, ![1, 64, 64, 16]⟩
abbrev S64x64 : Shape := ⟨2, ![64, 64]⟩
abbrev S_ : Shape := ⟨0, ![]⟩
abbrev S64 : Shape := ⟨1, ![64]⟩
abbrev S64x1 : Shape := ⟨2, ![64, 1]⟩
abbrev S64x64x1 : Shape := ⟨3, ![64, 64, 1]⟩
abbrev S64x64x16 : Shape := ⟨3, ![64, 64, 16]⟩
abbrev S32x1x1 : Shape := ⟨3, ![32, 1, 1]⟩
abbrev S32x64x64 : Shape := ⟨3, ![32, 64, 64]⟩
abbrev S4x16x16x16x64 : Shape := ⟨5, ![4, 16, 16, 16, 64]⟩
abbrev S32x4096 : Shape := ⟨2, ![32, 4096]⟩
abbrev S64x16x64 : Shape := ⟨3, ![64, 16, 64]⟩
abbrev S4x16x16x1x64 : Shape := ⟨5, ![4, 16, 16, 1, 64]⟩
abbrev S4x256x1024 : Shape := ⟨3, ![4, 256, 1024]⟩

abbrev nBuf : Space → Nat
  | .hbm => 99
  | .vmem => 0
  | .smem => 0
  | _ => 0

abbrev bufTy : (tb : Table) → Fin (tcTables nBuf tb) → BufTy
  | .hbm, ⟨0, _⟩ => ⟨S1x64x64, .f32⟩
  | .hbm, ⟨1, _⟩ => ⟨S1x64x64, .f32⟩
  | .hbm, ⟨2, _⟩ => ⟨S1x64, .f32⟩
  | .hbm, ⟨3, _⟩ => ⟨S1x64x64x16, .f32⟩
  | .hbm, ⟨4, _⟩ => ⟨S1x64x64x16, .f32⟩
  | .hbm, ⟨5, _⟩ => ⟨S64x64, .f32⟩
  | .hbm, ⟨6, _⟩ => ⟨S_, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64, .f32⟩
  | .hbm, ⟨12, _⟩ => ⟨S64x1, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S_, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64x1, .f32⟩
  | .hbm, ⟨37, _⟩ => ⟨S64x64x16, .f32⟩
  | .hbm, ⟨38, _⟩ => ⟨S64x64x16, .f32⟩
  | .hbm, ⟨39, _⟩ => ⟨S64x64x16, .f32⟩
  | .hbm, ⟨40, _⟩ => ⟨S64x64x1, .f32⟩
  | .hbm, ⟨41, _⟩ => ⟨S64x64x16, .f32⟩
  | .hbm, ⟨42, _⟩ => ⟨S64x64x16, .f32⟩
  | .hbm, ⟨43, _⟩ => ⟨S64x64x16, .f32⟩
  | .hbm, ⟨44, _⟩ => ⟨S64x64x16, .f32⟩
  | .hbm, ⟨45, _⟩ => ⟨S64x64x1, .f32⟩
  | .hbm, ⟨46, _⟩ => ⟨S64x64x16, .f32⟩
  | .hbm, ⟨47, _⟩ => ⟨S64x64x16, .f32⟩
  | .hbm, ⟨48, _⟩ => ⟨S64x64x16, .f32⟩
  | .hbm, ⟨49, _⟩ => ⟨S64x64x1, .f32⟩
  | .hbm, ⟨50, _⟩ => ⟨S64x64x16, .f32⟩
  | .hbm, ⟨51, _⟩ => ⟨S64x64x16, .f32⟩
  | .hbm, ⟨52, _⟩ => ⟨S64x64x16, .f32⟩
  | .hbm, ⟨53, _⟩ => ⟨S64x64x16, .f32⟩
  | .hbm, ⟨54, _⟩ => ⟨S32x1x1, .i32⟩
  | .hbm, ⟨55, _⟩ => ⟨S_, .i32⟩
  | .hbm, ⟨56, _⟩ => ⟨S32x1x1, .i32⟩
  | .hbm, ⟨57, _⟩ => ⟨S32x1x1, .i32⟩
  | .hbm, ⟨58, _⟩ => ⟨S32x1x1, .f32⟩
  | .hbm, ⟨59, _⟩ => ⟨S1x64x64, .f32⟩
  | .hbm, ⟨60, _⟩ => ⟨S32x64x64, .f32⟩
  | .hbm, ⟨61, _⟩ => ⟨S32x64x64, .f32⟩
  | .hbm, ⟨62, _⟩ => ⟨S32x64x64, .f32⟩
  | .hbm, ⟨63, _⟩ => ⟨S32x64x64, .f32⟩
  | .hbm, ⟨64, _⟩ => ⟨S1x64x64, .f32⟩
  | .hbm, ⟨65, _⟩ => ⟨S32x64x64, .f32⟩
  | .hbm, ⟨66, _⟩ => ⟨S32x64x64, .f32⟩
  | .hbm, ⟨67, _⟩ => ⟨S32x64x64, .f32⟩
  | .hbm, ⟨68, _⟩ => ⟨S32x64x64, .f32⟩
  | .hbm, ⟨69, _⟩ => ⟨S32x64x64, .f32⟩
  | .hbm, ⟨70, _⟩ => ⟨S1x64x64, .f32⟩
  | .hbm, ⟨71, _⟩ => ⟨S32x64x64, .f32⟩
  | .hbm, ⟨72, _⟩ => ⟨S32x64x64, .f32⟩
  | .hbm, ⟨73, _⟩ => ⟨S32x64x64, .f32⟩
  | .hbm, ⟨74, _⟩ => ⟨S32x64x64, .f32⟩
  | .hbm, ⟨75, _⟩ => ⟨S32x64x64, .f32⟩
  | .hbm, ⟨76, _⟩ => ⟨S4x16x16x16x64, .i32⟩
  | .hbm, ⟨77, _⟩ => ⟨S4x16x16x16x64, .i32⟩
  | .hbm, ⟨78, _⟩ => ⟨S4x16x16x16x64, .i1⟩
  | .hbm, ⟨79, _⟩ => ⟨S32x4096, .f32⟩
  | .hbm, ⟨80, _⟩ => ⟨S32x4096, .f32⟩
  | .hbm, ⟨81, _⟩ => ⟨S64x16x64, .f32⟩
  | .hbm, ⟨82, _⟩ => ⟨S4x16x16x1x64, .f32⟩
  | .hbm, ⟨83, _⟩ => ⟨S_, .f32⟩
  | .hbm, ⟨84, _⟩ => ⟨S_, .f32⟩
  | .hbm, ⟨85, _⟩ => ⟨S4x16x16x16x64, .f32⟩
  | .hbm, ⟨86, _⟩ => ⟨S4x16x16x16x64, .f32⟩
  | .hbm, ⟨87, _⟩ => ⟨S4x16x16x16x64, .f32⟩
  | .hbm, ⟨88, _⟩ => ⟨S4x256x1024, .f32⟩
  | .hbm, ⟨89, _⟩ => ⟨S4x256x1024, .bf16⟩
  | .hbm, ⟨90, _⟩ => ⟨S64x16x64, .f32⟩
  | .hbm, ⟨91, _⟩ => ⟨S4x16x16x1x64, .f32⟩
  | .hbm, ⟨92, _⟩ => ⟨S_, .f32⟩
  | .hbm, ⟨93, _⟩ => ⟨S_, .f32⟩
  | .hbm, ⟨94, _⟩ => ⟨S4x16x16x16x64, .f32⟩
  | .hbm, ⟨95, _⟩ => ⟨S4x16x16x16x64, .f32⟩
  | .hbm, ⟨96, _⟩ => ⟨S4x16x16x16x64, .f32⟩
  | .hbm, ⟨97, _⟩ => ⟨S4x256x1024, .f32⟩
  | .hbm, ⟨98, _⟩ => ⟨S4x256x1024, .bf16⟩
  | _, _ => ⟨S1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_c : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_cst_1 : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_cst_2 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩

abbrev nD : Nat := 1
abbrev τ : Topo := Topo.v7x

variable {F : FTy → Type} [FloatOps F]
-- ==== Proof.FfnMath.lean ====
/- Hand-written, untrusted: the feed-forward layer's row functions. -/
module

public import Idealize.ShloMosaic.Lib.Pointwise

@[expose] public section

noncomputable section

open Idealize.ShloMosaic

namespace Cert.FfnMath

/-- The post-norm of a row `y` at one place, with the gain `g` and the bias `b` of that place. -/
def lnorm (y : Fin 2048 → EReal) (g b : EReal) (d : Fin 2048) : EReal :=
  (y d - Ideal.div (∑ e, y e) (Ideal.ofBits FTy.f32 1157627904#32)) *
    Ideal.rsqrt (Ideal.div (∑ e, (y e - Ideal.div (∑ e, y e) (Ideal.ofBits FTy.f32 1157627904#32)) *
      (y e - Ideal.div (∑ e, y e) (Ideal.ofBits FTy.f32 1157627904#32))) (Ideal.ofBits FTy.f32 1157627904#32)
      + Ideal.ofBits FTy.f32 925353388#32) * g + b

/-- The hidden unit `f` of a row: the square of the positive part of its pre-activation. -/
def hid (x : Fin 2048 → EReal) (w : Fin 2048 → EReal) : EReal :=
  max (∑ k, x k * w k) 0 * max (∑ k, x k * w k) 0

end Cert.FfnMath

end
-- ==== Proof.FfnPure.lean ====
/- Hand-written, untrusted: the feed-forward call's arithmetic, one index at a time. -/
module

public import proofs.«01_k».proof.Proof.FfnMath
public import proofs.«01_k».proof.Proof.Gen.FfnIdeal.Skeleton
public import proofs.«01_k».proof.Proof.Gen.FfnRefIdeal.Read
public import Idealize.ShloMosaic.Lib.Pointwise

set_option maxRecDepth 16384

@[expose] public section

noncomputable section

open Idealize.ShloMosaic Idealize.ShloMosaic.TcCoe Idealize.SL.Sem

namespace Cert.FfnIdeal.Pure

open Cert.FfnMath
open Cert.FfnIdeal Cert.FfnIdeal.Gen

theorem pay1_at (r : Fin 512) (d : Fin 2048) : k0_pay1 (F := Ideal) (ix2 r d) = 0 := by
  pointwise [k0_pay1]

theorem pay2_at (x : FVec Ideal S512x2048 .bf16) (w : FVec Ideal S2048x1024 .bf16) (acc : FVec Ideal S512x2048 .f32)
    (v : FVec Ideal S1024x2048 .bf16) (r : Fin 512) (d : Fin 2048) : k0_pay2 (F := Ideal) x w acc v (ix2 r d)
      = acc (ix2 r d) + ∑ f : Fin 1024, hid (fun k => x (ix2 r k)) (fun k => w (ix2 k f)) * v (ix2 f d) := by
  pointwise [k0_pay2, hid]

theorem pay3_at (x : FVec Ideal S512x2048 .f32) (y : FVec Ideal S512x2048 .f32) (g b : FVec Ideal S1x2048 .f32)
    (r : Fin 512) (d : Fin 2048) : k0_pay3 (F := Ideal) x y g b (ix2 r d)
      = lnorm (fun e => Ideal.ofBits FTy.f32 1066940400#32 * x (ix2 r e) + y (ix2 r e)) (g (ix2 0 d)) (b (ix2 0 d)) d := by
  pointwise [k0_pay3, lnorm]

end Cert.FfnIdeal.Pure

namespace Cert.FfnRefIdeal.Pure

open Cert.FfnMath
open Cert.FfnRefIdeal Cert.FfnRefIdeal.Gen Cert.FfnRefIdeal.Read

theorem ref_at (x0 : FVec Ideal S2x8192x2048 .f32) (x1 : FVec Ideal S1x2048x8192 .f32) (x2 : FVec Ideal S1x8192x2048 .f32)
    (x3 x4 : FVec Ideal S1x2048 .f32) (r : Fin 16384) (d : Fin 2048) :
    val_main_v35 (F := Ideal) x0 x1 x2 x3 x4 (ix2 r d)
      = lnorm (fun e => Ideal.ofBits FTy.f32 1066940400#32 * x0 (ix3 ⟨r / 8192, by omega⟩ ⟨r % 8192, by omega⟩ e)
          + ∑ f : Fin 8192, hid (fun k => x0 (ix3 ⟨r / 8192, by omega⟩ ⟨r % 8192, by omega⟩ k)) (fun k => x1 (ix3 0 k f)) * x2 (ix3 0 f e))
          (x3 (ix2 0 d)) (x4 (ix2 0 d)) d := by
  pointwise [lnorm, hid, val_main_v0, val_main_v1, val_main_call0_cst, val_main_call0_v0, val_main_v2, val_main_v3, val_main_v4, val_main_v5, val_main_cst, val_main_v6, val_main_v7, val_main_v8, val_main_cst_0, val_main_v9, val_main_v10, val_main_cst_1, val_main_v11, val_main_v12, val_main_v13, val_main_v14, val_main_v15, val_main_cst_2, val_main_v16, val_main_v17, val_main_cst_3, val_main_v18, val_main_v19, val_main_v20, val_main_v21, val_main_cst_4, val_main_v22, val_main_v23, val_main_v24, val_main_v25, val_main_v26, val_main_v27, val_main_v28, val_main_v29, val_main_v30, val_main_v31, val_main_v32, val_main_v33, val_main_v34, val_main_v35]

end Cert.FfnRefIdeal.Pure

end
-- ==== Proof.FfnValue.lean ====
/- Hand-written, untrusted: the array the feed-forward call leaves is the reference's. -/
module

public import proofs.«01_k».proof.Proof.FfnPure
public import proofs.«01_k».proof.Proof.Gen.FfnIdeal.Frame
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)

namespace Cert.FfnIdeal.Hand

open Cert.FfnIdeal Cert.FfnIdeal.Gen Cert.FfnIdeal.Pure Cert.FfnMath

variable (m : (ℓ : Loc nD τ sig) → Buf (Elt Ideal) ℓ)

/-- Every window's block index at every grid point. -/
theorem idx_val : ∀ t : Fin cfg0.N, win0_0.index t = ![t.val / 8, 0] ∧ win0_1.index t = ![t.val / 8, 0]
    ∧ win0_2.index t = ![0, t.val % 8] ∧ win0_3.index t = ![t.val % 8, 0] ∧ win0_4.index t = ![0, 0]
    ∧ win0_5.index t = ![0, 0] ∧ win0_6.index t = ![t.val / 8, 0] :=
  (by decide +kernel : ∀ t : Fin grid0.N, _)

/-- What a point adds to the accumulator, at an index of the block. -/
def part (c : Dev nD) (t : Fin cfg0.N) (j : S512x2048.Idx) : EReal :=
  ∑ f : Fin 1024, hid (fun k => (show FVec Ideal S512x2048 .bf16 from iblk m c 1 t) (ix2 (j 0) k))
      (fun k => (show FVec Ideal S2048x1024 .bf16 from iblk m c 2 t) (ix2 k f))
    * (show FVec Ideal S1024x2048 .bf16 from iblk m c 3 t) (ix2 f (j 1))

theorem scr_A (c : Dev nD) (t : Fin cfg0.N) (h : t.val % 8 = 0) :
    (outsAt0 m c t.val t.isLt).2 = k0_pay2 (iblk m c 1 t) (iblk m c 2 t) (k0_pay1 (F := Ideal)) (iblk m c 3 t) := by
  rw [outsAt0_A m c t h (by omega)]
  frame_out

theorem scr_S (c : Dev nD) (t : Fin cfg0.N) (h : ¬t.val % 8 = 0) :
    (outsAt0 m c t.val t.isLt).2 = k0_pay2 (iblk m c 1 t) (iblk m c 2 t)
      (outsAt0 m c (t.val - 1) (Nat.lt_of_le_of_lt (Nat.sub_le _ _) t.isLt)).2 (iblk m c 3 t) := by
  by_cases h1 : t.val % 8 = 7
  · rw [outsAt0_C m c t h h1]; frame_out
    exact congrArg (fun z => k0_pay2 _ _ z _) ((Memref.isWhole_whole _).read_unread _)
  · rw [outsAt0_B m c t h h1]; frame_out
    exact congrArg (fun z => k0_pay2 _ _ z _) ((Memref.isWhole_whole _).read_unread _)

theorem scr_last (c : Dev nD) (t : Fin cfg0.N) (h : t.val % 8 = 7) (j : S512x2048.Idx) :
    (show FVec Ideal S512x2048 .f32 from (outsAt0 m c t.val t.isLt).2) j
      = ∑ s : Fin 8, part m c ⟨8 * (t.val / 8) + s.val, Pipeline.run_point_lt_of_flush t h s⟩ j := by
  have := Pipeline.eq_sum_fin_of_reset_step_apply_of_flush (M := EReal)
    (fun n hn => (show S512x2048.Idx → EReal from (outsAt0 m c n hn).2)) 8 (fun _ => 0) (part m c)
    (fun t h j => by
      rw [scr_A m c t h, eq_ix2 j]
      refine (pay2_at _ _ _ _ _ _).trans ?_
      exact congrArg (· + part m c t (ix2 (j 0) (j 1))) (pay1_at (j 0) (j 1)))
    (fun t h j => by
      rw [scr_S m c t h, eq_ix2 j]
      exact pay2_at _ _ _ _ _ _) t h j
  rw [zero_add] at this
  exact this

theorem out_C (c : Dev nD) (t : Fin cfg0.N) (h : t.val % 8 = 7) :
    (outsAt0 m c t.val t.isLt).1 = k0_pay3 (iblk m c 0 t) (outsAt0 m c t.val t.isLt).2 (iblk m c 4 t) (iblk m c 5 t) := by
  rw [scr_S m c t (by omega), outsAt0_C m c t (by omega) h]
  frame_out
  exact congrArg (fun z => k0_pay3 _ (k0_pay2 _ _ z _) _ _) ((Memref.isWhole_whole _).read_unread _)

/-- Row `r` of block `t` of the two forms of the input, the full one and the one of the matrix products, is a row of the argument. -/
theorem blk0 (c : Dev nD) (t : Fin cfg0.N) (r : Fin 512) (e : Fin 2048) (i : Fin 2) (j : Fin 8192)
    (hi : i.val = (512 * (t.val / 8) + r.val) / 8192) (hj : j.val = (512 * (t.val / 8) + r.val) % 8192) :
    (show FVec Ideal S512x2048 .f32 from iblk m c 0 t) (ix2 r e) = (m ((c : Thread nD τ).loc main_arg0)) (ix3 i j e) := by
  blk_simp [iblk, idx_val t]
  entry_read
  pointwise
  blk_ext [idx_val t]

theorem blk1 (c : Dev nD) (t : Fin cfg0.N) (r : Fin 512) (e : Fin 2048) (i : Fin 2) (j : Fin 8192)
    (hi : i.val = (512 * (t.val / 8) + r.val) / 8192) (hj : j.val = (512 * (t.val / 8) + r.val) % 8192) :
    (show FVec Ideal S512x2048 .bf16 from iblk m c 1 t) (ix2 r e) = (m ((c : Thread nD τ).loc main_arg0)) (ix3 i j e) := by
  blk_simp [iblk, idx_val t]
  entry_read
  pointwise
  blk_ext [idx_val t]

theorem blk2 (c : Dev nD) (t : Fin cfg0.N) (k : Fin 2048) (f : Fin 1024) (f' : Fin 8192) (hf : f'.val = t.val % 8 * 1024 + f.val) :
    (show FVec Ideal S2048x1024 .bf16 from iblk m c 2 t) (ix2 k f) = (m ((c : Thread nD τ).loc main_arg1)) (ix3 0 k f') := by
  blk_simp [iblk, idx_val t]
  entry_read
  pointwise
  blk_ext [idx_val t]

theorem blk3 (c : Dev nD) (t : Fin cfg0.N) (k : Fin 2048) (f : Fin 1024) (f' : Fin 8192) (hf : f'.val = t.val % 8 * 1024 + f.val) :
    (show FVec Ideal S1024x2048 .bf16 from iblk m c 3 t) (ix2 f k) = (m ((c : Thread nD τ).loc main_arg2)) (ix3 0 f' k) := by
  blk_simp [iblk, idx_val t]
  entry_read
  pointwise
  blk_ext [idx_val t]

theorem blk4 (c : Dev nD) (t : Fin cfg0.N) (d : Fin 2048) :
    (show FVec Ideal S1x2048 .f32 from iblk m c 4 t) (ix2 0 d) = (m ((c : Thread nD τ).loc main_arg3)) (ix2 0 d) := by
  blk_simp [iblk, idx_val t]
  entry_read
  pointwise
  blk_ext [idx_val t]

theorem blk5 (c : Dev nD) (t : Fin cfg0.N) (d : Fin 2048) :
    (show FVec Ideal S1x2048 .f32 from iblk m c 5 t) (ix2 0 d) = (m ((c : Thread nD τ).loc main_arg4)) (ix2 0 d) := by
  blk_simp [iblk, idx_val t]
  entry_read
  pointwise
  blk_ext [idx_val t]

/-- The feed-forward sum of a row: the eight points of its run, put together. -/
theorem ff_row (c : Dev nD) (t : Fin cfg0.N) (h : t.val % 8 = 7) (r : Fin 512) (d : Fin 2048) (i : Fin 2) (j : Fin 8192)
    (hi : i.val = (512 * (t.val / 8) + r.val) / 8192) (hj : j.val = (512 * (t.val / 8) + r.val) % 8192) :
    (show FVec Ideal S512x2048 .f32 from (outsAt0 m c t.val t.isLt).2) (ix2 r d)
      = ∑ f : Fin 8192, hid (fun k => (show FVec Ideal S2x8192x2048 .f32 from m ((c : Thread nD τ).loc main_arg0)) (ix3 i j k))
          (fun k => (show FVec Ideal S1x2048x8192 .f32 from m ((c : Thread nD τ).loc main_arg1)) (ix3 0 k f))
        * (show FVec Ideal S1x8192x2048 .f32 from m ((c : Thread nD τ).loc main_arg2)) (ix3 0 f d) := by
  rw [scr_last m c t h]
  refine Fin.sum_mul_add_congr fun s f hl => ?_
  have hd : (⟨8 * (t.val / 8) + s.val, Pipeline.run_point_lt_of_flush t h s⟩ : Fin cfg0.N).val = 8 * (t.val / 8) + s.val := rfl
  have hs : s.val < 8 := s.isLt
  refine congrArg₂ (· * ·) (congrArg₂ hid (funext fun k => ?_) (funext fun k => ?_)) ?_
  · exact blk1 m c _ r k i j (by rw [hd, hi]; congr 1; omega) (by rw [hd, hj]; congr 1; omega)
  · exact blk2 m c _ k f _ (by rw [hd]; show s.val * 1024 + f.val = _; omega)
  · exact blk3 m c _ d f _ (by rw [hd]; show s.val * 1024 + f.val = _; omega)

theorem lnorm_congr (f f' : Fin 2048 → EReal) (g g' b b' : EReal) (d : Fin 2048) (hf : f = f') (hg : g = g') (hb : b = b') :
    lnorm f g b d = lnorm f' g' b' d := by subst hf hg hb; rfl

open Cert.FfnRefIdeal.Read in
/-- What the last point of a run writes, at an index, is the reference there. -/
theorem point (c : Dev nD) (t : Fin cfg0.N) (ht : t.val % 8 = 7) (r : Fin 512) (d : Fin 2048) (R : Fin 16384)
    (hR : R.val = 512 * (t.val / 8) + r.val) :
    k0_pay3 (iblk m c 0 t) (outsAt0 m c t.val t.isLt).2 (iblk m c 4 t) (iblk m c 5 t) (ix2 r d)
      = val_main_v35 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (ix2 R d) := by
  refine (pay3_at _ _ _ _ r d).trans (Eq.trans ?_ (Cert.FfnRefIdeal.Pure.ref_at _ _ _ _ _ R d).symm)
  refine lnorm_congr _ _ _ _ _ _ _ (funext fun e => ?_) (blk4 m c t _) (blk5 m c t _)
  have h0 := blk0 m c t r e ⟨R.val / 8192, by omega⟩ ⟨R.val % 8192, by omega⟩ (by rw [← hR]) (by rw [← hR])
  have h1 := ff_row m c t ht r e ⟨R.val / 8192, by omega⟩ ⟨R.val % 8192, by omega⟩ (by rw [← hR]) (by rw [← hR])
  exact congrArg₂ (fun a b => Ideal.ofBits FTy.f32 1066940400#32 * a + b) h0 h1

open Cert.FfnRefIdeal.Read in
/-- The array after the run is the reference's result. -/
theorem final (c : Dev nD) : (dats m 0 c).arrAt 6 (cfgs 0).N
    = val_main_v35 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  have ht : t.val % 8 = 7 := (flush0_6 t).mp hf
  blk_simp
  rw [after0_6, out_C m c t ht]
  have e0 : ((win0_6.blk t).view.emb y 0).val = t.val / 8 * 512 + (y 0).val := by blk_simp [idx_val t]
  have e1 : ((win0_6.blk t).view.emb y 1).val = (y 1).val := by blk_simp [idx_val t]
  have hN : t.val < 256 := t.isLt
  have hy : (y 0).val < 512 := (y 0).isLt
  have he : (win0_6.blk t).view.emb y = (ix2 (⟨512 * (t.val / 8) + (y 0).val, by omega⟩ : Fin 16384) (y 1 : Fin 2048) : S16384x2048.Idx) := by
    rw [eq_ix2 ((win0_6.blk t).view.emb y)]
    exact (ix2_inj ..).2 ⟨Fin.ext (by rw [e0]; show _ = 512 * (t.val / 8) + (y 0).val; omega), Fin.ext e1⟩
  rw [he]
  exact (congrArg _ (eq_ix2 y)).trans (point m c t ht (y 0) (y 1) _ rfl)

end Cert.FfnIdeal.Hand

end
-- ==== Proof.FfnSPure.lean ====
/- Hand-written, untrusted: the sample group's feed-forward call's arithmetic, one index at a time. -/
module

public import proofs.«01_k».proof.Proof.FfnMath
public import proofs.«01_k».proof.Proof.Gen.FfnSIdeal.Skeleton
public import proofs.«01_k».proof.Proof.Gen.FfnSRefIdeal.Read
public import Idealize.ShloMosaic.Lib.Pointwise

set_option maxRecDepth 16384

@[expose] public section

noncomputable section

open Idealize.ShloMosaic Idealize.ShloMosaic.TcCoe Idealize.SL.Sem

namespace Cert.FfnSIdeal.Pure

open Cert.FfnMath
open Cert.FfnSIdeal Cert.FfnSIdeal.Gen

theorem pay1_at (r : Fin 256) (d : Fin 2048) : k0_pay1 (F := Ideal) (ix2 r d) = 0 := by
  pointwise [k0_pay1]

theorem pay2_at (x : FVec Ideal S256x2048 .bf16) (w : FVec Ideal S2048x1024 .bf16) (acc : FVec Ideal S256x2048 .f32)
    (v : FVec Ideal S1024x2048 .bf16) (r : Fin 256) (d : Fin 2048) : k0_pay2 (F := Ideal) x w acc v (ix2 r d)
      = acc (ix2 r d) + ∑ f : Fin 1024, hid (fun k => x (ix2 r k)) (fun k => w (ix2 k f)) * v (ix2 f d) := by
  pointwise [k0_pay2, hid]

theorem pay3_at (x : FVec Ideal S256x2048 .f32) (y : FVec Ideal S256x2048 .f32) (g b : FVec Ideal S1x2048 .f32)
    (r : Fin 256) (d : Fin 2048) : k0_pay3 (F := Ideal) x y g b (ix2 r d)
      = lnorm (fun e => Ideal.ofBits FTy.f32 1066940400#32 * x (ix2 r e) + y (ix2 r e)) (g (ix2 0 d)) (b (ix2 0 d)) d := by
  pointwise [k0_pay3, lnorm]

end Cert.FfnSIdeal.Pure

namespace Cert.FfnSRefIdeal.Pure

open Cert.FfnMath
open Cert.FfnSRefIdeal Cert.FfnSRefIdeal.Gen Cert.FfnSRefIdeal.Read

theorem ref_at (x0 : FVec Ideal S32x8x2048 .f32) (x1 : FVec Ideal S1x2048x8192 .f32) (x2 : FVec Ideal S1x8192x2048 .f32)
    (x3 x4 : FVec Ideal S1x2048 .f32) (r : Fin 256) (d : Fin 2048) :
    val_main_v35 (F := Ideal) x0 x1 x2 x3 x4 (ix2 r d)
      = lnorm (fun e => Ideal.ofBits FTy.f32 1066940400#32 * x0 (ix3 ⟨r / 8, by omega⟩ ⟨r % 8, by omega⟩ e)
          + ∑ f : Fin 8192, hid (fun k => x0 (ix3 ⟨r / 8, by omega⟩ ⟨r % 8, by omega⟩ k)) (fun k => x1 (ix3 0 k f)) * x2 (ix3 0 f e))
          (x3 (ix2 0 d)) (x4 (ix2 0 d)) d := by
  pointwise [lnorm, hid, val_main_v0, val_main_v1, val_main_call0_cst, val_main_call0_v0, val_main_v2, val_main_v3, val_main_v4, val_main_v5, val_main_cst, val_main_v6, val_main_v7, val_main_v8, val_main_cst_0, val_main_v9, val_main_v10, val_main_cst_1, val_main_v11, val_main_v12, val_main_v13, val_main_v14, val_main_v15, val_main_cst_2, val_main_v16, val_main_v17, val_main_cst_3, val_main_v18, val_main_v19, val_main_v20, val_main_v21, val_main_cst_4, val_main_v22, val_main_v23, val_main_v24, val_main_v25, val_main_v26, val_main_v27, val_main_v28, val_main_v29, val_main_v30, val_main_v31, val_main_v32, val_main_v33, val_main_v34, val_main_v35]

end Cert.FfnSRefIdeal.Pure

end
-- ==== Proof.FfnSValue.lean ====
/- Hand-written, untrusted: the array the sample group's feed-forward call leaves is the reference's. -/
module

public import proofs.«01_k».proof.Proof.FfnSPure
public import proofs.«01_k».proof.Proof.Gen.FfnSIdeal.Frame
public import Idealize.ShloMosaic.Lib.Pipeline.ValueKit
public import Idealize.ShloMosaic.Lib.Claim

set_option maxRecDepth 16384

@[expose] public section

noncomputable section

open Idealize.ShloMosaic Idealize.ShloMosaic.TcCoe Idealize.SL.Sem
open Idealize.ShloMosaic.Pipeline (Dat)

namespace Cert.FfnSIdeal.Hand

open Cert.FfnSIdeal Cert.FfnSIdeal.Gen Cert.FfnSIdeal.Pure Cert.FfnMath

variable (m : (ℓ : Loc nD τ sig) → Buf (Elt Ideal) ℓ)

/-- Every window's block index at every grid point. -/
theorem idx_val : ∀ t : Fin cfg0.N, win0_0.index t = ![t.val / 8, 0] ∧ win0_1.index t = ![t.val / 8, 0]
    ∧ win0_2.index t = ![0, t.val % 8] ∧ win0_3.index t = ![t.val % 8, 0] ∧ win0_4.index t = ![0, 0]
    ∧ win0_5.index t = ![0, 0] ∧ win0_6.index t = ![t.val / 8, 0] :=
  (by decide +kernel : ∀ t : Fin grid0.N, _)

/-- What a point adds to the accumulator, at an index of the block. -/
def part (c : Dev nD) (t : Fin cfg0.N) (j : S256x2048.Idx) : EReal :=
  ∑ f : Fin 1024, hid (fun k => (show FVec Ideal S256x2048 .bf16 from iblk m c 1 t) (ix2 (j 0) k))
      (fun k => (show FVec Ideal S2048x1024 .bf16 from iblk m c 2 t) (ix2 k f))
    * (show FVec Ideal S1024x2048 .bf16 from iblk m c 3 t) (ix2 f (j 1))

theorem scr_A (c : Dev nD) (t : Fin cfg0.N) (h : t.val % 8 = 0) :
    (outsAt0 m c t.val t.isLt).2 = k0_pay2 (iblk m c 1 t) (iblk m c 2 t) (k0_pay1 (F := Ideal)) (iblk m c 3 t) := by
  rw [outsAt0_A m c t h (by omega)]
  frame_out

theorem scr_S (c : Dev nD) (t : Fin cfg0.N) (h : ¬t.val % 8 = 0) :
    (outsAt0 m c t.val t.isLt).2 = k0_pay2 (iblk m c 1 t) (iblk m c 2 t)
      (outsAt0 m c (t.val - 1) (Nat.lt_of_le_of_lt (Nat.sub_le _ _) t.isLt)).2 (iblk m c 3 t) := by
  by_cases h1 : t.val % 8 = 7
  · rw [outsAt0_C m c t h h1]; frame_out
    exact congrArg (fun z => k0_pay2 _ _ z _) ((Memref.isWhole_whole _).read_unread _)
  · rw [outsAt0_B m c t h h1]; frame_out
    exact congrArg (fun z => k0_pay2 _ _ z _) ((Memref.isWhole_whole _).read_unread _)

theorem scr_last (c : Dev nD) (t : Fin cfg0.N) (h : t.val % 8 = 7) (j : S256x2048.Idx) :
    (show FVec Ideal S256x2048 .f32 from (outsAt0 m c t.val t.isLt).2) j
      = ∑ s : Fin 8, part m c ⟨8 * (t.val / 8) + s.val, Pipeline.run_point_lt_of_flush t h s⟩ j := by
  have := Pipeline.eq_sum_fin_of_reset_step_apply_of_flush (M := EReal)
    (fun n hn => (show S256x2048.Idx → EReal from (outsAt0 m c n hn).2)) 8 (fun _ => 0) (part m c)
    (fun t h j => by
      rw [scr_A m c t h, eq_ix2 j]
      refine (pay2_at _ _ _ _ _ _).trans ?_
      exact congrArg (· + part m c t (ix2 (j 0) (j 1))) (pay1_at (j 0) (j 1)))
    (fun t h j => by
      rw [scr_S m c t h, eq_ix2 j]
      exact pay2_at _ _ _ _ _ _) t h j
  rw [zero_add] at this
  exact this

theorem out_C (c : Dev nD) (t : Fin cfg0.N) (h : t.val % 8 = 7) :
    (outsAt0 m c t.val t.isLt).1 = k0_pay3 (iblk m c 0 t) (outsAt0 m c t.val t.isLt).2 (iblk m c 4 t) (iblk m c 5 t) := by
  rw [scr_S m c t (by omega), outsAt0_C m c t (by omega) h]
  frame_out
  exact congrArg (fun z => k0_pay3 (iblk m c 0 t) (k0_pay2 (iblk m c 1 t) (iblk m c 2 t) z (iblk m c 3 t)) (iblk m c 4 t) (iblk m c 5 t)) ((Memref.isWhole_whole _).read_unread _)

/-- Row `r` of block `t` of the two forms of the input, the full one and the one of the matrix products, is a row of the argument. -/
theorem blk0 (c : Dev nD) (t : Fin cfg0.N) (r : Fin 256) (e : Fin 2048) (i : Fin 32) (j : Fin 8)
    (hi : i.val = (256 * (t.val / 8) + r.val) / 8) (hj : j.val = (256 * (t.val / 8) + r.val) % 8) :
    (show FVec Ideal S256x2048 .f32 from iblk m c 0 t) (ix2 r e) = (m ((c : Thread nD τ).loc main_arg0)) (ix3 i j e) := by
  blk_simp [iblk, idx_val t]
  entry_read
  pointwise
  blk_ext [idx_val t]

theorem blk1 (c : Dev nD) (t : Fin cfg0.N) (r : Fin 256) (e : Fin 2048) (i : Fin 32) (j : Fin 8)
    (hi : i.val = (256 * (t.val / 8) + r.val) / 8) (hj : j.val = (256 * (t.val / 8) + r.val) % 8) :
    (show FVec Ideal S256x2048 .bf16 from iblk m c 1 t) (ix2 r e) = (m ((c : Thread nD τ).loc main_arg0)) (ix3 i j e) := by
  blk_simp [iblk, idx_val t]
  entry_read
  pointwise
  blk_ext [idx_val t]

theorem blk2 (c : Dev nD) (t : Fin cfg0.N) (k : Fin 2048) (f : Fin 1024) (f' : Fin 8192) (hf : f'.val = t.val % 8 * 1024 + f.val) :
    (show FVec Ideal S2048x1024 .bf16 from iblk m c 2 t) (ix2 k f) = (m ((c : Thread nD τ).loc main_arg1)) (ix3 0 k f') := by
  blk_simp [iblk, idx_val t]
  entry_read
  pointwise
  blk_ext [idx_val t]

theorem blk3 (c : Dev nD) (t : Fin cfg0.N) (k : Fin 2048) (f : Fin 1024) (f' : Fin 8192) (hf : f'.val = t.val % 8 * 1024 + f.val) :
    (show FVec Ideal S1024x2048 .bf16 from iblk m c 3 t) (ix2 f k) = (m ((c : Thread nD τ).loc main_arg2)) (ix3 0 f' k) := by
  blk_simp [iblk, idx_val t]
  entry_read
  pointwise
  blk_ext [idx_val t]

theorem blk4 (c : Dev nD) (t : Fin cfg0.N) (d : Fin 2048) :
    (show FVec Ideal S1x2048 .f32 from iblk m c 4 t) (ix2 0 d) = (m ((c : Thread nD τ).loc main_arg3)) (ix2 0 d) := by
  blk_simp [iblk, idx_val t]
  entry_read
  pointwise
  blk_ext [idx_val t]

theorem blk5 (c : Dev nD) (t : Fin cfg0.N) (d : Fin 2048) :
    (show FVec Ideal S1x2048 .f32 from iblk m c 5 t) (ix2 0 d) = (m ((c : Thread nD τ).loc main_arg4)) (ix2 0 d) := by
  blk_simp [iblk, idx_val t]
  entry_read
  pointwise
  blk_ext [idx_val t]

/-- The feed-forward sum of a row: the eight points of its run, put together. -/
theorem ff_row (c : Dev nD) (t : Fin cfg0.N) (h : t.val % 8 = 7) (r : Fin 256) (d : Fin 2048) (i : Fin 32) (j : Fin 8)
    (hi : i.val = (256 * (t.val / 8) + r.val) / 8) (hj : j.val = (256 * (t.val / 8) + r.val) % 8) :
    (show FVec Ideal S256x2048 .f32 from (outsAt0 m c t.val t.isLt).2) (ix2 r d)
      = ∑ f : Fin 8192, hid (fun k => (show FVec Ideal S32x8x2048 .f32 from m ((c : Thread nD τ).loc main_arg0)) (ix3 i j k))
          (fun k => (show FVec Ideal S1x2048x8192 .f32 from m ((c : Thread nD τ).loc main_arg1)) (ix3 0 k f))
        * (show FVec Ideal S1x8192x2048 .f32 from m ((c : Thread nD τ).loc main_arg2)) (ix3 0 f d) := by
  rw [scr_last m c t h]
  refine Fin.sum_mul_add_congr fun s f hl => ?_
  have hd : (⟨8 * (t.val / 8) + s.val, Pipeline.run_point_lt_of_flush t h s⟩ : Fin cfg0.N).val = 8 * (t.val / 8) + s.val := rfl
  have hs : s.val < 8 := s.isLt
  refine congrArg₂ (· * ·) (congrArg₂ hid (funext fun k => ?_) (funext fun k => ?_)) ?_
  · exact blk1 m c _ r k i j (by rw [hd, hi]; congr 1; omega) (by rw [hd, hj]; congr 1; omega)
  · exact blk2 m c _ k f _ (by rw [hd]; show s.val * 1024 + f.val = _; omega)
  · exact blk3 m c _ d f _ (by rw [hd]; show s.val * 1024 + f.val = _; omega)

theorem lnorm_congr (f f' : Fin 2048 → EReal) (g g' b b' : EReal) (d : Fin 2048) (hf : f = f') (hg : g = g') (hb : b = b') :
    lnorm f g b d = lnorm f' g' b' d := by subst hf hg hb; rfl

open Cert.FfnSRefIdeal.Read in
/-- What the last point of a run writes, at an index, is the reference there. -/
theorem point (c : Dev nD) (t : Fin cfg0.N) (ht : t.val % 8 = 7) (r : Fin 256) (d : Fin 2048) (R : Fin 256)
    (hR : R.val = 256 * (t.val / 8) + r.val) :
    k0_pay3 (iblk m c 0 t) (outsAt0 m c t.val t.isLt).2 (iblk m c 4 t) (iblk m c 5 t) (ix2 r d)
      = val_main_v35 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (ix2 R d) := by
  refine (pay3_at _ _ _ _ r d).trans (Eq.trans ?_ (Cert.FfnSRefIdeal.Pure.ref_at _ _ _ _ _ R d).symm)
  refine lnorm_congr _ _ _ _ _ _ _ (funext fun e => ?_) (blk4 m c t _) (blk5 m c t _)
  have h0 := blk0 m c t r e ⟨R.val / 8, by omega⟩ ⟨R.val % 8, by omega⟩ (by rw [← hR]) (by rw [← hR])
  have h1 := ff_row m c t ht r e ⟨R.val / 8, by omega⟩ ⟨R.val % 8, by omega⟩ (by rw [← hR]) (by rw [← hR])
  exact congrArg₂ (fun a b => Ideal.ofBits FTy.f32 1066940400#32 * a + b) h0 h1

open Cert.FfnSRefIdeal.Read in
/-- The array after the run is the reference's result. -/
theorem final (c : Dev nD) : (dats m 0 c).arrAt 6 (cfgs 0).N
    = val_main_v35 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  have ht : t.val % 8 = 7 := (flush0_6 t).mp hf
  blk_simp
  rw [after0_6, out_C m c t ht]
  have e0 : ((win0_6.blk t).view.emb y 0).val = t.val / 8 * 256 + (y 0).val := by blk_simp [idx_val t]
  have e1 : ((win0_6.blk t).view.emb y 1).val = (y 1).val := by blk_simp [idx_val t]
  have hN : t.val < 8 := t.isLt
  have hy : (y 0).val < 256 := (y 0).isLt
  have he : (win0_6.blk t).view.emb y = (ix2 (⟨256 * (t.val / 8) + (y 0).val, by omega⟩ : Fin 256) (y 1 : Fin 2048) : S256x2048.Idx) := by
    rw [eq_ix2 ((win0_6.blk t).view.emb y)]
    exact (ix2_inj ..).2 ⟨Fin.ext (by rw [e0]; show _ = 256 * (t.val / 8) + (y 0).val; omega), Fin.ext e1⟩
  rw [he]
  exact (congrArg _ (eq_ix2 y)).trans (point m c t ht (y 0) (y 1) _ rfl)

end Cert.FfnSIdeal.Hand

end
-- ==== Proof.OutProjMath.lean ====
/- Hand-written, untrusted: the two head groups of a row side by side. -/
module

public import proofs.«01_k».proof.Proof.FfnMath
public import Idealize.ShloMosaic.Lib.Pointwise

@[expose] public section

noncomputable section

open Idealize.ShloMosaic

namespace Cert.OutProjMath

/-- The two head groups' outputs of a row, side by side. -/
def side (o s : Fin 1024 → EReal) (k : Fin 2048) : EReal :=
  if h : k.val < 1024 then o ⟨k.val, h⟩ else s ⟨k.val - 1024, by omega⟩

/-- A product against both is the sum of the two products. -/
theorem sum_side (o s : Fin 1024 → EReal) (w : Fin 2048 → EReal) : ∑ k, side o s k * w k
    = ∑ k : Fin 1024, o k * w ⟨k.val, by omega⟩ + ∑ k : Fin 1024, s k * w ⟨1024 + k.val, by omega⟩ := by
  refine (Fin.sum_univ_add (a := 1024) (b := 1024) (fun k => side o s k * w k)).trans ?_
  refine congrArg₂ (· + ·) (Finset.sum_congr rfl fun k _ => ?_) (Finset.sum_congr rfl fun k _ => ?_)
  · unfold side
    rw [dif_pos (show (Fin.castAdd 1024 k).val < 1024 from k.isLt)]
    rfl
  · unfold side
    rw [dif_neg (show ¬(Fin.natAdd 1024 k).val < 1024 by simp)]
    exact congrArg₂ (· * ·) (congrArg s (Fin.ext (by simp))) rfl

end Cert.OutProjMath

end
-- ==== Proof.OutProjPure.lean ====
/- Hand-written, untrusted: the output projection's arithmetic, one index at a time. -/
module

public import proofs.«01_k».proof.Proof.OutProjMath
public import proofs.«01_k».proof.Proof.Gen.OutProjIdeal.Frame
public import proofs.«01_k».proof.Proof.Gen.OutProjRefIdeal.Read
public import Idealize.ShloMosaic.Lib.Pointwise
public import Idealize.ShloMosaic.Lib.Pipeline.ValueKit

set_option maxRecDepth 16384

@[expose] public section

noncomputable section

open Idealize.ShloMosaic Idealize.ShloMosaic.TcCoe Idealize.SL.Sem

namespace Cert.OutProjRefIdeal.Pure

open Cert.FfnMath Cert.OutProjMath
open Cert.OutProjRefIdeal Cert.OutProjRefIdeal.Gen Cert.OutProjRefIdeal.Read

theorem ref_at (x0 : FVec Ideal S2x8192x2048 .f32) (x1 x2 : FVec Ideal S16384x1024 .bf16) (x3 : FVec Ideal S1x2048x2048 .f32)
    (x4 x5 : FVec Ideal S1x2048 .f32) (r : Fin 16384) (d : Fin 2048) :
    val_main_v33 (F := Ideal) x0 x1 x2 x3 x4 x5 (ix2 r d)
      = lnorm (fun e => Ideal.ofBits FTy.f32 1066940400#32 * x0 (ix3 ⟨r / 8192, by omega⟩ ⟨r % 8192, by omega⟩ e)
          + ∑ k : Fin 2048, side (fun k => x1 (ix2 r k)) (fun k => x2 (ix2 r k)) k * x3 (ix3 0 k e))
          (x4 (ix2 0 d)) (x5 (ix2 0 d)) d := by
  pointwise [lnorm, side, val_main_v0, val_main_v1, val_main_v2, val_main_v3, val_main_v4, val_main_cst, val_main_v5, val_main_v6, val_main_v7, val_main_cst_0, val_main_v8, val_main_v9, val_main_cst_1, val_main_v10, val_main_v11, val_main_v12, val_main_v13, val_main_v14, val_main_cst_2, val_main_v15, val_main_v16, val_main_cst_3, val_main_v17, val_main_v18, val_main_v19, val_main_v20, val_main_cst_4, val_main_v21, val_main_v22, val_main_v23, val_main_v24, val_main_v25, val_main_v26, val_main_v27, val_main_v28, val_main_v29, val_main_v30, val_main_v31, val_main_v32, val_main_v33, val_main_v34]

end Cert.OutProjRefIdeal.Pure

namespace Cert.OutProjIdeal.Pure

open Cert.FfnMath
open Cert.OutProjIdeal Cert.OutProjIdeal.Gen

theorem idx_eq (y : S512x2048.Idx) (a : Fin 512) (b : Fin 2048) (h0 : (y 0).val = a.val) (h1 : (y 1).val = b.val) :
    y = ix2 a b := by
  rw [eq_ix2 y]
  exact (ix2_inj ..).2 ⟨Fin.ext h0, Fin.ext h1⟩

theorem out7_at (x0 : FVec Ideal S512x2048 .f32) (x1 x2 : FVec Ideal S512x1024 .bf16) (x3 x4 : FVec Ideal S1024x2048 .bf16)
    (x5 x6 : FVec Ideal S1x2048 .f32) (y : S512x2048.Idx) :
    out0_7 (F := Ideal) x0 x1 x2 x3 x4 x5 x6 y
      = lnorm (fun e => Ideal.ofBits FTy.f32 1066940400#32 * x0 (ix2 (y 0) e)
          + (∑ k : Fin 1024, x1 (ix2 (y 0) k) * x3 (ix2 k e) + ∑ k : Fin 1024, x2 (ix2 (y 0) k) * x4 (ix2 k e)))
          (x5 (ix2 0 (y 1))) (x6 (ix2 0 (y 1))) (y 1) := by
  unfold_out out0_7
  canon_tiles x h
  · have e := idx_eq y ⟨256 + (x 0).val, Nat.add_lt_add_left x0_lt 256⟩ ⟨(x 1).val, x1_lt⟩ h0 h1
    subst e
    pointwise [k0_pay1, k0_pay7, k0_pay8, k0_pay9, k0_pay10, lnorm]
  · have e := idx_eq y ⟨(x 0).val, lt_of_lt_of_le x0_lt (by decide)⟩ ⟨(x 1).val, x1_lt⟩ h0 h1
    subst e
    pointwise [k0_pay3, k0_pay4, k0_pay5, lnorm]

theorem out8_at (x0 : FVec Ideal S512x2048 .f32) (x1 x2 : FVec Ideal S512x1024 .bf16) (x3 x4 : FVec Ideal S1024x2048 .bf16)
    (x5 x6 : FVec Ideal S1x2048 .f32) (y : S512x2048.Idx) :
    out0_8 (F := Ideal) x0 x1 x2 x3 x4 x5 x6 y
      = lnorm (fun e => Ideal.ofBits FTy.f32 1066940400#32 * x0 (ix2 (y 0) e)
          + (∑ k : Fin 1024, x1 (ix2 (y 0) k) * x3 (ix2 k e) + ∑ k : Fin 1024, x2 (ix2 (y 0) k) * x4 (ix2 k e)))
          (x5 (ix2 0 (y 1))) (x6 (ix2 0 (y 1))) (y 1) := by
  unfold_out out0_8
  canon_tiles x h
  · have e := idx_eq y ⟨256 + (x 0).val, Nat.add_lt_add_left x0_lt 256⟩ ⟨(x 1).val, x1_lt⟩ h0 h1
    subst e
    pointwise [k0_pay2, k0_pay1, k0_pay7, k0_pay8, k0_pay9, k0_pay10, lnorm]
  · have e := idx_eq y ⟨(x 0).val, lt_of_lt_of_le x0_lt (by decide)⟩ ⟨(x 1).val, x1_lt⟩ h0 h1
    subst e
    pointwise [k0_pay3, k0_pay4, k0_pay5, k0_pay6, lnorm]

end Cert.OutProjIdeal.Pure

end
-- ==== Proof.OutProjValue.lean ====
/- Hand-written, untrusted: the arrays the output projection leaves are the reference's. -/
module

public import proofs.«01_k».proof.Proof.OutProjPure
public import Idealize.ShloMosaic.Lib.Claim

set_option maxRecDepth 16384

@[expose] public section

noncomputable section

open Idealize.ShloMosaic Idealize.ShloMosaic.TcCoe Idealize.SL.Sem
open Idealize.ShloMosaic.Pipeline (Dat)

namespace Cert.OutProjIdeal.Hand

open Cert.OutProjIdeal Cert.OutProjIdeal.Gen Cert.OutProjIdeal.Pure Cert.FfnMath Cert.OutProjMath

variable (m : (ℓ : Loc nD τ sig) → Buf (Elt Ideal) ℓ)

/-- Every window's block index at every grid point. -/
theorem idx_val : ∀ t : Fin cfg0.N, win0_0.index t = ![t.val, 0] ∧ win0_1.index t = ![t.val, 0]
    ∧ win0_2.index t = ![t.val, 0] ∧ win0_3.index t = ![0, 0] ∧ win0_4.index t = ![0, 0]
    ∧ win0_5.index t = ![0, 0] ∧ win0_6.index t = ![0, 0] ∧ win0_7.index t = ![t.val, 0] ∧ win0_8.index t = ![t.val, 0] :=
  (by decide +kernel : ∀ t : Fin grid0.N, _)

theorem blk0 (c : Dev nD) (t : Fin cfg0.N) (r : Fin 512) (e : Fin 2048) (i : Fin 2) (j : Fin 8192)
    (hi : i.val = (512 * t.val + r.val) / 8192) (hj : j.val = (512 * t.val + r.val) % 8192) :
    (show FVec Ideal S512x2048 .f32 from iblk m c 0 t) (ix2 r e) = (m ((c : Thread nD τ).loc main_arg0)) (ix3 i j e) := by
  blk_simp [iblk, idx_val t]
  entry_read
  pointwise
  blk_ext [idx_val t]

theorem blk1 (c : Dev nD) (t : Fin cfg0.N) (r : Fin 512) (k : Fin 1024) (R : Fin 16384) (hR : R.val = 512 * t.val + r.val) :
    (show FVec Ideal S512x1024 .bf16 from iblk m c 1 t) (ix2 r k) = (m ((c : Thread nD τ).loc main_arg1)) (ix2 R k) := by
  blk_simp [iblk, idx_val t]
  entry_read
  pointwise
  blk_ext [idx_val t]

theorem blk2 (c : Dev nD) (t : Fin cfg0.N) (r : Fin 512) (k : Fin 1024) (R : Fin 16384) (hR : R.val = 512 * t.val + r.val) :
    (show FVec Ideal S512x1024 .bf16 from iblk m c 2 t) (ix2 r k) = (m ((c : Thread nD τ).loc main_arg2)) (ix2 R k) := by
  blk_simp [iblk, idx_val t]
  entry_read
  pointwise
  blk_ext [idx_val t]

/-- The two halves of the weight: its first and its last 1024 rows. -/
theorem blk3 (c : Dev nD) (t : Fin cfg0.N) (k : Fin 1024) (e : Fin 2048) (k' : Fin 2048) (hk : k'.val = k.val) :
    (show FVec Ideal S1024x2048 .bf16 from iblk m c 3 t) (ix2 k e) = (m ((c : Thread nD τ).loc main_arg3)) (ix3 0 k' e) := by
  blk_simp [iblk, idx_val t]
  entry_read
  pointwise
  blk_ext [idx_val t]

theorem blk4 (c : Dev nD) (t : Fin cfg0.N) (k : Fin 1024) (e : Fin 2048) (k' : Fin 2048) (hk : k'.val = 1024 + k.val) :
    (show FVec Ideal S1024x2048 .bf16 from iblk m c 4 t) (ix2 k e) = (m ((c : Thread nD τ).loc main_arg3)) (ix3 0 k' e) := by
  blk_simp [iblk, idx_val t]
  entry_read
  pointwise
  blk_ext [idx_val t]

theorem blk5 (c : Dev nD) (t : Fin cfg0.N) (d : Fin 2048) :
    (show FVec Ideal S1x2048 .f32 from iblk m c 5 t) (ix2 0 d) = (m ((c : Thread nD τ).loc main_arg4)) (ix2 0 d) := by
  blk_simp [iblk, idx_val t]
  entry_read
  pointwise
  blk_ext [idx_val t]

theorem blk6 (c : Dev nD) (t : Fin cfg0.N) (d : Fin 2048) :
    (show FVec Ideal S1x2048 .f32 from iblk m c 6 t) (ix2 0 d) = (m ((c : Thread nD τ).loc main_arg5)) (ix2 0 d) := by
  blk_simp [iblk, idx_val t]
  entry_read
  pointwise
  blk_ext [idx_val t]

theorem lnorm_congr (f f' : Fin 2048 → EReal) (g g' b b' : EReal) (d : Fin 2048) (hf : f = f') (hg : g = g') (hb : b = b') :
    lnorm f g b d = lnorm f' g' b' d := by subst hf hg hb; rfl

open Cert.OutProjRefIdeal.Read in
/-- What a point writes, at an index of its block, is the reference there. -/
theorem point (c : Dev nD) (t : Fin cfg0.N) (r : Fin 512) (d : Fin 2048) (R : Fin 16384) (hR : R.val = 512 * t.val + r.val) :
    lnorm (fun e => Ideal.ofBits FTy.f32 1066940400#32 * (show FVec Ideal S512x2048 .f32 from iblk m c 0 t) (ix2 r e)
          + (∑ k : Fin 1024, (show FVec Ideal S512x1024 .bf16 from iblk m c 1 t) (ix2 r k)
              * (show FVec Ideal S1024x2048 .bf16 from iblk m c 3 t) (ix2 k e)
            + ∑ k : Fin 1024, (show FVec Ideal S512x1024 .bf16 from iblk m c 2 t) (ix2 r k)
              * (show FVec Ideal S1024x2048 .bf16 from iblk m c 4 t) (ix2 k e)))
        ((show FVec Ideal S1x2048 .f32 from iblk m c 5 t) (ix2 0 d)) ((show FVec Ideal S1x2048 .f32 from iblk m c 6 t) (ix2 0 d)) d
      = val_main_v33 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (ix2 R d) := by
  refine Eq.trans ?_ (Cert.OutProjRefIdeal.Pure.ref_at _ _ _ _ _ _ R d).symm
  refine lnorm_congr _ _ _ _ _ _ _ (funext fun e => ?_) (blk5 m c t _) (blk6 m c t _)
  refine congrArg₂ (fun a b => Ideal.ofBits FTy.f32 1066940400#32 * a + b) (blk0 m c t r e _ _ (by rw [← hR]) (by rw [← hR])) ?_
  refine Eq.trans ?_ (sum_side _ _ _).symm
  refine congrArg₂ (· + ·) (Finset.sum_congr rfl fun k _ => ?_) (Finset.sum_congr rfl fun k _ => ?_)
  · exact congrArg₂ (· * ·) (blk1 m c t r k R hR) (blk3 m c t k e _ rfl)
  · exact congrArg₂ (· * ·) (blk2 m c t r k R hR) (blk4 m c t k e _ rfl)

theorem emb7 (t : Fin cfg0.N) (y : S512x2048.Idx) : ∃ R : Fin 16384, R.val = 512 * t.val + (y 0).val
    ∧ (win0_7.blk t).view.emb y = (ix2 R (y 1 : Fin 2048) : S16384x2048.Idx) := by
  have e0 : ((win0_7.blk t).view.emb y 0).val = t.val * 512 + (y 0).val := by blk_simp [idx_val t]
  have e1 : ((win0_7.blk t).view.emb y 1).val = (y 1).val := by blk_simp [idx_val t]
  refine ⟨(win0_7.blk t).view.emb y 0, by rw [e0]; omega, ?_⟩
  exact (eq_ix2 ((win0_7.blk t).view.emb y)).trans ((ix2_inj ..).2 ⟨rfl, Fin.ext e1⟩)

theorem emb8 (t : Fin cfg0.N) (y : S512x2048.Idx) : ∃ R : Fin 16384, R.val = 512 * t.val + (y 0).val
    ∧ (win0_8.blk t).view.emb y = (ix2 R (y 1 : Fin 2048) : S16384x2048.Idx) := by
  have e0 : ((win0_8.blk t).view.emb y 0).val = t.val * 512 + (y 0).val := by blk_simp [idx_val t]
  have e1 : ((win0_8.blk t).view.emb y 1).val = (y 1).val := by blk_simp [idx_val t]
  refine ⟨(win0_8.blk t).view.emb y 0, by rw [e0]; omega, ?_⟩
  exact (eq_ix2 ((win0_8.blk t).view.emb y)).trans ((ix2_inj ..).2 ⟨rfl, Fin.ext e1⟩)

open Cert.OutProjRefIdeal.Read in
/-- The first array after the run is the reference's first result. -/
theorem final7 (c : Dev nD) : (dats m 0 c).arrAt 7 (cfgs 0).N
    = val_main_v33 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 7 _ (by decide +kernel) fun t hf y => ?_
  obtain ⟨R, hR, he⟩ := emb7 t y
  blk_simp
  rw [after0_7, he]
  exact (out7_at _ _ _ _ _ _ _ y).trans (point m c t (y 0) (y 1) R hR)

open Cert.OutProjRefIdeal.Read in
/-- The second array after the run is the reference's second result. -/
theorem final8 (c : Dev nD) : (dats m 0 c).arrAt 8 (cfgs 0).N
    = val_main_v34 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 8 _ (by decide +kernel) fun t hf y => ?_
  obtain ⟨R, hR, he⟩ := emb8 t y
  blk_simp
  rw [after0_8, he]
  exact (out8_at _ _ _ _ _ _ _ y).trans (point m c t (y 0) (y 1) R hR)

end Cert.OutProjIdeal.Hand

end
-- ==== Proof.OutProjSPure.lean ====
/- Hand-written, untrusted: the output projection's (sample group) arithmetic, one index at a time. -/
module

public import proofs.«01_k».proof.Proof.OutProjMath
public import proofs.«01_k».proof.Proof.Gen.OutProjSIdeal.Frame
public import proofs.«01_k».proof.Proof.Gen.OutProjSRefIdeal.Read
public import Idealize.ShloMosaic.Lib.Pointwise
public import Idealize.ShloMosaic.Lib.Pipeline.ValueKit

set_option maxRecDepth 16384

@[expose] public section

noncomputable section

open Idealize.ShloMosaic Idealize.ShloMosaic.TcCoe Idealize.SL.Sem

namespace Cert.OutProjSRefIdeal.Pure

open Cert.FfnMath Cert.OutProjMath
open Cert.OutProjSRefIdeal Cert.OutProjSRefIdeal.Gen Cert.OutProjSRefIdeal.Read

theorem ref_at (x0 : FVec Ideal S32x8x2048 .f32) (x1 : FVec Ideal S256x1024 .f32) (x2 : FVec Ideal S256x1024 .bf16) (x3 : FVec Ideal S1x2048x2048 .f32)
    (x4 x5 : FVec Ideal S1x2048 .f32) (r : Fin 256) (d : Fin 2048) :
    val_main_v33 (F := Ideal) x0 x1 x2 x3 x4 x5 (ix2 r d)
      = lnorm (fun e => Ideal.ofBits FTy.f32 1066940400#32 * x0 (ix3 ⟨r / 8, by omega⟩ ⟨r % 8, by omega⟩ e)
          + ∑ k : Fin 2048, side (fun k => x1 (ix2 r k)) (fun k => x2 (ix2 r k)) k * x3 (ix3 0 k e))
          (x4 (ix2 0 d)) (x5 (ix2 0 d)) d := by
  pointwise [lnorm, side, val_main_v0, val_main_v1, val_main_v2, val_main_v3, val_main_v4, val_main_cst, val_main_v5, val_main_v6, val_main_v7, val_main_cst_0, val_main_v8, val_main_v9, val_main_cst_1, val_main_v10, val_main_v11, val_main_v12, val_main_v13, val_main_v14, val_main_cst_2, val_main_v15, val_main_v16, val_main_cst_3, val_main_v17, val_main_v18, val_main_v19, val_main_v20, val_main_cst_4, val_main_v21, val_main_v22, val_main_v23, val_main_v24, val_main_v25, val_main_v26, val_main_v27, val_main_v28, val_main_v29, val_main_v30, val_main_v31, val_main_v32, val_main_v33, val_main_v34]

end Cert.OutProjSRefIdeal.Pure

namespace Cert.OutProjSIdeal.Pure

open Cert.FfnMath
open Cert.OutProjSIdeal Cert.OutProjSIdeal.Gen

theorem idx_eq (y : S256x2048.Idx) (a : Fin 256) (b : Fin 2048) (h0 : (y 0).val = a.val) (h1 : (y 1).val = b.val) :
    y = ix2 a b := by
  rw [eq_ix2 y]
  exact (ix2_inj ..).2 ⟨Fin.ext h0, Fin.ext h1⟩

theorem out7_at (x0 : FVec Ideal S256x2048 .f32) (x1 : FVec Ideal S256x1024 .f32) (x2 : FVec Ideal S256x1024 .bf16) (x3 x4 : FVec Ideal S1024x2048 .bf16)
    (x5 x6 : FVec Ideal S1x2048 .f32) (y : S256x2048.Idx) :
    out0_7 (F := Ideal) x0 x1 x2 x3 x4 x5 x6 y
      = lnorm (fun e => Ideal.ofBits FTy.f32 1066940400#32 * x0 (ix2 (y 0) e)
          + (∑ k : Fin 1024, x1 (ix2 (y 0) k) * x3 (ix2 k e) + ∑ k : Fin 1024, x2 (ix2 (y 0) k) * x4 (ix2 k e)))
          (x5 (ix2 0 (y 1))) (x6 (ix2 0 (y 1))) (y 1) := by
  unfold_out out0_7
  canon_tiles x h
  · have e := idx_eq y ⟨128 + (x 0).val, Nat.add_lt_add_left x0_lt 128⟩ ⟨(x 1).val, x1_lt⟩ h0 h1
    subst e
    pointwise [k0_pay1, k0_pay7, k0_pay8, k0_pay9, k0_pay10, lnorm]
  · have e := idx_eq y ⟨(x 0).val, lt_of_lt_of_le x0_lt (by decide)⟩ ⟨(x 1).val, x1_lt⟩ h0 h1
    subst e
    pointwise [k0_pay3, k0_pay4, k0_pay5, lnorm]

theorem out8_at (x0 : FVec Ideal S256x2048 .f32) (x1 : FVec Ideal S256x1024 .f32) (x2 : FVec Ideal S256x1024 .bf16) (x3 x4 : FVec Ideal S1024x2048 .bf16)
    (x5 x6 : FVec Ideal S1x2048 .f32) (y : S256x2048.Idx) :
    out0_8 (F := Ideal) x0 x1 x2 x3 x4 x5 x6 y
      = lnorm (fun e => Ideal.ofBits FTy.f32 1066940400#32 * x0 (ix2 (y 0) e)
          + (∑ k : Fin 1024, x1 (ix2 (y 0) k) * x3 (ix2 k e) + ∑ k : Fin 1024, x2 (ix2 (y 0) k) * x4 (ix2 k e)))
          (x5 (ix2 0 (y 1))) (x6 (ix2 0 (y 1))) (y 1) := by
  unfold_out out0_8
  canon_tiles x h
  · have e := idx_eq y ⟨128 + (x 0).val, Nat.add_lt_add_left x0_lt 128⟩ ⟨(x 1).val, x1_lt⟩ h0 h1
    subst e
    pointwise [k0_pay2, k0_pay1, k0_pay7, k0_pay8, k0_pay9, k0_pay10, lnorm]
  · have e := idx_eq y ⟨(x 0).val, lt_of_lt_of_le x0_lt (by decide)⟩ ⟨(x 1).val, x1_lt⟩ h0 h1
    subst e
    pointwise [k0_pay3, k0_pay4, k0_pay5, k0_pay6, lnorm]

end Cert.OutProjSIdeal.Pure

end
-- ==== Proof.OutProjSValue.lean ====
/- Hand-written, untrusted: the arrays the output projection leaves are the reference's. -/
module

public import proofs.«01_k».proof.Proof.OutProjSPure
public import Idealize.ShloMosaic.Lib.Claim

set_option maxRecDepth 16384

@[expose] public section

noncomputable section

open Idealize.ShloMosaic Idealize.ShloMosaic.TcCoe Idealize.SL.Sem
open Idealize.ShloMosaic.Pipeline (Dat)

namespace Cert.OutProjSIdeal.Hand

open Cert.OutProjSIdeal Cert.OutProjSIdeal.Gen Cert.OutProjSIdeal.Pure Cert.FfnMath Cert.OutProjMath

variable (m : (ℓ : Loc nD τ sig) → Buf (Elt Ideal) ℓ)

/-- Every window's block index at every grid point. -/
theorem idx_val : ∀ t : Fin cfg0.N, win0_0.index t = ![t.val, 0] ∧ win0_1.index t = ![t.val, 0]
    ∧ win0_2.index t = ![t.val, 0] ∧ win0_3.index t = ![0, 0] ∧ win0_4.index t = ![0, 0]
    ∧ win0_5.index t = ![0, 0] ∧ win0_6.index t = ![0, 0] ∧ win0_7.index t = ![t.val, 0] ∧ win0_8.index t = ![t.val, 0] :=
  (by decide +kernel : ∀ t : Fin grid0.N, _)

theorem blk0 (c : Dev nD) (t : Fin cfg0.N) (r : Fin 256) (e : Fin 2048) (i : Fin 32) (j : Fin 8)
    (hi : i.val = (256 * t.val + r.val) / 8) (hj : j.val = (256 * t.val + r.val) % 8) :
    (show FVec Ideal S256x2048 .f32 from iblk m c 0 t) (ix2 r e) = (m ((c : Thread nD τ).loc main_arg0)) (ix3 i j e) := by
  blk_simp [iblk, idx_val t]
  entry_read
  pointwise
  blk_ext [idx_val t]

theorem blk1 (c : Dev nD) (t : Fin cfg0.N) (r : Fin 256) (k : Fin 1024) (R : Fin 256) (hR : R.val = 256 * t.val + r.val) :
    (show FVec Ideal S256x1024 .f32 from iblk m c 1 t) (ix2 r k) = (m ((c : Thread nD τ).loc main_arg1)) (ix2 R k) := by
  blk_simp [iblk, idx_val t]
  entry_read
  pointwise
  blk_ext [idx_val t]

theorem blk2 (c : Dev nD) (t : Fin cfg0.N) (r : Fin 256) (k : Fin 1024) (R : Fin 256) (hR : R.val = 256 * t.val + r.val) :
    (show FVec Ideal S256x1024 .bf16 from iblk m c 2 t) (ix2 r k) = (m ((c : Thread nD τ).loc main_arg2)) (ix2 R k) := by
  blk_simp [iblk, idx_val t]
  entry_read
  pointwise
  blk_ext [idx_val t]

/-- The two halves of the weight: its first and its last 1024 rows. -/
theorem blk3 (c : Dev nD) (t : Fin cfg0.N) (k : Fin 1024) (e : Fin 2048) (k' : Fin 2048) (hk : k'.val = k.val) :
    (show FVec Ideal S1024x2048 .bf16 from iblk m c 3 t) (ix2 k e) = (m ((c : Thread nD τ).loc main_arg3)) (ix3 0 k' e) := by
  blk_simp [iblk, idx_val t]
  entry_read
  pointwise
  blk_ext [idx_val t]

theorem blk4 (c : Dev nD) (t : Fin cfg0.N) (k : Fin 1024) (e : Fin 2048) (k' : Fin 2048) (hk : k'.val = 1024 + k.val) :
    (show FVec Ideal S1024x2048 .bf16 from iblk m c 4 t) (ix2 k e) = (m ((c : Thread nD τ).loc main_arg3)) (ix3 0 k' e) := by
  blk_simp [iblk, idx_val t]
  entry_read
  pointwise
  blk_ext [idx_val t]

theorem blk5 (c : Dev nD) (t : Fin cfg0.N) (d : Fin 2048) :
    (show FVec Ideal S1x2048 .f32 from iblk m c 5 t) (ix2 0 d) = (m ((c : Thread nD τ).loc main_arg4)) (ix2 0 d) := by
  blk_simp [iblk, idx_val t]
  entry_read
  pointwise
  blk_ext [idx_val t]

theorem blk6 (c : Dev nD) (t : Fin cfg0.N) (d : Fin 2048) :
    (show FVec Ideal S1x2048 .f32 from iblk m c 6 t) (ix2 0 d) = (m ((c : Thread nD τ).loc main_arg5)) (ix2 0 d) := by
  blk_simp [iblk, idx_val t]
  entry_read
  pointwise
  blk_ext [idx_val t]

theorem lnorm_congr (f f' : Fin 2048 → EReal) (g g' b b' : EReal) (d : Fin 2048) (hf : f = f') (hg : g = g') (hb : b = b') :
    lnorm f g b d = lnorm f' g' b' d := by subst hf hg hb; rfl

open Cert.OutProjSRefIdeal.Read in
/-- What a point writes, at an index of its block, is the reference there. -/
theorem point (c : Dev nD) (t : Fin cfg0.N) (r : Fin 256) (d : Fin 2048) (R : Fin 256) (hR : R.val = 256 * t.val + r.val) :
    lnorm (fun e => Ideal.ofBits FTy.f32 1066940400#32 * (show FVec Ideal S256x2048 .f32 from iblk m c 0 t) (ix2 r e)
          + (∑ k : Fin 1024, (show FVec Ideal S256x1024 .f32 from iblk m c 1 t) (ix2 r k)
              * (show FVec Ideal S1024x2048 .bf16 from iblk m c 3 t) (ix2 k e)
            + ∑ k : Fin 1024, (show FVec Ideal S256x1024 .bf16 from iblk m c 2 t) (ix2 r k)
              * (show FVec Ideal S1024x2048 .bf16 from iblk m c 4 t) (ix2 k e)))
        ((show FVec Ideal S1x2048 .f32 from iblk m c 5 t) (ix2 0 d)) ((show FVec Ideal S1x2048 .f32 from iblk m c 6 t) (ix2 0 d)) d
      = val_main_v33 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (ix2 R d) := by
  refine Eq.trans ?_ (Cert.OutProjSRefIdeal.Pure.ref_at _ _ _ _ _ _ R d).symm
  refine lnorm_congr _ _ _ _ _ _ _ (funext fun e => ?_) (blk5 m c t _) (blk6 m c t _)
  refine congrArg₂ (fun a b => Ideal.ofBits FTy.f32 1066940400#32 * a + b) (blk0 m c t r e _ _ (by rw [← hR]) (by rw [← hR])) ?_
  refine Eq.trans ?_ (sum_side _ _ _).symm
  refine congrArg₂ (· + ·) (Finset.sum_congr rfl fun k _ => ?_) (Finset.sum_congr rfl fun k _ => ?_)
  · exact congrArg₂ (· * ·) (blk1 m c t r k R hR) (blk3 m c t k e _ rfl)
  · exact congrArg₂ (· * ·) (blk2 m c t r k R hR) (blk4 m c t k e _ rfl)

theorem emb7 (t : Fin cfg0.N) (y : S256x2048.Idx) : ∃ R : Fin 256, R.val = 256 * t.val + (y 0).val
    ∧ (win0_7.blk t).view.emb y = (ix2 R (y 1 : Fin 2048) : S256x2048.Idx) := by
  have e0 : ((win0_7.blk t).view.emb y 0).val = t.val * 256 + (y 0).val := by blk_simp [idx_val t]
  have e1 : ((win0_7.blk t).view.emb y 1).val = (y 1).val := by blk_simp [idx_val t]
  refine ⟨(win0_7.blk t).view.emb y 0, by rw [e0]; omega, ?_⟩
  exact (eq_ix2 ((win0_7.blk t).view.emb y)).trans ((ix2_inj ..).2 ⟨rfl, Fin.ext e1⟩)

theorem emb8 (t : Fin cfg0.N) (y : S256x2048.Idx) : ∃ R : Fin 256, R.val = 256 * t.val + (y 0).val
    ∧ (win0_8.blk t).view.emb y = (ix2 R (y 1 : Fin 2048) : S256x2048.Idx) := by
  have e0 : ((win0_8.blk t).view.emb y 0).val = t.val * 256 + (y 0).val := by blk_simp [idx_val t]
  have e1 : ((win0_8.blk t).view.emb y 1).val = (y 1).val := by blk_simp [idx_val t]
  refine ⟨(win0_8.blk t).view.emb y 0, by rw [e0]; omega, ?_⟩
  exact (eq_ix2 ((win0_8.blk t).view.emb y)).trans ((ix2_inj ..).2 ⟨rfl, Fin.ext e1⟩)

open Cert.OutProjSRefIdeal.Read in
/-- The first array after the run is the reference's first result. -/
theorem final7 (c : Dev nD) : (dats m 0 c).arrAt 7 (cfgs 0).N
    = val_main_v33 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 7 _ (by decide +kernel) fun t hf y => ?_
  obtain ⟨R, hR, he⟩ := emb7 t y
  blk_simp
  rw [after0_7, he]
  exact (out7_at _ _ _ _ _ _ _ y).trans (point m c t (y 0) (y 1) R hR)

open Cert.OutProjSRefIdeal.Read in
/-- The second array after the run is the reference's second result. -/
theorem final8 (c : Dev nD) : (dats m 0 c).arrAt 8 (cfgs 0).N
    = val_main_v34 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 8 _ (by decide +kernel) fun t hf y => ?_
  obtain ⟨R, hR, he⟩ := emb8 t y
  blk_simp
  rw [after0_8, he]
  exact (out8_at _ _ _ _ _ _ _ y).trans (point m c t (y 0) (y 1) R hR)

end Cert.OutProjSIdeal.Hand

end
-- ==== Proof.ScanBase.lean ====
/- Hand-written, untrusted: the recurrence's states as plain functions, and how the kernel's scratch holds them. -/
module

public import proofs.«01_k».proof.Proof.Gen.ScanIdeal.Frame
public import Idealize.ShloMosaic.Lib.Pointwise
public import Idealize.ShloMosaic.Lib.Pipeline.ValueKit
public import Idealize.ShloMosaic.Lib.WholeRead

set_option maxRecDepth 16384

@[expose] public section

noncomputable section

open Idealize.ShloMosaic Idealize.ShloMosaic.TcCoe Idealize.SL.Sem

namespace Cert.ScanIdeal.Hand

open Cert.ScanIdeal Cert.ScanIdeal.Gen

/-- The state after step `n`, from rest: its real and imaginary parts. -/
def st (ar ai : EReal) (br bi : Fin 8 → EReal) : ℕ → EReal × EReal
  | 0 => (ar * 0 - ai * 0 + br 0, ar * 0 + ai * 0 + bi 0)
  | n + 1 => (ar * (st ar ai br bi n).1 - ai * (st ar ai br bi n).2 + br (Fin.ofNat 8 (n + 1)),
      ar * (st ar ai br bi n).2 + ai * (st ar ai br bi n).1 + bi (Fin.ofNat 8 (n + 1)))

/-- Lane `j` of block `b` among all the lanes. -/
def ln (b : Fin 4) (j : Fin 1024) : Fin 4096 := ⟨b.val * 1024 + j.val, by omega⟩

/-- A row of a table at a lane of a block. -/
def RW (x : FVec Ideal S8x4096 .f32) (b : Fin 4) (t : Fin 8) (j : Fin 1024) : EReal := x (ix2 t (ln b j))

/-- What drives sequence `r` at step `t`: its row of the block's input product. -/
def BU (x0 : FVec Ideal S64x1024 .f32) (w : FVec Ideal S4x256x1024 .bf16) (b : Fin 4) (t r : Fin 8) (j : Fin 1024) : EReal :=
  ∑ k : Fin 256, x0 (ix2 ⟨r.val * 8 + t.val, by omega⟩ ⟨b.val * 256 + k.val, by omega⟩) * w (ix3 b k j)

section
variable (x0 : FVec Ideal S64x1024 .f32) (x1 x2 x3 x4 : FVec Ideal S8x4096 .f32) (x5 x6 : FVec Ideal S4x256x1024 .bf16)

/-- The state from rest. -/
def SR (b : Fin 4) (t r : Fin 8) (j : Fin 1024) : EReal :=
  (st (RW x3 b 0 j) (RW x4 b 0 j) (fun t => BU x0 x5 b t r j) (fun t => BU x0 x6 b t r j) t.val).1

def SI (b : Fin 4) (t r : Fin 8) (j : Fin 1024) : EReal :=
  (st (RW x3 b 0 j) (RW x4 b 0 j) (fun t => BU x0 x5 b t r j) (fun t => BU x0 x6 b t r j) t.val).2

/-- The state with what the state before the first step adds. -/
def FR (b : Fin 4) (t r : Fin 8) (j : Fin 1024) : EReal :=
  SR x0 x3 x4 x5 x6 b t r j + RW x3 b t j * RW x1 b r j - RW x4 b t j * RW x2 b r j

def FI (b : Fin 4) (t r : Fin 8) (j : Fin 1024) : EReal :=
  SI x0 x3 x4 x5 x6 b t r j + RW x3 b t j * RW x2 b r j + RW x4 b t j * RW x1 b r j

end

/-- The scratch holds `X` in its first `k` rows and `B` in the rest. -/
def Inv (L : List (View.Piece (Elt Ideal) S8x8x1024 .f32)) (k : ℕ) (X B : Fin 8 → Fin 8 → Fin 1024 → EReal) : Prop :=
  ∀ (t r : Fin 8) (j : Fin 1024), View.canon L (ix3 t r j) = if t.val < k then X t r j else B t r j

theorem emb_row (t' : ℕ) (t r : Fin 8) (j : Fin 1024) (h : t' = t.val) (inb) :
    (Rect.unit ![t', 0, 0] S1x8x1024.size inb : Rect S8x8x1024).emb (ix3 0 r j) = ix3 t r j := by
  subst h
  funext a
  apply Fin.ext
  rw [ValueKit.rect_emb_unit_val]
  fin_cases a <;> simp [ix3]

theorem emb_all (t r : Fin 8) (j : Fin 1024) (inb) :
    (Rect.unit ![0, 0, 0] S8x8x1024.size inb : Rect S8x8x1024).emb (ix3 t r j) = ix3 t r j := by
  funext a
  apply Fin.ext
  rw [ValueKit.rect_emb_unit_val]
  fin_cases a <;> simp [ix3]

theorem not_mem_row (t' : ℕ) (t r : Fin 8) (j : Fin 1024) (h : t.val ≠ t') (inb) :
    (ix3 t r j : S8x8x1024.Idx) ∉ (Rect.unit ![t', 0, 0] S1x8x1024.size inb : Rect S8x8x1024).set := by
  intro hm
  obtain ⟨x, hx⟩ := (Rect.unit ![t', 0, 0] S1x8x1024.size inb : Rect S8x8x1024).exists_idx_of_mem hm
  apply h
  have e := congrArg (fun i => (i 0).val) hx
  simp only [ValueKit.rect_emb_unit_val] at e
  have hb : (x 0).val < 1 := (x 0).isLt
  simp [ix3] at e
  omega

theorem canon_at {s : Shape} {e : EltTy} (R : Rect s) (w : R.shape.Idx → Elt Ideal e) (L : List (View.Piece (Elt Ideal) s e))
    (x : R.shape.Idx) (y : s.Idx) (h : R.emb x = y) : View.canon ((⟨R, w⟩ : View.Piece (Elt Ideal) s e) :: L) y = w x := by
  subst h
  exact View.canon_cons_emb R w L x

/-- One more row stored. -/
theorem Inv.step {L : List (View.Piece (Elt Ideal) S8x8x1024 .f32)} {k : ℕ} {X B : Fin 8 → Fin 8 → Fin 1024 → EReal}
    (i : Inv L k X B) (κ : Fin 8) (hk : κ.val = k) {inb} {w : FVec Ideal S1x8x1024 .f32}
    (h : ∀ r j, w (ix3 0 r j) = X κ r j) :
    Inv ((⟨Rect.unit ![k, 0, 0] S1x8x1024.size inb, w⟩ : View.Piece (Elt Ideal) S8x8x1024 .f32) :: L) (k + 1) X B := by
  intro t r j
  by_cases e : t.val = k
  · have : t = κ := Fin.ext (e.trans hk.symm)
    subst this
    rw [if_pos (show t.val < k + 1 by omega)]
    refine Eq.trans ?_ (h r j)
    apply canon_at
    exact emb_row k t r j hk.symm inb
  · refine Eq.trans (b := View.canon L (ix3 t r j)) ?_ ?_
    · apply View.canon_cons_of_not_mem
      exact not_mem_row k t r j e inb
    rw [i t r j]
    by_cases l : t.val < k
    · rw [if_pos l, if_pos (show t.val < k + 1 by omega)]
    · rw [if_neg l, if_neg (show ¬ t.val < k + 1 by omega)]

/-- The whole scratch stored. -/
theorem Inv.all {L : List (View.Piece (Elt Ideal) S8x8x1024 .f32)} (X : Fin 8 → Fin 8 → Fin 1024 → EReal)
    {B : Fin 8 → Fin 8 → Fin 1024 → EReal} {inb} {w : FVec Ideal S8x8x1024 .f32} (h : ∀ t r j, w (ix3 t r j) = B t r j) :
    Inv ((⟨Rect.unit ![0, 0, 0] S8x8x1024.size inb, w⟩ : View.Piece (Elt Ideal) S8x8x1024 .f32) :: L) 0 X B := by
  intro t r j
  rw [if_neg (Nat.not_lt_zero _)]
  refine Eq.trans ?_ (h t r j)
  apply canon_at
  exact emb_all t r j inb

/-- All the rows replaced: the next pass begins. -/
theorem Inv.next {L : List (View.Piece (Elt Ideal) S8x8x1024 .f32)} {X B : Fin 8 → Fin 8 → Fin 1024 → EReal}
    (Y : Fin 8 → Fin 8 → Fin 1024 → EReal) (i : Inv L 8 X B) : Inv L 0 Y X := by
  intro t r j
  rw [i t r j, if_pos t.isLt, if_neg (Nat.not_lt_zero _)]

/-- A row not yet replaced, loaded. -/
theorem Inv.row {L : List (View.Piece (Elt Ideal) S8x8x1024 .f32)} {k : ℕ} {X B : Fin 8 → Fin 8 → Fin 1024 → EReal}
    (i : Inv L k X B) {sig : RefSig} {κ : Kind} {sp : Space} {v : View sig κ sp S8x8x1024 .f32} (t : Fin 8) {t' : ℕ} {inb} (ht : t' = t.val) (hk : k ≤ t.val)
    (r : Fin 8) (j : Fin 1024) :
    v.readCov (Val := Elt Ideal) L (Rect.unit ![t', 0, 0] S1x8x1024.size inb : Rect S8x8x1024).toLoadRect (ix3 0 r j) = B t r j := by
  rw [View.readCov_eq_canon']
  have e := i t r j
  rw [if_neg (not_lt.mpr hk)] at e
  rw [← e]
  exact congrArg _ (emb_row t' t r j ht inb)

/-- The whole scratch, loaded. -/
theorem Inv.whole {L : List (View.Piece (Elt Ideal) S8x8x1024 .f32)} {X B : Fin 8 → Fin 8 → Fin 1024 → EReal}
    (i : Inv L 0 X B) {sig : RefSig} {κ : Kind} {sp : Space} {v : View sig κ sp S8x8x1024 .f32} {inb} (t r : Fin 8) (j : Fin 1024) :
    v.readCov (Val := Elt Ideal) L (Rect.unit ![0, 0, 0] S8x8x1024.size inb : Rect S8x8x1024).toLoadRect (ix3 t r j) = B t r j := by
  rw [View.readCov_eq_canon']
  have e := i t r j
  rw [if_neg (Nat.not_lt_zero _)] at e
  rw [← e]
  exact congrArg _ (emb_all t r j inb)

/-- One row of a table, read at a block's lanes. -/
theorem ld1 {sig : RefSig} {κ : Kind} {sp : Space} {m : Memref sig κ sp S8x4096 .f32} (h : m.IsWhole) (x : FVec Ideal S8x4096 .f32)
    (b : Fin 4) (t : Fin 8) {t' o : ℕ} {inb} (ht : t' = t.val) (ho : o = b.val * 1024) (j : Fin 1024) :
    View.readAt (Elt Ideal) m.view (Rect.unit ![t', o] S1x1024.size inb : Rect S8x4096).toLoadRect (h.unread x) (ix2 0 j) = RW x b t j := by
  subst ht ho
  rw [Memref.IsWhole.readAt_unread]
  refine congrArg x (funext fun a => Fin.ext ?_)
  refine (ValueKit.rect_emb_unit_val (s := S8x4096) _ _ inb (ix2 0 j) a).trans ?_
  fin_cases a <;> simp [ix2, ln]

/-- All the rows of a table, read at a block's lanes. -/
theorem ld8 {sig : RefSig} {κ : Kind} {sp : Space} {m : Memref sig κ sp S8x4096 .f32} (h : m.IsWhole) (x : FVec Ideal S8x4096 .f32)
    (b : Fin 4) {o : ℕ} {inb} (ho : o = b.val * 1024) (r : Fin 8) (j : Fin 1024) :
    View.readAt (Elt Ideal) m.view (Rect.unit ![0, o] S8x1024.size inb : Rect S8x4096).toLoadRect (h.unread x) (ix2 r j) = RW x b r j := by
  subst ho
  rw [Memref.IsWhole.readAt_unread]
  refine congrArg x (funext fun a => Fin.ext ?_)
  refine (ValueKit.rect_emb_unit_val (s := S8x4096) _ _ inb (ix2 r j) a).trans ?_
  fin_cases a <;> simp [ix2, ln]

end Cert.ScanIdeal.Hand
-- ==== Proof.ScanPay0.lean ====
/- Hand-written, untrusted: the stores of the recurrence's block 0 of lanes, one entry at a time. -/
module

public import proofs.«01_k».proof.Proof.ScanBase

set_option maxRecDepth 16384

@[expose] public section

noncomputable section

open Idealize.ShloMosaic Idealize.ShloMosaic.TcCoe Idealize.SL.Sem

namespace Cert.ScanIdeal.Hand

open Cert.ScanIdeal Cert.ScanIdeal.Gen

theorem p12 (r : Fin 8) (j : Fin 1024) {a0 : Vec Ideal S1x1024 .f32} {s0 : EReal} (h0 : a0 (ix2 0 j) = s0) :
    k0_pay12 (F := Ideal) a0 (ix2 r j) = s0 := by
  pointwise [k0_pay12, h0]

theorem p13 (r : Fin 8) (j : Fin 1024) {a0 : Vec Ideal S1x1024 .f32} {s0 : EReal} (h0 : a0 (ix2 0 j) = s0) :
    k0_pay13 (F := Ideal) a0 (ix2 r j) = s0 := by
  pointwise [k0_pay13, h0]

theorem p15 (r : Fin 8) (j : Fin 1024) {a0 : Vec Ideal S1x1024 .f32} {a1 : Vec Ideal S1x1024 .f32} {a2 : Vec Ideal S1x8x1024 .f32} {s0 s1 s2 : EReal} (h0 : a0 (ix2 0 j) = s0) (h1 : a1 (ix2 0 j) = s1) (h2 : a2 (ix3 0 r j) = s2) :
    k0_pay15 (F := Ideal) a0 a1 a2 (ix2 r j) = ((s0 * 0) - (s1 * 0)) + s2 := by
  pointwise [k0_pay12, k0_pay13, k0_pay14, k0_pay15, h0, h1, h2]

theorem p16 (r : Fin 8) (j : Fin 1024) {a0 : Vec Ideal S1x1024 .f32} {a1 : Vec Ideal S1x1024 .f32} {a2 : Vec Ideal S1x8x1024 .f32} {s0 s1 s2 : EReal} (h0 : a0 (ix2 0 j) = s0) (h1 : a1 (ix2 0 j) = s1) (h2 : a2 (ix3 0 r j) = s2) :
    k0_pay16 (F := Ideal) a0 a1 a2 (ix2 r j) = ((s0 * 0) + (s1 * 0)) + s2 := by
  pointwise [k0_pay12, k0_pay13, k0_pay14, k0_pay16, h0, h1, h2]

theorem p17 (r : Fin 8) (j : Fin 1024) {a0 : Vec Ideal S1x1024 .f32} {a1 : Vec Ideal S1x1024 .f32} {a2 : Vec Ideal S1x8x1024 .f32} {s0 s1 s2 : EReal} (h0 : a0 (ix2 0 j) = s0) (h1 : a1 (ix2 0 j) = s1) (h2 : a2 (ix3 0 r j) = s2) :
    k0_pay17 (F := Ideal) a0 a1 a2 (ix3 0 r j) = ((s0 * 0) - (s1 * 0)) + s2 := by
  pointwise [k0_pay12, k0_pay13, k0_pay14, k0_pay15, k0_pay17, h0, h1, h2]

theorem p18 (r : Fin 8) (j : Fin 1024) {a0 : FVec Ideal S8x1024 .f32} {s0 : EReal} (h0 : a0 (ix2 r j) = s0) :
    k0_pay18 (F := Ideal) a0 (ix3 0 r j) = s0 := by
  pointwise [k0_pay18, h0]

theorem p21 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {s0 s1 s2 s3 s4 : EReal} (h0 : a0 (ix2 r j) = s0) (h1 : a1 (ix2 r j) = s1) (h2 : a2 (ix2 r j) = s2) (h3 : a3 (ix2 r j) = s3) (h4 : a4 (ix3 0 r j) = s4) :
    k0_pay21 (F := Ideal) a0 a1 a2 a3 a4 (ix3 0 r j) = ((s0 * s2) - (s1 * s3)) + s4 := by
  pointwise [k0_pay19, k0_pay21, h0, h1, h2, h3, h4]

theorem p22 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {s0 s1 s2 s3 s4 : EReal} (h0 : a0 (ix2 r j) = s0) (h1 : a1 (ix2 r j) = s1) (h2 : a2 (ix2 r j) = s2) (h3 : a3 (ix2 r j) = s3) (h4 : a4 (ix3 0 r j) = s4) :
    k0_pay22 (F := Ideal) a0 a1 a2 a3 a4 (ix3 0 r j) = ((s0 * s3) + (s1 * s2)) + s4 := by
  pointwise [k0_pay20, k0_pay22, h0, h1, h2, h3, h4]

theorem p23 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {a6 : Vec Ideal S1x8x1024 .f32} {s0 s1 s2 s3 s4 s5 s6 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) (h6 : a6 (ix3 0 r j) = s6) :
    k0_pay23 (F := Ideal) a0 a1 a2 a3 a4 a5 a6 (ix2 r j) = ((s0 * (((s0 * s2) - (s1 * s3)) + s4)) - (s1 * (((s0 * s3) + (s1 * s2)) + s5))) + s6 := by
  pointwise [k0_pay19, k0_pay20, k0_pay23, h0, h1, h2, h3, h4, h5, h6]

theorem p24 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {a6 : Vec Ideal S1x8x1024 .f32} {s0 s1 s2 s3 s4 s5 s6 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) (h6 : a6 (ix3 0 r j) = s6) :
    k0_pay24 (F := Ideal) a0 a1 a2 a3 a4 a5 a6 (ix2 r j) = ((s0 * (((s0 * s3) + (s1 * s2)) + s5)) + (s1 * (((s0 * s2) - (s1 * s3)) + s4))) + s6 := by
  pointwise [k0_pay19, k0_pay20, k0_pay24, h0, h1, h2, h3, h4, h5, h6]

theorem p25 (r : Fin 8) (j : Fin 1024) {a0 : FVec Ideal S8x1024 .f32} {s0 : EReal} (h0 : a0 (ix2 r j) = s0) :
    k0_pay25 (F := Ideal) a0 (ix3 0 r j) = s0 := by
  pointwise [k0_pay25, h0]

theorem p26 (r : Fin 8) (j : Fin 1024) {a0 : FVec Ideal S8x1024 .f32} {s0 : EReal} (h0 : a0 (ix2 r j) = s0) :
    k0_pay26 (F := Ideal) a0 (ix3 0 r j) = s0 := by
  pointwise [k0_pay26, h0]

theorem p29 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {s0 s1 s2 s3 s4 : EReal} (h0 : a0 (ix2 r j) = s0) (h1 : a1 (ix2 r j) = s1) (h2 : a2 (ix2 r j) = s2) (h3 : a3 (ix2 r j) = s3) (h4 : a4 (ix3 0 r j) = s4) :
    k0_pay29 (F := Ideal) a0 a1 a2 a3 a4 (ix3 0 r j) = ((s0 * s2) - (s1 * s3)) + s4 := by
  pointwise [k0_pay27, k0_pay29, h0, h1, h2, h3, h4]

theorem p30 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {s0 s1 s2 s3 s4 : EReal} (h0 : a0 (ix2 r j) = s0) (h1 : a1 (ix2 r j) = s1) (h2 : a2 (ix2 r j) = s2) (h3 : a3 (ix2 r j) = s3) (h4 : a4 (ix3 0 r j) = s4) :
    k0_pay30 (F := Ideal) a0 a1 a2 a3 a4 (ix3 0 r j) = ((s0 * s3) + (s1 * s2)) + s4 := by
  pointwise [k0_pay28, k0_pay30, h0, h1, h2, h3, h4]

theorem p31 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {a6 : Vec Ideal S1x8x1024 .f32} {s0 s1 s2 s3 s4 s5 s6 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) (h6 : a6 (ix3 0 r j) = s6) :
    k0_pay31 (F := Ideal) a0 a1 a2 a3 a4 a5 a6 (ix2 r j) = ((s0 * (((s0 * s2) - (s1 * s3)) + s4)) - (s1 * (((s0 * s3) + (s1 * s2)) + s5))) + s6 := by
  pointwise [k0_pay27, k0_pay28, k0_pay31, h0, h1, h2, h3, h4, h5, h6]

theorem p32 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {s0 s1 s2 s3 s4 s5 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) :
    k0_pay32 (F := Ideal) a0 a1 a2 a3 a4 a5 (ix2 r j) = (s0 * (((s0 * s3) + (s1 * s2)) + s5)) + (s1 * (((s0 * s2) - (s1 * s3)) + s4)) := by
  pointwise [k0_pay27, k0_pay28, k0_pay32, h0, h1, h2, h3, h4, h5]

theorem p34 (r : Fin 8) (j : Fin 1024) {a0 : FVec Ideal S8x1024 .f32} {s0 : EReal} (h0 : a0 (ix2 r j) = s0) :
    k0_pay34 (F := Ideal) a0 (ix3 0 r j) = s0 := by
  pointwise [k0_pay34, h0]

theorem p35 (r : Fin 8) (j : Fin 1024) {a0 : FVec Ideal S8x1024 .f32} {a1 : Vec Ideal S1x8x1024 .f32} {s0 s1 : EReal} (h0 : a0 (ix2 r j) = s0) (h1 : a1 (ix3 0 r j) = s1) :
    k0_pay35 (F := Ideal) a0 a1 (ix3 0 r j) = s0 + s1 := by
  pointwise [k0_pay33, k0_pay35, h0, h1]

theorem p36 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {s0 s1 s2 s3 s4 s5 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) :
    k0_pay36 (F := Ideal) a0 a1 a2 a3 a4 a5 (ix2 r j) = ((s0 * s2) - (s1 * (s3 + s4))) + s5 := by
  pointwise [k0_pay33, k0_pay36, h0, h1, h2, h3, h4, h5]

theorem p37 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {s0 s1 s2 s3 s4 s5 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) :
    k0_pay37 (F := Ideal) a0 a1 a2 a3 a4 a5 (ix2 r j) = ((s0 * (s3 + s4)) + (s1 * s2)) + s5 := by
  pointwise [k0_pay33, k0_pay37, h0, h1, h2, h3, h4, h5]

theorem p38 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {s0 s1 s2 s3 s4 s5 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) :
    k0_pay38 (F := Ideal) a0 a1 a2 a3 a4 a5 (ix3 0 r j) = ((s0 * s2) - (s1 * (s3 + s4))) + s5 := by
  pointwise [k0_pay33, k0_pay36, k0_pay38, h0, h1, h2, h3, h4, h5]

theorem p39 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {s0 s1 s2 s3 s4 s5 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) :
    k0_pay39 (F := Ideal) a0 a1 a2 a3 a4 a5 (ix3 0 r j) = ((s0 * (s3 + s4)) + (s1 * s2)) + s5 := by
  pointwise [k0_pay33, k0_pay37, k0_pay39, h0, h1, h2, h3, h4, h5]

theorem p40 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {a6 : Vec Ideal S1x8x1024 .f32} {s0 s1 s2 s3 s4 s5 s6 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) (h6 : a6 (ix3 0 r j) = s6) :
    k0_pay40 (F := Ideal) a0 a1 a2 a3 a4 a5 a6 (ix2 r j) = (s0 * (((s0 * s2) - (s1 * (s3 + s4))) + s5)) - (s1 * (((s0 * (s3 + s4)) + (s1 * s2)) + s6)) := by
  pointwise [k0_pay33, k0_pay36, k0_pay37, k0_pay40, h0, h1, h2, h3, h4, h5, h6]

theorem p43 (r : Fin 8) (j : Fin 1024) {a0 : FVec Ideal S8x1024 .f32} {a1 : Vec Ideal S1x8x1024 .f32} {s0 s1 : EReal} (h0 : a0 (ix2 r j) = s0) (h1 : a1 (ix3 0 r j) = s1) :
    k0_pay43 (F := Ideal) a0 a1 (ix3 0 r j) = s0 + s1 := by
  pointwise [k0_pay41, k0_pay43, h0, h1]

theorem p44 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {s0 s1 s2 s3 s4 : EReal} (h0 : a0 (ix2 r j) = s0) (h1 : a1 (ix2 r j) = s1) (h2 : a2 (ix2 r j) = s2) (h3 : a3 (ix2 r j) = s3) (h4 : a4 (ix3 0 r j) = s4) :
    k0_pay44 (F := Ideal) a0 a1 a2 a3 a4 (ix3 0 r j) = ((s0 * s3) + (s1 * s2)) + s4 := by
  pointwise [k0_pay42, k0_pay44, h0, h1, h2, h3, h4]

theorem p45 (r : Fin 8) (j : Fin 1024) {a0 : FVec Ideal S8x1024 .f32} {a1 : FVec Ideal S8x1024 .f32} {a2 : FVec Ideal S8x1024 .f32} {a3 : FVec Ideal S8x1024 .f32} {a4 : FVec Ideal S8x1024 .f32} {a5 : Vec Ideal S1x8x1024 .f32} {a6 : Vec Ideal S1x8x1024 .f32} {a7 : Vec Ideal S1x8x1024 .f32} {s0 s1 s2 s3 s4 s5 s6 s7 : EReal} (h0 : a0 (ix2 r j) = s0) (h1 : a1 (ix2 r j) = s1) (h2 : a2 (ix2 r j) = s2) (h3 : a3 (ix2 r j) = s3) (h4 : a4 (ix2 r j) = s4) (h5 : a5 (ix3 0 r j) = s5) (h6 : a6 (ix3 0 r j) = s6) (h7 : a7 (ix3 0 r j) = s7) :
    k0_pay45 (F := Ideal) a0 a1 a2 a3 a4 a5 a6 a7 (ix3 0 r j) = ((s0 * (s4 + s5)) - (s1 * (((s0 * s3) + (s1 * s2)) + s6))) + s7 := by
  pointwise [k0_pay41, k0_pay42, k0_pay45, h0, h1, h2, h3, h4, h5, h6, h7]

theorem p46 (r : Fin 8) (j : Fin 1024) {a0 : FVec Ideal S8x1024 .f32} {a1 : FVec Ideal S8x1024 .f32} {a2 : FVec Ideal S8x1024 .f32} {a3 : FVec Ideal S8x1024 .f32} {a4 : FVec Ideal S8x1024 .f32} {a5 : Vec Ideal S1x8x1024 .f32} {a6 : Vec Ideal S1x8x1024 .f32} {a7 : Vec Ideal S1x8x1024 .f32} {s0 s1 s2 s3 s4 s5 s6 s7 : EReal} (h0 : a0 (ix2 r j) = s0) (h1 : a1 (ix2 r j) = s1) (h2 : a2 (ix2 r j) = s2) (h3 : a3 (ix2 r j) = s3) (h4 : a4 (ix2 r j) = s4) (h5 : a5 (ix3 0 r j) = s5) (h6 : a6 (ix3 0 r j) = s6) (h7 : a7 (ix3 0 r j) = s7) :
    k0_pay46 (F := Ideal) a0 a1 a2 a3 a4 a5 a6 a7 (ix3 0 r j) = ((s0 * (((s0 * s3) + (s1 * s2)) + s6)) + (s1 * (s4 + s5))) + s7 := by
  pointwise [k0_pay41, k0_pay42, k0_pay46, h0, h1, h2, h3, h4, h5, h6, h7]

theorem p47 (r : Fin 8) (j : Fin 1024) {a0 : Vec Ideal S8x1024 .f32} {s0 : EReal} (h0 : a0 (ix2 r j) = s0) :
    k0_pay47 (F := Ideal) a0 (ix2 r j) = s0 := by
  pointwise [k0_pay47, h0]

theorem p48 (r : Fin 8) (j : Fin 1024) {a0 : Vec Ideal S8x1024 .f32} {s0 : EReal} (h0 : a0 (ix2 r j) = s0) :
    k0_pay48 (F := Ideal) a0 (ix2 r j) = s0 := by
  pointwise [k0_pay48, h0]

theorem p51 (r : Fin 8) (j : Fin 1024) {a0 : Vec Ideal S8x1024 .f32} {a1 : Vec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay51 (F := Ideal) a0 a1 a2 a3 a4 (ix3 0 r j) = (s4 + (s2 * s0)) - (s3 * s1) := by
  pointwise [k0_pay47, k0_pay48, k0_pay49, k0_pay50, k0_pay51, h0, h1, h2, h3, h4]

theorem p52 (r : Fin 8) (j : Fin 1024) {a0 : Vec Ideal S8x1024 .f32} {a1 : Vec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay52 (F := Ideal) a0 a1 a2 a3 a4 (ix3 0 r j) = (s4 + (s2 * s1)) + (s3 * s0) := by
  pointwise [k0_pay47, k0_pay48, k0_pay49, k0_pay50, k0_pay52, h0, h1, h2, h3, h4]

theorem p53 (r : Fin 8) (j : Fin 1024) {a0 : Vec Ideal S1x1024 .f32} {s0 : EReal} (h0 : a0 (ix2 0 j) = s0) :
    k0_pay53 (F := Ideal) a0 (ix2 0 j) = s0 := by
  pointwise [k0_pay53, h0]

theorem p55 (r : Fin 8) (j : Fin 1024) {a0 : FVec Ideal S8x1024 .f32} {a1 : FVec Ideal S8x1024 .f32} {a2 : FVec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay55 (F := Ideal) a0 a1 a2 a3 a4 (ix3 0 r j) = (s4 + (s2 * s0)) - (s3 * s1) := by
  pointwise [k0_pay54, k0_pay55, h0, h1, h2, h3, h4]

theorem p56 (r : Fin 8) (j : Fin 1024) {a0 : FVec Ideal S8x1024 .f32} {a1 : FVec Ideal S8x1024 .f32} {a2 : FVec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay56 (F := Ideal) a0 a1 a2 a3 a4 (ix3 0 r j) = (s4 + (s2 * s1)) + (s3 * s0) := by
  pointwise [k0_pay54, k0_pay56, h0, h1, h2, h3, h4]

theorem p57 (r : Fin 8) (j : Fin 1024) {a0 : Vec Ideal S1x1024 .f32} {s0 : EReal} (h0 : a0 (ix2 0 j) = s0) :
    k0_pay57 (F := Ideal) a0 (ix2 0 j) = s0 := by
  pointwise [k0_pay57, h0]

theorem p58 (r : Fin 8) (j : Fin 1024) {a0 : Vec Ideal S1x1024 .f32} {s0 : EReal} (h0 : a0 (ix2 0 j) = s0) :
    k0_pay58 (F := Ideal) a0 (ix2 0 j) = s0 := by
  pointwise [k0_pay58, h0]

theorem p59 (r : Fin 8) (j : Fin 1024) {a0 : FVec Ideal S8x1024 .f32} {a1 : FVec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay59 (F := Ideal) a0 a1 a2 a3 a4 (ix2 r j) = (s4 + (s2 * s0)) - (s3 * s1) := by
  pointwise [k0_pay57, k0_pay58, k0_pay59, h0, h1, h2, h3, h4]

theorem p60 (r : Fin 8) (j : Fin 1024) {a0 : FVec Ideal S8x1024 .f32} {s0 : EReal} (h0 : a0 (ix2 r j) = s0) :
    k0_pay60 (F := Ideal) a0 (ix3 0 r j) = s0 := by
  pointwise [k0_pay60, h0]

theorem p61 (r : Fin 8) (j : Fin 1024) {a0 : FVec Ideal S8x1024 .f32} {a1 : FVec Ideal S8x1024 .f32} {a2 : FVec Ideal S1x1024 .f32} {a3 : FVec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay61 (F := Ideal) a0 a1 a2 a3 a4 (ix3 0 r j) = (s4 + (s2 * s1)) + (s3 * s0) := by
  pointwise [k0_pay61, h0, h1, h2, h3, h4]

theorem p64 (r : Fin 8) (j : Fin 1024) {a0 : FVec Ideal S8x1024 .f32} {a1 : FVec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay64 (F := Ideal) a0 a1 a2 a3 a4 (ix3 0 r j) = (s4 + (s2 * s0)) - (s3 * s1) := by
  pointwise [k0_pay62, k0_pay63, k0_pay64, h0, h1, h2, h3, h4]

theorem p65 (r : Fin 8) (j : Fin 1024) {a0 : FVec Ideal S8x1024 .f32} {a1 : Vec Ideal S1x1024 .f32} {a2 : Vec Ideal S1x8x1024 .f32} {s0 s1 s2 : EReal} (h0 : a0 (ix2 r j) = s0) (h1 : a1 (ix2 0 j) = s1) (h2 : a2 (ix3 0 r j) = s2) :
    k0_pay65 (F := Ideal) a0 a1 a2 (ix2 r j) = s2 + (s1 * s0) := by
  pointwise [k0_pay62, k0_pay65, h0, h1, h2]

theorem p66 (r : Fin 8) (j : Fin 1024) {a0 : FVec Ideal S8x1024 .f32} {a1 : Vec Ideal S1x1024 .f32} {s0 s1 : EReal} (h0 : a0 (ix2 r j) = s0) (h1 : a1 (ix2 0 j) = s1) :
    k0_pay66 (F := Ideal) a0 a1 (ix2 r j) = s1 * s0 := by
  pointwise [k0_pay63, k0_pay66, h0, h1]

theorem p67 (r : Fin 8) (j : Fin 1024) {a0 : FVec Ideal S8x1024 .f32} {a1 : FVec Ideal S8x1024 .f32} {s0 s1 : EReal} (h0 : a0 (ix2 r j) = s0) (h1 : a1 (ix2 r j) = s1) :
    k0_pay67 (F := Ideal) a0 a1 (ix3 0 r j) = s0 + s1 := by
  pointwise [k0_pay67, h0, h1]

theorem p70 (r : Fin 8) (j : Fin 1024) {a0 : FVec Ideal S8x1024 .f32} {a1 : FVec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay70 (F := Ideal) a0 a1 a2 a3 a4 (ix3 0 r j) = (s4 + (s2 * s0)) - (s3 * s1) := by
  pointwise [k0_pay68, k0_pay69, k0_pay70, h0, h1, h2, h3, h4]

theorem p71 (r : Fin 8) (j : Fin 1024) {a0 : FVec Ideal S8x1024 .f32} {a1 : FVec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay71 (F := Ideal) a0 a1 a2 a3 a4 (ix3 0 r j) = (s4 + (s2 * s1)) + (s3 * s0) := by
  pointwise [k0_pay68, k0_pay69, k0_pay71, h0, h1, h2, h3, h4]

theorem p72 (r : Fin 8) (j : Fin 1024) {a0 : Vec Ideal S1x1024 .f32} {s0 : EReal} (h0 : a0 (ix2 0 j) = s0) :
    k0_pay72 (F := Ideal) a0 (ix2 0 j) = s0 := by
  pointwise [k0_pay72, h0]

theorem p74 (r : Fin 8) (j : Fin 1024) {a0 : FVec Ideal S8x1024 .f32} {a1 : FVec Ideal S8x1024 .f32} {a2 : FVec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay74 (F := Ideal) a0 a1 a2 a3 a4 (ix3 0 r j) = (s4 + (s2 * s0)) - (s3 * s1) := by
  pointwise [k0_pay73, k0_pay74, h0, h1, h2, h3, h4]

theorem p75 (r : Fin 8) (j : Fin 1024) {a0 : FVec Ideal S8x1024 .f32} {a1 : FVec Ideal S8x1024 .f32} {a2 : FVec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay75 (F := Ideal) a0 a1 a2 a3 a4 (ix3 0 r j) = (s4 + (s2 * s1)) + (s3 * s0) := by
  pointwise [k0_pay73, k0_pay75, h0, h1, h2, h3, h4]

theorem p76 (r : Fin 8) (j : Fin 1024) {a0 : Vec Ideal S1x1024 .f32} {s0 : EReal} (h0 : a0 (ix2 0 j) = s0) :
    k0_pay76 (F := Ideal) a0 (ix2 0 j) = s0 := by
  pointwise [k0_pay76, h0]

theorem p77 (r : Fin 8) (j : Fin 1024) {a0 : Vec Ideal S1x1024 .f32} {s0 : EReal} (h0 : a0 (ix2 0 j) = s0) :
    k0_pay77 (F := Ideal) a0 (ix2 0 j) = s0 := by
  pointwise [k0_pay77, h0]

theorem p78 (r : Fin 8) (j : Fin 1024) {a0 : FVec Ideal S8x1024 .f32} {a1 : FVec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay78 (F := Ideal) a0 a1 a2 a3 a4 (ix2 r j) = (s4 + (s2 * s0)) - (s3 * s1) := by
  pointwise [k0_pay76, k0_pay77, k0_pay78, h0, h1, h2, h3, h4]

theorem p79 (r : Fin 8) (j : Fin 1024) {a0 : FVec Ideal S8x1024 .f32} {s0 : EReal} (h0 : a0 (ix2 r j) = s0) :
    k0_pay79 (F := Ideal) a0 (ix3 0 r j) = s0 := by
  pointwise [k0_pay79, h0]

theorem p80 (r : Fin 8) (j : Fin 1024) {a0 : FVec Ideal S8x1024 .f32} {a1 : FVec Ideal S8x1024 .f32} {a2 : FVec Ideal S1x1024 .f32} {a3 : FVec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay80 (F := Ideal) a0 a1 a2 a3 a4 (ix3 0 r j) = (s4 + (s2 * s1)) + (s3 * s0) := by
  pointwise [k0_pay80, h0, h1, h2, h3, h4]

theorem p83 (r : Fin 8) (j : Fin 1024) {a0 : FVec Ideal S8x1024 .f32} {a1 : FVec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay83 (F := Ideal) a0 a1 a2 a3 a4 (ix3 0 r j) = (s4 + (s2 * s0)) - (s3 * s1) := by
  pointwise [k0_pay81, k0_pay82, k0_pay83, h0, h1, h2, h3, h4]

theorem p84 (r : Fin 8) (j : Fin 1024) {a0 : FVec Ideal S8x1024 .f32} {a1 : Vec Ideal S1x1024 .f32} {a2 : Vec Ideal S1x8x1024 .f32} {s0 s1 s2 : EReal} (h0 : a0 (ix2 r j) = s0) (h1 : a1 (ix2 0 j) = s1) (h2 : a2 (ix3 0 r j) = s2) :
    k0_pay84 (F := Ideal) a0 a1 a2 (ix2 r j) = s2 + (s1 * s0) := by
  pointwise [k0_pay81, k0_pay84, h0, h1, h2]

theorem p85 (r : Fin 8) (j : Fin 1024) {a0 : FVec Ideal S8x1024 .f32} {a1 : Vec Ideal S1x1024 .f32} {s0 s1 : EReal} (h0 : a0 (ix2 r j) = s0) (h1 : a1 (ix2 0 j) = s1) :
    k0_pay85 (F := Ideal) a0 a1 (ix2 r j) = s1 * s0 := by
  pointwise [k0_pay82, k0_pay85, h0, h1]

theorem p86 (r : Fin 8) (j : Fin 1024) {a0 : FVec Ideal S8x1024 .f32} {a1 : FVec Ideal S8x1024 .f32} {s0 s1 : EReal} (h0 : a0 (ix2 r j) = s0) (h1 : a1 (ix2 r j) = s1) :
    k0_pay86 (F := Ideal) a0 a1 (ix3 0 r j) = s0 + s1 := by
  pointwise [k0_pay86, h0, h1]

end Cert.ScanIdeal.Hand
-- ==== Proof.ScanInit.lean ====
/- Hand-written, untrusted: what drives the recurrence, the rows put in the order of the steps. -/
module

public import proofs.«01_k».proof.Proof.ScanBase

set_option maxRecDepth 16384

@[expose] public section

noncomputable section

open Idealize.ShloMosaic Idealize.ShloMosaic.TcCoe Idealize.SL.Sem

namespace Cert.ScanIdeal.Hand

open Cert.ScanIdeal Cert.ScanIdeal.Gen

/-- The row the step order takes from: sequence and step of a row swapped. -/
def pm (ρ : Fin 64) : Fin 64 := ⟨ρ.val % 8 * 8 + ρ.val / 8, by omega⟩

theorem pm_cmp (ρ q : Fin 64) : IntOp.cmpi CmpIPredicate.eq (BitVec.ofNat 32 q.val)
    (IntOp.addi (IntOp.muli (IntOp.andi (BitVec.ofNat 32 ρ.val) 7#32) 8#32)
      (IntOp.shrsi ArithUnit.vector (BitVec.ofNat 32 ρ.val) 3#32)) = if q = pm ρ then 1#1 else 0#1 := by
  revert ρ q
  decide +kernel

theorem pay2_at (ρ q : Fin 64) : k0_pay2 (F := Ideal) (ix2 ρ q) = if q = pm ρ then (1 : EReal) else 0 := by
  pointwise [k0_pay2]
  rw [pm_cmp]
  by_cases h : q = pm ρ
  · rw [if_pos h, if_pos h]; rfl
  · rw [if_neg h, if_neg h]; rfl

theorem pay3_at (ρ q : Fin 64) : k0_pay3 (F := Ideal) (ix2 ρ q) = if ρ = pm q then (1 : EReal) else 0 := by
  pointwise [k0_pay3]
  rw [pm_cmp]
  by_cases h : ρ = pm q
  · rw [if_pos h, if_pos h]; rfl
  · rw [if_neg h, if_neg h]; rfl

theorem q10 (a : FVec Ideal S8x8x1024 .f32) (t r : Fin 8) (j : Fin 1024) : k0_pay10 a (ix3 t r j) = a (ix3 t r j) := by
  pointwise [k0_pay10]

theorem q91 (a : FVec Ideal S64x1024 .bf16) (w : FVec Ideal S1x256x1024 .bf16) (t r : Fin 8) (j : Fin 1024) :
    k0_pay91 a w (ix3 t r j) = ∑ k : Fin 256, a (ix2 ⟨t.val * 8 + r.val, by omega⟩ ⟨256 + k.val, by omega⟩) * w (ix3 0 k j) := by
  pointwise [k0_pay91, k0_pay90]

theorem q92 (a : FVec Ideal S64x1024 .bf16) (w : FVec Ideal S1x256x1024 .bf16) (t r : Fin 8) (j : Fin 1024) :
    k0_pay92 (F := Ideal) a w (ix3 t r j) = ∑ k : Fin 256, a (ix2 ⟨t.val * 8 + r.val, by omega⟩ ⟨256 + k.val, by omega⟩) * w (ix3 0 k j) := by
  pointwise [k0_pay92, k0_pay90]

theorem q175 (a : FVec Ideal S64x1024 .bf16) (w : FVec Ideal S1x256x1024 .bf16) (t r : Fin 8) (j : Fin 1024) :
    k0_pay175 (F := Ideal) a w (ix3 t r j) = ∑ k : Fin 256, a (ix2 ⟨t.val * 8 + r.val, by omega⟩ ⟨512 + k.val, by omega⟩) * w (ix3 0 k j) := by
  pointwise [k0_pay175, k0_pay174]

theorem q176 (a : FVec Ideal S64x1024 .bf16) (w : FVec Ideal S1x256x1024 .bf16) (t r : Fin 8) (j : Fin 1024) :
    k0_pay176 (F := Ideal) a w (ix3 t r j) = ∑ k : Fin 256, a (ix2 ⟨t.val * 8 + r.val, by omega⟩ ⟨512 + k.val, by omega⟩) * w (ix3 0 k j) := by
  pointwise [k0_pay176, k0_pay174]

theorem q257 (a : FVec Ideal S64x1024 .bf16) (w : FVec Ideal S1x256x1024 .bf16) (t r : Fin 8) (j : Fin 1024) :
    k0_pay257 (F := Ideal) a w (ix3 t r j) = ∑ k : Fin 256, a (ix2 ⟨t.val * 8 + r.val, by omega⟩ ⟨768 + k.val, by omega⟩) * w (ix3 0 k j) := by
  pointwise [k0_pay257, k0_pay256]

theorem q258 (a : FVec Ideal S64x1024 .bf16) (w : FVec Ideal S1x256x1024 .bf16) (t r : Fin 8) (j : Fin 1024) :
    k0_pay258 (F := Ideal) a w (ix3 t r j) = ∑ k : Fin 256, a (ix2 ⟨t.val * 8 + r.val, by omega⟩ ⟨768 + k.val, by omega⟩) * w (ix3 0 k j) := by
  pointwise [k0_pay258, k0_pay256]

theorem q9 (a : FVec Ideal S64x1024 .f32) (w : FVec Ideal S1x256x1024 .bf16) (t r : Fin 8) (j : Fin 1024) :
    k0_pay9 (F := Ideal) a w (ix3 t r j) = ∑ k : Fin 256, (k0_pay8 (F := Ideal) a (ix2 ⟨t.val * 8 + r.val, by omega⟩ k) : EReal) * w (ix3 0 k j) := by
  pointwise [k0_pay9]

theorem q11 (a : FVec Ideal S64x256 .bf16) (w : FVec Ideal S1x256x1024 .bf16) (t r : Fin 8) (j : Fin 1024) :
    k0_pay11 (F := Ideal) a w (ix3 t r j) = ∑ k : Fin 256, (a (ix2 ⟨t.val * 8 + r.val, by omega⟩ k) : EReal) * w (ix3 0 k j) := by
  pointwise [k0_pay11]

theorem q5 (a : FVec Ideal S64x1024 .f32) (r : Fin 64) (j : Fin 1024) :
    (k0_pay5 (F := Ideal) a (ix2 r j) : EReal) = a (ix2 (pm r) j) := by
  have e : (k0_pay5 (F := Ideal) a (ix2 r j) : EReal) = ∑ k : Fin 64, (k0_pay2 (F := Ideal) (ix2 r k) : EReal) * a (ix2 k j) := by
    pointwise [k0_pay5, k0_pay4]
  rw [e, Finset.sum_eq_single (pm r)]
  · rw [pay2_at, if_pos rfl, one_mul]
  · intro b _ hb
    rw [pay2_at, if_neg hb, zero_mul]
  · intro h; exact absurd (Finset.mem_univ _) h

theorem q6 (a : FVec Ideal S64x1024 .f32) (r : Fin 64) (j : Fin 1024) (h : (a (ix2 (pm r) j) : EReal) - a (ix2 (pm r) j) = 0) :
    (k0_pay6 (F := Ideal) a (ix2 r j) : EReal) = a (ix2 (pm r) j) := by
  have e : (k0_pay6 (F := Ideal) a (ix2 r j) : EReal) = (k0_pay5 (F := Ideal) a (ix2 r j) : EReal)
      + ∑ k : Fin 64, (k0_pay2 (F := Ideal) (ix2 r k) : EReal) * (a (ix2 k j) - a (ix2 k j)) := by
    pointwise [k0_pay6, k0_pay4]
  rw [e, Finset.sum_eq_single (pm r)]
  · rw [q5, h, mul_zero, add_zero]
  · intro b _ hb
    rw [pay2_at, if_neg hb, zero_mul]
  · intro h; exact absurd (Finset.mem_univ _) h

theorem q7 (a : FVec Ideal S64x1024 .f32) (r : Fin 64) (j : Fin 1024) :
    (k0_pay7 (F := Ideal) a (ix2 r j) : EReal) = a (ix2 (pm r) j) := by
  refine Eq.trans ?_ (q5 a r j)
  pointwise [k0_pay7]

theorem q8 (a : FVec Ideal S64x1024 .f32) (r : Fin 64) (j : Fin 256) :
    (k0_pay8 (F := Ideal) a (ix2 r j) : EReal) = a (ix2 (pm r) ⟨j.val, by omega⟩) := by
  refine Eq.trans ?_ (q7 a r ⟨j.val, by omega⟩)
  pointwise [k0_pay8]

theorem pm_row (t r : Fin 8) (h) : pm ⟨t.val * 8 + r.val, h⟩ = ⟨r.val * 8 + t.val, by omega⟩ := by
  apply Fin.ext
  show (t.val * 8 + r.val) % 8 * 8 + (t.val * 8 + r.val) / 8 = r.val * 8 + t.val
  omega

/-- The driving rows, read whole. -/
theorem ldx {sig : RefSig} {κ : Kind} {sp : Space} {m : Memref sig κ sp S64x1024 .f32} (h : m.IsWhole) (x : FVec Ideal S64x1024 .f32) {inb} (r : Fin 64) (j : Fin 1024) :
    View.readAt (Elt Ideal) m.view (Rect.unit ![0, 0] S64x1024.size inb : Rect S64x1024).toLoadRect (h.unread x) (ix2 r j) = x (ix2 r j) := by
  rw [Memref.IsWhole.readAt_unread]
  refine congrArg x (funext fun a => Fin.ext ?_)
  refine (ValueKit.rect_emb_unit_val (s := S64x1024) _ _ inb (ix2 r j) a).trans ?_
  fin_cases a <;> simp [ix2]

/-- A block of the input weights. -/
theorem ldw {sig : RefSig} {κ : Kind} {sp : Space} {m : Memref sig κ sp S4x256x1024 .bf16} (h : m.IsWhole) (x : FVec Ideal S4x256x1024 .bf16)
    (b : Fin 4) {b' : ℕ} {inb} (hb : b' = b.val) (k : Fin 256) (j : Fin 1024) :
    View.readAt (Elt Ideal) m.view (Rect.unit ![b', 0, 0] S1x256x1024.size inb : Rect S4x256x1024).toLoadRect (h.unread x) (ix3 0 k j) = x (ix3 b k j) := by
  subst hb
  rw [Memref.IsWhole.readAt_unread]
  refine congrArg x (funext fun a => Fin.ext ?_)
  refine (ValueKit.rect_emb_unit_val (s := S4x256x1024) _ _ inb (ix3 0 k j) a).trans ?_
  fin_cases a <;> simp [ix3]

/-- A block of the output weights. -/
theorem ldc {sig : RefSig} {κ : Kind} {sp : Space} {m : Memref sig κ sp S4x1024x256 .bf16} (h : m.IsWhole) (x : FVec Ideal S4x1024x256 .bf16)
    (b : Fin 4) {b' : ℕ} {inb} (hb : b' = b.val) (k : Fin 1024) (j : Fin 256) :
    View.readAt (Elt Ideal) m.view (Rect.unit ![b', 0, 0] S1x1024x256.size inb : Rect S4x1024x256).toLoadRect (h.unread x) (ix3 0 k j) = x (ix3 b k j) := by
  subst hb
  rw [Memref.IsWhole.readAt_unread]
  refine congrArg x (funext fun a => Fin.ext ?_)
  refine (ValueKit.rect_emb_unit_val (s := S4x1024x256) _ _ inb (ix3 0 k j) a).trans ?_
  fin_cases a <;> simp [ix3]

/-- A sum of products of the reordered rows is what drives the recurrence. -/
theorem bu_eq (x0 : FVec Ideal S64x1024 .f32) (x : FVec Ideal S4x256x1024 .bf16) (b : Fin 4) (t r : Fin 8) (j : Fin 1024)
    {a : Fin 256 → EReal} {w : Fin 256 → EReal}
    (ha : ∀ k, a k = x0 (ix2 (pm ⟨t.val * 8 + r.val, by omega⟩) ⟨b.val * 256 + k.val, by omega⟩)) (hw : ∀ k, w k = x (ix3 b k j)) :
    ∑ k : Fin 256, a k * w k = BU x0 x b t r j := by
  refine Finset.sum_congr rfl fun k _ => ?_
  rw [ha, hw, pm_row]

variable {c : Dev nD} {arg1 : Memref sig .tc .vmem S64x1024 .f32} {harg1 : arg1.IsWhole}
  {arg6 arg7 : Memref sig .tc .vmem S4x256x1024 .bf16} {harg6 : arg6.IsWhole} {harg7 : arg7.IsWhole}
  {x0 : FVec Ideal S64x1024 .f32} {x5 x6 : FVec Ideal S4x256x1024 .bf16}

theorem w_r_1 (ρ : Fin 64) (j : Fin 1024) : (kernelRun0_A.sl.r_1 (F := Ideal) c arg1 harg1 x0 (ix2 ρ j) : EReal) = x0 (ix2 (pm ρ) j) :=
  (q7 _ ρ j).trans (ldx harg1 x0 (pm ρ) j)

theorem w_r_2 (ρ : Fin 64) (j : Fin 256) : (kernelRun0_A.sl.r_2 (F := Ideal) c arg1 harg1 x0 (ix2 ρ j) : EReal) = x0 (ix2 (pm ρ) ⟨j.val, by omega⟩) :=
  (q8 _ ρ j).trans (ldx harg1 x0 (pm ρ) _)

theorem w_r_3 (t r : Fin 8) (j : Fin 1024) : (kernelRun0_A.sl.r_3 (F := Ideal) c arg1 harg1 arg6 harg6 x0 x5 (ix3 t r j) : EReal) = BU x0 x5 0 t r j :=
  (q9 _ _ t r j).trans (bu_eq x0 x5 0 t r j (fun k => ((q8 _ _ k).trans (ldx harg1 x0 (pm _) _)).trans (by simp)) (fun k => ldw harg6 x5 0 rfl k j))

theorem init0_0 (t r : Fin 8) (j : Fin 1024) :
    (k0_pay10 (F := Ideal) (kernelRun0_A.sl.r_3 (F := Ideal) c arg1 harg1 arg6 harg6 x0 x5) (ix3 t r j) : EReal) = BU x0 x5 0 t r j :=
  (q10 _ t r j).trans (w_r_3 t r j)

theorem init1_0 (t r : Fin 8) (j : Fin 1024) {inb} :
    (k0_pay11 (F := Ideal) (kernelRun0_A.sl.r_2 (F := Ideal) c arg1 harg1 x0) (View.readAt (Elt Ideal) arg7.view (Rect.unit ![0, 0, 0] S1x256x1024.size inb : Rect S4x256x1024).toLoadRect (harg7.unread x6)) (ix3 t r j) : EReal) = BU x0 x6 0 t r j :=
  (q11 _ _ t r j).trans (bu_eq x0 x6 0 t r j (fun k => (w_r_2 _ k).trans (by simp)) (fun k => ldw harg7 x6 0 rfl k j))

theorem init0_1 (t r : Fin 8) (j : Fin 1024) {inb} :
    (k0_pay91 (F := Ideal) (kernelRun0_A.sl.r_1 (F := Ideal) c arg1 harg1 x0) (View.readAt (Elt Ideal) arg6.view (Rect.unit ![1, 0, 0] S1x256x1024.size inb : Rect S4x256x1024).toLoadRect (harg6.unread x5)) (ix3 t r j) : EReal) = BU x0 x5 1 t r j :=
  (q91 _ _ t r j).trans (bu_eq x0 x5 1 t r j (fun k => w_r_1 _ _) (fun k => ldw harg6 x5 1 rfl k j))

theorem init1_1 (t r : Fin 8) (j : Fin 1024) {inb} :
    (k0_pay92 (F := Ideal) (kernelRun0_A.sl.r_1 (F := Ideal) c arg1 harg1 x0) (View.readAt (Elt Ideal) arg7.view (Rect.unit ![1, 0, 0] S1x256x1024.size inb : Rect S4x256x1024).toLoadRect (harg7.unread x6)) (ix3 t r j) : EReal) = BU x0 x6 1 t r j :=
  (q92 _ _ t r j).trans (bu_eq x0 x6 1 t r j (fun k => w_r_1 _ _) (fun k => ldw harg7 x6 1 rfl k j))

theorem init0_2 (t r : Fin 8) (j : Fin 1024) {inb} :
    (k0_pay175 (F := Ideal) (kernelRun0_A.sl.r_1 (F := Ideal) c arg1 harg1 x0) (View.readAt (Elt Ideal) arg6.view (Rect.unit ![2, 0, 0] S1x256x1024.size inb : Rect S4x256x1024).toLoadRect (harg6.unread x5)) (ix3 t r j) : EReal) = BU x0 x5 2 t r j :=
  (q175 _ _ t r j).trans (bu_eq x0 x5 2 t r j (fun k => w_r_1 _ _) (fun k => ldw harg6 x5 2 rfl k j))

theorem init1_2 (t r : Fin 8) (j : Fin 1024) {inb} :
    (k0_pay176 (F := Ideal) (kernelRun0_A.sl.r_1 (F := Ideal) c arg1 harg1 x0) (View.readAt (Elt Ideal) arg7.view (Rect.unit ![2, 0, 0] S1x256x1024.size inb : Rect S4x256x1024).toLoadRect (harg7.unread x6)) (ix3 t r j) : EReal) = BU x0 x6 2 t r j :=
  (q176 _ _ t r j).trans (bu_eq x0 x6 2 t r j (fun k => w_r_1 _ _) (fun k => ldw harg7 x6 2 rfl k j))

theorem init0_3 (t r : Fin 8) (j : Fin 1024) {inb} :
    (k0_pay257 (F := Ideal) (kernelRun0_A.sl.r_1 (F := Ideal) c arg1 harg1 x0) (View.readAt (Elt Ideal) arg6.view (Rect.unit ![3, 0, 0] S1x256x1024.size inb : Rect S4x256x1024).toLoadRect (harg6.unread x5)) (ix3 t r j) : EReal) = BU x0 x5 3 t r j :=
  (q257 _ _ t r j).trans (bu_eq x0 x5 3 t r j (fun k => w_r_1 _ _) (fun k => ldw harg6 x5 3 rfl k j))

theorem init1_3 (t r : Fin 8) (j : Fin 1024) {inb} :
    (k0_pay258 (F := Ideal) (kernelRun0_A.sl.r_1 (F := Ideal) c arg1 harg1 x0) (View.readAt (Elt Ideal) arg7.view (Rect.unit ![3, 0, 0] S1x256x1024.size inb : Rect S4x256x1024).toLoadRect (harg7.unread x6)) (ix3 t r j) : EReal) = BU x0 x6 3 t r j :=
  (q258 _ _ t r j).trans (bu_eq x0 x6 3 t r j (fun k => w_r_1 _ _) (fun k => ldw harg7 x6 3 rfl k j))

end Cert.ScanIdeal.Hand
-- ==== Proof.ScanBlk0.lean ====
/- Hand-written, untrusted: the recurrence over block 0 of lanes, step after step. -/
module

public import proofs.«01_k».proof.Proof.ScanPay0
public import proofs.«01_k».proof.Proof.ScanInit

set_option maxRecDepth 16384

@[expose] public section

noncomputable section

open Idealize.ShloMosaic Idealize.ShloMosaic.TcCoe Idealize.SL.Sem

namespace Cert.ScanIdeal.Hand

open Cert.ScanIdeal Cert.ScanIdeal.Gen

variable {c : Dev nD}
variable {arg1 : Memref sig .tc .vmem S64x1024 .f32} {harg1 : arg1.IsWhole}
variable {arg2 : Memref sig .tc .vmem S8x4096 .f32} {harg2 : arg2.IsWhole}
variable {arg3 : Memref sig .tc .vmem S8x4096 .f32} {harg3 : arg3.IsWhole}
variable {arg4 : Memref sig .tc .vmem S8x4096 .f32} {harg4 : arg4.IsWhole}
variable {arg5 : Memref sig .tc .vmem S8x4096 .f32} {harg5 : arg5.IsWhole}
variable {arg6 : Memref sig .tc .vmem S4x256x1024 .bf16} {harg6 : arg6.IsWhole}
variable {arg7 : Memref sig .tc .vmem S4x256x1024 .bf16} {harg7 : arg7.IsWhole}
variable {arg8 : Memref sig .tc .vmem S4x1024x256 .bf16} {harg8 : arg8.IsWhole}
variable {arg9 : Memref sig .tc .vmem S4x1024x256 .bf16} {harg9 : arg9.IsWhole}
variable {arg10 : Memref sig .tc .vmem S1x1024 .f32} {harg10 : arg10.IsWhole}
variable {arg11 : Memref sig .tc .vmem S1024x1024 .bf16} {harg11 : arg11.IsWhole}
variable {arg12 : Memref sig .tc .vmem S1x1024 .f32} {harg12 : arg12.IsWhole}
variable {arg16 : Memref sig .tc .vmem S8x8x1024 .f32} {harg16 : arg16.IsWhole}
variable {arg17 : Memref sig .tc .vmem S8x8x1024 .f32} {harg17 : arg17.IsWhole}
variable {arg18 : Memref sig .tc .vmem S64x1024 .f32} {harg18 : arg18.IsWhole}
variable {x0 : FVec Ideal S64x1024 .f32} {x1 x2 x3 x4 : FVec Ideal S8x4096 .f32} {x5 x6 : FVec Ideal S4x256x1024 .bf16}
  {x7 x8 : FVec Ideal S4x1024x256 .bf16}

theorem i0_1 : Inv (kernelRun0_A.sl.HS0_1 (F := Ideal) c arg1 harg1 arg6 harg6 x0 x5) 0 (SR x0 x3 x4 x5 x6 0) (BU x0 x5 0) :=
  Inv.all _ fun t r j => init0_0 t r j

theorem w_v63 (r : Fin 8) (j : Fin 1024) : kernelRun0_A.sl.v63 (F := Ideal) c arg1 harg1 arg6 harg6 arg16 x0 x5 (ix3 0 r j) = BU x0 x5 0 0 r j :=
  (i0_1 (x3 := fun _ => (0 : EReal)) (x4 := fun _ => (0 : EReal)) (x6 := fun _ => (0 : EReal))).row 0 rfl (by decide) r j

theorem w_r_8 (r : Fin 8) (j : Fin 1024) : kernelRun0_A.sl.r_8 (F := Ideal) c arg1 harg1 arg4 harg4 arg5 harg5 arg6 harg6 arg16 x0 x3 x4 x5 (ix3 0 r j) = (SR x0 x3 x4 x5 x6 0 0 r j) :=
  Eq.trans (p17 r j (ld1 harg4 x3 0 0 rfl rfl j) (ld1 harg5 x4 0 0 rfl rfl j) (w_v63 r j)) rfl

theorem i0_2 : Inv (kernelRun0_A.sl.HS0_2 (F := Ideal) c arg1 harg1 arg4 harg4 arg5 harg5 arg6 harg6 arg16 x0 x3 x4 x5) 1 (SR x0 x3 x4 x5 x6 0) (BU x0 x5 0) :=
  i0_1.step 0 rfl fun r j => w_r_8 r j

theorem w_r_4 (r : Fin 8) (j : Fin 1024) : kernelRun0_A.sl.r_4 (F := Ideal) c arg4 harg4 x3 (ix2 r j) = (RW x3 0 0 j) :=
  Eq.trans (p12 r j (ld1 harg4 x3 0 0 rfl rfl j)) rfl

theorem w_r_5 (r : Fin 8) (j : Fin 1024) : kernelRun0_A.sl.r_5 (F := Ideal) c arg5 harg5 x4 (ix2 r j) = (RW x4 0 0 j) :=
  Eq.trans (p13 r j (ld1 harg5 x4 0 0 rfl rfl j)) rfl

theorem w_r_6 (r : Fin 8) (j : Fin 1024) : kernelRun0_A.sl.r_6 (F := Ideal) c arg1 harg1 arg4 harg4 arg5 harg5 arg6 harg6 arg16 x0 x3 x4 x5 (ix2 r j) = (SR x0 x3 x4 x5 x6 0 0 r j) :=
  Eq.trans (p15 r j (ld1 harg4 x3 0 0 rfl rfl j) (ld1 harg5 x4 0 0 rfl rfl j) (w_v63 r j)) rfl

theorem i1_1 : Inv (kernelRun0_A.sl.HS1_1 (F := Ideal) c arg1 harg1 arg7 harg7 x0 x6) 0 (SI x0 x3 x4 x5 x6 0) (BU x0 x6 0) :=
  Inv.all _ fun t r j => init1_0 t r j

theorem w_v70 (r : Fin 8) (j : Fin 1024) : kernelRun0_A.sl.v70 (F := Ideal) c arg1 harg1 arg7 harg7 arg17 x0 x6 (ix3 0 r j) = BU x0 x6 0 0 r j :=
  (i1_1 (x3 := fun _ => (0 : EReal)) (x4 := fun _ => (0 : EReal)) (x5 := fun _ => (0 : EReal))).row 0 rfl (by decide) r j

theorem w_r_7 (r : Fin 8) (j : Fin 1024) : kernelRun0_A.sl.r_7 (F := Ideal) c arg1 harg1 arg4 harg4 arg5 harg5 arg7 harg7 arg17 x0 x3 x4 x6 (ix2 r j) = (SI x0 x3 x4 x5 x6 0 0 r j) :=
  Eq.trans (p16 r j (ld1 harg4 x3 0 0 rfl rfl j) (ld1 harg5 x4 0 0 rfl rfl j) (w_v70 r j)) rfl

theorem w_v85 (r : Fin 8) (j : Fin 1024) : kernelRun0_A.sl.v85 (F := Ideal) c arg1 harg1 arg4 harg4 arg5 harg5 arg6 harg6 arg16 x0 x3 x4 x5 (ix3 0 r j) = BU x0 x5 0 1 r j :=
  (i0_2 (x6 := fun _ => (0 : EReal))).row 1 rfl (by decide) r j

theorem i0_3 : Inv (kernelRun0_A.sl.HS0_3 (F := Ideal) c arg1 harg1 arg4 harg4 arg5 harg5 arg6 harg6 arg7 harg7 arg16 arg17 x0 x3 x4 x5 x6) 2 (SR x0 x3 x4 x5 x6 0) (BU x0 x5 0) :=
  i0_2.step 1 rfl fun r j => Eq.trans (p21 r j (w_r_4 r j) (w_r_5 r j) (w_r_6 r j) (w_r_7 r j) (w_v85 r j)) rfl

theorem i1_2 : Inv (kernelRun0_A.sl.HS1_2 (F := Ideal) c arg1 harg1 arg4 harg4 arg5 harg5 arg7 harg7 arg17 x0 x3 x4 x6) 1 (SI x0 x3 x4 x5 x6 0) (BU x0 x6 0) :=
  i1_1.step 0 rfl fun r j => Eq.trans (p18 r j (w_r_7 r j)) rfl

theorem w_v92 (r : Fin 8) (j : Fin 1024) : kernelRun0_A.sl.v92 (F := Ideal) c arg1 harg1 arg4 harg4 arg5 harg5 arg7 harg7 arg17 x0 x3 x4 x6 (ix3 0 r j) = BU x0 x6 0 1 r j :=
  (i1_2 (x5 := fun _ => (0 : EReal))).row 1 rfl (by decide) r j

theorem w_v107 (r : Fin 8) (j : Fin 1024) : kernelRun0_A.sl.v107 (F := Ideal) c arg1 harg1 arg4 harg4 arg5 harg5 arg6 harg6 arg7 harg7 arg16 arg17 x0 x3 x4 x5 x6 (ix3 0 r j) = BU x0 x5 0 2 r j :=
  i0_3.row 2 rfl (by decide) r j

theorem w_r_9 (r : Fin 8) (j : Fin 1024) : kernelRun0_A.sl.r_9 (F := Ideal) c arg1 harg1 arg4 harg4 arg5 harg5 arg6 harg6 arg7 harg7 arg16 arg17 x0 x3 x4 x5 x6 (ix2 r j) = (SR x0 x3 x4 x5 x6 0 2 r j) :=
  Eq.trans (p23 r j (w_r_4 r j) (w_r_5 r j) (w_r_6 r j) (w_r_7 r j) (w_v85 r j) (w_v92 r j) (w_v107 r j)) rfl

theorem i0_4 : Inv (kernelRun0_A.sl.HS0_4 (F := Ideal) c arg1 harg1 arg4 harg4 arg5 harg5 arg6 harg6 arg7 harg7 arg16 arg17 x0 x3 x4 x5 x6) 3 (SR x0 x3 x4 x5 x6 0) (BU x0 x5 0) :=
  i0_3.step 2 rfl fun r j => Eq.trans (p25 r j (w_r_9 r j)) rfl

theorem i1_3 : Inv (kernelRun0_A.sl.HS1_3 (F := Ideal) c arg1 harg1 arg4 harg4 arg5 harg5 arg6 harg6 arg7 harg7 arg16 arg17 x0 x3 x4 x5 x6) 2 (SI x0 x3 x4 x5 x6 0) (BU x0 x6 0) :=
  i1_2.step 1 rfl fun r j => Eq.trans (p22 r j (w_r_4 r j) (w_r_5 r j) (w_r_6 r j) (w_r_7 r j) (w_v92 r j)) rfl

theorem w_v114 (r : Fin 8) (j : Fin 1024) : kernelRun0_A.sl.v114 (F := Ideal) c arg1 harg1 arg4 harg4 arg5 harg5 arg6 harg6 arg7 harg7 arg16 arg17 x0 x3 x4 x5 x6 (ix3 0 r j) = BU x0 x6 0 2 r j :=
  i1_3.row 2 rfl (by decide) r j

theorem w_r_10 (r : Fin 8) (j : Fin 1024) : kernelRun0_A.sl.r_10 (F := Ideal) c arg1 harg1 arg4 harg4 arg5 harg5 arg6 harg6 arg7 harg7 arg16 arg17 x0 x3 x4 x5 x6 (ix2 r j) = (SI x0 x3 x4 x5 x6 0 2 r j) :=
  Eq.trans (p24 r j (w_r_4 r j) (w_r_5 r j) (w_r_6 r j) (w_r_7 r j) (w_v85 r j) (w_v92 r j) (w_v114 r j)) rfl

theorem w_v129 (r : Fin 8) (j : Fin 1024) : kernelRun0_A.sl.v129 (F := Ideal) c arg1 harg1 arg4 harg4 arg5 harg5 arg6 harg6 arg7 harg7 arg16 arg17 x0 x3 x4 x5 x6 (ix3 0 r j) = BU x0 x5 0 3 r j :=
  i0_4.row 3 rfl (by decide) r j

theorem i0_5 : Inv (kernelRun0_A.sl.HS0_5 (F := Ideal) c arg1 harg1 arg4 harg4 arg5 harg5 arg6 harg6 arg7 harg7 arg16 arg17 x0 x3 x4 x5 x6) 4 (SR x0 x3 x4 x5 x6 0) (BU x0 x5 0) :=
  i0_4.step 3 rfl fun r j => Eq.trans (p29 r j (w_r_4 r j) (w_r_5 r j) (w_r_9 r j) (w_r_10 r j) (w_v129 r j)) rfl

theorem i1_4 : Inv (kernelRun0_A.sl.HS1_4 (F := Ideal) c arg1 harg1 arg4 harg4 arg5 harg5 arg6 harg6 arg7 harg7 arg16 arg17 x0 x3 x4 x5 x6) 3 (SI x0 x3 x4 x5 x6 0) (BU x0 x6 0) :=
  i1_3.step 2 rfl fun r j => Eq.trans (p26 r j (w_r_10 r j)) rfl

theorem w_v136 (r : Fin 8) (j : Fin 1024) : kernelRun0_A.sl.v136 (F := Ideal) c arg1 harg1 arg4 harg4 arg5 harg5 arg6 harg6 arg7 harg7 arg16 arg17 x0 x3 x4 x5 x6 (ix3 0 r j) = BU x0 x6 0 3 r j :=
  i1_4.row 3 rfl (by decide) r j

theorem w_v151 (r : Fin 8) (j : Fin 1024) : kernelRun0_A.sl.v151 (F := Ideal) c arg1 harg1 arg4 harg4 arg5 harg5 arg6 harg6 arg7 harg7 arg16 arg17 x0 x3 x4 x5 x6 (ix3 0 r j) = BU x0 x5 0 4 r j :=
  i0_5.row 4 rfl (by decide) r j

theorem w_r_11 (r : Fin 8) (j : Fin 1024) : kernelRun0_A.sl.r_11 (F := Ideal) c arg1 harg1 arg4 harg4 arg5 harg5 arg6 harg6 arg7 harg7 arg16 arg17 x0 x3 x4 x5 x6 (ix2 r j) = (SR x0 x3 x4 x5 x6 0 4 r j) :=
  Eq.trans (p31 r j (w_r_4 r j) (w_r_5 r j) (w_r_9 r j) (w_r_10 r j) (w_v129 r j) (w_v136 r j) (w_v151 r j)) rfl

theorem i0_6 : Inv (kernelRun0_A.sl.HS0_6 (F := Ideal) c arg1 harg1 arg4 harg4 arg5 harg5 arg6 harg6 arg7 harg7 arg16 arg17 x0 x3 x4 x5 x6) 5 (SR x0 x3 x4 x5 x6 0) (BU x0 x5 0) :=
  i0_5.step 4 rfl fun r j => Eq.trans (p34 r j (w_r_11 r j)) rfl

theorem w_r_12 (r : Fin 8) (j : Fin 1024) : kernelRun0_A.sl.r_12 (F := Ideal) c arg1 harg1 arg4 harg4 arg5 harg5 arg6 harg6 arg7 harg7 arg16 arg17 x0 x3 x4 x5 x6 (ix2 r j) = ((RW x3 0 0 j) * (SI x0 x3 x4 x5 x6 0 3 r j)) + ((RW x4 0 0 j) * (SR x0 x3 x4 x5 x6 0 3 r j)) :=
  Eq.trans (p32 r j (w_r_4 r j) (w_r_5 r j) (w_r_9 r j) (w_r_10 r j) (w_v129 r j) (w_v136 r j)) rfl

theorem i1_5 : Inv (kernelRun0_A.sl.HS1_5 (F := Ideal) c arg1 harg1 arg4 harg4 arg5 harg5 arg6 harg6 arg7 harg7 arg16 arg17 x0 x3 x4 x5 x6) 4 (SI x0 x3 x4 x5 x6 0) (BU x0 x6 0) :=
  i1_4.step 3 rfl fun r j => Eq.trans (p30 r j (w_r_4 r j) (w_r_5 r j) (w_r_9 r j) (w_r_10 r j) (w_v136 r j)) rfl

theorem w_v158 (r : Fin 8) (j : Fin 1024) : kernelRun0_A.sl.v158 (F := Ideal) c arg1 harg1 arg4 harg4 arg5 harg5 arg6 harg6 arg7 harg7 arg16 arg17 x0 x3 x4 x5 x6 (ix3 0 r j) = BU x0 x6 0 4 r j :=
  i1_5.row 4 rfl (by decide) r j

theorem w_v173 (r : Fin 8) (j : Fin 1024) : kernelRun0_A.sl.v173 (F := Ideal) c arg1 harg1 arg4 harg4 arg5 harg5 arg6 harg6 arg7 harg7 arg16 arg17 x0 x3 x4 x5 x6 (ix3 0 r j) = BU x0 x5 0 5 r j :=
  i0_6.row 5 rfl (by decide) r j

theorem i0_7 : Inv (kernelRun0_A.sl.HS0_7 (F := Ideal) c arg1 harg1 arg4 harg4 arg5 harg5 arg6 harg6 arg7 harg7 arg16 arg17 x0 x3 x4 x5 x6) 6 (SR x0 x3 x4 x5 x6 0) (BU x0 x5 0) :=
  i0_6.step 5 rfl fun r j => Eq.trans (p38 r j (w_r_4 r j) (w_r_5 r j) (w_r_11 r j) (w_r_12 r j) (w_v158 r j) (w_v173 r j)) rfl

theorem i1_6 : Inv (kernelRun0_A.sl.HS1_6 (F := Ideal) c arg1 harg1 arg4 harg4 arg5 harg5 arg6 harg6 arg7 harg7 arg16 arg17 x0 x3 x4 x5 x6) 5 (SI x0 x3 x4 x5 x6 0) (BU x0 x6 0) :=
  i1_5.step 4 rfl fun r j => Eq.trans (p35 r j (w_r_12 r j) (w_v158 r j)) rfl

theorem w_v180 (r : Fin 8) (j : Fin 1024) : kernelRun0_A.sl.v180 (F := Ideal) c arg1 harg1 arg4 harg4 arg5 harg5 arg6 harg6 arg7 harg7 arg16 arg17 x0 x3 x4 x5 x6 (ix3 0 r j) = BU x0 x6 0 5 r j :=
  i1_6.row 5 rfl (by decide) r j

theorem w_r_15 (r : Fin 8) (j : Fin 1024) : kernelRun0_A.sl.r_15 (F := Ideal) c arg1 harg1 arg4 harg4 arg5 harg5 arg6 harg6 arg7 harg7 arg16 arg17 x0 x3 x4 x5 x6 (ix2 r j) = ((RW x3 0 0 j) * (SR x0 x3 x4 x5 x6 0 5 r j)) - ((RW x4 0 0 j) * (SI x0 x3 x4 x5 x6 0 5 r j)) :=
  Eq.trans (p40 r j (w_r_4 r j) (w_r_5 r j) (w_r_11 r j) (w_r_12 r j) (w_v158 r j) (w_v173 r j) (w_v180 r j)) rfl

theorem w_v195 (r : Fin 8) (j : Fin 1024) : kernelRun0_A.sl.v195 (F := Ideal) c arg1 harg1 arg4 harg4 arg5 harg5 arg6 harg6 arg7 harg7 arg16 arg17 x0 x3 x4 x5 x6 (ix3 0 r j) = BU x0 x5 0 6 r j :=
  i0_7.row 6 rfl (by decide) r j

theorem i0_8 : Inv (kernelRun0_A.sl.HS0_8 (F := Ideal) c arg1 harg1 arg4 harg4 arg5 harg5 arg6 harg6 arg7 harg7 arg16 arg17 x0 x3 x4 x5 x6) 7 (SR x0 x3 x4 x5 x6 0) (BU x0 x5 0) :=
  i0_7.step 6 rfl fun r j => Eq.trans (p43 r j (w_r_15 r j) (w_v195 r j)) rfl

theorem w_r_13 (r : Fin 8) (j : Fin 1024) : kernelRun0_A.sl.r_13 (F := Ideal) c arg1 harg1 arg4 harg4 arg5 harg5 arg6 harg6 arg7 harg7 arg16 arg17 x0 x3 x4 x5 x6 (ix2 r j) = (SR x0 x3 x4 x5 x6 0 5 r j) :=
  Eq.trans (p36 r j (w_r_4 r j) (w_r_5 r j) (w_r_11 r j) (w_r_12 r j) (w_v158 r j) (w_v173 r j)) rfl

theorem w_r_14 (r : Fin 8) (j : Fin 1024) : kernelRun0_A.sl.r_14 (F := Ideal) c arg1 harg1 arg4 harg4 arg5 harg5 arg6 harg6 arg7 harg7 arg16 arg17 x0 x3 x4 x5 x6 (ix2 r j) = (SI x0 x3 x4 x5 x6 0 5 r j) :=
  Eq.trans (p37 r j (w_r_4 r j) (w_r_5 r j) (w_r_11 r j) (w_r_12 r j) (w_v158 r j) (w_v180 r j)) rfl

theorem i1_7 : Inv (kernelRun0_A.sl.HS1_7 (F := Ideal) c arg1 harg1 arg4 harg4 arg5 harg5 arg6 harg6 arg7 harg7 arg16 arg17 x0 x3 x4 x5 x6) 6 (SI x0 x3 x4 x5 x6 0) (BU x0 x6 0) :=
  i1_6.step 5 rfl fun r j => Eq.trans (p39 r j (w_r_4 r j) (w_r_5 r j) (w_r_11 r j) (w_r_12 r j) (w_v158 r j) (w_v180 r j)) rfl

theorem w_v202 (r : Fin 8) (j : Fin 1024) : kernelRun0_A.sl.v202 (F := Ideal) c arg1 harg1 arg4 harg4 arg5 harg5 arg6 harg6 arg7 harg7 arg16 arg17 x0 x3 x4 x5 x6 (ix3 0 r j) = BU x0 x6 0 6 r j :=
  i1_7.row 6 rfl (by decide) r j

theorem w_v217 (r : Fin 8) (j : Fin 1024) : kernelRun0_A.sl.v217 (F := Ideal) c arg1 harg1 arg4 harg4 arg5 harg5 arg6 harg6 arg7 harg7 arg16 arg17 x0 x3 x4 x5 x6 (ix3 0 r j) = BU x0 x5 0 7 r j :=
  i0_8.row 7 rfl (by decide) r j

theorem i0_9 : Inv (kernelRun0_A.sl.HS0_9 (F := Ideal) c arg1 harg1 arg4 harg4 arg5 harg5 arg6 harg6 arg7 harg7 arg16 arg17 x0 x3 x4 x5 x6) 8 (SR x0 x3 x4 x5 x6 0) (BU x0 x5 0) :=
  i0_8.step 7 rfl fun r j => Eq.trans (p45 r j (w_r_4 r j) (w_r_5 r j) (w_r_13 r j) (w_r_14 r j) (w_r_15 r j) (w_v195 r j) (w_v202 r j) (w_v217 r j)) rfl

theorem w_v246 (r : Fin 8) (j : Fin 1024) : kernelRun0_A.sl.v246 (F := Ideal) c arg1 harg1 arg4 harg4 arg5 harg5 arg6 harg6 arg7 harg7 arg16 arg17 x0 x3 x4 x5 x6 (ix3 0 r j) = SR x0 x3 x4 x5 x6 0 0 r j :=
  (Inv.next (fun _ _ _ => 0) i0_9).row 0 rfl (by decide) r j

theorem i0_10 : Inv (kernelRun0_A.sl.HS0_10 (F := Ideal) c arg1 harg1 arg2 harg2 arg3 harg3 arg4 harg4 arg5 harg5 arg6 harg6 arg7 harg7 arg16 arg17 x0 x1 x2 x3 x4 x5 x6) 1 (FR x0 x1 x2 x3 x4 x5 x6 0) (SR x0 x3 x4 x5 x6 0) :=
  (Inv.next (FR x0 x1 x2 x3 x4 x5 x6 0) i0_9).step 0 rfl fun r j => Eq.trans (p51 r j (ld8 harg2 x1 0 rfl r j) (ld8 harg3 x2 0 rfl r j) (ld1 harg4 x3 0 0 rfl rfl j) (ld1 harg5 x4 0 0 rfl rfl j) (w_v246 r j)) rfl

theorem w_r_16 (r : Fin 8) (j : Fin 1024) : kernelRun0_A.sl.r_16 (F := Ideal) c arg2 harg2 x1 (ix2 r j) = (RW x1 0 r j) :=
  Eq.trans (p47 r j (ld8 harg2 x1 0 rfl r j)) rfl

theorem w_r_17 (r : Fin 8) (j : Fin 1024) : kernelRun0_A.sl.r_17 (F := Ideal) c arg3 harg3 x2 (ix2 r j) = (RW x2 0 r j) :=
  Eq.trans (p48 r j (ld8 harg3 x2 0 rfl r j)) rfl

theorem w_r_18 (r : Fin 8) (j : Fin 1024) : kernelRun0_A.sl.r_18 (F := Ideal) c arg4 harg4 x3 (ix2 0 j) = (RW x3 0 1 j) :=
  Eq.trans (p53 r j (ld1 harg4 x3 0 1 rfl rfl j)) rfl

theorem w_v278 (r : Fin 8) (j : Fin 1024) : kernelRun0_A.sl.v278 (F := Ideal) c arg1 harg1 arg2 harg2 arg3 harg3 arg4 harg4 arg5 harg5 arg6 harg6 arg7 harg7 arg16 arg17 x0 x1 x2 x3 x4 x5 x6 (ix3 0 r j) = SR x0 x3 x4 x5 x6 0 1 r j :=
  i0_10.row 1 rfl (by decide) r j

theorem i0_11 : Inv (kernelRun0_A.sl.HS0_11 (F := Ideal) c arg1 harg1 arg2 harg2 arg3 harg3 arg4 harg4 arg5 harg5 arg6 harg6 arg7 harg7 arg16 arg17 x0 x1 x2 x3 x4 x5 x6) 2 (FR x0 x1 x2 x3 x4 x5 x6 0) (SR x0 x3 x4 x5 x6 0) :=
  i0_10.step 1 rfl fun r j => Eq.trans (p55 r j (w_r_16 r j) (w_r_17 r j) (w_r_18 r j) (ld1 harg5 x4 0 1 rfl rfl j) (w_v278 r j)) rfl

theorem w_v310 (r : Fin 8) (j : Fin 1024) : kernelRun0_A.sl.v310 (F := Ideal) c arg1 harg1 arg2 harg2 arg3 harg3 arg4 harg4 arg5 harg5 arg6 harg6 arg7 harg7 arg16 arg17 x0 x1 x2 x3 x4 x5 x6 (ix3 0 r j) = SR x0 x3 x4 x5 x6 0 2 r j :=
  i0_11.row 2 rfl (by decide) r j

theorem w_r_21 (r : Fin 8) (j : Fin 1024) : kernelRun0_A.sl.r_21 (F := Ideal) c arg1 harg1 arg2 harg2 arg3 harg3 arg4 harg4 arg5 harg5 arg6 harg6 arg7 harg7 arg16 arg17 x0 x1 x2 x3 x4 x5 x6 (ix2 r j) = (FR x0 x1 x2 x3 x4 x5 x6 0 2 r j) :=
  Eq.trans (p59 r j (w_r_16 r j) (w_r_17 r j) (ld1 harg4 x3 0 2 rfl rfl j) (ld1 harg5 x4 0 2 rfl rfl j) (w_v310 r j)) rfl

theorem i0_12 : Inv (kernelRun0_A.sl.HS0_12 (F := Ideal) c arg1 harg1 arg2 harg2 arg3 harg3 arg4 harg4 arg5 harg5 arg6 harg6 arg7 harg7 arg16 arg17 x0 x1 x2 x3 x4 x5 x6) 3 (FR x0 x1 x2 x3 x4 x5 x6 0) (SR x0 x3 x4 x5 x6 0) :=
  i0_11.step 2 rfl fun r j => Eq.trans (p60 r j (w_r_21 r j)) rfl

theorem w_v342 (r : Fin 8) (j : Fin 1024) : kernelRun0_A.sl.v342 (F := Ideal) c arg1 harg1 arg2 harg2 arg3 harg3 arg4 harg4 arg5 harg5 arg6 harg6 arg7 harg7 arg16 arg17 x0 x1 x2 x3 x4 x5 x6 (ix3 0 r j) = SR x0 x3 x4 x5 x6 0 3 r j :=
  i0_12.row 3 rfl (by decide) r j

theorem i0_13 : Inv (kernelRun0_A.sl.HS0_13 (F := Ideal) c arg1 harg1 arg2 harg2 arg3 harg3 arg4 harg4 arg5 harg5 arg6 harg6 arg7 harg7 arg16 arg17 x0 x1 x2 x3 x4 x5 x6) 4 (FR x0 x1 x2 x3 x4 x5 x6 0) (SR x0 x3 x4 x5 x6 0) :=
  i0_12.step 3 rfl fun r j => Eq.trans (p64 r j (w_r_16 r j) (w_r_17 r j) (ld1 harg4 x3 0 3 rfl rfl j) (ld1 harg5 x4 0 3 rfl rfl j) (w_v342 r j)) rfl

theorem w_v374 (r : Fin 8) (j : Fin 1024) : kernelRun0_A.sl.v374 (F := Ideal) c arg1 harg1 arg2 harg2 arg3 harg3 arg4 harg4 arg5 harg5 arg6 harg6 arg7 harg7 arg16 arg17 x0 x1 x2 x3 x4 x5 x6 (ix3 0 r j) = SR x0 x3 x4 x5 x6 0 4 r j :=
  i0_13.row 4 rfl (by decide) r j

theorem i0_14 : Inv (kernelRun0_A.sl.HS0_14 (F := Ideal) c arg1 harg1 arg2 harg2 arg3 harg3 arg4 harg4 arg5 harg5 arg6 harg6 arg7 harg7 arg16 arg17 x0 x1 x2 x3 x4 x5 x6) 5 (FR x0 x1 x2 x3 x4 x5 x6 0) (SR x0 x3 x4 x5 x6 0) :=
  i0_13.step 4 rfl fun r j => Eq.trans (p70 r j (w_r_16 r j) (w_r_17 r j) (ld1 harg4 x3 0 4 rfl rfl j) (ld1 harg5 x4 0 4 rfl rfl j) (w_v374 r j)) rfl

theorem w_r_24 (r : Fin 8) (j : Fin 1024) : kernelRun0_A.sl.r_24 (F := Ideal) c arg4 harg4 x3 (ix2 0 j) = (RW x3 0 5 j) :=
  Eq.trans (p72 r j (ld1 harg4 x3 0 5 rfl rfl j)) rfl

theorem w_v406 (r : Fin 8) (j : Fin 1024) : kernelRun0_A.sl.v406 (F := Ideal) c arg1 harg1 arg2 harg2 arg3 harg3 arg4 harg4 arg5 harg5 arg6 harg6 arg7 harg7 arg16 arg17 x0 x1 x2 x3 x4 x5 x6 (ix3 0 r j) = SR x0 x3 x4 x5 x6 0 5 r j :=
  i0_14.row 5 rfl (by decide) r j

theorem i0_15 : Inv (kernelRun0_A.sl.HS0_15 (F := Ideal) c arg1 harg1 arg2 harg2 arg3 harg3 arg4 harg4 arg5 harg5 arg6 harg6 arg7 harg7 arg16 arg17 x0 x1 x2 x3 x4 x5 x6) 6 (FR x0 x1 x2 x3 x4 x5 x6 0) (SR x0 x3 x4 x5 x6 0) :=
  i0_14.step 5 rfl fun r j => Eq.trans (p74 r j (w_r_16 r j) (w_r_17 r j) (w_r_24 r j) (ld1 harg5 x4 0 5 rfl rfl j) (w_v406 r j)) rfl

theorem w_v438 (r : Fin 8) (j : Fin 1024) : kernelRun0_A.sl.v438 (F := Ideal) c arg1 harg1 arg2 harg2 arg3 harg3 arg4 harg4 arg5 harg5 arg6 harg6 arg7 harg7 arg16 arg17 x0 x1 x2 x3 x4 x5 x6 (ix3 0 r j) = SR x0 x3 x4 x5 x6 0 6 r j :=
  i0_15.row 6 rfl (by decide) r j

theorem w_r_27 (r : Fin 8) (j : Fin 1024) : kernelRun0_A.sl.r_27 (F := Ideal) c arg1 harg1 arg2 harg2 arg3 harg3 arg4 harg4 arg5 harg5 arg6 harg6 arg7 harg7 arg16 arg17 x0 x1 x2 x3 x4 x5 x6 (ix2 r j) = (FR x0 x1 x2 x3 x4 x5 x6 0 6 r j) :=
  Eq.trans (p78 r j (w_r_16 r j) (w_r_17 r j) (ld1 harg4 x3 0 6 rfl rfl j) (ld1 harg5 x4 0 6 rfl rfl j) (w_v438 r j)) rfl

theorem i0_16 : Inv (kernelRun0_A.sl.HS0_16 (F := Ideal) c arg1 harg1 arg2 harg2 arg3 harg3 arg4 harg4 arg5 harg5 arg6 harg6 arg7 harg7 arg16 arg17 x0 x1 x2 x3 x4 x5 x6) 7 (FR x0 x1 x2 x3 x4 x5 x6 0) (SR x0 x3 x4 x5 x6 0) :=
  i0_15.step 6 rfl fun r j => Eq.trans (p79 r j (w_r_27 r j)) rfl

theorem w_v470 (r : Fin 8) (j : Fin 1024) : kernelRun0_A.sl.v470 (F := Ideal) c arg1 harg1 arg2 harg2 arg3 harg3 arg4 harg4 arg5 harg5 arg6 harg6 arg7 harg7 arg16 arg17 x0 x1 x2 x3 x4 x5 x6 (ix3 0 r j) = SR x0 x3 x4 x5 x6 0 7 r j :=
  i0_16.row 7 rfl (by decide) r j

theorem i0_17 : Inv (kernelRun0_A.sl.HS0_17 (F := Ideal) c arg1 harg1 arg2 harg2 arg3 harg3 arg4 harg4 arg5 harg5 arg6 harg6 arg7 harg7 arg16 arg17 x0 x1 x2 x3 x4 x5 x6) 8 (FR x0 x1 x2 x3 x4 x5 x6 0) (SR x0 x3 x4 x5 x6 0) :=
  i0_16.step 7 rfl fun r j => Eq.trans (p83 r j (w_r_16 r j) (w_r_17 r j) (ld1 harg4 x3 0 7 rfl rfl j) (ld1 harg5 x4 0 7 rfl rfl j) (w_v470 r j)) rfl

theorem i1_8 : Inv (kernelRun0_A.sl.HS1_8 (F := Ideal) c arg1 harg1 arg4 harg4 arg5 harg5 arg6 harg6 arg7 harg7 arg16 arg17 x0 x3 x4 x5 x6) 7 (SI x0 x3 x4 x5 x6 0) (BU x0 x6 0) :=
  i1_7.step 6 rfl fun r j => Eq.trans (p44 r j (w_r_4 r j) (w_r_5 r j) (w_r_13 r j) (w_r_14 r j) (w_v202 r j)) rfl

theorem w_v224 (r : Fin 8) (j : Fin 1024) : kernelRun0_A.sl.v224 (F := Ideal) c arg1 harg1 arg4 harg4 arg5 harg5 arg6 harg6 arg7 harg7 arg16 arg17 x0 x3 x4 x5 x6 (ix3 0 r j) = BU x0 x6 0 7 r j :=
  i1_8.row 7 rfl (by decide) r j

theorem i1_9 : Inv (kernelRun0_A.sl.HS1_9 (F := Ideal) c arg1 harg1 arg4 harg4 arg5 harg5 arg6 harg6 arg7 harg7 arg16 arg17 x0 x3 x4 x5 x6) 8 (SI x0 x3 x4 x5 x6 0) (BU x0 x6 0) :=
  i1_8.step 7 rfl fun r j => Eq.trans (p46 r j (w_r_4 r j) (w_r_5 r j) (w_r_13 r j) (w_r_14 r j) (w_r_15 r j) (w_v195 r j) (w_v202 r j) (w_v224 r j)) rfl

theorem w_v259 (r : Fin 8) (j : Fin 1024) : kernelRun0_A.sl.v259 (F := Ideal) c arg1 harg1 arg4 harg4 arg5 harg5 arg6 harg6 arg7 harg7 arg16 arg17 x0 x3 x4 x5 x6 (ix3 0 r j) = SI x0 x3 x4 x5 x6 0 0 r j :=
  (Inv.next (fun _ _ _ => 0) i1_9).row 0 rfl (by decide) r j

theorem i1_10 : Inv (kernelRun0_A.sl.HS1_10 (F := Ideal) c arg1 harg1 arg2 harg2 arg3 harg3 arg4 harg4 arg5 harg5 arg6 harg6 arg7 harg7 arg16 arg17 x0 x1 x2 x3 x4 x5 x6) 1 (FI x0 x1 x2 x3 x4 x5 x6 0) (SI x0 x3 x4 x5 x6 0) :=
  (Inv.next (FI x0 x1 x2 x3 x4 x5 x6 0) i1_9).step 0 rfl fun r j => Eq.trans (p52 r j (ld8 harg2 x1 0 rfl r j) (ld8 harg3 x2 0 rfl r j) (ld1 harg4 x3 0 0 rfl rfl j) (ld1 harg5 x4 0 0 rfl rfl j) (w_v259 r j)) rfl

theorem w_v291 (r : Fin 8) (j : Fin 1024) : kernelRun0_A.sl.v291 (F := Ideal) c arg1 harg1 arg2 harg2 arg3 harg3 arg4 harg4 arg5 harg5 arg6 harg6 arg7 harg7 arg16 arg17 x0 x1 x2 x3 x4 x5 x6 (ix3 0 r j) = SI x0 x3 x4 x5 x6 0 1 r j :=
  i1_10.row 1 rfl (by decide) r j

theorem i1_11 : Inv (kernelRun0_A.sl.HS1_11 (F := Ideal) c arg1 harg1 arg2 harg2 arg3 harg3 arg4 harg4 arg5 harg5 arg6 harg6 arg7 harg7 arg16 arg17 x0 x1 x2 x3 x4 x5 x6) 2 (FI x0 x1 x2 x3 x4 x5 x6 0) (SI x0 x3 x4 x5 x6 0) :=
  i1_10.step 1 rfl fun r j => Eq.trans (p56 r j (w_r_16 r j) (w_r_17 r j) (w_r_18 r j) (ld1 harg5 x4 0 1 rfl rfl j) (w_v291 r j)) rfl

theorem w_r_19 (r : Fin 8) (j : Fin 1024) : kernelRun0_A.sl.r_19 (F := Ideal) c arg4 harg4 x3 (ix2 0 j) = (RW x3 0 2 j) :=
  Eq.trans (p57 r j (ld1 harg4 x3 0 2 rfl rfl j)) rfl

theorem w_r_20 (r : Fin 8) (j : Fin 1024) : kernelRun0_A.sl.r_20 (F := Ideal) c arg5 harg5 x4 (ix2 0 j) = (RW x4 0 2 j) :=
  Eq.trans (p58 r j (ld1 harg5 x4 0 2 rfl rfl j)) rfl

theorem w_v323 (r : Fin 8) (j : Fin 1024) : kernelRun0_A.sl.v323 (F := Ideal) c arg1 harg1 arg2 harg2 arg3 harg3 arg4 harg4 arg5 harg5 arg6 harg6 arg7 harg7 arg16 arg17 x0 x1 x2 x3 x4 x5 x6 (ix3 0 r j) = SI x0 x3 x4 x5 x6 0 2 r j :=
  i1_11.row 2 rfl (by decide) r j

theorem i1_12 : Inv (kernelRun0_A.sl.HS1_12 (F := Ideal) c arg1 harg1 arg2 harg2 arg3 harg3 arg4 harg4 arg5 harg5 arg6 harg6 arg7 harg7 arg16 arg17 x0 x1 x2 x3 x4 x5 x6) 3 (FI x0 x1 x2 x3 x4 x5 x6 0) (SI x0 x3 x4 x5 x6 0) :=
  i1_11.step 2 rfl fun r j => Eq.trans (p61 r j (w_r_16 r j) (w_r_17 r j) (w_r_19 r j) (w_r_20 r j) (w_v323 r j)) rfl

theorem w_v355 (r : Fin 8) (j : Fin 1024) : kernelRun0_A.sl.v355 (F := Ideal) c arg1 harg1 arg2 harg2 arg3 harg3 arg4 harg4 arg5 harg5 arg6 harg6 arg7 harg7 arg16 arg17 x0 x1 x2 x3 x4 x5 x6 (ix3 0 r j) = SI x0 x3 x4 x5 x6 0 3 r j :=
  i1_12.row 3 rfl (by decide) r j

theorem w_r_22 (r : Fin 8) (j : Fin 1024) : kernelRun0_A.sl.r_22 (F := Ideal) c arg1 harg1 arg2 harg2 arg3 harg3 arg4 harg4 arg5 harg5 arg6 harg6 arg7 harg7 arg16 arg17 x0 x1 x2 x3 x4 x5 x6 (ix2 r j) = (SI x0 x3 x4 x5 x6 0 3 r j) + ((RW x3 0 3 j) * (RW x2 0 r j)) :=
  Eq.trans (p65 r j (w_r_17 r j) (ld1 harg4 x3 0 3 rfl rfl j) (w_v355 r j)) rfl

theorem w_r_23 (r : Fin 8) (j : Fin 1024) : kernelRun0_A.sl.r_23 (F := Ideal) c arg2 harg2 arg5 harg5 x1 x4 (ix2 r j) = (RW x4 0 3 j) * (RW x1 0 r j) :=
  Eq.trans (p66 r j (w_r_16 r j) (ld1 harg5 x4 0 3 rfl rfl j)) rfl

theorem i1_13 : Inv (kernelRun0_A.sl.HS1_13 (F := Ideal) c arg1 harg1 arg2 harg2 arg3 harg3 arg4 harg4 arg5 harg5 arg6 harg6 arg7 harg7 arg16 arg17 x0 x1 x2 x3 x4 x5 x6) 4 (FI x0 x1 x2 x3 x4 x5 x6 0) (SI x0 x3 x4 x5 x6 0) :=
  i1_12.step 3 rfl fun r j => Eq.trans (p67 r j (w_r_22 r j) (w_r_23 r j)) rfl

theorem w_v387 (r : Fin 8) (j : Fin 1024) : kernelRun0_A.sl.v387 (F := Ideal) c arg1 harg1 arg2 harg2 arg3 harg3 arg4 harg4 arg5 harg5 arg6 harg6 arg7 harg7 arg16 arg17 x0 x1 x2 x3 x4 x5 x6 (ix3 0 r j) = SI x0 x3 x4 x5 x6 0 4 r j :=
  i1_13.row 4 rfl (by decide) r j

theorem i1_14 : Inv (kernelRun0_A.sl.HS1_14 (F := Ideal) c arg1 harg1 arg2 harg2 arg3 harg3 arg4 harg4 arg5 harg5 arg6 harg6 arg7 harg7 arg16 arg17 x0 x1 x2 x3 x4 x5 x6) 5 (FI x0 x1 x2 x3 x4 x5 x6 0) (SI x0 x3 x4 x5 x6 0) :=
  i1_13.step 4 rfl fun r j => Eq.trans (p71 r j (w_r_16 r j) (w_r_17 r j) (ld1 harg4 x3 0 4 rfl rfl j) (ld1 harg5 x4 0 4 rfl rfl j) (w_v387 r j)) rfl

theorem w_v419 (r : Fin 8) (j : Fin 1024) : kernelRun0_A.sl.v419 (F := Ideal) c arg1 harg1 arg2 harg2 arg3 harg3 arg4 harg4 arg5 harg5 arg6 harg6 arg7 harg7 arg16 arg17 x0 x1 x2 x3 x4 x5 x6 (ix3 0 r j) = SI x0 x3 x4 x5 x6 0 5 r j :=
  i1_14.row 5 rfl (by decide) r j

theorem i1_15 : Inv (kernelRun0_A.sl.HS1_15 (F := Ideal) c arg1 harg1 arg2 harg2 arg3 harg3 arg4 harg4 arg5 harg5 arg6 harg6 arg7 harg7 arg16 arg17 x0 x1 x2 x3 x4 x5 x6) 6 (FI x0 x1 x2 x3 x4 x5 x6 0) (SI x0 x3 x4 x5 x6 0) :=
  i1_14.step 5 rfl fun r j => Eq.trans (p75 r j (w_r_16 r j) (w_r_17 r j) (w_r_24 r j) (ld1 harg5 x4 0 5 rfl rfl j) (w_v419 r j)) rfl

theorem w_r_25 (r : Fin 8) (j : Fin 1024) : kernelRun0_A.sl.r_25 (F := Ideal) c arg4 harg4 x3 (ix2 0 j) = (RW x3 0 6 j) :=
  Eq.trans (p76 r j (ld1 harg4 x3 0 6 rfl rfl j)) rfl

theorem w_r_26 (r : Fin 8) (j : Fin 1024) : kernelRun0_A.sl.r_26 (F := Ideal) c arg5 harg5 x4 (ix2 0 j) = (RW x4 0 6 j) :=
  Eq.trans (p77 r j (ld1 harg5 x4 0 6 rfl rfl j)) rfl

theorem w_v451 (r : Fin 8) (j : Fin 1024) : kernelRun0_A.sl.v451 (F := Ideal) c arg1 harg1 arg2 harg2 arg3 harg3 arg4 harg4 arg5 harg5 arg6 harg6 arg7 harg7 arg16 arg17 x0 x1 x2 x3 x4 x5 x6 (ix3 0 r j) = SI x0 x3 x4 x5 x6 0 6 r j :=
  i1_15.row 6 rfl (by decide) r j

theorem i1_16 : Inv (kernelRun0_A.sl.HS1_16 (F := Ideal) c arg1 harg1 arg2 harg2 arg3 harg3 arg4 harg4 arg5 harg5 arg6 harg6 arg7 harg7 arg16 arg17 x0 x1 x2 x3 x4 x5 x6) 7 (FI x0 x1 x2 x3 x4 x5 x6 0) (SI x0 x3 x4 x5 x6 0) :=
  i1_15.step 6 rfl fun r j => Eq.trans (p80 r j (w_r_16 r j) (w_r_17 r j) (w_r_25 r j) (w_r_26 r j) (w_v451 r j)) rfl

theorem w_v483 (r : Fin 8) (j : Fin 1024) : kernelRun0_A.sl.v483 (F := Ideal) c arg1 harg1 arg2 harg2 arg3 harg3 arg4 harg4 arg5 harg5 arg6 harg6 arg7 harg7 arg16 arg17 x0 x1 x2 x3 x4 x5 x6 (ix3 0 r j) = SI x0 x3 x4 x5 x6 0 7 r j :=
  i1_16.row 7 rfl (by decide) r j

theorem w_r_28 (r : Fin 8) (j : Fin 1024) : kernelRun0_A.sl.r_28 (F := Ideal) c arg1 harg1 arg2 harg2 arg3 harg3 arg4 harg4 arg5 harg5 arg6 harg6 arg7 harg7 arg16 arg17 x0 x1 x2 x3 x4 x5 x6 (ix2 r j) = (SI x0 x3 x4 x5 x6 0 7 r j) + ((RW x3 0 7 j) * (RW x2 0 r j)) :=
  Eq.trans (p84 r j (w_r_17 r j) (ld1 harg4 x3 0 7 rfl rfl j) (w_v483 r j)) rfl

theorem w_r_29 (r : Fin 8) (j : Fin 1024) : kernelRun0_A.sl.r_29 (F := Ideal) c arg2 harg2 arg5 harg5 x1 x4 (ix2 r j) = (RW x4 0 7 j) * (RW x1 0 r j) :=
  Eq.trans (p85 r j (w_r_16 r j) (ld1 harg5 x4 0 7 rfl rfl j)) rfl

theorem i1_17 : Inv (kernelRun0_A.sl.HS1_17 (F := Ideal) c arg1 harg1 arg2 harg2 arg3 harg3 arg4 harg4 arg5 harg5 arg6 harg6 arg7 harg7 arg16 arg17 x0 x1 x2 x3 x4 x5 x6) 8 (FI x0 x1 x2 x3 x4 x5 x6 0) (SI x0 x3 x4 x5 x6 0) :=
  i1_16.step 7 rfl fun r j => Eq.trans (p86 r j (w_r_28 r j) (w_r_29 r j)) rfl

theorem w_v495 (r : Fin 8) (j : Fin 1024) : kernelRun0_A.sl.v495 (F := Ideal) c arg1 harg1 arg2 harg2 arg3 harg3 arg4 harg4 arg5 harg5 arg6 harg6 arg7 harg7 arg16 arg17 x0 x1 x2 x3 x4 x5 x6 (ix3 0 r j) = FR x0 x1 x2 x3 x4 x5 x6 0 7 r j :=
  (Inv.next (fun _ _ _ => 0) i0_17).row 7 rfl (by decide) r j

theorem w_v498 (r : Fin 8) (j : Fin 1024) : kernelRun0_A.sl.v498 (F := Ideal) c arg1 harg1 arg2 harg2 arg3 harg3 arg4 harg4 arg5 harg5 arg6 harg6 arg7 harg7 arg16 arg17 x0 x1 x2 x3 x4 x5 x6 (ix3 0 r j) = FI x0 x1 x2 x3 x4 x5 x6 0 7 r j :=
  (Inv.next (fun _ _ _ => 0) i1_17).row 7 rfl (by decide) r j

theorem w_v501 (t r : Fin 8) (j : Fin 1024) : kernelRun0_A.sl.v501 (F := Ideal) c arg1 harg1 arg2 harg2 arg3 harg3 arg4 harg4 arg5 harg5 arg6 harg6 arg7 harg7 arg16 arg17 x0 x1 x2 x3 x4 x5 x6 (ix3 t r j) = FR x0 x1 x2 x3 x4 x5 x6 0 t r j :=
  (Inv.next (fun _ _ _ => 0) i0_17).whole t r j

theorem w_v504 (t r : Fin 8) (j : Fin 1024) : kernelRun0_A.sl.v504 (F := Ideal) c arg1 harg1 arg2 harg2 arg3 harg3 arg4 harg4 arg5 harg5 arg6 harg6 arg7 harg7 arg16 arg17 x0 x1 x2 x3 x4 x5 x6 (ix3 t r j) = FI x0 x1 x2 x3 x4 x5 x6 0 t r j :=
  (Inv.next (fun _ _ _ => 0) i1_17).whole t r j

end Cert.ScanIdeal.Hand
-- ==== Proof.ScanPay1.lean ====
/- Hand-written, untrusted: the stores of the recurrence's block 1 of lanes, one entry at a time. -/
module

public import proofs.«01_k».proof.Proof.ScanBase

set_option maxRecDepth 16384

@[expose] public section

noncomputable section

open Idealize.ShloMosaic Idealize.ShloMosaic.TcCoe Idealize.SL.Sem

namespace Cert.ScanIdeal.Hand

open Cert.ScanIdeal Cert.ScanIdeal.Gen

theorem p93 (r : Fin 8) (j : Fin 1024) {a0 : Vec Ideal S1x1024 .f32} {s0 : EReal} (h0 : a0 (ix2 0 j) = s0) :
    k0_pay93 (F := Ideal) a0 (ix2 r j) = s0 := by
  pointwise [k0_pay93, h0]

theorem p94 (r : Fin 8) (j : Fin 1024) {a0 : Vec Ideal S1x1024 .f32} {s0 : EReal} (h0 : a0 (ix2 0 j) = s0) :
    k0_pay94 (F := Ideal) a0 (ix2 r j) = s0 := by
  pointwise [k0_pay94, h0]

theorem p96 (r : Fin 8) (j : Fin 1024) {a0 : Vec Ideal S1x1024 .f32} {a1 : Vec Ideal S1x1024 .f32} {a2 : Vec Ideal S1x8x1024 .f32} {s0 s1 s2 : EReal} (h0 : a0 (ix2 0 j) = s0) (h1 : a1 (ix2 0 j) = s1) (h2 : a2 (ix3 0 r j) = s2) :
    k0_pay96 (F := Ideal) a0 a1 a2 (ix2 r j) = ((s0 * 0) - (s1 * 0)) + s2 := by
  pointwise [k0_pay93, k0_pay94, k0_pay95, k0_pay96, h0, h1, h2]

theorem p97 (r : Fin 8) (j : Fin 1024) {a0 : Vec Ideal S1x1024 .f32} {a1 : Vec Ideal S1x1024 .f32} {s0 s1 : EReal} (h0 : a0 (ix2 0 j) = s0) (h1 : a1 (ix2 0 j) = s1) :
    k0_pay97 (F := Ideal) a0 a1 (ix2 r j) = (s0 * 0) + (s1 * 0) := by
  pointwise [k0_pay93, k0_pay94, k0_pay95, k0_pay97, h0, h1]

theorem p99 (r : Fin 8) (j : Fin 1024) {a0 : FVec Ideal S8x1024 .f32} {s0 : EReal} (h0 : a0 (ix2 r j) = s0) :
    k0_pay99 (F := Ideal) a0 (ix3 0 r j) = s0 := by
  pointwise [k0_pay99, h0]

theorem p100 (r : Fin 8) (j : Fin 1024) {a0 : FVec Ideal S8x1024 .f32} {a1 : Vec Ideal S1x8x1024 .f32} {s0 s1 : EReal} (h0 : a0 (ix2 r j) = s0) (h1 : a1 (ix3 0 r j) = s1) :
    k0_pay100 (F := Ideal) a0 a1 (ix3 0 r j) = s0 + s1 := by
  pointwise [k0_pay98, k0_pay100, h0, h1]

theorem p101 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {s0 s1 s2 s3 s4 s5 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) :
    k0_pay101 (F := Ideal) a0 a1 a2 a3 a4 a5 (ix2 r j) = ((s0 * s2) - (s1 * (s3 + s4))) + s5 := by
  pointwise [k0_pay98, k0_pay101, h0, h1, h2, h3, h4, h5]

theorem p102 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {s0 s1 s2 s3 s4 s5 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) :
    k0_pay102 (F := Ideal) a0 a1 a2 a3 a4 a5 (ix2 r j) = ((s0 * (s3 + s4)) + (s1 * s2)) + s5 := by
  pointwise [k0_pay98, k0_pay102, h0, h1, h2, h3, h4, h5]

theorem p103 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {s0 s1 s2 s3 s4 s5 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) :
    k0_pay103 (F := Ideal) a0 a1 a2 a3 a4 a5 (ix3 0 r j) = ((s0 * s2) - (s1 * (s3 + s4))) + s5 := by
  pointwise [k0_pay98, k0_pay101, k0_pay103, h0, h1, h2, h3, h4, h5]

theorem p104 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {s0 s1 s2 s3 s4 s5 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) :
    k0_pay104 (F := Ideal) a0 a1 a2 a3 a4 a5 (ix3 0 r j) = ((s0 * (s3 + s4)) + (s1 * s2)) + s5 := by
  pointwise [k0_pay98, k0_pay102, k0_pay104, h0, h1, h2, h3, h4, h5]

theorem p105 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {a6 : Vec Ideal S1x8x1024 .f32} {s0 s1 s2 s3 s4 s5 s6 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) (h6 : a6 (ix3 0 r j) = s6) :
    k0_pay105 (F := Ideal) a0 a1 a2 a3 a4 a5 a6 (ix2 r j) = (s0 * (((s0 * s2) - (s1 * (s3 + s4))) + s5)) - (s1 * (((s0 * (s3 + s4)) + (s1 * s2)) + s6)) := by
  pointwise [k0_pay98, k0_pay101, k0_pay102, k0_pay105, h0, h1, h2, h3, h4, h5, h6]

theorem p106 (r : Fin 8) (j : Fin 1024) {a0 : Vec Ideal S1x8x1024 .f32} {s0 : EReal} (h0 : a0 (ix3 0 r j) = s0) :
    k0_pay106 (F := Ideal) a0 (ix2 r j) = s0 := by
  pointwise [k0_pay106, h0]

theorem p109 (r : Fin 8) (j : Fin 1024) {a0 : FVec Ideal S8x1024 .f32} {a1 : FVec Ideal S8x1024 .f32} {s0 s1 : EReal} (h0 : a0 (ix2 r j) = s0) (h1 : a1 (ix2 r j) = s1) :
    k0_pay109 (F := Ideal) a0 a1 (ix3 0 r j) = s0 + s1 := by
  pointwise [k0_pay107, k0_pay109, h0, h1]

theorem p110 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {s0 s1 s2 s3 s4 : EReal} (h0 : a0 (ix2 r j) = s0) (h1 : a1 (ix2 r j) = s1) (h2 : a2 (ix2 r j) = s2) (h3 : a3 (ix2 r j) = s3) (h4 : a4 (ix3 0 r j) = s4) :
    k0_pay110 (F := Ideal) a0 a1 a2 a3 a4 (ix3 0 r j) = ((s0 * s3) + (s1 * s2)) + s4 := by
  pointwise [k0_pay108, k0_pay110, h0, h1, h2, h3, h4]

theorem p111 (r : Fin 8) (j : Fin 1024) {a0 : FVec Ideal S8x1024 .f32} {a1 : FVec Ideal S8x1024 .f32} {a2 : FVec Ideal S8x1024 .f32} {a3 : FVec Ideal S8x1024 .f32} {a4 : FVec Ideal S8x1024 .f32} {a5 : FVec Ideal S8x1024 .f32} {a6 : Vec Ideal S1x8x1024 .f32} {a7 : Vec Ideal S1x8x1024 .f32} {s0 s1 s2 s3 s4 s5 s6 s7 : EReal} (h0 : a0 (ix2 r j) = s0) (h1 : a1 (ix2 r j) = s1) (h2 : a2 (ix2 r j) = s2) (h3 : a3 (ix2 r j) = s3) (h4 : a4 (ix2 r j) = s4) (h5 : a5 (ix2 r j) = s5) (h6 : a6 (ix3 0 r j) = s6) (h7 : a7 (ix3 0 r j) = s7) :
    k0_pay111 (F := Ideal) a0 a1 a2 a3 a4 a5 a6 a7 (ix2 r j) = ((s0 * (s4 + s5)) - (s1 * (((s0 * s3) + (s1 * s2)) + s6))) + s7 := by
  pointwise [k0_pay107, k0_pay108, k0_pay111, h0, h1, h2, h3, h4, h5, h6, h7]

theorem p112 (r : Fin 8) (j : Fin 1024) {a0 : FVec Ideal S8x1024 .f32} {a1 : FVec Ideal S8x1024 .f32} {a2 : FVec Ideal S8x1024 .f32} {a3 : FVec Ideal S8x1024 .f32} {a4 : FVec Ideal S8x1024 .f32} {a5 : FVec Ideal S8x1024 .f32} {a6 : Vec Ideal S1x8x1024 .f32} {a7 : Vec Ideal S1x8x1024 .f32} {s0 s1 s2 s3 s4 s5 s6 s7 : EReal} (h0 : a0 (ix2 r j) = s0) (h1 : a1 (ix2 r j) = s1) (h2 : a2 (ix2 r j) = s2) (h3 : a3 (ix2 r j) = s3) (h4 : a4 (ix2 r j) = s4) (h5 : a5 (ix2 r j) = s5) (h6 : a6 (ix3 0 r j) = s6) (h7 : a7 (ix3 0 r j) = s7) :
    k0_pay112 (F := Ideal) a0 a1 a2 a3 a4 a5 a6 a7 (ix2 r j) = ((s0 * (((s0 * s3) + (s1 * s2)) + s6)) + (s1 * (s4 + s5))) + s7 := by
  pointwise [k0_pay107, k0_pay108, k0_pay112, h0, h1, h2, h3, h4, h5, h6, h7]

theorem p113 (r : Fin 8) (j : Fin 1024) {a0 : FVec Ideal S8x1024 .f32} {a1 : FVec Ideal S8x1024 .f32} {a2 : FVec Ideal S8x1024 .f32} {a3 : FVec Ideal S8x1024 .f32} {a4 : FVec Ideal S8x1024 .f32} {a5 : FVec Ideal S8x1024 .f32} {a6 : Vec Ideal S1x8x1024 .f32} {a7 : Vec Ideal S1x8x1024 .f32} {s0 s1 s2 s3 s4 s5 s6 s7 : EReal} (h0 : a0 (ix2 r j) = s0) (h1 : a1 (ix2 r j) = s1) (h2 : a2 (ix2 r j) = s2) (h3 : a3 (ix2 r j) = s3) (h4 : a4 (ix2 r j) = s4) (h5 : a5 (ix2 r j) = s5) (h6 : a6 (ix3 0 r j) = s6) (h7 : a7 (ix3 0 r j) = s7) :
    k0_pay113 (F := Ideal) a0 a1 a2 a3 a4 a5 a6 a7 (ix3 0 r j) = ((s0 * (s4 + s5)) - (s1 * (((s0 * s3) + (s1 * s2)) + s6))) + s7 := by
  pointwise [k0_pay107, k0_pay108, k0_pay111, k0_pay113, h0, h1, h2, h3, h4, h5, h6, h7]

theorem p114 (r : Fin 8) (j : Fin 1024) {a0 : FVec Ideal S8x1024 .f32} {a1 : FVec Ideal S8x1024 .f32} {a2 : FVec Ideal S8x1024 .f32} {a3 : FVec Ideal S8x1024 .f32} {a4 : FVec Ideal S8x1024 .f32} {a5 : FVec Ideal S8x1024 .f32} {a6 : Vec Ideal S1x8x1024 .f32} {a7 : Vec Ideal S1x8x1024 .f32} {s0 s1 s2 s3 s4 s5 s6 s7 : EReal} (h0 : a0 (ix2 r j) = s0) (h1 : a1 (ix2 r j) = s1) (h2 : a2 (ix2 r j) = s2) (h3 : a3 (ix2 r j) = s3) (h4 : a4 (ix2 r j) = s4) (h5 : a5 (ix2 r j) = s5) (h6 : a6 (ix3 0 r j) = s6) (h7 : a7 (ix3 0 r j) = s7) :
    k0_pay114 (F := Ideal) a0 a1 a2 a3 a4 a5 a6 a7 (ix3 0 r j) = ((s0 * (((s0 * s3) + (s1 * s2)) + s6)) + (s1 * (s4 + s5))) + s7 := by
  pointwise [k0_pay107, k0_pay108, k0_pay112, k0_pay114, h0, h1, h2, h3, h4, h5, h6, h7]

theorem p115 (r : Fin 8) (j : Fin 1024) {a0 : FVec Ideal S8x1024 .f32} {a1 : FVec Ideal S8x1024 .f32} {a2 : FVec Ideal S8x1024 .f32} {a3 : FVec Ideal S8x1024 .f32} {a4 : FVec Ideal S8x1024 .f32} {a5 : FVec Ideal S8x1024 .f32} {a6 : Vec Ideal S1x8x1024 .f32} {a7 : Vec Ideal S1x8x1024 .f32} {s0 s1 s2 s3 s4 s5 s6 s7 : EReal} (h0 : a0 (ix2 r j) = s0) (h1 : a1 (ix2 r j) = s1) (h2 : a2 (ix2 r j) = s2) (h3 : a3 (ix2 r j) = s3) (h4 : a4 (ix2 r j) = s4) (h5 : a5 (ix2 r j) = s5) (h6 : a6 (ix3 0 r j) = s6) (h7 : a7 (ix3 0 r j) = s7) :
    k0_pay115 (F := Ideal) a0 a1 a2 a3 a4 a5 a6 a7 (ix2 r j) = s0 * (((s0 * (s4 + s5)) - (s1 * (((s0 * s3) + (s1 * s2)) + s6))) + s7) := by
  pointwise [k0_pay107, k0_pay108, k0_pay111, k0_pay115, h0, h1, h2, h3, h4, h5, h6, h7]

theorem p116 (r : Fin 8) (j : Fin 1024) {a0 : FVec Ideal S8x1024 .f32} {a1 : FVec Ideal S8x1024 .f32} {a2 : FVec Ideal S8x1024 .f32} {a3 : FVec Ideal S8x1024 .f32} {a4 : FVec Ideal S8x1024 .f32} {a5 : FVec Ideal S8x1024 .f32} {a6 : Vec Ideal S1x8x1024 .f32} {a7 : Vec Ideal S1x8x1024 .f32} {s0 s1 s2 s3 s4 s5 s6 s7 : EReal} (h0 : a0 (ix2 r j) = s0) (h1 : a1 (ix2 r j) = s1) (h2 : a2 (ix2 r j) = s2) (h3 : a3 (ix2 r j) = s3) (h4 : a4 (ix2 r j) = s4) (h5 : a5 (ix2 r j) = s5) (h6 : a6 (ix3 0 r j) = s6) (h7 : a7 (ix3 0 r j) = s7) :
    k0_pay116 (F := Ideal) a0 a1 a2 a3 a4 a5 a6 a7 (ix2 r j) = s1 * (((s0 * (((s0 * s3) + (s1 * s2)) + s6)) + (s1 * (s4 + s5))) + s7) := by
  pointwise [k0_pay107, k0_pay108, k0_pay112, k0_pay116, h0, h1, h2, h3, h4, h5, h6, h7]

theorem p119 (r : Fin 8) (j : Fin 1024) {a0 : FVec Ideal S8x1024 .f32} {a1 : FVec Ideal S8x1024 .f32} {a2 : Vec Ideal S1x8x1024 .f32} {s0 s1 s2 : EReal} (h0 : a0 (ix2 r j) = s0) (h1 : a1 (ix2 r j) = s1) (h2 : a2 (ix3 0 r j) = s2) :
    k0_pay119 (F := Ideal) a0 a1 a2 (ix3 0 r j) = (s0 - s1) + s2 := by
  pointwise [k0_pay117, k0_pay119, h0, h1, h2]

theorem p120 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {s0 s1 s2 s3 s4 : EReal} (h0 : a0 (ix2 r j) = s0) (h1 : a1 (ix2 r j) = s1) (h2 : a2 (ix2 r j) = s2) (h3 : a3 (ix2 r j) = s3) (h4 : a4 (ix3 0 r j) = s4) :
    k0_pay120 (F := Ideal) a0 a1 a2 a3 a4 (ix3 0 r j) = ((s0 * s3) + (s1 * s2)) + s4 := by
  pointwise [k0_pay118, k0_pay120, h0, h1, h2, h3, h4]

theorem p121 (r : Fin 8) (j : Fin 1024) {a0 : FVec Ideal S8x1024 .f32} {a1 : FVec Ideal S8x1024 .f32} {a2 : FVec Ideal S8x1024 .f32} {a3 : FVec Ideal S8x1024 .f32} {a4 : FVec Ideal S8x1024 .f32} {a5 : FVec Ideal S8x1024 .f32} {a6 : Vec Ideal S1x8x1024 .f32} {a7 : Vec Ideal S1x8x1024 .f32} {a8 : Vec Ideal S1x8x1024 .f32} {s0 s1 s2 s3 s4 s5 s6 s7 s8 : EReal} (h0 : a0 (ix2 r j) = s0) (h1 : a1 (ix2 r j) = s1) (h2 : a2 (ix2 r j) = s2) (h3 : a3 (ix2 r j) = s3) (h4 : a4 (ix2 r j) = s4) (h5 : a5 (ix2 r j) = s5) (h6 : a6 (ix3 0 r j) = s6) (h7 : a7 (ix3 0 r j) = s7) (h8 : a8 (ix3 0 r j) = s8) :
    k0_pay121 (F := Ideal) a0 a1 a2 a3 a4 a5 a6 a7 a8 (ix2 r j) = ((s0 * ((s4 - s5) + s6)) - (s1 * (((s0 * s3) + (s1 * s2)) + s7))) + s8 := by
  pointwise [k0_pay117, k0_pay118, k0_pay121, h0, h1, h2, h3, h4, h5, h6, h7, h8]

theorem p122 (r : Fin 8) (j : Fin 1024) {a0 : FVec Ideal S8x1024 .f32} {a1 : FVec Ideal S8x1024 .f32} {a2 : FVec Ideal S8x1024 .f32} {a3 : FVec Ideal S8x1024 .f32} {a4 : FVec Ideal S8x1024 .f32} {a5 : FVec Ideal S8x1024 .f32} {a6 : Vec Ideal S1x8x1024 .f32} {a7 : Vec Ideal S1x8x1024 .f32} {a8 : Vec Ideal S1x8x1024 .f32} {s0 s1 s2 s3 s4 s5 s6 s7 s8 : EReal} (h0 : a0 (ix2 r j) = s0) (h1 : a1 (ix2 r j) = s1) (h2 : a2 (ix2 r j) = s2) (h3 : a3 (ix2 r j) = s3) (h4 : a4 (ix2 r j) = s4) (h5 : a5 (ix2 r j) = s5) (h6 : a6 (ix3 0 r j) = s6) (h7 : a7 (ix3 0 r j) = s7) (h8 : a8 (ix3 0 r j) = s8) :
    k0_pay122 (F := Ideal) a0 a1 a2 a3 a4 a5 a6 a7 a8 (ix2 r j) = ((s0 * (((s0 * s3) + (s1 * s2)) + s7)) + (s1 * ((s4 - s5) + s6))) + s8 := by
  pointwise [k0_pay117, k0_pay118, k0_pay122, h0, h1, h2, h3, h4, h5, h6, h7, h8]

theorem p123 (r : Fin 8) (j : Fin 1024) {a0 : FVec Ideal S8x1024 .f32} {a1 : FVec Ideal S8x1024 .f32} {a2 : FVec Ideal S8x1024 .f32} {a3 : FVec Ideal S8x1024 .f32} {a4 : FVec Ideal S8x1024 .f32} {a5 : FVec Ideal S8x1024 .f32} {a6 : Vec Ideal S1x8x1024 .f32} {a7 : Vec Ideal S1x8x1024 .f32} {a8 : Vec Ideal S1x8x1024 .f32} {s0 s1 s2 s3 s4 s5 s6 s7 s8 : EReal} (h0 : a0 (ix2 r j) = s0) (h1 : a1 (ix2 r j) = s1) (h2 : a2 (ix2 r j) = s2) (h3 : a3 (ix2 r j) = s3) (h4 : a4 (ix2 r j) = s4) (h5 : a5 (ix2 r j) = s5) (h6 : a6 (ix3 0 r j) = s6) (h7 : a7 (ix3 0 r j) = s7) (h8 : a8 (ix3 0 r j) = s8) :
    k0_pay123 (F := Ideal) a0 a1 a2 a3 a4 a5 a6 a7 a8 (ix3 0 r j) = ((s0 * ((s4 - s5) + s6)) - (s1 * (((s0 * s3) + (s1 * s2)) + s7))) + s8 := by
  pointwise [k0_pay117, k0_pay118, k0_pay121, k0_pay123, h0, h1, h2, h3, h4, h5, h6, h7, h8]

theorem p124 (r : Fin 8) (j : Fin 1024) {a0 : FVec Ideal S8x1024 .f32} {s0 : EReal} (h0 : a0 (ix2 r j) = s0) :
    k0_pay124 (F := Ideal) a0 (ix3 0 r j) = s0 := by
  pointwise [k0_pay124, h0]

theorem p127 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {s0 s1 s2 s3 s4 : EReal} (h0 : a0 (ix2 r j) = s0) (h1 : a1 (ix2 r j) = s1) (h2 : a2 (ix2 r j) = s2) (h3 : a3 (ix2 r j) = s3) (h4 : a4 (ix3 0 r j) = s4) :
    k0_pay127 (F := Ideal) a0 a1 a2 a3 a4 (ix3 0 r j) = ((s0 * s2) - (s1 * s3)) + s4 := by
  pointwise [k0_pay125, k0_pay127, h0, h1, h2, h3, h4]

theorem p128 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {s0 s1 s2 s3 s4 : EReal} (h0 : a0 (ix2 r j) = s0) (h1 : a1 (ix2 r j) = s1) (h2 : a2 (ix2 r j) = s2) (h3 : a3 (ix2 r j) = s3) (h4 : a4 (ix3 0 r j) = s4) :
    k0_pay128 (F := Ideal) a0 a1 a2 a3 a4 (ix3 0 r j) = ((s0 * s3) + (s1 * s2)) + s4 := by
  pointwise [k0_pay126, k0_pay128, h0, h1, h2, h3, h4]

theorem p129 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {a6 : Vec Ideal S1x8x1024 .f32} {s0 s1 s2 s3 s4 s5 s6 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) (h6 : a6 (ix3 0 r j) = s6) :
    k0_pay129 (F := Ideal) a0 a1 a2 a3 a4 a5 a6 (ix2 r j) = ((s0 * (((s0 * s2) - (s1 * s3)) + s4)) - (s1 * (((s0 * s3) + (s1 * s2)) + s5))) + s6 := by
  pointwise [k0_pay125, k0_pay126, k0_pay129, h0, h1, h2, h3, h4, h5, h6]

theorem p130 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {a6 : Vec Ideal S1x8x1024 .f32} {s0 s1 s2 s3 s4 s5 s6 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) (h6 : a6 (ix3 0 r j) = s6) :
    k0_pay130 (F := Ideal) a0 a1 a2 a3 a4 a5 a6 (ix2 r j) = ((s0 * (((s0 * s3) + (s1 * s2)) + s5)) + (s1 * (((s0 * s2) - (s1 * s3)) + s4))) + s6 := by
  pointwise [k0_pay125, k0_pay126, k0_pay130, h0, h1, h2, h3, h4, h5, h6]

theorem p131 (r : Fin 8) (j : Fin 1024) {a0 : FVec Ideal S8x1024 .f32} {s0 : EReal} (h0 : a0 (ix2 r j) = s0) :
    k0_pay131 (F := Ideal) a0 (ix3 0 r j) = s0 := by
  pointwise [k0_pay131, h0]

theorem p132 (r : Fin 8) (j : Fin 1024) {a0 : FVec Ideal S8x1024 .f32} {s0 : EReal} (h0 : a0 (ix2 r j) = s0) :
    k0_pay132 (F := Ideal) a0 (ix3 0 r j) = s0 := by
  pointwise [k0_pay132, h0]

theorem p133 (r : Fin 8) (j : Fin 1024) {a0 : Vec Ideal S8x1024 .f32} {s0 : EReal} (h0 : a0 (ix2 r j) = s0) :
    k0_pay133 (F := Ideal) a0 (ix2 r j) = s0 := by
  pointwise [k0_pay133, h0]

theorem p134 (r : Fin 8) (j : Fin 1024) {a0 : Vec Ideal S8x1024 .f32} {s0 : EReal} (h0 : a0 (ix2 r j) = s0) :
    k0_pay134 (F := Ideal) a0 (ix2 r j) = s0 := by
  pointwise [k0_pay134, h0]

theorem p137 (r : Fin 8) (j : Fin 1024) {a0 : Vec Ideal S8x1024 .f32} {a1 : Vec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay137 (F := Ideal) a0 a1 a2 a3 a4 (ix3 0 r j) = (s4 + (s2 * s0)) - (s3 * s1) := by
  pointwise [k0_pay133, k0_pay134, k0_pay135, k0_pay136, k0_pay137, h0, h1, h2, h3, h4]

theorem p138 (r : Fin 8) (j : Fin 1024) {a0 : Vec Ideal S8x1024 .f32} {a1 : Vec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay138 (F := Ideal) a0 a1 a2 a3 a4 (ix2 r j) = (s4 + (s2 * s1)) + (s3 * s0) := by
  pointwise [k0_pay133, k0_pay134, k0_pay135, k0_pay136, k0_pay138, h0, h1, h2, h3, h4]

theorem p139 (r : Fin 8) (j : Fin 1024) {a0 : FVec Ideal S8x1024 .f32} {s0 : EReal} (h0 : a0 (ix2 r j) = s0) :
    k0_pay139 (F := Ideal) a0 (ix3 0 r j) = s0 := by
  pointwise [k0_pay139, h0]

theorem p142 (r : Fin 8) (j : Fin 1024) {a0 : FVec Ideal S8x1024 .f32} {a1 : FVec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay142 (F := Ideal) a0 a1 a2 a3 a4 (ix3 0 r j) = (s4 + (s2 * s0)) - (s3 * s1) := by
  pointwise [k0_pay140, k0_pay141, k0_pay142, h0, h1, h2, h3, h4]

theorem p143 (r : Fin 8) (j : Fin 1024) {a0 : FVec Ideal S8x1024 .f32} {a1 : FVec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay143 (F := Ideal) a0 a1 a2 a3 a4 (ix3 0 r j) = (s4 + (s2 * s1)) + (s3 * s0) := by
  pointwise [k0_pay140, k0_pay141, k0_pay143, h0, h1, h2, h3, h4]

theorem p144 (r : Fin 8) (j : Fin 1024) {a0 : Vec Ideal S1x1024 .f32} {s0 : EReal} (h0 : a0 (ix2 0 j) = s0) :
    k0_pay144 (F := Ideal) a0 (ix2 0 j) = s0 := by
  pointwise [k0_pay144, h0]

theorem p145 (r : Fin 8) (j : Fin 1024) {a0 : Vec Ideal S1x1024 .f32} {s0 : EReal} (h0 : a0 (ix2 0 j) = s0) :
    k0_pay145 (F := Ideal) a0 (ix2 0 j) = s0 := by
  pointwise [k0_pay145, h0]

theorem p146 (r : Fin 8) (j : Fin 1024) {a0 : FVec Ideal S8x1024 .f32} {a1 : FVec Ideal S8x1024 .f32} {a2 : FVec Ideal S1x1024 .f32} {a3 : FVec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay146 (F := Ideal) a0 a1 a2 a3 a4 (ix3 0 r j) = (s4 + (s2 * s0)) - (s3 * s1) := by
  pointwise [k0_pay146, h0, h1, h2, h3, h4]

theorem p147 (r : Fin 8) (j : Fin 1024) {a0 : FVec Ideal S8x1024 .f32} {a1 : FVec Ideal S8x1024 .f32} {a2 : FVec Ideal S1x1024 .f32} {a3 : FVec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay147 (F := Ideal) a0 a1 a2 a3 a4 (ix3 0 r j) = (s4 + (s2 * s1)) + (s3 * s0) := by
  pointwise [k0_pay147, h0, h1, h2, h3, h4]

theorem p148 (r : Fin 8) (j : Fin 1024) {a0 : Vec Ideal S1x1024 .f32} {s0 : EReal} (h0 : a0 (ix2 0 j) = s0) :
    k0_pay148 (F := Ideal) a0 (ix2 0 j) = s0 := by
  pointwise [k0_pay148, h0]

theorem p149 (r : Fin 8) (j : Fin 1024) {a0 : Vec Ideal S1x1024 .f32} {s0 : EReal} (h0 : a0 (ix2 0 j) = s0) :
    k0_pay149 (F := Ideal) a0 (ix2 0 j) = s0 := by
  pointwise [k0_pay149, h0]

theorem p150 (r : Fin 8) (j : Fin 1024) {a0 : FVec Ideal S8x1024 .f32} {a1 : FVec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay150 (F := Ideal) a0 a1 a2 a3 a4 (ix3 0 r j) = (s4 + (s2 * s0)) - (s3 * s1) := by
  pointwise [k0_pay148, k0_pay149, k0_pay150, h0, h1, h2, h3, h4]

theorem p151 (r : Fin 8) (j : Fin 1024) {a0 : FVec Ideal S8x1024 .f32} {a1 : FVec Ideal S8x1024 .f32} {a2 : FVec Ideal S1x1024 .f32} {a3 : FVec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay151 (F := Ideal) a0 a1 a2 a3 a4 (ix3 0 r j) = (s4 + (s2 * s1)) + (s3 * s0) := by
  pointwise [k0_pay151, h0, h1, h2, h3, h4]

theorem p154 (r : Fin 8) (j : Fin 1024) {a0 : FVec Ideal S8x1024 .f32} {a1 : FVec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay154 (F := Ideal) a0 a1 a2 a3 a4 (ix3 0 r j) = (s4 + (s2 * s0)) - (s3 * s1) := by
  pointwise [k0_pay152, k0_pay153, k0_pay154, h0, h1, h2, h3, h4]

theorem p155 (r : Fin 8) (j : Fin 1024) {a0 : FVec Ideal S8x1024 .f32} {a1 : FVec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay155 (F := Ideal) a0 a1 a2 a3 a4 (ix2 r j) = (s4 + (s2 * s1)) + (s3 * s0) := by
  pointwise [k0_pay152, k0_pay153, k0_pay155, h0, h1, h2, h3, h4]

theorem p156 (r : Fin 8) (j : Fin 1024) {a0 : FVec Ideal S8x1024 .f32} {s0 : EReal} (h0 : a0 (ix2 r j) = s0) :
    k0_pay156 (F := Ideal) a0 (ix3 0 r j) = s0 := by
  pointwise [k0_pay156, h0]

theorem p159 (r : Fin 8) (j : Fin 1024) {a0 : FVec Ideal S8x1024 .f32} {a1 : FVec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay159 (F := Ideal) a0 a1 a2 a3 a4 (ix3 0 r j) = (s4 + (s2 * s0)) - (s3 * s1) := by
  pointwise [k0_pay157, k0_pay158, k0_pay159, h0, h1, h2, h3, h4]

theorem p160 (r : Fin 8) (j : Fin 1024) {a0 : FVec Ideal S8x1024 .f32} {a1 : FVec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay160 (F := Ideal) a0 a1 a2 a3 a4 (ix3 0 r j) = (s4 + (s2 * s1)) + (s3 * s0) := by
  pointwise [k0_pay157, k0_pay158, k0_pay160, h0, h1, h2, h3, h4]

theorem p161 (r : Fin 8) (j : Fin 1024) {a0 : Vec Ideal S1x1024 .f32} {s0 : EReal} (h0 : a0 (ix2 0 j) = s0) :
    k0_pay161 (F := Ideal) a0 (ix2 0 j) = s0 := by
  pointwise [k0_pay161, h0]

theorem p162 (r : Fin 8) (j : Fin 1024) {a0 : Vec Ideal S1x1024 .f32} {s0 : EReal} (h0 : a0 (ix2 0 j) = s0) :
    k0_pay162 (F := Ideal) a0 (ix2 0 j) = s0 := by
  pointwise [k0_pay162, h0]

theorem p163 (r : Fin 8) (j : Fin 1024) {a0 : FVec Ideal S8x1024 .f32} {a1 : FVec Ideal S8x1024 .f32} {a2 : FVec Ideal S1x1024 .f32} {a3 : FVec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay163 (F := Ideal) a0 a1 a2 a3 a4 (ix3 0 r j) = (s4 + (s2 * s0)) - (s3 * s1) := by
  pointwise [k0_pay163, h0, h1, h2, h3, h4]

theorem p164 (r : Fin 8) (j : Fin 1024) {a0 : FVec Ideal S8x1024 .f32} {a1 : FVec Ideal S8x1024 .f32} {a2 : FVec Ideal S1x1024 .f32} {a3 : FVec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay164 (F := Ideal) a0 a1 a2 a3 a4 (ix3 0 r j) = (s4 + (s2 * s1)) + (s3 * s0) := by
  pointwise [k0_pay164, h0, h1, h2, h3, h4]

theorem p165 (r : Fin 8) (j : Fin 1024) {a0 : Vec Ideal S1x1024 .f32} {s0 : EReal} (h0 : a0 (ix2 0 j) = s0) :
    k0_pay165 (F := Ideal) a0 (ix2 0 j) = s0 := by
  pointwise [k0_pay165, h0]

theorem p166 (r : Fin 8) (j : Fin 1024) {a0 : Vec Ideal S1x1024 .f32} {s0 : EReal} (h0 : a0 (ix2 0 j) = s0) :
    k0_pay166 (F := Ideal) a0 (ix2 0 j) = s0 := by
  pointwise [k0_pay166, h0]

theorem p167 (r : Fin 8) (j : Fin 1024) {a0 : FVec Ideal S8x1024 .f32} {a1 : FVec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay167 (F := Ideal) a0 a1 a2 a3 a4 (ix3 0 r j) = (s4 + (s2 * s0)) - (s3 * s1) := by
  pointwise [k0_pay165, k0_pay166, k0_pay167, h0, h1, h2, h3, h4]

theorem p168 (r : Fin 8) (j : Fin 1024) {a0 : FVec Ideal S8x1024 .f32} {a1 : FVec Ideal S8x1024 .f32} {a2 : FVec Ideal S1x1024 .f32} {a3 : FVec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay168 (F := Ideal) a0 a1 a2 a3 a4 (ix3 0 r j) = (s4 + (s2 * s1)) + (s3 * s0) := by
  pointwise [k0_pay168, h0, h1, h2, h3, h4]

end Cert.ScanIdeal.Hand
-- ==== Proof.ScanBlk1.lean ====
/- Hand-written, untrusted: the recurrence over block 1 of lanes, step after step. -/
module

public import proofs.«01_k».proof.Proof.ScanPay1
public import proofs.«01_k».proof.Proof.ScanInit

set_option maxRecDepth 16384

@[expose] public section

noncomputable section

open Idealize.ShloMosaic Idealize.ShloMosaic.TcCoe Idealize.SL.Sem

namespace Cert.ScanIdeal.Hand

open Cert.ScanIdeal Cert.ScanIdeal.Gen

variable {c : Dev nD}
variable {arg1 : Memref sig .tc .vmem S64x1024 .f32} {harg1 : arg1.IsWhole}
variable {arg2 : Memref sig .tc .vmem S8x4096 .f32} {harg2 : arg2.IsWhole}
variable {arg3 : Memref sig .tc .vmem S8x4096 .f32} {harg3 : arg3.IsWhole}
variable {arg4 : Memref sig .tc .vmem S8x4096 .f32} {harg4 : arg4.IsWhole}
variable {arg5 : Memref sig .tc .vmem S8x4096 .f32} {harg5 : arg5.IsWhole}
variable {arg6 : Memref sig .tc .vmem S4x256x1024 .bf16} {harg6 : arg6.IsWhole}
variable {arg7 : Memref sig .tc .vmem S4x256x1024 .bf16} {harg7 : arg7.IsWhole}
variable {arg8 : Memref sig .tc .vmem S4x1024x256 .bf16} {harg8 : arg8.IsWhole}
variable {arg9 : Memref sig .tc .vmem S4x1024x256 .bf16} {harg9 : arg9.IsWhole}
variable {arg10 : Memref sig .tc .vmem S1x1024 .f32} {harg10 : arg10.IsWhole}
variable {arg11 : Memref sig .tc .vmem S1024x1024 .bf16} {harg11 : arg11.IsWhole}
variable {arg12 : Memref sig .tc .vmem S1x1024 .f32} {harg12 : arg12.IsWhole}
variable {arg16 : Memref sig .tc .vmem S8x8x1024 .f32} {harg16 : arg16.IsWhole}
variable {arg17 : Memref sig .tc .vmem S8x8x1024 .f32} {harg17 : arg17.IsWhole}
variable {arg18 : Memref sig .tc .vmem S64x1024 .f32} {harg18 : arg18.IsWhole}
variable {x0 : FVec Ideal S64x1024 .f32} {x1 x2 x3 x4 : FVec Ideal S8x4096 .f32} {x5 x6 : FVec Ideal S4x256x1024 .bf16}
  {x7 x8 : FVec Ideal S4x1024x256 .bf16}

theorem i0_18 : Inv (kernelRun0_A.sl.HS0_18 (F := Ideal) c arg1 harg1 arg2 harg2 arg3 harg3 arg4 harg4 arg5 harg5 arg6 harg6 arg7 harg7 arg16 arg17 x0 x1 x2 x3 x4 x5 x6) 0 (SR x0 x3 x4 x5 x6 1) (BU x0 x5 1) :=
  Inv.all _ fun t r j => init0_1 t r j

theorem w_v545 (r : Fin 8) (j : Fin 1024) : kernelRun0_A.sl.v545 (F := Ideal) c arg1 harg1 arg2 harg2 arg3 harg3 arg4 harg4 arg5 harg5 arg6 harg6 arg7 harg7 arg16 arg17 x0 x1 x2 x3 x4 x5 x6 (ix3 0 r j) = BU x0 x5 1 0 r j :=
  i0_18.row 0 rfl (by decide) r j

theorem w_r_32 (r : Fin 8) (j : Fin 1024) : kernelRun0_A.sl.r_32 (F := Ideal) c arg1 harg1 arg2 harg2 arg3 harg3 arg4 harg4 arg5 harg5 arg6 harg6 arg7 harg7 arg16 arg17 x0 x1 x2 x3 x4 x5 x6 (ix2 r j) = (SR x0 x3 x4 x5 x6 1 0 r j) :=
  Eq.trans (p96 r j (ld1 harg4 x3 1 0 rfl rfl j) (ld1 harg5 x4 1 0 rfl rfl j) (w_v545 r j)) rfl

theorem i0_19 : Inv (kernelRun0_A.sl.HS0_19 (F := Ideal) c arg1 harg1 arg2 harg2 arg3 harg3 arg4 harg4 arg5 harg5 arg6 harg6 arg7 harg7 arg16 arg17 x0 x1 x2 x3 x4 x5 x6) 1 (SR x0 x3 x4 x5 x6 1) (BU x0 x5 1) :=
  i0_18.step 0 rfl fun r j => Eq.trans (p99 r j (w_r_32 r j)) rfl

theorem w_r_30 (r : Fin 8) (j : Fin 1024) : kernelRun0_A.sl.r_30 (F := Ideal) c arg4 harg4 x3 (ix2 r j) = (RW x3 1 0 j) :=
  Eq.trans (p93 r j (ld1 harg4 x3 1 0 rfl rfl j)) rfl

theorem w_r_31 (r : Fin 8) (j : Fin 1024) : kernelRun0_A.sl.r_31 (F := Ideal) c arg5 harg5 x4 (ix2 r j) = (RW x4 1 0 j) :=
  Eq.trans (p94 r j (ld1 harg5 x4 1 0 rfl rfl j)) rfl

theorem w_r_33 (r : Fin 8) (j : Fin 1024) : kernelRun0_A.sl.r_33 (F := Ideal) c arg4 harg4 arg5 harg5 x3 x4 (ix2 r j) = ((RW x3 1 0 j) * 0) + ((RW x4 1 0 j) * 0) :=
  Eq.trans (p97 r j (ld1 harg4 x3 1 0 rfl rfl j) (ld1 harg5 x4 1 0 rfl rfl j)) rfl

theorem i1_18 : Inv (kernelRun0_A.sl.HS1_18 (F := Ideal) c arg1 harg1 arg2 harg2 arg3 harg3 arg4 harg4 arg5 harg5 arg6 harg6 arg7 harg7 arg16 arg17 x0 x1 x2 x3 x4 x5 x6) 0 (SI x0 x3 x4 x5 x6 1) (BU x0 x6 1) :=
  Inv.all _ fun t r j => init1_1 t r j

theorem w_v552 (r : Fin 8) (j : Fin 1024) : kernelRun0_A.sl.v552 (F := Ideal) c arg1 harg1 arg2 harg2 arg3 harg3 arg4 harg4 arg5 harg5 arg6 harg6 arg7 harg7 arg16 arg17 x0 x1 x2 x3 x4 x5 x6 (ix3 0 r j) = BU x0 x6 1 0 r j :=
  i1_18.row 0 rfl (by decide) r j

theorem w_v567 (r : Fin 8) (j : Fin 1024) : kernelRun0_A.sl.v567 (F := Ideal) c arg1 harg1 arg2 harg2 arg3 harg3 arg4 harg4 arg5 harg5 arg6 harg6 arg7 harg7 arg16 arg17 x0 x1 x2 x3 x4 x5 x6 (ix3 0 r j) = BU x0 x5 1 1 r j :=
  i0_19.row 1 rfl (by decide) r j

theorem i0_20 : Inv (kernelRun0_A.sl.HS0_20 (F := Ideal) c arg1 harg1 arg2 harg2 arg3 harg3 arg4 harg4 arg5 harg5 arg6 harg6 arg7 harg7 arg16 arg17 x0 x1 x2 x3 x4 x5 x6) 2 (SR x0 x3 x4 x5 x6 1) (BU x0 x5 1) :=
  i0_19.step 1 rfl fun r j => Eq.trans (p103 r j (w_r_30 r j) (w_r_31 r j) (w_r_32 r j) (w_r_33 r j) (w_v552 r j) (w_v567 r j)) rfl

theorem i1_19 : Inv (kernelRun0_A.sl.HS1_19 (F := Ideal) c arg1 harg1 arg2 harg2 arg3 harg3 arg4 harg4 arg5 harg5 arg6 harg6 arg7 harg7 arg16 arg17 x0 x1 x2 x3 x4 x5 x6) 1 (SI x0 x3 x4 x5 x6 1) (BU x0 x6 1) :=
  i1_18.step 0 rfl fun r j => Eq.trans (p100 r j (w_r_33 r j) (w_v552 r j)) rfl

theorem w_v574 (r : Fin 8) (j : Fin 1024) : kernelRun0_A.sl.v574 (F := Ideal) c arg1 harg1 arg2 harg2 arg3 harg3 arg4 harg4 arg5 harg5 arg6 harg6 arg7 harg7 arg16 arg17 x0 x1 x2 x3 x4 x5 x6 (ix3 0 r j) = BU x0 x6 1 1 r j :=
  i1_19.row 1 rfl (by decide) r j

theorem w_r_36 (r : Fin 8) (j : Fin 1024) : kernelRun0_A.sl.r_36 (F := Ideal) c arg1 harg1 arg2 harg2 arg3 harg3 arg4 harg4 arg5 harg5 arg6 harg6 arg7 harg7 arg16 arg17 x0 x1 x2 x3 x4 x5 x6 (ix2 r j) = ((RW x3 1 0 j) * (SR x0 x3 x4 x5 x6 1 1 r j)) - ((RW x4 1 0 j) * (SI x0 x3 x4 x5 x6 1 1 r j)) :=
  Eq.trans (p105 r j (w_r_30 r j) (w_r_31 r j) (w_r_32 r j) (w_r_33 r j) (w_v552 r j) (w_v567 r j) (w_v574 r j)) rfl

theorem w_v589 (r : Fin 8) (j : Fin 1024) : kernelRun0_A.sl.v589 (F := Ideal) c arg1 harg1 arg2 harg2 arg3 harg3 arg4 harg4 arg5 harg5 arg6 harg6 arg7 harg7 arg16 arg17 x0 x1 x2 x3 x4 x5 x6 (ix3 0 r j) = BU x0 x5 1 2 r j :=
  i0_20.row 2 rfl (by decide) r j

theorem w_r_37 (r : Fin 8) (j : Fin 1024) : kernelRun0_A.sl.r_37 (F := Ideal) c arg1 harg1 arg2 harg2 arg3 harg3 arg4 harg4 arg5 harg5 arg6 harg6 arg7 harg7 arg16 arg17 x0 x1 x2 x3 x4 x5 x6 (ix2 r j) = (BU x0 x5 1 2 r j) :=
  Eq.trans (p106 r j (w_v589 r j)) rfl

theorem i0_21 : Inv (kernelRun0_A.sl.HS0_21 (F := Ideal) c arg1 harg1 arg2 harg2 arg3 harg3 arg4 harg4 arg5 harg5 arg6 harg6 arg7 harg7 arg16 arg17 x0 x1 x2 x3 x4 x5 x6) 3 (SR x0 x3 x4 x5 x6 1) (BU x0 x5 1) :=
  i0_20.step 2 rfl fun r j => Eq.trans (p109 r j (w_r_36 r j) (w_r_37 r j)) rfl

theorem w_r_34 (r : Fin 8) (j : Fin 1024) : kernelRun0_A.sl.r_34 (F := Ideal) c arg1 harg1 arg2 harg2 arg3 harg3 arg4 harg4 arg5 harg5 arg6 harg6 arg7 harg7 arg16 arg17 x0 x1 x2 x3 x4 x5 x6 (ix2 r j) = (SR x0 x3 x4 x5 x6 1 1 r j) :=
  Eq.trans (p101 r j (w_r_30 r j) (w_r_31 r j) (w_r_32 r j) (w_r_33 r j) (w_v552 r j) (w_v567 r j)) rfl

theorem w_r_35 (r : Fin 8) (j : Fin 1024) : kernelRun0_A.sl.r_35 (F := Ideal) c arg1 harg1 arg2 harg2 arg3 harg3 arg4 harg4 arg5 harg5 arg6 harg6 arg7 harg7 arg16 arg17 x0 x1 x2 x3 x4 x5 x6 (ix2 r j) = (SI x0 x3 x4 x5 x6 1 1 r j) :=
  Eq.trans (p102 r j (w_r_30 r j) (w_r_31 r j) (w_r_32 r j) (w_r_33 r j) (w_v552 r j) (w_v574 r j)) rfl

theorem i1_20 : Inv (kernelRun0_A.sl.HS1_20 (F := Ideal) c arg1 harg1 arg2 harg2 arg3 harg3 arg4 harg4 arg5 harg5 arg6 harg6 arg7 harg7 arg16 arg17 x0 x1 x2 x3 x4 x5 x6) 2 (SI x0 x3 x4 x5 x6 1) (BU x0 x6 1) :=
  i1_19.step 1 rfl fun r j => Eq.trans (p104 r j (w_r_30 r j) (w_r_31 r j) (w_r_32 r j) (w_r_33 r j) (w_v552 r j) (w_v574 r j)) rfl

theorem w_v596 (r : Fin 8) (j : Fin 1024) : kernelRun0_A.sl.v596 (F := Ideal) c arg1 harg1 arg2 harg2 arg3 harg3 arg4 harg4 arg5 harg5 arg6 harg6 arg7 harg7 arg16 arg17 x0 x1 x2 x3 x4 x5 x6 (ix3 0 r j) = BU x0 x6 1 2 r j :=
  i1_20.row 2 rfl (by decide) r j

theorem w_v611 (r : Fin 8) (j : Fin 1024) : kernelRun0_A.sl.v611 (F := Ideal) c arg1 harg1 arg2 harg2 arg3 harg3 arg4 harg4 arg5 harg5 arg6 harg6 arg7 harg7 arg16 arg17 x0 x1 x2 x3 x4 x5 x6 (ix3 0 r j) = BU x0 x5 1 3 r j :=
  i0_21.row 3 rfl (by decide) r j

theorem i0_22 : Inv (kernelRun0_A.sl.HS0_22 (F := Ideal) c arg1 harg1 arg2 harg2 arg3 harg3 arg4 harg4 arg5 harg5 arg6 harg6 arg7 harg7 arg16 arg17 x0 x1 x2 x3 x4 x5 x6) 4 (SR x0 x3 x4 x5 x6 1) (BU x0 x5 1) :=
  i0_21.step 3 rfl fun r j => Eq.trans (p113 r j (w_r_30 r j) (w_r_31 r j) (w_r_34 r j) (w_r_35 r j) (w_r_36 r j) (w_r_37 r j) (w_v596 r j) (w_v611 r j)) rfl

theorem w_r_40 (r : Fin 8) (j : Fin 1024) : kernelRun0_A.sl.r_40 (F := Ideal) c arg1 harg1 arg2 harg2 arg3 harg3 arg4 harg4 arg5 harg5 arg6 harg6 arg7 harg7 arg16 arg17 x0 x1 x2 x3 x4 x5 x6 (ix2 r j) = (RW x3 1 0 j) * (SR x0 x3 x4 x5 x6 1 3 r j) :=
  Eq.trans (p115 r j (w_r_30 r j) (w_r_31 r j) (w_r_34 r j) (w_r_35 r j) (w_r_36 r j) (w_r_37 r j) (w_v596 r j) (w_v611 r j)) rfl

theorem i1_21 : Inv (kernelRun0_A.sl.HS1_21 (F := Ideal) c arg1 harg1 arg2 harg2 arg3 harg3 arg4 harg4 arg5 harg5 arg6 harg6 arg7 harg7 arg16 arg17 x0 x1 x2 x3 x4 x5 x6) 3 (SI x0 x3 x4 x5 x6 1) (BU x0 x6 1) :=
  i1_20.step 2 rfl fun r j => Eq.trans (p110 r j (w_r_30 r j) (w_r_31 r j) (w_r_34 r j) (w_r_35 r j) (w_v596 r j)) rfl

theorem w_v618 (r : Fin 8) (j : Fin 1024) : kernelRun0_A.sl.v618 (F := Ideal) c arg1 harg1 arg2 harg2 arg3 harg3 arg4 harg4 arg5 harg5 arg6 harg6 arg7 harg7 arg16 arg17 x0 x1 x2 x3 x4 x5 x6 (ix3 0 r j) = BU x0 x6 1 3 r j :=
  i1_21.row 3 rfl (by decide) r j

theorem w_r_41 (r : Fin 8) (j : Fin 1024) : kernelRun0_A.sl.r_41 (F := Ideal) c arg1 harg1 arg2 harg2 arg3 harg3 arg4 harg4 arg5 harg5 arg6 harg6 arg7 harg7 arg16 arg17 x0 x1 x2 x3 x4 x5 x6 (ix2 r j) = (RW x4 1 0 j) * (SI x0 x3 x4 x5 x6 1 3 r j) :=
  Eq.trans (p116 r j (w_r_30 r j) (w_r_31 r j) (w_r_34 r j) (w_r_35 r j) (w_r_36 r j) (w_r_37 r j) (w_v596 r j) (w_v618 r j)) rfl

theorem w_v633 (r : Fin 8) (j : Fin 1024) : kernelRun0_A.sl.v633 (F := Ideal) c arg1 harg1 arg2 harg2 arg3 harg3 arg4 harg4 arg5 harg5 arg6 harg6 arg7 harg7 arg16 arg17 x0 x1 x2 x3 x4 x5 x6 (ix3 0 r j) = BU x0 x5 1 4 r j :=
  i0_22.row 4 rfl (by decide) r j

theorem i0_23 : Inv (kernelRun0_A.sl.HS0_23 (F := Ideal) c arg1 harg1 arg2 harg2 arg3 harg3 arg4 harg4 arg5 harg5 arg6 harg6 arg7 harg7 arg16 arg17 x0 x1 x2 x3 x4 x5 x6) 5 (SR x0 x3 x4 x5 x6 1) (BU x0 x5 1) :=
  i0_22.step 4 rfl fun r j => Eq.trans (p119 r j (w_r_40 r j) (w_r_41 r j) (w_v633 r j)) rfl

theorem w_r_38 (r : Fin 8) (j : Fin 1024) : kernelRun0_A.sl.r_38 (F := Ideal) c arg1 harg1 arg2 harg2 arg3 harg3 arg4 harg4 arg5 harg5 arg6 harg6 arg7 harg7 arg16 arg17 x0 x1 x2 x3 x4 x5 x6 (ix2 r j) = (SR x0 x3 x4 x5 x6 1 3 r j) :=
  Eq.trans (p111 r j (w_r_30 r j) (w_r_31 r j) (w_r_34 r j) (w_r_35 r j) (w_r_36 r j) (w_r_37 r j) (w_v596 r j) (w_v611 r j)) rfl

theorem w_r_39 (r : Fin 8) (j : Fin 1024) : kernelRun0_A.sl.r_39 (F := Ideal) c arg1 harg1 arg2 harg2 arg3 harg3 arg4 harg4 arg5 harg5 arg6 harg6 arg7 harg7 arg16 arg17 x0 x1 x2 x3 x4 x5 x6 (ix2 r j) = (SI x0 x3 x4 x5 x6 1 3 r j) :=
  Eq.trans (p112 r j (w_r_30 r j) (w_r_31 r j) (w_r_34 r j) (w_r_35 r j) (w_r_36 r j) (w_r_37 r j) (w_v596 r j) (w_v618 r j)) rfl

theorem i1_22 : Inv (kernelRun0_A.sl.HS1_22 (F := Ideal) c arg1 harg1 arg2 harg2 arg3 harg3 arg4 harg4 arg5 harg5 arg6 harg6 arg7 harg7 arg16 arg17 x0 x1 x2 x3 x4 x5 x6) 4 (SI x0 x3 x4 x5 x6 1) (BU x0 x6 1) :=
  i1_21.step 3 rfl fun r j => Eq.trans (p114 r j (w_r_30 r j) (w_r_31 r j) (w_r_34 r j) (w_r_35 r j) (w_r_36 r j) (w_r_37 r j) (w_v596 r j) (w_v618 r j)) rfl

theorem w_v640 (r : Fin 8) (j : Fin 1024) : kernelRun0_A.sl.v640 (F := Ideal) c arg1 harg1 arg2 harg2 arg3 harg3 arg4 harg4 arg5 harg5 arg6 harg6 arg7 harg7 arg16 arg17 x0 x1 x2 x3 x4 x5 x6 (ix3 0 r j) = BU x0 x6 1 4 r j :=
  i1_22.row 4 rfl (by decide) r j

theorem w_v655 (r : Fin 8) (j : Fin 1024) : kernelRun0_A.sl.v655 (F := Ideal) c arg1 harg1 arg2 harg2 arg3 harg3 arg4 harg4 arg5 harg5 arg6 harg6 arg7 harg7 arg16 arg17 x0 x1 x2 x3 x4 x5 x6 (ix3 0 r j) = BU x0 x5 1 5 r j :=
  i0_23.row 5 rfl (by decide) r j

theorem i0_24 : Inv (kernelRun0_A.sl.HS0_24 (F := Ideal) c arg1 harg1 arg2 harg2 arg3 harg3 arg4 harg4 arg5 harg5 arg6 harg6 arg7 harg7 arg16 arg17 x0 x1 x2 x3 x4 x5 x6) 6 (SR x0 x3 x4 x5 x6 1) (BU x0 x5 1) :=
  i0_23.step 5 rfl fun r j => Eq.trans (p123 r j (w_r_30 r j) (w_r_31 r j) (w_r_38 r j) (w_r_39 r j) (w_r_40 r j) (w_r_41 r j) (w_v633 r j) (w_v640 r j) (w_v655 r j)) rfl

theorem w_r_42 (r : Fin 8) (j : Fin 1024) : kernelRun0_A.sl.r_42 (F := Ideal) c arg1 harg1 arg2 harg2 arg3 harg3 arg4 harg4 arg5 harg5 arg6 harg6 arg7 harg7 arg16 arg17 x0 x1 x2 x3 x4 x5 x6 (ix2 r j) = (SR x0 x3 x4 x5 x6 1 5 r j) :=
  Eq.trans (p121 r j (w_r_30 r j) (w_r_31 r j) (w_r_38 r j) (w_r_39 r j) (w_r_40 r j) (w_r_41 r j) (w_v633 r j) (w_v640 r j) (w_v655 r j)) rfl

theorem i1_23 : Inv (kernelRun0_A.sl.HS1_23 (F := Ideal) c arg1 harg1 arg2 harg2 arg3 harg3 arg4 harg4 arg5 harg5 arg6 harg6 arg7 harg7 arg16 arg17 x0 x1 x2 x3 x4 x5 x6) 5 (SI x0 x3 x4 x5 x6 1) (BU x0 x6 1) :=
  i1_22.step 4 rfl fun r j => Eq.trans (p120 r j (w_r_30 r j) (w_r_31 r j) (w_r_38 r j) (w_r_39 r j) (w_v640 r j)) rfl

theorem w_v662 (r : Fin 8) (j : Fin 1024) : kernelRun0_A.sl.v662 (F := Ideal) c arg1 harg1 arg2 harg2 arg3 harg3 arg4 harg4 arg5 harg5 arg6 harg6 arg7 harg7 arg16 arg17 x0 x1 x2 x3 x4 x5 x6 (ix3 0 r j) = BU x0 x6 1 5 r j :=
  i1_23.row 5 rfl (by decide) r j

theorem w_r_43 (r : Fin 8) (j : Fin 1024) : kernelRun0_A.sl.r_43 (F := Ideal) c arg1 harg1 arg2 harg2 arg3 harg3 arg4 harg4 arg5 harg5 arg6 harg6 arg7 harg7 arg16 arg17 x0 x1 x2 x3 x4 x5 x6 (ix2 r j) = (SI x0 x3 x4 x5 x6 1 5 r j) :=
  Eq.trans (p122 r j (w_r_30 r j) (w_r_31 r j) (w_r_38 r j) (w_r_39 r j) (w_r_40 r j) (w_r_41 r j) (w_v633 r j) (w_v640 r j) (w_v662 r j)) rfl

theorem w_v677 (r : Fin 8) (j : Fin 1024) : kernelRun0_A.sl.v677 (F := Ideal) c arg1 harg1 arg2 harg2 arg3 harg3 arg4 harg4 arg5 harg5 arg6 harg6 arg7 harg7 arg16 arg17 x0 x1 x2 x3 x4 x5 x6 (ix3 0 r j) = BU x0 x5 1 6 r j :=
  i0_24.row 6 rfl (by decide) r j

theorem i0_25 : Inv (kernelRun0_A.sl.HS0_25 (F := Ideal) c arg1 harg1 arg2 harg2 arg3 harg3 arg4 harg4 arg5 harg5 arg6 harg6 arg7 harg7 arg16 arg17 x0 x1 x2 x3 x4 x5 x6) 7 (SR x0 x3 x4 x5 x6 1) (BU x0 x5 1) :=
  i0_24.step 6 rfl fun r j => Eq.trans (p127 r j (w_r_30 r j) (w_r_31 r j) (w_r_42 r j) (w_r_43 r j) (w_v677 r j)) rfl

theorem i1_24 : Inv (kernelRun0_A.sl.HS1_24 (F := Ideal) c arg1 harg1 arg2 harg2 arg3 harg3 arg4 harg4 arg5 harg5 arg6 harg6 arg7 harg7 arg16 arg17 x0 x1 x2 x3 x4 x5 x6) 6 (SI x0 x3 x4 x5 x6 1) (BU x0 x6 1) :=
  i1_23.step 5 rfl fun r j => Eq.trans (p124 r j (w_r_43 r j)) rfl

theorem w_v684 (r : Fin 8) (j : Fin 1024) : kernelRun0_A.sl.v684 (F := Ideal) c arg1 harg1 arg2 harg2 arg3 harg3 arg4 harg4 arg5 harg5 arg6 harg6 arg7 harg7 arg16 arg17 x0 x1 x2 x3 x4 x5 x6 (ix3 0 r j) = BU x0 x6 1 6 r j :=
  i1_24.row 6 rfl (by decide) r j

theorem w_v699 (r : Fin 8) (j : Fin 1024) : kernelRun0_A.sl.v699 (F := Ideal) c arg1 harg1 arg2 harg2 arg3 harg3 arg4 harg4 arg5 harg5 arg6 harg6 arg7 harg7 arg16 arg17 x0 x1 x2 x3 x4 x5 x6 (ix3 0 r j) = BU x0 x5 1 7 r j :=
  i0_25.row 7 rfl (by decide) r j

theorem w_r_44 (r : Fin 8) (j : Fin 1024) : kernelRun0_A.sl.r_44 (F := Ideal) c arg1 harg1 arg2 harg2 arg3 harg3 arg4 harg4 arg5 harg5 arg6 harg6 arg7 harg7 arg16 arg17 x0 x1 x2 x3 x4 x5 x6 (ix2 r j) = (SR x0 x3 x4 x5 x6 1 7 r j) :=
  Eq.trans (p129 r j (w_r_30 r j) (w_r_31 r j) (w_r_42 r j) (w_r_43 r j) (w_v677 r j) (w_v684 r j) (w_v699 r j)) rfl

theorem i0_26 : Inv (kernelRun0_A.sl.HS0_26 (F := Ideal) c arg1 harg1 arg2 harg2 arg3 harg3 arg4 harg4 arg5 harg5 arg6 harg6 arg7 harg7 arg16 arg17 x0 x1 x2 x3 x4 x5 x6) 8 (SR x0 x3 x4 x5 x6 1) (BU x0 x5 1) :=
  i0_25.step 7 rfl fun r j => Eq.trans (p131 r j (w_r_44 r j)) rfl

theorem w_v728 (r : Fin 8) (j : Fin 1024) : kernelRun0_A.sl.v728 (F := Ideal) c arg1 harg1 arg2 harg2 arg3 harg3 arg4 harg4 arg5 harg5 arg6 harg6 arg7 harg7 arg16 arg17 x0 x1 x2 x3 x4 x5 x6 (ix3 0 r j) = SR x0 x3 x4 x5 x6 1 0 r j :=
  (Inv.next (fun _ _ _ => 0) i0_26).row 0 rfl (by decide) r j

theorem i0_27 : Inv (kernelRun0_A.sl.HS0_27 (F := Ideal) c arg1 harg1 arg2 harg2 arg3 harg3 arg4 harg4 arg5 harg5 arg6 harg6 arg7 harg7 arg16 arg17 x0 x1 x2 x3 x4 x5 x6) 1 (FR x0 x1 x2 x3 x4 x5 x6 1) (SR x0 x3 x4 x5 x6 1) :=
  (Inv.next (FR x0 x1 x2 x3 x4 x5 x6 1) i0_26).step 0 rfl fun r j => Eq.trans (p137 r j (ld8 harg2 x1 1 rfl r j) (ld8 harg3 x2 1 rfl r j) (ld1 harg4 x3 1 0 rfl rfl j) (ld1 harg5 x4 1 0 rfl rfl j) (w_v728 r j)) rfl

theorem w_r_46 (r : Fin 8) (j : Fin 1024) : kernelRun0_A.sl.r_46 (F := Ideal) c arg2 harg2 x1 (ix2 r j) = (RW x1 1 r j) :=
  Eq.trans (p133 r j (ld8 harg2 x1 1 rfl r j)) rfl

theorem w_r_47 (r : Fin 8) (j : Fin 1024) : kernelRun0_A.sl.r_47 (F := Ideal) c arg3 harg3 x2 (ix2 r j) = (RW x2 1 r j) :=
  Eq.trans (p134 r j (ld8 harg3 x2 1 rfl r j)) rfl

theorem w_v760 (r : Fin 8) (j : Fin 1024) : kernelRun0_A.sl.v760 (F := Ideal) c arg1 harg1 arg2 harg2 arg3 harg3 arg4 harg4 arg5 harg5 arg6 harg6 arg7 harg7 arg16 arg17 x0 x1 x2 x3 x4 x5 x6 (ix3 0 r j) = SR x0 x3 x4 x5 x6 1 1 r j :=
  i0_27.row 1 rfl (by decide) r j

theorem i0_28 : Inv (kernelRun0_A.sl.HS0_28 (F := Ideal) c arg1 harg1 arg2 harg2 arg3 harg3 arg4 harg4 arg5 harg5 arg6 harg6 arg7 harg7 arg16 arg17 x0 x1 x2 x3 x4 x5 x6) 2 (FR x0 x1 x2 x3 x4 x5 x6 1) (SR x0 x3 x4 x5 x6 1) :=
  i0_27.step 1 rfl fun r j => Eq.trans (p142 r j (w_r_46 r j) (w_r_47 r j) (ld1 harg4 x3 1 1 rfl rfl j) (ld1 harg5 x4 1 1 rfl rfl j) (w_v760 r j)) rfl

theorem w_r_49 (r : Fin 8) (j : Fin 1024) : kernelRun0_A.sl.r_49 (F := Ideal) c arg4 harg4 x3 (ix2 0 j) = (RW x3 1 2 j) :=
  Eq.trans (p144 r j (ld1 harg4 x3 1 2 rfl rfl j)) rfl

theorem w_r_50 (r : Fin 8) (j : Fin 1024) : kernelRun0_A.sl.r_50 (F := Ideal) c arg5 harg5 x4 (ix2 0 j) = (RW x4 1 2 j) :=
  Eq.trans (p145 r j (ld1 harg5 x4 1 2 rfl rfl j)) rfl

theorem w_v792 (r : Fin 8) (j : Fin 1024) : kernelRun0_A.sl.v792 (F := Ideal) c arg1 harg1 arg2 harg2 arg3 harg3 arg4 harg4 arg5 harg5 arg6 harg6 arg7 harg7 arg16 arg17 x0 x1 x2 x3 x4 x5 x6 (ix3 0 r j) = SR x0 x3 x4 x5 x6 1 2 r j :=
  i0_28.row 2 rfl (by decide) r j

theorem i0_29 : Inv (kernelRun0_A.sl.HS0_29 (F := Ideal) c arg1 harg1 arg2 harg2 arg3 harg3 arg4 harg4 arg5 harg5 arg6 harg6 arg7 harg7 arg16 arg17 x0 x1 x2 x3 x4 x5 x6) 3 (FR x0 x1 x2 x3 x4 x5 x6 1) (SR x0 x3 x4 x5 x6 1) :=
  i0_28.step 2 rfl fun r j => Eq.trans (p146 r j (w_r_46 r j) (w_r_47 r j) (w_r_49 r j) (w_r_50 r j) (w_v792 r j)) rfl

theorem w_v824 (r : Fin 8) (j : Fin 1024) : kernelRun0_A.sl.v824 (F := Ideal) c arg1 harg1 arg2 harg2 arg3 harg3 arg4 harg4 arg5 harg5 arg6 harg6 arg7 harg7 arg16 arg17 x0 x1 x2 x3 x4 x5 x6 (ix3 0 r j) = SR x0 x3 x4 x5 x6 1 3 r j :=
  i0_29.row 3 rfl (by decide) r j

theorem i0_30 : Inv (kernelRun0_A.sl.HS0_30 (F := Ideal) c arg1 harg1 arg2 harg2 arg3 harg3 arg4 harg4 arg5 harg5 arg6 harg6 arg7 harg7 arg16 arg17 x0 x1 x2 x3 x4 x5 x6) 4 (FR x0 x1 x2 x3 x4 x5 x6 1) (SR x0 x3 x4 x5 x6 1) :=
  i0_29.step 3 rfl fun r j => Eq.trans (p150 r j (w_r_46 r j) (w_r_47 r j) (ld1 harg4 x3 1 3 rfl rfl j) (ld1 harg5 x4 1 3 rfl rfl j) (w_v824 r j)) rfl

theorem w_v856 (r : Fin 8) (j : Fin 1024) : kernelRun0_A.sl.v856 (F := Ideal) c arg1 harg1 arg2 harg2 arg3 harg3 arg4 harg4 arg5 harg5 arg6 harg6 arg7 harg7 arg16 arg17 x0 x1 x2 x3 x4 x5 x6 (ix3 0 r j) = SR x0 x3 x4 x5 x6 1 4 r j :=
  i0_30.row 4 rfl (by decide) r j

theorem i0_31 : Inv (kernelRun0_A.sl.HS0_31 (F := Ideal) c arg1 harg1 arg2 harg2 arg3 harg3 arg4 harg4 arg5 harg5 arg6 harg6 arg7 harg7 arg16 arg17 x0 x1 x2 x3 x4 x5 x6) 5 (FR x0 x1 x2 x3 x4 x5 x6 1) (SR x0 x3 x4 x5 x6 1) :=
  i0_30.step 4 rfl fun r j => Eq.trans (p154 r j (w_r_46 r j) (w_r_47 r j) (ld1 harg4 x3 1 4 rfl rfl j) (ld1 harg5 x4 1 4 rfl rfl j) (w_v856 r j)) rfl

theorem w_v888 (r : Fin 8) (j : Fin 1024) : kernelRun0_A.sl.v888 (F := Ideal) c arg1 harg1 arg2 harg2 arg3 harg3 arg4 harg4 arg5 harg5 arg6 harg6 arg7 harg7 arg16 arg17 x0 x1 x2 x3 x4 x5 x6 (ix3 0 r j) = SR x0 x3 x4 x5 x6 1 5 r j :=
  i0_31.row 5 rfl (by decide) r j

theorem i0_32 : Inv (kernelRun0_A.sl.HS0_32 (F := Ideal) c arg1 harg1 arg2 harg2 arg3 harg3 arg4 harg4 arg5 harg5 arg6 harg6 arg7 harg7 arg16 arg17 x0 x1 x2 x3 x4 x5 x6) 6 (FR x0 x1 x2 x3 x4 x5 x6 1) (SR x0 x3 x4 x5 x6 1) :=
  i0_31.step 5 rfl fun r j => Eq.trans (p159 r j (w_r_46 r j) (w_r_47 r j) (ld1 harg4 x3 1 5 rfl rfl j) (ld1 harg5 x4 1 5 rfl rfl j) (w_v888 r j)) rfl

theorem w_r_54 (r : Fin 8) (j : Fin 1024) : kernelRun0_A.sl.r_54 (F := Ideal) c arg4 harg4 x3 (ix2 0 j) = (RW x3 1 6 j) :=
  Eq.trans (p161 r j (ld1 harg4 x3 1 6 rfl rfl j)) rfl

theorem w_r_55 (r : Fin 8) (j : Fin 1024) : kernelRun0_A.sl.r_55 (F := Ideal) c arg5 harg5 x4 (ix2 0 j) = (RW x4 1 6 j) :=
  Eq.trans (p162 r j (ld1 harg5 x4 1 6 rfl rfl j)) rfl

theorem w_v920 (r : Fin 8) (j : Fin 1024) : kernelRun0_A.sl.v920 (F := Ideal) c arg1 harg1 arg2 harg2 arg3 harg3 arg4 harg4 arg5 harg5 arg6 harg6 arg7 harg7 arg16 arg17 x0 x1 x2 x3 x4 x5 x6 (ix3 0 r j) = SR x0 x3 x4 x5 x6 1 6 r j :=
  i0_32.row 6 rfl (by decide) r j

theorem i0_33 : Inv (kernelRun0_A.sl.HS0_33 (F := Ideal) c arg1 harg1 arg2 harg2 arg3 harg3 arg4 harg4 arg5 harg5 arg6 harg6 arg7 harg7 arg16 arg17 x0 x1 x2 x3 x4 x5 x6) 7 (FR x0 x1 x2 x3 x4 x5 x6 1) (SR x0 x3 x4 x5 x6 1) :=
  i0_32.step 6 rfl fun r j => Eq.trans (p163 r j (w_r_46 r j) (w_r_47 r j) (w_r_54 r j) (w_r_55 r j) (w_v920 r j)) rfl

theorem w_v952 (r : Fin 8) (j : Fin 1024) : kernelRun0_A.sl.v952 (F := Ideal) c arg1 harg1 arg2 harg2 arg3 harg3 arg4 harg4 arg5 harg5 arg6 harg6 arg7 harg7 arg16 arg17 x0 x1 x2 x3 x4 x5 x6 (ix3 0 r j) = SR x0 x3 x4 x5 x6 1 7 r j :=
  i0_33.row 7 rfl (by decide) r j

theorem i0_34 : Inv (kernelRun0_A.sl.HS0_34 (F := Ideal) c arg1 harg1 arg2 harg2 arg3 harg3 arg4 harg4 arg5 harg5 arg6 harg6 arg7 harg7 arg16 arg17 x0 x1 x2 x3 x4 x5 x6) 8 (FR x0 x1 x2 x3 x4 x5 x6 1) (SR x0 x3 x4 x5 x6 1) :=
  i0_33.step 7 rfl fun r j => Eq.trans (p167 r j (w_r_46 r j) (w_r_47 r j) (ld1 harg4 x3 1 7 rfl rfl j) (ld1 harg5 x4 1 7 rfl rfl j) (w_v952 r j)) rfl

theorem i1_25 : Inv (kernelRun0_A.sl.HS1_25 (F := Ideal) c arg1 harg1 arg2 harg2 arg3 harg3 arg4 harg4 arg5 harg5 arg6 harg6 arg7 harg7 arg16 arg17 x0 x1 x2 x3 x4 x5 x6) 7 (SI x0 x3 x4 x5 x6 1) (BU x0 x6 1) :=
  i1_24.step 6 rfl fun r j => Eq.trans (p128 r j (w_r_30 r j) (w_r_31 r j) (w_r_42 r j) (w_r_43 r j) (w_v684 r j)) rfl

theorem w_v706 (r : Fin 8) (j : Fin 1024) : kernelRun0_A.sl.v706 (F := Ideal) c arg1 harg1 arg2 harg2 arg3 harg3 arg4 harg4 arg5 harg5 arg6 harg6 arg7 harg7 arg16 arg17 x0 x1 x2 x3 x4 x5 x6 (ix3 0 r j) = BU x0 x6 1 7 r j :=
  i1_25.row 7 rfl (by decide) r j

theorem w_r_45 (r : Fin 8) (j : Fin 1024) : kernelRun0_A.sl.r_45 (F := Ideal) c arg1 harg1 arg2 harg2 arg3 harg3 arg4 harg4 arg5 harg5 arg6 harg6 arg7 harg7 arg16 arg17 x0 x1 x2 x3 x4 x5 x6 (ix2 r j) = (SI x0 x3 x4 x5 x6 1 7 r j) :=
  Eq.trans (p130 r j (w_r_30 r j) (w_r_31 r j) (w_r_42 r j) (w_r_43 r j) (w_v677 r j) (w_v684 r j) (w_v706 r j)) rfl

theorem i1_26 : Inv (kernelRun0_A.sl.HS1_26 (F := Ideal) c arg1 harg1 arg2 harg2 arg3 harg3 arg4 harg4 arg5 harg5 arg6 harg6 arg7 harg7 arg16 arg17 x0 x1 x2 x3 x4 x5 x6) 8 (SI x0 x3 x4 x5 x6 1) (BU x0 x6 1) :=
  i1_25.step 7 rfl fun r j => Eq.trans (p132 r j (w_r_45 r j)) rfl

theorem w_v741 (r : Fin 8) (j : Fin 1024) : kernelRun0_A.sl.v741 (F := Ideal) c arg1 harg1 arg2 harg2 arg3 harg3 arg4 harg4 arg5 harg5 arg6 harg6 arg7 harg7 arg16 arg17 x0 x1 x2 x3 x4 x5 x6 (ix3 0 r j) = SI x0 x3 x4 x5 x6 1 0 r j :=
  (Inv.next (fun _ _ _ => 0) i1_26).row 0 rfl (by decide) r j

theorem w_r_48 (r : Fin 8) (j : Fin 1024) : kernelRun0_A.sl.r_48 (F := Ideal) c arg1 harg1 arg2 harg2 arg3 harg3 arg4 harg4 arg5 harg5 arg6 harg6 arg7 harg7 arg16 arg17 x0 x1 x2 x3 x4 x5 x6 (ix2 r j) = (FI x0 x1 x2 x3 x4 x5 x6 1 0 r j) :=
  Eq.trans (p138 r j (ld8 harg2 x1 1 rfl r j) (ld8 harg3 x2 1 rfl r j) (ld1 harg4 x3 1 0 rfl rfl j) (ld1 harg5 x4 1 0 rfl rfl j) (w_v741 r j)) rfl

theorem i1_27 : Inv (kernelRun0_A.sl.HS1_27 (F := Ideal) c arg1 harg1 arg2 harg2 arg3 harg3 arg4 harg4 arg5 harg5 arg6 harg6 arg7 harg7 arg16 arg17 x0 x1 x2 x3 x4 x5 x6) 1 (FI x0 x1 x2 x3 x4 x5 x6 1) (SI x0 x3 x4 x5 x6 1) :=
  (Inv.next (FI x0 x1 x2 x3 x4 x5 x6 1) i1_26).step 0 rfl fun r j => Eq.trans (p139 r j (w_r_48 r j)) rfl

theorem w_v773 (r : Fin 8) (j : Fin 1024) : kernelRun0_A.sl.v773 (F := Ideal) c arg1 harg1 arg2 harg2 arg3 harg3 arg4 harg4 arg5 harg5 arg6 harg6 arg7 harg7 arg16 arg17 x0 x1 x2 x3 x4 x5 x6 (ix3 0 r j) = SI x0 x3 x4 x5 x6 1 1 r j :=
  i1_27.row 1 rfl (by decide) r j

theorem i1_28 : Inv (kernelRun0_A.sl.HS1_28 (F := Ideal) c arg1 harg1 arg2 harg2 arg3 harg3 arg4 harg4 arg5 harg5 arg6 harg6 arg7 harg7 arg16 arg17 x0 x1 x2 x3 x4 x5 x6) 2 (FI x0 x1 x2 x3 x4 x5 x6 1) (SI x0 x3 x4 x5 x6 1) :=
  i1_27.step 1 rfl fun r j => Eq.trans (p143 r j (w_r_46 r j) (w_r_47 r j) (ld1 harg4 x3 1 1 rfl rfl j) (ld1 harg5 x4 1 1 rfl rfl j) (w_v773 r j)) rfl

theorem w_v805 (r : Fin 8) (j : Fin 1024) : kernelRun0_A.sl.v805 (F := Ideal) c arg1 harg1 arg2 harg2 arg3 harg3 arg4 harg4 arg5 harg5 arg6 harg6 arg7 harg7 arg16 arg17 x0 x1 x2 x3 x4 x5 x6 (ix3 0 r j) = SI x0 x3 x4 x5 x6 1 2 r j :=
  i1_28.row 2 rfl (by decide) r j

theorem i1_29 : Inv (kernelRun0_A.sl.HS1_29 (F := Ideal) c arg1 harg1 arg2 harg2 arg3 harg3 arg4 harg4 arg5 harg5 arg6 harg6 arg7 harg7 arg16 arg17 x0 x1 x2 x3 x4 x5 x6) 3 (FI x0 x1 x2 x3 x4 x5 x6 1) (SI x0 x3 x4 x5 x6 1) :=
  i1_28.step 2 rfl fun r j => Eq.trans (p147 r j (w_r_46 r j) (w_r_47 r j) (w_r_49 r j) (w_r_50 r j) (w_v805 r j)) rfl

theorem w_r_51 (r : Fin 8) (j : Fin 1024) : kernelRun0_A.sl.r_51 (F := Ideal) c arg4 harg4 x3 (ix2 0 j) = (RW x3 1 3 j) :=
  Eq.trans (p148 r j (ld1 harg4 x3 1 3 rfl rfl j)) rfl

theorem w_r_52 (r : Fin 8) (j : Fin 1024) : kernelRun0_A.sl.r_52 (F := Ideal) c arg5 harg5 x4 (ix2 0 j) = (RW x4 1 3 j) :=
  Eq.trans (p149 r j (ld1 harg5 x4 1 3 rfl rfl j)) rfl

theorem w_v837 (r : Fin 8) (j : Fin 1024) : kernelRun0_A.sl.v837 (F := Ideal) c arg1 harg1 arg2 harg2 arg3 harg3 arg4 harg4 arg5 harg5 arg6 harg6 arg7 harg7 arg16 arg17 x0 x1 x2 x3 x4 x5 x6 (ix3 0 r j) = SI x0 x3 x4 x5 x6 1 3 r j :=
  i1_29.row 3 rfl (by decide) r j

theorem i1_30 : Inv (kernelRun0_A.sl.HS1_30 (F := Ideal) c arg1 harg1 arg2 harg2 arg3 harg3 arg4 harg4 arg5 harg5 arg6 harg6 arg7 harg7 arg16 arg17 x0 x1 x2 x3 x4 x5 x6) 4 (FI x0 x1 x2 x3 x4 x5 x6 1) (SI x0 x3 x4 x5 x6 1) :=
  i1_29.step 3 rfl fun r j => Eq.trans (p151 r j (w_r_46 r j) (w_r_47 r j) (w_r_51 r j) (w_r_52 r j) (w_v837 r j)) rfl

theorem w_v869 (r : Fin 8) (j : Fin 1024) : kernelRun0_A.sl.v869 (F := Ideal) c arg1 harg1 arg2 harg2 arg3 harg3 arg4 harg4 arg5 harg5 arg6 harg6 arg7 harg7 arg16 arg17 x0 x1 x2 x3 x4 x5 x6 (ix3 0 r j) = SI x0 x3 x4 x5 x6 1 4 r j :=
  i1_30.row 4 rfl (by decide) r j

theorem w_r_53 (r : Fin 8) (j : Fin 1024) : kernelRun0_A.sl.r_53 (F := Ideal) c arg1 harg1 arg2 harg2 arg3 harg3 arg4 harg4 arg5 harg5 arg6 harg6 arg7 harg7 arg16 arg17 x0 x1 x2 x3 x4 x5 x6 (ix2 r j) = (FI x0 x1 x2 x3 x4 x5 x6 1 4 r j) :=
  Eq.trans (p155 r j (w_r_46 r j) (w_r_47 r j) (ld1 harg4 x3 1 4 rfl rfl j) (ld1 harg5 x4 1 4 rfl rfl j) (w_v869 r j)) rfl

theorem i1_31 : Inv (kernelRun0_A.sl.HS1_31 (F := Ideal) c arg1 harg1 arg2 harg2 arg3 harg3 arg4 harg4 arg5 harg5 arg6 harg6 arg7 harg7 arg16 arg17 x0 x1 x2 x3 x4 x5 x6) 5 (FI x0 x1 x2 x3 x4 x5 x6 1) (SI x0 x3 x4 x5 x6 1) :=
  i1_30.step 4 rfl fun r j => Eq.trans (p156 r j (w_r_53 r j)) rfl

theorem w_v901 (r : Fin 8) (j : Fin 1024) : kernelRun0_A.sl.v901 (F := Ideal) c arg1 harg1 arg2 harg2 arg3 harg3 arg4 harg4 arg5 harg5 arg6 harg6 arg7 harg7 arg16 arg17 x0 x1 x2 x3 x4 x5 x6 (ix3 0 r j) = SI x0 x3 x4 x5 x6 1 5 r j :=
  i1_31.row 5 rfl (by decide) r j

theorem i1_32 : Inv (kernelRun0_A.sl.HS1_32 (F := Ideal) c arg1 harg1 arg2 harg2 arg3 harg3 arg4 harg4 arg5 harg5 arg6 harg6 arg7 harg7 arg16 arg17 x0 x1 x2 x3 x4 x5 x6) 6 (FI x0 x1 x2 x3 x4 x5 x6 1) (SI x0 x3 x4 x5 x6 1) :=
  i1_31.step 5 rfl fun r j => Eq.trans (p160 r j (w_r_46 r j) (w_r_47 r j) (ld1 harg4 x3 1 5 rfl rfl j) (ld1 harg5 x4 1 5 rfl rfl j) (w_v901 r j)) rfl

theorem w_v933 (r : Fin 8) (j : Fin 1024) : kernelRun0_A.sl.v933 (F := Ideal) c arg1 harg1 arg2 harg2 arg3 harg3 arg4 harg4 arg5 harg5 arg6 harg6 arg7 harg7 arg16 arg17 x0 x1 x2 x3 x4 x5 x6 (ix3 0 r j) = SI x0 x3 x4 x5 x6 1 6 r j :=
  i1_32.row 6 rfl (by decide) r j

theorem i1_33 : Inv (kernelRun0_A.sl.HS1_33 (F := Ideal) c arg1 harg1 arg2 harg2 arg3 harg3 arg4 harg4 arg5 harg5 arg6 harg6 arg7 harg7 arg16 arg17 x0 x1 x2 x3 x4 x5 x6) 7 (FI x0 x1 x2 x3 x4 x5 x6 1) (SI x0 x3 x4 x5 x6 1) :=
  i1_32.step 6 rfl fun r j => Eq.trans (p164 r j (w_r_46 r j) (w_r_47 r j) (w_r_54 r j) (w_r_55 r j) (w_v933 r j)) rfl

theorem w_r_56 (r : Fin 8) (j : Fin 1024) : kernelRun0_A.sl.r_56 (F := Ideal) c arg4 harg4 x3 (ix2 0 j) = (RW x3 1 7 j) :=
  Eq.trans (p165 r j (ld1 harg4 x3 1 7 rfl rfl j)) rfl

theorem w_r_57 (r : Fin 8) (j : Fin 1024) : kernelRun0_A.sl.r_57 (F := Ideal) c arg5 harg5 x4 (ix2 0 j) = (RW x4 1 7 j) :=
  Eq.trans (p166 r j (ld1 harg5 x4 1 7 rfl rfl j)) rfl

theorem w_v965 (r : Fin 8) (j : Fin 1024) : kernelRun0_A.sl.v965 (F := Ideal) c arg1 harg1 arg2 harg2 arg3 harg3 arg4 harg4 arg5 harg5 arg6 harg6 arg7 harg7 arg16 arg17 x0 x1 x2 x3 x4 x5 x6 (ix3 0 r j) = SI x0 x3 x4 x5 x6 1 7 r j :=
  i1_33.row 7 rfl (by decide) r j

theorem i1_34 : Inv (kernelRun0_A.sl.HS1_34 (F := Ideal) c arg1 harg1 arg2 harg2 arg3 harg3 arg4 harg4 arg5 harg5 arg6 harg6 arg7 harg7 arg16 arg17 x0 x1 x2 x3 x4 x5 x6) 8 (FI x0 x1 x2 x3 x4 x5 x6 1) (SI x0 x3 x4 x5 x6 1) :=
  i1_33.step 7 rfl fun r j => Eq.trans (p168 r j (w_r_46 r j) (w_r_47 r j) (w_r_56 r j) (w_r_57 r j) (w_v965 r j)) rfl

theorem w_v977 (r : Fin 8) (j : Fin 1024) : kernelRun0_A.sl.v977 (F := Ideal) c arg1 harg1 arg2 harg2 arg3 harg3 arg4 harg4 arg5 harg5 arg6 harg6 arg7 harg7 arg16 arg17 x0 x1 x2 x3 x4 x5 x6 (ix3 0 r j) = FR x0 x1 x2 x3 x4 x5 x6 1 7 r j :=
  (Inv.next (fun _ _ _ => 0) i0_34).row 7 rfl (by decide) r j

theorem w_v980 (r : Fin 8) (j : Fin 1024) : kernelRun0_A.sl.v980 (F := Ideal) c arg1 harg1 arg2 harg2 arg3 harg3 arg4 harg4 arg5 harg5 arg6 harg6 arg7 harg7 arg16 arg17 x0 x1 x2 x3 x4 x5 x6 (ix3 0 r j) = FI x0 x1 x2 x3 x4 x5 x6 1 7 r j :=
  (Inv.next (fun _ _ _ => 0) i1_34).row 7 rfl (by decide) r j

theorem w_v983 (t r : Fin 8) (j : Fin 1024) : kernelRun0_A.sl.v983 (F := Ideal) c arg1 harg1 arg2 harg2 arg3 harg3 arg4 harg4 arg5 harg5 arg6 harg6 arg7 harg7 arg16 arg17 x0 x1 x2 x3 x4 x5 x6 (ix3 t r j) = FR x0 x1 x2 x3 x4 x5 x6 1 t r j :=
  (Inv.next (fun _ _ _ => 0) i0_34).whole t r j

theorem w_v986 (t r : Fin 8) (j : Fin 1024) : kernelRun0_A.sl.v986 (F := Ideal) c arg1 harg1 arg2 harg2 arg3 harg3 arg4 harg4 arg5 harg5 arg6 harg6 arg7 harg7 arg16 arg17 x0 x1 x2 x3 x4 x5 x6 (ix3 t r j) = FI x0 x1 x2 x3 x4 x5 x6 1 t r j :=
  (Inv.next (fun _ _ _ => 0) i1_34).whole t r j

end Cert.ScanIdeal.Hand
-- ==== Proof.ScanPay2.lean ====
/- Hand-written, untrusted: the stores of the recurrence's block 2 of lanes, one entry at a time. -/
module

public import proofs.«01_k».proof.Proof.ScanBase

set_option maxRecDepth 16384

@[expose] public section

noncomputable section

open Idealize.ShloMosaic Idealize.ShloMosaic.TcCoe Idealize.SL.Sem

namespace Cert.ScanIdeal.Hand

open Cert.ScanIdeal Cert.ScanIdeal.Gen

theorem p177 (r : Fin 8) (j : Fin 1024) {a0 : Vec Ideal S1x1024 .f32} {s0 : EReal} (h0 : a0 (ix2 0 j) = s0) :
    k0_pay177 (F := Ideal) a0 (ix2 r j) = s0 := by
  pointwise [k0_pay177, h0]

theorem p178 (r : Fin 8) (j : Fin 1024) {a0 : Vec Ideal S1x1024 .f32} {s0 : EReal} (h0 : a0 (ix2 0 j) = s0) :
    k0_pay178 (F := Ideal) a0 (ix2 r j) = s0 := by
  pointwise [k0_pay178, h0]

theorem p179 (r : Fin 8) (j : Fin 1024)  :
    k0_pay179 (F := Ideal)  (ix2 r j) = 0 := by
  pointwise [k0_pay179]

theorem p180 (r : Fin 8) (j : Fin 1024) {a0 : Vec Ideal S1x1024 .f32} {a1 : Vec Ideal S1x1024 .f32} {s0 s1 : EReal} (h0 : a0 (ix2 0 j) = s0) (h1 : a1 (ix2 0 j) = s1) :
    k0_pay180 (F := Ideal) a0 a1 (ix2 r j) = (s0 * 0) - (s1 * 0) := by
  pointwise [k0_pay177, k0_pay178, k0_pay179, k0_pay180, h0, h1]

theorem p183 (r : Fin 8) (j : Fin 1024) {a0 : FVec Ideal S8x1024 .f32} {a1 : Vec Ideal S1x8x1024 .f32} {s0 s1 : EReal} (h0 : a0 (ix2 r j) = s0) (h1 : a1 (ix3 0 r j) = s1) :
    k0_pay183 (F := Ideal) a0 a1 (ix3 0 r j) = s0 + s1 := by
  pointwise [k0_pay181, k0_pay183, h0, h1]

theorem p184 (r : Fin 8) (j : Fin 1024) {a0 : FVec Ideal S8x1024 .f32} {a1 : FVec Ideal S8x1024 .f32} {a2 : FVec Ideal S8x1024 .f32} {a3 : Vec Ideal S1x8x1024 .f32} {s0 s1 s2 s3 : EReal} (h0 : a0 (ix2 r j) = s0) (h1 : a1 (ix2 r j) = s1) (h2 : a2 (ix2 r j) = s2) (h3 : a3 (ix3 0 r j) = s3) :
    k0_pay184 (F := Ideal) a0 a1 a2 a3 (ix3 0 r j) = ((s0 * s2) + (s1 * s2)) + s3 := by
  pointwise [k0_pay182, k0_pay184, h0, h1, h2, h3]

theorem p185 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {a6 : Vec Ideal S1x8x1024 .f32} {s0 s1 s2 s3 s4 s5 s6 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) (h6 : a6 (ix3 0 r j) = s6) :
    k0_pay185 (F := Ideal) a0 a1 a2 a3 a4 a5 a6 (ix2 r j) = ((s0 * (s3 + s4)) - (s1 * (((s0 * s2) + (s1 * s2)) + s5))) + s6 := by
  pointwise [k0_pay181, k0_pay182, k0_pay185, h0, h1, h2, h3, h4, h5, h6]

theorem p186 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {a6 : Vec Ideal S1x8x1024 .f32} {s0 s1 s2 s3 s4 s5 s6 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) (h6 : a6 (ix3 0 r j) = s6) :
    k0_pay186 (F := Ideal) a0 a1 a2 a3 a4 a5 a6 (ix2 r j) = ((s0 * (((s0 * s2) + (s1 * s2)) + s5)) + (s1 * (s3 + s4))) + s6 := by
  pointwise [k0_pay181, k0_pay182, k0_pay186, h0, h1, h2, h3, h4, h5, h6]

theorem p187 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {a6 : Vec Ideal S1x8x1024 .f32} {s0 s1 s2 s3 s4 s5 s6 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) (h6 : a6 (ix3 0 r j) = s6) :
    k0_pay187 (F := Ideal) a0 a1 a2 a3 a4 a5 a6 (ix3 0 r j) = ((s0 * (s3 + s4)) - (s1 * (((s0 * s2) + (s1 * s2)) + s5))) + s6 := by
  pointwise [k0_pay181, k0_pay182, k0_pay185, k0_pay187, h0, h1, h2, h3, h4, h5, h6]

theorem p188 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {a6 : Vec Ideal S1x8x1024 .f32} {s0 s1 s2 s3 s4 s5 s6 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) (h6 : a6 (ix3 0 r j) = s6) :
    k0_pay188 (F := Ideal) a0 a1 a2 a3 a4 a5 a6 (ix3 0 r j) = ((s0 * (((s0 * s2) + (s1 * s2)) + s5)) + (s1 * (s3 + s4))) + s6 := by
  pointwise [k0_pay181, k0_pay182, k0_pay186, k0_pay188, h0, h1, h2, h3, h4, h5, h6]

theorem p191 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {s0 s1 s2 s3 s4 : EReal} (h0 : a0 (ix2 r j) = s0) (h1 : a1 (ix2 r j) = s1) (h2 : a2 (ix2 r j) = s2) (h3 : a3 (ix2 r j) = s3) (h4 : a4 (ix3 0 r j) = s4) :
    k0_pay191 (F := Ideal) a0 a1 a2 a3 a4 (ix3 0 r j) = ((s0 * s2) - (s1 * s3)) + s4 := by
  pointwise [k0_pay189, k0_pay191, h0, h1, h2, h3, h4]

theorem p192 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {s0 s1 s2 s3 s4 : EReal} (h0 : a0 (ix2 r j) = s0) (h1 : a1 (ix2 r j) = s1) (h2 : a2 (ix2 r j) = s2) (h3 : a3 (ix2 r j) = s3) (h4 : a4 (ix3 0 r j) = s4) :
    k0_pay192 (F := Ideal) a0 a1 a2 a3 a4 (ix3 0 r j) = ((s0 * s3) + (s1 * s2)) + s4 := by
  pointwise [k0_pay190, k0_pay192, h0, h1, h2, h3, h4]

theorem p193 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {a6 : Vec Ideal S1x8x1024 .f32} {s0 s1 s2 s3 s4 s5 s6 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) (h6 : a6 (ix3 0 r j) = s6) :
    k0_pay193 (F := Ideal) a0 a1 a2 a3 a4 a5 a6 (ix2 r j) = ((s0 * (((s0 * s2) - (s1 * s3)) + s4)) - (s1 * (((s0 * s3) + (s1 * s2)) + s5))) + s6 := by
  pointwise [k0_pay189, k0_pay190, k0_pay193, h0, h1, h2, h3, h4, h5, h6]

theorem p194 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {a6 : Vec Ideal S1x8x1024 .f32} {s0 s1 s2 s3 s4 s5 s6 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) (h6 : a6 (ix3 0 r j) = s6) :
    k0_pay194 (F := Ideal) a0 a1 a2 a3 a4 a5 a6 (ix2 r j) = ((s0 * (((s0 * s3) + (s1 * s2)) + s5)) + (s1 * (((s0 * s2) - (s1 * s3)) + s4))) + s6 := by
  pointwise [k0_pay189, k0_pay190, k0_pay194, h0, h1, h2, h3, h4, h5, h6]

theorem p195 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {a6 : Vec Ideal S1x8x1024 .f32} {s0 s1 s2 s3 s4 s5 s6 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) (h6 : a6 (ix3 0 r j) = s6) :
    k0_pay195 (F := Ideal) a0 a1 a2 a3 a4 a5 a6 (ix3 0 r j) = ((s0 * (((s0 * s2) - (s1 * s3)) + s4)) - (s1 * (((s0 * s3) + (s1 * s2)) + s5))) + s6 := by
  pointwise [k0_pay189, k0_pay190, k0_pay193, k0_pay195, h0, h1, h2, h3, h4, h5, h6]

theorem p196 (r : Fin 8) (j : Fin 1024) {a0 : FVec Ideal S8x1024 .f32} {s0 : EReal} (h0 : a0 (ix2 r j) = s0) :
    k0_pay196 (F := Ideal) a0 (ix3 0 r j) = s0 := by
  pointwise [k0_pay196, h0]

theorem p199 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {s0 s1 s2 s3 s4 : EReal} (h0 : a0 (ix2 r j) = s0) (h1 : a1 (ix2 r j) = s1) (h2 : a2 (ix2 r j) = s2) (h3 : a3 (ix2 r j) = s3) (h4 : a4 (ix3 0 r j) = s4) :
    k0_pay199 (F := Ideal) a0 a1 a2 a3 a4 (ix3 0 r j) = ((s0 * s2) - (s1 * s3)) + s4 := by
  pointwise [k0_pay197, k0_pay199, h0, h1, h2, h3, h4]

theorem p200 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {s0 s1 s2 s3 s4 : EReal} (h0 : a0 (ix2 r j) = s0) (h1 : a1 (ix2 r j) = s1) (h2 : a2 (ix2 r j) = s2) (h3 : a3 (ix2 r j) = s3) (h4 : a4 (ix3 0 r j) = s4) :
    k0_pay200 (F := Ideal) a0 a1 a2 a3 a4 (ix3 0 r j) = ((s0 * s3) + (s1 * s2)) + s4 := by
  pointwise [k0_pay198, k0_pay200, h0, h1, h2, h3, h4]

theorem p201 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {a6 : Vec Ideal S1x8x1024 .f32} {s0 s1 s2 s3 s4 s5 s6 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) (h6 : a6 (ix3 0 r j) = s6) :
    k0_pay201 (F := Ideal) a0 a1 a2 a3 a4 a5 a6 (ix2 r j) = ((s0 * (((s0 * s2) - (s1 * s3)) + s4)) - (s1 * (((s0 * s3) + (s1 * s2)) + s5))) + s6 := by
  pointwise [k0_pay197, k0_pay198, k0_pay201, h0, h1, h2, h3, h4, h5, h6]

theorem p202 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {a6 : Vec Ideal S1x8x1024 .f32} {s0 s1 s2 s3 s4 s5 s6 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) (h6 : a6 (ix3 0 r j) = s6) :
    k0_pay202 (F := Ideal) a0 a1 a2 a3 a4 a5 a6 (ix2 r j) = ((s0 * (((s0 * s3) + (s1 * s2)) + s5)) + (s1 * (((s0 * s2) - (s1 * s3)) + s4))) + s6 := by
  pointwise [k0_pay197, k0_pay198, k0_pay202, h0, h1, h2, h3, h4, h5, h6]

theorem p203 (r : Fin 8) (j : Fin 1024) {a0 : FVec Ideal S8x1024 .f32} {s0 : EReal} (h0 : a0 (ix2 r j) = s0) :
    k0_pay203 (F := Ideal) a0 (ix3 0 r j) = s0 := by
  pointwise [k0_pay203, h0]

theorem p204 (r : Fin 8) (j : Fin 1024) {a0 : FVec Ideal S8x1024 .f32} {s0 : EReal} (h0 : a0 (ix2 r j) = s0) :
    k0_pay204 (F := Ideal) a0 (ix3 0 r j) = s0 := by
  pointwise [k0_pay204, h0]

theorem p207 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {s0 s1 s2 s3 s4 : EReal} (h0 : a0 (ix2 r j) = s0) (h1 : a1 (ix2 r j) = s1) (h2 : a2 (ix2 r j) = s2) (h3 : a3 (ix2 r j) = s3) (h4 : a4 (ix3 0 r j) = s4) :
    k0_pay207 (F := Ideal) a0 a1 a2 a3 a4 (ix3 0 r j) = ((s0 * s2) - (s1 * s3)) + s4 := by
  pointwise [k0_pay205, k0_pay207, h0, h1, h2, h3, h4]

theorem p208 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {s0 s1 s2 s3 s4 : EReal} (h0 : a0 (ix2 r j) = s0) (h1 : a1 (ix2 r j) = s1) (h2 : a2 (ix2 r j) = s2) (h3 : a3 (ix2 r j) = s3) (h4 : a4 (ix3 0 r j) = s4) :
    k0_pay208 (F := Ideal) a0 a1 a2 a3 a4 (ix3 0 r j) = ((s0 * s3) + (s1 * s2)) + s4 := by
  pointwise [k0_pay206, k0_pay208, h0, h1, h2, h3, h4]

theorem p209 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {a6 : Vec Ideal S1x8x1024 .f32} {s0 s1 s2 s3 s4 s5 s6 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) (h6 : a6 (ix3 0 r j) = s6) :
    k0_pay209 (F := Ideal) a0 a1 a2 a3 a4 a5 a6 (ix2 r j) = ((s0 * (((s0 * s2) - (s1 * s3)) + s4)) - (s1 * (((s0 * s3) + (s1 * s2)) + s5))) + s6 := by
  pointwise [k0_pay205, k0_pay206, k0_pay209, h0, h1, h2, h3, h4, h5, h6]

theorem p210 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {s0 s1 s2 s3 s4 s5 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) :
    k0_pay210 (F := Ideal) a0 a1 a2 a3 a4 a5 (ix2 r j) = (s0 * (((s0 * s3) + (s1 * s2)) + s5)) + (s1 * (((s0 * s2) - (s1 * s3)) + s4)) := by
  pointwise [k0_pay205, k0_pay206, k0_pay210, h0, h1, h2, h3, h4, h5]

theorem p211 (r : Fin 8) (j : Fin 1024) {a0 : FVec Ideal S8x1024 .f32} {s0 : EReal} (h0 : a0 (ix2 r j) = s0) :
    k0_pay211 (F := Ideal) a0 (ix3 0 r j) = s0 := by
  pointwise [k0_pay211, h0]

theorem p212 (r : Fin 8) (j : Fin 1024) {a0 : FVec Ideal S8x1024 .f32} {a1 : Vec Ideal S1x8x1024 .f32} {s0 s1 : EReal} (h0 : a0 (ix2 r j) = s0) (h1 : a1 (ix3 0 r j) = s1) :
    k0_pay212 (F := Ideal) a0 a1 (ix3 0 r j) = s0 + s1 := by
  pointwise [k0_pay212, h0, h1]

theorem p213 (r : Fin 8) (j : Fin 1024) {a0 : Vec Ideal S8x1024 .f32} {s0 : EReal} (h0 : a0 (ix2 r j) = s0) :
    k0_pay213 (F := Ideal) a0 (ix2 r j) = s0 := by
  pointwise [k0_pay213, h0]

theorem p214 (r : Fin 8) (j : Fin 1024) {a0 : Vec Ideal S8x1024 .f32} {s0 : EReal} (h0 : a0 (ix2 r j) = s0) :
    k0_pay214 (F := Ideal) a0 (ix2 r j) = s0 := by
  pointwise [k0_pay214, h0]

theorem p215 (r : Fin 8) (j : Fin 1024) {a0 : Vec Ideal S1x1024 .f32} {s0 : EReal} (h0 : a0 (ix2 0 j) = s0) :
    k0_pay215 (F := Ideal) a0 (ix2 0 j) = s0 := by
  pointwise [k0_pay215, h0]

theorem p216 (r : Fin 8) (j : Fin 1024) {a0 : Vec Ideal S1x1024 .f32} {s0 : EReal} (h0 : a0 (ix2 0 j) = s0) :
    k0_pay216 (F := Ideal) a0 (ix2 0 j) = s0 := by
  pointwise [k0_pay216, h0]

theorem p217 (r : Fin 8) (j : Fin 1024) {a0 : Vec Ideal S8x1024 .f32} {a1 : Vec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay217 (F := Ideal) a0 a1 a2 a3 a4 (ix3 0 r j) = (s4 + (s2 * s0)) - (s3 * s1) := by
  pointwise [k0_pay213, k0_pay214, k0_pay215, k0_pay216, k0_pay217, h0, h1, h2, h3, h4]

theorem p218 (r : Fin 8) (j : Fin 1024) {a0 : Vec Ideal S1x8x1024 .f32} {s0 : EReal} (h0 : a0 (ix3 0 r j) = s0) :
    k0_pay218 (F := Ideal) a0 (ix2 r j) = s0 := by
  pointwise [k0_pay218, h0]

theorem p219 (r : Fin 8) (j : Fin 1024) {a0 : FVec Ideal S8x1024 .f32} {a1 : FVec Ideal S8x1024 .f32} {a2 : FVec Ideal S1x1024 .f32} {a3 : FVec Ideal S1x1024 .f32} {a4 : FVec Ideal S8x1024 .f32} {s0 s1 s2 s3 s4 : EReal} (h0 : a0 (ix2 r j) = s0) (h1 : a1 (ix2 r j) = s1) (h2 : a2 (ix2 0 j) = s2) (h3 : a3 (ix2 0 j) = s3) (h4 : a4 (ix2 r j) = s4) :
    k0_pay219 (F := Ideal) a0 a1 a2 a3 a4 (ix3 0 r j) = (s4 + (s2 * s1)) + (s3 * s0) := by
  pointwise [k0_pay219, h0, h1, h2, h3, h4]

theorem p222 (r : Fin 8) (j : Fin 1024) {a0 : FVec Ideal S8x1024 .f32} {a1 : FVec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay222 (F := Ideal) a0 a1 a2 a3 a4 (ix3 0 r j) = (s4 + (s2 * s0)) - (s3 * s1) := by
  pointwise [k0_pay220, k0_pay221, k0_pay222, h0, h1, h2, h3, h4]

theorem p223 (r : Fin 8) (j : Fin 1024) {a0 : FVec Ideal S8x1024 .f32} {a1 : FVec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay223 (F := Ideal) a0 a1 a2 a3 a4 (ix3 0 r j) = (s4 + (s2 * s1)) + (s3 * s0) := by
  pointwise [k0_pay220, k0_pay221, k0_pay223, h0, h1, h2, h3, h4]

theorem p226 (r : Fin 8) (j : Fin 1024) {a0 : FVec Ideal S8x1024 .f32} {a1 : FVec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay226 (F := Ideal) a0 a1 a2 a3 a4 (ix3 0 r j) = (s4 + (s2 * s0)) - (s3 * s1) := by
  pointwise [k0_pay224, k0_pay225, k0_pay226, h0, h1, h2, h3, h4]

theorem p227 (r : Fin 8) (j : Fin 1024) {a0 : FVec Ideal S8x1024 .f32} {a1 : FVec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay227 (F := Ideal) a0 a1 a2 a3 a4 (ix3 0 r j) = (s4 + (s2 * s1)) + (s3 * s0) := by
  pointwise [k0_pay224, k0_pay225, k0_pay227, h0, h1, h2, h3, h4]

theorem p228 (r : Fin 8) (j : Fin 1024) {a0 : Vec Ideal S1x1024 .f32} {s0 : EReal} (h0 : a0 (ix2 0 j) = s0) :
    k0_pay228 (F := Ideal) a0 (ix2 0 j) = s0 := by
  pointwise [k0_pay228, h0]

theorem p229 (r : Fin 8) (j : Fin 1024) {a0 : Vec Ideal S1x1024 .f32} {s0 : EReal} (h0 : a0 (ix2 0 j) = s0) :
    k0_pay229 (F := Ideal) a0 (ix2 0 j) = s0 := by
  pointwise [k0_pay229, h0]

theorem p230 (r : Fin 8) (j : Fin 1024) {a0 : FVec Ideal S8x1024 .f32} {a1 : Vec Ideal S1x1024 .f32} {a2 : Vec Ideal S1x8x1024 .f32} {s0 s1 s2 : EReal} (h0 : a0 (ix2 r j) = s0) (h1 : a1 (ix2 0 j) = s1) (h2 : a2 (ix3 0 r j) = s2) :
    k0_pay230 (F := Ideal) a0 a1 a2 (ix2 r j) = s2 + (s1 * s0) := by
  pointwise [k0_pay228, k0_pay230, h0, h1, h2]

theorem p231 (r : Fin 8) (j : Fin 1024) {a0 : FVec Ideal S8x1024 .f32} {a1 : FVec Ideal S1x1024 .f32} {a2 : FVec Ideal S8x1024 .f32} {s0 s1 s2 : EReal} (h0 : a0 (ix2 r j) = s0) (h1 : a1 (ix2 0 j) = s1) (h2 : a2 (ix2 r j) = s2) :
    k0_pay231 (F := Ideal) a0 a1 a2 (ix3 0 r j) = s2 - (s1 * s0) := by
  pointwise [k0_pay231, h0, h1, h2]

theorem p232 (r : Fin 8) (j : Fin 1024) {a0 : FVec Ideal S8x1024 .f32} {a1 : FVec Ideal S8x1024 .f32} {a2 : FVec Ideal S1x1024 .f32} {a3 : FVec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay232 (F := Ideal) a0 a1 a2 a3 a4 (ix3 0 r j) = (s4 + (s2 * s1)) + (s3 * s0) := by
  pointwise [k0_pay232, h0, h1, h2, h3, h4]

theorem p233 (r : Fin 8) (j : Fin 1024) {a0 : Vec Ideal S1x1024 .f32} {s0 : EReal} (h0 : a0 (ix2 0 j) = s0) :
    k0_pay233 (F := Ideal) a0 (ix2 0 j) = s0 := by
  pointwise [k0_pay233, h0]

theorem p234 (r : Fin 8) (j : Fin 1024) {a0 : Vec Ideal S1x1024 .f32} {s0 : EReal} (h0 : a0 (ix2 0 j) = s0) :
    k0_pay234 (F := Ideal) a0 (ix2 0 j) = s0 := by
  pointwise [k0_pay234, h0]

theorem p235 (r : Fin 8) (j : Fin 1024) {a0 : FVec Ideal S8x1024 .f32} {a1 : FVec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay235 (F := Ideal) a0 a1 a2 a3 a4 (ix3 0 r j) = (s4 + (s2 * s0)) - (s3 * s1) := by
  pointwise [k0_pay233, k0_pay234, k0_pay235, h0, h1, h2, h3, h4]

theorem p236 (r : Fin 8) (j : Fin 1024) {a0 : Vec Ideal S1x8x1024 .f32} {s0 : EReal} (h0 : a0 (ix3 0 r j) = s0) :
    k0_pay236 (F := Ideal) a0 (ix2 r j) = s0 := by
  pointwise [k0_pay236, h0]

theorem p237 (r : Fin 8) (j : Fin 1024) {a0 : FVec Ideal S8x1024 .f32} {a1 : FVec Ideal S8x1024 .f32} {a2 : FVec Ideal S1x1024 .f32} {a3 : FVec Ideal S1x1024 .f32} {a4 : FVec Ideal S8x1024 .f32} {s0 s1 s2 s3 s4 : EReal} (h0 : a0 (ix2 r j) = s0) (h1 : a1 (ix2 r j) = s1) (h2 : a2 (ix2 0 j) = s2) (h3 : a3 (ix2 0 j) = s3) (h4 : a4 (ix2 r j) = s4) :
    k0_pay237 (F := Ideal) a0 a1 a2 a3 a4 (ix3 0 r j) = (s4 + (s2 * s1)) + (s3 * s0) := by
  pointwise [k0_pay237, h0, h1, h2, h3, h4]

theorem p240 (r : Fin 8) (j : Fin 1024) {a0 : FVec Ideal S8x1024 .f32} {a1 : FVec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay240 (F := Ideal) a0 a1 a2 a3 a4 (ix3 0 r j) = (s4 + (s2 * s0)) - (s3 * s1) := by
  pointwise [k0_pay238, k0_pay239, k0_pay240, h0, h1, h2, h3, h4]

theorem p241 (r : Fin 8) (j : Fin 1024) {a0 : FVec Ideal S8x1024 .f32} {a1 : FVec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay241 (F := Ideal) a0 a1 a2 a3 a4 (ix3 0 r j) = (s4 + (s2 * s1)) + (s3 * s0) := by
  pointwise [k0_pay238, k0_pay239, k0_pay241, h0, h1, h2, h3, h4]

theorem p244 (r : Fin 8) (j : Fin 1024) {a0 : FVec Ideal S8x1024 .f32} {a1 : FVec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay244 (F := Ideal) a0 a1 a2 a3 a4 (ix3 0 r j) = (s4 + (s2 * s0)) - (s3 * s1) := by
  pointwise [k0_pay242, k0_pay243, k0_pay244, h0, h1, h2, h3, h4]

theorem p245 (r : Fin 8) (j : Fin 1024) {a0 : FVec Ideal S8x1024 .f32} {a1 : FVec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay245 (F := Ideal) a0 a1 a2 a3 a4 (ix3 0 r j) = (s4 + (s2 * s1)) + (s3 * s0) := by
  pointwise [k0_pay242, k0_pay243, k0_pay245, h0, h1, h2, h3, h4]

theorem p246 (r : Fin 8) (j : Fin 1024) {a0 : Vec Ideal S1x1024 .f32} {s0 : EReal} (h0 : a0 (ix2 0 j) = s0) :
    k0_pay246 (F := Ideal) a0 (ix2 0 j) = s0 := by
  pointwise [k0_pay246, h0]

theorem p247 (r : Fin 8) (j : Fin 1024) {a0 : Vec Ideal S1x1024 .f32} {s0 : EReal} (h0 : a0 (ix2 0 j) = s0) :
    k0_pay247 (F := Ideal) a0 (ix2 0 j) = s0 := by
  pointwise [k0_pay247, h0]

theorem p248 (r : Fin 8) (j : Fin 1024) {a0 : FVec Ideal S8x1024 .f32} {a1 : Vec Ideal S1x1024 .f32} {a2 : Vec Ideal S1x8x1024 .f32} {s0 s1 s2 : EReal} (h0 : a0 (ix2 r j) = s0) (h1 : a1 (ix2 0 j) = s1) (h2 : a2 (ix3 0 r j) = s2) :
    k0_pay248 (F := Ideal) a0 a1 a2 (ix2 r j) = s2 + (s1 * s0) := by
  pointwise [k0_pay246, k0_pay248, h0, h1, h2]

theorem p249 (r : Fin 8) (j : Fin 1024) {a0 : FVec Ideal S8x1024 .f32} {a1 : FVec Ideal S1x1024 .f32} {a2 : FVec Ideal S8x1024 .f32} {s0 s1 s2 : EReal} (h0 : a0 (ix2 r j) = s0) (h1 : a1 (ix2 0 j) = s1) (h2 : a2 (ix2 r j) = s2) :
    k0_pay249 (F := Ideal) a0 a1 a2 (ix3 0 r j) = s2 - (s1 * s0) := by
  pointwise [k0_pay249, h0, h1, h2]

theorem p250 (r : Fin 8) (j : Fin 1024) {a0 : FVec Ideal S8x1024 .f32} {a1 : FVec Ideal S8x1024 .f32} {a2 : FVec Ideal S1x1024 .f32} {a3 : FVec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay250 (F := Ideal) a0 a1 a2 a3 a4 (ix3 0 r j) = (s4 + (s2 * s1)) + (s3 * s0) := by
  pointwise [k0_pay250, h0, h1, h2, h3, h4]

end Cert.ScanIdeal.Hand
-- ==== Proof.ScanBlk2.lean ====
/- Hand-written, untrusted: the recurrence over block 2 of lanes, step after step. -/
module

public import proofs.«01_k».proof.Proof.ScanPay2
public import proofs.«01_k».proof.Proof.ScanInit

set_option maxRecDepth 16384

@[expose] public section

noncomputable section

open Idealize.ShloMosaic Idealize.ShloMosaic.TcCoe Idealize.SL.Sem

namespace Cert.ScanIdeal.Hand

open Cert.ScanIdeal Cert.ScanIdeal.Gen

variable {c : Dev nD}
variable {arg1 : Memref sig .tc .vmem S64x1024 .f32} {harg1 : arg1.IsWhole}
variable {arg2 : Memref sig .tc .vmem S8x4096 .f32} {harg2 : arg2.IsWhole}
variable {arg3 : Memref sig .tc .vmem S8x4096 .f32} {harg3 : arg3.IsWhole}
variable {arg4 : Memref sig .tc .vmem S8x4096 .f32} {harg4 : arg4.IsWhole}
variable {arg5 : Memref sig .tc .vmem S8x4096 .f32} {harg5 : arg5.IsWhole}
variable {arg6 : Memref sig .tc .vmem S4x256x1024 .bf16} {harg6 : arg6.IsWhole}
variable {arg7 : Memref sig .tc .vmem S4x256x1024 .bf16} {harg7 : arg7.IsWhole}
variable {arg8 : Memref sig .tc .vmem S4x1024x256 .bf16} {harg8 : arg8.IsWhole}
variable {arg9 : Memref sig .tc .vmem S4x1024x256 .bf16} {harg9 : arg9.IsWhole}
variable {arg10 : Memref sig .tc .vmem S1x1024 .f32} {harg10 : arg10.IsWhole}
variable {arg11 : Memref sig .tc .vmem S1024x1024 .bf16} {harg11 : arg11.IsWhole}
variable {arg12 : Memref sig .tc .vmem S1x1024 .f32} {harg12 : arg12.IsWhole}
variable {arg16 : Memref sig .tc .vmem S8x8x1024 .f32} {harg16 : arg16.IsWhole}
variable {arg17 : Memref sig .tc .vmem S8x8x1024 .f32} {harg17 : arg17.IsWhole}
variable {arg18 : Memref sig .tc .vmem S64x1024 .f32} {harg18 : arg18.IsWhole}
variable {x0 : FVec Ideal S64x1024 .f32} {x1 x2 x3 x4 : FVec Ideal S8x4096 .f32} {x5 x6 : FVec Ideal S4x256x1024 .bf16}
  {x7 x8 : FVec Ideal S4x1024x256 .bf16}

theorem i0_35 : Inv (kernelRun0_A.sl.HS0_35 (F := Ideal) c arg1 harg1 arg2 harg2 arg3 harg3 arg4 harg4 arg5 harg5 arg6 harg6 arg7 harg7 arg16 arg17 x0 x1 x2 x3 x4 x5 x6) 0 (SR x0 x3 x4 x5 x6 2) (BU x0 x5 2) :=
  Inv.all _ fun t r j => init0_2 t r j

theorem w_r_63 (r : Fin 8) (j : Fin 1024) : kernelRun0_A.sl.r_63 (F := Ideal) c arg4 harg4 arg5 harg5 x3 x4 (ix2 r j) = ((RW x3 2 0 j) * 0) - ((RW x4 2 0 j) * 0) :=
  Eq.trans (p180 r j (ld1 harg4 x3 2 0 rfl rfl j) (ld1 harg5 x4 2 0 rfl rfl j)) rfl

theorem w_v1027 (r : Fin 8) (j : Fin 1024) : kernelRun0_A.sl.v1027 (F := Ideal) c arg1 harg1 arg2 harg2 arg3 harg3 arg4 harg4 arg5 harg5 arg6 harg6 arg7 harg7 arg16 arg17 x0 x1 x2 x3 x4 x5 x6 (ix3 0 r j) = BU x0 x5 2 0 r j :=
  i0_35.row 0 rfl (by decide) r j

theorem i0_36 : Inv (kernelRun0_A.sl.HS0_36 (F := Ideal) c arg1 harg1 arg2 harg2 arg3 harg3 arg4 harg4 arg5 harg5 arg6 harg6 arg7 harg7 arg16 arg17 x0 x1 x2 x3 x4 x5 x6) 1 (SR x0 x3 x4 x5 x6 2) (BU x0 x5 2) :=
  i0_35.step 0 rfl fun r j => Eq.trans (p183 r j (w_r_63 r j) (w_v1027 r j)) rfl

theorem w_r_61 (r : Fin 8) (j : Fin 1024) : kernelRun0_A.sl.r_61 (F := Ideal) c arg4 harg4 x3 (ix2 r j) = (RW x3 2 0 j) :=
  Eq.trans (p177 r j (ld1 harg4 x3 2 0 rfl rfl j)) rfl

theorem w_r_62 (r : Fin 8) (j : Fin 1024) : kernelRun0_A.sl.r_62 (F := Ideal) c arg5 harg5 x4 (ix2 r j) = (RW x4 2 0 j) :=
  Eq.trans (p178 r j (ld1 harg5 x4 2 0 rfl rfl j)) rfl

theorem i1_35 : Inv (kernelRun0_A.sl.HS1_35 (F := Ideal) c arg1 harg1 arg2 harg2 arg3 harg3 arg4 harg4 arg5 harg5 arg6 harg6 arg7 harg7 arg16 arg17 x0 x1 x2 x3 x4 x5 x6) 0 (SI x0 x3 x4 x5 x6 2) (BU x0 x6 2) :=
  Inv.all _ fun t r j => init1_2 t r j

theorem w_v1034 (r : Fin 8) (j : Fin 1024) : kernelRun0_A.sl.v1034 (F := Ideal) c arg1 harg1 arg2 harg2 arg3 harg3 arg4 harg4 arg5 harg5 arg6 harg6 arg7 harg7 arg16 arg17 x0 x1 x2 x3 x4 x5 x6 (ix3 0 r j) = BU x0 x6 2 0 r j :=
  i1_35.row 0 rfl (by decide) r j

theorem w_v1049 (r : Fin 8) (j : Fin 1024) : kernelRun0_A.sl.v1049 (F := Ideal) c arg1 harg1 arg2 harg2 arg3 harg3 arg4 harg4 arg5 harg5 arg6 harg6 arg7 harg7 arg16 arg17 x0 x1 x2 x3 x4 x5 x6 (ix3 0 r j) = BU x0 x5 2 1 r j :=
  i0_36.row 1 rfl (by decide) r j

theorem i0_37 : Inv (kernelRun0_A.sl.HS0_37 (F := Ideal) c arg1 harg1 arg2 harg2 arg3 harg3 arg4 harg4 arg5 harg5 arg6 harg6 arg7 harg7 arg16 arg17 x0 x1 x2 x3 x4 x5 x6) 2 (SR x0 x3 x4 x5 x6 2) (BU x0 x5 2) :=
  i0_36.step 1 rfl fun r j => Eq.trans (p187 r j (w_r_61 r j) (w_r_62 r j) (p179 r j) (w_r_63 r j) (w_v1027 r j) (w_v1034 r j) (w_v1049 r j)) rfl

theorem w_r_64 (r : Fin 8) (j : Fin 1024) : kernelRun0_A.sl.r_64 (F := Ideal) c arg1 harg1 arg2 harg2 arg3 harg3 arg4 harg4 arg5 harg5 arg6 harg6 arg7 harg7 arg16 arg17 x0 x1 x2 x3 x4 x5 x6 (ix2 r j) = (SR x0 x3 x4 x5 x6 2 1 r j) :=
  Eq.trans (p185 r j (w_r_61 r j) (w_r_62 r j) (p179 r j) (w_r_63 r j) (w_v1027 r j) (w_v1034 r j) (w_v1049 r j)) rfl

theorem i1_36 : Inv (kernelRun0_A.sl.HS1_36 (F := Ideal) c arg1 harg1 arg2 harg2 arg3 harg3 arg4 harg4 arg5 harg5 arg6 harg6 arg7 harg7 arg16 arg17 x0 x1 x2 x3 x4 x5 x6) 1 (SI x0 x3 x4 x5 x6 2) (BU x0 x6 2) :=
  i1_35.step 0 rfl fun r j => Eq.trans (p184 r j (w_r_61 r j) (w_r_62 r j) (p179 r j) (w_v1034 r j)) rfl

theorem w_v1056 (r : Fin 8) (j : Fin 1024) : kernelRun0_A.sl.v1056 (F := Ideal) c arg1 harg1 arg2 harg2 arg3 harg3 arg4 harg4 arg5 harg5 arg6 harg6 arg7 harg7 arg16 arg17 x0 x1 x2 x3 x4 x5 x6 (ix3 0 r j) = BU x0 x6 2 1 r j :=
  i1_36.row 1 rfl (by decide) r j

theorem w_r_65 (r : Fin 8) (j : Fin 1024) : kernelRun0_A.sl.r_65 (F := Ideal) c arg1 harg1 arg2 harg2 arg3 harg3 arg4 harg4 arg5 harg5 arg6 harg6 arg7 harg7 arg16 arg17 x0 x1 x2 x3 x4 x5 x6 (ix2 r j) = (SI x0 x3 x4 x5 x6 2 1 r j) :=
  Eq.trans (p186 r j (w_r_61 r j) (w_r_62 r j) (p179 r j) (w_r_63 r j) (w_v1027 r j) (w_v1034 r j) (w_v1056 r j)) rfl

theorem w_v1071 (r : Fin 8) (j : Fin 1024) : kernelRun0_A.sl.v1071 (F := Ideal) c arg1 harg1 arg2 harg2 arg3 harg3 arg4 harg4 arg5 harg5 arg6 harg6 arg7 harg7 arg16 arg17 x0 x1 x2 x3 x4 x5 x6 (ix3 0 r j) = BU x0 x5 2 2 r j :=
  i0_37.row 2 rfl (by decide) r j

theorem i0_38 : Inv (kernelRun0_A.sl.HS0_38 (F := Ideal) c arg1 harg1 arg2 harg2 arg3 harg3 arg4 harg4 arg5 harg5 arg6 harg6 arg7 harg7 arg16 arg17 x0 x1 x2 x3 x4 x5 x6) 3 (SR x0 x3 x4 x5 x6 2) (BU x0 x5 2) :=
  i0_37.step 2 rfl fun r j => Eq.trans (p191 r j (w_r_61 r j) (w_r_62 r j) (w_r_64 r j) (w_r_65 r j) (w_v1071 r j)) rfl

theorem w_r_66 (r : Fin 8) (j : Fin 1024) : kernelRun0_A.sl.r_66 (F := Ideal) c arg1 harg1 arg2 harg2 arg3 harg3 arg4 harg4 arg5 harg5 arg6 harg6 arg7 harg7 arg16 arg17 x0 x1 x2 x3 x4 x5 x6 (ix3 0 r j) = (SI x0 x3 x4 x5 x6 2 1 r j) :=
  Eq.trans (p188 r j (w_r_61 r j) (w_r_62 r j) (p179 r j) (w_r_63 r j) (w_v1027 r j) (w_v1034 r j) (w_v1056 r j)) rfl

theorem i1_37 : Inv (kernelRun0_A.sl.HS1_37 (F := Ideal) c arg1 harg1 arg2 harg2 arg3 harg3 arg4 harg4 arg5 harg5 arg6 harg6 arg7 harg7 arg16 arg17 x0 x1 x2 x3 x4 x5 x6) 2 (SI x0 x3 x4 x5 x6 2) (BU x0 x6 2) :=
  i1_36.step 1 rfl fun r j => w_r_66 r j

theorem w_v1078 (r : Fin 8) (j : Fin 1024) : kernelRun0_A.sl.v1078 (F := Ideal) c arg1 harg1 arg2 harg2 arg3 harg3 arg4 harg4 arg5 harg5 arg6 harg6 arg7 harg7 arg16 arg17 x0 x1 x2 x3 x4 x5 x6 (ix3 0 r j) = BU x0 x6 2 2 r j :=
  i1_37.row 2 rfl (by decide) r j

theorem w_v1093 (r : Fin 8) (j : Fin 1024) : kernelRun0_A.sl.v1093 (F := Ideal) c arg1 harg1 arg2 harg2 arg3 harg3 arg4 harg4 arg5 harg5 arg6 harg6 arg7 harg7 arg16 arg17 x0 x1 x2 x3 x4 x5 x6 (ix3 0 r j) = BU x0 x5 2 3 r j :=
  i0_38.row 3 rfl (by decide) r j

theorem i0_39 : Inv (kernelRun0_A.sl.HS0_39 (F := Ideal) c arg1 harg1 arg2 harg2 arg3 harg3 arg4 harg4 arg5 harg5 arg6 harg6 arg7 harg7 arg16 arg17 x0 x1 x2 x3 x4 x5 x6) 4 (SR x0 x3 x4 x5 x6 2) (BU x0 x5 2) :=
  i0_38.step 3 rfl fun r j => Eq.trans (p195 r j (w_r_61 r j) (w_r_62 r j) (w_r_64 r j) (w_r_65 r j) (w_v1071 r j) (w_v1078 r j) (w_v1093 r j)) rfl

theorem w_r_67 (r : Fin 8) (j : Fin 1024) : kernelRun0_A.sl.r_67 (F := Ideal) c arg1 harg1 arg2 harg2 arg3 harg3 arg4 harg4 arg5 harg5 arg6 harg6 arg7 harg7 arg16 arg17 x0 x1 x2 x3 x4 x5 x6 (ix2 r j) = (SR x0 x3 x4 x5 x6 2 3 r j) :=
  Eq.trans (p193 r j (w_r_61 r j) (w_r_62 r j) (w_r_64 r j) (w_r_65 r j) (w_v1071 r j) (w_v1078 r j) (w_v1093 r j)) rfl

theorem i1_38 : Inv (kernelRun0_A.sl.HS1_38 (F := Ideal) c arg1 harg1 arg2 harg2 arg3 harg3 arg4 harg4 arg5 harg5 arg6 harg6 arg7 harg7 arg16 arg17 x0 x1 x2 x3 x4 x5 x6) 3 (SI x0 x3 x4 x5 x6 2) (BU x0 x6 2) :=
  i1_37.step 2 rfl fun r j => Eq.trans (p192 r j (w_r_61 r j) (w_r_62 r j) (w_r_64 r j) (w_r_65 r j) (w_v1078 r j)) rfl

theorem w_v1100 (r : Fin 8) (j : Fin 1024) : kernelRun0_A.sl.v1100 (F := Ideal) c arg1 harg1 arg2 harg2 arg3 harg3 arg4 harg4 arg5 harg5 arg6 harg6 arg7 harg7 arg16 arg17 x0 x1 x2 x3 x4 x5 x6 (ix3 0 r j) = BU x0 x6 2 3 r j :=
  i1_38.row 3 rfl (by decide) r j

theorem w_r_68 (r : Fin 8) (j : Fin 1024) : kernelRun0_A.sl.r_68 (F := Ideal) c arg1 harg1 arg2 harg2 arg3 harg3 arg4 harg4 arg5 harg5 arg6 harg6 arg7 harg7 arg16 arg17 x0 x1 x2 x3 x4 x5 x6 (ix2 r j) = (SI x0 x3 x4 x5 x6 2 3 r j) :=
  Eq.trans (p194 r j (w_r_61 r j) (w_r_62 r j) (w_r_64 r j) (w_r_65 r j) (w_v1071 r j) (w_v1078 r j) (w_v1100 r j)) rfl

theorem w_v1115 (r : Fin 8) (j : Fin 1024) : kernelRun0_A.sl.v1115 (F := Ideal) c arg1 harg1 arg2 harg2 arg3 harg3 arg4 harg4 arg5 harg5 arg6 harg6 arg7 harg7 arg16 arg17 x0 x1 x2 x3 x4 x5 x6 (ix3 0 r j) = BU x0 x5 2 4 r j :=
  i0_39.row 4 rfl (by decide) r j

theorem i0_40 : Inv (kernelRun0_A.sl.HS0_40 (F := Ideal) c arg1 harg1 arg2 harg2 arg3 harg3 arg4 harg4 arg5 harg5 arg6 harg6 arg7 harg7 arg16 arg17 x0 x1 x2 x3 x4 x5 x6) 5 (SR x0 x3 x4 x5 x6 2) (BU x0 x5 2) :=
  i0_39.step 4 rfl fun r j => Eq.trans (p199 r j (w_r_61 r j) (w_r_62 r j) (w_r_67 r j) (w_r_68 r j) (w_v1115 r j)) rfl

theorem i1_39 : Inv (kernelRun0_A.sl.HS1_39 (F := Ideal) c arg1 harg1 arg2 harg2 arg3 harg3 arg4 harg4 arg5 harg5 arg6 harg6 arg7 harg7 arg16 arg17 x0 x1 x2 x3 x4 x5 x6) 4 (SI x0 x3 x4 x5 x6 2) (BU x0 x6 2) :=
  i1_38.step 3 rfl fun r j => Eq.trans (p196 r j (w_r_68 r j)) rfl

theorem w_v1122 (r : Fin 8) (j : Fin 1024) : kernelRun0_A.sl.v1122 (F := Ideal) c arg1 harg1 arg2 harg2 arg3 harg3 arg4 harg4 arg5 harg5 arg6 harg6 arg7 harg7 arg16 arg17 x0 x1 x2 x3 x4 x5 x6 (ix3 0 r j) = BU x0 x6 2 4 r j :=
  i1_39.row 4 rfl (by decide) r j

theorem w_v1137 (r : Fin 8) (j : Fin 1024) : kernelRun0_A.sl.v1137 (F := Ideal) c arg1 harg1 arg2 harg2 arg3 harg3 arg4 harg4 arg5 harg5 arg6 harg6 arg7 harg7 arg16 arg17 x0 x1 x2 x3 x4 x5 x6 (ix3 0 r j) = BU x0 x5 2 5 r j :=
  i0_40.row 5 rfl (by decide) r j

theorem w_r_69 (r : Fin 8) (j : Fin 1024) : kernelRun0_A.sl.r_69 (F := Ideal) c arg1 harg1 arg2 harg2 arg3 harg3 arg4 harg4 arg5 harg5 arg6 harg6 arg7 harg7 arg16 arg17 x0 x1 x2 x3 x4 x5 x6 (ix2 r j) = (SR x0 x3 x4 x5 x6 2 5 r j) :=
  Eq.trans (p201 r j (w_r_61 r j) (w_r_62 r j) (w_r_67 r j) (w_r_68 r j) (w_v1115 r j) (w_v1122 r j) (w_v1137 r j)) rfl

theorem i0_41 : Inv (kernelRun0_A.sl.HS0_41 (F := Ideal) c arg1 harg1 arg2 harg2 arg3 harg3 arg4 harg4 arg5 harg5 arg6 harg6 arg7 harg7 arg16 arg17 x0 x1 x2 x3 x4 x5 x6) 6 (SR x0 x3 x4 x5 x6 2) (BU x0 x5 2) :=
  i0_40.step 5 rfl fun r j => Eq.trans (p203 r j (w_r_69 r j)) rfl

theorem i1_40 : Inv (kernelRun0_A.sl.HS1_40 (F := Ideal) c arg1 harg1 arg2 harg2 arg3 harg3 arg4 harg4 arg5 harg5 arg6 harg6 arg7 harg7 arg16 arg17 x0 x1 x2 x3 x4 x5 x6) 5 (SI x0 x3 x4 x5 x6 2) (BU x0 x6 2) :=
  i1_39.step 4 rfl fun r j => Eq.trans (p200 r j (w_r_61 r j) (w_r_62 r j) (w_r_67 r j) (w_r_68 r j) (w_v1122 r j)) rfl

theorem w_v1144 (r : Fin 8) (j : Fin 1024) : kernelRun0_A.sl.v1144 (F := Ideal) c arg1 harg1 arg2 harg2 arg3 harg3 arg4 harg4 arg5 harg5 arg6 harg6 arg7 harg7 arg16 arg17 x0 x1 x2 x3 x4 x5 x6 (ix3 0 r j) = BU x0 x6 2 5 r j :=
  i1_40.row 5 rfl (by decide) r j

theorem w_r_70 (r : Fin 8) (j : Fin 1024) : kernelRun0_A.sl.r_70 (F := Ideal) c arg1 harg1 arg2 harg2 arg3 harg3 arg4 harg4 arg5 harg5 arg6 harg6 arg7 harg7 arg16 arg17 x0 x1 x2 x3 x4 x5 x6 (ix2 r j) = (SI x0 x3 x4 x5 x6 2 5 r j) :=
  Eq.trans (p202 r j (w_r_61 r j) (w_r_62 r j) (w_r_67 r j) (w_r_68 r j) (w_v1115 r j) (w_v1122 r j) (w_v1144 r j)) rfl

theorem w_v1159 (r : Fin 8) (j : Fin 1024) : kernelRun0_A.sl.v1159 (F := Ideal) c arg1 harg1 arg2 harg2 arg3 harg3 arg4 harg4 arg5 harg5 arg6 harg6 arg7 harg7 arg16 arg17 x0 x1 x2 x3 x4 x5 x6 (ix3 0 r j) = BU x0 x5 2 6 r j :=
  i0_41.row 6 rfl (by decide) r j

theorem i0_42 : Inv (kernelRun0_A.sl.HS0_42 (F := Ideal) c arg1 harg1 arg2 harg2 arg3 harg3 arg4 harg4 arg5 harg5 arg6 harg6 arg7 harg7 arg16 arg17 x0 x1 x2 x3 x4 x5 x6) 7 (SR x0 x3 x4 x5 x6 2) (BU x0 x5 2) :=
  i0_41.step 6 rfl fun r j => Eq.trans (p207 r j (w_r_61 r j) (w_r_62 r j) (w_r_69 r j) (w_r_70 r j) (w_v1159 r j)) rfl

theorem i1_41 : Inv (kernelRun0_A.sl.HS1_41 (F := Ideal) c arg1 harg1 arg2 harg2 arg3 harg3 arg4 harg4 arg5 harg5 arg6 harg6 arg7 harg7 arg16 arg17 x0 x1 x2 x3 x4 x5 x6) 6 (SI x0 x3 x4 x5 x6 2) (BU x0 x6 2) :=
  i1_40.step 5 rfl fun r j => Eq.trans (p204 r j (w_r_70 r j)) rfl

theorem w_v1166 (r : Fin 8) (j : Fin 1024) : kernelRun0_A.sl.v1166 (F := Ideal) c arg1 harg1 arg2 harg2 arg3 harg3 arg4 harg4 arg5 harg5 arg6 harg6 arg7 harg7 arg16 arg17 x0 x1 x2 x3 x4 x5 x6 (ix3 0 r j) = BU x0 x6 2 6 r j :=
  i1_41.row 6 rfl (by decide) r j

theorem w_v1181 (r : Fin 8) (j : Fin 1024) : kernelRun0_A.sl.v1181 (F := Ideal) c arg1 harg1 arg2 harg2 arg3 harg3 arg4 harg4 arg5 harg5 arg6 harg6 arg7 harg7 arg16 arg17 x0 x1 x2 x3 x4 x5 x6 (ix3 0 r j) = BU x0 x5 2 7 r j :=
  i0_42.row 7 rfl (by decide) r j

theorem w_r_71 (r : Fin 8) (j : Fin 1024) : kernelRun0_A.sl.r_71 (F := Ideal) c arg1 harg1 arg2 harg2 arg3 harg3 arg4 harg4 arg5 harg5 arg6 harg6 arg7 harg7 arg16 arg17 x0 x1 x2 x3 x4 x5 x6 (ix2 r j) = (SR x0 x3 x4 x5 x6 2 7 r j) :=
  Eq.trans (p209 r j (w_r_61 r j) (w_r_62 r j) (w_r_69 r j) (w_r_70 r j) (w_v1159 r j) (w_v1166 r j) (w_v1181 r j)) rfl

theorem i0_43 : Inv (kernelRun0_A.sl.HS0_43 (F := Ideal) c arg1 harg1 arg2 harg2 arg3 harg3 arg4 harg4 arg5 harg5 arg6 harg6 arg7 harg7 arg16 arg17 x0 x1 x2 x3 x4 x5 x6) 8 (SR x0 x3 x4 x5 x6 2) (BU x0 x5 2) :=
  i0_42.step 7 rfl fun r j => Eq.trans (p211 r j (w_r_71 r j)) rfl

theorem w_v1210 (r : Fin 8) (j : Fin 1024) : kernelRun0_A.sl.v1210 (F := Ideal) c arg1 harg1 arg2 harg2 arg3 harg3 arg4 harg4 arg5 harg5 arg6 harg6 arg7 harg7 arg16 arg17 x0 x1 x2 x3 x4 x5 x6 (ix3 0 r j) = SR x0 x3 x4 x5 x6 2 0 r j :=
  (Inv.next (fun _ _ _ => 0) i0_43).row 0 rfl (by decide) r j

theorem i0_44 : Inv (kernelRun0_A.sl.HS0_44 (F := Ideal) c arg1 harg1 arg2 harg2 arg3 harg3 arg4 harg4 arg5 harg5 arg6 harg6 arg7 harg7 arg16 arg17 x0 x1 x2 x3 x4 x5 x6) 1 (FR x0 x1 x2 x3 x4 x5 x6 2) (SR x0 x3 x4 x5 x6 2) :=
  (Inv.next (FR x0 x1 x2 x3 x4 x5 x6 2) i0_43).step 0 rfl fun r j => Eq.trans (p217 r j (ld8 harg2 x1 2 rfl r j) (ld8 harg3 x2 2 rfl r j) (ld1 harg4 x3 2 0 rfl rfl j) (ld1 harg5 x4 2 0 rfl rfl j) (w_v1210 r j)) rfl

theorem w_r_73 (r : Fin 8) (j : Fin 1024) : kernelRun0_A.sl.r_73 (F := Ideal) c arg2 harg2 x1 (ix2 r j) = (RW x1 2 r j) :=
  Eq.trans (p213 r j (ld8 harg2 x1 2 rfl r j)) rfl

theorem w_r_74 (r : Fin 8) (j : Fin 1024) : kernelRun0_A.sl.r_74 (F := Ideal) c arg3 harg3 x2 (ix2 r j) = (RW x2 2 r j) :=
  Eq.trans (p214 r j (ld8 harg3 x2 2 rfl r j)) rfl

theorem w_v1242 (r : Fin 8) (j : Fin 1024) : kernelRun0_A.sl.v1242 (F := Ideal) c arg1 harg1 arg2 harg2 arg3 harg3 arg4 harg4 arg5 harg5 arg6 harg6 arg7 harg7 arg16 arg17 x0 x1 x2 x3 x4 x5 x6 (ix3 0 r j) = SR x0 x3 x4 x5 x6 2 1 r j :=
  i0_44.row 1 rfl (by decide) r j

theorem i0_45 : Inv (kernelRun0_A.sl.HS0_45 (F := Ideal) c arg1 harg1 arg2 harg2 arg3 harg3 arg4 harg4 arg5 harg5 arg6 harg6 arg7 harg7 arg16 arg17 x0 x1 x2 x3 x4 x5 x6) 2 (FR x0 x1 x2 x3 x4 x5 x6 2) (SR x0 x3 x4 x5 x6 2) :=
  i0_44.step 1 rfl fun r j => Eq.trans (p222 r j (w_r_73 r j) (w_r_74 r j) (ld1 harg4 x3 2 1 rfl rfl j) (ld1 harg5 x4 2 1 rfl rfl j) (w_v1242 r j)) rfl

theorem w_v1274 (r : Fin 8) (j : Fin 1024) : kernelRun0_A.sl.v1274 (F := Ideal) c arg1 harg1 arg2 harg2 arg3 harg3 arg4 harg4 arg5 harg5 arg6 harg6 arg7 harg7 arg16 arg17 x0 x1 x2 x3 x4 x5 x6 (ix3 0 r j) = SR x0 x3 x4 x5 x6 2 2 r j :=
  i0_45.row 2 rfl (by decide) r j

theorem i0_46 : Inv (kernelRun0_A.sl.HS0_46 (F := Ideal) c arg1 harg1 arg2 harg2 arg3 harg3 arg4 harg4 arg5 harg5 arg6 harg6 arg7 harg7 arg16 arg17 x0 x1 x2 x3 x4 x5 x6) 3 (FR x0 x1 x2 x3 x4 x5 x6 2) (SR x0 x3 x4 x5 x6 2) :=
  i0_45.step 2 rfl fun r j => Eq.trans (p226 r j (w_r_73 r j) (w_r_74 r j) (ld1 harg4 x3 2 2 rfl rfl j) (ld1 harg5 x4 2 2 rfl rfl j) (w_v1274 r j)) rfl

theorem w_r_79 (r : Fin 8) (j : Fin 1024) : kernelRun0_A.sl.r_79 (F := Ideal) c arg5 harg5 x4 (ix2 0 j) = (RW x4 2 3 j) :=
  Eq.trans (p229 r j (ld1 harg5 x4 2 3 rfl rfl j)) rfl

theorem w_v1306 (r : Fin 8) (j : Fin 1024) : kernelRun0_A.sl.v1306 (F := Ideal) c arg1 harg1 arg2 harg2 arg3 harg3 arg4 harg4 arg5 harg5 arg6 harg6 arg7 harg7 arg16 arg17 x0 x1 x2 x3 x4 x5 x6 (ix3 0 r j) = SR x0 x3 x4 x5 x6 2 3 r j :=
  i0_46.row 3 rfl (by decide) r j

theorem w_r_80 (r : Fin 8) (j : Fin 1024) : kernelRun0_A.sl.r_80 (F := Ideal) c arg1 harg1 arg2 harg2 arg3 harg3 arg4 harg4 arg5 harg5 arg6 harg6 arg7 harg7 arg16 arg17 x0 x1 x2 x3 x4 x5 x6 (ix2 r j) = (SR x0 x3 x4 x5 x6 2 3 r j) + ((RW x3 2 3 j) * (RW x1 2 r j)) :=
  Eq.trans (p230 r j (w_r_73 r j) (ld1 harg4 x3 2 3 rfl rfl j) (w_v1306 r j)) rfl

theorem i0_47 : Inv (kernelRun0_A.sl.HS0_47 (F := Ideal) c arg1 harg1 arg2 harg2 arg3 harg3 arg4 harg4 arg5 harg5 arg6 harg6 arg7 harg7 arg16 arg17 x0 x1 x2 x3 x4 x5 x6) 4 (FR x0 x1 x2 x3 x4 x5 x6 2) (SR x0 x3 x4 x5 x6 2) :=
  i0_46.step 3 rfl fun r j => Eq.trans (p231 r j (w_r_74 r j) (w_r_79 r j) (w_r_80 r j)) rfl

theorem w_v1338 (r : Fin 8) (j : Fin 1024) : kernelRun0_A.sl.v1338 (F := Ideal) c arg1 harg1 arg2 harg2 arg3 harg3 arg4 harg4 arg5 harg5 arg6 harg6 arg7 harg7 arg16 arg17 x0 x1 x2 x3 x4 x5 x6 (ix3 0 r j) = SR x0 x3 x4 x5 x6 2 4 r j :=
  i0_47.row 4 rfl (by decide) r j

theorem i0_48 : Inv (kernelRun0_A.sl.HS0_48 (F := Ideal) c arg1 harg1 arg2 harg2 arg3 harg3 arg4 harg4 arg5 harg5 arg6 harg6 arg7 harg7 arg16 arg17 x0 x1 x2 x3 x4 x5 x6) 5 (FR x0 x1 x2 x3 x4 x5 x6 2) (SR x0 x3 x4 x5 x6 2) :=
  i0_47.step 4 rfl fun r j => Eq.trans (p235 r j (w_r_73 r j) (w_r_74 r j) (ld1 harg4 x3 2 4 rfl rfl j) (ld1 harg5 x4 2 4 rfl rfl j) (w_v1338 r j)) rfl

theorem w_v1370 (r : Fin 8) (j : Fin 1024) : kernelRun0_A.sl.v1370 (F := Ideal) c arg1 harg1 arg2 harg2 arg3 harg3 arg4 harg4 arg5 harg5 arg6 harg6 arg7 harg7 arg16 arg17 x0 x1 x2 x3 x4 x5 x6 (ix3 0 r j) = SR x0 x3 x4 x5 x6 2 5 r j :=
  i0_48.row 5 rfl (by decide) r j

theorem i0_49 : Inv (kernelRun0_A.sl.HS0_49 (F := Ideal) c arg1 harg1 arg2 harg2 arg3 harg3 arg4 harg4 arg5 harg5 arg6 harg6 arg7 harg7 arg16 arg17 x0 x1 x2 x3 x4 x5 x6) 6 (FR x0 x1 x2 x3 x4 x5 x6 2) (SR x0 x3 x4 x5 x6 2) :=
  i0_48.step 5 rfl fun r j => Eq.trans (p240 r j (w_r_73 r j) (w_r_74 r j) (ld1 harg4 x3 2 5 rfl rfl j) (ld1 harg5 x4 2 5 rfl rfl j) (w_v1370 r j)) rfl

theorem w_v1402 (r : Fin 8) (j : Fin 1024) : kernelRun0_A.sl.v1402 (F := Ideal) c arg1 harg1 arg2 harg2 arg3 harg3 arg4 harg4 arg5 harg5 arg6 harg6 arg7 harg7 arg16 arg17 x0 x1 x2 x3 x4 x5 x6 (ix3 0 r j) = SR x0 x3 x4 x5 x6 2 6 r j :=
  i0_49.row 6 rfl (by decide) r j

theorem i0_50 : Inv (kernelRun0_A.sl.HS0_50 (F := Ideal) c arg1 harg1 arg2 harg2 arg3 harg3 arg4 harg4 arg5 harg5 arg6 harg6 arg7 harg7 arg16 arg17 x0 x1 x2 x3 x4 x5 x6) 7 (FR x0 x1 x2 x3 x4 x5 x6 2) (SR x0 x3 x4 x5 x6 2) :=
  i0_49.step 6 rfl fun r j => Eq.trans (p244 r j (w_r_73 r j) (w_r_74 r j) (ld1 harg4 x3 2 6 rfl rfl j) (ld1 harg5 x4 2 6 rfl rfl j) (w_v1402 r j)) rfl

theorem w_r_85 (r : Fin 8) (j : Fin 1024) : kernelRun0_A.sl.r_85 (F := Ideal) c arg5 harg5 x4 (ix2 0 j) = (RW x4 2 7 j) :=
  Eq.trans (p247 r j (ld1 harg5 x4 2 7 rfl rfl j)) rfl

theorem w_v1434 (r : Fin 8) (j : Fin 1024) : kernelRun0_A.sl.v1434 (F := Ideal) c arg1 harg1 arg2 harg2 arg3 harg3 arg4 harg4 arg5 harg5 arg6 harg6 arg7 harg7 arg16 arg17 x0 x1 x2 x3 x4 x5 x6 (ix3 0 r j) = SR x0 x3 x4 x5 x6 2 7 r j :=
  i0_50.row 7 rfl (by decide) r j

theorem w_r_86 (r : Fin 8) (j : Fin 1024) : kernelRun0_A.sl.r_86 (F := Ideal) c arg1 harg1 arg2 harg2 arg3 harg3 arg4 harg4 arg5 harg5 arg6 harg6 arg7 harg7 arg16 arg17 x0 x1 x2 x3 x4 x5 x6 (ix2 r j) = (SR x0 x3 x4 x5 x6 2 7 r j) + ((RW x3 2 7 j) * (RW x1 2 r j)) :=
  Eq.trans (p248 r j (w_r_73 r j) (ld1 harg4 x3 2 7 rfl rfl j) (w_v1434 r j)) rfl

theorem i0_51 : Inv (kernelRun0_A.sl.HS0_51 (F := Ideal) c arg1 harg1 arg2 harg2 arg3 harg3 arg4 harg4 arg5 harg5 arg6 harg6 arg7 harg7 arg16 arg17 x0 x1 x2 x3 x4 x5 x6) 8 (FR x0 x1 x2 x3 x4 x5 x6 2) (SR x0 x3 x4 x5 x6 2) :=
  i0_50.step 7 rfl fun r j => Eq.trans (p249 r j (w_r_74 r j) (w_r_85 r j) (w_r_86 r j)) rfl

theorem i1_42 : Inv (kernelRun0_A.sl.HS1_42 (F := Ideal) c arg1 harg1 arg2 harg2 arg3 harg3 arg4 harg4 arg5 harg5 arg6 harg6 arg7 harg7 arg16 arg17 x0 x1 x2 x3 x4 x5 x6) 7 (SI x0 x3 x4 x5 x6 2) (BU x0 x6 2) :=
  i1_41.step 6 rfl fun r j => Eq.trans (p208 r j (w_r_61 r j) (w_r_62 r j) (w_r_69 r j) (w_r_70 r j) (w_v1166 r j)) rfl

theorem w_r_72 (r : Fin 8) (j : Fin 1024) : kernelRun0_A.sl.r_72 (F := Ideal) c arg1 harg1 arg2 harg2 arg3 harg3 arg4 harg4 arg5 harg5 arg6 harg6 arg7 harg7 arg16 arg17 x0 x1 x2 x3 x4 x5 x6 (ix2 r j) = ((RW x3 2 0 j) * (SI x0 x3 x4 x5 x6 2 6 r j)) + ((RW x4 2 0 j) * (SR x0 x3 x4 x5 x6 2 6 r j)) :=
  Eq.trans (p210 r j (w_r_61 r j) (w_r_62 r j) (w_r_69 r j) (w_r_70 r j) (w_v1159 r j) (w_v1166 r j)) rfl

theorem w_v1188 (r : Fin 8) (j : Fin 1024) : kernelRun0_A.sl.v1188 (F := Ideal) c arg1 harg1 arg2 harg2 arg3 harg3 arg4 harg4 arg5 harg5 arg6 harg6 arg7 harg7 arg16 arg17 x0 x1 x2 x3 x4 x5 x6 (ix3 0 r j) = BU x0 x6 2 7 r j :=
  i1_42.row 7 rfl (by decide) r j

theorem i1_43 : Inv (kernelRun0_A.sl.HS1_43 (F := Ideal) c arg1 harg1 arg2 harg2 arg3 harg3 arg4 harg4 arg5 harg5 arg6 harg6 arg7 harg7 arg16 arg17 x0 x1 x2 x3 x4 x5 x6) 8 (SI x0 x3 x4 x5 x6 2) (BU x0 x6 2) :=
  i1_42.step 7 rfl fun r j => Eq.trans (p212 r j (w_r_72 r j) (w_v1188 r j)) rfl

theorem w_r_75 (r : Fin 8) (j : Fin 1024) : kernelRun0_A.sl.r_75 (F := Ideal) c arg4 harg4 x3 (ix2 0 j) = (RW x3 2 0 j) :=
  Eq.trans (p215 r j (ld1 harg4 x3 2 0 rfl rfl j)) rfl

theorem w_r_76 (r : Fin 8) (j : Fin 1024) : kernelRun0_A.sl.r_76 (F := Ideal) c arg5 harg5 x4 (ix2 0 j) = (RW x4 2 0 j) :=
  Eq.trans (p216 r j (ld1 harg5 x4 2 0 rfl rfl j)) rfl

theorem w_v1223 (r : Fin 8) (j : Fin 1024) : kernelRun0_A.sl.v1223 (F := Ideal) c arg1 harg1 arg2 harg2 arg3 harg3 arg4 harg4 arg5 harg5 arg6 harg6 arg7 harg7 arg16 arg17 x0 x1 x2 x3 x4 x5 x6 (ix3 0 r j) = SI x0 x3 x4 x5 x6 2 0 r j :=
  (Inv.next (fun _ _ _ => 0) i1_43).row 0 rfl (by decide) r j

theorem w_r_77 (r : Fin 8) (j : Fin 1024) : kernelRun0_A.sl.r_77 (F := Ideal) c arg1 harg1 arg2 harg2 arg3 harg3 arg4 harg4 arg5 harg5 arg6 harg6 arg7 harg7 arg16 arg17 x0 x1 x2 x3 x4 x5 x6 (ix2 r j) = (SI x0 x3 x4 x5 x6 2 0 r j) :=
  Eq.trans (p218 r j (w_v1223 r j)) rfl

theorem i1_44 : Inv (kernelRun0_A.sl.HS1_44 (F := Ideal) c arg1 harg1 arg2 harg2 arg3 harg3 arg4 harg4 arg5 harg5 arg6 harg6 arg7 harg7 arg16 arg17 x0 x1 x2 x3 x4 x5 x6) 1 (FI x0 x1 x2 x3 x4 x5 x6 2) (SI x0 x3 x4 x5 x6 2) :=
  (Inv.next (FI x0 x1 x2 x3 x4 x5 x6 2) i1_43).step 0 rfl fun r j => Eq.trans (p219 r j (w_r_73 r j) (w_r_74 r j) (w_r_75 r j) (w_r_76 r j) (w_r_77 r j)) rfl

theorem w_v1255 (r : Fin 8) (j : Fin 1024) : kernelRun0_A.sl.v1255 (F := Ideal) c arg1 harg1 arg2 harg2 arg3 harg3 arg4 harg4 arg5 harg5 arg6 harg6 arg7 harg7 arg16 arg17 x0 x1 x2 x3 x4 x5 x6 (ix3 0 r j) = SI x0 x3 x4 x5 x6 2 1 r j :=
  i1_44.row 1 rfl (by decide) r j

theorem i1_45 : Inv (kernelRun0_A.sl.HS1_45 (F := Ideal) c arg1 harg1 arg2 harg2 arg3 harg3 arg4 harg4 arg5 harg5 arg6 harg6 arg7 harg7 arg16 arg17 x0 x1 x2 x3 x4 x5 x6) 2 (FI x0 x1 x2 x3 x4 x5 x6 2) (SI x0 x3 x4 x5 x6 2) :=
  i1_44.step 1 rfl fun r j => Eq.trans (p223 r j (w_r_73 r j) (w_r_74 r j) (ld1 harg4 x3 2 1 rfl rfl j) (ld1 harg5 x4 2 1 rfl rfl j) (w_v1255 r j)) rfl

theorem w_v1287 (r : Fin 8) (j : Fin 1024) : kernelRun0_A.sl.v1287 (F := Ideal) c arg1 harg1 arg2 harg2 arg3 harg3 arg4 harg4 arg5 harg5 arg6 harg6 arg7 harg7 arg16 arg17 x0 x1 x2 x3 x4 x5 x6 (ix3 0 r j) = SI x0 x3 x4 x5 x6 2 2 r j :=
  i1_45.row 2 rfl (by decide) r j

theorem i1_46 : Inv (kernelRun0_A.sl.HS1_46 (F := Ideal) c arg1 harg1 arg2 harg2 arg3 harg3 arg4 harg4 arg5 harg5 arg6 harg6 arg7 harg7 arg16 arg17 x0 x1 x2 x3 x4 x5 x6) 3 (FI x0 x1 x2 x3 x4 x5 x6 2) (SI x0 x3 x4 x5 x6 2) :=
  i1_45.step 2 rfl fun r j => Eq.trans (p227 r j (w_r_73 r j) (w_r_74 r j) (ld1 harg4 x3 2 2 rfl rfl j) (ld1 harg5 x4 2 2 rfl rfl j) (w_v1287 r j)) rfl

theorem w_r_78 (r : Fin 8) (j : Fin 1024) : kernelRun0_A.sl.r_78 (F := Ideal) c arg4 harg4 x3 (ix2 0 j) = (RW x3 2 3 j) :=
  Eq.trans (p228 r j (ld1 harg4 x3 2 3 rfl rfl j)) rfl

theorem w_v1319 (r : Fin 8) (j : Fin 1024) : kernelRun0_A.sl.v1319 (F := Ideal) c arg1 harg1 arg2 harg2 arg3 harg3 arg4 harg4 arg5 harg5 arg6 harg6 arg7 harg7 arg16 arg17 x0 x1 x2 x3 x4 x5 x6 (ix3 0 r j) = SI x0 x3 x4 x5 x6 2 3 r j :=
  i1_46.row 3 rfl (by decide) r j

theorem i1_47 : Inv (kernelRun0_A.sl.HS1_47 (F := Ideal) c arg1 harg1 arg2 harg2 arg3 harg3 arg4 harg4 arg5 harg5 arg6 harg6 arg7 harg7 arg16 arg17 x0 x1 x2 x3 x4 x5 x6) 4 (FI x0 x1 x2 x3 x4 x5 x6 2) (SI x0 x3 x4 x5 x6 2) :=
  i1_46.step 3 rfl fun r j => Eq.trans (p232 r j (w_r_73 r j) (w_r_74 r j) (w_r_78 r j) (w_r_79 r j) (w_v1319 r j)) rfl

theorem w_r_81 (r : Fin 8) (j : Fin 1024) : kernelRun0_A.sl.r_81 (F := Ideal) c arg4 harg4 x3 (ix2 0 j) = (RW x3 2 4 j) :=
  Eq.trans (p233 r j (ld1 harg4 x3 2 4 rfl rfl j)) rfl

theorem w_r_82 (r : Fin 8) (j : Fin 1024) : kernelRun0_A.sl.r_82 (F := Ideal) c arg5 harg5 x4 (ix2 0 j) = (RW x4 2 4 j) :=
  Eq.trans (p234 r j (ld1 harg5 x4 2 4 rfl rfl j)) rfl

theorem w_v1351 (r : Fin 8) (j : Fin 1024) : kernelRun0_A.sl.v1351 (F := Ideal) c arg1 harg1 arg2 harg2 arg3 harg3 arg4 harg4 arg5 harg5 arg6 harg6 arg7 harg7 arg16 arg17 x0 x1 x2 x3 x4 x5 x6 (ix3 0 r j) = SI x0 x3 x4 x5 x6 2 4 r j :=
  i1_47.row 4 rfl (by decide) r j

theorem w_r_83 (r : Fin 8) (j : Fin 1024) : kernelRun0_A.sl.r_83 (F := Ideal) c arg1 harg1 arg2 harg2 arg3 harg3 arg4 harg4 arg5 harg5 arg6 harg6 arg7 harg7 arg16 arg17 x0 x1 x2 x3 x4 x5 x6 (ix2 r j) = (SI x0 x3 x4 x5 x6 2 4 r j) :=
  Eq.trans (p236 r j (w_v1351 r j)) rfl

theorem i1_48 : Inv (kernelRun0_A.sl.HS1_48 (F := Ideal) c arg1 harg1 arg2 harg2 arg3 harg3 arg4 harg4 arg5 harg5 arg6 harg6 arg7 harg7 arg16 arg17 x0 x1 x2 x3 x4 x5 x6) 5 (FI x0 x1 x2 x3 x4 x5 x6 2) (SI x0 x3 x4 x5 x6 2) :=
  i1_47.step 4 rfl fun r j => Eq.trans (p237 r j (w_r_73 r j) (w_r_74 r j) (w_r_81 r j) (w_r_82 r j) (w_r_83 r j)) rfl

theorem w_v1383 (r : Fin 8) (j : Fin 1024) : kernelRun0_A.sl.v1383 (F := Ideal) c arg1 harg1 arg2 harg2 arg3 harg3 arg4 harg4 arg5 harg5 arg6 harg6 arg7 harg7 arg16 arg17 x0 x1 x2 x3 x4 x5 x6 (ix3 0 r j) = SI x0 x3 x4 x5 x6 2 5 r j :=
  i1_48.row 5 rfl (by decide) r j

theorem i1_49 : Inv (kernelRun0_A.sl.HS1_49 (F := Ideal) c arg1 harg1 arg2 harg2 arg3 harg3 arg4 harg4 arg5 harg5 arg6 harg6 arg7 harg7 arg16 arg17 x0 x1 x2 x3 x4 x5 x6) 6 (FI x0 x1 x2 x3 x4 x5 x6 2) (SI x0 x3 x4 x5 x6 2) :=
  i1_48.step 5 rfl fun r j => Eq.trans (p241 r j (w_r_73 r j) (w_r_74 r j) (ld1 harg4 x3 2 5 rfl rfl j) (ld1 harg5 x4 2 5 rfl rfl j) (w_v1383 r j)) rfl

theorem w_v1415 (r : Fin 8) (j : Fin 1024) : kernelRun0_A.sl.v1415 (F := Ideal) c arg1 harg1 arg2 harg2 arg3 harg3 arg4 harg4 arg5 harg5 arg6 harg6 arg7 harg7 arg16 arg17 x0 x1 x2 x3 x4 x5 x6 (ix3 0 r j) = SI x0 x3 x4 x5 x6 2 6 r j :=
  i1_49.row 6 rfl (by decide) r j

theorem i1_50 : Inv (kernelRun0_A.sl.HS1_50 (F := Ideal) c arg1 harg1 arg2 harg2 arg3 harg3 arg4 harg4 arg5 harg5 arg6 harg6 arg7 harg7 arg16 arg17 x0 x1 x2 x3 x4 x5 x6) 7 (FI x0 x1 x2 x3 x4 x5 x6 2) (SI x0 x3 x4 x5 x6 2) :=
  i1_49.step 6 rfl fun r j => Eq.trans (p245 r j (w_r_73 r j) (w_r_74 r j) (ld1 harg4 x3 2 6 rfl rfl j) (ld1 harg5 x4 2 6 rfl rfl j) (w_v1415 r j)) rfl

theorem w_r_84 (r : Fin 8) (j : Fin 1024) : kernelRun0_A.sl.r_84 (F := Ideal) c arg4 harg4 x3 (ix2 0 j) = (RW x3 2 7 j) :=
  Eq.trans (p246 r j (ld1 harg4 x3 2 7 rfl rfl j)) rfl

theorem w_v1447 (r : Fin 8) (j : Fin 1024) : kernelRun0_A.sl.v1447 (F := Ideal) c arg1 harg1 arg2 harg2 arg3 harg3 arg4 harg4 arg5 harg5 arg6 harg6 arg7 harg7 arg16 arg17 x0 x1 x2 x3 x4 x5 x6 (ix3 0 r j) = SI x0 x3 x4 x5 x6 2 7 r j :=
  i1_50.row 7 rfl (by decide) r j

theorem i1_51 : Inv (kernelRun0_A.sl.HS1_51 (F := Ideal) c arg1 harg1 arg2 harg2 arg3 harg3 arg4 harg4 arg5 harg5 arg6 harg6 arg7 harg7 arg16 arg17 x0 x1 x2 x3 x4 x5 x6) 8 (FI x0 x1 x2 x3 x4 x5 x6 2) (SI x0 x3 x4 x5 x6 2) :=
  i1_50.step 7 rfl fun r j => Eq.trans (p250 r j (w_r_73 r j) (w_r_74 r j) (w_r_84 r j) (w_r_85 r j) (w_v1447 r j)) rfl

theorem w_v1459 (r : Fin 8) (j : Fin 1024) : kernelRun0_A.sl.v1459 (F := Ideal) c arg1 harg1 arg2 harg2 arg3 harg3 arg4 harg4 arg5 harg5 arg6 harg6 arg7 harg7 arg16 arg17 x0 x1 x2 x3 x4 x5 x6 (ix3 0 r j) = FR x0 x1 x2 x3 x4 x5 x6 2 7 r j :=
  (Inv.next (fun _ _ _ => 0) i0_51).row 7 rfl (by decide) r j

theorem w_v1462 (r : Fin 8) (j : Fin 1024) : kernelRun0_A.sl.v1462 (F := Ideal) c arg1 harg1 arg2 harg2 arg3 harg3 arg4 harg4 arg5 harg5 arg6 harg6 arg7 harg7 arg16 arg17 x0 x1 x2 x3 x4 x5 x6 (ix3 0 r j) = FI x0 x1 x2 x3 x4 x5 x6 2 7 r j :=
  (Inv.next (fun _ _ _ => 0) i1_51).row 7 rfl (by decide) r j

theorem w_v1465 (t r : Fin 8) (j : Fin 1024) : kernelRun0_A.sl.v1465 (F := Ideal) c arg1 harg1 arg2 harg2 arg3 harg3 arg4 harg4 arg5 harg5 arg6 harg6 arg7 harg7 arg16 arg17 x0 x1 x2 x3 x4 x5 x6 (ix3 t r j) = FR x0 x1 x2 x3 x4 x5 x6 2 t r j :=
  (Inv.next (fun _ _ _ => 0) i0_51).whole t r j

theorem w_v1468 (t r : Fin 8) (j : Fin 1024) : kernelRun0_A.sl.v1468 (F := Ideal) c arg1 harg1 arg2 harg2 arg3 harg3 arg4 harg4 arg5 harg5 arg6 harg6 arg7 harg7 arg16 arg17 x0 x1 x2 x3 x4 x5 x6 (ix3 t r j) = FI x0 x1 x2 x3 x4 x5 x6 2 t r j :=
  (Inv.next (fun _ _ _ => 0) i1_51).whole t r j

end Cert.ScanIdeal.Hand
-- ==== Proof.ScanPay3.lean ====
/- Hand-written, untrusted: the stores of the recurrence's block 3 of lanes, one entry at a time. -/
module

public import proofs.«01_k».proof.Proof.ScanBase

set_option maxRecDepth 16384

@[expose] public section

noncomputable section

open Idealize.ShloMosaic Idealize.ShloMosaic.TcCoe Idealize.SL.Sem

namespace Cert.ScanIdeal.Hand

open Cert.ScanIdeal Cert.ScanIdeal.Gen

theorem p259 (r : Fin 8) (j : Fin 1024) {a0 : Vec Ideal S1x1024 .f32} {s0 : EReal} (h0 : a0 (ix2 0 j) = s0) :
    k0_pay259 (F := Ideal) a0 (ix2 r j) = s0 := by
  pointwise [k0_pay259, h0]

theorem p260 (r : Fin 8) (j : Fin 1024) {a0 : Vec Ideal S1x1024 .f32} {s0 : EReal} (h0 : a0 (ix2 0 j) = s0) :
    k0_pay260 (F := Ideal) a0 (ix2 r j) = s0 := by
  pointwise [k0_pay260, h0]

theorem p264 (r : Fin 8) (j : Fin 1024) {a0 : FVec Ideal S8x1024 .f32} {a1 : Vec Ideal S1x1024 .f32} {a2 : Vec Ideal S1x8x1024 .f32} {s0 s1 s2 : EReal} (h0 : a0 (ix2 r j) = s0) (h1 : a1 (ix2 0 j) = s1) (h2 : a2 (ix3 0 r j) = s2) :
    k0_pay264 (F := Ideal) a0 a1 a2 (ix3 0 r j) = ((s0 * 0) - (s1 * 0)) + s2 := by
  pointwise [k0_pay260, k0_pay261, k0_pay262, k0_pay264, h0, h1, h2]

theorem p265 (r : Fin 8) (j : Fin 1024) {a0 : FVec Ideal S8x1024 .f32} {a1 : Vec Ideal S1x1024 .f32} {a2 : Vec Ideal S1x8x1024 .f32} {s0 s1 s2 : EReal} (h0 : a0 (ix2 r j) = s0) (h1 : a1 (ix2 0 j) = s1) (h2 : a2 (ix3 0 r j) = s2) :
    k0_pay265 (F := Ideal) a0 a1 a2 (ix3 0 r j) = ((s0 * 0) + (s1 * 0)) + s2 := by
  pointwise [k0_pay260, k0_pay261, k0_pay263, k0_pay265, h0, h1, h2]

theorem p266 (r : Fin 8) (j : Fin 1024) {a0 : FVec Ideal S8x1024 .f32} {a1 : Vec Ideal S1x1024 .f32} {a2 : Vec Ideal S1x8x1024 .f32} {a3 : Vec Ideal S1x8x1024 .f32} {a4 : Vec Ideal S1x8x1024 .f32} {s0 s1 s2 s3 s4 : EReal} (h0 : a0 (ix2 r j) = s0) (h1 : a1 (ix2 0 j) = s1) (h2 : a2 (ix3 0 r j) = s2) (h3 : a3 (ix3 0 r j) = s3) (h4 : a4 (ix3 0 r j) = s4) :
    k0_pay266 (F := Ideal) a0 a1 a2 a3 a4 (ix2 r j) = ((s0 * (((s0 * 0) - (s1 * 0)) + s2)) - (s1 * (((s0 * 0) + (s1 * 0)) + s3))) + s4 := by
  pointwise [k0_pay260, k0_pay261, k0_pay262, k0_pay263, k0_pay266, h0, h1, h2, h3, h4]

theorem p267 (r : Fin 8) (j : Fin 1024) {a0 : FVec Ideal S8x1024 .f32} {a1 : Vec Ideal S1x1024 .f32} {a2 : Vec Ideal S1x8x1024 .f32} {a3 : Vec Ideal S1x8x1024 .f32} {a4 : Vec Ideal S1x8x1024 .f32} {s0 s1 s2 s3 s4 : EReal} (h0 : a0 (ix2 r j) = s0) (h1 : a1 (ix2 0 j) = s1) (h2 : a2 (ix3 0 r j) = s2) (h3 : a3 (ix3 0 r j) = s3) (h4 : a4 (ix3 0 r j) = s4) :
    k0_pay267 (F := Ideal) a0 a1 a2 a3 a4 (ix2 r j) = ((s0 * (((s0 * 0) + (s1 * 0)) + s3)) + (s1 * (((s0 * 0) - (s1 * 0)) + s2))) + s4 := by
  pointwise [k0_pay260, k0_pay261, k0_pay262, k0_pay263, k0_pay267, h0, h1, h2, h3, h4]

theorem p268 (r : Fin 8) (j : Fin 1024) {a0 : FVec Ideal S8x1024 .f32} {s0 : EReal} (h0 : a0 (ix2 r j) = s0) :
    k0_pay268 (F := Ideal) a0 (ix3 0 r j) = s0 := by
  pointwise [k0_pay268, h0]

theorem p269 (r : Fin 8) (j : Fin 1024) {a0 : FVec Ideal S8x1024 .f32} {s0 : EReal} (h0 : a0 (ix2 r j) = s0) :
    k0_pay269 (F := Ideal) a0 (ix3 0 r j) = s0 := by
  pointwise [k0_pay269, h0]

theorem p272 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {s0 s1 s2 s3 s4 : EReal} (h0 : a0 (ix2 r j) = s0) (h1 : a1 (ix2 r j) = s1) (h2 : a2 (ix2 r j) = s2) (h3 : a3 (ix2 r j) = s3) (h4 : a4 (ix3 0 r j) = s4) :
    k0_pay272 (F := Ideal) a0 a1 a2 a3 a4 (ix3 0 r j) = ((s0 * s2) - (s1 * s3)) + s4 := by
  pointwise [k0_pay270, k0_pay272, h0, h1, h2, h3, h4]

theorem p273 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {s0 s1 s2 s3 s4 : EReal} (h0 : a0 (ix2 r j) = s0) (h1 : a1 (ix2 r j) = s1) (h2 : a2 (ix2 r j) = s2) (h3 : a3 (ix2 r j) = s3) (h4 : a4 (ix3 0 r j) = s4) :
    k0_pay273 (F := Ideal) a0 a1 a2 a3 a4 (ix3 0 r j) = ((s0 * s3) + (s1 * s2)) + s4 := by
  pointwise [k0_pay271, k0_pay273, h0, h1, h2, h3, h4]

theorem p274 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {a6 : Vec Ideal S1x8x1024 .f32} {s0 s1 s2 s3 s4 s5 s6 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) (h6 : a6 (ix3 0 r j) = s6) :
    k0_pay274 (F := Ideal) a0 a1 a2 a3 a4 a5 a6 (ix2 r j) = ((s0 * (((s0 * s2) - (s1 * s3)) + s4)) - (s1 * (((s0 * s3) + (s1 * s2)) + s5))) + s6 := by
  pointwise [k0_pay270, k0_pay271, k0_pay274, h0, h1, h2, h3, h4, h5, h6]

theorem p275 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {s0 s1 s2 s3 s4 s5 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) :
    k0_pay275 (F := Ideal) a0 a1 a2 a3 a4 a5 (ix2 r j) = (s0 * (((s0 * s3) + (s1 * s2)) + s5)) + (s1 * (((s0 * s2) - (s1 * s3)) + s4)) := by
  pointwise [k0_pay270, k0_pay271, k0_pay275, h0, h1, h2, h3, h4, h5]

theorem p277 (r : Fin 8) (j : Fin 1024) {a0 : FVec Ideal S8x1024 .f32} {s0 : EReal} (h0 : a0 (ix2 r j) = s0) :
    k0_pay277 (F := Ideal) a0 (ix3 0 r j) = s0 := by
  pointwise [k0_pay277, h0]

theorem p278 (r : Fin 8) (j : Fin 1024) {a0 : FVec Ideal S8x1024 .f32} {a1 : Vec Ideal S1x8x1024 .f32} {s0 s1 : EReal} (h0 : a0 (ix2 r j) = s0) (h1 : a1 (ix3 0 r j) = s1) :
    k0_pay278 (F := Ideal) a0 a1 (ix3 0 r j) = s0 + s1 := by
  pointwise [k0_pay276, k0_pay278, h0, h1]

theorem p279 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {s0 s1 s2 s3 s4 s5 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) :
    k0_pay279 (F := Ideal) a0 a1 a2 a3 a4 a5 (ix2 r j) = ((s0 * s2) - (s1 * (s3 + s4))) + s5 := by
  pointwise [k0_pay276, k0_pay279, h0, h1, h2, h3, h4, h5]

theorem p280 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {s0 s1 s2 s3 s4 s5 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) :
    k0_pay280 (F := Ideal) a0 a1 a2 a3 a4 a5 (ix2 r j) = ((s0 * (s3 + s4)) + (s1 * s2)) + s5 := by
  pointwise [k0_pay276, k0_pay280, h0, h1, h2, h3, h4, h5]

theorem p281 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {s0 s1 s2 s3 s4 s5 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) :
    k0_pay281 (F := Ideal) a0 a1 a2 a3 a4 a5 (ix3 0 r j) = ((s0 * s2) - (s1 * (s3 + s4))) + s5 := by
  pointwise [k0_pay276, k0_pay279, k0_pay281, h0, h1, h2, h3, h4, h5]

theorem p282 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {s0 s1 s2 s3 s4 s5 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) :
    k0_pay282 (F := Ideal) a0 a1 a2 a3 a4 a5 (ix3 0 r j) = ((s0 * (s3 + s4)) + (s1 * s2)) + s5 := by
  pointwise [k0_pay276, k0_pay280, k0_pay282, h0, h1, h2, h3, h4, h5]

theorem p283 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {a5 : Vec Ideal S1x8x1024 .f32} {a6 : Vec Ideal S1x8x1024 .f32} {a7 : Vec Ideal S1x8x1024 .f32} {s0 s1 s2 s3 s4 s5 s6 s7 : EReal} (h0 : a0 (ix2 r j) = s0) (h1 : a1 (ix2 r j) = s1) (h2 : a2 (ix2 r j) = s2) (h3 : a3 (ix2 r j) = s3) (h4 : a4 (ix3 0 r j) = s4) (h5 : a5 (ix3 0 r j) = s5) (h6 : a6 (ix3 0 r j) = s6) (h7 : a7 (ix3 0 r j) = s7) :
    k0_pay283 (F := Ideal) a0 a1 a2 a3 a4 a5 a6 a7 (ix2 r j) = ((s0 * (((s0 * s2) - (s1 * (s3 + s4))) + s5)) - (s1 * (((s0 * (s3 + s4)) + (s1 * s2)) + s6))) + s7 := by
  pointwise [k0_pay276, k0_pay279, k0_pay280, k0_pay283, h0, h1, h2, h3, h4, h5, h6, h7]

theorem p285 (r : Fin 8) (j : Fin 1024) {a0 : FVec Ideal S8x1024 .f32} {s0 : EReal} (h0 : a0 (ix2 r j) = s0) :
    k0_pay285 (F := Ideal) a0 (ix3 0 r j) = s0 := by
  pointwise [k0_pay285, h0]

theorem p286 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {s0 s1 s2 s3 s4 : EReal} (h0 : a0 (ix2 r j) = s0) (h1 : a1 (ix2 r j) = s1) (h2 : a2 (ix2 r j) = s2) (h3 : a3 (ix2 r j) = s3) (h4 : a4 (ix3 0 r j) = s4) :
    k0_pay286 (F := Ideal) a0 a1 a2 a3 a4 (ix3 0 r j) = ((s0 * s3) + (s1 * s2)) + s4 := by
  pointwise [k0_pay284, k0_pay286, h0, h1, h2, h3, h4]

theorem p287 (r : Fin 8) (j : Fin 1024) {a0 : FVec Ideal S8x1024 .f32} {a1 : FVec Ideal S8x1024 .f32} {a2 : FVec Ideal S8x1024 .f32} {a3 : FVec Ideal S8x1024 .f32} {a4 : FVec Ideal S8x1024 .f32} {a5 : Vec Ideal S1x8x1024 .f32} {a6 : Vec Ideal S1x8x1024 .f32} {s0 s1 s2 s3 s4 s5 s6 : EReal} (h0 : a0 (ix2 r j) = s0) (h1 : a1 (ix2 r j) = s1) (h2 : a2 (ix2 r j) = s2) (h3 : a3 (ix2 r j) = s3) (h4 : a4 (ix2 r j) = s4) (h5 : a5 (ix3 0 r j) = s5) (h6 : a6 (ix3 0 r j) = s6) :
    k0_pay287 (F := Ideal) a0 a1 a2 a3 a4 a5 a6 (ix2 r j) = ((s0 * s4) - (s1 * (((s0 * s3) + (s1 * s2)) + s5))) + s6 := by
  pointwise [k0_pay284, k0_pay287, h0, h1, h2, h3, h4, h5, h6]

theorem p288 (r : Fin 8) (j : Fin 1024) {a0 : FVec Ideal S8x1024 .f32} {a1 : FVec Ideal S8x1024 .f32} {a2 : FVec Ideal S8x1024 .f32} {a3 : FVec Ideal S8x1024 .f32} {a4 : FVec Ideal S8x1024 .f32} {a5 : Vec Ideal S1x8x1024 .f32} {a6 : Vec Ideal S1x8x1024 .f32} {s0 s1 s2 s3 s4 s5 s6 : EReal} (h0 : a0 (ix2 r j) = s0) (h1 : a1 (ix2 r j) = s1) (h2 : a2 (ix2 r j) = s2) (h3 : a3 (ix2 r j) = s3) (h4 : a4 (ix2 r j) = s4) (h5 : a5 (ix3 0 r j) = s5) (h6 : a6 (ix3 0 r j) = s6) :
    k0_pay288 (F := Ideal) a0 a1 a2 a3 a4 a5 a6 (ix2 r j) = ((s0 * (((s0 * s3) + (s1 * s2)) + s5)) + (s1 * s4)) + s6 := by
  pointwise [k0_pay284, k0_pay288, h0, h1, h2, h3, h4, h5, h6]

theorem p289 (r : Fin 8) (j : Fin 1024) {a0 : FVec Ideal S8x1024 .f32} {a1 : FVec Ideal S8x1024 .f32} {a2 : FVec Ideal S8x1024 .f32} {a3 : FVec Ideal S8x1024 .f32} {a4 : FVec Ideal S8x1024 .f32} {a5 : Vec Ideal S1x8x1024 .f32} {a6 : Vec Ideal S1x8x1024 .f32} {s0 s1 s2 s3 s4 s5 s6 : EReal} (h0 : a0 (ix2 r j) = s0) (h1 : a1 (ix2 r j) = s1) (h2 : a2 (ix2 r j) = s2) (h3 : a3 (ix2 r j) = s3) (h4 : a4 (ix2 r j) = s4) (h5 : a5 (ix3 0 r j) = s5) (h6 : a6 (ix3 0 r j) = s6) :
    k0_pay289 (F := Ideal) a0 a1 a2 a3 a4 a5 a6 (ix3 0 r j) = ((s0 * s4) - (s1 * (((s0 * s3) + (s1 * s2)) + s5))) + s6 := by
  pointwise [k0_pay284, k0_pay287, k0_pay289, h0, h1, h2, h3, h4, h5, h6]

theorem p290 (r : Fin 8) (j : Fin 1024) {a0 : FVec Ideal S8x1024 .f32} {a1 : FVec Ideal S8x1024 .f32} {a2 : FVec Ideal S8x1024 .f32} {a3 : FVec Ideal S8x1024 .f32} {a4 : FVec Ideal S8x1024 .f32} {a5 : Vec Ideal S1x8x1024 .f32} {a6 : Vec Ideal S1x8x1024 .f32} {s0 s1 s2 s3 s4 s5 s6 : EReal} (h0 : a0 (ix2 r j) = s0) (h1 : a1 (ix2 r j) = s1) (h2 : a2 (ix2 r j) = s2) (h3 : a3 (ix2 r j) = s3) (h4 : a4 (ix2 r j) = s4) (h5 : a5 (ix3 0 r j) = s5) (h6 : a6 (ix3 0 r j) = s6) :
    k0_pay290 (F := Ideal) a0 a1 a2 a3 a4 a5 a6 (ix3 0 r j) = ((s0 * (((s0 * s3) + (s1 * s2)) + s5)) + (s1 * s4)) + s6 := by
  pointwise [k0_pay284, k0_pay288, k0_pay290, h0, h1, h2, h3, h4, h5, h6]

theorem p291 (r : Fin 8) (j : Fin 1024) {a0 : FVec Ideal S8x1024 .f32} {a1 : FVec Ideal S8x1024 .f32} {a2 : FVec Ideal S8x1024 .f32} {a3 : FVec Ideal S8x1024 .f32} {a4 : FVec Ideal S8x1024 .f32} {a5 : Vec Ideal S1x8x1024 .f32} {a6 : Vec Ideal S1x8x1024 .f32} {a7 : Vec Ideal S1x8x1024 .f32} {s0 s1 s2 s3 s4 s5 s6 s7 : EReal} (h0 : a0 (ix2 r j) = s0) (h1 : a1 (ix2 r j) = s1) (h2 : a2 (ix2 r j) = s2) (h3 : a3 (ix2 r j) = s3) (h4 : a4 (ix2 r j) = s4) (h5 : a5 (ix3 0 r j) = s5) (h6 : a6 (ix3 0 r j) = s6) (h7 : a7 (ix3 0 r j) = s7) :
    k0_pay291 (F := Ideal) a0 a1 a2 a3 a4 a5 a6 a7 (ix2 r j) = (s0 * (((s0 * s4) - (s1 * (((s0 * s3) + (s1 * s2)) + s5))) + s6)) - (s1 * (((s0 * (((s0 * s3) + (s1 * s2)) + s5)) + (s1 * s4)) + s7)) := by
  pointwise [k0_pay284, k0_pay287, k0_pay288, k0_pay291, h0, h1, h2, h3, h4, h5, h6, h7]

theorem p292 (r : Fin 8) (j : Fin 1024) {a0 : FVec Ideal S8x1024 .f32} {a1 : Vec Ideal S1x8x1024 .f32} {s0 s1 : EReal} (h0 : a0 (ix2 r j) = s0) (h1 : a1 (ix3 0 r j) = s1) :
    k0_pay292 (F := Ideal) a0 a1 (ix3 0 r j) = s0 + s1 := by
  pointwise [k0_pay292, h0, h1]

theorem p293 (r : Fin 8) (j : Fin 1024) {a0 : FVec Ideal S8x1024 .f32} {a1 : FVec Ideal S8x1024 .f32} {a2 : FVec Ideal S8x1024 .f32} {a3 : FVec Ideal S8x1024 .f32} {a4 : Vec Ideal S1x8x1024 .f32} {s0 s1 s2 s3 s4 : EReal} (h0 : a0 (ix2 r j) = s0) (h1 : a1 (ix2 r j) = s1) (h2 : a2 (ix2 r j) = s2) (h3 : a3 (ix2 r j) = s3) (h4 : a4 (ix3 0 r j) = s4) :
    k0_pay293 (F := Ideal) a0 a1 a2 a3 a4 (ix3 0 r j) = ((s0 * s3) + (s1 * s2)) + s4 := by
  pointwise [k0_pay293, h0, h1, h2, h3, h4]

theorem p294 (r : Fin 8) (j : Fin 1024) {a0 : Vec Ideal S8x1024 .f32} {s0 : EReal} (h0 : a0 (ix2 r j) = s0) :
    k0_pay294 (F := Ideal) a0 (ix2 r j) = s0 := by
  pointwise [k0_pay294, h0]

theorem p295 (r : Fin 8) (j : Fin 1024) {a0 : Vec Ideal S8x1024 .f32} {s0 : EReal} (h0 : a0 (ix2 r j) = s0) :
    k0_pay295 (F := Ideal) a0 (ix2 r j) = s0 := by
  pointwise [k0_pay295, h0]

theorem p296 (r : Fin 8) (j : Fin 1024) {a0 : Vec Ideal S1x1024 .f32} {s0 : EReal} (h0 : a0 (ix2 0 j) = s0) :
    k0_pay296 (F := Ideal) a0 (ix2 0 j) = s0 := by
  pointwise [k0_pay296, h0]

theorem p297 (r : Fin 8) (j : Fin 1024) {a0 : Vec Ideal S1x1024 .f32} {s0 : EReal} (h0 : a0 (ix2 0 j) = s0) :
    k0_pay297 (F := Ideal) a0 (ix2 0 j) = s0 := by
  pointwise [k0_pay297, h0]

theorem p298 (r : Fin 8) (j : Fin 1024) {a0 : Vec Ideal S8x1024 .f32} {a1 : Vec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay298 (F := Ideal) a0 a1 a2 a3 a4 (ix2 r j) = (s4 + (s2 * s0)) - (s3 * s1) := by
  pointwise [k0_pay294, k0_pay295, k0_pay296, k0_pay297, k0_pay298, h0, h1, h2, h3, h4]

theorem p299 (r : Fin 8) (j : Fin 1024) {a0 : FVec Ideal S8x1024 .f32} {s0 : EReal} (h0 : a0 (ix2 r j) = s0) :
    k0_pay299 (F := Ideal) a0 (ix3 0 r j) = s0 := by
  pointwise [k0_pay299, h0]

theorem p300 (r : Fin 8) (j : Fin 1024) {a0 : FVec Ideal S8x1024 .f32} {a1 : FVec Ideal S8x1024 .f32} {a2 : FVec Ideal S1x1024 .f32} {a3 : FVec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay300 (F := Ideal) a0 a1 a2 a3 a4 (ix3 0 r j) = (s4 + (s2 * s1)) + (s3 * s0) := by
  pointwise [k0_pay300, h0, h1, h2, h3, h4]

theorem p303 (r : Fin 8) (j : Fin 1024) {a0 : FVec Ideal S8x1024 .f32} {a1 : FVec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay303 (F := Ideal) a0 a1 a2 a3 a4 (ix3 0 r j) = (s4 + (s2 * s0)) - (s3 * s1) := by
  pointwise [k0_pay301, k0_pay302, k0_pay303, h0, h1, h2, h3, h4]

theorem p304 (r : Fin 8) (j : Fin 1024) {a0 : FVec Ideal S8x1024 .f32} {a1 : Vec Ideal S1x1024 .f32} {a2 : Vec Ideal S1x8x1024 .f32} {s0 s1 s2 : EReal} (h0 : a0 (ix2 r j) = s0) (h1 : a1 (ix2 0 j) = s1) (h2 : a2 (ix3 0 r j) = s2) :
    k0_pay304 (F := Ideal) a0 a1 a2 (ix2 r j) = s2 + (s1 * s0) := by
  pointwise [k0_pay301, k0_pay304, h0, h1, h2]

theorem p305 (r : Fin 8) (j : Fin 1024) {a0 : FVec Ideal S8x1024 .f32} {a1 : Vec Ideal S1x1024 .f32} {s0 s1 : EReal} (h0 : a0 (ix2 r j) = s0) (h1 : a1 (ix2 0 j) = s1) :
    k0_pay305 (F := Ideal) a0 a1 (ix2 r j) = s1 * s0 := by
  pointwise [k0_pay302, k0_pay305, h0, h1]

theorem p306 (r : Fin 8) (j : Fin 1024) {a0 : FVec Ideal S8x1024 .f32} {a1 : FVec Ideal S8x1024 .f32} {s0 s1 : EReal} (h0 : a0 (ix2 r j) = s0) (h1 : a1 (ix2 r j) = s1) :
    k0_pay306 (F := Ideal) a0 a1 (ix3 0 r j) = s0 + s1 := by
  pointwise [k0_pay306, h0, h1]

theorem p309 (r : Fin 8) (j : Fin 1024) {a0 : FVec Ideal S8x1024 .f32} {a1 : FVec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay309 (F := Ideal) a0 a1 a2 a3 a4 (ix3 0 r j) = (s4 + (s2 * s0)) - (s3 * s1) := by
  pointwise [k0_pay307, k0_pay308, k0_pay309, h0, h1, h2, h3, h4]

theorem p310 (r : Fin 8) (j : Fin 1024) {a0 : FVec Ideal S8x1024 .f32} {a1 : FVec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay310 (F := Ideal) a0 a1 a2 a3 a4 (ix3 0 r j) = (s4 + (s2 * s1)) + (s3 * s0) := by
  pointwise [k0_pay307, k0_pay308, k0_pay310, h0, h1, h2, h3, h4]

theorem p311 (r : Fin 8) (j : Fin 1024) {a0 : Vec Ideal S1x1024 .f32} {s0 : EReal} (h0 : a0 (ix2 0 j) = s0) :
    k0_pay311 (F := Ideal) a0 (ix2 0 j) = s0 := by
  pointwise [k0_pay311, h0]

theorem p313 (r : Fin 8) (j : Fin 1024) {a0 : FVec Ideal S8x1024 .f32} {a1 : FVec Ideal S8x1024 .f32} {a2 : FVec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay313 (F := Ideal) a0 a1 a2 a3 a4 (ix3 0 r j) = (s4 + (s2 * s0)) - (s3 * s1) := by
  pointwise [k0_pay312, k0_pay313, h0, h1, h2, h3, h4]

theorem p314 (r : Fin 8) (j : Fin 1024) {a0 : FVec Ideal S8x1024 .f32} {a1 : FVec Ideal S8x1024 .f32} {a2 : FVec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay314 (F := Ideal) a0 a1 a2 a3 a4 (ix3 0 r j) = (s4 + (s2 * s1)) + (s3 * s0) := by
  pointwise [k0_pay312, k0_pay314, h0, h1, h2, h3, h4]

theorem p315 (r : Fin 8) (j : Fin 1024) {a0 : Vec Ideal S1x1024 .f32} {s0 : EReal} (h0 : a0 (ix2 0 j) = s0) :
    k0_pay315 (F := Ideal) a0 (ix2 0 j) = s0 := by
  pointwise [k0_pay315, h0]

theorem p316 (r : Fin 8) (j : Fin 1024) {a0 : Vec Ideal S1x1024 .f32} {s0 : EReal} (h0 : a0 (ix2 0 j) = s0) :
    k0_pay316 (F := Ideal) a0 (ix2 0 j) = s0 := by
  pointwise [k0_pay316, h0]

theorem p317 (r : Fin 8) (j : Fin 1024) {a0 : FVec Ideal S8x1024 .f32} {a1 : FVec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay317 (F := Ideal) a0 a1 a2 a3 a4 (ix2 r j) = (s4 + (s2 * s0)) - (s3 * s1) := by
  pointwise [k0_pay315, k0_pay316, k0_pay317, h0, h1, h2, h3, h4]

theorem p318 (r : Fin 8) (j : Fin 1024) {a0 : FVec Ideal S8x1024 .f32} {s0 : EReal} (h0 : a0 (ix2 r j) = s0) :
    k0_pay318 (F := Ideal) a0 (ix3 0 r j) = s0 := by
  pointwise [k0_pay318, h0]

theorem p319 (r : Fin 8) (j : Fin 1024) {a0 : FVec Ideal S8x1024 .f32} {a1 : FVec Ideal S8x1024 .f32} {a2 : FVec Ideal S1x1024 .f32} {a3 : FVec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay319 (F := Ideal) a0 a1 a2 a3 a4 (ix3 0 r j) = (s4 + (s2 * s1)) + (s3 * s0) := by
  pointwise [k0_pay319, h0, h1, h2, h3, h4]

theorem p322 (r : Fin 8) (j : Fin 1024) {a0 : FVec Ideal S8x1024 .f32} {a1 : FVec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay322 (F := Ideal) a0 a1 a2 a3 a4 (ix3 0 r j) = (s4 + (s2 * s0)) - (s3 * s1) := by
  pointwise [k0_pay320, k0_pay321, k0_pay322, h0, h1, h2, h3, h4]

theorem p323 (r : Fin 8) (j : Fin 1024) {a0 : FVec Ideal S8x1024 .f32} {a1 : Vec Ideal S1x1024 .f32} {a2 : Vec Ideal S1x8x1024 .f32} {s0 s1 s2 : EReal} (h0 : a0 (ix2 r j) = s0) (h1 : a1 (ix2 0 j) = s1) (h2 : a2 (ix3 0 r j) = s2) :
    k0_pay323 (F := Ideal) a0 a1 a2 (ix2 r j) = s2 + (s1 * s0) := by
  pointwise [k0_pay320, k0_pay323, h0, h1, h2]

theorem p324 (r : Fin 8) (j : Fin 1024) {a0 : FVec Ideal S8x1024 .f32} {a1 : Vec Ideal S1x1024 .f32} {s0 s1 : EReal} (h0 : a0 (ix2 r j) = s0) (h1 : a1 (ix2 0 j) = s1) :
    k0_pay324 (F := Ideal) a0 a1 (ix2 r j) = s1 * s0 := by
  pointwise [k0_pay321, k0_pay324, h0, h1]

theorem p325 (r : Fin 8) (j : Fin 1024) {a0 : FVec Ideal S8x1024 .f32} {a1 : FVec Ideal S8x1024 .f32} {s0 s1 : EReal} (h0 : a0 (ix2 r j) = s0) (h1 : a1 (ix2 r j) = s1) :
    k0_pay325 (F := Ideal) a0 a1 (ix3 0 r j) = s0 + s1 := by
  pointwise [k0_pay325, h0, h1]

theorem p328 (r : Fin 8) (j : Fin 1024) {a0 : FVec Ideal S8x1024 .f32} {a1 : FVec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay328 (F := Ideal) a0 a1 a2 a3 a4 (ix3 0 r j) = (s4 + (s2 * s0)) - (s3 * s1) := by
  pointwise [k0_pay326, k0_pay327, k0_pay328, h0, h1, h2, h3, h4]

theorem p329 (r : Fin 8) (j : Fin 1024) {a0 : FVec Ideal S8x1024 .f32} {a1 : FVec Ideal S8x1024 .f32} {a2 : Vec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay329 (F := Ideal) a0 a1 a2 a3 a4 (ix3 0 r j) = (s4 + (s2 * s1)) + (s3 * s0) := by
  pointwise [k0_pay326, k0_pay327, k0_pay329, h0, h1, h2, h3, h4]

theorem p330 (r : Fin 8) (j : Fin 1024) {a0 : Vec Ideal S1x1024 .f32} {s0 : EReal} (h0 : a0 (ix2 0 j) = s0) :
    k0_pay330 (F := Ideal) a0 (ix2 0 j) = s0 := by
  pointwise [k0_pay330, h0]

theorem p332 (r : Fin 8) (j : Fin 1024) {a0 : FVec Ideal S8x1024 .f32} {a1 : FVec Ideal S8x1024 .f32} {a2 : FVec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay332 (F := Ideal) a0 a1 a2 a3 a4 (ix3 0 r j) = (s4 + (s2 * s0)) - (s3 * s1) := by
  pointwise [k0_pay331, k0_pay332, h0, h1, h2, h3, h4]

theorem p333 (r : Fin 8) (j : Fin 1024) {a0 : FVec Ideal S8x1024 .f32} {a1 : FVec Ideal S8x1024 .f32} {a2 : FVec Ideal S1x1024 .f32} {a3 : Vec Ideal S1x1024 .f32} {a4 : Vec Ideal S1x8x1024 .f32} {s0 s1 s2 s3 s4 : EReal} (h0 : a0 (ix2 r j) = s0) (h1 : a1 (ix2 r j) = s1) (h2 : a2 (ix2 0 j) = s2) (h3 : a3 (ix2 0 j) = s3) (h4 : a4 (ix3 0 r j) = s4) :
    k0_pay333 (F := Ideal) a0 a1 a2 a3 a4 (ix3 0 r j) = (s4 + (s2 * s1)) + (s3 * s0) := by
  pointwise [k0_pay331, k0_pay333, h0, h1, h2, h3, h4]

end Cert.ScanIdeal.Hand
-- ==== Proof.ScanBlk3.lean ====
/- Hand-written, untrusted: the recurrence over block 3 of lanes, step after step. -/
module

public import proofs.«01_k».proof.Proof.ScanPay3
public import proofs.«01_k».proof.Proof.ScanInit

set_option maxRecDepth 16384

@[expose] public section

noncomputable section

open Idealize.ShloMosaic Idealize.ShloMosaic.TcCoe Idealize.SL.Sem

namespace Cert.ScanIdeal.Hand

open Cert.ScanIdeal Cert.ScanIdeal.Gen

variable {c : Dev nD}
variable {arg1 : Memref sig .tc .vmem S64x1024 .f32} {harg1 : arg1.IsWhole}
variable {arg2 : Memref sig .tc .vmem S8x4096 .f32} {harg2 : arg2.IsWhole}
variable {arg3 : Memref sig .tc .vmem S8x4096 .f32} {harg3 : arg3.IsWhole}
variable {arg4 : Memref sig .tc .vmem S8x4096 .f32} {harg4 : arg4.IsWhole}
variable {arg5 : Memref sig .tc .vmem S8x4096 .f32} {harg5 : arg5.IsWhole}
variable {arg6 : Memref sig .tc .vmem S4x256x1024 .bf16} {harg6 : arg6.IsWhole}
variable {arg7 : Memref sig .tc .vmem S4x256x1024 .bf16} {harg7 : arg7.IsWhole}
variable {arg8 : Memref sig .tc .vmem S4x1024x256 .bf16} {harg8 : arg8.IsWhole}
variable {arg9 : Memref sig .tc .vmem S4x1024x256 .bf16} {harg9 : arg9.IsWhole}
variable {arg10 : Memref sig .tc .vmem S1x1024 .f32} {harg10 : arg10.IsWhole}
variable {arg11 : Memref sig .tc .vmem S1024x1024 .bf16} {harg11 : arg11.IsWhole}
variable {arg12 : Memref sig .tc .vmem S1x1024 .f32} {harg12 : arg12.IsWhole}
variable {arg16 : Memref sig .tc .vmem S8x8x1024 .f32} {harg16 : arg16.IsWhole}
variable {arg17 : Memref sig .tc .vmem S8x8x1024 .f32} {harg17 : arg17.IsWhole}
variable {arg18 : Memref sig .tc .vmem S64x1024 .f32} {harg18 : arg18.IsWhole}
variable {x0 : FVec Ideal S64x1024 .f32} {x1 x2 x3 x4 : FVec Ideal S8x4096 .f32} {x5 x6 : FVec Ideal S4x256x1024 .bf16}
  {x7 x8 : FVec Ideal S4x1024x256 .bf16}

theorem i0_52 : Inv (kernelRun0_A.sl.HS0_52 (F := Ideal) c arg1 harg1 arg2 harg2 arg3 harg3 arg4 harg4 arg5 harg5 arg6 harg6 arg7 harg7 arg16 arg17 x0 x1 x2 x3 x4 x5 x6) 0 (SR x0 x3 x4 x5 x6 3) (BU x0 x5 3) :=
  Inv.all _ fun t r j => init0_3 t r j

theorem w_r_89 (r : Fin 8) (j : Fin 1024) : kernelRun0_A.sl.r_89 (F := Ideal) c arg4 harg4 x3 (ix2 r j) = (RW x3 3 0 j) :=
  Eq.trans (p259 r j (ld1 harg4 x3 3 0 rfl rfl j)) rfl

theorem w_r_90 (r : Fin 8) (j : Fin 1024) : kernelRun0_A.sl.r_90 (F := Ideal) c arg5 harg5 x4 (ix2 0 j) = RW x4 3 0 j :=
  ld1 harg5 x4 3 0 rfl rfl j

theorem w_v1509 (r : Fin 8) (j : Fin 1024) : kernelRun0_A.sl.v1509 (F := Ideal) c arg1 harg1 arg2 harg2 arg3 harg3 arg4 harg4 arg5 harg5 arg6 harg6 arg7 harg7 arg16 arg17 x0 x1 x2 x3 x4 x5 x6 (ix3 0 r j) = BU x0 x5 3 0 r j :=
  i0_52.row 0 rfl (by decide) r j

theorem i0_53 : Inv (kernelRun0_A.sl.HS0_53 (F := Ideal) c arg1 harg1 arg2 harg2 arg3 harg3 arg4 harg4 arg5 harg5 arg6 harg6 arg7 harg7 arg16 arg17 x0 x1 x2 x3 x4 x5 x6) 1 (SR x0 x3 x4 x5 x6 3) (BU x0 x5 3) :=
  i0_52.step 0 rfl fun r j => Eq.trans (p264 r j (w_r_89 r j) (w_r_90 r j) (w_v1509 r j)) rfl

theorem i1_52 : Inv (kernelRun0_A.sl.HS1_52 (F := Ideal) c arg1 harg1 arg2 harg2 arg3 harg3 arg4 harg4 arg5 harg5 arg6 harg6 arg7 harg7 arg16 arg17 x0 x1 x2 x3 x4 x5 x6) 0 (SI x0 x3 x4 x5 x6 3) (BU x0 x6 3) :=
  Inv.all _ fun t r j => init1_3 t r j

theorem w_v1516 (r : Fin 8) (j : Fin 1024) : kernelRun0_A.sl.v1516 (F := Ideal) c arg1 harg1 arg2 harg2 arg3 harg3 arg4 harg4 arg5 harg5 arg6 harg6 arg7 harg7 arg16 arg17 x0 x1 x2 x3 x4 x5 x6 (ix3 0 r j) = BU x0 x6 3 0 r j :=
  i1_52.row 0 rfl (by decide) r j

theorem w_v1531 (r : Fin 8) (j : Fin 1024) : kernelRun0_A.sl.v1531 (F := Ideal) c arg1 harg1 arg2 harg2 arg3 harg3 arg4 harg4 arg5 harg5 arg6 harg6 arg7 harg7 arg16 arg17 x0 x1 x2 x3 x4 x5 x6 (ix3 0 r j) = BU x0 x5 3 1 r j :=
  i0_53.row 1 rfl (by decide) r j

theorem w_r_92 (r : Fin 8) (j : Fin 1024) : kernelRun0_A.sl.r_92 (F := Ideal) c arg1 harg1 arg2 harg2 arg3 harg3 arg4 harg4 arg5 harg5 arg6 harg6 arg7 harg7 arg16 arg17 x0 x1 x2 x3 x4 x5 x6 (ix2 r j) = (SR x0 x3 x4 x5 x6 3 1 r j) :=
  Eq.trans (p266 r j (w_r_89 r j) (w_r_90 r j) (w_v1509 r j) (w_v1516 r j) (w_v1531 r j)) rfl

theorem i0_54 : Inv (kernelRun0_A.sl.HS0_54 (F := Ideal) c arg1 harg1 arg2 harg2 arg3 harg3 arg4 harg4 arg5 harg5 arg6 harg6 arg7 harg7 arg16 arg17 x0 x1 x2 x3 x4 x5 x6) 2 (SR x0 x3 x4 x5 x6 3) (BU x0 x5 3) :=
  i0_53.step 1 rfl fun r j => Eq.trans (p268 r j (w_r_92 r j)) rfl

theorem w_r_91 (r : Fin 8) (j : Fin 1024) : kernelRun0_A.sl.r_91 (F := Ideal) c arg5 harg5 x4 (ix2 r j) = (RW x4 3 0 j) :=
  Eq.trans (p260 r j (w_r_90 r j)) rfl

theorem i1_53 : Inv (kernelRun0_A.sl.HS1_53 (F := Ideal) c arg1 harg1 arg2 harg2 arg3 harg3 arg4 harg4 arg5 harg5 arg6 harg6 arg7 harg7 arg16 arg17 x0 x1 x2 x3 x4 x5 x6) 1 (SI x0 x3 x4 x5 x6 3) (BU x0 x6 3) :=
  i1_52.step 0 rfl fun r j => Eq.trans (p265 r j (w_r_89 r j) (w_r_90 r j) (w_v1516 r j)) rfl

theorem w_v1538 (r : Fin 8) (j : Fin 1024) : kernelRun0_A.sl.v1538 (F := Ideal) c arg1 harg1 arg2 harg2 arg3 harg3 arg4 harg4 arg5 harg5 arg6 harg6 arg7 harg7 arg16 arg17 x0 x1 x2 x3 x4 x5 x6 (ix3 0 r j) = BU x0 x6 3 1 r j :=
  i1_53.row 1 rfl (by decide) r j

theorem w_r_93 (r : Fin 8) (j : Fin 1024) : kernelRun0_A.sl.r_93 (F := Ideal) c arg1 harg1 arg2 harg2 arg3 harg3 arg4 harg4 arg5 harg5 arg6 harg6 arg7 harg7 arg16 arg17 x0 x1 x2 x3 x4 x5 x6 (ix2 r j) = (SI x0 x3 x4 x5 x6 3 1 r j) :=
  Eq.trans (p267 r j (w_r_89 r j) (w_r_90 r j) (w_v1509 r j) (w_v1516 r j) (w_v1538 r j)) rfl

theorem w_v1553 (r : Fin 8) (j : Fin 1024) : kernelRun0_A.sl.v1553 (F := Ideal) c arg1 harg1 arg2 harg2 arg3 harg3 arg4 harg4 arg5 harg5 arg6 harg6 arg7 harg7 arg16 arg17 x0 x1 x2 x3 x4 x5 x6 (ix3 0 r j) = BU x0 x5 3 2 r j :=
  i0_54.row 2 rfl (by decide) r j

theorem i0_55 : Inv (kernelRun0_A.sl.HS0_55 (F := Ideal) c arg1 harg1 arg2 harg2 arg3 harg3 arg4 harg4 arg5 harg5 arg6 harg6 arg7 harg7 arg16 arg17 x0 x1 x2 x3 x4 x5 x6) 3 (SR x0 x3 x4 x5 x6 3) (BU x0 x5 3) :=
  i0_54.step 2 rfl fun r j => Eq.trans (p272 r j (w_r_89 r j) (w_r_91 r j) (w_r_92 r j) (w_r_93 r j) (w_v1553 r j)) rfl

theorem i1_54 : Inv (kernelRun0_A.sl.HS1_54 (F := Ideal) c arg1 harg1 arg2 harg2 arg3 harg3 arg4 harg4 arg5 harg5 arg6 harg6 arg7 harg7 arg16 arg17 x0 x1 x2 x3 x4 x5 x6) 2 (SI x0 x3 x4 x5 x6 3) (BU x0 x6 3) :=
  i1_53.step 1 rfl fun r j => Eq.trans (p269 r j (w_r_93 r j)) rfl

theorem w_v1560 (r : Fin 8) (j : Fin 1024) : kernelRun0_A.sl.v1560 (F := Ideal) c arg1 harg1 arg2 harg2 arg3 harg3 arg4 harg4 arg5 harg5 arg6 harg6 arg7 harg7 arg16 arg17 x0 x1 x2 x3 x4 x5 x6 (ix3 0 r j) = BU x0 x6 3 2 r j :=
  i1_54.row 2 rfl (by decide) r j

theorem w_v1575 (r : Fin 8) (j : Fin 1024) : kernelRun0_A.sl.v1575 (F := Ideal) c arg1 harg1 arg2 harg2 arg3 harg3 arg4 harg4 arg5 harg5 arg6 harg6 arg7 harg7 arg16 arg17 x0 x1 x2 x3 x4 x5 x6 (ix3 0 r j) = BU x0 x5 3 3 r j :=
  i0_55.row 3 rfl (by decide) r j

theorem w_r_94 (r : Fin 8) (j : Fin 1024) : kernelRun0_A.sl.r_94 (F := Ideal) c arg1 harg1 arg2 harg2 arg3 harg3 arg4 harg4 arg5 harg5 arg6 harg6 arg7 harg7 arg16 arg17 x0 x1 x2 x3 x4 x5 x6 (ix2 r j) = (SR x0 x3 x4 x5 x6 3 3 r j) :=
  Eq.trans (p274 r j (w_r_89 r j) (w_r_91 r j) (w_r_92 r j) (w_r_93 r j) (w_v1553 r j) (w_v1560 r j) (w_v1575 r j)) rfl

theorem i0_56 : Inv (kernelRun0_A.sl.HS0_56 (F := Ideal) c arg1 harg1 arg2 harg2 arg3 harg3 arg4 harg4 arg5 harg5 arg6 harg6 arg7 harg7 arg16 arg17 x0 x1 x2 x3 x4 x5 x6) 4 (SR x0 x3 x4 x5 x6 3) (BU x0 x5 3) :=
  i0_55.step 3 rfl fun r j => Eq.trans (p277 r j (w_r_94 r j)) rfl

theorem w_r_95 (r : Fin 8) (j : Fin 1024) : kernelRun0_A.sl.r_95 (F := Ideal) c arg1 harg1 arg2 harg2 arg3 harg3 arg4 harg4 arg5 harg5 arg6 harg6 arg7 harg7 arg16 arg17 x0 x1 x2 x3 x4 x5 x6 (ix2 r j) = ((RW x3 3 0 j) * (SI x0 x3 x4 x5 x6 3 2 r j)) + ((RW x4 3 0 j) * (SR x0 x3 x4 x5 x6 3 2 r j)) :=
  Eq.trans (p275 r j (w_r_89 r j) (w_r_91 r j) (w_r_92 r j) (w_r_93 r j) (w_v1553 r j) (w_v1560 r j)) rfl

theorem i1_55 : Inv (kernelRun0_A.sl.HS1_55 (F := Ideal) c arg1 harg1 arg2 harg2 arg3 harg3 arg4 harg4 arg5 harg5 arg6 harg6 arg7 harg7 arg16 arg17 x0 x1 x2 x3 x4 x5 x6) 3 (SI x0 x3 x4 x5 x6 3) (BU x0 x6 3) :=
  i1_54.step 2 rfl fun r j => Eq.trans (p273 r j (w_r_89 r j) (w_r_91 r j) (w_r_92 r j) (w_r_93 r j) (w_v1560 r j)) rfl

theorem w_v1582 (r : Fin 8) (j : Fin 1024) : kernelRun0_A.sl.v1582 (F := Ideal) c arg1 harg1 arg2 harg2 arg3 harg3 arg4 harg4 arg5 harg5 arg6 harg6 arg7 harg7 arg16 arg17 x0 x1 x2 x3 x4 x5 x6 (ix3 0 r j) = BU x0 x6 3 3 r j :=
  i1_55.row 3 rfl (by decide) r j

theorem w_v1597 (r : Fin 8) (j : Fin 1024) : kernelRun0_A.sl.v1597 (F := Ideal) c arg1 harg1 arg2 harg2 arg3 harg3 arg4 harg4 arg5 harg5 arg6 harg6 arg7 harg7 arg16 arg17 x0 x1 x2 x3 x4 x5 x6 (ix3 0 r j) = BU x0 x5 3 4 r j :=
  i0_56.row 4 rfl (by decide) r j

theorem i0_57 : Inv (kernelRun0_A.sl.HS0_57 (F := Ideal) c arg1 harg1 arg2 harg2 arg3 harg3 arg4 harg4 arg5 harg5 arg6 harg6 arg7 harg7 arg16 arg17 x0 x1 x2 x3 x4 x5 x6) 5 (SR x0 x3 x4 x5 x6 3) (BU x0 x5 3) :=
  i0_56.step 4 rfl fun r j => Eq.trans (p281 r j (w_r_89 r j) (w_r_91 r j) (w_r_94 r j) (w_r_95 r j) (w_v1582 r j) (w_v1597 r j)) rfl

theorem i1_56 : Inv (kernelRun0_A.sl.HS1_56 (F := Ideal) c arg1 harg1 arg2 harg2 arg3 harg3 arg4 harg4 arg5 harg5 arg6 harg6 arg7 harg7 arg16 arg17 x0 x1 x2 x3 x4 x5 x6) 4 (SI x0 x3 x4 x5 x6 3) (BU x0 x6 3) :=
  i1_55.step 3 rfl fun r j => Eq.trans (p278 r j (w_r_95 r j) (w_v1582 r j)) rfl

theorem w_v1604 (r : Fin 8) (j : Fin 1024) : kernelRun0_A.sl.v1604 (F := Ideal) c arg1 harg1 arg2 harg2 arg3 harg3 arg4 harg4 arg5 harg5 arg6 harg6 arg7 harg7 arg16 arg17 x0 x1 x2 x3 x4 x5 x6 (ix3 0 r j) = BU x0 x6 3 4 r j :=
  i1_56.row 4 rfl (by decide) r j

theorem w_v1619 (r : Fin 8) (j : Fin 1024) : kernelRun0_A.sl.v1619 (F := Ideal) c arg1 harg1 arg2 harg2 arg3 harg3 arg4 harg4 arg5 harg5 arg6 harg6 arg7 harg7 arg16 arg17 x0 x1 x2 x3 x4 x5 x6 (ix3 0 r j) = BU x0 x5 3 5 r j :=
  i0_57.row 5 rfl (by decide) r j

theorem w_r_98 (r : Fin 8) (j : Fin 1024) : kernelRun0_A.sl.r_98 (F := Ideal) c arg1 harg1 arg2 harg2 arg3 harg3 arg4 harg4 arg5 harg5 arg6 harg6 arg7 harg7 arg16 arg17 x0 x1 x2 x3 x4 x5 x6 (ix2 r j) = (SR x0 x3 x4 x5 x6 3 5 r j) :=
  Eq.trans (p283 r j (w_r_89 r j) (w_r_91 r j) (w_r_94 r j) (w_r_95 r j) (w_v1582 r j) (w_v1597 r j) (w_v1604 r j) (w_v1619 r j)) rfl

theorem i0_58 : Inv (kernelRun0_A.sl.HS0_58 (F := Ideal) c arg1 harg1 arg2 harg2 arg3 harg3 arg4 harg4 arg5 harg5 arg6 harg6 arg7 harg7 arg16 arg17 x0 x1 x2 x3 x4 x5 x6) 6 (SR x0 x3 x4 x5 x6 3) (BU x0 x5 3) :=
  i0_57.step 5 rfl fun r j => Eq.trans (p285 r j (w_r_98 r j)) rfl

theorem w_r_96 (r : Fin 8) (j : Fin 1024) : kernelRun0_A.sl.r_96 (F := Ideal) c arg1 harg1 arg2 harg2 arg3 harg3 arg4 harg4 arg5 harg5 arg6 harg6 arg7 harg7 arg16 arg17 x0 x1 x2 x3 x4 x5 x6 (ix2 r j) = (SR x0 x3 x4 x5 x6 3 4 r j) :=
  Eq.trans (p279 r j (w_r_89 r j) (w_r_91 r j) (w_r_94 r j) (w_r_95 r j) (w_v1582 r j) (w_v1597 r j)) rfl

theorem w_r_97 (r : Fin 8) (j : Fin 1024) : kernelRun0_A.sl.r_97 (F := Ideal) c arg1 harg1 arg2 harg2 arg3 harg3 arg4 harg4 arg5 harg5 arg6 harg6 arg7 harg7 arg16 arg17 x0 x1 x2 x3 x4 x5 x6 (ix2 r j) = (SI x0 x3 x4 x5 x6 3 4 r j) :=
  Eq.trans (p280 r j (w_r_89 r j) (w_r_91 r j) (w_r_94 r j) (w_r_95 r j) (w_v1582 r j) (w_v1604 r j)) rfl

theorem i1_57 : Inv (kernelRun0_A.sl.HS1_57 (F := Ideal) c arg1 harg1 arg2 harg2 arg3 harg3 arg4 harg4 arg5 harg5 arg6 harg6 arg7 harg7 arg16 arg17 x0 x1 x2 x3 x4 x5 x6) 5 (SI x0 x3 x4 x5 x6 3) (BU x0 x6 3) :=
  i1_56.step 4 rfl fun r j => Eq.trans (p282 r j (w_r_89 r j) (w_r_91 r j) (w_r_94 r j) (w_r_95 r j) (w_v1582 r j) (w_v1604 r j)) rfl

theorem w_v1626 (r : Fin 8) (j : Fin 1024) : kernelRun0_A.sl.v1626 (F := Ideal) c arg1 harg1 arg2 harg2 arg3 harg3 arg4 harg4 arg5 harg5 arg6 harg6 arg7 harg7 arg16 arg17 x0 x1 x2 x3 x4 x5 x6 (ix3 0 r j) = BU x0 x6 3 5 r j :=
  i1_57.row 5 rfl (by decide) r j

theorem w_v1641 (r : Fin 8) (j : Fin 1024) : kernelRun0_A.sl.v1641 (F := Ideal) c arg1 harg1 arg2 harg2 arg3 harg3 arg4 harg4 arg5 harg5 arg6 harg6 arg7 harg7 arg16 arg17 x0 x1 x2 x3 x4 x5 x6 (ix3 0 r j) = BU x0 x5 3 6 r j :=
  i0_58.row 6 rfl (by decide) r j

theorem i0_59 : Inv (kernelRun0_A.sl.HS0_59 (F := Ideal) c arg1 harg1 arg2 harg2 arg3 harg3 arg4 harg4 arg5 harg5 arg6 harg6 arg7 harg7 arg16 arg17 x0 x1 x2 x3 x4 x5 x6) 7 (SR x0 x3 x4 x5 x6 3) (BU x0 x5 3) :=
  i0_58.step 6 rfl fun r j => Eq.trans (p289 r j (w_r_89 r j) (w_r_91 r j) (w_r_96 r j) (w_r_97 r j) (w_r_98 r j) (w_v1626 r j) (w_v1641 r j)) rfl

theorem i1_58 : Inv (kernelRun0_A.sl.HS1_58 (F := Ideal) c arg1 harg1 arg2 harg2 arg3 harg3 arg4 harg4 arg5 harg5 arg6 harg6 arg7 harg7 arg16 arg17 x0 x1 x2 x3 x4 x5 x6) 6 (SI x0 x3 x4 x5 x6 3) (BU x0 x6 3) :=
  i1_57.step 5 rfl fun r j => Eq.trans (p286 r j (w_r_89 r j) (w_r_91 r j) (w_r_96 r j) (w_r_97 r j) (w_v1626 r j)) rfl

theorem w_v1648 (r : Fin 8) (j : Fin 1024) : kernelRun0_A.sl.v1648 (F := Ideal) c arg1 harg1 arg2 harg2 arg3 harg3 arg4 harg4 arg5 harg5 arg6 harg6 arg7 harg7 arg16 arg17 x0 x1 x2 x3 x4 x5 x6 (ix3 0 r j) = BU x0 x6 3 6 r j :=
  i1_58.row 6 rfl (by decide) r j

theorem w_r_101 (r : Fin 8) (j : Fin 1024) : kernelRun0_A.sl.r_101 (F := Ideal) c arg1 harg1 arg2 harg2 arg3 harg3 arg4 harg4 arg5 harg5 arg6 harg6 arg7 harg7 arg16 arg17 x0 x1 x2 x3 x4 x5 x6 (ix2 r j) = ((RW x3 3 0 j) * (SR x0 x3 x4 x5 x6 3 6 r j)) - ((RW x4 3 0 j) * (SI x0 x3 x4 x5 x6 3 6 r j)) :=
  Eq.trans (p291 r j (w_r_89 r j) (w_r_91 r j) (w_r_96 r j) (w_r_97 r j) (w_r_98 r j) (w_v1626 r j) (w_v1641 r j) (w_v1648 r j)) rfl

theorem w_v1663 (r : Fin 8) (j : Fin 1024) : kernelRun0_A.sl.v1663 (F := Ideal) c arg1 harg1 arg2 harg2 arg3 harg3 arg4 harg4 arg5 harg5 arg6 harg6 arg7 harg7 arg16 arg17 x0 x1 x2 x3 x4 x5 x6 (ix3 0 r j) = BU x0 x5 3 7 r j :=
  i0_59.row 7 rfl (by decide) r j

theorem i0_60 : Inv (kernelRun0_A.sl.HS0_60 (F := Ideal) c arg1 harg1 arg2 harg2 arg3 harg3 arg4 harg4 arg5 harg5 arg6 harg6 arg7 harg7 arg16 arg17 x0 x1 x2 x3 x4 x5 x6) 8 (SR x0 x3 x4 x5 x6 3) (BU x0 x5 3) :=
  i0_59.step 7 rfl fun r j => Eq.trans (p292 r j (w_r_101 r j) (w_v1663 r j)) rfl

theorem w_v1692 (r : Fin 8) (j : Fin 1024) : kernelRun0_A.sl.v1692 (F := Ideal) c arg1 harg1 arg2 harg2 arg3 harg3 arg4 harg4 arg5 harg5 arg6 harg6 arg7 harg7 arg16 arg17 x0 x1 x2 x3 x4 x5 x6 (ix3 0 r j) = SR x0 x3 x4 x5 x6 3 0 r j :=
  (Inv.next (fun _ _ _ => 0) i0_60).row 0 rfl (by decide) r j

theorem w_r_106 (r : Fin 8) (j : Fin 1024) : kernelRun0_A.sl.r_106 (F := Ideal) c arg1 harg1 arg2 harg2 arg3 harg3 arg4 harg4 arg5 harg5 arg6 harg6 arg7 harg7 arg16 arg17 x0 x1 x2 x3 x4 x5 x6 (ix2 r j) = (FR x0 x1 x2 x3 x4 x5 x6 3 0 r j) :=
  Eq.trans (p298 r j (ld8 harg2 x1 3 rfl r j) (ld8 harg3 x2 3 rfl r j) (ld1 harg4 x3 3 0 rfl rfl j) (ld1 harg5 x4 3 0 rfl rfl j) (w_v1692 r j)) rfl

theorem i0_61 : Inv (kernelRun0_A.sl.HS0_61 (F := Ideal) c arg1 harg1 arg2 harg2 arg3 harg3 arg4 harg4 arg5 harg5 arg6 harg6 arg7 harg7 arg16 arg17 x0 x1 x2 x3 x4 x5 x6) 1 (FR x0 x1 x2 x3 x4 x5 x6 3) (SR x0 x3 x4 x5 x6 3) :=
  (Inv.next (FR x0 x1 x2 x3 x4 x5 x6 3) i0_60).step 0 rfl fun r j => Eq.trans (p299 r j (w_r_106 r j)) rfl

theorem w_r_102 (r : Fin 8) (j : Fin 1024) : kernelRun0_A.sl.r_102 (F := Ideal) c arg2 harg2 x1 (ix2 r j) = (RW x1 3 r j) :=
  Eq.trans (p294 r j (ld8 harg2 x1 3 rfl r j)) rfl

theorem w_r_103 (r : Fin 8) (j : Fin 1024) : kernelRun0_A.sl.r_103 (F := Ideal) c arg3 harg3 x2 (ix2 r j) = (RW x2 3 r j) :=
  Eq.trans (p295 r j (ld8 harg3 x2 3 rfl r j)) rfl

theorem w_v1724 (r : Fin 8) (j : Fin 1024) : kernelRun0_A.sl.v1724 (F := Ideal) c arg1 harg1 arg2 harg2 arg3 harg3 arg4 harg4 arg5 harg5 arg6 harg6 arg7 harg7 arg16 arg17 x0 x1 x2 x3 x4 x5 x6 (ix3 0 r j) = SR x0 x3 x4 x5 x6 3 1 r j :=
  i0_61.row 1 rfl (by decide) r j

theorem i0_62 : Inv (kernelRun0_A.sl.HS0_62 (F := Ideal) c arg1 harg1 arg2 harg2 arg3 harg3 arg4 harg4 arg5 harg5 arg6 harg6 arg7 harg7 arg16 arg17 x0 x1 x2 x3 x4 x5 x6) 2 (FR x0 x1 x2 x3 x4 x5 x6 3) (SR x0 x3 x4 x5 x6 3) :=
  i0_61.step 1 rfl fun r j => Eq.trans (p303 r j (w_r_102 r j) (w_r_103 r j) (ld1 harg4 x3 3 1 rfl rfl j) (ld1 harg5 x4 3 1 rfl rfl j) (w_v1724 r j)) rfl

theorem w_v1756 (r : Fin 8) (j : Fin 1024) : kernelRun0_A.sl.v1756 (F := Ideal) c arg1 harg1 arg2 harg2 arg3 harg3 arg4 harg4 arg5 harg5 arg6 harg6 arg7 harg7 arg16 arg17 x0 x1 x2 x3 x4 x5 x6 (ix3 0 r j) = SR x0 x3 x4 x5 x6 3 2 r j :=
  i0_62.row 2 rfl (by decide) r j

theorem i0_63 : Inv (kernelRun0_A.sl.HS0_63 (F := Ideal) c arg1 harg1 arg2 harg2 arg3 harg3 arg4 harg4 arg5 harg5 arg6 harg6 arg7 harg7 arg16 arg17 x0 x1 x2 x3 x4 x5 x6) 3 (FR x0 x1 x2 x3 x4 x5 x6 3) (SR x0 x3 x4 x5 x6 3) :=
  i0_62.step 2 rfl fun r j => Eq.trans (p309 r j (w_r_102 r j) (w_r_103 r j) (ld1 harg4 x3 3 2 rfl rfl j) (ld1 harg5 x4 3 2 rfl rfl j) (w_v1756 r j)) rfl

theorem w_r_109 (r : Fin 8) (j : Fin 1024) : kernelRun0_A.sl.r_109 (F := Ideal) c arg4 harg4 x3 (ix2 0 j) = (RW x3 3 3 j) :=
  Eq.trans (p311 r j (ld1 harg4 x3 3 3 rfl rfl j)) rfl

theorem w_v1788 (r : Fin 8) (j : Fin 1024) : kernelRun0_A.sl.v1788 (F := Ideal) c arg1 harg1 arg2 harg2 arg3 harg3 arg4 harg4 arg5 harg5 arg6 harg6 arg7 harg7 arg16 arg17 x0 x1 x2 x3 x4 x5 x6 (ix3 0 r j) = SR x0 x3 x4 x5 x6 3 3 r j :=
  i0_63.row 3 rfl (by decide) r j

theorem i0_64 : Inv (kernelRun0_A.sl.HS0_64 (F := Ideal) c arg1 harg1 arg2 harg2 arg3 harg3 arg4 harg4 arg5 harg5 arg6 harg6 arg7 harg7 arg16 arg17 x0 x1 x2 x3 x4 x5 x6) 4 (FR x0 x1 x2 x3 x4 x5 x6 3) (SR x0 x3 x4 x5 x6 3) :=
  i0_63.step 3 rfl fun r j => Eq.trans (p313 r j (w_r_102 r j) (w_r_103 r j) (w_r_109 r j) (ld1 harg5 x4 3 3 rfl rfl j) (w_v1788 r j)) rfl

theorem w_v1820 (r : Fin 8) (j : Fin 1024) : kernelRun0_A.sl.v1820 (F := Ideal) c arg1 harg1 arg2 harg2 arg3 harg3 arg4 harg4 arg5 harg5 arg6 harg6 arg7 harg7 arg16 arg17 x0 x1 x2 x3 x4 x5 x6 (ix3 0 r j) = SR x0 x3 x4 x5 x6 3 4 r j :=
  i0_64.row 4 rfl (by decide) r j

theorem w_r_112 (r : Fin 8) (j : Fin 1024) : kernelRun0_A.sl.r_112 (F := Ideal) c arg1 harg1 arg2 harg2 arg3 harg3 arg4 harg4 arg5 harg5 arg6 harg6 arg7 harg7 arg16 arg17 x0 x1 x2 x3 x4 x5 x6 (ix2 r j) = (FR x0 x1 x2 x3 x4 x5 x6 3 4 r j) :=
  Eq.trans (p317 r j (w_r_102 r j) (w_r_103 r j) (ld1 harg4 x3 3 4 rfl rfl j) (ld1 harg5 x4 3 4 rfl rfl j) (w_v1820 r j)) rfl

theorem i0_65 : Inv (kernelRun0_A.sl.HS0_65 (F := Ideal) c arg1 harg1 arg2 harg2 arg3 harg3 arg4 harg4 arg5 harg5 arg6 harg6 arg7 harg7 arg16 arg17 x0 x1 x2 x3 x4 x5 x6) 5 (FR x0 x1 x2 x3 x4 x5 x6 3) (SR x0 x3 x4 x5 x6 3) :=
  i0_64.step 4 rfl fun r j => Eq.trans (p318 r j (w_r_112 r j)) rfl

theorem w_v1852 (r : Fin 8) (j : Fin 1024) : kernelRun0_A.sl.v1852 (F := Ideal) c arg1 harg1 arg2 harg2 arg3 harg3 arg4 harg4 arg5 harg5 arg6 harg6 arg7 harg7 arg16 arg17 x0 x1 x2 x3 x4 x5 x6 (ix3 0 r j) = SR x0 x3 x4 x5 x6 3 5 r j :=
  i0_65.row 5 rfl (by decide) r j

theorem i0_66 : Inv (kernelRun0_A.sl.HS0_66 (F := Ideal) c arg1 harg1 arg2 harg2 arg3 harg3 arg4 harg4 arg5 harg5 arg6 harg6 arg7 harg7 arg16 arg17 x0 x1 x2 x3 x4 x5 x6) 6 (FR x0 x1 x2 x3 x4 x5 x6 3) (SR x0 x3 x4 x5 x6 3) :=
  i0_65.step 5 rfl fun r j => Eq.trans (p322 r j (w_r_102 r j) (w_r_103 r j) (ld1 harg4 x3 3 5 rfl rfl j) (ld1 harg5 x4 3 5 rfl rfl j) (w_v1852 r j)) rfl

theorem w_v1884 (r : Fin 8) (j : Fin 1024) : kernelRun0_A.sl.v1884 (F := Ideal) c arg1 harg1 arg2 harg2 arg3 harg3 arg4 harg4 arg5 harg5 arg6 harg6 arg7 harg7 arg16 arg17 x0 x1 x2 x3 x4 x5 x6 (ix3 0 r j) = SR x0 x3 x4 x5 x6 3 6 r j :=
  i0_66.row 6 rfl (by decide) r j

theorem i0_67 : Inv (kernelRun0_A.sl.HS0_67 (F := Ideal) c arg1 harg1 arg2 harg2 arg3 harg3 arg4 harg4 arg5 harg5 arg6 harg6 arg7 harg7 arg16 arg17 x0 x1 x2 x3 x4 x5 x6) 7 (FR x0 x1 x2 x3 x4 x5 x6 3) (SR x0 x3 x4 x5 x6 3) :=
  i0_66.step 6 rfl fun r j => Eq.trans (p328 r j (w_r_102 r j) (w_r_103 r j) (ld1 harg4 x3 3 6 rfl rfl j) (ld1 harg5 x4 3 6 rfl rfl j) (w_v1884 r j)) rfl

theorem w_r_115 (r : Fin 8) (j : Fin 1024) : kernelRun0_A.sl.r_115 (F := Ideal) c arg4 harg4 x3 (ix2 0 j) = (RW x3 3 7 j) :=
  Eq.trans (p330 r j (ld1 harg4 x3 3 7 rfl rfl j)) rfl

theorem w_v1916 (r : Fin 8) (j : Fin 1024) : kernelRun0_A.sl.v1916 (F := Ideal) c arg1 harg1 arg2 harg2 arg3 harg3 arg4 harg4 arg5 harg5 arg6 harg6 arg7 harg7 arg16 arg17 x0 x1 x2 x3 x4 x5 x6 (ix3 0 r j) = SR x0 x3 x4 x5 x6 3 7 r j :=
  i0_67.row 7 rfl (by decide) r j

theorem i0_68 : Inv (kernelRun0_A.sl.HS0_68 (F := Ideal) c arg1 harg1 arg2 harg2 arg3 harg3 arg4 harg4 arg5 harg5 arg6 harg6 arg7 harg7 arg16 arg17 x0 x1 x2 x3 x4 x5 x6) 8 (FR x0 x1 x2 x3 x4 x5 x6 3) (SR x0 x3 x4 x5 x6 3) :=
  i0_67.step 7 rfl fun r j => Eq.trans (p332 r j (w_r_102 r j) (w_r_103 r j) (w_r_115 r j) (ld1 harg5 x4 3 7 rfl rfl j) (w_v1916 r j)) rfl

theorem i1_59 : Inv (kernelRun0_A.sl.HS1_59 (F := Ideal) c arg1 harg1 arg2 harg2 arg3 harg3 arg4 harg4 arg5 harg5 arg6 harg6 arg7 harg7 arg16 arg17 x0 x1 x2 x3 x4 x5 x6) 7 (SI x0 x3 x4 x5 x6 3) (BU x0 x6 3) :=
  i1_58.step 6 rfl fun r j => Eq.trans (p290 r j (w_r_89 r j) (w_r_91 r j) (w_r_96 r j) (w_r_97 r j) (w_r_98 r j) (w_v1626 r j) (w_v1648 r j)) rfl

theorem w_r_99 (r : Fin 8) (j : Fin 1024) : kernelRun0_A.sl.r_99 (F := Ideal) c arg1 harg1 arg2 harg2 arg3 harg3 arg4 harg4 arg5 harg5 arg6 harg6 arg7 harg7 arg16 arg17 x0 x1 x2 x3 x4 x5 x6 (ix2 r j) = (SR x0 x3 x4 x5 x6 3 6 r j) :=
  Eq.trans (p287 r j (w_r_89 r j) (w_r_91 r j) (w_r_96 r j) (w_r_97 r j) (w_r_98 r j) (w_v1626 r j) (w_v1641 r j)) rfl

theorem w_r_100 (r : Fin 8) (j : Fin 1024) : kernelRun0_A.sl.r_100 (F := Ideal) c arg1 harg1 arg2 harg2 arg3 harg3 arg4 harg4 arg5 harg5 arg6 harg6 arg7 harg7 arg16 arg17 x0 x1 x2 x3 x4 x5 x6 (ix2 r j) = (SI x0 x3 x4 x5 x6 3 6 r j) :=
  Eq.trans (p288 r j (w_r_89 r j) (w_r_91 r j) (w_r_96 r j) (w_r_97 r j) (w_r_98 r j) (w_v1626 r j) (w_v1648 r j)) rfl

theorem w_v1670 (r : Fin 8) (j : Fin 1024) : kernelRun0_A.sl.v1670 (F := Ideal) c arg1 harg1 arg2 harg2 arg3 harg3 arg4 harg4 arg5 harg5 arg6 harg6 arg7 harg7 arg16 arg17 x0 x1 x2 x3 x4 x5 x6 (ix3 0 r j) = BU x0 x6 3 7 r j :=
  i1_59.row 7 rfl (by decide) r j

theorem i1_60 : Inv (kernelRun0_A.sl.HS1_60 (F := Ideal) c arg1 harg1 arg2 harg2 arg3 harg3 arg4 harg4 arg5 harg5 arg6 harg6 arg7 harg7 arg16 arg17 x0 x1 x2 x3 x4 x5 x6) 8 (SI x0 x3 x4 x5 x6 3) (BU x0 x6 3) :=
  i1_59.step 7 rfl fun r j => Eq.trans (p293 r j (w_r_89 r j) (w_r_91 r j) (w_r_99 r j) (w_r_100 r j) (w_v1670 r j)) rfl

theorem w_r_104 (r : Fin 8) (j : Fin 1024) : kernelRun0_A.sl.r_104 (F := Ideal) c arg4 harg4 x3 (ix2 0 j) = (RW x3 3 0 j) :=
  Eq.trans (p296 r j (ld1 harg4 x3 3 0 rfl rfl j)) rfl

theorem w_r_105 (r : Fin 8) (j : Fin 1024) : kernelRun0_A.sl.r_105 (F := Ideal) c arg5 harg5 x4 (ix2 0 j) = (RW x4 3 0 j) :=
  Eq.trans (p297 r j (ld1 harg5 x4 3 0 rfl rfl j)) rfl

theorem w_v1705 (r : Fin 8) (j : Fin 1024) : kernelRun0_A.sl.v1705 (F := Ideal) c arg1 harg1 arg2 harg2 arg3 harg3 arg4 harg4 arg5 harg5 arg6 harg6 arg7 harg7 arg16 arg17 x0 x1 x2 x3 x4 x5 x6 (ix3 0 r j) = SI x0 x3 x4 x5 x6 3 0 r j :=
  (Inv.next (fun _ _ _ => 0) i1_60).row 0 rfl (by decide) r j

theorem i1_61 : Inv (kernelRun0_A.sl.HS1_61 (F := Ideal) c arg1 harg1 arg2 harg2 arg3 harg3 arg4 harg4 arg5 harg5 arg6 harg6 arg7 harg7 arg16 arg17 x0 x1 x2 x3 x4 x5 x6) 1 (FI x0 x1 x2 x3 x4 x5 x6 3) (SI x0 x3 x4 x5 x6 3) :=
  (Inv.next (FI x0 x1 x2 x3 x4 x5 x6 3) i1_60).step 0 rfl fun r j => Eq.trans (p300 r j (w_r_102 r j) (w_r_103 r j) (w_r_104 r j) (w_r_105 r j) (w_v1705 r j)) rfl

theorem w_v1737 (r : Fin 8) (j : Fin 1024) : kernelRun0_A.sl.v1737 (F := Ideal) c arg1 harg1 arg2 harg2 arg3 harg3 arg4 harg4 arg5 harg5 arg6 harg6 arg7 harg7 arg16 arg17 x0 x1 x2 x3 x4 x5 x6 (ix3 0 r j) = SI x0 x3 x4 x5 x6 3 1 r j :=
  i1_61.row 1 rfl (by decide) r j

theorem w_r_107 (r : Fin 8) (j : Fin 1024) : kernelRun0_A.sl.r_107 (F := Ideal) c arg1 harg1 arg2 harg2 arg3 harg3 arg4 harg4 arg5 harg5 arg6 harg6 arg7 harg7 arg16 arg17 x0 x1 x2 x3 x4 x5 x6 (ix2 r j) = (SI x0 x3 x4 x5 x6 3 1 r j) + ((RW x3 3 1 j) * (RW x2 3 r j)) :=
  Eq.trans (p304 r j (w_r_103 r j) (ld1 harg4 x3 3 1 rfl rfl j) (w_v1737 r j)) rfl

theorem w_r_108 (r : Fin 8) (j : Fin 1024) : kernelRun0_A.sl.r_108 (F := Ideal) c arg2 harg2 arg5 harg5 x1 x4 (ix2 r j) = (RW x4 3 1 j) * (RW x1 3 r j) :=
  Eq.trans (p305 r j (w_r_102 r j) (ld1 harg5 x4 3 1 rfl rfl j)) rfl

theorem i1_62 : Inv (kernelRun0_A.sl.HS1_62 (F := Ideal) c arg1 harg1 arg2 harg2 arg3 harg3 arg4 harg4 arg5 harg5 arg6 harg6 arg7 harg7 arg16 arg17 x0 x1 x2 x3 x4 x5 x6) 2 (FI x0 x1 x2 x3 x4 x5 x6 3) (SI x0 x3 x4 x5 x6 3) :=
  i1_61.step 1 rfl fun r j => Eq.trans (p306 r j (w_r_107 r j) (w_r_108 r j)) rfl

theorem w_v1769 (r : Fin 8) (j : Fin 1024) : kernelRun0_A.sl.v1769 (F := Ideal) c arg1 harg1 arg2 harg2 arg3 harg3 arg4 harg4 arg5 harg5 arg6 harg6 arg7 harg7 arg16 arg17 x0 x1 x2 x3 x4 x5 x6 (ix3 0 r j) = SI x0 x3 x4 x5 x6 3 2 r j :=
  i1_62.row 2 rfl (by decide) r j

theorem i1_63 : Inv (kernelRun0_A.sl.HS1_63 (F := Ideal) c arg1 harg1 arg2 harg2 arg3 harg3 arg4 harg4 arg5 harg5 arg6 harg6 arg7 harg7 arg16 arg17 x0 x1 x2 x3 x4 x5 x6) 3 (FI x0 x1 x2 x3 x4 x5 x6 3) (SI x0 x3 x4 x5 x6 3) :=
  i1_62.step 2 rfl fun r j => Eq.trans (p310 r j (w_r_102 r j) (w_r_103 r j) (ld1 harg4 x3 3 2 rfl rfl j) (ld1 harg5 x4 3 2 rfl rfl j) (w_v1769 r j)) rfl

theorem w_v1801 (r : Fin 8) (j : Fin 1024) : kernelRun0_A.sl.v1801 (F := Ideal) c arg1 harg1 arg2 harg2 arg3 harg3 arg4 harg4 arg5 harg5 arg6 harg6 arg7 harg7 arg16 arg17 x0 x1 x2 x3 x4 x5 x6 (ix3 0 r j) = SI x0 x3 x4 x5 x6 3 3 r j :=
  i1_63.row 3 rfl (by decide) r j

theorem i1_64 : Inv (kernelRun0_A.sl.HS1_64 (F := Ideal) c arg1 harg1 arg2 harg2 arg3 harg3 arg4 harg4 arg5 harg5 arg6 harg6 arg7 harg7 arg16 arg17 x0 x1 x2 x3 x4 x5 x6) 4 (FI x0 x1 x2 x3 x4 x5 x6 3) (SI x0 x3 x4 x5 x6 3) :=
  i1_63.step 3 rfl fun r j => Eq.trans (p314 r j (w_r_102 r j) (w_r_103 r j) (w_r_109 r j) (ld1 harg5 x4 3 3 rfl rfl j) (w_v1801 r j)) rfl

theorem w_r_110 (r : Fin 8) (j : Fin 1024) : kernelRun0_A.sl.r_110 (F := Ideal) c arg4 harg4 x3 (ix2 0 j) = (RW x3 3 4 j) :=
  Eq.trans (p315 r j (ld1 harg4 x3 3 4 rfl rfl j)) rfl

theorem w_r_111 (r : Fin 8) (j : Fin 1024) : kernelRun0_A.sl.r_111 (F := Ideal) c arg5 harg5 x4 (ix2 0 j) = (RW x4 3 4 j) :=
  Eq.trans (p316 r j (ld1 harg5 x4 3 4 rfl rfl j)) rfl

theorem w_v1833 (r : Fin 8) (j : Fin 1024) : kernelRun0_A.sl.v1833 (F := Ideal) c arg1 harg1 arg2 harg2 arg3 harg3 arg4 harg4 arg5 harg5 arg6 harg6 arg7 harg7 arg16 arg17 x0 x1 x2 x3 x4 x5 x6 (ix3 0 r j) = SI x0 x3 x4 x5 x6 3 4 r j :=
  i1_64.row 4 rfl (by decide) r j

theorem i1_65 : Inv (kernelRun0_A.sl.HS1_65 (F := Ideal) c arg1 harg1 arg2 harg2 arg3 harg3 arg4 harg4 arg5 harg5 arg6 harg6 arg7 harg7 arg16 arg17 x0 x1 x2 x3 x4 x5 x6) 5 (FI x0 x1 x2 x3 x4 x5 x6 3) (SI x0 x3 x4 x5 x6 3) :=
  i1_64.step 4 rfl fun r j => Eq.trans (p319 r j (w_r_102 r j) (w_r_103 r j) (w_r_110 r j) (w_r_111 r j) (w_v1833 r j)) rfl

theorem w_v1865 (r : Fin 8) (j : Fin 1024) : kernelRun0_A.sl.v1865 (F := Ideal) c arg1 harg1 arg2 harg2 arg3 harg3 arg4 harg4 arg5 harg5 arg6 harg6 arg7 harg7 arg16 arg17 x0 x1 x2 x3 x4 x5 x6 (ix3 0 r j) = SI x0 x3 x4 x5 x6 3 5 r j :=
  i1_65.row 5 rfl (by decide) r j

theorem w_r_113 (r : Fin 8) (j : Fin 1024) : kernelRun0_A.sl.r_113 (F := Ideal) c arg1 harg1 arg2 harg2 arg3 harg3 arg4 harg4 arg5 harg5 arg6 harg6 arg7 harg7 arg16 arg17 x0 x1 x2 x3 x4 x5 x6 (ix2 r j) = (SI x0 x3 x4 x5 x6 3 5 r j) + ((RW x3 3 5 j) * (RW x2 3 r j)) :=
  Eq.trans (p323 r j (w_r_103 r j) (ld1 harg4 x3 3 5 rfl rfl j) (w_v1865 r j)) rfl

theorem w_r_114 (r : Fin 8) (j : Fin 1024) : kernelRun0_A.sl.r_114 (F := Ideal) c arg2 harg2 arg5 harg5 x1 x4 (ix2 r j) = (RW x4 3 5 j) * (RW x1 3 r j) :=
  Eq.trans (p324 r j (w_r_102 r j) (ld1 harg5 x4 3 5 rfl rfl j)) rfl

theorem i1_66 : Inv (kernelRun0_A.sl.HS1_66 (F := Ideal) c arg1 harg1 arg2 harg2 arg3 harg3 arg4 harg4 arg5 harg5 arg6 harg6 arg7 harg7 arg16 arg17 x0 x1 x2 x3 x4 x5 x6) 6 (FI x0 x1 x2 x3 x4 x5 x6 3) (SI x0 x3 x4 x5 x6 3) :=
  i1_65.step 5 rfl fun r j => Eq.trans (p325 r j (w_r_113 r j) (w_r_114 r j)) rfl

theorem w_v1897 (r : Fin 8) (j : Fin 1024) : kernelRun0_A.sl.v1897 (F := Ideal) c arg1 harg1 arg2 harg2 arg3 harg3 arg4 harg4 arg5 harg5 arg6 harg6 arg7 harg7 arg16 arg17 x0 x1 x2 x3 x4 x5 x6 (ix3 0 r j) = SI x0 x3 x4 x5 x6 3 6 r j :=
  i1_66.row 6 rfl (by decide) r j

theorem i1_67 : Inv (kernelRun0_A.sl.HS1_67 (F := Ideal) c arg1 harg1 arg2 harg2 arg3 harg3 arg4 harg4 arg5 harg5 arg6 harg6 arg7 harg7 arg16 arg17 x0 x1 x2 x3 x4 x5 x6) 7 (FI x0 x1 x2 x3 x4 x5 x6 3) (SI x0 x3 x4 x5 x6 3) :=
  i1_66.step 6 rfl fun r j => Eq.trans (p329 r j (w_r_102 r j) (w_r_103 r j) (ld1 harg4 x3 3 6 rfl rfl j) (ld1 harg5 x4 3 6 rfl rfl j) (w_v1897 r j)) rfl

theorem w_v1929 (r : Fin 8) (j : Fin 1024) : kernelRun0_A.sl.v1929 (F := Ideal) c arg1 harg1 arg2 harg2 arg3 harg3 arg4 harg4 arg5 harg5 arg6 harg6 arg7 harg7 arg16 arg17 x0 x1 x2 x3 x4 x5 x6 (ix3 0 r j) = SI x0 x3 x4 x5 x6 3 7 r j :=
  i1_67.row 7 rfl (by decide) r j

theorem i1_68 : Inv (kernelRun0_A.sl.HS1_68 (F := Ideal) c arg1 harg1 arg2 harg2 arg3 harg3 arg4 harg4 arg5 harg5 arg6 harg6 arg7 harg7 arg16 arg17 x0 x1 x2 x3 x4 x5 x6) 8 (FI x0 x1 x2 x3 x4 x5 x6 3) (SI x0 x3 x4 x5 x6 3) :=
  i1_67.step 7 rfl fun r j => Eq.trans (p333 r j (w_r_102 r j) (w_r_103 r j) (w_r_115 r j) (ld1 harg5 x4 3 7 rfl rfl j) (w_v1929 r j)) rfl

theorem w_v1941 (r : Fin 8) (j : Fin 1024) : kernelRun0_A.sl.v1941 (F := Ideal) c arg1 harg1 arg2 harg2 arg3 harg3 arg4 harg4 arg5 harg5 arg6 harg6 arg7 harg7 arg16 arg17 x0 x1 x2 x3 x4 x5 x6 (ix3 0 r j) = FR x0 x1 x2 x3 x4 x5 x6 3 7 r j :=
  (Inv.next (fun _ _ _ => 0) i0_68).row 7 rfl (by decide) r j

theorem w_v1944 (r : Fin 8) (j : Fin 1024) : kernelRun0_A.sl.v1944 (F := Ideal) c arg1 harg1 arg2 harg2 arg3 harg3 arg4 harg4 arg5 harg5 arg6 harg6 arg7 harg7 arg16 arg17 x0 x1 x2 x3 x4 x5 x6 (ix3 0 r j) = FI x0 x1 x2 x3 x4 x5 x6 3 7 r j :=
  (Inv.next (fun _ _ _ => 0) i1_68).row 7 rfl (by decide) r j

theorem w_v1947 (t r : Fin 8) (j : Fin 1024) : kernelRun0_A.sl.v1947 (F := Ideal) c arg1 harg1 arg2 harg2 arg3 harg3 arg4 harg4 arg5 harg5 arg6 harg6 arg7 harg7 arg16 arg17 x0 x1 x2 x3 x4 x5 x6 (ix3 t r j) = FR x0 x1 x2 x3 x4 x5 x6 3 t r j :=
  (Inv.next (fun _ _ _ => 0) i0_68).whole t r j

theorem w_v1950 (t r : Fin 8) (j : Fin 1024) : kernelRun0_A.sl.v1950 (F := Ideal) c arg1 harg1 arg2 harg2 arg3 harg3 arg4 harg4 arg5 harg5 arg6 harg6 arg7 harg7 arg16 arg17 x0 x1 x2 x3 x4 x5 x6 (ix3 t r j) = FI x0 x1 x2 x3 x4 x5 x6 3 t r j :=
  (Inv.next (fun _ _ _ => 0) i1_68).whole t r j

end Cert.ScanIdeal.Hand
-- ==== Proof.ScanOut.lean ====
/- Hand-written, untrusted: the layer's output rows from the recurrence's states, one entry at a time. -/
module

public import proofs.«01_k».proof.Proof.ScanBlk0
public import proofs.«01_k».proof.Proof.ScanBlk1
public import proofs.«01_k».proof.Proof.ScanBlk2
public import proofs.«01_k».proof.Proof.ScanBlk3

set_option maxRecDepth 16384

@[expose] public section

noncomputable section

open Idealize.ShloMosaic Idealize.ShloMosaic.TcCoe Idealize.SL.Sem

namespace Cert.ScanIdeal.Hand

open Cert.ScanIdeal Cert.ScanIdeal.Gen

/-- The three-index entry of a row: its step and its sequence. -/
def hi (ρ : Fin 64) : Fin 8 := ⟨ρ.val / 8, by omega⟩
def lo (ρ : Fin 64) : Fin 8 := ⟨ρ.val % 8, by omega⟩

theorem q89 (v w : FVec Ideal S8x8x1024 .f32) (a b : FVec Ideal S1x1024x256 .bf16) (ρ : Fin 64) (q : Fin 256) :
    (k0_pay89 (F := Ideal) v w a b (ix2 ρ q) : EReal) = ∑ k : Fin 1024, (v (ix3 (hi ρ) (lo ρ) k) : EReal) * a (ix3 0 k q) - ∑ k : Fin 1024, (w (ix3 (hi ρ) (lo ρ) k) : EReal) * b (ix3 0 k q) := by
  pointwise [k0_pay89, hi, lo]

theorem q336 (v w : FVec Ideal S8x8x1024 .f32) (a b : FVec Ideal S1x1024x256 .bf16) (ρ : Fin 64) (q : Fin 256) :
    (k0_pay336 (F := Ideal) v w a b (ix2 ρ q) : EReal) = ∑ k : Fin 1024, (v (ix3 (hi ρ) (lo ρ) k) : EReal) * a (ix3 0 k q) - ∑ k : Fin 1024, (w (ix3 (hi ρ) (lo ρ) k) : EReal) * b (ix3 0 k q) := by
  pointwise [k0_pay336, hi, lo]

theorem q255 (v w : FVec Ideal S64x1024 .bf16) (a b : FVec Ideal S1x1024x256 .bf16) (ρ : Fin 64) (q : Fin 256) :
    (k0_pay255 (F := Ideal) v w a b (ix2 ρ q) : EReal) = ∑ k : Fin 1024, (v (ix2 ρ k) : EReal) * a (ix3 0 k q) - ∑ k : Fin 1024, (w (ix2 ρ k) : EReal) * b (ix3 0 k q) := by
  pointwise [k0_pay255]

theorem q173 (v : FVec Ideal S64x1024 .bf16) (w : FVec Ideal S64x256 .f32) (a : FVec Ideal S1x1024x256 .bf16) (ρ : Fin 64) (q : Fin 256) :
    (k0_pay173 (F := Ideal) v w a (ix2 ρ q) : EReal) = (w (ix2 ρ q) : EReal) - ∑ k : Fin 1024, (v (ix2 ρ k) : EReal) * a (ix3 0 k q) := by
  pointwise [k0_pay173]

theorem q172 (v : FVec Ideal S8x8x1024 .f32) (a : FVec Ideal S1x1024x256 .bf16) (ρ : Fin 64) (q : Fin 256) :
    (k0_pay172 (F := Ideal) v a (ix2 ρ q) : EReal) = ∑ k : Fin 1024, (v (ix3 (hi ρ) (lo ρ) k) : EReal) * a (ix3 0 k q) := by
  pointwise [k0_pay172, hi, lo]

theorem q171 (v : FVec Ideal S8x8x1024 .f32) (ρ : Fin 64) (k : Fin 1024) :
    (k0_pay171 (F := Ideal) v (ix2 ρ k) : EReal) = v (ix3 (hi ρ) (lo ρ) k) := by
  pointwise [k0_pay171, hi, lo]

theorem q253 (v : FVec Ideal S8x8x1024 .f32) (ρ : Fin 64) (k : Fin 1024) :
    (k0_pay253 (F := Ideal) v (ix2 ρ k) : EReal) = v (ix3 (hi ρ) (lo ρ) k) := by
  pointwise [k0_pay253, hi, lo]

theorem q254 (v : FVec Ideal S8x8x1024 .f32) (ρ : Fin 64) (k : Fin 1024) :
    (k0_pay254 (F := Ideal) v (ix2 ρ k) : EReal) = v (ix3 (hi ρ) (lo ρ) k) := by
  pointwise [k0_pay254, hi, lo]

/-- Half of the entry times one plus the hyperbolic tangent of its cubic. -/
def gl (y : EReal) : EReal :=
  Ideal.ofBits FTy.f32 0x3F000000#32 * y * (Ideal.ofBits FTy.f32 0x3F800000#32 + Ideal.tanh (Ideal.ofBits FTy.f32 0x3F4C422A#32 * (y + Ideal.ofBits FTy.f32 0x3D372713#32 * (y * y * y))))

theorem q337 (u y : FVec Ideal S64x1024 .f32) (d : FVec Ideal S1x1024 .f32) (ρ : Fin 64) (k : Fin 1024) :
    (k0_pay337 (F := Ideal) u y d (ix2 ρ k) : EReal) = gl ((y (ix2 ρ k) : EReal) + d (ix2 0 k) * u (ix2 ρ k)) := by
  pointwise [k0_pay337, gl]

theorem q338 (u y : FVec Ideal S64x1024 .f32) (d : FVec Ideal S1x1024 .f32) (ρ : Fin 64) (k : Fin 1024) :
    (k0_pay338 (F := Ideal) u y d (ix2 ρ k) : EReal) = gl ((y (ix2 ρ k) : EReal) + d (ix2 0 k) * u (ix2 ρ k)) := by
  refine Eq.trans ?_ (q337 u y d ρ k)
  pointwise [k0_pay338]

theorem q339 (g : FVec Ideal S64x1024 .bf16) (w : FVec Ideal S1024x1024 .bf16) (b : FVec Ideal S1x1024 .f32) (ρ : Fin 64) (k : Fin 1024) :
    (k0_pay339 (F := Ideal) g w b (ix2 ρ k) : EReal) = ∑ e : Fin 1024, (g (ix2 ρ e) : EReal) * w (ix2 e k) + b (ix2 0 k) := by
  pointwise [k0_pay339]

theorem q1 (p : FVec Ideal S64x64 .bf16) (g l : FVec Ideal S64x1024 .f32) (ρ : Fin 64) (k : Fin 1024) :
    (k0_pay1 (F := Ideal) p g l (ix2 ρ k) : EReal) = ∑ e : Fin 64, (p (ix2 ρ e) : EReal) * ((g (ix2 e k) : EReal) * Ideal.logistic (l (ix2 e k))) := by
  pointwise [k0_pay1]

theorem pm_pm (ρ : Fin 64) : pm (pm ρ) = ρ := by
  apply Fin.ext
  show (ρ.val % 8 * 8 + ρ.val / 8) % 8 * 8 + (ρ.val % 8 * 8 + ρ.val / 8) / 8 = ρ.val
  omega

theorem q1' (g l : FVec Ideal S64x1024 .f32) (ρ : Fin 64) (k : Fin 1024) :
    (k0_pay1 (F := Ideal) k0_pay3 g l (ix2 ρ k) : EReal) = (g (ix2 (pm ρ) k) : EReal) * Ideal.logistic (l (ix2 (pm ρ) k)) := by
  rw [q1, Finset.sum_eq_single (pm ρ)]
  · rw [pay3_at, if_pos (pm_pm ρ).symm, one_mul]
  · intro b _ hb
    rw [pay3_at, if_neg (fun e => hb (by rw [e, pm_pm])), zero_mul]
  · intro h; exact absurd (Finset.mem_univ _) h

theorem q87 (v : FVec Ideal S1x8x1024 .f32) (r : Fin 8) (k : Fin 1024) : (k0_pay87 (F := Ideal) v (ix2 r k) : EReal) = v (ix3 0 r k) := by
  pointwise [k0_pay87]

theorem q88 (v : FVec Ideal S1x8x1024 .f32) (r : Fin 8) (k : Fin 1024) : (k0_pay88 (F := Ideal) v (ix2 r k) : EReal) = v (ix3 0 r k) := by
  pointwise [k0_pay88]

theorem q169 (v : FVec Ideal S1x8x1024 .f32) (r : Fin 8) (k : Fin 1024) : (k0_pay169 (F := Ideal) v (ix2 r k) : EReal) = v (ix3 0 r k) := by
  pointwise [k0_pay169]

theorem q170 (v : FVec Ideal S1x8x1024 .f32) (r : Fin 8) (k : Fin 1024) : (k0_pay170 (F := Ideal) v (ix2 r k) : EReal) = v (ix3 0 r k) := by
  pointwise [k0_pay170]

theorem q251 (v : FVec Ideal S1x8x1024 .f32) (r : Fin 8) (k : Fin 1024) : (k0_pay251 (F := Ideal) v (ix2 r k) : EReal) = v (ix3 0 r k) := by
  pointwise [k0_pay251]

theorem q252 (v : FVec Ideal S1x8x1024 .f32) (r : Fin 8) (k : Fin 1024) : (k0_pay252 (F := Ideal) v (ix2 r k) : EReal) = v (ix3 0 r k) := by
  pointwise [k0_pay252]

theorem q334 (v : FVec Ideal S1x8x1024 .f32) (r : Fin 8) (k : Fin 1024) : (k0_pay334 (F := Ideal) v (ix2 r k) : EReal) = v (ix3 0 r k) := by
  pointwise [k0_pay334]

theorem q335 (v : FVec Ideal S1x8x1024 .f32) (r : Fin 8) (k : Fin 1024) : (k0_pay335 (F := Ideal) v (ix2 r k) : EReal) = v (ix3 0 r k) := by
  pointwise [k0_pay335]

/-- Columns `o` to `o + 256` of a row. -/
theorem emb_col (o : ℕ) (ρ : Fin 64) (q : Fin 256) (h : o + 256 ≤ 1024) (inb) :
    (Rect.unit ![0, o] S64x256.size inb : Rect S64x1024).emb (ix2 ρ q) = ix2 ρ ⟨o + q.val, by omega⟩ := by
  funext a
  apply Fin.ext
  rw [ValueKit.rect_emb_unit_val]
  fin_cases a <;> simp [ix2]

theorem not_mem_col (o : ℕ) (ρ : Fin 64) (d : Fin 1024) (h : d.val < o ∨ o + 256 ≤ d.val) (inb) :
    (ix2 ρ d : S64x1024.Idx) ∉ (Rect.unit ![0, o] S64x256.size inb : Rect S64x1024).set := by
  intro hm
  obtain ⟨x, hx⟩ := (Rect.unit ![0, o] S64x256.size inb : Rect S64x1024).exists_idx_of_mem hm
  have hb : (x 1).val < 256 := (x 1).isLt
  have e := congrArg (fun i => (i 1).val) hx
  simp only [ValueKit.rect_emb_unit_val] at e
  simp [ix2] at e
  omega

theorem col_miss {o : ℕ} {ρ : Fin 64} {d : Fin 1024} {inb} {w : FVec Ideal S64x256 .f32} {L : List (View.Piece (Elt Ideal) S64x1024 .f32)} {y : EReal}
    (h : d.val < o ∨ o + 256 ≤ d.val) (hL : View.canon L (ix2 ρ d) = y) :
    View.canon ((⟨Rect.unit ![0, o] S64x256.size inb, w⟩ : View.Piece (Elt Ideal) S64x1024 .f32) :: L) (ix2 ρ d) = y := by
  refine Eq.trans (b := View.canon L (ix2 ρ d)) ?_ hL
  apply View.canon_cons_of_not_mem
  exact not_mem_col o ρ d h inb

theorem col_hit {o : ℕ} {ρ : Fin 64} {q : Fin 256} {d : Fin 1024} {inb} {w : FVec Ideal S64x256 .f32} {L : List (View.Piece (Elt Ideal) S64x1024 .f32)} {y : EReal}
    (ho : o + 256 ≤ 1024) (h : d.val = o + q.val) (hw : w (ix2 ρ q) = y) :
    View.canon ((⟨Rect.unit ![0, o] S64x256.size inb, w⟩ : View.Piece (Elt Ideal) S64x1024 .f32) :: L) (ix2 ρ d) = y := by
  refine Eq.trans ?_ hw
  apply canon_at
  refine (emb_col o ρ q ho inb).trans ?_
  rw [show d = ⟨o + q.val, by omega⟩ from Fin.ext h]

/-- Lanes `o` to `o + 1024` of a row of the states. -/
theorem lane_at {o : ℕ} {r : Fin 8} {b : Fin 4} {j : Fin 1024} {inb} {w : FVec Ideal S8x1024 .f32} {L : List (View.Piece (Elt Ideal) S8x4096 .f32)} {y : EReal}
    (h : o = b.val * 1024) (hw : w (ix2 r j) = y) :
    View.canon ((⟨Rect.unit ![0, o] S8x1024.size inb, w⟩ : View.Piece (Elt Ideal) S8x4096 .f32) :: L) (ix2 r (ln b j)) = y := by
  subst h
  refine Eq.trans ?_ hw
  apply canon_at
  funext a
  apply Fin.ext
  rw [ValueKit.rect_emb_unit_val]
  fin_cases a <;> simp [ix2, ln]

theorem lane_miss {o : ℕ} {r : Fin 8} {d : Fin 4096} {inb} {w : FVec Ideal S8x1024 .f32} {L : List (View.Piece (Elt Ideal) S8x4096 .f32)} {y : EReal}
    (h : d.val < o ∨ o + 1024 ≤ d.val) (hL : View.canon L (ix2 r d) = y) :
    View.canon ((⟨Rect.unit ![0, o] S8x1024.size inb, w⟩ : View.Piece (Elt Ideal) S8x4096 .f32) :: L) (ix2 r d) = y := by
  refine Eq.trans (b := View.canon L (ix2 r d)) ?_ hL
  apply View.canon_cons_of_not_mem
  intro hm
  obtain ⟨x, hx⟩ := (Rect.unit ![0, o] S8x1024.size inb : Rect S8x4096).exists_idx_of_mem hm
  have hb : (x 1).val < 1024 := (x 1).isLt
  have e := congrArg (fun i => (i 1).val) hx
  simp only [ValueKit.rect_emb_unit_val] at e
  simp [ix2] at e
  omega

/-- A row of one entry, read whole. -/
theorem ldr {sig : RefSig} {κ : Kind} {sp : Space} {m : Memref sig κ sp S1x1024 .f32} (h : m.IsWhole) (x : FVec Ideal S1x1024 .f32) {inb} (j : Fin 1024) :
    View.readAt (Elt Ideal) m.view (Rect.unit ![0, 0] S1x1024.size inb : Rect S1x1024).toLoadRect (h.unread x) (ix2 0 j) = x (ix2 0 j) := by
  rw [Memref.IsWhole.readAt_unread]
  refine congrArg x (funext fun a => Fin.ext ?_)
  refine (ValueKit.rect_emb_unit_val (s := S1x1024) _ _ inb (ix2 0 j) a).trans ?_
  fin_cases a <;> simp [ix2]

/-- The gate's weights, read whole. -/
theorem ldg {sig : RefSig} {κ : Kind} {sp : Space} {m : Memref sig κ sp S1024x1024 .bf16} (h : m.IsWhole) (x : FVec Ideal S1024x1024 .bf16) {inb} (e j : Fin 1024) :
    View.readAt (Elt Ideal) m.view (Rect.unit ![0, 0] S1024x1024.size inb : Rect S1024x1024).toLoadRect (h.unread x) (ix2 e j) = x (ix2 e j) := by
  rw [Memref.IsWhole.readAt_unread]
  refine congrArg x (funext fun a => Fin.ext ?_)
  refine (ValueKit.rect_emb_unit_val (s := S1024x1024) _ _ inb (ix2 e j) a).trans ?_
  fin_cases a <;> simp [ix2]

section
variable (x0 : FVec Ideal S64x1024 .f32) (x1 x2 x3 x4 : FVec Ideal S8x4096 .f32) (x5 x6 : FVec Ideal S4x256x1024 .bf16)
  (x7 x8 : FVec Ideal S4x1024x256 .bf16) (x9 : FVec Ideal S1x1024 .f32) (x10 : FVec Ideal S1024x1024 .bf16) (x11 : FVec Ideal S1x1024 .f32)

/-- A block's output of sequence `r` at step `t`. -/
def YB (b : Fin 4) (t r : Fin 8) (q : Fin 256) : EReal :=
  ∑ k : Fin 1024, FR x0 x1 x2 x3 x4 x5 x6 b t r k * x7 (ix3 b k q) - ∑ k : Fin 1024, FI x0 x1 x2 x3 x4 x5 x6 b t r k * x8 (ix3 b k q)

/-- The output's entry before the gate. -/
def GY (t r : Fin 8) (d : Fin 1024) : EReal :=
  gl (YB x0 x1 x2 x3 x4 x5 x6 x7 x8 ⟨d.val / 256, by omega⟩ t r ⟨d.val % 256, by omega⟩ + x9 (ix2 0 d) * x0 (ix2 ⟨r.val * 8 + t.val, by omega⟩ d))

/-- The output's entry. -/
def SY (t r : Fin 8) (d : Fin 1024) : EReal :=
  GY x0 x1 x2 x3 x4 x5 x6 x7 x8 x9 t r d * Ideal.logistic (∑ e : Fin 1024, GY x0 x1 x2 x3 x4 x5 x6 x7 x8 x9 t r e * x10 (ix2 e d) + x11 (ix2 0 d))

end

variable {c : Dev nD}
variable {arg1 : Memref sig .tc .vmem S64x1024 .f32} {harg1 : arg1.IsWhole}
variable {arg2 : Memref sig .tc .vmem S8x4096 .f32} {harg2 : arg2.IsWhole}
variable {arg3 : Memref sig .tc .vmem S8x4096 .f32} {harg3 : arg3.IsWhole}
variable {arg4 : Memref sig .tc .vmem S8x4096 .f32} {harg4 : arg4.IsWhole}
variable {arg5 : Memref sig .tc .vmem S8x4096 .f32} {harg5 : arg5.IsWhole}
variable {arg6 : Memref sig .tc .vmem S4x256x1024 .bf16} {harg6 : arg6.IsWhole}
variable {arg7 : Memref sig .tc .vmem S4x256x1024 .bf16} {harg7 : arg7.IsWhole}
variable {arg8 : Memref sig .tc .vmem S4x1024x256 .bf16} {harg8 : arg8.IsWhole}
variable {arg9 : Memref sig .tc .vmem S4x1024x256 .bf16} {harg9 : arg9.IsWhole}
variable {arg10 : Memref sig .tc .vmem S1x1024 .f32} {harg10 : arg10.IsWhole}
variable {arg11 : Memref sig .tc .vmem S1024x1024 .bf16} {harg11 : arg11.IsWhole}
variable {arg12 : Memref sig .tc .vmem S1x1024 .f32} {harg12 : arg12.IsWhole}
variable {arg16 : Memref sig .tc .vmem S8x8x1024 .f32} {harg16 : arg16.IsWhole}
variable {arg17 : Memref sig .tc .vmem S8x8x1024 .f32} {harg17 : arg17.IsWhole}
variable {arg18 : Memref sig .tc .vmem S64x1024 .f32} {harg18 : arg18.IsWhole}
variable {x0 : FVec Ideal S64x1024 .f32} {x1 x2 x3 x4 : FVec Ideal S8x4096 .f32} {x5 x6 : FVec Ideal S4x256x1024 .bf16}
  {x7 x8 : FVec Ideal S4x1024x256 .bf16}
variable {x9 : FVec Ideal S1x1024 .f32} {x10 : FVec Ideal S1024x1024 .bf16} {x11 : FVec Ideal S1x1024 .f32}

theorem yb_eq {b : Fin 4} {ρ : Fin 64} {q : Fin 256} {v a w e : Fin 1024 → EReal}
    (hv : ∀ k, v k = FR x0 x1 x2 x3 x4 x5 x6 b (hi ρ) (lo ρ) k) (ha : ∀ k, a k = x7 (ix3 b k q))
    (hw : ∀ k, w k = FI x0 x1 x2 x3 x4 x5 x6 b (hi ρ) (lo ρ) k) (he : ∀ k, e k = x8 (ix3 b k q)) :
    ∑ k, v k * a k - ∑ k, w k * e k = YB x0 x1 x2 x3 x4 x5 x6 x7 x8 b (hi ρ) (lo ρ) q := by
  rw [show v = _ from funext hv, show a = _ from funext ha, show w = _ from funext hw, show e = _ from funext he]; rfl

theorem y_0 (ρ : Fin 64) (q : Fin 256) :
    View.canon (kernelRun0_A.sl.HS2_4 (F := Ideal) c arg1 harg1 arg2 harg2 arg3 harg3 arg4 harg4 arg5 harg5 arg6 harg6 arg7 harg7 arg8 harg8 arg9 harg9 arg16 arg17 x0 x1 x2 x3 x4 x5 x6 x7 x8) (ix2 ρ ⟨0 + q.val, by omega⟩) = YB x0 x1 x2 x3 x4 x5 x6 x7 x8 0 (hi ρ) (lo ρ) q :=
  col_miss (Or.inl (by show 0 + q.val < 768; omega)) (col_miss (Or.inl (by show 0 + q.val < 512; omega)) (col_miss (Or.inl (by show 0 + q.val < 256; omega)) (col_hit (q := q) (by decide) rfl ((q89 _ _ _ _ ρ q).trans (yb_eq (fun k => w_v501 _ _ k) (fun k => ldc harg8 x7 0 rfl k q) (fun k => w_v504 _ _ k) (fun k => ldc harg9 x8 0 rfl k q))))))

theorem y_3 (ρ : Fin 64) (q : Fin 256) :
    View.canon (kernelRun0_A.sl.HS2_4 (F := Ideal) c arg1 harg1 arg2 harg2 arg3 harg3 arg4 harg4 arg5 harg5 arg6 harg6 arg7 harg7 arg8 harg8 arg9 harg9 arg16 arg17 x0 x1 x2 x3 x4 x5 x6 x7 x8) (ix2 ρ ⟨768 + q.val, by omega⟩) = YB x0 x1 x2 x3 x4 x5 x6 x7 x8 3 (hi ρ) (lo ρ) q :=
  col_hit (q := q) (by decide) rfl ((q336 _ _ _ _ ρ q).trans (yb_eq (fun k => w_v1947 _ _ k) (fun k => ldc harg8 x7 3 rfl k q) (fun k => w_v1950 _ _ k) (fun k => ldc harg9 x8 3 rfl k q)))

theorem y_2 (ρ : Fin 64) (q : Fin 256) :
    View.canon (kernelRun0_A.sl.HS2_4 (F := Ideal) c arg1 harg1 arg2 harg2 arg3 harg3 arg4 harg4 arg5 harg5 arg6 harg6 arg7 harg7 arg8 harg8 arg9 harg9 arg16 arg17 x0 x1 x2 x3 x4 x5 x6 x7 x8) (ix2 ρ ⟨512 + q.val, by omega⟩) = YB x0 x1 x2 x3 x4 x5 x6 x7 x8 2 (hi ρ) (lo ρ) q :=
  col_miss (Or.inl (by show 512 + q.val < 768; omega)) (col_hit (q := q) (by decide) rfl ((q255 _ _ _ _ ρ q).trans (yb_eq (fun k => (q253 _ ρ k).trans (w_v1465 _ _ k)) (fun k => ldc harg8 x7 2 rfl k q) (fun k => (q254 _ ρ k).trans (w_v1468 _ _ k)) (fun k => ldc harg9 x8 2 rfl k q))))

theorem y_1 (ρ : Fin 64) (q : Fin 256) :
    View.canon (kernelRun0_A.sl.HS2_4 (F := Ideal) c arg1 harg1 arg2 harg2 arg3 harg3 arg4 harg4 arg5 harg5 arg6 harg6 arg7 harg7 arg8 harg8 arg9 harg9 arg16 arg17 x0 x1 x2 x3 x4 x5 x6 x7 x8) (ix2 ρ ⟨256 + q.val, by omega⟩) = YB x0 x1 x2 x3 x4 x5 x6 x7 x8 1 (hi ρ) (lo ρ) q :=
  col_miss (Or.inl (by show 256 + q.val < 768; omega)) (col_miss (Or.inl (by show 256 + q.val < 512; omega)) (col_hit (q := q) (by decide) rfl ((q173 _ _ _ ρ q).trans ((congrArg (fun z => z - _) (q172 _ _ ρ q)).trans (yb_eq (fun k => w_v983 _ _ k) (fun k => ldc harg8 x7 1 rfl k q) (fun k => (q171 _ ρ k).trans (w_v986 _ _ k)) (fun k => ldc harg9 x8 1 rfl k q))))))

theorem y_all (ρ : Fin 64) (d : Fin 1024) :
    View.canon (kernelRun0_A.sl.HS2_4 (F := Ideal) c arg1 harg1 arg2 harg2 arg3 harg3 arg4 harg4 arg5 harg5 arg6 harg6 arg7 harg7 arg8 harg8 arg9 harg9 arg16 arg17 x0 x1 x2 x3 x4 x5 x6 x7 x8) (ix2 ρ d) = YB x0 x1 x2 x3 x4 x5 x6 x7 x8 ⟨d.val / 256, by omega⟩ (hi ρ) (lo ρ) ⟨d.val % 256, by omega⟩ := by
  obtain ⟨b, q, rfl⟩ : ∃ (b : Fin 4) (q : Fin 256), d = ⟨b.val * 256 + q.val, by omega⟩ :=
    ⟨⟨d.val / 256, by omega⟩, ⟨d.val % 256, by omega⟩, Fin.ext (by show d.val = d.val / 256 * 256 + d.val % 256; omega)⟩
  have e1 : (⟨(b.val * 256 + q.val) / 256, by omega⟩ : Fin 4) = b := Fin.ext (by show (b.val * 256 + q.val) / 256 = b.val; omega)
  have e2 : (⟨(b.val * 256 + q.val) % 256, by omega⟩ : Fin 256) = q := Fin.ext (by show (b.val * 256 + q.val) % 256 = q.val; omega)
  show _ = YB x0 x1 x2 x3 x4 x5 x6 x7 x8 ⟨(b.val * 256 + q.val) / 256, _⟩ (hi ρ) (lo ρ) ⟨(b.val * 256 + q.val) % 256, _⟩
  rw [e1, e2]
  fin_cases b
  · exact y_0 ρ q
  · exact y_1 ρ q
  · exact y_2 ρ q
  · exact y_3 ρ q

theorem emb_full (ρ : Fin 64) (d : Fin 1024) (inb) : (Rect.unit ![0, 0] S64x1024.size inb : Rect S64x1024).emb (ix2 ρ d) = ix2 ρ d := by
  funext a
  apply Fin.ext
  rw [ValueKit.rect_emb_unit_val]
  fin_cases a <;> simp [ix2]

theorem w_v1963 (ρ : Fin 64) (d : Fin 1024) :
    kernelRun0_A.sl.v1963 (F := Ideal) c arg1 harg1 arg2 harg2 arg3 harg3 arg4 harg4 arg5 harg5 arg6 harg6 arg7 harg7 arg8 harg8 arg9 harg9 arg16 arg17 arg18 x0 x1 x2 x3 x4 x5 x6 x7 x8 (ix2 ρ d)
      = YB x0 x1 x2 x3 x4 x5 x6 x7 x8 ⟨d.val / 256, by omega⟩ (hi ρ) (lo ρ) ⟨d.val % 256, by omega⟩ := by
  refine Eq.trans ?_ (y_all (c := c) (harg1 := harg1) (harg2 := harg2) (harg3 := harg3) (harg4 := harg4) (harg5 := harg5) (harg6 := harg6) (harg7 := harg7) (harg8 := harg8) (harg9 := harg9) (arg16 := arg16) (arg17 := arg17) ρ d)
  unfold kernelRun0_A.sl.v1963
  rw [View.readCov_eq_canon']
  exact congrArg _ (emb_full ρ d _)

/-- The driving entries are finite: each minus itself is nothing. -/
def Fin0 (x : FVec Ideal S64x1024 .f32) : Prop := ∀ (ρ : Fin 64) (d : Fin 1024), (x (ix2 ρ d) : EReal) - x (ix2 ρ d) = 0

theorem w_r (h : Fin0 x0) (ρ : Fin 64) (j : Fin 1024) : (kernelRun0_A.sl.r (F := Ideal) c arg1 harg1 x0 (ix2 ρ j) : EReal) = x0 (ix2 (pm ρ) j) := by
  have e : ∀ (ρ : Fin 64) (j : Fin 1024), View.readAt (Elt Ideal) arg1.view (Rect.unit ![0, 0] S64x1024.size inb_S64x1024_S64x1024_0_0 : Rect S64x1024).toLoadRect (harg1.unread x0) (ix2 ρ j) = x0 (ix2 ρ j) := fun ρ j => ldx harg1 x0 ρ j
  refine (q6 _ ρ j ?_).trans (e _ _)
  have := h (pm ρ) j
  rw [← e (pm ρ) j] at this
  exact this

theorem gy_eq (h : Fin0 x0) (ρ : Fin 64) (d : Fin 1024) {y w u : EReal}
    (hy : y = YB x0 x1 x2 x3 x4 x5 x6 x7 x8 ⟨d.val / 256, by omega⟩ (hi ρ) (lo ρ) ⟨d.val % 256, by omega⟩) (hw : w = x9 (ix2 0 d)) (hu : u = x0 (ix2 (pm ρ) d)) :
    gl (y + w * u) = GY x0 x1 x2 x3 x4 x5 x6 x7 x8 x9 (hi ρ) (lo ρ) d := by
  rw [hy, hw, hu]; rfl

theorem w_r_116 (h : Fin0 x0) (ρ : Fin 64) (d : Fin 1024) :
    (kernelRun0_A.sl.r_116 (F := Ideal) c arg1 harg1 arg2 harg2 arg3 harg3 arg4 harg4 arg5 harg5 arg6 harg6 arg7 harg7 arg8 harg8 arg9 harg9 arg10 harg10 arg16 arg17 arg18 x0 x1 x2 x3 x4 x5 x6 x7 x8 x9 (ix2 ρ d) : EReal) = GY x0 x1 x2 x3 x4 x5 x6 x7 x8 x9 (hi ρ) (lo ρ) d :=
  (q337 _ _ _ ρ d).trans (gy_eq h ρ d (w_v1963 ρ d) (ldr harg10 x9 d) (w_r h ρ d))

theorem w_r_117 (h : Fin0 x0) (ρ : Fin 64) (d : Fin 1024) :
    (kernelRun0_A.sl.r_117 (F := Ideal) c arg1 harg1 arg2 harg2 arg3 harg3 arg4 harg4 arg5 harg5 arg6 harg6 arg7 harg7 arg8 harg8 arg9 harg9 arg10 harg10 arg16 arg17 arg18 x0 x1 x2 x3 x4 x5 x6 x7 x8 x9 (ix2 ρ d) : EReal) = GY x0 x1 x2 x3 x4 x5 x6 x7 x8 x9 (hi ρ) (lo ρ) d :=
  (q338 _ _ _ ρ d).trans (gy_eq h ρ d (w_v1963 ρ d) (ldr harg10 x9 d) (w_r h ρ d))

theorem w_r_118 (h : Fin0 x0) (ρ : Fin 64) (d : Fin 1024) :
    (kernelRun0_A.sl.r_118 (F := Ideal) c arg1 harg1 arg2 harg2 arg3 harg3 arg4 harg4 arg5 harg5 arg6 harg6 arg7 harg7 arg8 harg8 arg9 harg9 arg10 harg10 arg11 harg11 arg12 harg12 arg16 arg17 arg18 x0 x1 x2 x3 x4 x5 x6 x7 x8 x9 x10 x11 (ix2 ρ d) : EReal) = ∑ e : Fin 1024, GY x0 x1 x2 x3 x4 x5 x6 x7 x8 x9 (hi ρ) (lo ρ) e * x10 (ix2 e d) + x11 (ix2 0 d) := by
  refine (q339 _ _ _ ρ d).trans ?_
  rw [ldr harg12 x11 d]
  refine congrArg (fun z => z + _) (Finset.sum_congr rfl fun e _ => ?_)
  rw [w_r_117 h ρ e, ldg harg11 x10 e d]

theorem s_at (h : Fin0 x0) (t r : Fin 8) (d : Fin 1024) :
    (k0_pay1 (F := Ideal) k0_pay3 (kernelRun0_A.sl.r_116 (F := Ideal) c arg1 harg1 arg2 harg2 arg3 harg3 arg4 harg4 arg5 harg5 arg6 harg6 arg7 harg7 arg8 harg8 arg9 harg9 arg10 harg10 arg16 arg17 arg18 x0 x1 x2 x3 x4 x5 x6 x7 x8 x9) (kernelRun0_A.sl.r_118 (F := Ideal) c arg1 harg1 arg2 harg2 arg3 harg3 arg4 harg4 arg5 harg5 arg6 harg6 arg7 harg7 arg8 harg8 arg9 harg9 arg10 harg10 arg11 harg11 arg12 harg12 arg16 arg17 arg18 x0 x1 x2 x3 x4 x5 x6 x7 x8 x9 x10 x11) (ix2 ⟨r.val * 8 + t.val, by omega⟩ d) : EReal)
      = SY x0 x1 x2 x3 x4 x5 x6 x7 x8 x9 x10 x11 t r d := by
  rw [q1', w_r_116 h, w_r_118 h, pm_row r t]
  have e1 : hi ⟨t.val * 8 + r.val, by omega⟩ = t := Fin.ext (by show (t.val * 8 + r.val) / 8 = t.val; omega)
  have e2 : lo ⟨t.val * 8 + r.val, by omega⟩ = r := Fin.ext (by show (t.val * 8 + r.val) % 8 = r.val; omega)
  rw [e1, e2]; rfl

end Cert.ScanIdeal.Hand
-- ==== Proof.ScanRef.lean ====
/- Hand-written, untrusted: the reference of the recurrence, read at an index. -/
module

public import proofs.«01_k».proof.Proof.ScanBase
public import proofs.«01_k».proof.Proof.Gen.ScanRefIdeal.Read

set_option maxRecDepth 16384

@[expose] public section

noncomputable section

open Idealize.ShloMosaic Idealize.ShloMosaic.TcCoe Idealize.SL.Sem

namespace Cert.ScanRefIdeal.Hand

open Cert.ScanRefIdeal Cert.ScanRefIdeal.Gen Cert.ScanRefIdeal.Read

variable (x0 : FVec Ideal S256x1024 .f32) (x1 x2 : FVec Ideal S1x32x64x64 .f32) (x3 x4 : FVec Ideal S8x64x64 .f32)
  (x5 x6 : FVec Ideal S64x64x16 .f32) (x7 x8 : FVec Ideal S1x64x16x64 .f32) (x9 : FVec Ideal S1x1024 .f32)
  (x10 : FVec Ideal S1x1024x1024 .f32) (x11 : FVec Ideal S1x1024 .f32)

/-- What drives state `(g, p)` of sequence `n` at step `t`. -/
def UB (w : FVec Ideal S64x64x16 .f32) (n : Fin 32) (t : Fin 8) (g p : Fin 64) : EReal :=
  ∑ c : Fin 16, w (ix3 g p c) * x0 (ix2 ⟨n.val * 8 + t.val, by omega⟩ ⟨g.val * 16 + c.val, by omega⟩)

theorem b2 (n : Fin 32) (t : Fin 8) (g p : Fin 64) : (val_main_v2 (F := Ideal) x0 x5 (ix4 n t g p) : EReal) = UB x0 x5 n t g p := by
  pointwise [val_main_v2, val_main_v1, val_main_v0, UB]

theorem b4 (n : Fin 32) (t : Fin 8) (g p : Fin 64) : (val_main_v4 (F := Ideal) x0 x6 (ix4 n t g p) : EReal) = UB x0 x6 n t g p := by
  pointwise [val_main_v4, val_main_v3, val_main_v0, UB]

/-- The state of `(g, p)` of sequence `n` after each step. -/
def ST (n : Fin 32) (g p : Fin 64) : ℕ → EReal × EReal :=
  Cert.ScanIdeal.Hand.st (x3 (ix3 0 g p)) (x4 (ix3 0 g p)) (fun t => UB x0 x5 n t g p) (fun t => UB x0 x6 n t g p)

theorem r0 (n : Fin 32) (g p : Fin 64) : (val_main_v10 (F := Ideal) x0 x5 (ix3 n g p) : EReal) = (ST x0 x3 x4 x5 x6 n g p 0).1 := by
  have h : (val_main_v10 (F := Ideal) x0 x5 (ix3 n g p) : EReal) = val_main_v2 (F := Ideal) x0 x5 (ix4 n 0 g p) := by
    pointwise [val_main_v10, val_main_v9]
  rw [h, b2]
  show _ = x3 (ix3 0 g p) * 0 - x4 (ix3 0 g p) * 0 + UB x0 x5 n 0 g p
  rw [mul_zero, mul_zero, sub_zero, zero_add]

theorem m0 (n : Fin 32) (g p : Fin 64) : (val_main_v12 (F := Ideal) x0 x6 (ix3 n g p) : EReal) = (ST x0 x3 x4 x5 x6 n g p 0).2 := by
  have h : (val_main_v12 (F := Ideal) x0 x6 (ix3 n g p) : EReal) = val_main_v4 (F := Ideal) x0 x6 (ix4 n 0 g p) := by
    pointwise [val_main_v12, val_main_v11]
  rw [h, b4]
  show _ = x3 (ix3 0 g p) * 0 + x4 (ix3 0 g p) * 0 + UB x0 x6 n 0 g p
  rw [mul_zero, mul_zero, add_zero, zero_add]

theorem r1 (n : Fin 32) (g p : Fin 64) : (val_main_v22 (F := Ideal) x0 x3 x4 x5 x6 (ix3 n g p) : EReal) = (ST x0 x3 x4 x5 x6 n g p 1).1 := by
  have h : (val_main_v22 (F := Ideal) x0 x3 x4 x5 x6 (ix3 n g p) : EReal)
      = x3 (ix3 0 g p) * val_main_v10 (F := Ideal) x0 x5 (ix3 n g p) - x4 (ix3 0 g p) * val_main_v12 (F := Ideal) x0 x6 (ix3 n g p)
        + val_main_v2 (F := Ideal) x0 x5 (ix4 n 1 g p) := by
    pointwise [val_main_v22, val_main_v19, val_main_v15, val_main_v14, val_main_v13, val_main_v6, val_main_v5, val_main_v18, val_main_v17, val_main_v16, val_main_v8, val_main_v7, val_main_v21, val_main_v20]
  rw [h, r0, m0, b2]
  rfl

theorem m1 (n : Fin 32) (g p : Fin 64) : (val_main_v32 (F := Ideal) x0 x3 x4 x5 x6 (ix3 n g p) : EReal) = (ST x0 x3 x4 x5 x6 n g p 1).2 := by
  have h : (val_main_v32 (F := Ideal) x0 x3 x4 x5 x6 (ix3 n g p) : EReal)
      = x3 (ix3 0 g p) * val_main_v12 (F := Ideal) x0 x6 (ix3 n g p) + x4 (ix3 0 g p) * val_main_v10 (F := Ideal) x0 x5 (ix3 n g p)
        + val_main_v4 (F := Ideal) x0 x6 (ix4 n 1 g p) := by
    pointwise [val_main_v32, val_main_v29, val_main_v25, val_main_v24, val_main_v23, val_main_v6, val_main_v5, val_main_v28, val_main_v27, val_main_v26, val_main_v8, val_main_v7, val_main_v31, val_main_v30]
  rw [h, r0, m0, b4]
  rfl

theorem r2 (n : Fin 32) (g p : Fin 64) : (val_main_v42 (F := Ideal) x0 x3 x4 x5 x6 (ix3 n g p) : EReal) = (ST x0 x3 x4 x5 x6 n g p 2).1 := by
  have h : (val_main_v42 (F := Ideal) x0 x3 x4 x5 x6 (ix3 n g p) : EReal)
      = x3 (ix3 0 g p) * val_main_v22 (F := Ideal) x0 x3 x4 x5 x6 (ix3 n g p) - x4 (ix3 0 g p) * val_main_v32 (F := Ideal) x0 x3 x4 x5 x6 (ix3 n g p)
        + val_main_v2 (F := Ideal) x0 x5 (ix4 n 2 g p) := by
    pointwise [val_main_v42, val_main_v39, val_main_v35, val_main_v34, val_main_v33, val_main_v6, val_main_v5, val_main_v38, val_main_v37, val_main_v36, val_main_v8, val_main_v7, val_main_v41, val_main_v40]
  rw [h, r1, m1, b2]
  rfl

theorem m2 (n : Fin 32) (g p : Fin 64) : (val_main_v52 (F := Ideal) x0 x3 x4 x5 x6 (ix3 n g p) : EReal) = (ST x0 x3 x4 x5 x6 n g p 2).2 := by
  have h : (val_main_v52 (F := Ideal) x0 x3 x4 x5 x6 (ix3 n g p) : EReal)
      = x3 (ix3 0 g p) * val_main_v32 (F := Ideal) x0 x3 x4 x5 x6 (ix3 n g p) + x4 (ix3 0 g p) * val_main_v22 (F := Ideal) x0 x3 x4 x5 x6 (ix3 n g p)
        + val_main_v4 (F := Ideal) x0 x6 (ix4 n 2 g p) := by
    pointwise [val_main_v52, val_main_v49, val_main_v45, val_main_v44, val_main_v43, val_main_v6, val_main_v5, val_main_v48, val_main_v47, val_main_v46, val_main_v8, val_main_v7, val_main_v51, val_main_v50]
  rw [h, r1, m1, b4]
  rfl

theorem r3 (n : Fin 32) (g p : Fin 64) : (val_main_v62 (F := Ideal) x0 x3 x4 x5 x6 (ix3 n g p) : EReal) = (ST x0 x3 x4 x5 x6 n g p 3).1 := by
  have h : (val_main_v62 (F := Ideal) x0 x3 x4 x5 x6 (ix3 n g p) : EReal)
      = x3 (ix3 0 g p) * val_main_v42 (F := Ideal) x0 x3 x4 x5 x6 (ix3 n g p) - x4 (ix3 0 g p) * val_main_v52 (F := Ideal) x0 x3 x4 x5 x6 (ix3 n g p)
        + val_main_v2 (F := Ideal) x0 x5 (ix4 n 3 g p) := by
    pointwise [val_main_v62, val_main_v59, val_main_v55, val_main_v54, val_main_v53, val_main_v6, val_main_v5, val_main_v58, val_main_v57, val_main_v56, val_main_v8, val_main_v7, val_main_v61, val_main_v60]
  rw [h, r2, m2, b2]
  rfl

theorem m3 (n : Fin 32) (g p : Fin 64) : (val_main_v72 (F := Ideal) x0 x3 x4 x5 x6 (ix3 n g p) : EReal) = (ST x0 x3 x4 x5 x6 n g p 3).2 := by
  have h : (val_main_v72 (F := Ideal) x0 x3 x4 x5 x6 (ix3 n g p) : EReal)
      = x3 (ix3 0 g p) * val_main_v52 (F := Ideal) x0 x3 x4 x5 x6 (ix3 n g p) + x4 (ix3 0 g p) * val_main_v42 (F := Ideal) x0 x3 x4 x5 x6 (ix3 n g p)
        + val_main_v4 (F := Ideal) x0 x6 (ix4 n 3 g p) := by
    pointwise [val_main_v72, val_main_v69, val_main_v65, val_main_v64, val_main_v63, val_main_v6, val_main_v5, val_main_v68, val_main_v67, val_main_v66, val_main_v8, val_main_v7, val_main_v71, val_main_v70]
  rw [h, r2, m2, b4]
  rfl

theorem r4 (n : Fin 32) (g p : Fin 64) : (val_main_v82 (F := Ideal) x0 x3 x4 x5 x6 (ix3 n g p) : EReal) = (ST x0 x3 x4 x5 x6 n g p 4).1 := by
  have h : (val_main_v82 (F := Ideal) x0 x3 x4 x5 x6 (ix3 n g p) : EReal)
      = x3 (ix3 0 g p) * val_main_v62 (F := Ideal) x0 x3 x4 x5 x6 (ix3 n g p) - x4 (ix3 0 g p) * val_main_v72 (F := Ideal) x0 x3 x4 x5 x6 (ix3 n g p)
        + val_main_v2 (F := Ideal) x0 x5 (ix4 n 4 g p) := by
    pointwise [val_main_v82, val_main_v79, val_main_v75, val_main_v74, val_main_v73, val_main_v6, val_main_v5, val_main_v78, val_main_v77, val_main_v76, val_main_v8, val_main_v7, val_main_v81, val_main_v80]
  rw [h, r3, m3, b2]
  rfl

theorem m4 (n : Fin 32) (g p : Fin 64) : (val_main_v92 (F := Ideal) x0 x3 x4 x5 x6 (ix3 n g p) : EReal) = (ST x0 x3 x4 x5 x6 n g p 4).2 := by
  have h : (val_main_v92 (F := Ideal) x0 x3 x4 x5 x6 (ix3 n g p) : EReal)
      = x3 (ix3 0 g p) * val_main_v72 (F := Ideal) x0 x3 x4 x5 x6 (ix3 n g p) + x4 (ix3 0 g p) * val_main_v62 (F := Ideal) x0 x3 x4 x5 x6 (ix3 n g p)
        + val_main_v4 (F := Ideal) x0 x6 (ix4 n 4 g p) := by
    pointwise [val_main_v92, val_main_v89, val_main_v85, val_main_v84, val_main_v83, val_main_v6, val_main_v5, val_main_v88, val_main_v87, val_main_v86, val_main_v8, val_main_v7, val_main_v91, val_main_v90]
  rw [h, r3, m3, b4]
  rfl

theorem r5 (n : Fin 32) (g p : Fin 64) : (val_main_v102 (F := Ideal) x0 x3 x4 x5 x6 (ix3 n g p) : EReal) = (ST x0 x3 x4 x5 x6 n g p 5).1 := by
  have h : (val_main_v102 (F := Ideal) x0 x3 x4 x5 x6 (ix3 n g p) : EReal)
      = x3 (ix3 0 g p) * val_main_v82 (F := Ideal) x0 x3 x4 x5 x6 (ix3 n g p) - x4 (ix3 0 g p) * val_main_v92 (F := Ideal) x0 x3 x4 x5 x6 (ix3 n g p)
        + val_main_v2 (F := Ideal) x0 x5 (ix4 n 5 g p) := by
    pointwise [val_main_v102, val_main_v99, val_main_v95, val_main_v94, val_main_v93, val_main_v6, val_main_v5, val_main_v98, val_main_v97, val_main_v96, val_main_v8, val_main_v7, val_main_v101, val_main_v100]
  rw [h, r4, m4, b2]
  rfl

theorem m5 (n : Fin 32) (g p : Fin 64) : (val_main_v112 (F := Ideal) x0 x3 x4 x5 x6 (ix3 n g p) : EReal) = (ST x0 x3 x4 x5 x6 n g p 5).2 := by
  have h : (val_main_v112 (F := Ideal) x0 x3 x4 x5 x6 (ix3 n g p) : EReal)
      = x3 (ix3 0 g p) * val_main_v92 (F := Ideal) x0 x3 x4 x5 x6 (ix3 n g p) + x4 (ix3 0 g p) * val_main_v82 (F := Ideal) x0 x3 x4 x5 x6 (ix3 n g p)
        + val_main_v4 (F := Ideal) x0 x6 (ix4 n 5 g p) := by
    pointwise [val_main_v112, val_main_v109, val_main_v105, val_main_v104, val_main_v103, val_main_v6, val_main_v5, val_main_v108, val_main_v107, val_main_v106, val_main_v8, val_main_v7, val_main_v111, val_main_v110]
  rw [h, r4, m4, b4]
  rfl

theorem r6 (n : Fin 32) (g p : Fin 64) : (val_main_v122 (F := Ideal) x0 x3 x4 x5 x6 (ix3 n g p) : EReal) = (ST x0 x3 x4 x5 x6 n g p 6).1 := by
  have h : (val_main_v122 (F := Ideal) x0 x3 x4 x5 x6 (ix3 n g p) : EReal)
      = x3 (ix3 0 g p) * val_main_v102 (F := Ideal) x0 x3 x4 x5 x6 (ix3 n g p) - x4 (ix3 0 g p) * val_main_v112 (F := Ideal) x0 x3 x4 x5 x6 (ix3 n g p)
        + val_main_v2 (F := Ideal) x0 x5 (ix4 n 6 g p) := by
    pointwise [val_main_v122, val_main_v119, val_main_v115, val_main_v114, val_main_v113, val_main_v6, val_main_v5, val_main_v118, val_main_v117, val_main_v116, val_main_v8, val_main_v7, val_main_v121, val_main_v120]
  rw [h, r5, m5, b2]
  rfl

theorem m6 (n : Fin 32) (g p : Fin 64) : (val_main_v132 (F := Ideal) x0 x3 x4 x5 x6 (ix3 n g p) : EReal) = (ST x0 x3 x4 x5 x6 n g p 6).2 := by
  have h : (val_main_v132 (F := Ideal) x0 x3 x4 x5 x6 (ix3 n g p) : EReal)
      = x3 (ix3 0 g p) * val_main_v112 (F := Ideal) x0 x3 x4 x5 x6 (ix3 n g p) + x4 (ix3 0 g p) * val_main_v102 (F := Ideal) x0 x3 x4 x5 x6 (ix3 n g p)
        + val_main_v4 (F := Ideal) x0 x6 (ix4 n 6 g p) := by
    pointwise [val_main_v132, val_main_v129, val_main_v125, val_main_v124, val_main_v123, val_main_v6, val_main_v5, val_main_v128, val_main_v127, val_main_v126, val_main_v8, val_main_v7, val_main_v131, val_main_v130]
  rw [h, r5, m5, b4]
  rfl

theorem r7 (n : Fin 32) (g p : Fin 64) : (val_main_v142 (F := Ideal) x0 x3 x4 x5 x6 (ix3 n g p) : EReal) = (ST x0 x3 x4 x5 x6 n g p 7).1 := by
  have h : (val_main_v142 (F := Ideal) x0 x3 x4 x5 x6 (ix3 n g p) : EReal)
      = x3 (ix3 0 g p) * val_main_v122 (F := Ideal) x0 x3 x4 x5 x6 (ix3 n g p) - x4 (ix3 0 g p) * val_main_v132 (F := Ideal) x0 x3 x4 x5 x6 (ix3 n g p)
        + val_main_v2 (F := Ideal) x0 x5 (ix4 n 7 g p) := by
    pointwise [val_main_v142, val_main_v139, val_main_v135, val_main_v134, val_main_v133, val_main_v6, val_main_v5, val_main_v138, val_main_v137, val_main_v136, val_main_v8, val_main_v7, val_main_v141, val_main_v140]
  rw [h, r6, m6, b2]
  rfl

theorem m7 (n : Fin 32) (g p : Fin 64) : (val_main_v152 (F := Ideal) x0 x3 x4 x5 x6 (ix3 n g p) : EReal) = (ST x0 x3 x4 x5 x6 n g p 7).2 := by
  have h : (val_main_v152 (F := Ideal) x0 x3 x4 x5 x6 (ix3 n g p) : EReal)
      = x3 (ix3 0 g p) * val_main_v132 (F := Ideal) x0 x3 x4 x5 x6 (ix3 n g p) + x4 (ix3 0 g p) * val_main_v122 (F := Ideal) x0 x3 x4 x5 x6 (ix3 n g p)
        + val_main_v4 (F := Ideal) x0 x6 (ix4 n 7 g p) := by
    pointwise [val_main_v152, val_main_v149, val_main_v145, val_main_v144, val_main_v143, val_main_v6, val_main_v5, val_main_v148, val_main_v147, val_main_v146, val_main_v8, val_main_v7, val_main_v151, val_main_v150]
  rw [h, r6, m6, b4]
  rfl

theorem cr0 (n : Fin 32) (g p : Fin 64) : (val_main_v165 (F := Ideal) x0 x3 x4 x5 x6 (ix4 n 0 g p) : EReal) = (ST x0 x3 x4 x5 x6 n g p 0).1 := by
  refine Eq.trans ?_ (r0 x0 x3 x4 x5 x6 n g p)
  pointwise [val_main_v165, val_main_v157]

theorem cr1 (n : Fin 32) (g p : Fin 64) : (val_main_v165 (F := Ideal) x0 x3 x4 x5 x6 (ix4 n 1 g p) : EReal) = (ST x0 x3 x4 x5 x6 n g p 1).1 := by
  refine Eq.trans ?_ (r1 x0 x3 x4 x5 x6 n g p)
  pointwise [val_main_v165, val_main_v158]

theorem cr2 (n : Fin 32) (g p : Fin 64) : (val_main_v165 (F := Ideal) x0 x3 x4 x5 x6 (ix4 n 2 g p) : EReal) = (ST x0 x3 x4 x5 x6 n g p 2).1 := by
  refine Eq.trans ?_ (r2 x0 x3 x4 x5 x6 n g p)
  pointwise [val_main_v165, val_main_v159]

theorem cr3 (n : Fin 32) (g p : Fin 64) : (val_main_v165 (F := Ideal) x0 x3 x4 x5 x6 (ix4 n 3 g p) : EReal) = (ST x0 x3 x4 x5 x6 n g p 3).1 := by
  refine Eq.trans ?_ (r3 x0 x3 x4 x5 x6 n g p)
  pointwise [val_main_v165, val_main_v160]

theorem cr4 (n : Fin 32) (g p : Fin 64) : (val_main_v165 (F := Ideal) x0 x3 x4 x5 x6 (ix4 n 4 g p) : EReal) = (ST x0 x3 x4 x5 x6 n g p 4).1 := by
  refine Eq.trans ?_ (r4 x0 x3 x4 x5 x6 n g p)
  pointwise [val_main_v165, val_main_v161]

theorem cr5 (n : Fin 32) (g p : Fin 64) : (val_main_v165 (F := Ideal) x0 x3 x4 x5 x6 (ix4 n 5 g p) : EReal) = (ST x0 x3 x4 x5 x6 n g p 5).1 := by
  refine Eq.trans ?_ (r5 x0 x3 x4 x5 x6 n g p)
  pointwise [val_main_v165, val_main_v162]

theorem cr6 (n : Fin 32) (g p : Fin 64) : (val_main_v165 (F := Ideal) x0 x3 x4 x5 x6 (ix4 n 6 g p) : EReal) = (ST x0 x3 x4 x5 x6 n g p 6).1 := by
  refine Eq.trans ?_ (r6 x0 x3 x4 x5 x6 n g p)
  pointwise [val_main_v165, val_main_v163]

theorem cr7 (n : Fin 32) (g p : Fin 64) : (val_main_v165 (F := Ideal) x0 x3 x4 x5 x6 (ix4 n 7 g p) : EReal) = (ST x0 x3 x4 x5 x6 n g p 7).1 := by
  refine Eq.trans ?_ (r7 x0 x3 x4 x5 x6 n g p)
  pointwise [val_main_v165, val_main_v164]

theorem cr (n : Fin 32) (t : Fin 8) (g p : Fin 64) : (val_main_v165 (F := Ideal) x0 x3 x4 x5 x6 (ix4 n t g p) : EReal) = (ST x0 x3 x4 x5 x6 n g p t.val).1 := by
  fin_cases t
  · exact cr0 x0 x3 x4 x5 x6 n g p
  · exact cr1 x0 x3 x4 x5 x6 n g p
  · exact cr2 x0 x3 x4 x5 x6 n g p
  · exact cr3 x0 x3 x4 x5 x6 n g p
  · exact cr4 x0 x3 x4 x5 x6 n g p
  · exact cr5 x0 x3 x4 x5 x6 n g p
  · exact cr6 x0 x3 x4 x5 x6 n g p
  · exact cr7 x0 x3 x4 x5 x6 n g p

theorem cm0 (n : Fin 32) (g p : Fin 64) : (val_main_v184 (F := Ideal) x0 x3 x4 x5 x6 (ix4 n 0 g p) : EReal) = (ST x0 x3 x4 x5 x6 n g p 0).2 := by
  refine Eq.trans ?_ (m0 x0 x3 x4 x5 x6 n g p)
  pointwise [val_main_v184, val_main_v176]

theorem cm1 (n : Fin 32) (g p : Fin 64) : (val_main_v184 (F := Ideal) x0 x3 x4 x5 x6 (ix4 n 1 g p) : EReal) = (ST x0 x3 x4 x5 x6 n g p 1).2 := by
  refine Eq.trans ?_ (m1 x0 x3 x4 x5 x6 n g p)
  pointwise [val_main_v184, val_main_v177]

theorem cm2 (n : Fin 32) (g p : Fin 64) : (val_main_v184 (F := Ideal) x0 x3 x4 x5 x6 (ix4 n 2 g p) : EReal) = (ST x0 x3 x4 x5 x6 n g p 2).2 := by
  refine Eq.trans ?_ (m2 x0 x3 x4 x5 x6 n g p)
  pointwise [val_main_v184, val_main_v178]

theorem cm3 (n : Fin 32) (g p : Fin 64) : (val_main_v184 (F := Ideal) x0 x3 x4 x5 x6 (ix4 n 3 g p) : EReal) = (ST x0 x3 x4 x5 x6 n g p 3).2 := by
  refine Eq.trans ?_ (m3 x0 x3 x4 x5 x6 n g p)
  pointwise [val_main_v184, val_main_v179]

theorem cm4 (n : Fin 32) (g p : Fin 64) : (val_main_v184 (F := Ideal) x0 x3 x4 x5 x6 (ix4 n 4 g p) : EReal) = (ST x0 x3 x4 x5 x6 n g p 4).2 := by
  refine Eq.trans ?_ (m4 x0 x3 x4 x5 x6 n g p)
  pointwise [val_main_v184, val_main_v180]

theorem cm5 (n : Fin 32) (g p : Fin 64) : (val_main_v184 (F := Ideal) x0 x3 x4 x5 x6 (ix4 n 5 g p) : EReal) = (ST x0 x3 x4 x5 x6 n g p 5).2 := by
  refine Eq.trans ?_ (m5 x0 x3 x4 x5 x6 n g p)
  pointwise [val_main_v184, val_main_v181]

theorem cm6 (n : Fin 32) (g p : Fin 64) : (val_main_v184 (F := Ideal) x0 x3 x4 x5 x6 (ix4 n 6 g p) : EReal) = (ST x0 x3 x4 x5 x6 n g p 6).2 := by
  refine Eq.trans ?_ (m6 x0 x3 x4 x5 x6 n g p)
  pointwise [val_main_v184, val_main_v182]

theorem cm7 (n : Fin 32) (g p : Fin 64) : (val_main_v184 (F := Ideal) x0 x3 x4 x5 x6 (ix4 n 7 g p) : EReal) = (ST x0 x3 x4 x5 x6 n g p 7).2 := by
  refine Eq.trans ?_ (m7 x0 x3 x4 x5 x6 n g p)
  pointwise [val_main_v184, val_main_v183]

theorem cm (n : Fin 32) (t : Fin 8) (g p : Fin 64) : (val_main_v184 (F := Ideal) x0 x3 x4 x5 x6 (ix4 n t g p) : EReal) = (ST x0 x3 x4 x5 x6 n g p t.val).2 := by
  fin_cases t
  · exact cm0 x0 x3 x4 x5 x6 n g p
  · exact cm1 x0 x3 x4 x5 x6 n g p
  · exact cm2 x0 x3 x4 x5 x6 n g p
  · exact cm3 x0 x3 x4 x5 x6 n g p
  · exact cm4 x0 x3 x4 x5 x6 n g p
  · exact cm5 x0 x3 x4 x5 x6 n g p
  · exact cm6 x0 x3 x4 x5 x6 n g p
  · exact cm7 x0 x3 x4 x5 x6 n g p

/-- The states with what the state before the first step adds. -/
def XR (n : Fin 32) (t : Fin 8) (g p : Fin 64) : EReal :=
  (ST x0 x3 x4 x5 x6 n g p t.val).1 + x3 (ix3 t g p) * x1 (ix4 0 n g p) - x4 (ix3 t g p) * x2 (ix4 0 n g p)

def XI (n : Fin 32) (t : Fin 8) (g p : Fin 64) : EReal :=
  (ST x0 x3 x4 x5 x6 n g p t.val).2 + x3 (ix3 t g p) * x2 (ix4 0 n g p) + x4 (ix3 t g p) * x1 (ix4 0 n g p)

theorem x175 (n : Fin 32) (t : Fin 8) (g p : Fin 64) : (val_main_v175 (F := Ideal) x0 x1 x2 x3 x4 x5 x6 (ix4 n t g p) : EReal) = XR x0 x1 x2 x3 x4 x5 x6 n t g p := by
  have h : (val_main_v175 (F := Ideal) x0 x1 x2 x3 x4 x5 x6 (ix4 n t g p) : EReal)
      = val_main_v165 (F := Ideal) x0 x3 x4 x5 x6 (ix4 n t g p) + x3 (ix3 t g p) * x1 (ix4 0 n g p) - x4 (ix3 t g p) * x2 (ix4 0 n g p) := by
    pointwise [val_main_v175, val_main_v174, val_main_v173, val_main_v172, val_main_v171, val_main_v170, val_main_v169, val_main_v168, val_main_v167, val_main_v166, val_main_v156, val_main_v155, val_main_v154, val_main_v153]
  rw [h, cr]; rfl

theorem x194 (n : Fin 32) (t : Fin 8) (g p : Fin 64) : (val_main_v194 (F := Ideal) x0 x1 x2 x3 x4 x5 x6 (ix4 n t g p) : EReal) = XI x0 x1 x2 x3 x4 x5 x6 n t g p := by
  have h : (val_main_v194 (F := Ideal) x0 x1 x2 x3 x4 x5 x6 (ix4 n t g p) : EReal)
      = val_main_v184 (F := Ideal) x0 x3 x4 x5 x6 (ix4 n t g p) + x3 (ix3 t g p) * x2 (ix4 0 n g p) + x4 (ix3 t g p) * x1 (ix4 0 n g p) := by
    pointwise [val_main_v194, val_main_v193, val_main_v192, val_main_v191, val_main_v190, val_main_v189, val_main_v188, val_main_v187, val_main_v186, val_main_v185, val_main_v156, val_main_v155, val_main_v154, val_main_v153]
  rw [h, cm]; rfl

/-- The read-out before its activation. -/
def YR (n : Fin 32) (t : Fin 8) (g : Fin 64) (q : Fin 16) : EReal :=
  ∑ p : Fin 64, XR x0 x1 x2 x3 x4 x5 x6 n t g p * x7 (ix4 0 g q p) - ∑ p : Fin 64, XI x0 x1 x2 x3 x4 x5 x6 n t g p * x8 (ix4 0 g q p)
    + x9 (ix2 0 ⟨g.val * 16 + q.val, by omega⟩) * x0 (ix2 ⟨n.val * 8 + t.val, by omega⟩ ⟨g.val * 16 + q.val, by omega⟩)

theorem y207 (n : Fin 32) (t : Fin 8) (g : Fin 64) (q : Fin 16) : (val_main_v207 (F := Ideal) x0 x1 x2 x3 x4 x5 x6 x7 x8 x9 (ix4 n t g q) : EReal) = YR x0 x1 x2 x3 x4 x5 x6 x7 x8 x9 n t g q := by
  have h : (val_main_v207 (F := Ideal) x0 x1 x2 x3 x4 x5 x6 x7 x8 x9 (ix4 n t g q) : EReal)
      = ∑ p : Fin 64, (val_main_v175 (F := Ideal) x0 x1 x2 x3 x4 x5 x6 (ix4 n t g p) : EReal) * x7 (ix4 0 g q p)
        - ∑ p : Fin 64, (val_main_v194 (F := Ideal) x0 x1 x2 x3 x4 x5 x6 (ix4 n t g p) : EReal) * x8 (ix4 0 g q p)
        + x9 (ix2 0 ⟨g.val * 16 + q.val, by omega⟩) * x0 (ix2 ⟨n.val * 8 + t.val, by omega⟩ ⟨g.val * 16 + q.val, by omega⟩) := by
    pointwise [val_main_v207, val_main_v206, val_main_v205, val_main_v204, val_main_v203, val_main_v202, val_main_v201, val_main_v200, val_main_v199, val_main_v198, val_main_v197, val_main_v196, val_main_v195, val_main_v0]
  simp only [h, x175, x194]; rfl

theorem y208 (n : Fin 32) (t : Fin 8) (d : Fin 1024) : (val_main_v208 (F := Ideal) x0 x1 x2 x3 x4 x5 x6 x7 x8 x9 (ix2 ⟨n.val * 8 + t.val, by omega⟩ d) : EReal)
    = YR x0 x1 x2 x3 x4 x5 x6 x7 x8 x9 n t ⟨d.val / 16, by omega⟩ ⟨d.val % 16, by omega⟩ := by
  rw [← y207]
  pointwise [val_main_v208]

/-- The activation as the reference writes it. -/
def rl (y : EReal) : EReal :=
  y * (Ideal.ofBits FTy.f32 0x3F000000#32 * (Ideal.ofBits FTy.f32 0x3F800000#32
    + Ideal.tanh (Ideal.ofBits FTy.f32 0x3F4C422A#32 * (y + Ideal.ofBits FTy.f32 0x3D372713#32 * (y * y * y)))))

theorem g221 (R : Fin 256) (d : Fin 1024) : (val_main_v221 (F := Ideal) x0 x1 x2 x3 x4 x5 x6 x7 x8 x9 (ix2 R d) : EReal) = rl (val_main_v208 (F := Ideal) x0 x1 x2 x3 x4 x5 x6 x7 x8 x9 (ix2 R d)) := by
  pointwise [val_main_v209, val_main_v210, val_main_v211, val_main_v212, val_main_v213, val_main_v214, val_main_v215, val_main_v216, val_main_v217, val_main_v218, val_main_v219, val_main_v220, val_main_v221, val_main_cst, val_main_cst_0, val_main_cst_1, val_main_cst_2, rl]

theorem o235 (R : Fin 256) (d : Fin 1024) : (val_main_v235 (F := Ideal) x0 x1 x2 x3 x4 x5 x6 x7 x8 x9 x10 x11 (ix2 R d) : EReal)
    = val_main_v221 (F := Ideal) x0 x1 x2 x3 x4 x5 x6 x7 x8 x9 (ix2 R d)
      * Ideal.logistic (∑ e : Fin 1024, (val_main_v221 (F := Ideal) x0 x1 x2 x3 x4 x5 x6 x7 x8 x9 (ix2 R e) : EReal) * x10 (ix3 0 e d) + x11 (ix2 0 d)) := by
  pointwise [val_main_v222, val_main_v223, val_main_v224, val_main_v225, val_main_v226, val_main_v227, val_main_v228, val_main_v229, val_main_v230, val_main_v231, val_main_v232, val_main_v233, val_main_v234, val_main_v235, val_main_cst_3, val_main_cst_4, Ideal.logistic]

theorem o238 (n : Fin 32) (l : Fin 4096) : (val_main_v238 (F := Ideal) x0 x1 x2 x3 x4 x5 x6 (ix2 n l) : EReal) = XR x0 x1 x2 x3 x4 x5 x6 n 7 ⟨l.val / 64, by omega⟩ ⟨l.val % 64, by omega⟩ := by
  rw [← x175]
  pointwise [val_main_v236, val_main_v237, val_main_v238]

theorem o241 (n : Fin 32) (l : Fin 4096) : (val_main_v241 (F := Ideal) x0 x1 x2 x3 x4 x5 x6 (ix2 n l) : EReal) = XI x0 x1 x2 x3 x4 x5 x6 n 7 ⟨l.val / 64, by omega⟩ ⟨l.val % 64, by omega⟩ := by
  rw [← x194]
  pointwise [val_main_v239, val_main_v240, val_main_v241]

end Cert.ScanRefIdeal.Hand
-- ==== Proof.ScanIn.lean ====
/- Hand-written, untrusted: what the recurrence's windows read of the arguments. -/
module

public import proofs.«01_k».proof.Proof.ScanOut
public import proofs.«01_k».proof.Proof.ScanRef
public import proofs.«01_k».proof.Proof.Gen.ScanIdeal.Value
public import Idealize.ShloMosaic.Lib.Claim

set_option maxRecDepth 16384

@[expose] public section

noncomputable section

open Idealize.ShloMosaic Idealize.ShloMosaic.TcCoe Idealize.SL.Sem
open Idealize.ShloMosaic.Pipeline (Dat)

namespace Cert.ScanIdeal.Hand

open Cert.ScanIdeal Cert.ScanIdeal.Gen

variable (m : (ℓ : Loc nD τ sig) → Buf (Elt Ideal) ℓ)

/-- Every window's block index at every grid point. -/
theorem idx_val : ∀ t : Fin cfg0.N, win0_0.index t = ![t.val, 0] ∧ win0_1.index t = ![t.val, 0]
    ∧ win0_2.index t = ![t.val, 0] ∧ win0_3.index t = ![0, 0] ∧ win0_4.index t = ![0, 0]
    ∧ win0_5.index t = ![0, 0, 0] ∧ win0_6.index t = ![0, 0, 0] ∧ win0_7.index t = ![0, 0, 0] ∧ win0_8.index t = ![0, 0, 0]
    ∧ win0_9.index t = ![0, 0] ∧ win0_10.index t = ![0, 0] ∧ win0_11.index t = ![0, 0]
    ∧ win0_12.index t = ![t.val, 0] ∧ win0_13.index t = ![t.val, 0] ∧ win0_14.index t = ![t.val, 0] :=
  (by decide +kernel : ∀ t : Fin grid0.N, _)

theorem blk0 (c : Dev nD) (t : Fin cfg0.N) (r : Fin 64) (e : Fin 1024) (R : Fin 256) (hR : R.val = 64 * t.val + r.val) :
    (show FVec Ideal S64x1024 .f32 from iblk m c 0 t) (ix2 r e) = (m ((c : Thread nD τ).loc main_arg0)) (ix2 R e) := by
  blk_simp [iblk, idx_val t]
  entry_read
  pointwise
  blk_ext [idx_val t]

theorem blk1 (c : Dev nD) (t : Fin cfg0.N) (r : Fin 8) (l : Fin 4096) (n : Fin 32) (hn : n.val = 8 * t.val + r.val)
    (g p : Fin 64) (hl : l.val = g.val * 64 + p.val) :
    (show FVec Ideal S8x4096 .f32 from iblk m c 1 t) (ix2 r l) = (m ((c : Thread nD τ).loc main_arg1)) (ix4 0 n g p) := by
  blk_simp [iblk, idx_val t]
  entry_read
  pointwise
  blk_ext [idx_val t]

theorem blk2 (c : Dev nD) (t : Fin cfg0.N) (r : Fin 8) (l : Fin 4096) (n : Fin 32) (hn : n.val = 8 * t.val + r.val)
    (g p : Fin 64) (hl : l.val = g.val * 64 + p.val) :
    (show FVec Ideal S8x4096 .f32 from iblk m c 2 t) (ix2 r l) = (m ((c : Thread nD τ).loc main_arg2)) (ix4 0 n g p) := by
  blk_simp [iblk, idx_val t]
  entry_read
  pointwise
  blk_ext [idx_val t]

theorem blk3 (c : Dev nD) (t : Fin cfg0.N) (r : Fin 8) (l : Fin 4096) (g p : Fin 64) (hl : l.val = g.val * 64 + p.val) :
    (show FVec Ideal S8x4096 .f32 from iblk m c 3 t) (ix2 r l) = (m ((c : Thread nD τ).loc main_arg3)) (ix3 r g p) := by
  blk_simp [iblk, idx_val t]
  entry_read
  pointwise
  blk_ext [idx_val t]

theorem blk4 (c : Dev nD) (t : Fin cfg0.N) (r : Fin 8) (l : Fin 4096) (g p : Fin 64) (hl : l.val = g.val * 64 + p.val) :
    (show FVec Ideal S8x4096 .f32 from iblk m c 4 t) (ix2 r l) = (m ((c : Thread nD τ).loc main_arg4)) (ix3 r g p) := by
  blk_simp [iblk, idx_val t]
  entry_read
  pointwise
  blk_ext [idx_val t]

/-- An entry of the identity, as the host computes it. -/
theorem eye_at (a b : ℕ) (ha : a < 16) (hb : b < 16) :
    (FloatOps.uitofp (F := Ideal) FTy.f32 (IntOp.cmpi CmpIPredicate.eq (IntOp.addi (BitVec.ofNat 32 a) 0#32) (BitVec.ofNat 32 b)) : EReal)
      = if a = b then 1 else 0 := by
  have h : (BitVec.ofNat 32 a = BitVec.ofNat 32 b) ↔ a = b := by
    constructor
    · intro h
      have := congrArg BitVec.toNat h
      simp only [BitVec.toNat_ofNat] at this
      omega
    · rintro rfl; rfl
  by_cases e : a = b
  · subst e
    simp [IntOp.cmpi, IntOp.addi]
    show (((1#1 : BitVec 1).toNat : ℝ) : EReal) = 1
    simp
  · have h' : (BitVec.ofNat 32 a == BitVec.ofNat 32 b) = false := by
      rw [beq_eq_false_iff_ne]; exact fun w => e (h.1 w)
    simp [IntOp.cmpi, IntOp.addi, h', e]
    show (((0#1 : BitVec 1).toNat : ℝ) : EReal) = 0
    simp

set_option maxHeartbeats 1000000 in
theorem blk5 (c : Dev nD) (t : Fin cfg0.N) (b : Fin 4) (k : Fin 256) (j : Fin 1024) (g p : Fin 64) (q : Fin 16)
    (hg : g.val = b.val * 16 + k.val / 16) (hp : p.val = j.val % 64) (hq : q.val = k.val % 16) :
    ((show FVec Ideal S4x256x1024 .bf16 from iblk m c 5 t) (ix3 b k j) : EReal)
      = ((show FVec Ideal S64x64x16 .f32 from m ((c : Thread nD τ).loc main_arg5)) (ix3 g p q) : EReal) * (if k.val / 16 = j.val / 64 then 1 else 0) := by
  blk_simp [iblk, idx_val t]
  entry_read
  pointwise
  refine congrArg₂ (· * ·) ?_ ?_
  · blk_ext [idx_val t]
  · refine Eq.trans (congrArg₂ (fun a b => FloatOps.uitofp (F := Ideal) .f32 (IntOp.cmpi CmpIPredicate.eq (IntOp.addi (BitVec.ofNat 32 a) 0#32) (BitVec.ofNat 32 b)))
      (?_ : _ = k.val / 16) (?_ : _ = j.val / 64)) (eye_at _ _ (by omega) (by omega))
    · blk_simp [idx_val t]
    · blk_simp [idx_val t]

set_option maxHeartbeats 1000000 in
theorem blk6 (c : Dev nD) (t : Fin cfg0.N) (b : Fin 4) (k : Fin 256) (j : Fin 1024) (g p : Fin 64) (q : Fin 16)
    (hg : g.val = b.val * 16 + k.val / 16) (hp : p.val = j.val % 64) (hq : q.val = k.val % 16) :
    ((show FVec Ideal S4x256x1024 .bf16 from iblk m c 6 t) (ix3 b k j) : EReal)
      = ((show FVec Ideal S64x64x16 .f32 from m ((c : Thread nD τ).loc main_arg6)) (ix3 g p q) : EReal) * (if k.val / 16 = j.val / 64 then 1 else 0) := by
  blk_simp [iblk, idx_val t]
  entry_read
  pointwise
  refine congrArg₂ (· * ·) ?_ ?_
  · blk_ext [idx_val t]
  · refine Eq.trans (congrArg₂ (fun a b => FloatOps.uitofp (F := Ideal) .f32 (IntOp.cmpi CmpIPredicate.eq (IntOp.addi (BitVec.ofNat 32 a) 0#32) (BitVec.ofNat 32 b)))
      (?_ : _ = k.val / 16) (?_ : _ = j.val / 64)) (eye_at _ _ (by omega) (by omega))
    · blk_simp [idx_val t]
    · blk_simp [idx_val t]

set_option maxHeartbeats 1000000 in
theorem blk7 (c : Dev nD) (t : Fin cfg0.N) (b : Fin 4) (k : Fin 1024) (j : Fin 256) (g p : Fin 64) (q : Fin 16)
    (hg : g.val = b.val * 16 + k.val / 64) (hp : p.val = k.val % 64) (hq : q.val = j.val % 16) :
    ((show FVec Ideal S4x1024x256 .bf16 from iblk m c 7 t) (ix3 b k j) : EReal)
      = ((show FVec Ideal S1x64x16x64 .f32 from m ((c : Thread nD τ).loc main_arg7)) (ix4 0 g q p) : EReal) * (if k.val / 64 = j.val / 16 then 1 else 0) := by
  blk_simp [iblk, idx_val t]
  entry_read
  pointwise
  refine congrArg₂ (· * ·) ?_ ?_
  · blk_ext [idx_val t]
  · refine Eq.trans (congrArg₂ (fun a b => FloatOps.uitofp (F := Ideal) .f32 (IntOp.cmpi CmpIPredicate.eq (IntOp.addi (BitVec.ofNat 32 a) 0#32) (BitVec.ofNat 32 b)))
      (?_ : _ = k.val / 64) (?_ : _ = j.val / 16)) (eye_at _ _ (by omega) (by omega))
    · blk_simp [idx_val t]
    · blk_simp [idx_val t]

set_option maxHeartbeats 1000000 in
theorem blk8 (c : Dev nD) (t : Fin cfg0.N) (b : Fin 4) (k : Fin 1024) (j : Fin 256) (g p : Fin 64) (q : Fin 16)
    (hg : g.val = b.val * 16 + k.val / 64) (hp : p.val = k.val % 64) (hq : q.val = j.val % 16) :
    ((show FVec Ideal S4x1024x256 .bf16 from iblk m c 8 t) (ix3 b k j) : EReal)
      = ((show FVec Ideal S1x64x16x64 .f32 from m ((c : Thread nD τ).loc main_arg8)) (ix4 0 g q p) : EReal) * (if k.val / 64 = j.val / 16 then 1 else 0) := by
  blk_simp [iblk, idx_val t]
  entry_read
  pointwise
  refine congrArg₂ (· * ·) ?_ ?_
  · blk_ext [idx_val t]
  · refine Eq.trans (congrArg₂ (fun a b => FloatOps.uitofp (F := Ideal) .f32 (IntOp.cmpi CmpIPredicate.eq (IntOp.addi (BitVec.ofNat 32 a) 0#32) (BitVec.ofNat 32 b)))
      (?_ : _ = k.val / 64) (?_ : _ = j.val / 16)) (eye_at _ _ (by omega) (by omega))
    · blk_simp [idx_val t]
    · blk_simp [idx_val t]

theorem blk9 (c : Dev nD) (t : Fin cfg0.N) (d : Fin 1024) :
    (show FVec Ideal S1x1024 .f32 from iblk m c 9 t) (ix2 0 d) = (m ((c : Thread nD τ).loc main_arg9)) (ix2 0 d) := by
  blk_simp [iblk, idx_val t]
  entry_read
  pointwise
  blk_ext [idx_val t]

theorem blk10 (c : Dev nD) (t : Fin cfg0.N) (e d : Fin 1024) :
    (show FVec Ideal S1024x1024 .bf16 from iblk m c 10 t) (ix2 e d) = (m ((c : Thread nD τ).loc main_arg10)) (ix3 0 e d) := by
  blk_simp [iblk, idx_val t]
  entry_read
  pointwise
  blk_ext [idx_val t]

theorem blk11 (c : Dev nD) (t : Fin cfg0.N) (d : Fin 1024) :
    (show FVec Ideal S1x1024 .f32 from iblk m c 11 t) (ix2 0 d) = (m ((c : Thread nD τ).loc main_arg11)) (ix2 0 d) := by
  blk_simp [iblk, idx_val t]
  entry_read
  pointwise
  blk_ext [idx_val t]

end Cert.ScanIdeal.Hand
-- ==== Proof.ScanPoint.lean ====
/- Hand-written, untrusted: what a point computes of its blocks is the reference at the block's place. -/
module

public import proofs.«01_k».proof.Proof.ScanOut
public import proofs.«01_k».proof.Proof.ScanRef

set_option maxRecDepth 16384

@[expose] public section

noncomputable section

open Idealize.ShloMosaic Idealize.ShloMosaic.TcCoe Idealize.SL.Sem

namespace Cert.ScanIdeal.Hand

open Cert.ScanIdeal Cert.ScanIdeal.Gen

/-- A sum whose terms vanish off one group of `B` neighbours is the sum over the group. -/
theorem collapse {N B : ℕ} (a : ℕ) (hB : 0 < B) (hN : a * B + B ≤ N) (f : Fin N → EReal) (h : ∀ k : Fin N, k.val / B ≠ a → f k = 0) :
    ∑ k : Fin N, f k = ∑ c : Fin B, f ⟨a * B + c.val, by omega⟩ := by
  refine (Finset.sum_of_injOn (fun c : Fin B => (⟨a * B + c.val, by omega⟩ : Fin N)) ?_ ?_ ?_ ?_).symm
  · intro x _ y _ hxy
    have := congrArg Fin.val hxy
    exact Fin.ext (by simpa using this)
  · intro x _; simp
  · intro k _ hk
    refine h k fun e => hk ⟨⟨k.val % B, Nat.mod_lt _ hB⟩, by simp, Fin.ext ?_⟩
    show a * B + k.val % B = k.val
    rw [← e]
    exact Nat.div_add_mod' _ _
  · intro c _; rfl

open Cert.ScanRefIdeal.Hand in
/-- The two ways of writing the activation. -/
theorem rl_eq (y : EReal) : gl y = rl y := by
  unfold gl rl
  rw [mul_comm (Ideal.ofBits FTy.f32 0x3F000000#32) y, mul_assoc]

/-- What the blocks of point `T` hold of the arguments. -/
structure Rd (T : ℕ) (x0 : FVec Ideal S64x1024 .f32) (x1 x2 x3 x4 : FVec Ideal S8x4096 .f32) (x5 x6 : FVec Ideal S4x256x1024 .bf16)
    (x7 x8 : FVec Ideal S4x1024x256 .bf16) (x9 : FVec Ideal S1x1024 .f32) (x10 : FVec Ideal S1024x1024 .bf16) (x11 : FVec Ideal S1x1024 .f32)
    (y0 : FVec Ideal S256x1024 .f32) (y1 y2 : FVec Ideal S1x32x64x64 .f32) (y3 y4 : FVec Ideal S8x64x64 .f32) (y5 y6 : FVec Ideal S64x64x16 .f32)
    (y7 y8 : FVec Ideal S1x64x16x64 .f32) (y9 : FVec Ideal S1x1024 .f32) (y10 : FVec Ideal S1x1024x1024 .f32) (y11 : FVec Ideal S1x1024 .f32) : Prop where
  h0 : ∀ (r : Fin 64) (e : Fin 1024) (R : Fin 256), R.val = 64 * T + r.val → x0 (ix2 r e) = y0 (ix2 R e)
  h1 : ∀ (r : Fin 8) (l : Fin 4096) (n : Fin 32) (g p : Fin 64), n.val = 8 * T + r.val → l.val = g.val * 64 + p.val → x1 (ix2 r l) = y1 (ix4 0 n g p)
  h2 : ∀ (r : Fin 8) (l : Fin 4096) (n : Fin 32) (g p : Fin 64), n.val = 8 * T + r.val → l.val = g.val * 64 + p.val → x2 (ix2 r l) = y2 (ix4 0 n g p)
  h3 : ∀ (r : Fin 8) (l : Fin 4096) (g p : Fin 64), l.val = g.val * 64 + p.val → x3 (ix2 r l) = y3 (ix3 r g p)
  h4 : ∀ (r : Fin 8) (l : Fin 4096) (g p : Fin 64), l.val = g.val * 64 + p.val → x4 (ix2 r l) = y4 (ix3 r g p)
  h5 : ∀ (b : Fin 4) (k : Fin 256) (j : Fin 1024) (g p : Fin 64) (q : Fin 16), g.val = b.val * 16 + k.val / 16 → p.val = j.val % 64 → q.val = k.val % 16 →
    (x5 (ix3 b k j) : EReal) = (y5 (ix3 g p q) : EReal) * (if k.val / 16 = j.val / 64 then 1 else 0)
  h6 : ∀ (b : Fin 4) (k : Fin 256) (j : Fin 1024) (g p : Fin 64) (q : Fin 16), g.val = b.val * 16 + k.val / 16 → p.val = j.val % 64 → q.val = k.val % 16 →
    (x6 (ix3 b k j) : EReal) = (y6 (ix3 g p q) : EReal) * (if k.val / 16 = j.val / 64 then 1 else 0)
  h7 : ∀ (b : Fin 4) (k : Fin 1024) (j : Fin 256) (g p : Fin 64) (q : Fin 16), g.val = b.val * 16 + k.val / 64 → p.val = k.val % 64 → q.val = j.val % 16 →
    (x7 (ix3 b k j) : EReal) = (y7 (ix4 0 g q p) : EReal) * (if k.val / 64 = j.val / 16 then 1 else 0)
  h8 : ∀ (b : Fin 4) (k : Fin 1024) (j : Fin 256) (g p : Fin 64) (q : Fin 16), g.val = b.val * 16 + k.val / 64 → p.val = k.val % 64 → q.val = j.val % 16 →
    (x8 (ix3 b k j) : EReal) = (y8 (ix4 0 g q p) : EReal) * (if k.val / 64 = j.val / 16 then 1 else 0)
  h9 : ∀ d : Fin 1024, x9 (ix2 0 d) = y9 (ix2 0 d)
  h10 : ∀ e d : Fin 1024, (x10 (ix2 e d) : EReal) = (y10 (ix3 0 e d) : EReal)
  h11 : ∀ d : Fin 1024, x11 (ix2 0 d) = y11 (ix2 0 d)

/-- A row of a block-diagonal product is the product of its own block. -/
theorem bu_ref {T : ℕ} {x0 : FVec Ideal S64x1024 .f32} {x5 : FVec Ideal S4x256x1024 .bf16} {y0 : FVec Ideal S256x1024 .f32} {y5 : FVec Ideal S64x64x16 .f32}
    (h0 : ∀ (r : Fin 64) (e : Fin 1024) (R : Fin 256), R.val = 64 * T + r.val → x0 (ix2 r e) = y0 (ix2 R e))
    (h5 : ∀ (b : Fin 4) (k : Fin 256) (j : Fin 1024) (g p : Fin 64) (q : Fin 16), g.val = b.val * 16 + k.val / 16 → p.val = j.val % 64 → q.val = k.val % 16 →
      (x5 (ix3 b k j) : EReal) = (y5 (ix3 g p q) : EReal) * (if k.val / 16 = j.val / 64 then 1 else 0))
    (b : Fin 4) (t r : Fin 8) (j : Fin 1024) (n : Fin 32) (g p : Fin 64) (hn : n.val = 8 * T + r.val) (hg : g.val = b.val * 16 + j.val / 64) (hp : p.val = j.val % 64) :
    BU x0 x5 b t r j = Cert.ScanRefIdeal.Hand.UB y0 y5 n t g p := by
  unfold BU Cert.ScanRefIdeal.Hand.UB
  rw [collapse (j.val / 64) (B := 16) (by omega) (by omega)]
  · refine Finset.sum_congr rfl fun c _ => ?_
    rw [h5 b ⟨j.val / 64 * 16 + c.val, by omega⟩ j g p c (by show g.val = b.val * 16 + (j.val / 64 * 16 + c.val) / 16; omega) hp
      (by show c.val = (j.val / 64 * 16 + c.val) % 16; omega)]
    rw [if_pos (show (j.val / 64 * 16 + c.val) / 16 = j.val / 64 by omega), mul_one, mul_comm]
    rw [h0 _ _ ⟨n.val * 8 + t.val, by omega⟩ (by show n.val * 8 + t.val = 64 * T + (r.val * 8 + t.val); omega)]
    have e : (⟨b.val * 256 + (j.val / 64 * 16 + c.val), by omega⟩ : Fin 1024) = ⟨g.val * 16 + c.val, by omega⟩ := Fin.ext (by show b.val * 256 + (j.val / 64 * 16 + c.val) = g.val * 16 + c.val; omega)
    rw [e]
  · intro k hk
    rw [h5 b k j ⟨b.val * 16 + k.val / 16, by omega⟩ p ⟨k.val % 16, by omega⟩ rfl hp rfl, if_neg hk, mul_zero, mul_zero]

/-- The same of the read-out's block-diagonal product. -/
theorem yb_ref {x7 : FVec Ideal S4x1024x256 .bf16} {y7 : FVec Ideal S1x64x16x64 .f32}
    (h7 : ∀ (b : Fin 4) (k : Fin 1024) (j : Fin 256) (g p : Fin 64) (q : Fin 16), g.val = b.val * 16 + k.val / 64 → p.val = k.val % 64 → q.val = j.val % 16 →
      (x7 (ix3 b k j) : EReal) = (y7 (ix4 0 g q p) : EReal) * (if k.val / 64 = j.val / 16 then 1 else 0))
    (b : Fin 4) (j : Fin 256) (g : Fin 64) (q : Fin 16) (hg : g.val = b.val * 16 + j.val / 16) (hq : q.val = j.val % 16)
    (F : Fin 1024 → EReal) (X : Fin 64 → EReal) (hF : ∀ (k : Fin 1024) (p : Fin 64), k.val = j.val / 16 * 64 + p.val → F k = X p) :
    ∑ k : Fin 1024, F k * x7 (ix3 b k j) = ∑ p : Fin 64, X p * y7 (ix4 0 g q p) := by
  rw [collapse (j.val / 16) (B := 64) (by omega) (by omega)]
  · refine Finset.sum_congr rfl fun p _ => ?_
    rw [h7 b ⟨j.val / 16 * 64 + p.val, by omega⟩ j g p q (by show g.val = b.val * 16 + (j.val / 16 * 64 + p.val) / 64; omega)
      (by show p.val = (j.val / 16 * 64 + p.val) % 64; omega) hq]
    rw [if_pos (show (j.val / 16 * 64 + p.val) / 64 = j.val / 16 by omega), mul_one, hF _ p rfl]
  · intro k hk
    rw [h7 b k j ⟨b.val * 16 + k.val / 64, by omega⟩ ⟨k.val % 64, by omega⟩ q rfl rfl hq, if_neg hk, mul_zero, mul_zero]

section
variable {T : ℕ} {x0 : FVec Ideal S64x1024 .f32} {x1 x2 x3 x4 : FVec Ideal S8x4096 .f32} {x5 x6 : FVec Ideal S4x256x1024 .bf16}
    {x7 x8 : FVec Ideal S4x1024x256 .bf16} {x9 : FVec Ideal S1x1024 .f32} {x10 : FVec Ideal S1024x1024 .bf16} {x11 : FVec Ideal S1x1024 .f32}
    {y0 : FVec Ideal S256x1024 .f32} {y1 y2 : FVec Ideal S1x32x64x64 .f32} {y3 y4 : FVec Ideal S8x64x64 .f32} {y5 y6 : FVec Ideal S64x64x16 .f32}
    {y7 y8 : FVec Ideal S1x64x16x64 .f32} {y9 : FVec Ideal S1x1024 .f32} {y10 : FVec Ideal S1x1024x1024 .f32} {y11 : FVec Ideal S1x1024 .f32}
variable (H : Rd T x0 x1 x2 x3 x4 x5 x6 x7 x8 x9 x10 x11 y0 y1 y2 y3 y4 y5 y6 y7 y8 y9 y10 y11)
include H

open Cert.ScanRefIdeal.Hand

theorem st_eq (b : Fin 4) (t r : Fin 8) (j : Fin 1024) (n : Fin 32) (g p : Fin 64) (hn : n.val = 8 * T + r.val) (hg : g.val = b.val * 16 + j.val / 64) (hp : p.val = j.val % 64) :
    st (RW x3 b 0 j) (RW x4 b 0 j) (fun t => BU x0 x5 b t r j) (fun t => BU x0 x6 b t r j) t.val = ST y0 y3 y4 y5 y6 n g p t.val := by
  have hl : (ln b j).val = g.val * 64 + p.val := by show b.val * 1024 + j.val = _; omega
  have e3 : RW x3 b 0 j = y3 (ix3 0 g p) := H.h3 _ _ g p hl
  have e4 : RW x4 b 0 j = y4 (ix3 0 g p) := H.h4 _ _ g p hl
  have e5 : (fun t => BU x0 x5 b t r j) = fun t => UB y0 y5 n t g p := funext fun t => bu_ref H.h0 H.h5 b t r j n g p hn hg hp
  have e6 : (fun t => BU x0 x6 b t r j) = fun t => UB y0 y6 n t g p := funext fun t => bu_ref H.h0 H.h6 b t r j n g p hn hg hp
  rw [e3, e4, e5, e6]; rfl

theorem fr_eq (b : Fin 4) (t r : Fin 8) (j : Fin 1024) (n : Fin 32) (g p : Fin 64) (hn : n.val = 8 * T + r.val) (hg : g.val = b.val * 16 + j.val / 64) (hp : p.val = j.val % 64) :
    FR x0 x1 x2 x3 x4 x5 x6 b t r j = XR y0 y1 y2 y3 y4 y5 y6 n t g p := by
  have hl : (ln b j).val = g.val * 64 + p.val := by show b.val * 1024 + j.val = _; omega
  unfold FR XR SR RW
  rw [H.h3 t _ g p hl, H.h4 t _ g p hl, H.h1 r _ n g p hn hl, H.h2 r _ n g p hn hl, ← st_eq H b t r j n g p hn hg hp]
  rfl

theorem fi_eq (b : Fin 4) (t r : Fin 8) (j : Fin 1024) (n : Fin 32) (g p : Fin 64) (hn : n.val = 8 * T + r.val) (hg : g.val = b.val * 16 + j.val / 64) (hp : p.val = j.val % 64) :
    FI x0 x1 x2 x3 x4 x5 x6 b t r j = XI y0 y1 y2 y3 y4 y5 y6 n t g p := by
  have hl : (ln b j).val = g.val * 64 + p.val := by show b.val * 1024 + j.val = _; omega
  unfold FI XI SI RW
  rw [H.h3 t _ g p hl, H.h4 t _ g p hl, H.h1 r _ n g p hn hl, H.h2 r _ n g p hn hl, ← st_eq H b t r j n g p hn hg hp]
  rfl

theorem gy_ref (t r : Fin 8) (d : Fin 1024) (n : Fin 32) (hn : n.val = 8 * T + r.val) :
    GY x0 x1 x2 x3 x4 x5 x6 x7 x8 x9 t r d = rl (YR y0 y1 y2 y3 y4 y5 y6 y7 y8 y9 n t ⟨d.val / 16, by omega⟩ ⟨d.val % 16, by omega⟩) := by
  unfold GY
  rw [rl_eq]
  refine congrArg rl ?_
  unfold YR YB
  refine congrArg₂ (· + ·) (congrArg₂ (· - ·) ?_ ?_) (congrArg₂ (· * ·) ?_ ?_)
  · refine yb_ref H.h7 _ _ _ _ (by show d.val / 16 = d.val / 256 * 16 + d.val % 256 / 16; omega) (by show d.val % 16 = d.val % 256 % 16; omega) _ _ fun k p hk => ?_
    have hk' : k.val = d.val % 256 / 16 * 64 + p.val := hk
    exact fr_eq H _ t r k n _ p hn (by show d.val / 16 = d.val / 256 * 16 + k.val / 64; omega) (by omega)
  · refine yb_ref H.h8 _ _ _ _ (by show d.val / 16 = d.val / 256 * 16 + d.val % 256 / 16; omega) (by show d.val % 16 = d.val % 256 % 16; omega) _ _ fun k p hk => ?_
    have hk' : k.val = d.val % 256 / 16 * 64 + p.val := hk
    exact fi_eq H _ t r k n _ p hn (by show d.val / 16 = d.val / 256 * 16 + k.val / 64; omega) (by omega)
  · have e : (⟨d.val / 16 * 16 + d.val % 16, by omega⟩ : Fin 1024) = d := Fin.ext (by show d.val / 16 * 16 + d.val % 16 = d.val; omega)
    rw [H.h9]
    exact congrArg (fun z => y9 (ix2 0 z)) e.symm
  · have e : (⟨d.val / 16 * 16 + d.val % 16, by omega⟩ : Fin 1024) = d := Fin.ext (by show d.val / 16 * 16 + d.val % 16 = d.val; omega)
    rw [H.h0 _ _ ⟨n.val * 8 + t.val, by omega⟩ (by show n.val * 8 + t.val = 64 * T + (r.val * 8 + t.val); omega)]
    exact congrArg (fun z => y0 (ix2 _ z)) e.symm

theorem sy_ref (t r : Fin 8) (d : Fin 1024) (n : Fin 32) (hn : n.val = 8 * T + r.val) :
    SY x0 x1 x2 x3 x4 x5 x6 x7 x8 x9 x10 x11 t r d
      = Cert.ScanRefIdeal.Read.val_main_v235 (F := Ideal) y0 y1 y2 y3 y4 y5 y6 y7 y8 y9 y10 y11 (ix2 ⟨n.val * 8 + t.val, by omega⟩ d) := by
  have hg : ∀ e : Fin 1024, GY x0 x1 x2 x3 x4 x5 x6 x7 x8 x9 t r e
      = Cert.ScanRefIdeal.Read.val_main_v221 (F := Ideal) y0 y1 y2 y3 y4 y5 y6 y7 y8 y9 (ix2 ⟨n.val * 8 + t.val, by omega⟩ e) := fun e => by
    rw [g221, y208]; exact gy_ref H t r e n hn
  rw [o235]
  unfold SY
  refine congrArg₂ (· * ·) (hg d) (congrArg Ideal.logistic (congrArg₂ (· + ·) (Finset.sum_congr rfl fun e _ => ?_) (H.h11 d)))
  exact congrArg₂ (· * ·) (hg e) (H.h10 e d)

theorem hr_ref (b : Fin 4) (r : Fin 8) (j : Fin 1024) (n : Fin 32) (hn : n.val = 8 * T + r.val) :
    FR x0 x1 x2 x3 x4 x5 x6 b 7 r j = Cert.ScanRefIdeal.Read.val_main_v238 (F := Ideal) y0 y1 y2 y3 y4 y5 y6 (ix2 n (ln b j)) := by
  rw [o238]
  exact fr_eq H b 7 r j n _ _ hn (by show (b.val * 1024 + j.val) / 64 = _; omega) (by show (b.val * 1024 + j.val) % 64 = _; omega)

theorem hi_ref (b : Fin 4) (r : Fin 8) (j : Fin 1024) (n : Fin 32) (hn : n.val = 8 * T + r.val) :
    FI x0 x1 x2 x3 x4 x5 x6 b 7 r j = Cert.ScanRefIdeal.Read.val_main_v241 (F := Ideal) y0 y1 y2 y3 y4 y5 y6 (ix2 n (ln b j)) := by
  rw [o241]
  exact fi_eq H b 7 r j n _ _ hn (by show (b.val * 1024 + j.val) / 64 = _; omega) (by show (b.val * 1024 + j.val) % 64 = _; omega)

end

end Cert.ScanIdeal.Hand
-- ==== Proof.ScanValue.lean ====
/- Hand-written, untrusted: the arrays the recurrence leaves are the reference's. -/
module

public import proofs.«01_k».proof.Proof.ScanIn
public import proofs.«01_k».proof.Proof.ScanPoint
public import proofs.«01_k».proof.Pre_finite_scan

set_option maxRecDepth 16384

@[expose] public section

noncomputable section

open Idealize.ShloMosaic Idealize.ShloMosaic.TcCoe Idealize.SL.Sem
open Idealize.ShloMosaic.Pipeline (Dat)

namespace Cert.ScanIdeal.Hand

open Cert.ScanIdeal Cert.ScanIdeal.Gen

section
variable {c : Dev nD} {i : grid0.Coords}
variable {arg1 : Memref sig .tc .vmem S64x1024 .f32} {harg1 : arg1.IsWhole}
variable {arg2 : Memref sig .tc .vmem S8x4096 .f32} {harg2 : arg2.IsWhole}
variable {arg3 : Memref sig .tc .vmem S8x4096 .f32} {harg3 : arg3.IsWhole}
variable {arg4 : Memref sig .tc .vmem S8x4096 .f32} {harg4 : arg4.IsWhole}
variable {arg5 : Memref sig .tc .vmem S8x4096 .f32} {harg5 : arg5.IsWhole}
variable {arg6 : Memref sig .tc .vmem S4x256x1024 .bf16} {harg6 : arg6.IsWhole}
variable {arg7 : Memref sig .tc .vmem S4x256x1024 .bf16} {harg7 : arg7.IsWhole}
variable {arg8 : Memref sig .tc .vmem S4x1024x256 .bf16} {harg8 : arg8.IsWhole}
variable {arg9 : Memref sig .tc .vmem S4x1024x256 .bf16} {harg9 : arg9.IsWhole}
variable {arg10 : Memref sig .tc .vmem S1x1024 .f32} {harg10 : arg10.IsWhole}
variable {arg11 : Memref sig .tc .vmem S1024x1024 .bf16} {harg11 : arg11.IsWhole}
variable {arg12 : Memref sig .tc .vmem S1x1024 .f32} {harg12 : arg12.IsWhole}
variable {arg13 : Memref sig .tc .vmem S64x1024 .bf16} {harg13 : arg13.IsWhole}
variable {arg14 : Memref sig .tc .vmem S8x4096 .f32} {harg14 : arg14.IsWhole}
variable {arg15 : Memref sig .tc .vmem S8x4096 .f32} {harg15 : arg15.IsWhole}
variable {arg16 : Memref sig .tc .vmem S8x8x1024 .f32} {harg16 : arg16.IsWhole}
variable {arg17 : Memref sig .tc .vmem S8x8x1024 .f32} {harg17 : arg17.IsWhole}
variable {arg18 : Memref sig .tc .vmem S64x1024 .f32} {harg18 : arg18.IsWhole}
variable {arg19 : Memref sig .tc .vmem S1x4096 .f32} {harg19 : arg19.IsWhole}
variable {arg20 : Memref sig .tc .vmem S1x4096 .f32} {harg20 : arg20.IsWhole}
variable {x0 : FVec Ideal S64x1024 .f32} {x1 x2 x3 x4 : FVec Ideal S8x4096 .f32} {x5 x6 : FVec Ideal S4x256x1024 .bf16}
  {x7 x8 : FVec Ideal S4x1024x256 .bf16} {x9 : FVec Ideal S1x1024 .f32} {x10 : FVec Ideal S1024x1024 .bf16} {x11 : FVec Ideal S1x1024 .f32}

theorem out12_at (h : Fin0 x0) (t r : Fin 8) (d : Fin 1024) :
    (out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 (ix2 ⟨r.val * 8 + t.val, by omega⟩ d) : EReal)
      = SY x0 x1 x2 x3 x4 x5 x6 x7 x8 x9 x10 x11 t r d := by
  unfold out0_A_12
  rw [View.read_writes_junk_eq_canon]
  refine Eq.trans ?_ (s_at (c := c) (harg1 := harg1) (harg2 := harg2) (harg3 := harg3) (harg4 := harg4) (harg5 := harg5) (harg6 := harg6) (harg7 := harg7)
    (harg8 := harg8) (harg9 := harg9) (harg10 := harg10) (harg11 := harg11) (harg12 := harg12) (arg16 := arg16) (arg17 := arg17) (arg18 := arg18) h t r d)
  apply canon_at
  exact emb_full _ d _

theorem out13_0 (r : Fin 8) (j : Fin 1024) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 (ix2 r (ln 0 j)) = FR x0 x1 x2 x3 x4 x5 x6 0 7 r j := by
  unfold out0_A_13
  rw [View.read_writes_junk_eq_canon]
  refine lane_miss (Or.inl (by show 0 * 1024 + j.val < 3072; omega)) ?_
  refine lane_miss (Or.inl (by show 0 * 1024 + j.val < 2048; omega)) ?_
  refine lane_miss (Or.inl (by show 0 * 1024 + j.val < 1024; omega)) ?_
  exact lane_at rfl ((q87 _ r j).trans (w_v495 r j))

theorem out13_1 (r : Fin 8) (j : Fin 1024) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 (ix2 r (ln 1 j)) = FR x0 x1 x2 x3 x4 x5 x6 1 7 r j := by
  unfold out0_A_13
  rw [View.read_writes_junk_eq_canon]
  refine lane_miss (Or.inl (by show 1 * 1024 + j.val < 3072; omega)) ?_
  refine lane_miss (Or.inl (by show 1 * 1024 + j.val < 2048; omega)) ?_
  exact lane_at rfl ((q169 _ r j).trans (w_v977 r j))

theorem out13_2 (r : Fin 8) (j : Fin 1024) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 (ix2 r (ln 2 j)) = FR x0 x1 x2 x3 x4 x5 x6 2 7 r j := by
  unfold out0_A_13
  rw [View.read_writes_junk_eq_canon]
  refine lane_miss (Or.inl (by show 2 * 1024 + j.val < 3072; omega)) ?_
  exact lane_at rfl ((q251 _ r j).trans (w_v1459 r j))

theorem out13_3 (r : Fin 8) (j : Fin 1024) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 (ix2 r (ln 3 j)) = FR x0 x1 x2 x3 x4 x5 x6 3 7 r j := by
  unfold out0_A_13
  rw [View.read_writes_junk_eq_canon]
  exact lane_at rfl ((q334 _ r j).trans (w_v1941 r j))

theorem out13_at (b : Fin 4) (r : Fin 8) (j : Fin 1024) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 (ix2 r (ln b j)) = FR x0 x1 x2 x3 x4 x5 x6 b 7 r j := by
  fin_cases b
  · exact out13_0 r j
  · exact out13_1 r j
  · exact out13_2 r j
  · exact out13_3 r j

theorem out14_0 (r : Fin 8) (j : Fin 1024) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 (ix2 r (ln 0 j)) = FI x0 x1 x2 x3 x4 x5 x6 0 7 r j := by
  unfold out0_A_14
  rw [View.read_writes_junk_eq_canon]
  refine lane_miss (Or.inl (by show 0 * 1024 + j.val < 3072; omega)) ?_
  refine lane_miss (Or.inl (by show 0 * 1024 + j.val < 2048; omega)) ?_
  refine lane_miss (Or.inl (by show 0 * 1024 + j.val < 1024; omega)) ?_
  exact lane_at rfl ((q88 _ r j).trans (w_v498 r j))

theorem out14_1 (r : Fin 8) (j : Fin 1024) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 (ix2 r (ln 1 j)) = FI x0 x1 x2 x3 x4 x5 x6 1 7 r j := by
  unfold out0_A_14
  rw [View.read_writes_junk_eq_canon]
  refine lane_miss (Or.inl (by show 1 * 1024 + j.val < 3072; omega)) ?_
  refine lane_miss (Or.inl (by show 1 * 1024 + j.val < 2048; omega)) ?_
  exact lane_at rfl ((q170 _ r j).trans (w_v980 r j))

theorem out14_2 (r : Fin 8) (j : Fin 1024) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 (ix2 r (ln 2 j)) = FI x0 x1 x2 x3 x4 x5 x6 2 7 r j := by
  unfold out0_A_14
  rw [View.read_writes_junk_eq_canon]
  refine lane_miss (Or.inl (by show 2 * 1024 + j.val < 3072; omega)) ?_
  exact lane_at rfl ((q252 _ r j).trans (w_v1462 r j))

theorem out14_3 (r : Fin 8) (j : Fin 1024) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 (ix2 r (ln 3 j)) = FI x0 x1 x2 x3 x4 x5 x6 3 7 r j := by
  unfold out0_A_14
  rw [View.read_writes_junk_eq_canon]
  exact lane_at rfl ((q335 _ r j).trans (w_v1944 r j))

theorem out14_at (b : Fin 4) (r : Fin 8) (j : Fin 1024) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 (ix2 r (ln b j)) = FI x0 x1 x2 x3 x4 x5 x6 b 7 r j := by
  fin_cases b
  · exact out14_0 r j
  · exact out14_1 r j
  · exact out14_2 r j
  · exact out14_3 r j

end

open Cert.Pre_finite_scan in
/-- The precondition, read at an entry. -/
theorem fin_at [Cert.Pre_finite_scan.Facts] {u : FVec Ideal S256x1024 .f32} {a1 a2 : FVec Ideal S1x32x64x64 .f32} {a3 a4 : FVec Ideal S8x64x64 .f32} {a5 a6 : FVec Ideal S64x64x16 .f32}
    {a7 a8 : FVec Ideal S1x64x16x64 .f32} {a9 : FVec Ideal S1x1024 .f32} {a10 : FVec Ideal S1x1024x1024 .f32} {a11 : FVec Ideal S1x1024 .f32}
    (h : fn (F := Ideal) u a1 a2 a3 a4 a5 a6 a7 a8 a9 a10 a11 = fun _ => 1#1) (R : Fin 256) (d : Fin 1024) :
    (u (ix2 R d) : EReal) - u (ix2 R d) = 0 := by
  have e := congrFun h (ix2 R d)
  have e2 : fn (F := Ideal) u a1 a2 a3 a4 a5 a6 a7 a8 a9 a10 a11 (ix2 R d)
      = BitVec.ofBool (decide (FloatOps.absf (F := Ideal) (φ := .f32) (u (ix2 R d)) < Ideal.ofBits FTy.f32 2139095040#32)) := by
    pointwise [fn]
  rw [e2] at e
  have e3 : max (u (ix2 R d) : EReal) (-(u (ix2 R d) : EReal)) < Ideal.ofBits FTy.f32 2139095040#32 := by
    by_contra hn
    have hd : decide (FloatOps.absf (F := Ideal) (φ := .f32) (u (ix2 R d)) < Ideal.ofBits FTy.f32 2139095040#32) = false := decide_eq_false hn
    rw [hd] at e
    exact absurd e (by decide)
  have e4 := lt_of_lt_of_le e3 le_top
  refine EReal.sub_self (fun ht => ?_) (fun hb => ?_)
  · rw [ht] at e4; exact absurd (lt_of_le_of_lt (le_max_left _ _) e4) (lt_irrefl _)
  · rw [hb] at e4; exact absurd (lt_of_le_of_lt (le_max_right _ _) e4) (by simp)

variable (m : (ℓ : Loc nD τ sig) → Buf (Elt Ideal) ℓ)

/-- The blocks of a point hold what the arguments hold at the point's place. -/
theorem rd (c : Dev nD) (t : Fin cfg0.N) : Rd t.val (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) where
  h0 := fun r e R hR => blk0 m c t r e R hR
  h1 := fun r l n g p hn hl => blk1 m c t r l n hn g p hl
  h2 := fun r l n g p hn hl => blk2 m c t r l n hn g p hl
  h3 := fun r l g p hl => blk3 m c t r l g p hl
  h4 := fun r l g p hl => blk4 m c t r l g p hl
  h5 := fun b k j g p q hg hp hq => blk5 m c t b k j g p q hg hp hq
  h6 := fun b k j g p q hg hp hq => blk6 m c t b k j g p q hg hp hq
  h7 := fun b k j g p q hg hp hq => blk7 m c t b k j g p q hg hp hq
  h8 := fun b k j g p q hg hp hq => blk8 m c t b k j g p q hg hp hq
  h9 := fun d => blk9 m c t d
  h10 := fun e d => blk10 m c t e d
  h11 := fun d => blk11 m c t d

theorem emb12 (t : Fin cfg0.N) (y : S64x1024.Idx) : ∃ R : Fin 256, R.val = 64 * t.val + (y 0).val
    ∧ (win0_12.blk t).view.emb y = (ix2 R (y 1 : Fin 1024) : S256x1024.Idx) := by
  have e0 : ((win0_12.blk t).view.emb y 0).val = t.val * 64 + (y 0).val := by blk_simp [idx_val t]
  have e1 : ((win0_12.blk t).view.emb y 1).val = (y 1).val := by blk_simp [idx_val t]
  refine ⟨(win0_12.blk t).view.emb y 0, by rw [e0]; omega, ?_⟩
  exact (eq_ix2 ((win0_12.blk t).view.emb y)).trans ((ix2_inj ..).2 ⟨rfl, Fin.ext e1⟩)

theorem emb13 (t : Fin cfg0.N) (y : S8x4096.Idx) : ∃ R : Fin 32, R.val = 8 * t.val + (y 0).val
    ∧ (win0_13.blk t).view.emb y = (ix2 R (y 1 : Fin 4096) : S32x4096.Idx) := by
  have e0 : ((win0_13.blk t).view.emb y 0).val = t.val * 8 + (y 0).val := by blk_simp [idx_val t]
  have e1 : ((win0_13.blk t).view.emb y 1).val = (y 1).val := by blk_simp [idx_val t]
  refine ⟨(win0_13.blk t).view.emb y 0, by rw [e0]; omega, ?_⟩
  exact (eq_ix2 ((win0_13.blk t).view.emb y)).trans ((ix2_inj ..).2 ⟨rfl, Fin.ext e1⟩)

theorem emb14 (t : Fin cfg0.N) (y : S8x4096.Idx) : ∃ R : Fin 32, R.val = 8 * t.val + (y 0).val
    ∧ (win0_14.blk t).view.emb y = (ix2 R (y 1 : Fin 4096) : S32x4096.Idx) := by
  have e0 : ((win0_14.blk t).view.emb y 0).val = t.val * 8 + (y 0).val := by blk_simp [idx_val t]
  have e1 : ((win0_14.blk t).view.emb y 1).val = (y 1).val := by blk_simp [idx_val t]
  refine ⟨(win0_14.blk t).view.emb y 0, by rw [e0]; omega, ?_⟩
  exact (eq_ix2 ((win0_14.blk t).view.emb y)).trans ((ix2_inj ..).2 ⟨rfl, Fin.ext e1⟩)

/-- Every entry minus itself is nothing. -/
def FinU (u : FVec Ideal S256x1024 .f32) : Prop := ∀ (R : Fin 256) (d : Fin 1024), (u (ix2 R d) : EReal) - u (ix2 R d) = 0

theorem fin0_of {T : ℕ} (hT : T < 4) {x : FVec Ideal S64x1024 .f32} {u : FVec Ideal S256x1024 .f32} (hu : FinU u)
    (h : ∀ (r : Fin 64) (e : Fin 1024) (R : Fin 256), R.val = 64 * T + r.val → x (ix2 r e) = u (ix2 R e)) : Fin0 x := fun ρ d => by
  rw [h ρ d ⟨64 * T + ρ.val, by omega⟩ rfl]
  exact hu _ _

/-- An index of the first result's block, by step and sequence. -/
theorem idx12 (y : S64x1024.Idx) : ∃ (t r : Fin 8), (y 0).val = r.val * 8 + t.val ∧ y = (ix2 (⟨r.val * 8 + t.val, by omega⟩ : Fin 64) (y 1 : Fin 1024) : S64x1024.Idx) := by
  have h64 : (y 0).val < 64 := (y 0).isLt
  have e : (y 0).val = (y 0).val / 8 * 8 + (y 0).val % 8 := by omega
  exact ⟨⟨(y 0).val % 8, by omega⟩, ⟨(y 0).val / 8, by omega⟩, e, (eq_ix2 y).trans ((ix2_inj ..).2 ⟨Fin.ext e, rfl⟩)⟩

/-- An index of a state's block, by block of lanes and lane. -/
theorem idx13 (y : S8x4096.Idx) : ∃ (b : Fin 4) (j : Fin 1024), ln b j = (y 1 : Fin 4096) ∧ y = (ix2 (y 0 : Fin 8) (ln b j) : S8x4096.Idx) := by
  have h1 : (y 1).val < 4096 := (y 1).isLt
  have hl : ln ⟨(y 1).val / 1024, by omega⟩ ⟨(y 1).val % 1024, by omega⟩ = (y 1 : Fin 4096) :=
    Fin.ext (by show (y 1).val / 1024 * 1024 + (y 1).val % 1024 = (y 1).val; omega)
  exact ⟨_, _, hl, (eq_ix2 y).trans ((ix2_inj ..).2 ⟨rfl, hl.symm⟩)⟩

open Cert.ScanRefIdeal.Read

theorem at12 (c : Dev nD) (hu : FinU (m ((c : Thread nD τ).loc main_arg0))) (t : Fin cfg0.N) (s r : Fin 8) (d : Fin 1024) (n : Fin 32) (hn : n.val = 8 * t.val + r.val) :
    ((outsAt0 m c t).1 (ix2 ⟨r.val * 8 + s.val, by omega⟩ d) : EReal) = val_main_v235 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 ⟨n.val * 8 + s.val, by omega⟩ d) := by
  refine Eq.trans ?_ (sy_ref (rd m c t) s r d n hn)
  unfold outsAt0
  dsimp only
  exact out12_at (c := c) (i := grid0.coords t) (arg1 := ms0_0 t) (harg1 := hs0_0 t) (arg2 := ms0_1 t) (harg2 := hs0_1 t) (arg3 := ms0_2 t) (harg3 := hs0_2 t) (arg4 := ms0_3 t) (harg4 := hs0_3 t) (arg5 := ms0_4 t) (harg5 := hs0_4 t) (arg6 := ms0_5 t) (harg6 := hs0_5 t) (arg7 := ms0_6 t) (harg7 := hs0_6 t) (arg8 := ms0_7 t) (harg8 := hs0_7 t) (arg9 := ms0_8 t) (harg9 := hs0_8 t) (arg10 := ms0_9 t) (harg10 := hs0_9 t) (arg11 := ms0_10 t) (harg11 := hs0_10 t) (arg12 := ms0_11 t) (harg12 := hs0_11 t) (arg13 := ms0_12 t) (harg13 := hs0_12 t) (arg14 := ms0_13 t) (harg14 := hs0_13 t) (arg15 := ms0_14 t) (harg15 := hs0_14 t) (arg16 := scM0_0) (harg16 := Memref.isWhole_whole _) (arg17 := scM0_1) (harg17 := Memref.isWhole_whole _) (arg18 := scM0_2) (harg18 := Memref.isWhole_whole _) (arg19 := scM0_3) (harg19 := Memref.isWhole_whole _) (arg20 := scM0_4) (harg20 := Memref.isWhole_whole _) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t) (x10 := iblk m c 10 t) (x11 := iblk m c 11 t) (fin0_of t.isLt hu (rd m c t).h0) s r d

theorem at13 (c : Dev nD) (t : Fin cfg0.N) (r : Fin 8) (b : Fin 4) (j : Fin 1024) (n : Fin 32) (hn : n.val = 8 * t.val + r.val) :
    (outsAt0 m c t).2.1 (ix2 r (ln b j)) = val_main_v238 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 n (ln b j)) := by
  refine Eq.trans ?_ (hr_ref (rd m c t) b r j n hn)
  unfold outsAt0
  dsimp only
  exact out13_at (c := c) (i := grid0.coords t) (arg1 := ms0_0 t) (harg1 := hs0_0 t) (arg2 := ms0_1 t) (harg2 := hs0_1 t) (arg3 := ms0_2 t) (harg3 := hs0_2 t) (arg4 := ms0_3 t) (harg4 := hs0_3 t) (arg5 := ms0_4 t) (harg5 := hs0_4 t) (arg6 := ms0_5 t) (harg6 := hs0_5 t) (arg7 := ms0_6 t) (harg7 := hs0_6 t) (arg8 := ms0_7 t) (harg8 := hs0_7 t) (arg9 := ms0_8 t) (harg9 := hs0_8 t) (arg10 := ms0_9 t) (harg10 := hs0_9 t) (arg11 := ms0_10 t) (harg11 := hs0_10 t) (arg12 := ms0_11 t) (harg12 := hs0_11 t) (arg13 := ms0_12 t) (harg13 := hs0_12 t) (arg14 := ms0_13 t) (harg14 := hs0_13 t) (arg15 := ms0_14 t) (harg15 := hs0_14 t) (arg16 := scM0_0) (harg16 := Memref.isWhole_whole _) (arg17 := scM0_1) (harg17 := Memref.isWhole_whole _) (arg18 := scM0_2) (harg18 := Memref.isWhole_whole _) (arg19 := scM0_3) (harg19 := Memref.isWhole_whole _) (arg20 := scM0_4) (harg20 := Memref.isWhole_whole _) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t) (x10 := iblk m c 10 t) (x11 := iblk m c 11 t) b r j

theorem at14 (c : Dev nD) (t : Fin cfg0.N) (r : Fin 8) (b : Fin 4) (j : Fin 1024) (n : Fin 32) (hn : n.val = 8 * t.val + r.val) :
    (outsAt0 m c t).2.2 (ix2 r (ln b j)) = val_main_v241 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 n (ln b j)) := by
  refine Eq.trans ?_ (hi_ref (rd m c t) b r j n hn)
  unfold outsAt0
  dsimp only
  exact out14_at (c := c) (i := grid0.coords t) (arg1 := ms0_0 t) (harg1 := hs0_0 t) (arg2 := ms0_1 t) (harg2 := hs0_1 t) (arg3 := ms0_2 t) (harg3 := hs0_2 t) (arg4 := ms0_3 t) (harg4 := hs0_3 t) (arg5 := ms0_4 t) (harg5 := hs0_4 t) (arg6 := ms0_5 t) (harg6 := hs0_5 t) (arg7 := ms0_6 t) (harg7 := hs0_6 t) (arg8 := ms0_7 t) (harg8 := hs0_7 t) (arg9 := ms0_8 t) (harg9 := hs0_8 t) (arg10 := ms0_9 t) (harg10 := hs0_9 t) (arg11 := ms0_10 t) (harg11 := hs0_10 t) (arg12 := ms0_11 t) (harg12 := hs0_11 t) (arg13 := ms0_12 t) (harg13 := hs0_12 t) (arg14 := ms0_13 t) (harg14 := hs0_13 t) (arg15 := ms0_14 t) (harg15 := hs0_14 t) (arg16 := scM0_0) (harg16 := Memref.isWhole_whole _) (arg17 := scM0_1) (harg17 := Memref.isWhole_whole _) (arg18 := scM0_2) (harg18 := Memref.isWhole_whole _) (arg19 := scM0_3) (harg19 := Memref.isWhole_whole _) (arg20 := scM0_4) (harg20 := Memref.isWhole_whole _) (x0 := iblk m c 0 t) (x1 := iblk m c 1 t) (x2 := iblk m c 2 t) (x3 := iblk m c 3 t) (x4 := iblk m c 4 t) (x5 := iblk m c 5 t) (x6 := iblk m c 6 t) (x7 := iblk m c 7 t) (x8 := iblk m c 8 t) (x9 := iblk m c 9 t) (x10 := iblk m c 10 t) (x11 := iblk m c 11 t) b r j

theorem all12 (c : Dev nD) (hu : FinU (m ((c : Thread nD τ).loc main_arg0))) (t : Fin cfg0.N) (y : S64x1024.Idx) (R : Fin 256) (hR : R.val = 64 * t.val + (y 0).val) :
    ((outsAt0 m c t).1 y : EReal) = val_main_v235 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix2 R (y 1 : Fin 1024)) := by
  have hT : t.val < 4 := t.isLt
  obtain ⟨s, r, h0, hy⟩ := idx12 y
  have e : (⟨(8 * t.val + r.val) * 8 + s.val, by omega⟩ : Fin 256) = R := Fin.ext (by show (8 * t.val + r.val) * 8 + s.val = R.val; omega)
  rw [← e]
  refine Eq.trans (congrArg (outsAt0 m c t).1 hy) ?_
  exact at12 m c hu t s r (y 1) ⟨8 * t.val + r.val, by omega⟩ rfl

theorem all13 (c : Dev nD) (t : Fin cfg0.N) (y : S8x4096.Idx) (R : Fin 32) (hR : R.val = 8 * t.val + (y 0).val) :
    (outsAt0 m c t).2.1 y = val_main_v238 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 R (y 1 : Fin 4096)) := by
  obtain ⟨b, j, hl, hy⟩ := idx13 y
  rw [← hl]
  refine Eq.trans (congrArg (outsAt0 m c t).2.1 hy) ?_
  exact at13 m c t (y 0) b j R hR

theorem all14 (c : Dev nD) (t : Fin cfg0.N) (y : S8x4096.Idx) (R : Fin 32) (hR : R.val = 8 * t.val + (y 0).val) :
    (outsAt0 m c t).2.2 y = val_main_v241 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 R (y 1 : Fin 4096)) := by
  obtain ⟨b, j, hl, hy⟩ := idx13 y
  rw [← hl]
  refine Eq.trans (congrArg (outsAt0 m c t).2.2 hy) ?_
  exact at14 m c t (y 0) b j R hR

/-- The first array after the run is the reference's first result. -/
theorem final12 (c : Dev nD) (hu : FinU (m ((c : Thread nD τ).loc main_arg0))) :
    (dats m 0 c).arrAt 12 (cfgs 0).N = val_main_v235 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 12 _ (by decide +kernel) fun t hf y => ?_
  obtain ⟨R, hR, he⟩ := emb12 t y
  blk_simp
  rw [after0_12, he]
  exact all12 m c hu t y R hR

/-- The second array after the run is the reference's second result. -/
theorem final13 (c : Dev nD) : (dats m 0 c).arrAt 13 (cfgs 0).N = val_main_v238 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 13 _ (by decide +kernel) fun t hf y => ?_
  obtain ⟨R, hR, he⟩ := emb13 t y
  blk_simp
  rw [after0_13, he]
  exact all13 m c t y R hR

/-- The third array after the run is the reference's third result. -/
theorem final14 (c : Dev nD) : (dats m 0 c).arrAt 14 (cfgs 0).N = val_main_v241 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 14 _ (by decide +kernel) fun t hf y => ?_
  obtain ⟨R, hR, he⟩ := emb14 t y
  blk_simp
  rw [after0_14, he]
  exact all14 m c t y R hR

end Cert.ScanIdeal.Hand
-- ==== Proof.ScanRun.lean ====
/- Hand-written, untrusted: the run of the recurrence's reference, with its results named. -/
module

public import proofs.«01_k».proof.Proof.Gen.ScanRefIdeal.Read

set_option maxRecDepth 16384

@[expose] public section

noncomputable section

open Idealize.ShloMosaic Idealize.ShloMosaic.TcCoe Idealize.SL.Sem

namespace Cert.ScanRefIdeal.Hand

open Cert.ScanRefIdeal Cert.ScanRefIdeal.Gen Cert.ScanRefIdeal.Read

/-- The reference's run ends with its three results and its arguments as they were. -/
theorem run_named (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v235) = val_main_v235 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v238) = val_main_v238 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v241) = val_main_v241 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨(h c).1.trans (val_main_v235_eq (StableHlo.launchContents m c)), (h c).2.1.trans (val_main_v238_eq (StableHlo.launchContents m c)),
    (h c).2.2.1.trans (val_main_v241_eq (StableHlo.launchContents m c)), (h c).2.2.2⟩)
    (Cert.ScanRefIdeal.Value.run (F := Ideal) m g)

end Cert.ScanRefIdeal.Hand
-- ==== Proof.ProjIdealFrame.lean ====
/- Hand-written, untrusted: the run of the input projection, whose heads are stored through strided rectangles. -/
module

public import proofs.«01_k».proof.Proof.Gen.ProjIdeal.Launch
public import proofs.«01_k».proof.Proof.Gen.ProjIdeal.Skeleton
public import proofs.«01_k».proof.Proof.Gen.ProjIdeal.Points
public import proofs.«01_k».proof.Proof.Gen.ProjIdeal.Frame
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.ProjIdeal.Hand

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The rectangles: the row block, the weight's four column blocks, whole buffers, and each head's rows -/

abbrev rx : Rect S512x2048 := Rect.unit (s := S512x2048) ![0, 0] S512x2048.size inb_S512x2048_S512x2048_0_0
abbrev rq : Rect S2048x4096 := Rect.unit (s := S2048x4096) ![0, 0] S2048x1024.size inb_S2048x4096_S2048x1024_0_0
abbrev rk : Rect S2048x4096 := Rect.unit (s := S2048x4096) ![0, 1024] S2048x1024.size inb_S2048x4096_S2048x1024_0_1024
abbrev rv : Rect S2048x4096 := Rect.unit (s := S2048x4096) ![0, 2048] S2048x1024.size inb_S2048x4096_S2048x1024_0_2048
abbrev ru : Rect S2048x4096 := Rect.unit (s := S2048x4096) ![0, 3072] S2048x1024.size inb_S2048x4096_S2048x1024_0_3072
abbrev rt : Rect S1x1024x512 := Rect.unit (s := S1x1024x512) ![0, 0, 0] S1x1024x512.size inb_S1x1024x512_S1x1024x512_0_0_0
abbrev ro : Rect S512x1024 := Rect.unit (s := S512x1024) ![0, 0] S512x1024.size inb_S512x1024_S512x1024_0_0
abbrev rs0 : Rect S4096x128 := ⟨(⟨![0, 0], S512x128.size, ![8, 1], inb_S4096x128_S512x128_0_0_s_8_1⟩ : LoadRect S4096x128), spos_8_1⟩
abbrev rs1 : Rect S4096x128 := ⟨(⟨![1, 0], S512x128.size, ![8, 1], inb_S4096x128_S512x128_1_0_s_8_1⟩ : LoadRect S4096x128), spos_8_1⟩
abbrev rs2 : Rect S4096x128 := ⟨(⟨![2, 0], S512x128.size, ![8, 1], inb_S4096x128_S512x128_2_0_s_8_1⟩ : LoadRect S4096x128), spos_8_1⟩
abbrev rs3 : Rect S4096x128 := ⟨(⟨![3, 0], S512x128.size, ![8, 1], inb_S4096x128_S512x128_3_0_s_8_1⟩ : LoadRect S4096x128), spos_8_1⟩
abbrev rs4 : Rect S4096x128 := ⟨(⟨![4, 0], S512x128.size, ![8, 1], inb_S4096x128_S512x128_4_0_s_8_1⟩ : LoadRect S4096x128), spos_8_1⟩
abbrev rs5 : Rect S4096x128 := ⟨(⟨![5, 0], S512x128.size, ![8, 1], inb_S4096x128_S512x128_5_0_s_8_1⟩ : LoadRect S4096x128), spos_8_1⟩
abbrev rs6 : Rect S4096x128 := ⟨(⟨![6, 0], S512x128.size, ![8, 1], inb_S4096x128_S512x128_6_0_s_8_1⟩ : LoadRect S4096x128), spos_8_1⟩
abbrev rs7 : Rect S4096x128 := ⟨(⟨![7, 0], S512x128.size, ![8, 1], inb_S4096x128_S512x128_7_0_s_8_1⟩ : LoadRect S4096x128), spos_8_1⟩

/-- The first position of the block at a grid point, within its sequence. -/
def first (i : grid0.Coords) : BitVec 32 := Scalar.remsi (Scalar.muli (BitVec.ofNat 32 (i 0).val) 512#32) 8192#32

/-! ## What the body leaves in each output's buffer -/

def out2 (x0 : Vec F S512x2048 .f32) (x1 : Vec F S2048x4096 .bf16) : Vec F S1x1024x512 .bf16 :=
  View.canon [⟨rt, k0_pay5 (View.ld x0 rx) (View.ld x1 rq)⟩]
def out3 (x0 : Vec F S512x2048 .f32) (x1 : Vec F S2048x4096 .bf16) : Vec F S4096x128 .f32 :=
  View.canon [⟨rs7, k0_pay14 (k0_pay6 (View.ld x0 rx) (View.ld x1 rk))⟩,
    ⟨rs6, k0_pay13 (k0_pay6 (View.ld x0 rx) (View.ld x1 rk))⟩,
    ⟨rs5, k0_pay12 (View.ld x0 rx) (View.ld x1 rk)⟩,
    ⟨rs4, k0_pay11 (View.ld x0 rx) (View.ld x1 rk)⟩,
    ⟨rs3, k0_pay10 (View.ld x0 rx) (View.ld x1 rk)⟩,
    ⟨rs2, k0_pay9 (View.ld x0 rx) (View.ld x1 rk)⟩,
    ⟨rs1, k0_pay8 (View.ld x0 rx) (View.ld x1 rk)⟩,
    ⟨rs0, k0_pay7 (View.ld x0 rx) (View.ld x1 rk)⟩]
def out4 (x0 : Vec F S512x2048 .f32) (x1 : Vec F S2048x4096 .bf16) : Vec F S4096x128 .f32 :=
  View.canon [⟨rs7, k0_pay23 (k0_pay4 (View.ld x0 rx)) (View.ld x1 rv)⟩,
    ⟨rs6, k0_pay22 (k0_pay4 (View.ld x0 rx)) (View.ld x1 rv)⟩,
    ⟨rs5, k0_pay21 (k0_pay4 (View.ld x0 rx)) (View.ld x1 rv)⟩,
    ⟨rs4, k0_pay20 (k0_pay4 (View.ld x0 rx)) (View.ld x1 rv)⟩,
    ⟨rs3, k0_pay19 (k0_pay4 (View.ld x0 rx)) (View.ld x1 rv)⟩,
    ⟨rs2, k0_pay18 (k0_pay4 (View.ld x0 rx)) (View.ld x1 rv)⟩,
    ⟨rs1, k0_pay17 (k0_pay4 (View.ld x0 rx)) (View.ld x1 rv)⟩,
    ⟨rs0, k0_pay16 (k0_pay4 (View.ld x0 rx)) (View.ld x1 rv)⟩]
def out5 (i : grid0.Coords) (x0 : Vec F S512x2048 .f32) (x1 : Vec F S2048x4096 .bf16) : Vec F S512x2048 .bf16 :=
  View.canon [⟨rx, k0_pay1 (k0_pay6 (View.ld x0 rx) (View.ld x1 rk)) (first i)⟩]
def out6 (x0 : Vec F S512x2048 .f32) (x1 : Vec F S2048x4096 .bf16) : Vec F S1x1024x512 .bf16 :=
  View.canon [⟨rt, k0_pay2 (k0_pay15 (k0_pay4 (View.ld x0 rx)) (View.ld x1 rv))⟩]
def out7 (x0 : Vec F S512x2048 .f32) (x1 : Vec F S2048x4096 .bf16) : Vec F S512x1024 .f32 :=
  View.canon [⟨ro, k0_pay3 (k0_pay4 (View.ld x0 rx)) (View.ld x1 ru)⟩]

/-- A head's rows are those that leave the head's number on division by eight. -/
theorem mem_rows (h : Nat) (inb : ∀ a, S512x128.size a = 0 ∨ (![h, 0] : Fin 2 → Nat) a + (![8, 1] : Fin 2 → Nat) a * (S512x128.size a - 1) < S4096x128.size a)
    (y : S4096x128.Idx) (hy : (y 0).val % 8 = h) :
    y ∈ (⟨(⟨![h, 0], S512x128.size, ![8, 1], inb⟩ : LoadRect S4096x128), spos_8_1⟩ : Rect S4096x128).set := by
  have h0 : (y 0).val < 4096 := (y 0).isLt
  have h1 : (y 1).val < 128 := (y 1).isLt
  rw [LoadRect.mem_set]
  intro a
  match a with
  | ⟨0, _⟩ => exact ⟨(y 0).val / 8, show (y 0).val / 8 < 512 by omega, show (y 0).val = h + 8 * ((y 0).val / 8) by omega⟩
  | ⟨1, _⟩ => exact ⟨(y 1).val, h1, show (y 1).val = 0 + 1 * (y 1).val by omega⟩

/-- The eight heads' rows cover the buffer. -/
theorem cover_rows (p0 p1 p2 p3 p4 p5 p6 p7 : Vec F S512x128 .f32) (y : S4096x128.Idx) :
    ∃ pc ∈ ([⟨rs7, p7⟩, ⟨rs6, p6⟩, ⟨rs5, p5⟩, ⟨rs4, p4⟩, ⟨rs3, p3⟩, ⟨rs2, p2⟩, ⟨rs1, p1⟩, ⟨rs0, p0⟩] :
      List (View.Piece (Elt F) S4096x128 .f32)), y ∈ pc.1.set := by
  have h8 : (y 0).val % 8 < 8 := Nat.mod_lt _ (by decide)
  generalize hk : (y 0).val % 8 = k at h8
  match k, h8 with
  | 0, _ => exact ⟨⟨rs0, p0⟩, by simp, mem_rows 0 _ y hk⟩
  | 1, _ => exact ⟨⟨rs1, p1⟩, by simp, mem_rows 1 _ y hk⟩
  | 2, _ => exact ⟨⟨rs2, p2⟩, by simp, mem_rows 2 _ y hk⟩
  | 3, _ => exact ⟨⟨rs3, p3⟩, by simp, mem_rows 3 _ y hk⟩
  | 4, _ => exact ⟨⟨rs4, p4⟩, by simp, mem_rows 4 _ y hk⟩
  | 5, _ => exact ⟨⟨rs5, p5⟩, by simp, mem_rows 5 _ y hk⟩
  | 6, _ => exact ⟨⟨rs6, p6⟩, by simp, mem_rows 6 _ y hk⟩
  | 7, _ => exact ⟨⟨rs7, p7⟩, by simp, mem_rows 7 _ y hk⟩

theorem cover2 (p : Vec F S1x1024x512 .bf16) (y : S1x1024x512.Idx) :
    ∃ pc ∈ ([⟨rt, p⟩] : List (View.Piece (Elt F) S1x1024x512 .bf16)), y ∈ pc.1.set :=
  View.cover_of_tiled [⟨rt, p⟩] S1x1024x512.size (by rfl) y
theorem cover5 (p : Vec F S512x2048 .bf16) (y : S512x2048.Idx) :
    ∃ pc ∈ ([⟨rx, p⟩] : List (View.Piece (Elt F) S512x2048 .bf16)), y ∈ pc.1.set :=
  View.cover_of_tiled [⟨rx, p⟩] S512x2048.size (by rfl) y
theorem cover7 (p : Vec F S512x1024 .f32) (y : S512x1024.Idx) :
    ∃ pc ∈ ([⟨ro, p⟩] : List (View.Piece (Elt F) S512x1024 .f32)), y ∈ pc.1.set :=
  View.cover_of_tiled [⟨ro, p⟩] S512x1024.size (by rfl) y

/-! ## The body's triple -/

local notation "𝕄" => MT nD τ sig Unit (Elt F) ℕ (UR sig nD τ) ℕ

set_option maxHeartbeats 4000000 in
/-- The body on whole buffers, the inputs' at `x0` and `x1`, runs and leaves each output's buffer at its value. -/
theorem sound_kernel (c : Dev nD) (E : Set ℕ) (i : grid0.Coords) (arg1 : Memref sig .tc .vmem S512x2048 .f32) (harg1 : arg1.IsWhole) (arg2 : Memref sig .tc .vmem S2048x4096 .bf16) (harg2 : arg2.IsWhole) (arg3 : Memref sig .tc .vmem S1x1024x512 .bf16) (harg3 : arg3.IsWhole) (arg4 : Memref sig .tc .vmem S4096x128 .f32) (harg4 : arg4.IsWhole) (arg5 : Memref sig .tc .vmem S4096x128 .f32) (harg5 : arg5.IsWhole) (arg6 : Memref sig .tc .vmem S512x2048 .bf16) (harg6 : arg6.IsWhole) (arg7 : Memref sig .tc .vmem S1x1024x512 .bf16) (harg7 : arg7.IsWhole) (arg8 : Memref sig .tc .vmem S512x1024 .f32) (harg8 : arg8.IsWhole)
    (x0 : Vec F S512x2048 .f32) (x1 : Vec F S2048x4096 .bf16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare (out2 x0 x1) ∗ owns (c : Thread nD τ) arg4 fullShare (out3 x0 x1) ∗ owns (c : Thread nD τ) arg5 fullShare (out4 x0 x1) ∗ owns (c : Thread nD τ) arg6 fullShare (out5 i x0 x1) ∗ owns (c : Thread nD τ) arg7 fullShare (out6 x0 x1) ∗ owns (c : Thread nD τ) arg8 fullShare (out7 x0 x1)) -∗ K ⟨⟩))
      ⊢ wp frame (wpE (defs₀ (F := F)) Variants.none c none) E (cc0_proj_in i arg1 harg1 arg2 harg2 arg3 harg3 arg4 harg4 arg5 harg5 arg6 harg6 arg7 harg7 arg8 harg8) K := by
  simp only [cc0_proj_in_eq_skeleton]; unfold cc0_proj_in_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover2 _)).trans ?_
    rfl
  isplitl [H3]
  · iexists _; isplitr
    swap; · iexact H3
    ipureintro
    refine (View.read_writes_eq_canon _ _ _ (cover_rows _ _ _ _ _ _ _ _)).trans ?_
    rfl
  isplitl [H4]
  · iexists _; isplitr
    swap; · iexact H4
    ipureintro
    refine (View.read_writes_eq_canon _ _ _ (cover_rows _ _ _ _ _ _ _ _)).trans ?_
    rfl
  isplitl [H5]
  · iexists _; isplitr
    swap; · iexact H5
    ipureintro
    refine (View.read_writes_eq_canon _ _ _ (cover5 _)).trans ?_
    rfl
  isplitl [H6]
  · iexists _; isplitr
    swap; · iexact H6
    ipureintro
    refine (View.read_writes_eq_canon _ _ _ (cover2 _)).trans ?_
    rfl
  iexists _; isplitr
  swap; · iexact H7
  ipureintro
  refine (View.read_writes_eq_canon _ _ _ (cover7 _)).trans ?_
  rfl

/-! ## The pipeline's proof data -/

/-- What every buffer holds after the body at a point: an input its block, an output its value from the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
    | ⟨3, _⟩ => out3 (iblk m c 0 t) (iblk m c 1 t)
    | ⟨4, _⟩ => out4 (iblk m c 0 t) (iblk m c 1 t)
    | ⟨5, _⟩ => out5 (grid0.coords t) (iblk m c 0 t) (iblk m c 1 t)
    | ⟨6, _⟩ => out6 (iblk m c 0 t) (iblk m c 1 t)
    | ⟨7, _⟩ => out7 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = out2 (iblk m c 0 t) (iblk m c 1 t) := by dsimp only [dats]
theorem after3 (c : Dev nD) (t : Fin cfg0.N) : (dats m 0 c).after 3 t = out3 (iblk m c 0 t) (iblk m c 1 t) := by dsimp only [dats]
theorem after4 (c : Dev nD) (t : Fin cfg0.N) : (dats m 0 c).after 4 t = out4 (iblk m c 0 t) (iblk m c 1 t) := by dsimp only [dats]
theorem after5 (c : Dev nD) (t : Fin cfg0.N) : (dats m 0 c).after 5 t = out5 (grid0.coords t) (iblk m c 0 t) (iblk m c 1 t) := by dsimp only [dats]
theorem after6 (c : Dev nD) (t : Fin cfg0.N) : (dats m 0 c).after 6 t = out6 (iblk m c 0 t) (iblk m c 1 t) := by dsimp only [dats]
theorem after7 (c : Dev nD) (t : Fin cfg0.N) : (dats m 0 c).after 7 t = out7 (iblk m c 0 t) (iblk m c 1 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every array at what the proof data gives, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The arguments end as they were and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiescent m ρ))

end Cert.ProjIdeal.Hand

end
-- ==== Proof.ProjPure.lean ====
/- Hand-written, untrusted: the input projection's arithmetic, one index at a time. -/
module

public import proofs.«01_k».proof.Proof.ProjIdealFrame
public import proofs.«01_k».proof.Proof.Gen.ProjRefIdeal.Read
public import Idealize.ShloMosaic.Lib.Pointwise
public import Idealize.ShloMosaic.Lib.Pipeline.ValueKit

set_option maxRecDepth 16384

@[expose] public section

noncomputable section

open Idealize.ShloMosaic Idealize.ShloMosaic.TcCoe Idealize.SL.Sem

namespace Cert.ProjRefIdeal.Pure

open Cert.ProjRefIdeal Cert.ProjRefIdeal.Gen Cert.ProjRefIdeal.Read

/-- Row `j` of sequence `i` of the activations against column `C` of the weight. -/
def prod (x0 : FVec Ideal S2x8192x2048 .f32) (x1 : FVec Ideal S1x2048x4096 .f32) (i : Fin 2) (j : Fin 8192) (C : Fin 4096) : EReal :=
  ∑ k : Fin 2048, x0 (ix3 i j k) * x1 (ix3 0 k C)

/-- The digit of position `p` in column `c`: its quotient by 64 in the first three, its remainder in the next three. -/
def digit (p c : BitVec 32) : EReal :=
  FloatOps.sitofp (F := Ideal) FTy.f32 (Scalar.select (IntOp.cmpi CmpIPredicate.slt c 3#32) (IntOp.shrsi ArithUnit.host p 6#32)
    (Scalar.select (IntOp.cmpi CmpIPredicate.slt c 6#32) (IntOp.andi p 63#32) 0#32))

variable (x0 : FVec Ideal S2x8192x2048 .f32) (x1 : FVec Ideal S1x2048x4096 .f32)

theorem ref_qt (b : Fin 32) (c : Fin 1024) (r : Fin 512) :
    val_main_v27 (F := Ideal) x0 x1 (ix3 b c r) = prod x0 x1 ⟨b.val / 16, by omega⟩ ⟨b.val % 16 * 512 + r.val, by omega⟩ ⟨c.val, by omega⟩ * Ideal.ofBits FTy.f32 0x3E38AA3B#32 := by
  pointwise [prod, val_main_v0, val_main_v1, val_main_v2, val_main_cst, val_main_v3, val_main_v4, val_main_v25, val_main_v26, val_main_v27]

theorem ref_vt (b : Fin 32) (c : Fin 1024) (r : Fin 512) :
    val_main_v34 (F := Ideal) x0 x1 (ix3 b c r) = prod x0 x1 ⟨b.val / 16, by omega⟩ ⟨b.val % 16 * 512 + r.val, by omega⟩ ⟨2048 + c.val, by omega⟩ := by
  pointwise [prod, val_main_v0, val_main_v1, val_main_v6, val_main_v32, val_main_v33, val_main_v34]

theorem ref_k (R : Fin 131072) (c : Fin 128) :
    val_main_v28 (F := Ideal) x0 x1 (ix2 R c) = prod x0 x1 ⟨R.val / 65536, by omega⟩ ⟨R.val / 8 % 8192, by omega⟩ ⟨1024 + (R.val % 8 * 128 + c.val), by omega⟩ := by
  pointwise [prod, val_main_v0, val_main_v1, val_main_v5, val_main_v28]

theorem ref_v (R : Fin 131072) (c : Fin 128) :
    val_main_v29 (F := Ideal) x0 x1 (ix2 R c) = prod x0 x1 ⟨R.val / 65536, by omega⟩ ⟨R.val / 8 % 8192, by omega⟩ ⟨2048 + (R.val % 8 * 128 + c.val), by omega⟩ := by
  pointwise [prod, val_main_v0, val_main_v1, val_main_v6, val_main_v29]

theorem ref_u (R : Fin 16384) (c : Fin 1024) :
    val_main_v35 (F := Ideal) x0 x1 (ix2 R c) = prod x0 x1 ⟨R.val / 8192, by omega⟩ ⟨R.val % 8192, by omega⟩ ⟨3072 + c.val, by omega⟩ := by
  pointwise [prod, val_main_v0, val_main_v1, val_main_v7, val_main_v35]

theorem ref_digit (i : Fin 2) (p : Fin 8192) (h : Fin 8) (c : Fin 128) :
    val_main_v23 (F := Ideal) (ix4 i p h c) = digit (BitVec.ofNat 32 p.val) (BitVec.ofNat 32 c.val) := by
  pointwise [digit, val_main_v8, val_main_v9, val_main_c, val_main_v10, val_main_v11, val_main_c_0, val_main_v12, val_main_v13, val_main_c_1, val_main_v14, val_main_v15, val_main_c_2, val_main_v16, val_main_v17, val_main_c_3, val_main_call0_v0, val_main_call0_v1, val_main_v18, val_main_v19, val_main_v20, val_main_v22, val_main_v23]
  rfl

/-- The keys in the first half of each head's columns, the digits in the second. -/
theorem ref_kb (R : Fin 16384) (c : Fin 2048) :
    val_main_v31 (F := Ideal) x0 x1 (ix2 R c) = if h : c.val % 256 < 128
      then prod x0 x1 ⟨R.val / 8192, by omega⟩ ⟨R.val % 8192, by omega⟩ ⟨1024 + (c.val / 256 * 128 + c.val % 256), by omega⟩
      else digit (BitVec.ofNat 32 (R.val % 8192)) (BitVec.ofNat 32 (c.val % 256 - 128)) := by
  refine Eq.trans (b := if h : c.val % 256 < 128
      then val_main_v5 (F := Ideal) x0 x1 (ix3 ⟨R.val / 8192, by omega⟩ ⟨R.val % 8192, by omega⟩ ⟨c.val / 256 * 128 + c.val % 256, by omega⟩)
      else val_main_v23 (F := Ideal) (ix4 ⟨R.val / 8192, by omega⟩ ⟨R.val % 8192, by omega⟩ ⟨c.val / 256, by omega⟩ ⟨c.val % 256 - 128, by omega⟩)) ?_ ?_
  · pointwise [val_main_v21, val_main_v24, val_main_v30, val_main_v31]
  · split
    · pointwise [prod, val_main_v0, val_main_v1, val_main_v5]
    · exact ref_digit _ _ _ _

end Cert.ProjRefIdeal.Pure

namespace Cert.ProjIdeal.Pure

open Cert.ProjIdeal Cert.ProjIdeal.Gen Cert.ProjIdeal.Hand Cert.ProjRefIdeal.Pure

/-- Row `r` of a block of activations against column `C` of the weight. -/
def bprod (x0 : FVec Ideal S512x2048 .f32) (x1 : FVec Ideal S2048x4096 .bf16) (r : Fin 512) (C : Fin 4096) : EReal :=
  ∑ k : Fin 2048, x0 (ix2 r k) * x1 (ix2 k C)

variable (x0 : FVec Ideal S512x2048 .f32) (x1 : FVec Ideal S2048x4096 .bf16)

theorem pay_k (r : Fin 512) (c : Fin 1024) :
    k0_pay6 (F := Ideal) (View.ld x0 rx) (View.ld x1 rk) (ix2 r c) = bprod x0 x1 r ⟨1024 + c.val, by omega⟩ := by
  pointwise [bprod, k0_pay6, k0_pay4]

theorem pay_v (r : Fin 512) (c : Fin 1024) :
    k0_pay15 (F := Ideal) (k0_pay4 (View.ld x0 rx)) (View.ld x1 rv) (ix2 r c) = bprod x0 x1 r ⟨2048 + c.val, by omega⟩ := by
  pointwise [bprod, k0_pay15, k0_pay4]

theorem out2_at (b : Fin 1) (c : Fin 1024) (r : Fin 512) : out2 (F := Ideal) x0 x1 (ix3 b c r)
    = bprod x0 x1 r ⟨c.val, by omega⟩ * Ideal.ofBits FTy.f32 0x3E38AA3B#32 := by
  unfold out2
  canon_tiles x h
  have e : (ix3 b c r : S1x1024x512.Idx) = x := by funext a; match a with | ⟨0, _⟩ => exact Fin.ext h0 | ⟨1, _⟩ => exact Fin.ext h1 | ⟨2, _⟩ => exact Fin.ext h2
  subst e
  pointwise [bprod, k0_pay5, k0_pay4]

theorem out6_at (b : Fin 1) (c : Fin 1024) (r : Fin 512) : out6 (F := Ideal) x0 x1 (ix3 b c r) = bprod x0 x1 r ⟨2048 + c.val, by omega⟩ := by
  unfold out6
  canon_tiles x h
  have e : (ix3 b c r : S1x1024x512.Idx) = x := by funext a; match a with | ⟨0, _⟩ => exact Fin.ext h0 | ⟨1, _⟩ => exact Fin.ext h1 | ⟨2, _⟩ => exact Fin.ext h2
  subst e
  pointwise [bprod, k0_pay2, k0_pay15, k0_pay4]

theorem out7_at (r : Fin 512) (c : Fin 1024) : out7 (F := Ideal) x0 x1 (ix2 r c) = bprod x0 x1 r ⟨3072 + c.val, by omega⟩ := by
  unfold out7
  canon_tiles x h
  have e : (ix2 r c : S512x1024.Idx) = x := by funext a; match a with | ⟨0, _⟩ => exact Fin.ext h0 | ⟨1, _⟩ => exact Fin.ext h1
  subst e
  pointwise [bprod, k0_pay3, k0_pay4]

theorem first_eq : ∀ t : Fin grid0.N, first (grid0.coords t) = BitVec.ofNat 32 (t.val % 16 * 512) := by decide +kernel

set_option maxHeartbeats 1600000 in
/-- Sixteen pieces side by side: each head's keys, then the digits. -/
theorem pay_kb (v : FVec Ideal S512x1024 .f32) (w : BitVec 32) (r : Fin 512) (c : Fin 2048) :
    k0_pay1 (F := Ideal) v w (ix2 r c) = if h : c.val % 256 < 128
      then v (ix2 r ⟨c.val / 256 * 128 + c.val % 256, by omega⟩)
      else digit (IntOp.addi w (BitVec.ofNat 32 r.val)) (BitVec.ofNat 32 (c.val % 256 - 128)) := by
  pointwise [k0_pay1]
  by_cases h0 : c.val < 128
  · rw [dif_pos h0]; rw [dif_pos (show c.val % 256 < 128 by omega)]; exact congrArg v ((ix2_inj ..).2 ⟨rfl, Fin.ext (by dsimp only; omega)⟩)
  rw [dif_neg h0]
  by_cases h1 : c.val - 128 < 128
  · rw [dif_pos h1]; rw [dif_neg (show ¬ c.val % 256 < 128 by omega)]; exact congrArg (fun n => digit (IntOp.addi w (BitVec.ofNat 32 r.val)) (BitVec.ofNat 32 n)) (show c.val - 128 = c.val % 256 - 128 by omega)
  rw [dif_neg h1]
  by_cases h2 : c.val - 128 - 128 < 128
  · rw [dif_pos h2]; rw [dif_pos (show c.val % 256 < 128 by omega)]; exact congrArg v ((ix2_inj ..).2 ⟨rfl, Fin.ext (by dsimp only; omega)⟩)
  rw [dif_neg h2]
  by_cases h3 : c.val - 128 - 128 - 128 < 128
  · rw [dif_pos h3]; rw [dif_neg (show ¬ c.val % 256 < 128 by omega)]; exact congrArg (fun n => digit (IntOp.addi w (BitVec.ofNat 32 r.val)) (BitVec.ofNat 32 n)) (show c.val - 128 - 128 - 128 = c.val % 256 - 128 by omega)
  rw [dif_neg h3]
  by_cases h4 : c.val - 128 - 128 - 128 - 128 < 128
  · rw [dif_pos h4]; rw [dif_pos (show c.val % 256 < 128 by omega)]; exact congrArg v ((ix2_inj ..).2 ⟨rfl, Fin.ext (by dsimp only; omega)⟩)
  rw [dif_neg h4]
  by_cases h5 : c.val - 128 - 128 - 128 - 128 - 128 < 128
  · rw [dif_pos h5]; rw [dif_neg (show ¬ c.val % 256 < 128 by omega)]; exact congrArg (fun n => digit (IntOp.addi w (BitVec.ofNat 32 r.val)) (BitVec.ofNat 32 n)) (show c.val - 128 - 128 - 128 - 128 - 128 = c.val % 256 - 128 by omega)
  rw [dif_neg h5]
  by_cases h6 : c.val - 128 - 128 - 128 - 128 - 128 - 128 < 128
  · rw [dif_pos h6]; rw [dif_pos (show c.val % 256 < 128 by omega)]; exact congrArg v ((ix2_inj ..).2 ⟨rfl, Fin.ext (by dsimp only; omega)⟩)
  rw [dif_neg h6]
  by_cases h7 : c.val - 128 - 128 - 128 - 128 - 128 - 128 - 128 < 128
  · rw [dif_pos h7]; rw [dif_neg (show ¬ c.val % 256 < 128 by omega)]; exact congrArg (fun n => digit (IntOp.addi w (BitVec.ofNat 32 r.val)) (BitVec.ofNat 32 n)) (show c.val - 128 - 128 - 128 - 128 - 128 - 128 - 128 = c.val % 256 - 128 by omega)
  rw [dif_neg h7]
  by_cases h8 : c.val - 128 - 128 - 128 - 128 - 128 - 128 - 128 - 128 < 128
  · rw [dif_pos h8]; rw [dif_pos (show c.val % 256 < 128 by omega)]; exact congrArg v ((ix2_inj ..).2 ⟨rfl, Fin.ext (by dsimp only; omega)⟩)
  rw [dif_neg h8]
  by_cases h9 : c.val - 128 - 128 - 128 - 128 - 128 - 128 - 128 - 128 - 128 < 128
  · rw [dif_pos h9]; rw [dif_neg (show ¬ c.val % 256 < 128 by omega)]; exact congrArg (fun n => digit (IntOp.addi w (BitVec.ofNat 32 r.val)) (BitVec.ofNat 32 n)) (show c.val - 128 - 128 - 128 - 128 - 128 - 128 - 128 - 128 - 128 = c.val % 256 - 128 by omega)
  rw [dif_neg h9]
  by_cases h10 : c.val - 128 - 128 - 128 - 128 - 128 - 128 - 128 - 128 - 128 - 128 < 128
  · rw [dif_pos h10]; rw [dif_pos (show c.val % 256 < 128 by omega)]; exact congrArg v ((ix2_inj ..).2 ⟨rfl, Fin.ext (by dsimp only; omega)⟩)
  rw [dif_neg h10]
  by_cases h11 : c.val - 128 - 128 - 128 - 128 - 128 - 128 - 128 - 128 - 128 - 128 - 128 < 128
  · rw [dif_pos h11]; rw [dif_neg (show ¬ c.val % 256 < 128 by omega)]; exact congrArg (fun n => digit (IntOp.addi w (BitVec.ofNat 32 r.val)) (BitVec.ofNat 32 n)) (show c.val - 128 - 128 - 128 - 128 - 128 - 128 - 128 - 128 - 128 - 128 - 128 = c.val % 256 - 128 by omega)
  rw [dif_neg h11]
  by_cases h12 : c.val - 128 - 128 - 128 - 128 - 128 - 128 - 128 - 128 - 128 - 128 - 128 - 128 < 128
  · rw [dif_pos h12]; rw [dif_pos (show c.val % 256 < 128 by omega)]; exact congrArg v ((ix2_inj ..).2 ⟨rfl, Fin.ext (by dsimp only; omega)⟩)
  rw [dif_neg h12]
  by_cases h13 : c.val - 128 - 128 - 128 - 128 - 128 - 128 - 128 - 128 - 128 - 128 - 128 - 128 - 128 < 128
  · rw [dif_pos h13]; rw [dif_neg (show ¬ c.val % 256 < 128 by omega)]; exact congrArg (fun n => digit (IntOp.addi w (BitVec.ofNat 32 r.val)) (BitVec.ofNat 32 n)) (show c.val - 128 - 128 - 128 - 128 - 128 - 128 - 128 - 128 - 128 - 128 - 128 - 128 - 128 = c.val % 256 - 128 by omega)
  rw [dif_neg h13]
  by_cases h14 : c.val - 128 - 128 - 128 - 128 - 128 - 128 - 128 - 128 - 128 - 128 - 128 - 128 - 128 - 128 < 128
  · rw [dif_pos h14]; rw [dif_pos (show c.val % 256 < 128 by omega)]; exact congrArg v ((ix2_inj ..).2 ⟨rfl, Fin.ext (by dsimp only; omega)⟩)
  rw [dif_neg h14]
  rw [dif_neg (show ¬ c.val % 256 < 128 by omega)]; exact congrArg (fun n => digit (IntOp.addi w (BitVec.ofNat 32 r.val)) (BitVec.ofNat 32 n)) (show c.val - 128 - 128 - 128 - 128 - 128 - 128 - 128 - 128 - 128 - 128 - 128 - 128 - 128 - 128 - 128 = c.val % 256 - 128 by omega)

theorem out5_at (i : grid0.Coords) (r : Fin 512) (c : Fin 2048) : out5 (F := Ideal) i x0 x1 (ix2 r c) = if h : c.val % 256 < 128
      then bprod x0 x1 r ⟨1024 + (c.val / 256 * 128 + c.val % 256), by omega⟩
      else digit (IntOp.addi (first i) (BitVec.ofNat 32 r.val)) (BitVec.ofNat 32 (c.val % 256 - 128)) := by
  unfold out5
  canon_tiles x h
  have e : (ix2 r c : S512x2048.Idx) = x := by funext a; match a with | ⟨0, _⟩ => exact Fin.ext h0 | ⟨1, _⟩ => exact Fin.ext h1
  subst e
  refine (pay_kb _ _ r c).trans ?_
  split
  · exact pay_k x0 x1 r _
  · rfl

/-- A head's piece, where its rows meet a row of the buffer. -/
theorem head_at (w : FVec Ideal S512x128 .f32) (h : Nat) (inb : ∀ a, S512x128.size a = 0 ∨ (![h, 0] : Fin 2 → Nat) a + (![8, 1] : Fin 2 → Nat) a * (S512x128.size a - 1) < S4096x128.size a)
    (o g : Nat) (hg : g = 128 * h) (ho : o + 1024 ≤ 4096) (R : Fin 4096) (c : Fin 128) (hh : h < 8)
    (hw : ∀ (r : Fin 512) (d : Fin 128) (C : Fin 4096), C.val = o + (g + d.val) → w (ix2 r d) = bprod x0 x1 r C) :
    View.RectAt (Val := Elt Ideal) (e := .f32) (ix2 R c : S4096x128.Idx) (⟨(⟨![h, 0], S512x128.size, ![8, 1], inb⟩ : LoadRect S4096x128), spos_8_1⟩ : Rect S4096x128)
      w (bprod x0 x1 ⟨R.val / 8, by omega⟩ ⟨o + (R.val % 8 * 128 + c.val), by omega⟩) := by
  intro x hx
  have e0 : h + 8 * (x 0).val = R.val := congrArg Fin.val (congrFun hx 0)
  have e1 : 0 + 1 * (x 1).val = c.val := congrArg Fin.val (congrFun hx 1)
  have e : x = (ix2 ⟨R.val / 8, by omega⟩ c : S512x128.Idx) := by
    funext a
    match a with
    | ⟨0, _⟩ => exact Fin.ext (show (x 0).val = R.val / 8 by omega)
    | ⟨1, _⟩ => exact Fin.ext (show (x 1).val = c.val by omega)
  rw [e]
  exact hw _ _ _ (show o + (R.val % 8 * 128 + c.val) = o + (g + c.val) by omega)

theorem out3_at (R : Fin 4096) (c : Fin 128) : out3 (F := Ideal) x0 x1 (ix2 R c)
    = bprod x0 x1 ⟨R.val / 8, by omega⟩ ⟨1024 + (R.val % 8 * 128 + c.val), by omega⟩ := by
  unfold out3
  refine View.canon_eq_of_allAt _ _ _ (cover_rows _ _ _ _ _ _ _ _ _) ?_
  refine View.allAt_cons _ _ _ (head_at x0 x1 _ 7 _ 1024 896 rfl (by decide) R c (by decide) fun r d C hC => ?_) ?_
  · obtain ⟨C, hlt⟩ := C
    dsimp only at hC
    subst hC
    pointwise [bprod, k0_pay14, k0_pay6, k0_pay4]
  refine View.allAt_cons _ _ _ (head_at x0 x1 _ 6 _ 1024 768 rfl (by decide) R c (by decide) fun r d C hC => ?_) ?_
  · obtain ⟨C, hlt⟩ := C
    dsimp only at hC
    subst hC
    pointwise [bprod, k0_pay13, k0_pay6, k0_pay4]
  refine View.allAt_cons _ _ _ (head_at x0 x1 _ 5 _ 1024 640 rfl (by decide) R c (by decide) fun r d C hC => ?_) ?_
  · obtain ⟨C, hlt⟩ := C
    dsimp only at hC
    subst hC
    pointwise [bprod, k0_pay12, k0_pay6, k0_pay4]
  refine View.allAt_cons _ _ _ (head_at x0 x1 _ 4 _ 1024 512 rfl (by decide) R c (by decide) fun r d C hC => ?_) ?_
  · obtain ⟨C, hlt⟩ := C
    dsimp only at hC
    subst hC
    pointwise [bprod, k0_pay11, k0_pay6, k0_pay4]
  refine View.allAt_cons _ _ _ (head_at x0 x1 _ 3 _ 1024 384 rfl (by decide) R c (by decide) fun r d C hC => ?_) ?_
  · obtain ⟨C, hlt⟩ := C
    dsimp only at hC
    subst hC
    pointwise [bprod, k0_pay10, k0_pay6, k0_pay4]
  refine View.allAt_cons _ _ _ (head_at x0 x1 _ 2 _ 1024 256 rfl (by decide) R c (by decide) fun r d C hC => ?_) ?_
  · obtain ⟨C, hlt⟩ := C
    dsimp only at hC
    subst hC
    pointwise [bprod, k0_pay9, k0_pay6, k0_pay4]
  refine View.allAt_cons _ _ _ (head_at x0 x1 _ 1 _ 1024 128 rfl (by decide) R c (by decide) fun r d C hC => ?_) ?_
  · obtain ⟨C, hlt⟩ := C
    dsimp only at hC
    subst hC
    pointwise [bprod, k0_pay8, k0_pay6, k0_pay4]
  refine View.allAt_cons _ _ _ (head_at x0 x1 _ 0 _ 1024 0 rfl (by decide) R c (by decide) fun r d C hC => ?_) ?_
  · obtain ⟨C, hlt⟩ := C
    dsimp only at hC
    subst hC
    pointwise [bprod, k0_pay7, k0_pay6, k0_pay4]
  exact View.allAt_nil _ _

theorem out4_at (R : Fin 4096) (c : Fin 128) : out4 (F := Ideal) x0 x1 (ix2 R c)
    = bprod x0 x1 ⟨R.val / 8, by omega⟩ ⟨2048 + (R.val % 8 * 128 + c.val), by omega⟩ := by
  unfold out4
  refine View.canon_eq_of_allAt _ _ _ (cover_rows _ _ _ _ _ _ _ _ _) ?_
  refine View.allAt_cons _ _ _ (head_at x0 x1 _ 7 _ 2048 896 rfl (by decide) R c (by decide) fun r d C hC => ?_) ?_
  · obtain ⟨C, hlt⟩ := C
    dsimp only at hC
    subst hC
    pointwise [bprod, k0_pay23, k0_pay15, k0_pay4]
  refine View.allAt_cons _ _ _ (head_at x0 x1 _ 6 _ 2048 768 rfl (by decide) R c (by decide) fun r d C hC => ?_) ?_
  · obtain ⟨C, hlt⟩ := C
    dsimp only at hC
    subst hC
    pointwise [bprod, k0_pay22, k0_pay15, k0_pay4]
  refine View.allAt_cons _ _ _ (head_at x0 x1 _ 5 _ 2048 640 rfl (by decide) R c (by decide) fun r d C hC => ?_) ?_
  · obtain ⟨C, hlt⟩ := C
    dsimp only at hC
    subst hC
    pointwise [bprod, k0_pay21, k0_pay15, k0_pay4]
  refine View.allAt_cons _ _ _ (head_at x0 x1 _ 4 _ 2048 512 rfl (by decide) R c (by decide) fun r d C hC => ?_) ?_
  · obtain ⟨C, hlt⟩ := C
    dsimp only at hC
    subst hC
    pointwise [bprod, k0_pay20, k0_pay15, k0_pay4]
  refine View.allAt_cons _ _ _ (head_at x0 x1 _ 3 _ 2048 384 rfl (by decide) R c (by decide) fun r d C hC => ?_) ?_
  · obtain ⟨C, hlt⟩ := C
    dsimp only at hC
    subst hC
    pointwise [bprod, k0_pay19, k0_pay15, k0_pay4]
  refine View.allAt_cons _ _ _ (head_at x0 x1 _ 2 _ 2048 256 rfl (by decide) R c (by decide) fun r d C hC => ?_) ?_
  · obtain ⟨C, hlt⟩ := C
    dsimp only at hC
    subst hC
    pointwise [bprod, k0_pay18, k0_pay15, k0_pay4]
  refine View.allAt_cons _ _ _ (head_at x0 x1 _ 1 _ 2048 128 rfl (by decide) R c (by decide) fun r d C hC => ?_) ?_
  · obtain ⟨C, hlt⟩ := C
    dsimp only at hC
    subst hC
    pointwise [bprod, k0_pay17, k0_pay15, k0_pay4]
  refine View.allAt_cons _ _ _ (head_at x0 x1 _ 0 _ 2048 0 rfl (by decide) R c (by decide) fun r d C hC => ?_) ?_
  · obtain ⟨C, hlt⟩ := C
    dsimp only at hC
    subst hC
    pointwise [bprod, k0_pay16, k0_pay15, k0_pay4]
  exact View.allAt_nil _ _

end Cert.ProjIdeal.Pure

end
-- ==== Proof.ProjValue.lean ====
/- Hand-written, untrusted: the arrays the input projection leaves are the reference's. -/
module

public import proofs.«01_k».proof.Proof.ProjPure
public import Idealize.ShloMosaic.Lib.Claim

set_option maxRecDepth 16384

@[expose] public section

noncomputable section

open Idealize.ShloMosaic Idealize.ShloMosaic.TcCoe Idealize.SL.Sem
open Idealize.ShloMosaic.Pipeline (Dat)

namespace Cert.ProjIdeal.Hand

open Cert.ProjIdeal Cert.ProjIdeal.Gen Cert.ProjIdeal.Pure Cert.ProjRefIdeal.Pure

variable (m : (ℓ : Loc nD τ sig) → Buf (Elt Ideal) ℓ)

/-- The two inputs' block indices at every grid point. -/
theorem idx_val : ∀ t : Fin cfg0.N, win0_0.index t = ![t.val, 0] ∧ win0_1.index t = ![0, 0]
    ∧ win0_2.index t = ![t.val, 0, 0] ∧ win0_3.index t = ![t.val, 0] ∧ win0_4.index t = ![t.val, 0]
    ∧ win0_5.index t = ![t.val, 0] ∧ win0_6.index t = ![t.val, 0, 0] ∧ win0_7.index t = ![t.val, 0] :=
  (by decide +kernel : ∀ t : Fin grid0.N, _)

theorem blk0 (c : Dev nD) (t : Fin cfg0.N) (r : Fin 512) (e : Fin 2048) (i : Fin 2) (j : Fin 8192)
    (hi : i.val = (512 * t.val + r.val) / 8192) (hj : j.val = (512 * t.val + r.val) % 8192) :
    (show FVec Ideal S512x2048 .f32 from iblk m c 0 t) (ix2 r e) = (m ((c : Thread nD τ).loc main_arg0)) (ix3 i j e) := by
  blk_simp [iblk, idx_val t]
  entry_read
  pointwise
  blk_ext [idx_val t]

theorem blk1 (c : Dev nD) (t : Fin cfg0.N) (k : Fin 2048) (e : Fin 4096) :
    (show FVec Ideal S2048x4096 .bf16 from iblk m c 1 t) (ix2 k e) = (m ((c : Thread nD τ).loc main_arg1)) (ix3 0 k e) := by
  blk_simp [iblk, idx_val t]
  entry_read
  pointwise
  blk_ext [idx_val t]

/-- A point's products are the whole arrays' at its rows. -/
theorem point (c : Dev nD) (t : Fin cfg0.N) (r : Fin 512) (C C' : Fin 4096) (i : Fin 2) (j : Fin 8192)
    (hi : i.val = (512 * t.val + r.val) / 8192) (hj : j.val = (512 * t.val + r.val) % 8192) (hC : C'.val = C.val) :
    bprod (show FVec Ideal S512x2048 .f32 from iblk m c 0 t) (show FVec Ideal S2048x4096 .bf16 from iblk m c 1 t) r C
      = prod (m ((c : Thread nD τ).loc main_arg0)) (m ((c : Thread nD τ).loc main_arg1)) i j C' := by
  obtain rfl : C' = C := Fin.ext hC
  exact Finset.sum_congr rfl fun k _ => congrArg₂ (· * ·) (blk0 m c t r k i j hi hj) (blk1 m c t k C')

theorem emb2 (t : Fin cfg0.N) (y : S1x1024x512.Idx) : ∃ R : Fin 32, R.val = t.val
    ∧ (win0_2.blk t).view.emb y = (ix3 R (y 1 : Fin 1024) (y 2 : Fin 512) : S32x1024x512.Idx) := by
  have e0 : ((win0_2.blk t).view.emb y 0).val = t.val * 1 + (y 0).val := by blk_simp [idx_val t]
  have e1 : ((win0_2.blk t).view.emb y 1).val = (y 1).val := by blk_simp [idx_val t]
  have e2 : ((win0_2.blk t).view.emb y 2).val = (y 2).val := by blk_simp [idx_val t]
  have h0 : (y 0).val < 1 := (y 0).isLt
  refine ⟨(win0_2.blk t).view.emb y 0, by rw [e0]; omega, ?_⟩
  funext a
  match a with
  | ⟨0, _⟩ => rfl
  | ⟨1, _⟩ => exact Fin.ext e1
  | ⟨2, _⟩ => exact Fin.ext e2

theorem emb6 (t : Fin cfg0.N) (y : S1x1024x512.Idx) : ∃ R : Fin 32, R.val = t.val
    ∧ (win0_6.blk t).view.emb y = (ix3 R (y 1 : Fin 1024) (y 2 : Fin 512) : S32x1024x512.Idx) := by
  have e0 : ((win0_6.blk t).view.emb y 0).val = t.val * 1 + (y 0).val := by blk_simp [idx_val t]
  have e1 : ((win0_6.blk t).view.emb y 1).val = (y 1).val := by blk_simp [idx_val t]
  have e2 : ((win0_6.blk t).view.emb y 2).val = (y 2).val := by blk_simp [idx_val t]
  have h0 : (y 0).val < 1 := (y 0).isLt
  refine ⟨(win0_6.blk t).view.emb y 0, by rw [e0]; omega, ?_⟩
  funext a
  match a with
  | ⟨0, _⟩ => rfl
  | ⟨1, _⟩ => exact Fin.ext e1
  | ⟨2, _⟩ => exact Fin.ext e2

theorem emb3 (t : Fin cfg0.N) (y : S4096x128.Idx) : ∃ R : Fin 131072, R.val = 4096 * t.val + (y 0).val
    ∧ (win0_3.blk t).view.emb y = (ix2 R (y 1 : Fin 128) : S131072x128.Idx) := by
  have e0 : ((win0_3.blk t).view.emb y 0).val = t.val * 4096 + (y 0).val := by blk_simp [idx_val t]
  have e1 : ((win0_3.blk t).view.emb y 1).val = (y 1).val := by blk_simp [idx_val t]
  refine ⟨(win0_3.blk t).view.emb y 0, by rw [e0]; omega, ?_⟩
  exact (eq_ix2 ((win0_3.blk t).view.emb y)).trans ((ix2_inj ..).2 ⟨rfl, Fin.ext e1⟩)

theorem emb4 (t : Fin cfg0.N) (y : S4096x128.Idx) : ∃ R : Fin 131072, R.val = 4096 * t.val + (y 0).val
    ∧ (win0_4.blk t).view.emb y = (ix2 R (y 1 : Fin 128) : S131072x128.Idx) := by
  have e0 : ((win0_4.blk t).view.emb y 0).val = t.val * 4096 + (y 0).val := by blk_simp [idx_val t]
  have e1 : ((win0_4.blk t).view.emb y 1).val = (y 1).val := by blk_simp [idx_val t]
  refine ⟨(win0_4.blk t).view.emb y 0, by rw [e0]; omega, ?_⟩
  exact (eq_ix2 ((win0_4.blk t).view.emb y)).trans ((ix2_inj ..).2 ⟨rfl, Fin.ext e1⟩)

theorem emb5 (t : Fin cfg0.N) (y : S512x2048.Idx) : ∃ R : Fin 16384, R.val = 512 * t.val + (y 0).val
    ∧ (win0_5.blk t).view.emb y = (ix2 R (y 1 : Fin 2048) : S16384x2048.Idx) := by
  have e0 : ((win0_5.blk t).view.emb y 0).val = t.val * 512 + (y 0).val := by blk_simp [idx_val t]
  have e1 : ((win0_5.blk t).view.emb y 1).val = (y 1).val := by blk_simp [idx_val t]
  refine ⟨(win0_5.blk t).view.emb y 0, by rw [e0]; omega, ?_⟩
  exact (eq_ix2 ((win0_5.blk t).view.emb y)).trans ((ix2_inj ..).2 ⟨rfl, Fin.ext e1⟩)

theorem emb7 (t : Fin cfg0.N) (y : S512x1024.Idx) : ∃ R : Fin 16384, R.val = 512 * t.val + (y 0).val
    ∧ (win0_7.blk t).view.emb y = (ix2 R (y 1 : Fin 1024) : S16384x1024.Idx) := by
  have e0 : ((win0_7.blk t).view.emb y 0).val = t.val * 512 + (y 0).val := by blk_simp [idx_val t]
  have e1 : ((win0_7.blk t).view.emb y 1).val = (y 1).val := by blk_simp [idx_val t]
  refine ⟨(win0_7.blk t).view.emb y 0, by rw [e0]; omega, ?_⟩
  exact (eq_ix2 ((win0_7.blk t).view.emb y)).trans ((ix2_inj ..).2 ⟨rfl, Fin.ext e1⟩)

open Cert.ProjRefIdeal.Read

/-- The queries. -/
theorem final2 (c : Dev nD) : (dats m 0 c).arrAt 2 (cfgs 0).N
    = val_main_v27 (F := Ideal) (m ((c : Thread nD τ).loc main_arg0)) (m ((c : Thread nD τ).loc main_arg1)) := by
  refine (dats m 0 c).arrAt_eq_of_covers 2 _ (by decide +kernel) fun t hf y => ?_
  obtain ⟨R, hR, he⟩ := emb2 t y
  have ht : t.val < 32 := t.isLt
  have h2 : (y 2).val < 512 := (y 2).isLt
  blk_simp
  rw [after2, he]
  have e : y = (ix3 (y 0 : Fin 1) (y 1 : Fin 1024) (y 2 : Fin 512) : S1x1024x512.Idx) := eq_ix3 y
  refine (congrArg (out2 (F := Ideal) (iblk m c 0 t) (iblk m c 1 t)) e).trans ((out2_at _ _ _ _ _).trans (Eq.trans ?_ (ref_qt _ _ R _ _).symm))
  exact congrArg (· * Ideal.ofBits FTy.f32 0x3E38AA3B#32) (point m c t _ _ _ _ _
    (show R.val / 16 = (512 * t.val + (y 2).val) / 8192 by omega) (show R.val % 16 * 512 + (y 2).val = (512 * t.val + (y 2).val) % 8192 by omega) rfl)

/-- The keys by head. -/
theorem final3 (c : Dev nD) : (dats m 0 c).arrAt 3 (cfgs 0).N
    = val_main_v28 (F := Ideal) (m ((c : Thread nD τ).loc main_arg0)) (m ((c : Thread nD τ).loc main_arg1)) := by
  refine (dats m 0 c).arrAt_eq_of_covers 3 _ (by decide +kernel) fun t hf y => ?_
  obtain ⟨R, hR, he⟩ := emb3 t y
  have ht : t.val < 32 := t.isLt
  have h0 : (y 0).val < 4096 := (y 0).isLt
  blk_simp
  rw [after3, he]
  have e : y = (ix2 (y 0 : Fin 4096) (y 1 : Fin 128) : S4096x128.Idx) := eq_ix2 y
  refine (congrArg (out3 (F := Ideal) (iblk m c 0 t) (iblk m c 1 t)) e).trans ((out3_at _ _ _ _).trans (Eq.trans ?_ (ref_k _ _ R _).symm))
  exact point m c t _ _ _ _ _ (show R.val / 65536 = (512 * t.val + (y 0).val / 8) / 8192 by omega)
    (show R.val / 8 % 8192 = (512 * t.val + (y 0).val / 8) % 8192 by omega)
    (show 1024 + (R.val % 8 * 128 + (y 1).val) = 1024 + ((y 0).val % 8 * 128 + (y 1).val) by omega)

/-- The values by head. -/
theorem final4 (c : Dev nD) : (dats m 0 c).arrAt 4 (cfgs 0).N
    = val_main_v29 (F := Ideal) (m ((c : Thread nD τ).loc main_arg0)) (m ((c : Thread nD τ).loc main_arg1)) := by
  refine (dats m 0 c).arrAt_eq_of_covers 4 _ (by decide +kernel) fun t hf y => ?_
  obtain ⟨R, hR, he⟩ := emb4 t y
  have ht : t.val < 32 := t.isLt
  have h0 : (y 0).val < 4096 := (y 0).isLt
  blk_simp
  rw [after4, he]
  have e : y = (ix2 (y 0 : Fin 4096) (y 1 : Fin 128) : S4096x128.Idx) := eq_ix2 y
  refine (congrArg (out4 (F := Ideal) (iblk m c 0 t) (iblk m c 1 t)) e).trans ((out4_at _ _ _ _).trans (Eq.trans ?_ (ref_v _ _ R _).symm))
  exact point m c t _ _ _ _ _ (show R.val / 65536 = (512 * t.val + (y 0).val / 8) / 8192 by omega)
    (show R.val / 8 % 8192 = (512 * t.val + (y 0).val / 8) % 8192 by omega)
    (show 2048 + (R.val % 8 * 128 + (y 1).val) = 2048 + ((y 0).val % 8 * 128 + (y 1).val) by omega)

/-- A position is its block's first and its row within the block. -/
theorem pos_eq (t : Fin cfg0.N) (r : Nat) (R : Nat) (hr : r < 512) (hR : R = 512 * t.val + r) :
    IntOp.addi (first (grid0.coords t)) (BitVec.ofNat 32 r) = BitVec.ofNat 32 (R % 8192) := by
  rw [first_eq t, show R % 8192 = t.val % 16 * 512 + r by omega]
  exact (BitVec.ofNat_add _ _).symm

/-- The keys and the digits of their positions. -/
theorem final5 (c : Dev nD) : (dats m 0 c).arrAt 5 (cfgs 0).N
    = val_main_v31 (F := Ideal) (m ((c : Thread nD τ).loc main_arg0)) (m ((c : Thread nD τ).loc main_arg1)) := by
  refine (dats m 0 c).arrAt_eq_of_covers 5 _ (by decide +kernel) fun t hf y => ?_
  obtain ⟨R, hR, he⟩ := emb5 t y
  have ht : t.val < 32 := t.isLt
  have h0 : (y 0).val < 512 := (y 0).isLt
  blk_simp
  rw [after5, he]
  have e : y = (ix2 (y 0 : Fin 512) (y 1 : Fin 2048) : S512x2048.Idx) := eq_ix2 y
  refine (congrArg (out5 (F := Ideal) (grid0.coords t) (iblk m c 0 t) (iblk m c 1 t)) e).trans
    ((out5_at _ _ _ _ _).trans (Eq.trans ?_ (ref_kb _ _ R _).symm))
  refine dite_congr rfl (fun h => ?_) (fun h => ?_)
  · exact point m c t _ _ _ _ _ (show R.val / 8192 = (512 * t.val + (y 0).val) / 8192 by omega)
      (show R.val % 8192 = (512 * t.val + (y 0).val) % 8192 by omega) rfl
  · exact congrArg (fun p => digit p _) (pos_eq t (y 0).val R.val h0 hR)

/-- The values. -/
theorem final6 (c : Dev nD) : (dats m 0 c).arrAt 6 (cfgs 0).N
    = val_main_v34 (F := Ideal) (m ((c : Thread nD τ).loc main_arg0)) (m ((c : Thread nD τ).loc main_arg1)) := by
  refine (dats m 0 c).arrAt_eq_of_covers 6 _ (by decide +kernel) fun t hf y => ?_
  obtain ⟨R, hR, he⟩ := emb6 t y
  have ht : t.val < 32 := t.isLt
  have h2 : (y 2).val < 512 := (y 2).isLt
  blk_simp
  rw [after6, he]
  have e : y = (ix3 (y 0 : Fin 1) (y 1 : Fin 1024) (y 2 : Fin 512) : S1x1024x512.Idx) := eq_ix3 y
  refine (congrArg (out6 (F := Ideal) (iblk m c 0 t) (iblk m c 1 t)) e).trans ((out6_at _ _ _ _ _).trans (Eq.trans ?_ (ref_vt _ _ R _ _).symm))
  exact point m c t _ _ _ _ _
    (show R.val / 16 = (512 * t.val + (y 2).val) / 8192 by omega) (show R.val % 16 * 512 + (y 2).val = (512 * t.val + (y 2).val) % 8192 by omega) rfl

/-- The state space's input. -/
theorem final7 (c : Dev nD) : (dats m 0 c).arrAt 7 (cfgs 0).N
    = val_main_v35 (F := Ideal) (m ((c : Thread nD τ).loc main_arg0)) (m ((c : Thread nD τ).loc main_arg1)) := by
  refine (dats m 0 c).arrAt_eq_of_covers 7 _ (by decide +kernel) fun t hf y => ?_
  obtain ⟨R, hR, he⟩ := emb7 t y
  have ht : t.val < 32 := t.isLt
  blk_simp
  rw [after7, he]
  have e : y = (ix2 (y 0 : Fin 512) (y 1 : Fin 1024) : S512x1024.Idx) := eq_ix2 y
  refine (congrArg (out7 (F := Ideal) (iblk m c 0 t) (iblk m c 1 t)) e).trans ((out7_at _ _ _ _).trans (Eq.trans ?_ (ref_u _ _ R _).symm))
  exact point m c t _ _ _ _ _ (show R.val / 8192 = (512 * t.val + (y 0).val) / 8192 by omega)
    (show R.val % 8192 = (512 * t.val + (y 0).val) % 8192 by omega) rfl

end Cert.ProjIdeal.Hand

end
-- ==== Proof.ProjRun.lean ====
/- Hand-written, untrusted: the run of the input projection's reference, with its results named. -/
module

public import proofs.«01_k».proof.Proof.Gen.ProjRefIdeal.Read

set_option maxRecDepth 16384

@[expose] public section

noncomputable section

open Idealize.ShloMosaic Idealize.ShloMosaic.TcCoe Idealize.SL.Sem

namespace Cert.ProjRefIdeal.Hand

open Cert.ProjRefIdeal Cert.ProjRefIdeal.Gen Cert.ProjRefIdeal.Read

/-- The reference's run ends with its six results and its arguments as they were. -/
theorem run_named (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v27) = val_main_v27 (F := Ideal) (m ((c.tc : Thread nD τ).loc main_arg0)) (m ((c.tc : Thread nD τ).loc main_arg1))
      ∧ r.2.mem ((c.tc : Thread nD τ).loc main_v28) = val_main_v28 (F := Ideal) (m ((c.tc : Thread nD τ).loc main_arg0)) (m ((c.tc : Thread nD τ).loc main_arg1))
      ∧ r.2.mem ((c.tc : Thread nD τ).loc main_v29) = val_main_v29 (F := Ideal) (m ((c.tc : Thread nD τ).loc main_arg0)) (m ((c.tc : Thread nD τ).loc main_arg1))
      ∧ r.2.mem ((c.tc : Thread nD τ).loc main_v31) = val_main_v31 (F := Ideal) (m ((c.tc : Thread nD τ).loc main_arg0)) (m ((c.tc : Thread nD τ).loc main_arg1))
      ∧ r.2.mem ((c.tc : Thread nD τ).loc main_v34) = val_main_v34 (F := Ideal) (m ((c.tc : Thread nD τ).loc main_arg0)) (m ((c.tc : Thread nD τ).loc main_arg1))
      ∧ r.2.mem ((c.tc : Thread nD τ).loc main_v35) = val_main_v35 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (val_main_v27_eq _ _),
    (h c).2.1.trans (val_main_v28_eq _ _),
    (h c).2.2.1.trans (val_main_v29_eq _ _),
    (h c).2.2.2.1.trans (val_main_v31_eq _ _),
    (h c).2.2.2.2.1.trans (val_main_v34_eq _ _),
    (h c).2.2.2.2.2.1.trans (val_main_v35_eq _ _), (h c).2.2.2.2.2.2⟩)
    (Cert.ProjRefIdeal.Value.run (F := Ideal) m g)

end Cert.ProjRefIdeal.Hand

end
-- ==== Proof.ProjSIdealFrame.lean ====
/- Hand-written, untrusted: the run of the sample group's input projection, whose heads are stored through strided rectangles. -/
module

public import proofs.«01_k».proof.Proof.Gen.ProjSIdeal.Launch
public import proofs.«01_k».proof.Proof.Gen.ProjSIdeal.Skeleton
public import proofs.«01_k».proof.Proof.Gen.ProjSIdeal.Points
public import proofs.«01_k».proof.Proof.Gen.ProjSIdeal.Frame
public import Idealize.ShloMosaic.Lib.Pipeline.FrameBody
public import Idealize.ShloMosaic.Lib.Claim
public import Idealize.ShloMosaic.Lib.Ring
public import Idealize.ShloMosaic.Lib.Tactic

@[expose] public section

set_option maxRecDepth 16384

noncomputable section

namespace Cert.ProjSIdeal.Hand

open Cert.ProjSIdeal Cert.ProjSIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The rectangles: the row block, the weight's four column blocks, whole buffers, and each head's rows -/

abbrev rx : Rect S256x2048 := Rect.unit (s := S256x2048) ![0, 0] S256x2048.size inb_S256x2048_S256x2048_0_0
abbrev rq : Rect S2048x4096 := Rect.unit (s := S2048x4096) ![0, 0] S2048x1024.size inb_S2048x4096_S2048x1024_0_0
abbrev rk : Rect S2048x4096 := Rect.unit (s := S2048x4096) ![0, 1024] S2048x1024.size inb_S2048x4096_S2048x1024_0_1024
abbrev rv : Rect S2048x4096 := Rect.unit (s := S2048x4096) ![0, 2048] S2048x1024.size inb_S2048x4096_S2048x1024_0_2048
abbrev ru : Rect S2048x4096 := Rect.unit (s := S2048x4096) ![0, 3072] S2048x1024.size inb_S2048x4096_S2048x1024_0_3072
abbrev ro : Rect S256x1024 := Rect.unit (s := S256x1024) ![0, 0] S256x1024.size inb_S256x1024_S256x1024_0_0
abbrev rs0 : Rect S2048x128 := ⟨(⟨![0, 0], S256x128.size, ![8, 1], inb_S2048x128_S256x128_0_0_s_8_1⟩ : LoadRect S2048x128), spos_8_1⟩
abbrev rs1 : Rect S2048x128 := ⟨(⟨![1, 0], S256x128.size, ![8, 1], inb_S2048x128_S256x128_1_0_s_8_1⟩ : LoadRect S2048x128), spos_8_1⟩
abbrev rs2 : Rect S2048x128 := ⟨(⟨![2, 0], S256x128.size, ![8, 1], inb_S2048x128_S256x128_2_0_s_8_1⟩ : LoadRect S2048x128), spos_8_1⟩
abbrev rs3 : Rect S2048x128 := ⟨(⟨![3, 0], S256x128.size, ![8, 1], inb_S2048x128_S256x128_3_0_s_8_1⟩ : LoadRect S2048x128), spos_8_1⟩
abbrev rs4 : Rect S2048x128 := ⟨(⟨![4, 0], S256x128.size, ![8, 1], inb_S2048x128_S256x128_4_0_s_8_1⟩ : LoadRect S2048x128), spos_8_1⟩
abbrev rs5 : Rect S2048x128 := ⟨(⟨![5, 0], S256x128.size, ![8, 1], inb_S2048x128_S256x128_5_0_s_8_1⟩ : LoadRect S2048x128), spos_8_1⟩
abbrev rs6 : Rect S2048x128 := ⟨(⟨![6, 0], S256x128.size, ![8, 1], inb_S2048x128_S256x128_6_0_s_8_1⟩ : LoadRect S2048x128), spos_8_1⟩
abbrev rs7 : Rect S2048x128 := ⟨(⟨![7, 0], S256x128.size, ![8, 1], inb_S2048x128_S256x128_7_0_s_8_1⟩ : LoadRect S2048x128), spos_8_1⟩

/-! ## What the body leaves in each output's buffer -/

def out2 (x0 : Vec F S256x2048 .f32) (x1 : Vec F S2048x4096 .bf16) : Vec F S256x1024 .f32 :=
  View.canon [⟨ro, k0_pay2 (View.ld x0 rx) (View.ld x1 rq)⟩]
def out3 (x0 : Vec F S256x2048 .f32) (x1 : Vec F S2048x4096 .bf16) : Vec F S2048x128 .f32 :=
  View.canon [⟨rs7, k0_pay11 (k0_pay3 (View.ld x0 rx) (View.ld x1 rk))⟩,
    ⟨rs6, k0_pay10 (View.ld x0 rx) (View.ld x1 rk)⟩,
    ⟨rs5, k0_pay9 (View.ld x0 rx) (View.ld x1 rk)⟩,
    ⟨rs4, k0_pay8 (View.ld x0 rx) (View.ld x1 rk)⟩,
    ⟨rs3, k0_pay7 (View.ld x0 rx) (View.ld x1 rk)⟩,
    ⟨rs2, k0_pay6 (View.ld x0 rx) (View.ld x1 rk)⟩,
    ⟨rs1, k0_pay5 (View.ld x0 rx) (View.ld x1 rk)⟩,
    ⟨rs0, k0_pay4 (View.ld x0 rx) (View.ld x1 rk)⟩]
def out4 (x0 : Vec F S256x2048 .f32) (x1 : Vec F S2048x4096 .bf16) : Vec F S2048x128 .f32 :=
  View.canon [⟨rs7, k0_pay20 (k0_pay1 (View.ld x0 rx)) (View.ld x1 rv)⟩,
    ⟨rs6, k0_pay19 (k0_pay1 (View.ld x0 rx)) (View.ld x1 rv)⟩,
    ⟨rs5, k0_pay18 (k0_pay1 (View.ld x0 rx)) (View.ld x1 rv)⟩,
    ⟨rs4, k0_pay17 (k0_pay1 (View.ld x0 rx)) (View.ld x1 rv)⟩,
    ⟨rs3, k0_pay16 (k0_pay1 (View.ld x0 rx)) (View.ld x1 rv)⟩,
    ⟨rs2, k0_pay15 (k0_pay1 (View.ld x0 rx)) (View.ld x1 rv)⟩,
    ⟨rs1, k0_pay14 (k0_pay1 (View.ld x0 rx)) (View.ld x1 rv)⟩,
    ⟨rs0, k0_pay13 (k0_pay1 (View.ld x0 rx)) (View.ld x1 rv)⟩]
def out5 (x0 : Vec F S256x2048 .f32) (x1 : Vec F S2048x4096 .bf16) : Vec F S256x1024 .f32 :=
  View.canon [⟨ro, k0_pay21 (k0_pay1 (View.ld x0 rx)) (View.ld x1 ru)⟩]

/-- A head's rows are those that leave the head's number on division by eight. -/
theorem mem_rows (h : Nat) (inb : ∀ a, S256x128.size a = 0 ∨ (![h, 0] : Fin 2 → Nat) a + (![8, 1] : Fin 2 → Nat) a * (S256x128.size a - 1) < S2048x128.size a)
    (y : S2048x128.Idx) (hy : (y 0).val % 8 = h) :
    y ∈ (⟨(⟨![h, 0], S256x128.size, ![8, 1], inb⟩ : LoadRect S2048x128), spos_8_1⟩ : Rect S2048x128).set := by
  have h0 : (y 0).val < 2048 := (y 0).isLt
  have h1 : (y 1).val < 128 := (y 1).isLt
  rw [LoadRect.mem_set]
  intro a
  match a with
  | ⟨0, _⟩ => exact ⟨(y 0).val / 8, show (y 0).val / 8 < 256 by omega, show (y 0).val = h + 8 * ((y 0).val / 8) by omega⟩
  | ⟨1, _⟩ => exact ⟨(y 1).val, h1, show (y 1).val = 0 + 1 * (y 1).val by omega⟩

/-- The eight heads' rows cover the buffer. -/
theorem cover_rows (p0 p1 p2 p3 p4 p5 p6 p7 : Vec F S256x128 .f32) (y : S2048x128.Idx) :
    ∃ pc ∈ ([⟨rs7, p7⟩, ⟨rs6, p6⟩, ⟨rs5, p5⟩, ⟨rs4, p4⟩, ⟨rs3, p3⟩, ⟨rs2, p2⟩, ⟨rs1, p1⟩, ⟨rs0, p0⟩] :
      List (View.Piece (Elt F) S2048x128 .f32)), y ∈ pc.1.set := by
  have h8 : (y 0).val % 8 < 8 := Nat.mod_lt _ (by decide)
  generalize hk : (y 0).val % 8 = k at h8
  match k, h8 with
  | 0, _ => exact ⟨⟨rs0, p0⟩, by simp, mem_rows 0 _ y hk⟩
  | 1, _ => exact ⟨⟨rs1, p1⟩, by simp, mem_rows 1 _ y hk⟩
  | 2, _ => exact ⟨⟨rs2, p2⟩, by simp, mem_rows 2 _ y hk⟩
  | 3, _ => exact ⟨⟨rs3, p3⟩, by simp, mem_rows 3 _ y hk⟩
  | 4, _ => exact ⟨⟨rs4, p4⟩, by simp, mem_rows 4 _ y hk⟩
  | 5, _ => exact ⟨⟨rs5, p5⟩, by simp, mem_rows 5 _ y hk⟩
  | 6, _ => exact ⟨⟨rs6, p6⟩, by simp, mem_rows 6 _ y hk⟩
  | 7, _ => exact ⟨⟨rs7, p7⟩, by simp, mem_rows 7 _ y hk⟩

theorem cover_one (p : Vec F S256x1024 .f32) (y : S256x1024.Idx) :
    ∃ pc ∈ ([⟨ro, p⟩] : List (View.Piece (Elt F) S256x1024 .f32)), y ∈ pc.1.set :=
  View.cover_of_tiled [⟨ro, p⟩] S256x1024.size (by rfl) y

/-! ## The body's triple -/

local notation "𝕄" => MT nD τ sig Unit (Elt F) ℕ (UR sig nD τ) ℕ

set_option maxHeartbeats 4000000 in
/-- The body on whole buffers, the inputs' at `x0` and `x1`, runs and leaves each output's buffer at its value. -/
theorem sound_kernel (c : Dev nD) (E : Set ℕ) (i : grid0.Coords) (arg1 : Memref sig .tc .vmem S256x2048 .f32) (harg1 : arg1.IsWhole) (arg2 : Memref sig .tc .vmem S2048x4096 .bf16) (harg2 : arg2.IsWhole) (arg3 : Memref sig .tc .vmem S256x1024 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S256x1024 .f32) (harg6 : arg6.IsWhole)
    (x0 : Vec F S256x2048 .f32) (x1 : Vec F S2048x4096 .bf16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare (out2 x0 x1) ∗ owns (c : Thread nD τ) arg4 fullShare (out3 x0 x1) ∗ owns (c : Thread nD τ) arg5 fullShare (out4 x0 x1) ∗ owns (c : Thread nD τ) arg6 fullShare (out5 x0 x1)) -∗ K ⟨⟩))
      ⊢ wp frame (wpE (defs₀ (F := F)) Variants.none c none) E (cc0_proj_in i arg1 harg1 arg2 harg2 arg3 harg3 arg4 harg4 arg5 harg5 arg6 harg6) K := by
  simp only [cc0_proj_in_eq_skeleton]; unfold cc0_proj_in_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover_one _)).trans ?_
    rfl
  isplitl [H3]
  · iexists _; isplitr
    swap; · iexact H3
    ipureintro
    refine (View.read_writes_eq_canon _ _ _ (cover_rows _ _ _ _ _ _ _ _)).trans ?_
    rfl
  isplitl [H4]
  · iexists _; isplitr
    swap; · iexact H4
    ipureintro
    refine (View.read_writes_eq_canon _ _ _ (cover_rows _ _ _ _ _ _ _ _)).trans ?_
    rfl
  iexists _; isplitr
  swap; · iexact H5
  ipureintro
  refine (View.read_writes_eq_canon _ _ _ (cover_one _)).trans ?_
  rfl

/-! ## The pipeline's proof data -/

/-- What every buffer holds after the body at a point: an input its block, an output its value from the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
    | ⟨3, _⟩ => out3 (iblk m c 0 t) (iblk m c 1 t)
    | ⟨4, _⟩ => out4 (iblk m c 0 t) (iblk m c 1 t)
    | ⟨5, _⟩ => out5 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = out2 (iblk m c 0 t) (iblk m c 1 t) := by dsimp only [dats]
theorem after3 (c : Dev nD) (t : Fin cfg0.N) : (dats m 0 c).after 3 t = out3 (iblk m c 0 t) (iblk m c 1 t) := by dsimp only [dats]
theorem after4 (c : Dev nD) (t : Fin cfg0.N) : (dats m 0 c).after 4 t = out4 (iblk m c 0 t) (iblk m c 1 t) := by dsimp only [dats]
theorem after5 (c : Dev nD) (t : Fin cfg0.N) : (dats m 0 c).after 5 t = out5 (iblk m c 0 t) (iblk m c 1 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every array at what the proof data gives, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The arguments end as they were and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiescent m ρ))

end Cert.ProjSIdeal.Hand

end
-- ==== Proof.ProjSPure.lean ====
/- Hand-written, untrusted: the arithmetic of the sample group's input projection, one index at a time. -/
module

public import proofs.«01_k».proof.Proof.ProjSIdealFrame
public import proofs.«01_k».proof.Proof.Gen.ProjSRefIdeal.Read
public import Idealize.ShloMosaic.Lib.Pointwise
public import Idealize.ShloMosaic.Lib.Pipeline.ValueKit

set_option maxRecDepth 16384

@[expose] public section

noncomputable section

open Idealize.ShloMosaic Idealize.ShloMosaic.TcCoe Idealize.SL.Sem

namespace Cert.ProjSRefIdeal.Pure

open Cert.ProjSRefIdeal Cert.ProjSRefIdeal.Gen Cert.ProjSRefIdeal.Read

/-- Row `j` of sequence `i` of the activations against column `C` of the weight. -/
def prod (x0 : FVec Ideal S32x8x2048 .f32) (x1 : FVec Ideal S1x2048x4096 .f32) (i : Fin 32) (j : Fin 8) (C : Fin 4096) : EReal :=
  ∑ k : Fin 2048, x0 (ix3 i j k) * x1 (ix3 0 k C)

variable (x0 : FVec Ideal S32x8x2048 .f32) (x1 : FVec Ideal S1x2048x4096 .f32)

theorem ref_q (R : Fin 256) (c : Fin 1024) :
    val_main_v8 (F := Ideal) x0 x1 (ix2 R c) = prod x0 x1 ⟨R.val / 8, by omega⟩ ⟨R.val % 8, by omega⟩ ⟨c.val, by omega⟩ * Ideal.ofBits FTy.f32 0x3E38AA3B#32 := by
  pointwise [prod, val_main_v0, val_main_v1, val_main_v2, val_main_cst, val_main_v3, val_main_v4, val_main_v8]

theorem ref_k (R : Fin 2048) (c : Fin 128) :
    val_main_v9 (F := Ideal) x0 x1 (ix2 R c) = prod x0 x1 ⟨R.val / 64, by omega⟩ ⟨R.val / 8 % 8, by omega⟩ ⟨1024 + (R.val % 8 * 128 + c.val), by omega⟩ := by
  pointwise [prod, val_main_v0, val_main_v1, val_main_v5, val_main_v9]

theorem ref_v (R : Fin 2048) (c : Fin 128) :
    val_main_v10 (F := Ideal) x0 x1 (ix2 R c) = prod x0 x1 ⟨R.val / 64, by omega⟩ ⟨R.val / 8 % 8, by omega⟩ ⟨2048 + (R.val % 8 * 128 + c.val), by omega⟩ := by
  pointwise [prod, val_main_v0, val_main_v1, val_main_v6, val_main_v10]

theorem ref_u (R : Fin 256) (c : Fin 1024) :
    val_main_v11 (F := Ideal) x0 x1 (ix2 R c) = prod x0 x1 ⟨R.val / 8, by omega⟩ ⟨R.val % 8, by omega⟩ ⟨3072 + c.val, by omega⟩ := by
  pointwise [prod, val_main_v0, val_main_v1, val_main_v7, val_main_v11]

end Cert.ProjSRefIdeal.Pure

namespace Cert.ProjSIdeal.Pure

open Cert.ProjSIdeal Cert.ProjSIdeal.Gen Cert.ProjSIdeal.Hand Cert.ProjSRefIdeal.Pure

/-- Row `r` of a block of activations against column `C` of the weight. -/
def bprod (x0 : FVec Ideal S256x2048 .f32) (x1 : FVec Ideal S2048x4096 .bf16) (r : Fin 256) (C : Fin 4096) : EReal :=
  ∑ k : Fin 2048, x0 (ix2 r k) * x1 (ix2 k C)

variable (x0 : FVec Ideal S256x2048 .f32) (x1 : FVec Ideal S2048x4096 .bf16)

theorem out2_at (r : Fin 256) (c : Fin 1024) : out2 (F := Ideal) x0 x1 (ix2 r c)
    = bprod x0 x1 r ⟨c.val, by omega⟩ * Ideal.ofBits FTy.f32 0x3E38AA3B#32 := by
  unfold out2
  canon_tiles x h
  have e : (ix2 r c : S256x1024.Idx) = x := by funext a; match a with | ⟨0, _⟩ => exact Fin.ext h0 | ⟨1, _⟩ => exact Fin.ext h1
  subst e
  pointwise [bprod, k0_pay2, k0_pay1]

theorem out5_at (r : Fin 256) (c : Fin 1024) : out5 (F := Ideal) x0 x1 (ix2 r c) = bprod x0 x1 r ⟨3072 + c.val, by omega⟩ := by
  unfold out5
  canon_tiles x h
  have e : (ix2 r c : S256x1024.Idx) = x := by funext a; match a with | ⟨0, _⟩ => exact Fin.ext h0 | ⟨1, _⟩ => exact Fin.ext h1
  subst e
  pointwise [bprod, k0_pay21, k0_pay1]

/-- A head's piece, where its rows meet a row of the buffer. -/
theorem head_at (w : FVec Ideal S256x128 .f32) (h : Nat) (inb : ∀ a, S256x128.size a = 0 ∨ (![h, 0] : Fin 2 → Nat) a + (![8, 1] : Fin 2 → Nat) a * (S256x128.size a - 1) < S2048x128.size a)
    (o g : Nat) (hg : g = 128 * h) (ho : o + 1024 ≤ 4096) (R : Fin 2048) (c : Fin 128) (hh : h < 8)
    (hw : ∀ (r : Fin 256) (d : Fin 128) (C : Fin 4096), C.val = o + (g + d.val) → w (ix2 r d) = bprod x0 x1 r C) :
    View.RectAt (Val := Elt Ideal) (e := .f32) (ix2 R c : S2048x128.Idx) (⟨(⟨![h, 0], S256x128.size, ![8, 1], inb⟩ : LoadRect S2048x128), spos_8_1⟩ : Rect S2048x128)
      w (bprod x0 x1 ⟨R.val / 8, by omega⟩ ⟨o + (R.val % 8 * 128 + c.val), by omega⟩) := by
  intro x hx
  have e0 : h + 8 * (x 0).val = R.val := congrArg Fin.val (congrFun hx 0)
  have e1 : 0 + 1 * (x 1).val = c.val := congrArg Fin.val (congrFun hx 1)
  have e : x = (ix2 ⟨R.val / 8, by omega⟩ c : S256x128.Idx) := by
    funext a
    match a with
    | ⟨0, _⟩ => exact Fin.ext (show (x 0).val = R.val / 8 by omega)
    | ⟨1, _⟩ => exact Fin.ext (show (x 1).val = c.val by omega)
  rw [e]
  exact hw _ _ _ (show o + (R.val % 8 * 128 + c.val) = o + (g + c.val) by omega)

theorem out3_at (R : Fin 2048) (c : Fin 128) : out3 (F := Ideal) x0 x1 (ix2 R c)
    = bprod x0 x1 ⟨R.val / 8, by omega⟩ ⟨1024 + (R.val % 8 * 128 + c.val), by omega⟩ := by
  unfold out3
  refine View.canon_eq_of_allAt _ _ _ (cover_rows _ _ _ _ _ _ _ _ _) ?_
  refine View.allAt_cons _ _ _ (head_at x0 x1 _ 7 _ 1024 896 rfl (by decide) R c (by decide) fun r d C hC => ?_) ?_
  · obtain ⟨C, hlt⟩ := C
    dsimp only at hC
    subst hC
    pointwise [bprod, k0_pay11, k0_pay3, k0_pay1]
  refine View.allAt_cons _ _ _ (head_at x0 x1 _ 6 _ 1024 768 rfl (by decide) R c (by decide) fun r d C hC => ?_) ?_
  · obtain ⟨C, hlt⟩ := C
    dsimp only at hC
    subst hC
    pointwise [bprod, k0_pay10, k0_pay3, k0_pay1]
  refine View.allAt_cons _ _ _ (head_at x0 x1 _ 5 _ 1024 640 rfl (by decide) R c (by decide) fun r d C hC => ?_) ?_
  · obtain ⟨C, hlt⟩ := C
    dsimp only at hC
    subst hC
    pointwise [bprod, k0_pay9, k0_pay3, k0_pay1]
  refine View.allAt_cons _ _ _ (head_at x0 x1 _ 4 _ 1024 512 rfl (by decide) R c (by decide) fun r d C hC => ?_) ?_
  · obtain ⟨C, hlt⟩ := C
    dsimp only at hC
    subst hC
    pointwise [bprod, k0_pay8, k0_pay3, k0_pay1]
  refine View.allAt_cons _ _ _ (head_at x0 x1 _ 3 _ 1024 384 rfl (by decide) R c (by decide) fun r d C hC => ?_) ?_
  · obtain ⟨C, hlt⟩ := C
    dsimp only at hC
    subst hC
    pointwise [bprod, k0_pay7, k0_pay3, k0_pay1]
  refine View.allAt_cons _ _ _ (head_at x0 x1 _ 2 _ 1024 256 rfl (by decide) R c (by decide) fun r d C hC => ?_) ?_
  · obtain ⟨C, hlt⟩ := C
    dsimp only at hC
    subst hC
    pointwise [bprod, k0_pay6, k0_pay3, k0_pay1]
  refine View.allAt_cons _ _ _ (head_at x0 x1 _ 1 _ 1024 128 rfl (by decide) R c (by decide) fun r d C hC => ?_) ?_
  · obtain ⟨C, hlt⟩ := C
    dsimp only at hC
    subst hC
    pointwise [bprod, k0_pay5, k0_pay3, k0_pay1]
  refine View.allAt_cons _ _ _ (head_at x0 x1 _ 0 _ 1024 0 rfl (by decide) R c (by decide) fun r d C hC => ?_) ?_
  · obtain ⟨C, hlt⟩ := C
    dsimp only at hC
    subst hC
    pointwise [bprod, k0_pay4, k0_pay3, k0_pay1]
  exact View.allAt_nil _ _

theorem out4_at (R : Fin 2048) (c : Fin 128) : out4 (F := Ideal) x0 x1 (ix2 R c)
    = bprod x0 x1 ⟨R.val / 8, by omega⟩ ⟨2048 + (R.val % 8 * 128 + c.val), by omega⟩ := by
  unfold out4
  refine View.canon_eq_of_allAt _ _ _ (cover_rows _ _ _ _ _ _ _ _ _) ?_
  refine View.allAt_cons _ _ _ (head_at x0 x1 _ 7 _ 2048 896 rfl (by decide) R c (by decide) fun r d C hC => ?_) ?_
  · obtain ⟨C, hlt⟩ := C
    dsimp only at hC
    subst hC
    pointwise [bprod, k0_pay20, k0_pay12, k0_pay1]
  refine View.allAt_cons _ _ _ (head_at x0 x1 _ 6 _ 2048 768 rfl (by decide) R c (by decide) fun r d C hC => ?_) ?_
  · obtain ⟨C, hlt⟩ := C
    dsimp only at hC
    subst hC
    pointwise [bprod, k0_pay19, k0_pay12, k0_pay1]
  refine View.allAt_cons _ _ _ (head_at x0 x1 _ 5 _ 2048 640 rfl (by decide) R c (by decide) fun r d C hC => ?_) ?_
  · obtain ⟨C, hlt⟩ := C
    dsimp only at hC
    subst hC
    pointwise [bprod, k0_pay18, k0_pay12, k0_pay1]
  refine View.allAt_cons _ _ _ (head_at x0 x1 _ 4 _ 2048 512 rfl (by decide) R c (by decide) fun r d C hC => ?_) ?_
  · obtain ⟨C, hlt⟩ := C
    dsimp only at hC
    subst hC
    pointwise [bprod, k0_pay17, k0_pay12, k0_pay1]
  refine View.allAt_cons _ _ _ (head_at x0 x1 _ 3 _ 2048 384 rfl (by decide) R c (by decide) fun r d C hC => ?_) ?_
  · obtain ⟨C, hlt⟩ := C
    dsimp only at hC
    subst hC
    pointwise [bprod, k0_pay16, k0_pay12, k0_pay1]
  refine View.allAt_cons _ _ _ (head_at x0 x1 _ 2 _ 2048 256 rfl (by decide) R c (by decide) fun r d C hC => ?_) ?_
  · obtain ⟨C, hlt⟩ := C
    dsimp only at hC
    subst hC
    pointwise [bprod, k0_pay15, k0_pay12, k0_pay1]
  refine View.allAt_cons _ _ _ (head_at x0 x1 _ 1 _ 2048 128 rfl (by decide) R c (by decide) fun r d C hC => ?_) ?_
  · obtain ⟨C, hlt⟩ := C
    dsimp only at hC
    subst hC
    pointwise [bprod, k0_pay14, k0_pay12, k0_pay1]
  refine View.allAt_cons _ _ _ (head_at x0 x1 _ 0 _ 2048 0 rfl (by decide) R c (by decide) fun r d C hC => ?_) ?_
  · obtain ⟨C, hlt⟩ := C
    dsimp only at hC
    subst hC
    pointwise [bprod, k0_pay13, k0_pay12, k0_pay1]
  exact View.allAt_nil _ _

end Cert.ProjSIdeal.Pure

end
-- ==== Proof.ProjSValue.lean ====
/- Hand-written, untrusted: the arrays the sample group's input projection leaves are the reference's. -/
module

public import proofs.«01_k».proof.Proof.ProjSPure
public import Idealize.ShloMosaic.Lib.Claim

set_option maxRecDepth 16384

@[expose] public section

noncomputable section

open Idealize.ShloMosaic Idealize.ShloMosaic.TcCoe Idealize.SL.Sem
open Idealize.ShloMosaic.Pipeline (Dat)

namespace Cert.ProjSIdeal.Hand

open Cert.ProjSIdeal Cert.ProjSIdeal.Gen Cert.ProjSIdeal.Pure Cert.ProjSRefIdeal.Pure

variable (m : (ℓ : Loc nD τ sig) → Buf (Elt Ideal) ℓ)

/-- The two inputs' block indices at every grid point. -/
theorem idx_val : ∀ t : Fin cfg0.N, win0_0.index t = ![t.val, 0] ∧ win0_1.index t = ![0, 0]
    ∧ win0_2.index t = ![t.val, 0] ∧ win0_3.index t = ![t.val, 0] ∧ win0_4.index t = ![t.val, 0]
    ∧ win0_5.index t = ![t.val, 0] :=
  (by decide +kernel : ∀ t : Fin grid0.N, _)

theorem blk0 (c : Dev nD) (t : Fin cfg0.N) (r : Fin 256) (e : Fin 2048) (i : Fin 32) (j : Fin 8)
    (hi : i.val = (256 * t.val + r.val) / 8) (hj : j.val = (256 * t.val + r.val) % 8) :
    (show FVec Ideal S256x2048 .f32 from iblk m c 0 t) (ix2 r e) = (m ((c : Thread nD τ).loc main_arg0)) (ix3 i j e) := by
  blk_simp [iblk, idx_val t]
  entry_read
  pointwise
  blk_ext [idx_val t]

theorem blk1 (c : Dev nD) (t : Fin cfg0.N) (k : Fin 2048) (e : Fin 4096) :
    (show FVec Ideal S2048x4096 .bf16 from iblk m c 1 t) (ix2 k e) = (m ((c : Thread nD τ).loc main_arg1)) (ix3 0 k e) := by
  blk_simp [iblk, idx_val t]
  entry_read
  pointwise
  blk_ext [idx_val t]

/-- A point's products are the whole arrays' at its rows. -/
theorem point (c : Dev nD) (t : Fin cfg0.N) (r : Fin 256) (C C' : Fin 4096) (i : Fin 32) (j : Fin 8)
    (hi : i.val = (256 * t.val + r.val) / 8) (hj : j.val = (256 * t.val + r.val) % 8) (hC : C'.val = C.val) :
    bprod (show FVec Ideal S256x2048 .f32 from iblk m c 0 t) (show FVec Ideal S2048x4096 .bf16 from iblk m c 1 t) r C
      = prod (m ((c : Thread nD τ).loc main_arg0)) (m ((c : Thread nD τ).loc main_arg1)) i j C' := by
  obtain rfl : C' = C := Fin.ext hC
  exact Finset.sum_congr rfl fun k _ => congrArg₂ (· * ·) (blk0 m c t r k i j hi hj) (blk1 m c t k C')

theorem emb2 (t : Fin cfg0.N) (y : S256x1024.Idx) : ∃ R : Fin 256, R.val = 256 * t.val + (y 0).val
    ∧ (win0_2.blk t).view.emb y = (ix2 R (y 1 : Fin 1024) : S256x1024.Idx) := by
  have e0 : ((win0_2.blk t).view.emb y 0).val = t.val * 256 + (y 0).val := by blk_simp [idx_val t]
  have e1 : ((win0_2.blk t).view.emb y 1).val = (y 1).val := by blk_simp [idx_val t]
  refine ⟨(win0_2.blk t).view.emb y 0, by rw [e0]; omega, ?_⟩
  exact (eq_ix2 ((win0_2.blk t).view.emb y)).trans ((ix2_inj ..).2 ⟨rfl, Fin.ext e1⟩)

theorem emb3 (t : Fin cfg0.N) (y : S2048x128.Idx) : ∃ R : Fin 2048, R.val = 2048 * t.val + (y 0).val
    ∧ (win0_3.blk t).view.emb y = (ix2 R (y 1 : Fin 128) : S2048x128.Idx) := by
  have e0 : ((win0_3.blk t).view.emb y 0).val = t.val * 2048 + (y 0).val := by blk_simp [idx_val t]
  have e1 : ((win0_3.blk t).view.emb y 1).val = (y 1).val := by blk_simp [idx_val t]
  refine ⟨(win0_3.blk t).view.emb y 0, by rw [e0]; omega, ?_⟩
  exact (eq_ix2 ((win0_3.blk t).view.emb y)).trans ((ix2_inj ..).2 ⟨rfl, Fin.ext e1⟩)

theorem emb4 (t : Fin cfg0.N) (y : S2048x128.Idx) : ∃ R : Fin 2048, R.val = 2048 * t.val + (y 0).val
    ∧ (win0_4.blk t).view.emb y = (ix2 R (y 1 : Fin 128) : S2048x128.Idx) := by
  have e0 : ((win0_4.blk t).view.emb y 0).val = t.val * 2048 + (y 0).val := by blk_simp [idx_val t]
  have e1 : ((win0_4.blk t).view.emb y 1).val = (y 1).val := by blk_simp [idx_val t]
  refine ⟨(win0_4.blk t).view.emb y 0, by rw [e0]; omega, ?_⟩
  exact (eq_ix2 ((win0_4.blk t).view.emb y)).trans ((ix2_inj ..).2 ⟨rfl, Fin.ext e1⟩)

theorem emb5 (t : Fin cfg0.N) (y : S256x1024.Idx) : ∃ R : Fin 256, R.val = 256 * t.val + (y 0).val
    ∧ (win0_5.blk t).view.emb y = (ix2 R (y 1 : Fin 1024) : S256x1024.Idx) := by
  have e0 : ((win0_5.blk t).view.emb y 0).val = t.val * 256 + (y 0).val := by blk_simp [idx_val t]
  have e1 : ((win0_5.blk t).view.emb y 1).val = (y 1).val := by blk_simp [idx_val t]
  refine ⟨(win0_5.blk t).view.emb y 0, by rw [e0]; omega, ?_⟩
  exact (eq_ix2 ((win0_5.blk t).view.emb y)).trans ((ix2_inj ..).2 ⟨rfl, Fin.ext e1⟩)

open Cert.ProjSRefIdeal.Read

/-- The queries. -/
theorem final2 (c : Dev nD) : (dats m 0 c).arrAt 2 (cfgs 0).N
    = val_main_v8 (F := Ideal) (m ((c : Thread nD τ).loc main_arg0)) (m ((c : Thread nD τ).loc main_arg1)) := by
  refine (dats m 0 c).arrAt_eq_of_covers 2 _ (by decide +kernel) fun t hf y => ?_
  obtain ⟨R, hR, he⟩ := emb2 t y
  have ht : t.val < 1 := t.isLt
  have h0 : (y 0).val < 256 := (y 0).isLt
  blk_simp
  rw [after2, he]
  have e : y = (ix2 (y 0 : Fin 256) (y 1 : Fin 1024) : S256x1024.Idx) := eq_ix2 y
  refine (congrArg (out2 (F := Ideal) (iblk m c 0 t) (iblk m c 1 t)) e).trans ((out2_at _ _ _ _).trans (Eq.trans ?_ (ref_q _ _ R _).symm))
  exact congrArg (· * Ideal.ofBits FTy.f32 0x3E38AA3B#32) (point m c t _ _ _ _ _ (show R.val / 8 = (256 * t.val + (y 0).val) / 8 by omega)
    (show R.val % 8 = (256 * t.val + (y 0).val) % 8 by omega) rfl)

/-- The keys by head. -/
theorem final3 (c : Dev nD) : (dats m 0 c).arrAt 3 (cfgs 0).N
    = val_main_v9 (F := Ideal) (m ((c : Thread nD τ).loc main_arg0)) (m ((c : Thread nD τ).loc main_arg1)) := by
  refine (dats m 0 c).arrAt_eq_of_covers 3 _ (by decide +kernel) fun t hf y => ?_
  obtain ⟨R, hR, he⟩ := emb3 t y
  have ht : t.val < 1 := t.isLt
  have h0 : (y 0).val < 2048 := (y 0).isLt
  blk_simp
  rw [after3, he]
  have e : y = (ix2 (y 0 : Fin 2048) (y 1 : Fin 128) : S2048x128.Idx) := eq_ix2 y
  refine (congrArg (out3 (F := Ideal) (iblk m c 0 t) (iblk m c 1 t)) e).trans ((out3_at _ _ _ _).trans (Eq.trans ?_ (ref_k _ _ R _).symm))
  exact point m c t _ _ _ _ _ (show R.val / 64 = (256 * t.val + (y 0).val / 8) / 8 by omega)
    (show R.val / 8 % 8 = (256 * t.val + (y 0).val / 8) % 8 by omega)
    (show 1024 + (R.val % 8 * 128 + (y 1).val) = 1024 + ((y 0).val % 8 * 128 + (y 1).val) by omega)

/-- The values by head. -/
theorem final4 (c : Dev nD) : (dats m 0 c).arrAt 4 (cfgs 0).N
    = val_main_v10 (F := Ideal) (m ((c : Thread nD τ).loc main_arg0)) (m ((c : Thread nD τ).loc main_arg1)) := by
  refine (dats m 0 c).arrAt_eq_of_covers 4 _ (by decide +kernel) fun t hf y => ?_
  obtain ⟨R, hR, he⟩ := emb4 t y
  have ht : t.val < 1 := t.isLt
  have h0 : (y 0).val < 2048 := (y 0).isLt
  blk_simp
  rw [after4, he]
  have e : y = (ix2 (y 0 : Fin 2048) (y 1 : Fin 128) : S2048x128.Idx) := eq_ix2 y
  refine (congrArg (out4 (F := Ideal) (iblk m c 0 t) (iblk m c 1 t)) e).trans ((out4_at _ _ _ _).trans (Eq.trans ?_ (ref_v _ _ R _).symm))
  exact point m c t _ _ _ _ _ (show R.val / 64 = (256 * t.val + (y 0).val / 8) / 8 by omega)
    (show R.val / 8 % 8 = (256 * t.val + (y 0).val / 8) % 8 by omega)
    (show 2048 + (R.val % 8 * 128 + (y 1).val) = 2048 + ((y 0).val % 8 * 128 + (y 1).val) by omega)

/-- The state space's input. -/
theorem final5 (c : Dev nD) : (dats m 0 c).arrAt 5 (cfgs 0).N
    = val_main_v11 (F := Ideal) (m ((c : Thread nD τ).loc main_arg0)) (m ((c : Thread nD τ).loc main_arg1)) := by
  refine (dats m 0 c).arrAt_eq_of_covers 5 _ (by decide +kernel) fun t hf y => ?_
  obtain ⟨R, hR, he⟩ := emb5 t y
  have ht : t.val < 1 := t.isLt
  have h0 : (y 0).val < 256 := (y 0).isLt
  blk_simp
  rw [after5, he]
  have e : y = (ix2 (y 0 : Fin 256) (y 1 : Fin 1024) : S256x1024.Idx) := eq_ix2 y
  refine (congrArg (out5 (F := Ideal) (iblk m c 0 t) (iblk m c 1 t)) e).trans ((out5_at _ _ _ _).trans (Eq.trans ?_ (ref_u _ _ R _).symm))
  exact point m c t _ _ _ _ _ (show R.val / 8 = (256 * t.val + (y 0).val) / 8 by omega)
    (show R.val % 8 = (256 * t.val + (y 0).val) % 8 by omega) rfl

end Cert.ProjSIdeal.Hand

end
-- ==== Proof.ProjSRun.lean ====
/- Hand-written, untrusted: the run of the reference of the sample group's input projection, with its results named. -/
module

public import proofs.«01_k».proof.Proof.Gen.ProjSRefIdeal.Read

set_option maxRecDepth 16384

@[expose] public section

noncomputable section

open Idealize.ShloMosaic Idealize.ShloMosaic.TcCoe Idealize.SL.Sem

namespace Cert.ProjSRefIdeal.Hand

open Cert.ProjSRefIdeal Cert.ProjSRefIdeal.Gen Cert.ProjSRefIdeal.Read

/-- The reference's run ends with its four results and its arguments as they were. -/
theorem run_named (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v8) = val_main_v8 (F := Ideal) (m ((c.tc : Thread nD τ).loc main_arg0)) (m ((c.tc : Thread nD τ).loc main_arg1))
      ∧ r.2.mem ((c.tc : Thread nD τ).loc main_v9) = val_main_v9 (F := Ideal) (m ((c.tc : Thread nD τ).loc main_arg0)) (m ((c.tc : Thread nD τ).loc main_arg1))
      ∧ r.2.mem ((c.tc : Thread nD τ).loc main_v10) = val_main_v10 (F := Ideal) (m ((c.tc : Thread nD τ).loc main_arg0)) (m ((c.tc : Thread nD τ).loc main_arg1))
      ∧ r.2.mem ((c.tc : Thread nD τ).loc main_v11) = val_main_v11 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (val_main_v8_eq _ _),
    (h c).2.1.trans (val_main_v9_eq _ _),
    (h c).2.2.1.trans (val_main_v10_eq _ _),
    (h c).2.2.2.1.trans (val_main_v11_eq _ _), (h c).2.2.2.2⟩)
    (Cert.ProjSRefIdeal.Value.run (F := Ideal) m g)

end Cert.ProjSRefIdeal.Hand

end
-- ==== Proof.PrepPure.lean ====
/- Hand-written, untrusted: the discretisation kernel's block and its reference, entry by entry. -/
module

public import proofs.«01_k».proof.Proof.Gen.PrepIdeal.Frame
public import proofs.«01_k».proof.Proof.Gen.PrepIdeal.Points
public import proofs.«01_k».proof.Proof.Gen.PrepRefIdeal.Read
public import Idealize.ShloMosaic.Lib.Claim
public import Idealize.ShloMosaic.Lib.Pointwise
public import Idealize.ShloMosaic.Lib.Pipeline.ValueKit

set_option maxRecDepth 16384

@[expose] public section

noncomputable section

open Idealize.ShloMosaic Idealize.ShloMosaic.TcCoe Idealize.SL.Sem

namespace Cert.PrepMath

/-- The real part of a pole, kept below a small negative number. -/
def lre (a : Ideal .f32) : Ideal .f32 := FloatOps.minimumf (F := Ideal) a (FloatOps.ofBits (F := Ideal) .f32 0xB8D1B717#32)
/-- The pole times the step, real and imaginary part. -/
def zre (a d : Ideal .f32) : Ideal .f32 := FloatOps.mulf (F := Ideal) (lre a) (FloatOps.exp (F := Ideal) d)
def zim (b d : Ideal .f32) : Ideal .f32 := FloatOps.mulf (F := Ideal) b (FloatOps.exp (F := Ideal) d)
/-- The exponential of that, less one: real part. -/
def nre (a b d : Ideal .f32) : Ideal .f32 :=
  FloatOps.subf (F := Ideal) (FloatOps.mulf (F := Ideal) (FloatOps.exp (F := Ideal) (zre a d)) (FloatOps.cos (F := Ideal) (zim b d)))
    (FloatOps.ofBits (F := Ideal) .f32 0x3F800000#32)
def aim (a b d : Ideal .f32) : Ideal .f32 :=
  FloatOps.mulf (F := Ideal) (FloatOps.exp (F := Ideal) (zre a d)) (FloatOps.sin (F := Ideal) (zim b d))
def den (a b : Ideal .f32) : Ideal .f32 :=
  FloatOps.addf (F := Ideal) (FloatOps.mulf (F := Ideal) (lre a) (lre a)) (FloatOps.mulf (F := Ideal) b b)
/-- The factor of the input matrix, real and imaginary part. -/
def fre (a b d : Ideal .f32) : Ideal .f32 :=
  FloatOps.divf (F := Ideal) (FloatOps.addf (F := Ideal) (FloatOps.mulf (F := Ideal) (nre a b d) (lre a)) (FloatOps.mulf (F := Ideal) (aim a b d) b)) (den a b)
def fim (a b d : Ideal .f32) : Ideal .f32 :=
  FloatOps.divf (F := Ideal) (FloatOps.subf (F := Ideal) (FloatOps.mulf (F := Ideal) (aim a b d) (lre a)) (FloatOps.mulf (F := Ideal) (nre a b d) b)) (den a b)
/-- The number of steps a row of the powers takes. -/
def stp (k : ℕ) : Ideal .f32 := FloatOps.sitofp (F := Ideal) .f32 (IntOp.addi (BitVec.ofNat 32 k) 1#32)
def pre (k : ℕ) (a b d : Ideal .f32) : Ideal .f32 :=
  FloatOps.mulf (F := Ideal) (FloatOps.exp (F := Ideal) (FloatOps.mulf (F := Ideal) (zre a d) (stp k))) (FloatOps.cos (F := Ideal) (FloatOps.mulf (F := Ideal) (zim b d) (stp k)))
def pim (k : ℕ) (a b d : Ideal .f32) : Ideal .f32 :=
  FloatOps.mulf (F := Ideal) (FloatOps.exp (F := Ideal) (FloatOps.mulf (F := Ideal) (zre a d) (stp k))) (FloatOps.sin (F := Ideal) (FloatOps.mulf (F := Ideal) (zim b d) (stp k)))

end Cert.PrepMath

namespace Cert.PrepIdeal.Pure

open Cert.PrepIdeal Cert.PrepIdeal.Gen Cert.PrepMath

theorem pay14_at (u v w : FVec Ideal S1x4096 .f32) (C : Fin 4096) :
    (k0_pay14 (F := Ideal) u v w (ix2 0 C) : EReal) = fre (u (ix2 0 C)) (v (ix2 0 C)) (w (ix2 0 C)) := by
  pointwise [k0_pay14, k0_pay13, k0_pay12, k0_pay11, k0_pay10, k0_pay9, k0_pay8, k0_pay7, k0_pay6, k0_pay5, fre, den, aim, nre, zim, zre, lre]

theorem pay15_at (u v w : FVec Ideal S1x4096 .f32) (C : Fin 4096) :
    (k0_pay15 (F := Ideal) u v w (ix2 0 C) : EReal) = fim (u (ix2 0 C)) (v (ix2 0 C)) (w (ix2 0 C)) := by
  pointwise [k0_pay15, k0_pay13, k0_pay12, k0_pay11, k0_pay10, k0_pay9, k0_pay8, k0_pay7, k0_pay6, k0_pay5, fim, den, aim, nre, zim, zre, lre]

theorem pay18_at (u v w : FVec Ideal S1x4096 .f32) (k : Fin 32) (C : Fin 4096) :
    (k0_pay18 (F := Ideal) u v w (ix2 k C) : EReal) = pre k.val (u (ix2 0 C)) (v (ix2 0 C)) (w (ix2 0 C)) := by
  pointwise [k0_pay18, k0_pay17, k0_pay16, k0_pay9, k0_pay8, k0_pay7, k0_pay6, k0_pay5, pre, stp, zim, zre, lre]

theorem pay19_at (u v w : FVec Ideal S1x4096 .f32) (k : Fin 32) (C : Fin 4096) :
    (k0_pay19 (F := Ideal) u v w (ix2 k C) : EReal) = pim k.val (u (ix2 0 C)) (v (ix2 0 C)) (w (ix2 0 C)) := by
  pointwise [k0_pay19, k0_pay17, k0_pay16, k0_pay9, k0_pay8, k0_pay7, k0_pay6, k0_pay5, pim, stp, zim, zre, lre]

theorem q7_0 (f g : FVec Ideal S1x4096 .f32) (u w : FVec Ideal S1x256x1024 .f32) (r : Fin 256) (d : Fin 1024) (C : Fin 4096) (hC : C.val = 0 + d.val) :
    (k0_pay24 (F := Ideal) f g u w (ix3 0 r d) : EReal) = f (ix2 0 C) * u (ix3 0 r d) - g (ix2 0 C) * w (ix3 0 r d) := by
  obtain rfl : C = ⟨0 + d.val, by clear hC; omega⟩ := Fin.ext hC
  pointwise [k0_pay24, k0_pay20, k0_pay21, k0_pay22, k0_pay23]

theorem q7_1 (f g : FVec Ideal S1x4096 .f32) (u w : FVec Ideal S1x256x1024 .f32) (r : Fin 256) (d : Fin 1024) (C : Fin 4096) (hC : C.val = 1024 + d.val) :
    (k0_pay31 (F := Ideal) (k0_pay30 f g u w) (ix3 0 r d) : EReal) = f (ix2 0 C) * u (ix3 0 r d) - g (ix2 0 C) * w (ix3 0 r d) := by
  obtain rfl : C = ⟨1024 + d.val, by clear hC; omega⟩ := Fin.ext hC
  pointwise [k0_pay31, k0_pay30, k0_pay26, k0_pay27, k0_pay28, k0_pay29]

theorem q7_2 (f g : FVec Ideal S1x4096 .f32) (u w : FVec Ideal S1x256x1024 .f32) (r : Fin 256) (d : Fin 1024) (C : Fin 4096) (hC : C.val = 2048 + d.val) :
    (k0_pay37 (F := Ideal) f g u w (ix3 0 r d) : EReal) = f (ix2 0 C) * u (ix3 0 r d) - g (ix2 0 C) * w (ix3 0 r d) := by
  obtain rfl : C = ⟨2048 + d.val, by clear hC; omega⟩ := Fin.ext hC
  pointwise [k0_pay37, k0_pay33, k0_pay34, k0_pay35, k0_pay36]

theorem q7_3 (f g : FVec Ideal S1x4096 .f32) (u w : FVec Ideal S1x256x1024 .f32) (r : Fin 256) (d : Fin 1024) (C : Fin 4096) (hC : C.val = 3072 + d.val) :
    (k0_pay3 (F := Ideal) (k0_pay39 f) (k0_pay40 g) u w (ix3 0 r d) : EReal) = f (ix2 0 C) * u (ix3 0 r d) - g (ix2 0 C) * w (ix3 0 r d) := by
  obtain rfl : C = ⟨3072 + d.val, by clear hC; omega⟩ := Fin.ext hC
  pointwise [k0_pay3, k0_pay39, k0_pay40, k0_pay1, k0_pay2]

theorem q8_0 (f g : FVec Ideal S1x4096 .f32) (u w : FVec Ideal S1x256x1024 .f32) (r : Fin 256) (d : Fin 1024) (C : Fin 4096) (hC : C.val = 0 + d.val) :
    (k0_pay25 (F := Ideal) f g u w (ix3 0 r d) : EReal) = f (ix2 0 C) * w (ix3 0 r d) + g (ix2 0 C) * u (ix3 0 r d) := by
  obtain rfl : C = ⟨0 + d.val, by clear hC; omega⟩ := Fin.ext hC
  pointwise [k0_pay25, k0_pay20, k0_pay21, k0_pay22, k0_pay23]

theorem q8_1 (f g : FVec Ideal S1x4096 .f32) (u w : FVec Ideal S1x256x1024 .f32) (r : Fin 256) (d : Fin 1024) (C : Fin 4096) (hC : C.val = 1024 + d.val) :
    (k0_pay32 (F := Ideal) (k0_pay26 f) (k0_pay27 g) (k0_pay28 u) (k0_pay29 w) (ix3 0 r d) : EReal) = f (ix2 0 C) * w (ix3 0 r d) + g (ix2 0 C) * u (ix3 0 r d) := by
  obtain rfl : C = ⟨1024 + d.val, by clear hC; omega⟩ := Fin.ext hC
  pointwise [k0_pay32, k0_pay26, k0_pay27, k0_pay28, k0_pay29]

theorem q8_2 (f g : FVec Ideal S1x4096 .f32) (u w : FVec Ideal S1x256x1024 .f32) (r : Fin 256) (d : Fin 1024) (C : Fin 4096) (hC : C.val = 2048 + d.val) :
    (k0_pay38 (F := Ideal) f g u w (ix3 0 r d) : EReal) = f (ix2 0 C) * w (ix3 0 r d) + g (ix2 0 C) * u (ix3 0 r d) := by
  obtain rfl : C = ⟨2048 + d.val, by clear hC; omega⟩ := Fin.ext hC
  pointwise [k0_pay38, k0_pay33, k0_pay34, k0_pay35, k0_pay36]

theorem q8_3 (f g : FVec Ideal S1x4096 .f32) (u w : FVec Ideal S1x256x1024 .f32) (r : Fin 256) (d : Fin 1024) (C : Fin 4096) (hC : C.val = 3072 + d.val) :
    (k0_pay4 (F := Ideal) (k0_pay39 f) (k0_pay40 g) u w (ix3 0 r d) : EReal) = f (ix2 0 C) * w (ix3 0 r d) + g (ix2 0 C) * u (ix3 0 r d) := by
  obtain rfl : C = ⟨3072 + d.val, by clear hC; omega⟩ := Fin.ext hC
  pointwise [k0_pay4, k0_pay39, k0_pay40, k0_pay1, k0_pay2]

theorem store_at {s : Shape} {e : EltTy} (R : Rect s) (w : R.shape.Idx → Elt Ideal e) (L : List (View.Piece (Elt Ideal) s e))
    (x : R.shape.Idx) (y : s.Idx) (h : R.emb x = y) : View.canon ((⟨R, w⟩ : View.Piece (Elt Ideal) s e) :: L) y = w x := by
  rw [← h]
  exact View.canon_cons_emb R w L x

/-- A stored tile, read at one of its entries. -/
theorem tile_at {o : ℕ} {l : Fin 4} {r : Fin 256} {d : Fin 1024} {inb} {w : FVec Ideal S1x256x1024 .bf16} {L : List (View.Piece (Elt Ideal) S4x256x1024 .bf16)} {y : EReal}
    (h : o = l.val) (hw : w (ix3 0 r d) = y) :
    View.canon ((⟨Rect.unit ![o, 0, 0] S1x256x1024.size inb, w⟩ : View.Piece (Elt Ideal) S4x256x1024 .bf16) :: L) (ix3 l r d) = y := by
  subst h
  refine Eq.trans ?_ hw
  apply store_at
  funext a
  apply Fin.ext
  rw [ValueKit.rect_emb_unit_val]
  fin_cases a <;> simp [ix3]

theorem tile_miss {o : ℕ} {l : Fin 4} {r : Fin 256} {d : Fin 1024} {inb} {w : FVec Ideal S1x256x1024 .bf16} {L : List (View.Piece (Elt Ideal) S4x256x1024 .bf16)} {y : EReal}
    (h : o ≠ l.val) (hL : View.canon L (ix3 l r d) = y) :
    View.canon ((⟨Rect.unit ![o, 0, 0] S1x256x1024.size inb, w⟩ : View.Piece (Elt Ideal) S4x256x1024 .bf16) :: L) (ix3 l r d) = y := by
  refine Eq.trans (b := View.canon L (ix3 l r d)) ?_ hL
  apply View.canon_cons_of_not_mem
  intro hm
  obtain ⟨x, hx⟩ := (Rect.unit ![o, 0, 0] S1x256x1024.size inb : Rect S4x256x1024).exists_idx_of_mem hm
  have hb : (x 0).val < 1 := (x 0).isLt
  have e := congrArg (fun i => (i 0).val) hx
  simp only [ValueKit.rect_emb_unit_val] at e
  simp [ix3] at e
  omega

/-- A loaded tile, read at one of its entries. -/
theorem ld_at {o : ℕ} (l : Fin 4) (h : o = l.val) (r : Fin 256) (d : Fin 1024) (inb) (x : FVec Ideal S4x256x1024 .f32) :
    ((View.ld (Val := Elt Ideal) (e' := .f32) x (Rect.unit (s := S4x256x1024) ![o, 0, 0] S1x256x1024.size inb) : FVec Ideal S1x256x1024 .f32) (ix3 0 r d) : EReal) = x (ix3 l r d) := by
  subst h
  show x ((Rect.unit ![l.val, 0, 0] S1x256x1024.size inb : Rect S4x256x1024).emb (ix3 0 r d)) = _
  refine congrArg x ?_
  funext a
  apply Fin.ext
  rw [ValueKit.rect_emb_unit_val]
  fin_cases a <;> simp [ix3]

theorem row_at (x : FVec Ideal S1x4096 .f32) (C : Fin 4096) : ((View.ld (Val := Elt Ideal) (e' := .f32) x r0_0 : FVec Ideal S1x4096 .f32) (ix2 0 C) : EReal) = x (ix2 0 C) := by
  show x (r0_0.emb (ix2 0 C)) = _
  refine congrArg x ?_
  funext a
  apply Fin.ext
  rw [ValueKit.rect_emb_unit_val]
  fin_cases a <;> simp [ix2]

variable (x0 x1 x2 : FVec Ideal S1x4096 .f32) (x3 x4 : FVec Ideal S4x256x1024 .f32)

theorem f41_at (C : Fin 4096) : (k0_pay41 (F := Ideal) x0 x1 x2 x3 x4 (ix2 0 C) : EReal) = fre (x0 (ix2 0 C)) (x1 (ix2 0 C)) (x2 (ix2 0 C)) := by
  unfold k0_pay41
  rw [pay14_at, row_at, row_at, row_at]

theorem f42_at (C : Fin 4096) : (k0_pay42 (F := Ideal) x0 x1 x2 x3 x4 (ix2 0 C) : EReal) = fim (x0 (ix2 0 C)) (x1 (ix2 0 C)) (x2 (ix2 0 C)) := by
  unfold k0_pay42
  rw [pay15_at, row_at, row_at, row_at]

theorem out5_at (k : Fin 32) (C : Fin 4096) :
    (out0_5 (F := Ideal) x0 x1 x2 x3 x4 (ix2 k C) : EReal) = pre k.val (x0 (ix2 0 C)) (x1 (ix2 0 C)) (x2 (ix2 0 C)) := by
  unfold out0_5
  have e : r0_1.emb (ix2 k C) = ix2 k C := by
    funext a
    apply Fin.ext
    rw [ValueKit.rect_emb_unit_val]
    fin_cases a <;> simp [ix2]
  refine Eq.trans (store_at r0_1 _ [] _ _ e) ?_
  rw [pay18_at, row_at, row_at, row_at]

theorem out6_at (k : Fin 32) (C : Fin 4096) :
    (out0_6 (F := Ideal) x0 x1 x2 x3 x4 (ix2 k C) : EReal) = pim k.val (x0 (ix2 0 C)) (x1 (ix2 0 C)) (x2 (ix2 0 C)) := by
  unfold out0_6
  have e : r0_1.emb (ix2 k C) = ix2 k C := by
    funext a
    apply Fin.ext
    rw [ValueKit.rect_emb_unit_val]
    fin_cases a <;> simp [ix2]
  refine Eq.trans (store_at r0_1 _ [] _ _ e) ?_
  rw [pay19_at, row_at, row_at, row_at]

theorem out7_at (l : Fin 4) (r : Fin 256) (d : Fin 1024) (C : Fin 4096) (hC : C.val = 1024 * l.val + d.val) :
    (out0_7 (F := Ideal) x0 x1 x2 x3 x4 (ix3 l r d) : EReal)
      = (fre (x0 (ix2 0 C)) (x1 (ix2 0 C)) (x2 (ix2 0 C)) : EReal) * x3 (ix3 l r d) - (fim (x0 (ix2 0 C)) (x1 (ix2 0 C)) (x2 (ix2 0 C)) : EReal) * x4 (ix3 l r d) := by
  unfold out0_7 k0_pay44 k0_pay43
  fin_cases l
  · refine tile_miss (o := 3) (by decide) ?_
    refine tile_miss (o := 2) (by decide) ?_
    refine tile_miss (o := 1) (by decide) ?_
    refine tile_at (o := 0) rfl ((q7_0 _ _ _ _ r d C hC).trans ?_)
    exact congrArg₂ (· - ·) (congrArg₂ (· * ·) (f41_at x0 x1 x2 x3 x4 C) (ld_at 0 rfl r d _ x3)) (congrArg₂ (· * ·) (f42_at x0 x1 x2 x3 x4 C) (ld_at 0 rfl r d _ x4))
  · refine tile_miss (o := 3) (by decide) ?_
    refine tile_miss (o := 2) (by decide) ?_
    refine tile_at (o := 1) rfl ((q7_1 _ _ _ _ r d C hC).trans ?_)
    exact congrArg₂ (· - ·) (congrArg₂ (· * ·) (f41_at x0 x1 x2 x3 x4 C) (ld_at 1 rfl r d _ x3)) (congrArg₂ (· * ·) (f42_at x0 x1 x2 x3 x4 C) (ld_at 1 rfl r d _ x4))
  · refine tile_miss (o := 3) (by decide) ?_
    refine tile_at (o := 2) rfl ((q7_2 _ _ _ _ r d C hC).trans ?_)
    exact congrArg₂ (· - ·) (congrArg₂ (· * ·) (f41_at x0 x1 x2 x3 x4 C) (ld_at 2 rfl r d _ x3)) (congrArg₂ (· * ·) (f42_at x0 x1 x2 x3 x4 C) (ld_at 2 rfl r d _ x4))
  · refine tile_at (o := 3) rfl ((q7_3 _ _ _ _ r d C hC).trans ?_)
    exact congrArg₂ (· - ·) (congrArg₂ (· * ·) (f41_at x0 x1 x2 x3 x4 C) (ld_at 3 rfl r d _ x3)) (congrArg₂ (· * ·) (f42_at x0 x1 x2 x3 x4 C) (ld_at 3 rfl r d _ x4))

theorem out8_at (l : Fin 4) (r : Fin 256) (d : Fin 1024) (C : Fin 4096) (hC : C.val = 1024 * l.val + d.val) :
    (out0_8 (F := Ideal) x0 x1 x2 x3 x4 (ix3 l r d) : EReal)
      = (fre (x0 (ix2 0 C)) (x1 (ix2 0 C)) (x2 (ix2 0 C)) : EReal) * x4 (ix3 l r d) + (fim (x0 (ix2 0 C)) (x1 (ix2 0 C)) (x2 (ix2 0 C)) : EReal) * x3 (ix3 l r d) := by
  unfold out0_8 k0_pay44 k0_pay43
  fin_cases l
  · refine tile_miss (o := 3) (by decide) ?_
    refine tile_miss (o := 2) (by decide) ?_
    refine tile_miss (o := 1) (by decide) ?_
    refine tile_at (o := 0) rfl ((q8_0 _ _ _ _ r d C hC).trans ?_)
    exact congrArg₂ (· + ·) (congrArg₂ (· * ·) (f41_at x0 x1 x2 x3 x4 C) (ld_at 0 rfl r d _ x4)) (congrArg₂ (· * ·) (f42_at x0 x1 x2 x3 x4 C) (ld_at 0 rfl r d _ x3))
  · refine tile_miss (o := 3) (by decide) ?_
    refine tile_miss (o := 2) (by decide) ?_
    refine tile_at (o := 1) rfl ((q8_1 _ _ _ _ r d C hC).trans ?_)
    exact congrArg₂ (· + ·) (congrArg₂ (· * ·) (f41_at x0 x1 x2 x3 x4 C) (ld_at 1 rfl r d _ x4)) (congrArg₂ (· * ·) (f42_at x0 x1 x2 x3 x4 C) (ld_at 1 rfl r d _ x3))
  · refine tile_miss (o := 3) (by decide) ?_
    refine tile_at (o := 2) rfl ((q8_2 _ _ _ _ r d C hC).trans ?_)
    exact congrArg₂ (· + ·) (congrArg₂ (· * ·) (f41_at x0 x1 x2 x3 x4 C) (ld_at 2 rfl r d _ x4)) (congrArg₂ (· * ·) (f42_at x0 x1 x2 x3 x4 C) (ld_at 2 rfl r d _ x3))
  · refine tile_at (o := 3) rfl ((q8_3 _ _ _ _ r d C hC).trans ?_)
    exact congrArg₂ (· + ·) (congrArg₂ (· * ·) (f41_at x0 x1 x2 x3 x4 C) (ld_at 3 rfl r d _ x4)) (congrArg₂ (· * ·) (f42_at x0 x1 x2 x3 x4 C) (ld_at 3 rfl r d _ x3))

end Cert.PrepIdeal.Pure

namespace Cert.PrepRefIdeal.Pure

open Cert.PrepRefIdeal Cert.PrepRefIdeal.Gen Cert.PrepRefIdeal.Read Cert.PrepMath

variable (x0 x1 : FVec Ideal S1x64x64 .f32) (x2 : FVec Ideal S1x64 .f32) (x3 x4 : FVec Ideal S1x64x64x16 .f32)

theorem v24_at (g p : Fin 64) : (val_main_v24 (F := Ideal) x0 x1 x2 (ix2 g p) : EReal) = fre (x0 (ix3 0 g p)) (x1 (ix3 0 g p)) (x2 (ix2 0 g)) := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, fre, den, aim, nre, zim, zre, lre, val_main_cst, val_main_cst_0, val_main_c]

theorem v28_at (g p : Fin 64) : (val_main_v28 (F := Ideal) x0 x1 x2 (ix2 g p) : EReal) = fim (x0 (ix3 0 g p)) (x1 (ix3 0 g p)) (x2 (ix2 0 g)) := by
  pointwise [val_main_v28, val_main_v27, val_main_v26, val_main_v25, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, fim, den, aim, nre, zim, zre, lre, val_main_cst, val_main_cst_0, val_main_c]

theorem v71_at (k : Fin 32) (C : Fin 4096) (g p : Fin 64) (hg : g.val = C.val / 64) (hp : p.val = C.val % 64) :
    (val_main_v71 (F := Ideal) x0 x1 x2 (ix2 k C) : EReal) = pre k.val (x0 (ix3 0 g p)) (x1 (ix3 0 g p)) (x2 (ix2 0 g)) := by
  obtain rfl : (⟨C.val / 64, by clear hg hp; omega⟩ : Fin 64) = g := Fin.ext hg.symm
  obtain rfl : (⟨C.val % 64, by clear hp; omega⟩ : Fin 64) = p := Fin.ext hp.symm
  pointwise [val_main_v71, val_main_v61, val_main_v60, val_main_v59, val_main_v58, val_main_v57, val_main_v56, val_main_v55, val_main_v54, val_main_v53, val_main_v52, val_main_v51, val_main_v50, val_main_v49, val_main_v48, val_main_v47, val_main_v10, val_main_v9, val_main_v8, val_main_v7, val_main_v6, val_main_v5, val_main_v4, val_main_v3, val_main_v2, val_main_v1, val_main_v0, pre, stp, zim, zre, lre, val_main_cst, val_main_cst_0, val_main_c]

theorem v72_at (k : Fin 32) (C : Fin 4096) (g p : Fin 64) (hg : g.val = C.val / 64) (hp : p.val = C.val % 64) :
    (val_main_v72 (F := Ideal) x0 x1 x2 (ix2 k C) : EReal) = pim k.val (x0 (ix3 0 g p)) (x1 (ix3 0 g p)) (x2 (ix2 0 g)) := by
  obtain rfl : (⟨C.val / 64, by clear hg hp; omega⟩ : Fin 64) = g := Fin.ext hg.symm
  obtain rfl : (⟨C.val % 64, by clear hp; omega⟩ : Fin 64) = p := Fin.ext hp.symm
  pointwise [val_main_v72, val_main_v67, val_main_v66, val_main_v65, val_main_v64, val_main_v63, val_main_v62, val_main_v55, val_main_v54, val_main_v53, val_main_v52, val_main_v51, val_main_v50, val_main_v49, val_main_v48, val_main_v47, val_main_v10, val_main_v9, val_main_v8, val_main_v7, val_main_v6, val_main_v5, val_main_v4, val_main_v3, val_main_v2, val_main_v1, val_main_v0, pim, stp, zim, zre, lre, val_main_cst, val_main_cst_0, val_main_c]

theorem v37_at (g p : Fin 64) (q : Fin 16) : (val_main_v37 (F := Ideal) x0 x1 x2 x3 x4 (ix3 g p q) : EReal)
    = (fre (x0 (ix3 0 g p)) (x1 (ix3 0 g p)) (x2 (ix2 0 g)) : EReal) * x3 (ix4 0 g p q)
      - (fim (x0 (ix3 0 g p)) (x1 (ix3 0 g p)) (x2 (ix2 0 g)) : EReal) * x4 (ix4 0 g p q) := by
  rw [← v24_at, ← v28_at]
  pointwise [val_main_v37, val_main_v36, val_main_v35, val_main_v34, val_main_v33, val_main_v32, val_main_v31, val_main_v30, val_main_v29]

theorem v46_at (g p : Fin 64) (q : Fin 16) : (val_main_v46 (F := Ideal) x0 x1 x2 x3 x4 (ix3 g p q) : EReal)
    = (fre (x0 (ix3 0 g p)) (x1 (ix3 0 g p)) (x2 (ix2 0 g)) : EReal) * x4 (ix4 0 g p q)
      + (fim (x0 (ix3 0 g p)) (x1 (ix3 0 g p)) (x2 (ix2 0 g)) : EReal) * x3 (ix4 0 g p q) := by
  rw [← v24_at, ← v28_at]
  pointwise [val_main_v46, val_main_v45, val_main_v44, val_main_v43, val_main_v42, val_main_v41, val_main_v40, val_main_v39, val_main_v38]

/-- The mask of the diagonal blocks. -/
theorem sel_at (a b : ℕ) (ha : a < 16) (hb : b < 16) (u v : EReal) :
    (if IntOp.cmpi CmpIPredicate.eq (BitVec.ofNat 32 a) (BitVec.ofNat 32 b) = 1#1 then u else v) = if a = b then u else v := by
  have h : (BitVec.ofNat 32 a = BitVec.ofNat 32 b) ↔ a = b := by
    constructor
    · intro h
      have := congrArg BitVec.toNat h
      simp only [BitVec.toNat_ofNat] at this
      omega
    · rintro rfl; rfl
  by_cases e : a = b
  · subst e
    simp [IntOp.cmpi]
  · have h' : (BitVec.ofNat 32 a == BitVec.ofNat 32 b) = false := by
      rw [beq_eq_false_iff_ne]; exact fun w => e (h.1 w)
    simp [IntOp.cmpi, h', e]

theorem v77_at (l : Fin 4) (r : Fin 256) (d : Fin 1024) :
    (val_main_v77 (F := Ideal) x0 x1 x2 x3 x4 (ix3 l r d) : EReal)
      = if r.val / 16 = d.val / 64 then (val_main_v37 (F := Ideal) x0 x1 x2 x3 x4 (ix3 ⟨l.val * 16 + r.val / 16, by omega⟩ ⟨d.val % 64, by omega⟩ ⟨r.val % 16, by omega⟩) : EReal) else 0 := by
  rw [← sel_at (r.val / 16) (d.val / 64) (by omega) (by omega)]
  pointwise [val_main_v77, val_main_v76, val_main_v75, val_main_v74, val_main_v73, val_main_v70, val_main_v69, val_main_v68, val_main_call0_v2, val_main_call0_v1, val_main_call0_v0, val_main_cst_1]
  unfold Scalar.select
  refine congrArg (fun z : EReal => if _ = 1#1 then _ else z) ?_
  show (Ideal.ofBits FTy.f32 0#32 : EReal) = 0
  pointwise

theorem v82_at (l : Fin 4) (r : Fin 256) (d : Fin 1024) :
    (val_main_v82 (F := Ideal) x0 x1 x2 x3 x4 (ix3 l r d) : EReal)
      = if r.val / 16 = d.val / 64 then (val_main_v46 (F := Ideal) x0 x1 x2 x3 x4 (ix3 ⟨l.val * 16 + r.val / 16, by omega⟩ ⟨d.val % 64, by omega⟩ ⟨r.val % 16, by omega⟩) : EReal) else 0 := by
  rw [← sel_at (r.val / 16) (d.val / 64) (by omega) (by omega)]
  pointwise [val_main_v82, val_main_v81, val_main_v80, val_main_v79, val_main_v78, val_main_v70, val_main_v69, val_main_v68, val_main_call1_v2, val_main_call1_v1, val_main_call1_v0, val_main_cst_2]
  unfold Scalar.select
  refine congrArg (fun z : EReal => if _ = 1#1 then _ else z) ?_
  show (Ideal.ofBits FTy.f32 0#32 : EReal) = 0
  pointwise

end Cert.PrepRefIdeal.Pure

end
-- ==== Proof.PrepValue.lean ====
/- Hand-written, untrusted: the arrays the discretisation leaves are the reference's. -/
module

public import proofs.«01_k».proof.Proof.PrepPure
public import proofs.«01_k».proof.Proof.Gen.PrepIdeal.Value

set_option maxRecDepth 16384

@[expose] public section

noncomputable section

open Idealize.ShloMosaic Idealize.ShloMosaic.TcCoe Idealize.SL.Sem
open Idealize.ShloMosaic.Pipeline (Dat)

namespace Cert.PrepIdeal.Hand

open Cert.PrepIdeal Cert.PrepIdeal.Gen Cert.PrepIdeal.Pure Cert.PrepMath

/-- The discretised input matrix at an entry, from the blocks, is the reference's. -/
theorem point7 (x0 x1 x2 : FVec Ideal S1x4096 .f32) (x3 x4 : FVec Ideal S4x256x1024 .f32) (a0 a1 : FVec Ideal S1x64x64 .f32) (a2 : FVec Ideal S1x64 .f32)
    (a3 a4 : FVec Ideal S1x64x64x16 .f32) (l : Fin 4) (r : Fin 256) (d : Fin 1024)
    (h0 : ∀ (C : Fin 4096) (g p : Fin 64), C.val = g.val * 64 + p.val → x0 (ix2 0 C) = a0 (ix3 0 g p))
    (h1 : ∀ (C : Fin 4096) (g p : Fin 64), C.val = g.val * 64 + p.val → x1 (ix2 0 C) = a1 (ix3 0 g p))
    (h2 : ∀ (C : Fin 4096) (g p : Fin 64), C.val = g.val * 64 + p.val → x2 (ix2 0 C) = a2 (ix2 0 g))
    (h3 : ∀ (g p : Fin 64) (q : Fin 16), g.val = l.val * 16 + r.val / 16 → p.val = d.val % 64 → q.val = r.val % 16 →
      (x3 (ix3 l r d) : EReal) = (a3 (ix4 0 g p q) : EReal) * (if r.val / 16 = d.val / 64 then 1 else 0))
    (h4 : ∀ (g p : Fin 64) (q : Fin 16), g.val = l.val * 16 + r.val / 16 → p.val = d.val % 64 → q.val = r.val % 16 →
      (x4 (ix3 l r d) : EReal) = (a4 (ix4 0 g p q) : EReal) * (if r.val / 16 = d.val / 64 then 1 else 0)) :
    (out0_7 (F := Ideal) x0 x1 x2 x3 x4 (ix3 l r d) : EReal) = Cert.PrepRefIdeal.Read.val_main_v77 (F := Ideal) a0 a1 a2 a3 a4 (ix3 l r d)
    ∧ (out0_8 (F := Ideal) x0 x1 x2 x3 x4 (ix3 l r d) : EReal) = Cert.PrepRefIdeal.Read.val_main_v82 (F := Ideal) a0 a1 a2 a3 a4 (ix3 l r d) := by
  rw [out7_at x0 x1 x2 x3 x4 l r d ⟨1024 * l.val + d.val, by omega⟩ rfl, out8_at x0 x1 x2 x3 x4 l r d ⟨1024 * l.val + d.val, by omega⟩ rfl,
    Cert.PrepRefIdeal.Pure.v77_at, Cert.PrepRefIdeal.Pure.v82_at,
    h3 ⟨l.val * 16 + r.val / 16, by omega⟩ ⟨d.val % 64, by omega⟩ ⟨r.val % 16, by omega⟩ rfl rfl rfl,
    h4 ⟨l.val * 16 + r.val / 16, by omega⟩ ⟨d.val % 64, by omega⟩ ⟨r.val % 16, by omega⟩ rfl rfl rfl]
  by_cases h : r.val / 16 = d.val / 64
  · rw [if_pos h, if_pos h, if_pos h, mul_one, mul_one, Cert.PrepRefIdeal.Pure.v37_at, Cert.PrepRefIdeal.Pure.v46_at,
      h0 _ ⟨l.val * 16 + r.val / 16, by omega⟩ ⟨d.val % 64, by omega⟩ (by show 1024 * l.val + d.val = (l.val * 16 + r.val / 16) * 64 + d.val % 64; omega),
      h1 _ ⟨l.val * 16 + r.val / 16, by omega⟩ ⟨d.val % 64, by omega⟩ (by show 1024 * l.val + d.val = (l.val * 16 + r.val / 16) * 64 + d.val % 64; omega),
      h2 _ ⟨l.val * 16 + r.val / 16, by omega⟩ ⟨d.val % 64, by omega⟩ (by show 1024 * l.val + d.val = (l.val * 16 + r.val / 16) * 64 + d.val % 64; omega)]
    exact ⟨rfl, rfl⟩
  · rw [if_neg h, if_neg h, if_neg h]
    refine ⟨?_, ?_⟩
    · simp only [mul_zero, sub_zero]
    · simp only [mul_zero, add_zero]

/-- The powers at an entry, from the blocks, are the reference's. -/
theorem point5 (x0 x1 x2 : FVec Ideal S1x4096 .f32) (x3 x4 : FVec Ideal S4x256x1024 .f32) (a0 a1 : FVec Ideal S1x64x64 .f32) (a2 : FVec Ideal S1x64 .f32)
    (k : Fin 32) (C : Fin 4096)
    (h0 : ∀ (C : Fin 4096) (g p : Fin 64), C.val = g.val * 64 + p.val → x0 (ix2 0 C) = a0 (ix3 0 g p))
    (h1 : ∀ (C : Fin 4096) (g p : Fin 64), C.val = g.val * 64 + p.val → x1 (ix2 0 C) = a1 (ix3 0 g p))
    (h2 : ∀ (C : Fin 4096) (g p : Fin 64), C.val = g.val * 64 + p.val → x2 (ix2 0 C) = a2 (ix2 0 g)) :
    (out0_5 (F := Ideal) x0 x1 x2 x3 x4 (ix2 k C) : EReal) = Cert.PrepRefIdeal.Read.val_main_v71 (F := Ideal) a0 a1 a2 (ix2 k C)
    ∧ (out0_6 (F := Ideal) x0 x1 x2 x3 x4 (ix2 k C) : EReal) = Cert.PrepRefIdeal.Read.val_main_v72 (F := Ideal) a0 a1 a2 (ix2 k C) := by
  have hC : C.val = C.val / 64 * 64 + C.val % 64 := by omega
  rw [out5_at, out6_at, Cert.PrepRefIdeal.Pure.v71_at a0 a1 a2 k C ⟨C.val / 64, by omega⟩ ⟨C.val % 64, by omega⟩ rfl rfl,
    Cert.PrepRefIdeal.Pure.v72_at a0 a1 a2 k C ⟨C.val / 64, by omega⟩ ⟨C.val % 64, by omega⟩ rfl rfl,
    h0 C ⟨C.val / 64, by omega⟩ ⟨C.val % 64, by omega⟩ hC, h1 C ⟨C.val / 64, by omega⟩ ⟨C.val % 64, by omega⟩ hC,
    h2 C ⟨C.val / 64, by omega⟩ ⟨C.val % 64, by omega⟩ hC]
  exact ⟨rfl, rfl⟩

variable (m : (ℓ : Loc nD τ sig) → Buf (Elt Ideal) ℓ)

/-- Every window's block index at the one grid point. -/
theorem idx_val : ∀ t : Fin cfg0.N, win0_0.index t = ![0, 0] ∧ win0_1.index t = ![0, 0] ∧ win0_2.index t = ![0, 0]
    ∧ win0_3.index t = ![0, 0, 0] ∧ win0_4.index t = ![0, 0, 0] ∧ win0_5.index t = ![0, 0] ∧ win0_6.index t = ![0, 0]
    ∧ win0_7.index t = ![0, 0, 0] ∧ win0_8.index t = ![0, 0, 0] :=
  (by decide +kernel : ∀ t : Fin grid0.N, _)

theorem blk0 (c : Dev nD) (t : Fin cfg0.N) (C : Fin 4096) (g p : Fin 64) (hC : C.val = g.val * 64 + p.val) :
    (show FVec Ideal S1x4096 .f32 from iblk m c 0 t) (ix2 0 C) = (m ((c : Thread nD τ).loc main_arg0)) (ix3 0 g p) := by
  blk_simp [iblk, idx_val t]
  entry_read
  pointwise
  blk_ext [idx_val t]

theorem blk1 (c : Dev nD) (t : Fin cfg0.N) (C : Fin 4096) (g p : Fin 64) (hC : C.val = g.val * 64 + p.val) :
    (show FVec Ideal S1x4096 .f32 from iblk m c 1 t) (ix2 0 C) = (m ((c : Thread nD τ).loc main_arg1)) (ix3 0 g p) := by
  blk_simp [iblk, idx_val t]
  entry_read
  pointwise
  blk_ext [idx_val t]

theorem blk2 (c : Dev nD) (t : Fin cfg0.N) (C : Fin 4096) (g p : Fin 64) (hC : C.val = g.val * 64 + p.val) :
    (show FVec Ideal S1x4096 .f32 from iblk m c 2 t) (ix2 0 C) = (m ((c : Thread nD τ).loc main_arg2)) (ix2 0 g) := by
  blk_simp [iblk, idx_val t]
  entry_read
  pointwise
  blk_ext [idx_val t]

/-- An entry of the identity the host multiplies by. -/
theorem unit_at (a b : ℕ) (ha : a < 16) (hb : b < 16) :
    (FloatOps.uitofp (F := Ideal) FTy.f32 (IntOp.cmpi CmpIPredicate.eq (IntOp.addi (BitVec.ofNat 32 a) 0#32) (BitVec.ofNat 32 b)) : EReal)
      = if a = b then 1 else 0 := by
  have e0 : IntOp.addi (BitVec.ofNat 32 a) 0#32 = BitVec.ofNat 32 a := by simp [IntOp.addi]
  rw [e0]
  have h := Cert.PrepRefIdeal.Pure.sel_at a b ha hb 1 0
  rw [← h]
  by_cases e : IntOp.cmpi CmpIPredicate.eq (BitVec.ofNat 32 a) (BitVec.ofNat 32 b) = 1#1
  · rw [if_pos e, e]
    show (((1#1 : BitVec 1).toNat : ℝ) : EReal) = 1
    simp
  · rw [if_neg e, (BitVec.eq_zero_or_eq_one _).resolve_right e]
    show (((0#1 : BitVec 1).toNat : ℝ) : EReal) = 0
    simp

set_option maxHeartbeats 1000000 in
theorem blk3 (c : Dev nD) (t : Fin cfg0.N) (l : Fin 4) (r : Fin 256) (d : Fin 1024) (g p : Fin 64) (q : Fin 16)
    (hg : g.val = l.val * 16 + r.val / 16) (hp : p.val = d.val % 64) (hq : q.val = r.val % 16) :
    ((show FVec Ideal S4x256x1024 .f32 from iblk m c 3 t) (ix3 l r d) : EReal)
      = ((show FVec Ideal S1x64x64x16 .f32 from m ((c : Thread nD τ).loc main_arg3)) (ix4 0 g p q) : EReal) * (if r.val / 16 = d.val / 64 then 1 else 0) := by
  blk_simp [iblk, idx_val t]
  entry_read
  pointwise
  refine congrArg₂ (· * ·) ?_ ?_
  · blk_ext [idx_val t]
  · refine Eq.trans (congrArg₂ (fun a b => FloatOps.uitofp (F := Ideal) .f32 (IntOp.cmpi CmpIPredicate.eq (IntOp.addi (BitVec.ofNat 32 a) 0#32) (BitVec.ofNat 32 b)))
      (?_ : _ = r.val / 16) (?_ : _ = d.val / 64)) (unit_at _ _ (by omega) (by omega))
    · blk_simp [idx_val t]
    · blk_simp [idx_val t]

set_option maxHeartbeats 1000000 in
theorem blk4 (c : Dev nD) (t : Fin cfg0.N) (l : Fin 4) (r : Fin 256) (d : Fin 1024) (g p : Fin 64) (q : Fin 16)
    (hg : g.val = l.val * 16 + r.val / 16) (hp : p.val = d.val % 64) (hq : q.val = r.val % 16) :
    ((show FVec Ideal S4x256x1024 .f32 from iblk m c 4 t) (ix3 l r d) : EReal)
      = ((show FVec Ideal S1x64x64x16 .f32 from m ((c : Thread nD τ).loc main_arg4)) (ix4 0 g p q) : EReal) * (if r.val / 16 = d.val / 64 then 1 else 0) := by
  blk_simp [iblk, idx_val t]
  entry_read
  pointwise
  refine congrArg₂ (· * ·) ?_ ?_
  · blk_ext [idx_val t]
  · refine Eq.trans (congrArg₂ (fun a b => FloatOps.uitofp (F := Ideal) .f32 (IntOp.cmpi CmpIPredicate.eq (IntOp.addi (BitVec.ofNat 32 a) 0#32) (BitVec.ofNat 32 b)))
      (?_ : _ = r.val / 16) (?_ : _ = d.val / 64)) (unit_at _ _ (by omega) (by omega))
    · blk_simp [idx_val t]
    · blk_simp [idx_val t]

theorem emb5 (t : Fin cfg0.N) (y : S32x4096.Idx) : (win0_5.blk t).view.emb y = (ix2 (y 0) (y 1) : S32x4096.Idx) := by
  have e0 : ((win0_5.blk t).view.emb y 0).val = (y 0).val := by blk_simp [idx_val t]
  have e1 : ((win0_5.blk t).view.emb y 1).val = (y 1).val := by blk_simp [idx_val t]
  exact (eq_ix2 ((win0_5.blk t).view.emb y)).trans ((ix2_inj ..).2 ⟨Fin.ext e0, Fin.ext e1⟩)

open Cert.PrepRefIdeal.Read in
theorem final5 (c : Dev nD) : (dats m 0 c).arrAt 5 (cfgs 0).N
    = val_main_v71 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  have he := emb5 t y
  blk_simp
  rw [after0_5, he, eq_ix2 y]
  exact (point5 _ _ _ _ _ _ _ _ (y 0) (y 1) (blk0 m c t) (blk1 m c t) (blk2 m c t)).1

theorem emb6 (t : Fin cfg0.N) (y : S32x4096.Idx) : (win0_6.blk t).view.emb y = (ix2 (y 0) (y 1) : S32x4096.Idx) := by
  have e0 : ((win0_6.blk t).view.emb y 0).val = (y 0).val := by blk_simp [idx_val t]
  have e1 : ((win0_6.blk t).view.emb y 1).val = (y 1).val := by blk_simp [idx_val t]
  exact (eq_ix2 ((win0_6.blk t).view.emb y)).trans ((ix2_inj ..).2 ⟨Fin.ext e0, Fin.ext e1⟩)

open Cert.PrepRefIdeal.Read in
theorem final6 (c : Dev nD) : (dats m 0 c).arrAt 6 (cfgs 0).N
    = val_main_v72 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  have he := emb6 t y
  blk_simp
  rw [after0_6, he, eq_ix2 y]
  exact (point5 _ _ _ _ _ _ _ _ (y 0) (y 1) (blk0 m c t) (blk1 m c t) (blk2 m c t)).2

theorem emb7 (t : Fin cfg0.N) (y : S4x256x1024.Idx) : (win0_7.blk t).view.emb y = (ix3 (y 0) (y 1) (y 2) : S4x256x1024.Idx) := by
  have e0 : ((win0_7.blk t).view.emb y 0).val = (y 0).val := by blk_simp [idx_val t]
  have e1 : ((win0_7.blk t).view.emb y 1).val = (y 1).val := by blk_simp [idx_val t]
  have e2 : ((win0_7.blk t).view.emb y 2).val = (y 2).val := by blk_simp [idx_val t]
  exact (eq_ix3 ((win0_7.blk t).view.emb y)).trans ((ix3_inj ..).2 ⟨Fin.ext e0, Fin.ext e1, Fin.ext e2⟩)

open Cert.PrepRefIdeal.Read in
theorem final7 (c : Dev nD) : (dats m 0 c).arrAt 7 (cfgs 0).N
    = val_main_v77 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t hf y => ?_
  have he := emb7 t y
  blk_simp
  rw [after0_7, he, eq_ix3 y]
  exact (point7 _ _ _ _ _ _ _ _ _ _ (y 0) (y 1) (y 2) (blk0 m c t) (blk1 m c t) (blk2 m c t) (blk3 m c t (y 0) (y 1) (y 2)) (blk4 m c t (y 0) (y 1) (y 2))).1

theorem emb8 (t : Fin cfg0.N) (y : S4x256x1024.Idx) : (win0_8.blk t).view.emb y = (ix3 (y 0) (y 1) (y 2) : S4x256x1024.Idx) := by
  have e0 : ((win0_8.blk t).view.emb y 0).val = (y 0).val := by blk_simp [idx_val t]
  have e1 : ((win0_8.blk t).view.emb y 1).val = (y 1).val := by blk_simp [idx_val t]
  have e2 : ((win0_8.blk t).view.emb y 2).val = (y 2).val := by blk_simp [idx_val t]
  exact (eq_ix3 ((win0_8.blk t).view.emb y)).trans ((ix3_inj ..).2 ⟨Fin.ext e0, Fin.ext e1, Fin.ext e2⟩)

open Cert.PrepRefIdeal.Read in
theorem final8 (c : Dev nD) : (dats m 0 c).arrAt 8 (cfgs 0).N
    = val_main_v82 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 8 _ (by decide +kernel) fun t hf y => ?_
  have he := emb8 t y
  blk_simp
  rw [after0_8, he, eq_ix3 y]
  exact (point7 _ _ _ _ _ _ _ _ _ _ (y 0) (y 1) (y 2) (blk0 m c t) (blk1 m c t) (blk2 m c t) (blk3 m c t (y 0) (y 1) (y 2)) (blk4 m c t (y 0) (y 1) (y 2))).2

end Cert.PrepIdeal.Hand

end
-- ==== Proof.PrepRun.lean ====
/- Hand-written, untrusted: the run of the discretisation's reference, with its results named. -/
module

public import proofs.«01_k».proof.Proof.Gen.PrepRefIdeal.Read
public import Idealize.ShloMosaic.Lib.Pointwise

set_option maxRecDepth 16384

@[expose] public section

noncomputable section

open Idealize.ShloMosaic Idealize.ShloMosaic.TcCoe Idealize.SL.Sem

namespace Cert.PrepRefIdeal.Hand

open Cert.PrepRefIdeal Cert.PrepRefIdeal.Gen Cert.PrepRefIdeal.Read

/-- The reference's run ends with its four results and its arguments as they were. -/
theorem run_named (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v71) = val_main_v71 (F := Ideal) (m ((c.tc : Thread nD τ).loc main_arg0)) (m ((c.tc : Thread nD τ).loc main_arg1)) (m ((c.tc : Thread nD τ).loc main_arg2))
      ∧ r.2.mem ((c.tc : Thread nD τ).loc main_v72) = val_main_v72 (F := Ideal) (m ((c.tc : Thread nD τ).loc main_arg0)) (m ((c.tc : Thread nD τ).loc main_arg1)) (m ((c.tc : Thread nD τ).loc main_arg2))
      ∧ r.2.mem ((c.tc : Thread nD τ).loc main_v77) = val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v82) = val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (val_main_v71_eq _ _ _),
    (h c).2.1.trans (val_main_v72_eq _ _ _),
    (h c).2.2.1.trans (val_main_v77_eq m c),
    (h c).2.2.2.1.trans (val_main_v82_eq m c), (h c).2.2.2.2⟩)
    (Cert.PrepRefIdeal.Value.run (F := Ideal) m g)

end Cert.PrepRefIdeal.Hand

end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.FfnPure
public import proofs.«01_k».proof.Proof.FfnValue
public import proofs.«01_k».proof.Proof.Gen.FfnS
public import proofs.«01_k».proof.Proof.Gen.FfnS.Skeleton
public import proofs.«01_k».proof.Proof.Gen.FfnS.Launch
public import proofs.«01_k».proof.Proof.Gen.FfnS.Points
public import proofs.«01_k».proof.Proof.Gen.FfnS.Frame
public import proofs.«01_k».proof.Proof.Gen.FfnSIdeal
public import proofs.«01_k».proof.Proof.Gen.FfnSIdeal.Skeleton
public import proofs.«01_k».proof.Proof.Gen.FfnSIdeal.Launch
public import proofs.«01_k».proof.Proof.Gen.FfnSIdeal.Points
public import proofs.«01_k».proof.Proof.Gen.FfnSIdeal.Frame
public import proofs.«01_k».proof.Proof.Gen.FfnSIdeal.Value
public import proofs.«01_k».proof.Proof.Gen.FfnSRefIdeal
public import proofs.«01_k».proof.Proof.Gen.FfnSRefIdeal.Run
public import proofs.«01_k».proof.Proof.Gen.FfnSRefIdeal.Read
public import proofs.«01_k».proof.Proof.FfnSPure
public import proofs.«01_k».proof.Proof.FfnSValue
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.OutProjPure
public import proofs.«01_k».proof.Proof.OutProjValue
public import proofs.«01_k».proof.Proof.Gen.OutProjS
public import proofs.«01_k».proof.Proof.Gen.OutProjS.Skeleton
public import proofs.«01_k».proof.Proof.Gen.OutProjS.Launch
public import proofs.«01_k».proof.Proof.Gen.OutProjS.Points
public import proofs.«01_k».proof.Proof.Gen.OutProjS.Frame
public import proofs.«01_k».proof.Proof.Gen.OutProjSIdeal
public import proofs.«01_k».proof.Proof.Gen.OutProjSIdeal.Skeleton
public import proofs.«01_k».proof.Proof.Gen.OutProjSIdeal.Launch
public import proofs.«01_k».proof.Proof.Gen.OutProjSIdeal.Points
public import proofs.«01_k».proof.Proof.Gen.OutProjSIdeal.Frame
public import proofs.«01_k».proof.Proof.Gen.OutProjSIdeal.Value
public import proofs.«01_k».proof.Proof.Gen.OutProjSRefIdeal
public import proofs.«01_k».proof.Proof.Gen.OutProjSRefIdeal.Run
public import proofs.«01_k».proof.Proof.Gen.OutProjSRefIdeal.Read
public import proofs.«01_k».proof.Proof.OutProjSPure
public import proofs.«01_k».proof.Proof.OutProjSValue
public import proofs.«01_k».proof.Proof.Gen.Scan
public import proofs.«01_k».proof.Proof.Gen.Scan.Skeleton
public import proofs.«01_k».proof.Proof.Gen.Scan.Launch
public import proofs.«01_k».proof.Proof.Gen.Scan.Points
public import proofs.«01_k».proof.Proof.Gen.Scan.Frame
public import proofs.«01_k».proof.Proof.Gen.ScanIdeal
public import proofs.«01_k».proof.Proof.Gen.ScanIdeal.Skeleton
public import proofs.«01_k».proof.Proof.Gen.ScanIdeal.Launch
public import proofs.«01_k».proof.Proof.Gen.ScanIdeal.Points
public import proofs.«01_k».proof.Proof.Gen.ScanIdeal.Frame
public import proofs.«01_k».proof.Proof.Gen.ScanIdeal.Value
public import proofs.«01_k».proof.Proof.Gen.ScanRefIdeal
public import proofs.«01_k».proof.Proof.Gen.ScanRefIdeal.Run
public import proofs.«01_k».proof.Proof.Gen.ScanRefIdeal.Read
public import proofs.«01_k».proof.Proof.ScanValue
public import proofs.«01_k».proof.Proof.ScanRun
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjRefIdeal.Read
public import proofs.«01_k».proof.Proof.ProjFrame
public import proofs.«01_k».proof.Proof.ProjIdealFrame
public import proofs.«01_k».proof.Proof.ProjPure
public import proofs.«01_k».proof.Proof.ProjValue
public import proofs.«01_k».proof.Proof.ProjRun
public import proofs.«01_k».proof.Proof.Gen.ProjS
public import proofs.«01_k».proof.Proof.Gen.ProjS.Skeleton
public import proofs.«01_k».proof.Proof.Gen.ProjS.Launch
public import proofs.«01_k».proof.Proof.Gen.ProjS.Points
public import proofs.«01_k».proof.Proof.Gen.ProjS.Frame
public import proofs.«01_k».proof.Proof.Gen.ProjSIdeal
public import proofs.«01_k».proof.Proof.Gen.ProjSIdeal.Skeleton
public import proofs.«01_k».proof.Proof.Gen.ProjSIdeal.Launch
public import proofs.«01_k».proof.Proof.Gen.ProjSIdeal.Points
public import proofs.«01_k».proof.Proof.Gen.ProjSIdeal.Frame
public import proofs.«01_k».proof.Proof.Gen.ProjSRefIdeal
public import proofs.«01_k».proof.Proof.Gen.ProjSRefIdeal.Run
public import proofs.«01_k».proof.Proof.Gen.ProjSRefIdeal.Read
public import proofs.«01_k».proof.Proof.ProjSFrame
public import proofs.«01_k».proof.Proof.ProjSIdealFrame
public import proofs.«01_k».proof.Proof.ProjSPure
public import proofs.«01_k».proof.Proof.ProjSValue
public import proofs.«01_k».proof.Proof.ProjSRun
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepIdeal.Value
public import proofs.«01_k».proof.Proof.Gen.PrepRefIdeal
public import proofs.«01_k».proof.Proof.Gen.PrepRefIdeal.Run
public import proofs.«01_k».proof.Proof.Gen.PrepRefIdeal.Read
public import proofs.«01_k».proof.Proof.PrepPure
public import proofs.«01_k».proof.Proof.PrepValue
public import proofs.«01_k».proof.Proof.PrepRun
public import proofs.«01_k».proof.Proof.Gen.Pre_finite_scan
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The feed-forward call of the prompt group runs and leaves its arguments. -/
theorem frame_Ffn : Cert.quiescent_Ffn := fun m g _ => Cert.Ffn.Gen.frame m g

/-- Its idealization too. -/
theorem frame_FfnIdeal : Cert.quiescent_FfnIdeal := fun m g _ => Cert.FfnIdeal.Gen.frame m g

/-- The reference of the feed-forward call of the prompt group runs, leaves its arguments, and has no counter. -/
theorem frame_FfnRefIdeal : Cert.quiescent_FfnRefIdeal := fun m g _ =>
  (θ_run Cert.FfnRefIdeal.defs _ _).mono (fun r h => ⟨fun c => (h c).2, sem_eq_zero_of_no_sems (by decide) r.2⟩)
    (Cert.FfnRefIdeal.Value.run (F := Ideal) m g)

/-- The feed-forward call of the prompt group ends with its reference's values. -/
theorem algebraic_Ffn : Cert.algebraic_FfnIdeal_FfnRefIdeal := by
  pair_intro
  · run_from Cert.FfnIdeal.Gen.run_main m g
  · run_from Cert.FfnRefIdeal.Value.run m' g'
    obtain ⟨h0, h1, h2, h3, h4⟩ := hagree c
    rw [Cert.FfnRefIdeal.Read.val_main_v35_eq m' c, h0, h1, h2, h3, h4]
    exact (Cert.FfnIdeal.Hand.final m c).symm

/-- The feed-forward call of the sample group runs and leaves its arguments. -/
theorem frame_FfnS : Cert.quiescent_FfnS := fun m g _ => Cert.FfnS.Gen.frame m g

/-- Its idealization too. -/
theorem frame_FfnSIdeal : Cert.quiescent_FfnSIdeal := fun m g _ => Cert.FfnSIdeal.Gen.frame m g

/-- The reference of the feed-forward call of the sample group runs, leaves its arguments, and has no counter. -/
theorem frame_FfnSRefIdeal : Cert.quiescent_FfnSRefIdeal := fun m g _ =>
  (θ_run Cert.FfnSRefIdeal.defs _ _).mono (fun r h => ⟨fun c => (h c).2, sem_eq_zero_of_no_sems (by decide) r.2⟩)
    (Cert.FfnSRefIdeal.Value.run (F := Ideal) m g)

/-- The feed-forward call of the sample group ends with its reference's values. -/
theorem algebraic_FfnS : Cert.algebraic_FfnSIdeal_FfnSRefIdeal := by
  pair_intro
  · run_from Cert.FfnSIdeal.Gen.run_main m g
  · run_from Cert.FfnSRefIdeal.Value.run m' g'
    obtain ⟨h0, h1, h2, h3, h4⟩ := hagree c
    rw [Cert.FfnSRefIdeal.Read.val_main_v35_eq m' c, h0, h1, h2, h3, h4]
    exact (Cert.FfnSIdeal.Hand.final m c).symm

/-- The output projection of the prompt group runs and leaves its arguments. -/
theorem frame_OutProj : Cert.quiescent_OutProj := fun m g _ => Cert.OutProj.Gen.frame m g

/-- Its idealization too. -/
theorem frame_OutProjIdeal : Cert.quiescent_OutProjIdeal := fun m g _ => Cert.OutProjIdeal.Gen.frame m g

/-- The reference of the output projection of the prompt group runs, leaves its arguments, and has no counter. -/
theorem frame_OutProjRefIdeal : Cert.quiescent_OutProjRefIdeal := fun m g _ =>
  (θ_run Cert.OutProjRefIdeal.defs _ _).mono (fun r h => ⟨fun c => (h c).2.2, sem_eq_zero_of_no_sems (by decide) r.2⟩)
    (Cert.OutProjRefIdeal.Value.run (F := Ideal) m g)

/-- The output projection of the prompt group ends with its reference's two arrays. -/
theorem algebraic_OutProj : Cert.algebraic_OutProjIdeal_OutProjRefIdeal := by
  pair_intro
  · run_from Cert.OutProjIdeal.Gen.run_main m g
  · run_from Cert.OutProjRefIdeal.Value.run m' g'
    · obtain ⟨h0, h1, h2, h3, h4, h5⟩ := hagree c
      rw [Cert.OutProjRefIdeal.Read.val_main_v33_eq m' c, h0, h1, h2, h3, h4, h5]
      exact (Cert.OutProjIdeal.Hand.final7 m c).symm
    · obtain ⟨h0, h1, h2, h3, h4, h5⟩ := hagree c
      rw [Cert.OutProjRefIdeal.Read.val_main_v34_eq m' c, h0, h1, h2, h3, h4, h5]
      exact (Cert.OutProjIdeal.Hand.final8 m c).symm

/-- The output projection of the sample group runs and leaves its arguments. -/
theorem frame_OutProjS : Cert.quiescent_OutProjS := fun m g _ => Cert.OutProjS.Gen.frame m g

/-- Its idealization too. -/
theorem frame_OutProjSIdeal : Cert.quiescent_OutProjSIdeal := fun m g _ => Cert.OutProjSIdeal.Gen.frame m g

/-- The reference of the output projection of the sample group runs, leaves its arguments, and has no counter. -/
theorem frame_OutProjSRefIdeal : Cert.quiescent_OutProjSRefIdeal := fun m g _ =>
  (θ_run Cert.OutProjSRefIdeal.defs _ _).mono (fun r h => ⟨fun c => (h c).2.2, sem_eq_zero_of_no_sems (by decide) r.2⟩)
    (Cert.OutProjSRefIdeal.Value.run (F := Ideal) m g)

/-- The output projection of the sample group ends with its reference's two arrays. -/
theorem algebraic_OutProjS : Cert.algebraic_OutProjSIdeal_OutProjSRefIdeal := by
  pair_intro
  · run_from Cert.OutProjSIdeal.Gen.run_main m g
  · run_from Cert.OutProjSRefIdeal.Value.run m' g'
    · obtain ⟨h0, h1, h2, h3, h4, h5⟩ := hagree c
      rw [Cert.OutProjSRefIdeal.Read.val_main_v33_eq m' c, h0, h1, h2, h3, h4, h5]
      exact (Cert.OutProjSIdeal.Hand.final7 m c).symm
    · obtain ⟨h0, h1, h2, h3, h4, h5⟩ := hagree c
      rw [Cert.OutProjSRefIdeal.Read.val_main_v34_eq m' c, h0, h1, h2, h3, h4, h5]
      exact (Cert.OutProjSIdeal.Hand.final8 m c).symm

/-- The scan runs and leaves its arguments. -/
theorem frame_Scan : Cert.quiescent_Scan := fun m g _ => Cert.Scan.Gen.frame m g

/-- Its idealization too. -/
theorem frame_ScanIdeal : Cert.quiescent_ScanIdeal := fun m g _ => Cert.ScanIdeal.Gen.frame m g

/-- The reference of the scan runs, leaves its arguments, and has no counter. -/
theorem frame_ScanRefIdeal : Cert.quiescent_ScanRefIdeal := fun m g _ =>
  (θ_run Cert.ScanRefIdeal.defs _ _).mono (fun r h => ⟨fun c => (h c).2.2.2, sem_eq_zero_of_no_sems (by decide) r.2⟩)
    (Cert.ScanRefIdeal.Value.run (F := Ideal) m g)

/-- The same runs from the memories the precondition allows. -/
theorem frame_ScanIdeal_pre [Cert.Pre_finite_scan.Facts] : Cert.quiescent_ScanIdeal_pre_finite_scan :=
  fun m g _ => Cert.ScanIdeal.Gen.frame m g

theorem frame_ScanRefIdeal_pre [Cert.Pre_finite_scan.Facts] : Cert.quiescent_ScanRefIdeal_pre_finite_scan := fun m g _ =>
  (θ_run Cert.ScanRefIdeal.defs _ _).mono (fun r h => ⟨fun c => (h c).2.2.2, sem_eq_zero_of_no_sems (by decide) r.2⟩)
    (Cert.ScanRefIdeal.Value.run (F := Ideal) m g)

set_option maxHeartbeats 800000 in
/-- The scan of the sample group ends with its reference's three arrays. -/
theorem algebraic_Scan [Cert.Pre_finite_scan.Facts] : Cert.algebraic_ScanIdeal_ScanRefIdeal_pre_finite_scan := by
  pair_intro
  · run_from Cert.ScanIdeal.Gen.run_main m g
  · run_from Cert.ScanRefIdeal.Hand.run_named m' g'
    · exact (Cert.ScanIdeal.Hand.final12 m c (Cert.ScanIdeal.Hand.fin_at (hpre c))).symm
    · exact (Cert.ScanIdeal.Hand.final13 m c).symm
    · exact (Cert.ScanIdeal.Hand.final14 m c).symm

/-- The input projection of the prompt group runs and leaves its arguments. -/
theorem frame_Proj : Cert.quiescent_Proj := fun m g _ => Cert.Proj.Hand.frame_all m g

/-- Its idealization too. -/
theorem frame_ProjIdeal : Cert.quiescent_ProjIdeal := fun m g _ => Cert.ProjIdeal.Hand.frame_all m g

/-- The reference of the input projection of the prompt group runs, leaves its arguments, and has no counter. -/
theorem frame_ProjRefIdeal : Cert.quiescent_ProjRefIdeal := fun m g _ =>
  (θ_run Cert.ProjRefIdeal.defs _ _).mono (fun r h => ⟨fun c => (h c).2.2.2.2.2.2, sem_eq_zero_of_no_sems (by decide) r.2⟩)
    (Cert.ProjRefIdeal.Value.run (F := Ideal) m g)

set_option maxHeartbeats 800000 in
/-- The input projection of the prompt group ends with its reference's six arrays. -/
theorem algebraic_Proj : Cert.algebraic_ProjIdeal_ProjRefIdeal := by
  pair_intro
  · run_from Cert.ProjIdeal.Hand.run_main m g
  · run_from Cert.ProjRefIdeal.Hand.run_named m' g'
    · exact (Cert.ProjIdeal.Hand.final2 m c).symm
    · exact (Cert.ProjIdeal.Hand.final3 m c).symm
    · exact (Cert.ProjIdeal.Hand.final4 m c).symm
    · exact (Cert.ProjIdeal.Hand.final5 m c).symm
    · exact (Cert.ProjIdeal.Hand.final6 m c).symm
    · exact (Cert.ProjIdeal.Hand.final7 m c).symm

/-- The input projection of the sample group runs and leaves its arguments. -/
theorem frame_ProjS : Cert.quiescent_ProjS := fun m g _ => Cert.ProjS.Hand.frame_all m g

/-- Its idealization too. -/
theorem frame_ProjSIdeal : Cert.quiescent_ProjSIdeal := fun m g _ => Cert.ProjSIdeal.Hand.frame_all m g

/-- The reference of the input projection of the sample group runs, leaves its arguments, and has no counter. -/
theorem frame_ProjSRefIdeal : Cert.quiescent_ProjSRefIdeal := fun m g _ =>
  (θ_run Cert.ProjSRefIdeal.defs _ _).mono (fun r h => ⟨fun c => (h c).2.2.2.2, sem_eq_zero_of_no_sems (by decide) r.2⟩)
    (Cert.ProjSRefIdeal.Value.run (F := Ideal) m g)

set_option maxHeartbeats 800000 in
/-- The input projection of the sample group ends with its reference's four arrays. -/
theorem algebraic_ProjS : Cert.algebraic_ProjSIdeal_ProjSRefIdeal := by
  pair_intro
  · run_from Cert.ProjSIdeal.Hand.run_main m g
  · run_from Cert.ProjSRefIdeal.Hand.run_named m' g'
    · exact (Cert.ProjSIdeal.Hand.final2 m c).symm
    · exact (Cert.ProjSIdeal.Hand.final3 m c).symm
    · exact (Cert.ProjSIdeal.Hand.final4 m c).symm
    · exact (Cert.ProjSIdeal.Hand.final5 m c).symm

/-- The discretisation runs and leaves its arguments. -/
theorem frame_Prep : Cert.quiescent_Prep := fun m g _ => Cert.Prep.Gen.frame m g

/-- Its idealization too. -/
theorem frame_PrepIdeal : Cert.quiescent_PrepIdeal := fun m g _ => Cert.PrepIdeal.Gen.frame m g

/-- The reference of the discretisation runs, leaves its arguments, and has no counter. -/
theorem frame_PrepRefIdeal : Cert.quiescent_PrepRefIdeal := fun m g _ =>
  (θ_run Cert.PrepRefIdeal.defs _ _).mono (fun r h => ⟨fun c => (h c).2.2.2.2, sem_eq_zero_of_no_sems (by decide) r.2⟩)
    (Cert.PrepRefIdeal.Value.run (F := Ideal) m g)

set_option maxHeartbeats 800000 in
/-- The discretisation ends with its reference's four arrays. -/
theorem algebraic_Prep : Cert.algebraic_PrepIdeal_PrepRefIdeal := by
  pair_intro
  · run_from Cert.PrepIdeal.Gen.run_main m g
  · run_from Cert.PrepRefIdeal.Hand.run_named m' g'
    · exact (Cert.PrepIdeal.Hand.final5 m c).symm
    · exact (Cert.PrepIdeal.Hand.final6 m c).symm
    · exact (Cert.PrepIdeal.Hand.final7 m c).symm
    · exact (Cert.PrepIdeal.Hand.final8 m c).symm

/-- All the claims. -/
theorem claim : Cert.Claim := ⟨Cert.Ffn.Gen.facts, Cert.FfnIdeal.Gen.facts, Cert.FfnRefIdeal.Gen.facts, Cert.FfnS.Gen.facts, Cert.FfnSIdeal.Gen.facts, Cert.FfnSRefIdeal.Gen.facts, Cert.OutProj.Gen.facts, Cert.OutProjIdeal.Gen.facts, Cert.OutProjRefIdeal.Gen.facts, Cert.OutProjS.Gen.facts, Cert.OutProjSIdeal.Gen.facts, Cert.OutProjSRefIdeal.Gen.facts, Cert.Scan.Gen.facts, Cert.ScanIdeal.Gen.facts, Cert.ScanRefIdeal.Gen.facts, Cert.Proj.Gen.facts, Cert.ProjIdeal.Gen.facts, Cert.ProjRefIdeal.Gen.facts, Cert.ProjS.Gen.facts, Cert.ProjSIdeal.Gen.facts, Cert.ProjSRefIdeal.Gen.facts, Cert.Prep.Gen.facts, Cert.PrepIdeal.Gen.facts, Cert.PrepRefIdeal.Gen.facts, Cert.Pre_finite_scan.Gen.facts,
  frame_Ffn, frame_FfnIdeal, frame_FfnRefIdeal, frame_FfnS, frame_FfnSIdeal, frame_FfnSRefIdeal, frame_OutProj, frame_OutProjIdeal, frame_OutProjRefIdeal, frame_OutProjS, frame_OutProjSIdeal, frame_OutProjSRefIdeal, frame_Scan, frame_ScanIdeal, frame_ScanIdeal_pre, frame_ScanRefIdeal, frame_ScanRefIdeal_pre, frame_Proj, frame_ProjIdeal, frame_ProjRefIdeal, frame_ProjS, frame_ProjSIdeal, frame_ProjSRefIdeal, frame_Prep, frame_PrepIdeal, frame_PrepRefIdeal, trivial, algebraic_Ffn, trivial, algebraic_FfnS, trivial, algebraic_OutProj, trivial, algebraic_OutProjS, trivial, algebraic_Scan, trivial, algebraic_Proj, trivial, algebraic_ProjS, trivial, algebraic_Prep⟩

end Cert.Proof

end

end
